-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_BiasKernel (m : (ℓ : Loc Cert.BiasKernel.nD Cert.BiasKernel.τ Cert.BiasKernel.sig) → Buf (Elt Bits) ℓ) : Prop :=
  True

def Pre_BiasKernelIdeal (m : (ℓ : Loc Cert.BiasKernelIdeal.nD Cert.BiasKernelIdeal.τ Cert.BiasKernelIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def Pre_MixoutKernel (m : (ℓ : Loc Cert.MixoutKernel.nD Cert.MixoutKernel.τ Cert.MixoutKernel.sig) → Buf (Elt Bits) ℓ) : Prop :=
  True

def Pre_MixoutKernelIdeal (m : (ℓ : Loc Cert.MixoutKernelIdeal.nD Cert.MixoutKernelIdeal.τ Cert.MixoutKernelIdeal.sig) → Buf (Elt Ideal) ℓ) : Prop :=
  True

def Pre_MixoutKernelIdeal_mixout_finite [hPre_mixout_finite : Cert.Pre_mixout_finite.Facts] (m : (ℓ : Loc Cert.MixoutKernelIdeal.nD Cert.MixoutKernelIdeal.τ Cert.MixoutKernelIdeal.sig) → Buf (Elt Ideal) ℓ) : Prop :=
  ∀ c : Dev Cert.MixoutKernelIdeal.nD,
    (Cert.Pre_mixout_finite.fn (F := Ideal) (m ((c.tc : Thread Cert.MixoutKernelIdeal.nD Cert.MixoutKernelIdeal.τ).loc Cert.MixoutKernelIdeal.main_arg0)) (m ((c.tc : Thread Cert.MixoutKernelIdeal.nD Cert.MixoutKernelIdeal.τ).loc Cert.MixoutKernelIdeal.main_arg1)) (m ((c.tc : Thread Cert.MixoutKernelIdeal.nD Cert.MixoutKernelIdeal.τ).loc Cert.MixoutKernelIdeal.main_arg2)) (m ((c.tc : Thread Cert.MixoutKernelIdeal.nD Cert.MixoutKernelIdeal.τ).loc Cert.MixoutKernelIdeal.main_arg3)) (m ((c.tc : Thread Cert.MixoutKernelIdeal.nD Cert.MixoutKernelIdeal.τ).loc Cert.MixoutKernelIdeal.main_arg4)) (m ((c.tc : Thread Cert.MixoutKernelIdeal.nD Cert.MixoutKernelIdeal.τ).loc Cert.MixoutKernelIdeal.main_arg5))) = (fun _ => 1#1)

def Pre_MixoutReferenceIdeal (m : (ℓ : Loc Cert.MixoutReferenceIdeal.nD Cert.MixoutReferenceIdeal.τ Cert.MixoutReferenceIdeal.sig) → Buf (Elt Ideal) ℓ) : Prop :=
  True

def Pre_MixoutReferenceIdeal_mixout_finite [hPre_mixout_finite : Cert.Pre_mixout_finite.Facts] (m : (ℓ : Loc Cert.MixoutReferenceIdeal.nD Cert.MixoutReferenceIdeal.τ Cert.MixoutReferenceIdeal.sig) → Buf (Elt Ideal) ℓ) : Prop :=
  ∀ c : Dev Cert.MixoutReferenceIdeal.nD,
    (Cert.Pre_mixout_finite.fn (F := Ideal) (m ((c.tc : Thread Cert.MixoutReferenceIdeal.nD Cert.MixoutReferenceIdeal.τ).loc Cert.MixoutReferenceIdeal.main_arg0)) (m ((c.tc : Thread Cert.MixoutReferenceIdeal.nD Cert.MixoutReferenceIdeal.τ).loc Cert.MixoutReferenceIdeal.main_arg1)) (m ((c.tc : Thread Cert.MixoutReferenceIdeal.nD Cert.MixoutReferenceIdeal.τ).loc Cert.MixoutReferenceIdeal.main_arg2)) (m ((c.tc : Thread Cert.MixoutReferenceIdeal.nD Cert.MixoutReferenceIdeal.τ).loc Cert.MixoutReferenceIdeal.main_arg3)) (m ((c.tc : Thread Cert.MixoutReferenceIdeal.nD Cert.MixoutReferenceIdeal.τ).loc Cert.MixoutReferenceIdeal.main_arg4)) (m ((c.tc : Thread Cert.MixoutReferenceIdeal.nD Cert.MixoutReferenceIdeal.τ).loc Cert.MixoutReferenceIdeal.main_arg5))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_MixoutFwdKernel (m : (ℓ : Loc Cert.MixoutFwdKernel.nD Cert.MixoutFwdKernel.τ Cert.MixoutFwdKernel.sig) → Buf (Elt Bits) ℓ) : Prop :=
  True

def Pre_MixoutFwdKernelIdeal (m : (ℓ : Loc Cert.MixoutFwdKernelIdeal.nD Cert.MixoutFwdKernelIdeal.τ Cert.MixoutFwdKernelIdeal.sig) → Buf (Elt Ideal) ℓ) : Prop :=
  True

def Pre_MixoutFwdReferenceIdeal (m : (ℓ : Loc Cert.MixoutFwdReferenceIdeal.nD Cert.MixoutFwdReferenceIdeal.τ Cert.MixoutFwdReferenceIdeal.sig) → Buf (Elt Ideal) ℓ) : Prop :=
  True

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_AttnFwdKernel (m : (ℓ : Loc Cert.AttnFwdKernel.nD Cert.AttnFwdKernel.τ Cert.AttnFwdKernel.sig) → Buf (Elt Bits) ℓ) : Prop :=
  True

def Pre_AttnFwdKernelIdeal (m : (ℓ : Loc Cert.AttnFwdKernelIdeal.nD Cert.AttnFwdKernelIdeal.τ Cert.AttnFwdKernelIdeal.sig) → Buf (Elt Ideal) ℓ) : Prop :=
  True

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_MixFwdKernel (m : (ℓ : Loc Cert.MixFwdKernel.nD Cert.MixFwdKernel.τ Cert.MixFwdKernel.sig) → Buf (Elt Bits) ℓ) : Prop :=
  True

def Pre_MixFwdKernelIdeal (m : (ℓ : Loc Cert.MixFwdKernelIdeal.nD Cert.MixFwdKernelIdeal.τ Cert.MixFwdKernelIdeal.sig) → Buf (Elt Ideal) ℓ) : Prop :=
  True

def Pre_MixFwdReferenceIdeal (m : (ℓ : Loc Cert.MixFwdReferenceIdeal.nD Cert.MixFwdReferenceIdeal.τ Cert.MixFwdReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_BiasKernel [hBiasKernel : Cert.BiasKernel.Facts] : Prop :=
  ∀ (m : (ℓ : Loc Cert.BiasKernel.nD Cert.BiasKernel.τ Cert.BiasKernel.sig) → Buf (Elt Bits) ℓ) (g : Dev Cert.BiasKernel.nD → PrngReg), Pre_BiasKernel m →
    θ_run (Cert.BiasKernel.defs (F := Bits)) (onTc (τ := Cert.BiasKernel.τ) (Cert.BiasKernel.main (F := Bits))) ⟨m, fun _ => 0, g⟩ (fun r => (∀ c : Dev Cert.BiasKernel.nD,
      r.2.mem ((c.tc : Thread Cert.BiasKernel.nD Cert.BiasKernel.τ).loc Cert.BiasKernel.main_arg0) = m ((c.tc : Thread Cert.BiasKernel.nD Cert.BiasKernel.τ).loc Cert.BiasKernel.main_arg0))
      ∧ r.2.sem = fun _ => 0)

def quiescent_BiasKernelIdeal [hBiasKernelIdeal : Cert.BiasKernelIdeal.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg), Pre_BiasKernelIdeal m →
    θ_run (Cert.BiasKernelIdeal.defs (F := Ideal)) (onTc (τ := Cert.BiasKernelIdeal.τ) (Cert.BiasKernelIdeal.main (F := Ideal))) ⟨m, fun _ => 0, g⟩ (fun r => (∀ c : Dev Cert.BiasKernelIdeal.nD,
      r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0))
      ∧ r.2.sem = fun _ => 0)

def quiescent_MixoutKernel [hMixoutKernel : Cert.MixoutKernel.Facts] : Prop :=
  ∀ (m : (ℓ : Loc Cert.MixoutKernel.nD Cert.MixoutKernel.τ Cert.MixoutKernel.sig) → Buf (Elt Bits) ℓ) (g : Dev Cert.MixoutKernel.nD → PrngReg), Pre_MixoutKernel m →
    θ_run (Cert.MixoutKernel.defs (F := Bits)) (onTc (τ := Cert.MixoutKernel.τ) (Cert.MixoutKernel.main (F := Bits))) ⟨m, fun _ => 0, g⟩ (fun r => (∀ c : Dev Cert.MixoutKernel.nD,
      r.2.mem ((c.tc : Thread Cert.MixoutKernel.nD Cert.MixoutKernel.τ).loc Cert.MixoutKernel.main_arg0) = m ((c.tc : Thread Cert.MixoutKernel.nD Cert.MixoutKernel.τ).loc Cert.MixoutKernel.main_arg0)
      ∧ r.2.mem ((c.tc : Thread Cert.MixoutKernel.nD Cert.MixoutKernel.τ).loc Cert.MixoutKernel.main_arg1) = m ((c.tc : Thread Cert.MixoutKernel.nD Cert.MixoutKernel.τ).loc Cert.MixoutKernel.main_arg1)
      ∧ r.2.mem ((c.tc : Thread Cert.MixoutKernel.nD Cert.MixoutKernel.τ).loc Cert.MixoutKernel.main_arg2) = m ((c.tc : Thread Cert.MixoutKernel.nD Cert.MixoutKernel.τ).loc Cert.MixoutKernel.main_arg2)
      ∧ r.2.mem ((c.tc : Thread Cert.MixoutKernel.nD Cert.MixoutKernel.τ).loc Cert.MixoutKernel.main_arg3) = m ((c.tc : Thread Cert.MixoutKernel.nD Cert.MixoutKernel.τ).loc Cert.MixoutKernel.main_arg3)
      ∧ r.2.mem ((c.tc : Thread Cert.MixoutKernel.nD Cert.MixoutKernel.τ).loc Cert.MixoutKernel.main_arg4) = m ((c.tc : Thread Cert.MixoutKernel.nD Cert.MixoutKernel.τ).loc Cert.MixoutKernel.main_arg4)
      ∧ r.2.mem ((c.tc : Thread Cert.MixoutKernel.nD Cert.MixoutKernel.τ).loc Cert.MixoutKernel.main_arg5) = m ((c.tc : Thread Cert.MixoutKernel.nD Cert.MixoutKernel.τ).loc Cert.MixoutKernel.main_arg5))
      ∧ r.2.sem = fun _ => 0)

def quiescent_MixoutKernelIdeal [hMixoutKernelIdeal : Cert.MixoutKernelIdeal.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg), Pre_MixoutKernelIdeal m →
    θ_run (Cert.MixoutKernelIdeal.defs (F := Ideal)) (onTc (τ := Cert.MixoutKernelIdeal.τ) (Cert.MixoutKernelIdeal.main (F := Ideal))) ⟨m, fun _ => 0, g⟩ (fun r => (∀ c : Dev Cert.MixoutKernelIdeal.nD,
      r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
      ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
      ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
      ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3)
      ∧ r.2.mem ((c.tc : Thread Cert.MixoutKernelIdeal.nD Cert.MixoutKernelIdeal.τ).loc Cert.MixoutKernelIdeal.main_arg4) = m ((c.tc : Thread Cert.MixoutKernelIdeal.nD Cert.MixoutKernelIdeal.τ).loc Cert.MixoutKernelIdeal.main_arg4)
      ∧ r.2.mem ((c.tc : Thread Cert.MixoutKernelIdeal.nD Cert.MixoutKernelIdeal.τ).loc Cert.MixoutKernelIdeal.main_arg5) = m ((c.tc : Thread Cert.MixoutKernelIdeal.nD Cert.MixoutKernelIdeal.τ).loc Cert.MixoutKernelIdeal.main_arg5))
      ∧ r.2.sem = fun _ => 0)

def quiescent_MixoutKernelIdeal_pre_mixout_finite [hMixoutKernelIdeal : Cert.MixoutKernelIdeal.Facts] [hPre_mixout_finite : Cert.Pre_mixout_finite.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg), Pre_MixoutKernelIdeal_mixout_finite m →
    θ_run (Cert.MixoutKernelIdeal.defs (F := Ideal)) (onTc (τ := Cert.MixoutKernelIdeal.τ) (Cert.MixoutKernelIdeal.main (F := Ideal))) ⟨m, fun _ => 0, g⟩ (fun r => (∀ c : Dev Cert.MixoutKernelIdeal.nD,
      r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
      ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
      ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
      ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3)
      ∧ r.2.mem ((c.tc : Thread Cert.MixoutKernelIdeal.nD Cert.MixoutKernelIdeal.τ).loc Cert.MixoutKernelIdeal.main_arg4) = m ((c.tc : Thread Cert.MixoutKernelIdeal.nD Cert.MixoutKernelIdeal.τ).loc Cert.MixoutKernelIdeal.main_arg4)
      ∧ r.2.mem ((c.tc : Thread Cert.MixoutKernelIdeal.nD Cert.MixoutKernelIdeal.τ).loc Cert.MixoutKernelIdeal.main_arg5) = m ((c.tc : Thread Cert.MixoutKernelIdeal.nD Cert.MixoutKernelIdeal.τ).loc Cert.MixoutKernelIdeal.main_arg5))
      ∧ r.2.sem = fun _ => 0)

def quiescent_MixoutReferenceIdeal [hMixoutReferenceIdeal : Cert.MixoutReferenceIdeal.Facts] : Prop :=
  ∀ (m : (ℓ : Loc Cert.MixoutReferenceIdeal.nD Cert.MixoutReferenceIdeal.τ Cert.MixoutReferenceIdeal.sig) → Buf (Elt Ideal) ℓ) (g : Dev Cert.MixoutReferenceIdeal.nD → PrngReg), Pre_MixoutReferenceIdeal m →
    θ_run (Cert.MixoutReferenceIdeal.defs (F := Ideal)) (onTc (τ := Cert.MixoutReferenceIdeal.τ) (Cert.MixoutReferenceIdeal.main (F := Ideal))) ⟨m, fun _ => 0, g⟩ (fun r => (∀ c : Dev Cert.MixoutReferenceIdeal.nD,
      r.2.mem ((c.tc : Thread Cert.MixoutReferenceIdeal.nD Cert.MixoutReferenceIdeal.τ).loc Cert.MixoutReferenceIdeal.main_arg0) = m ((c.tc : Thread Cert.MixoutReferenceIdeal.nD Cert.MixoutReferenceIdeal.τ).loc Cert.MixoutReferenceIdeal.main_arg0)
      ∧ r.2.mem ((c.tc : Thread Cert.MixoutReferenceIdeal.nD Cert.MixoutReferenceIdeal.τ).loc Cert.MixoutReferenceIdeal.main_arg1) = m ((c.tc : Thread Cert.MixoutReferenceIdeal.nD Cert.MixoutReferenceIdeal.τ).loc Cert.MixoutReferenceIdeal.main_arg1)
      ∧ r.2.mem ((c.tc : Thread Cert.MixoutReferenceIdeal.nD Cert.MixoutReferenceIdeal.τ).loc Cert.MixoutReferenceIdeal.main_arg2) = m ((c.tc : Thread Cert.MixoutReferenceIdeal.nD Cert.MixoutReferenceIdeal.τ).loc Cert.MixoutReferenceIdeal.main_arg2)
      ∧ r.2.mem ((c.tc : Thread Cert.MixoutReferenceIdeal.nD Cert.MixoutReferenceIdeal.τ).loc Cert.MixoutReferenceIdeal.main_arg3) = m ((c.tc : Thread Cert.MixoutReferenceIdeal.nD Cert.MixoutReferenceIdeal.τ).loc Cert.MixoutReferenceIdeal.main_arg3)
      ∧ r.2.mem ((c.tc : Thread Cert.MixoutReferenceIdeal.nD Cert.MixoutReferenceIdeal.τ).loc Cert.MixoutReferenceIdeal.main_arg4) = m ((c.tc : Thread Cert.MixoutReferenceIdeal.nD Cert.MixoutReferenceIdeal.τ).loc Cert.MixoutReferenceIdeal.main_arg4)
      ∧ r.2.mem ((c.tc : Thread Cert.MixoutReferenceIdeal.nD Cert.MixoutReferenceIdeal.τ).loc Cert.MixoutReferenceIdeal.main_arg5) = m ((c.tc : Thread Cert.MixoutReferenceIdeal.nD Cert.MixoutReferenceIdeal.τ).loc Cert.MixoutReferenceIdeal.main_arg5))
      ∧ r.2.sem = fun _ => 0)

def quiescent_MixoutReferenceIdeal_pre_mixout_finite [hMixoutReferenceIdeal : Cert.MixoutReferenceIdeal.Facts] [hPre_mixout_finite : Cert.Pre_mixout_finite.Facts] : Prop :=
  ∀ (m : (ℓ : Loc Cert.MixoutReferenceIdeal.nD Cert.MixoutReferenceIdeal.τ Cert.MixoutReferenceIdeal.sig) → Buf (Elt Ideal) ℓ) (g : Dev Cert.MixoutReferenceIdeal.nD → PrngReg), Pre_MixoutReferenceIdeal_mixout_finite m →
    θ_run (Cert.MixoutReferenceIdeal.defs (F := Ideal)) (onTc (τ := Cert.MixoutReferenceIdeal.τ) (Cert.MixoutReferenceIdeal.main (F := Ideal))) ⟨m, fun _ => 0, g⟩ (fun r => (∀ c : Dev Cert.MixoutReferenceIdeal.nD,
      r.2.mem ((c.tc : Thread Cert.MixoutReferenceIdeal.nD Cert.MixoutReferenceIdeal.τ).loc Cert.MixoutReferenceIdeal.main_arg0) = m ((c.tc : Thread Cert.MixoutReferenceIdeal.nD Cert.MixoutReferenceIdeal.τ).loc Cert.MixoutReferenceIdeal.main_arg0)
      ∧ r.2.mem ((c.tc : Thread Cert.MixoutReferenceIdeal.nD Cert.MixoutReferenceIdeal.τ).loc Cert.MixoutReferenceIdeal.main_arg1) = m ((c.tc : Thread Cert.MixoutReferenceIdeal.nD Cert.MixoutReferenceIdeal.τ).loc Cert.MixoutReferenceIdeal.main_arg1)
      ∧ r.2.mem ((c.tc : Thread Cert.MixoutReferenceIdeal.nD Cert.MixoutReferenceIdeal.τ).loc Cert.MixoutReferenceIdeal.main_arg2) = m ((c.tc : Thread Cert.MixoutReferenceIdeal.nD Cert.MixoutReferenceIdeal.τ).loc Cert.MixoutReferenceIdeal.main_arg2)
      ∧ r.2.mem ((c.tc : Thread Cert.MixoutReferenceIdeal.nD Cert.MixoutReferenceIdeal.τ).loc Cert.MixoutReferenceIdeal.main_arg3) = m ((c.tc : Thread Cert.MixoutReferenceIdeal.nD Cert.MixoutReferenceIdeal.τ).loc Cert.MixoutReferenceIdeal.main_arg3)
      ∧ r.2.mem ((c.tc : Thread Cert.MixoutReferenceIdeal.nD Cert.MixoutReferenceIdeal.τ).loc Cert.MixoutReferenceIdeal.main_arg4) = m ((c.tc : Thread Cert.MixoutReferenceIdeal.nD Cert.MixoutReferenceIdeal.τ).loc Cert.MixoutReferenceIdeal.main_arg4)
      ∧ r.2.mem ((c.tc : Thread Cert.MixoutReferenceIdeal.nD Cert.MixoutReferenceIdeal.τ).loc Cert.MixoutReferenceIdeal.main_arg5) = m ((c.tc : Thread Cert.MixoutReferenceIdeal.nD Cert.MixoutReferenceIdeal.τ).loc Cert.MixoutReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_MixoutFwdKernel [hMixoutFwdKernel : Cert.MixoutFwdKernel.Facts] : Prop :=
  ∀ (m : (ℓ : Loc Cert.MixoutFwdKernel.nD Cert.MixoutFwdKernel.τ Cert.MixoutFwdKernel.sig) → Buf (Elt Bits) ℓ) (g : Dev Cert.MixoutFwdKernel.nD → PrngReg), Pre_MixoutFwdKernel m →
    θ_run (Cert.MixoutFwdKernel.defs (F := Bits)) (onTc (τ := Cert.MixoutFwdKernel.τ) (Cert.MixoutFwdKernel.main (F := Bits))) ⟨m, fun _ => 0, g⟩ (fun r => (∀ c : Dev Cert.MixoutFwdKernel.nD,
      r.2.mem ((c.tc : Thread Cert.MixoutFwdKernel.nD Cert.MixoutFwdKernel.τ).loc Cert.MixoutFwdKernel.main_arg0) = m ((c.tc : Thread Cert.MixoutFwdKernel.nD Cert.MixoutFwdKernel.τ).loc Cert.MixoutFwdKernel.main_arg0)
      ∧ r.2.mem ((c.tc : Thread Cert.MixoutFwdKernel.nD Cert.MixoutFwdKernel.τ).loc Cert.MixoutFwdKernel.main_arg1) = m ((c.tc : Thread Cert.MixoutFwdKernel.nD Cert.MixoutFwdKernel.τ).loc Cert.MixoutFwdKernel.main_arg1)
      ∧ r.2.mem ((c.tc : Thread Cert.MixoutFwdKernel.nD Cert.MixoutFwdKernel.τ).loc Cert.MixoutFwdKernel.main_arg2) = m ((c.tc : Thread Cert.MixoutFwdKernel.nD Cert.MixoutFwdKernel.τ).loc Cert.MixoutFwdKernel.main_arg2)
      ∧ r.2.mem ((c.tc : Thread Cert.MixoutFwdKernel.nD Cert.MixoutFwdKernel.τ).loc Cert.MixoutFwdKernel.main_arg3) = m ((c.tc : Thread Cert.MixoutFwdKernel.nD Cert.MixoutFwdKernel.τ).loc Cert.MixoutFwdKernel.main_arg3)
      ∧ r.2.mem ((c.tc : Thread Cert.MixoutFwdKernel.nD Cert.MixoutFwdKernel.τ).loc Cert.MixoutFwdKernel.main_arg4) = m ((c.tc : Thread Cert.MixoutFwdKernel.nD Cert.MixoutFwdKernel.τ).loc Cert.MixoutFwdKernel.main_arg4))
      ∧ r.2.sem = fun _ => 0)

def quiescent_MixoutFwdKernelIdeal [hMixoutFwdKernelIdeal : Cert.MixoutFwdKernelIdeal.Facts] : Prop :=
  ∀ (m : (ℓ : Loc Cert.MixoutFwdKernelIdeal.nD Cert.MixoutFwdKernelIdeal.τ Cert.MixoutFwdKernelIdeal.sig) → Buf (Elt Ideal) ℓ) (g : Dev Cert.MixoutFwdKernelIdeal.nD → PrngReg), Pre_MixoutFwdKernelIdeal m →
    θ_run (Cert.MixoutFwdKernelIdeal.defs (F := Ideal)) (onTc (τ := Cert.MixoutFwdKernelIdeal.τ) (Cert.MixoutFwdKernelIdeal.main (F := Ideal))) ⟨m, fun _ => 0, g⟩ (fun r => (∀ c : Dev Cert.MixoutFwdKernelIdeal.nD,
      r.2.mem ((c.tc : Thread Cert.MixoutFwdKernelIdeal.nD Cert.MixoutFwdKernelIdeal.τ).loc Cert.MixoutFwdKernelIdeal.main_arg0) = m ((c.tc : Thread Cert.MixoutFwdKernelIdeal.nD Cert.MixoutFwdKernelIdeal.τ).loc Cert.MixoutFwdKernelIdeal.main_arg0)
      ∧ r.2.mem ((c.tc : Thread Cert.MixoutFwdKernelIdeal.nD Cert.MixoutFwdKernelIdeal.τ).loc Cert.MixoutFwdKernelIdeal.main_arg1) = m ((c.tc : Thread Cert.MixoutFwdKernelIdeal.nD Cert.MixoutFwdKernelIdeal.τ).loc Cert.MixoutFwdKernelIdeal.main_arg1)
      ∧ r.2.mem ((c.tc : Thread Cert.MixoutFwdKernelIdeal.nD Cert.MixoutFwdKernelIdeal.τ).loc Cert.MixoutFwdKernelIdeal.main_arg2) = m ((c.tc : Thread Cert.MixoutFwdKernelIdeal.nD Cert.MixoutFwdKernelIdeal.τ).loc Cert.MixoutFwdKernelIdeal.main_arg2)
      ∧ r.2.mem ((c.tc : Thread Cert.MixoutFwdKernelIdeal.nD Cert.MixoutFwdKernelIdeal.τ).loc Cert.MixoutFwdKernelIdeal.main_arg3) = m ((c.tc : Thread Cert.MixoutFwdKernelIdeal.nD Cert.MixoutFwdKernelIdeal.τ).loc Cert.MixoutFwdKernelIdeal.main_arg3)
      ∧ r.2.mem ((c.tc : Thread Cert.MixoutFwdKernelIdeal.nD Cert.MixoutFwdKernelIdeal.τ).loc Cert.MixoutFwdKernelIdeal.main_arg4) = m ((c.tc : Thread Cert.MixoutFwdKernelIdeal.nD Cert.MixoutFwdKernelIdeal.τ).loc Cert.MixoutFwdKernelIdeal.main_arg4))
      ∧ r.2.sem = fun _ => 0)

def quiescent_MixoutFwdReferenceIdeal [hMixoutFwdReferenceIdeal : Cert.MixoutFwdReferenceIdeal.Facts] : Prop :=
  ∀ (m : (ℓ : Loc Cert.MixoutFwdReferenceIdeal.nD Cert.MixoutFwdReferenceIdeal.τ Cert.MixoutFwdReferenceIdeal.sig) → Buf (Elt Ideal) ℓ) (g : Dev Cert.MixoutFwdReferenceIdeal.nD → PrngReg), Pre_MixoutFwdReferenceIdeal m →
    θ_run (Cert.MixoutFwdReferenceIdeal.defs (F := Ideal)) (onTc (τ := Cert.MixoutFwdReferenceIdeal.τ) (Cert.MixoutFwdReferenceIdeal.main (F := Ideal))) ⟨m, fun _ => 0, g⟩ (fun r => (∀ c : Dev Cert.MixoutFwdReferenceIdeal.nD,
      r.2.mem ((c.tc : Thread Cert.MixoutFwdReferenceIdeal.nD Cert.MixoutFwdReferenceIdeal.τ).loc Cert.MixoutFwdReferenceIdeal.main_arg0) = m ((c.tc : Thread Cert.MixoutFwdReferenceIdeal.nD Cert.MixoutFwdReferenceIdeal.τ).loc Cert.MixoutFwdReferenceIdeal.main_arg0)
      ∧ r.2.mem ((c.tc : Thread Cert.MixoutFwdReferenceIdeal.nD Cert.MixoutFwdReferenceIdeal.τ).loc Cert.MixoutFwdReferenceIdeal.main_arg1) = m ((c.tc : Thread Cert.MixoutFwdReferenceIdeal.nD Cert.MixoutFwdReferenceIdeal.τ).loc Cert.MixoutFwdReferenceIdeal.main_arg1)
      ∧ r.2.mem ((c.tc : Thread Cert.MixoutFwdReferenceIdeal.nD Cert.MixoutFwdReferenceIdeal.τ).loc Cert.MixoutFwdReferenceIdeal.main_arg2) = m ((c.tc : Thread Cert.MixoutFwdReferenceIdeal.nD Cert.MixoutFwdReferenceIdeal.τ).loc Cert.MixoutFwdReferenceIdeal.main_arg2)
      ∧ r.2.mem ((c.tc : Thread Cert.MixoutFwdReferenceIdeal.nD Cert.MixoutFwdReferenceIdeal.τ).loc Cert.MixoutFwdReferenceIdeal.main_arg3) = m ((c.tc : Thread Cert.MixoutFwdReferenceIdeal.nD Cert.MixoutFwdReferenceIdeal.τ).loc Cert.MixoutFwdReferenceIdeal.main_arg3)
      ∧ r.2.mem ((c.tc : Thread Cert.MixoutFwdReferenceIdeal.nD Cert.MixoutFwdReferenceIdeal.τ).loc Cert.MixoutFwdReferenceIdeal.main_arg4) = m ((c.tc : Thread Cert.MixoutFwdReferenceIdeal.nD Cert.MixoutFwdReferenceIdeal.τ).loc Cert.MixoutFwdReferenceIdeal.main_arg4))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4)
      ∧ r.2.mem ((c.tc : Thread Cert.FfnFwdKernel.nD Cert.FfnFwdKernel.τ).loc Cert.FfnFwdKernel.main_arg5) = m ((c.tc : Thread Cert.FfnFwdKernel.nD Cert.FfnFwdKernel.τ).loc Cert.FfnFwdKernel.main_arg5))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
      ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5))
      ∧ r.2.sem = fun _ => 0)

def quiescent_AttnFwdKernel [hAttnFwdKernel : Cert.AttnFwdKernel.Facts] : Prop :=
  ∀ (m : (ℓ : Loc Cert.AttnFwdKernel.nD Cert.AttnFwdKernel.τ Cert.AttnFwdKernel.sig) → Buf (Elt Bits) ℓ) (g : Dev Cert.AttnFwdKernel.nD → PrngReg), Pre_AttnFwdKernel m →
    θ_run (Cert.AttnFwdKernel.defs (F := Bits)) (onTc (τ := Cert.AttnFwdKernel.τ) (Cert.AttnFwdKernel.main (F := Bits))) ⟨m, fun _ => 0, g⟩ (fun r => (∀ c : Dev Cert.AttnFwdKernel.nD,
      r.2.mem ((c.tc : Thread Cert.AttnFwdKernel.nD Cert.AttnFwdKernel.τ).loc Cert.AttnFwdKernel.main_arg0) = m ((c.tc : Thread Cert.AttnFwdKernel.nD Cert.AttnFwdKernel.τ).loc Cert.AttnFwdKernel.main_arg0)
      ∧ r.2.mem ((c.tc : Thread Cert.AttnFwdKernel.nD Cert.AttnFwdKernel.τ).loc Cert.AttnFwdKernel.main_arg1) = m ((c.tc : Thread Cert.AttnFwdKernel.nD Cert.AttnFwdKernel.τ).loc Cert.AttnFwdKernel.main_arg1)
      ∧ r.2.mem ((c.tc : Thread Cert.AttnFwdKernel.nD Cert.AttnFwdKernel.τ).loc Cert.AttnFwdKernel.main_arg2) = m ((c.tc : Thread Cert.AttnFwdKernel.nD Cert.AttnFwdKernel.τ).loc Cert.AttnFwdKernel.main_arg2)
      ∧ r.2.mem ((c.tc : Thread Cert.AttnFwdKernel.nD Cert.AttnFwdKernel.τ).loc Cert.AttnFwdKernel.main_arg3) = m ((c.tc : Thread Cert.AttnFwdKernel.nD Cert.AttnFwdKernel.τ).loc Cert.AttnFwdKernel.main_arg3))
      ∧ r.2.sem = fun _ => 0)

def quiescent_AttnFwdKernelIdeal [hAttnFwdKernelIdeal : Cert.AttnFwdKernelIdeal.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
      ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1)
      ∧ r.2.mem ((c.tc : Thread Cert.AttnFwdKernelIdeal.nD Cert.AttnFwdKernelIdeal.τ).loc Cert.AttnFwdKernelIdeal.main_arg2) = m ((c.tc : Thread Cert.AttnFwdKernelIdeal.nD Cert.AttnFwdKernelIdeal.τ).loc Cert.AttnFwdKernelIdeal.main_arg2)
      ∧ r.2.mem ((c.tc : Thread Cert.AttnFwdKernelIdeal.nD Cert.AttnFwdKernelIdeal.τ).loc Cert.AttnFwdKernelIdeal.main_arg3) = m ((c.tc : Thread Cert.AttnFwdKernelIdeal.nD Cert.AttnFwdKernelIdeal.τ).loc Cert.AttnFwdKernelIdeal.main_arg3))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3))
      ∧ r.2.sem = fun _ => 0)

def quiescent_MixFwdKernel [hMixFwdKernel : Cert.MixFwdKernel.Facts] : Prop :=
  ∀ (m : (ℓ : Loc Cert.MixFwdKernel.nD Cert.MixFwdKernel.τ Cert.MixFwdKernel.sig) → Buf (Elt Bits) ℓ) (g : Dev Cert.MixFwdKernel.nD → PrngReg), Pre_MixFwdKernel m →
    θ_run (Cert.MixFwdKernel.defs (F := Bits)) (onTc (τ := Cert.MixFwdKernel.τ) (Cert.MixFwdKernel.main (F := Bits))) ⟨m, fun _ => 0, g⟩ (fun r => (∀ c : Dev Cert.MixFwdKernel.nD,
      r.2.mem ((c.tc : Thread Cert.MixFwdKernel.nD Cert.MixFwdKernel.τ).loc Cert.MixFwdKernel.main_arg0) = m ((c.tc : Thread Cert.MixFwdKernel.nD Cert.MixFwdKernel.τ).loc Cert.MixFwdKernel.main_arg0)
      ∧ r.2.mem ((c.tc : Thread Cert.MixFwdKernel.nD Cert.MixFwdKernel.τ).loc Cert.MixFwdKernel.main_arg1) = m ((c.tc : Thread Cert.MixFwdKernel.nD Cert.MixFwdKernel.τ).loc Cert.MixFwdKernel.main_arg1)
      ∧ r.2.mem ((c.tc : Thread Cert.MixFwdKernel.nD Cert.MixFwdKernel.τ).loc Cert.MixFwdKernel.main_arg2) = m ((c.tc : Thread Cert.MixFwdKernel.nD Cert.MixFwdKernel.τ).loc Cert.MixFwdKernel.main_arg2)
      ∧ r.2.mem ((c.tc : Thread Cert.MixFwdKernel.nD Cert.MixFwdKernel.τ).loc Cert.MixFwdKernel.main_arg3) = m ((c.tc : Thread Cert.MixFwdKernel.nD Cert.MixFwdKernel.τ).loc Cert.MixFwdKernel.main_arg3)
      ∧ r.2.mem ((c.tc : Thread Cert.MixFwdKernel.nD Cert.MixFwdKernel.τ).loc Cert.MixFwdKernel.main_arg4) = m ((c.tc : Thread Cert.MixFwdKernel.nD Cert.MixFwdKernel.τ).loc Cert.MixFwdKernel.main_arg4)
      ∧ r.2.mem ((c.tc : Thread Cert.MixFwdKernel.nD Cert.MixFwdKernel.τ).loc Cert.MixFwdKernel.main_arg5) = m ((c.tc : Thread Cert.MixFwdKernel.nD Cert.MixFwdKernel.τ).loc Cert.MixFwdKernel.main_arg5)
      ∧ r.2.mem ((c.tc : Thread Cert.MixFwdKernel.nD Cert.MixFwdKernel.τ).loc Cert.MixFwdKernel.main_arg6) = m ((c.tc : Thread Cert.MixFwdKernel.nD Cert.MixFwdKernel.τ).loc Cert.MixFwdKernel.main_arg6))
      ∧ r.2.sem = fun _ => 0)

def quiescent_MixFwdKernelIdeal [hMixFwdKernelIdeal : Cert.MixFwdKernelIdeal.Facts] : Prop :=
  ∀ (m : (ℓ : Loc Cert.MixFwdKernelIdeal.nD Cert.MixFwdKernelIdeal.τ Cert.MixFwdKernelIdeal.sig) → Buf (Elt Ideal) ℓ) (g : Dev Cert.MixFwdKernelIdeal.nD → PrngReg), Pre_MixFwdKernelIdeal m →
    θ_run (Cert.MixFwdKernelIdeal.defs (F := Ideal)) (onTc (τ := Cert.MixFwdKernelIdeal.τ) (Cert.MixFwdKernelIdeal.main (F := Ideal))) ⟨m, fun _ => 0, g⟩ (fun r => (∀ c : Dev Cert.MixFwdKernelIdeal.nD,
      r.2.mem ((c.tc : Thread Cert.MixFwdKernelIdeal.nD Cert.MixFwdKernelIdeal.τ).loc Cert.MixFwdKernelIdeal.main_arg0) = m ((c.tc : Thread Cert.MixFwdKernelIdeal.nD Cert.MixFwdKernelIdeal.τ).loc Cert.MixFwdKernelIdeal.main_arg0)
      ∧ r.2.mem ((c.tc : Thread Cert.MixFwdKernelIdeal.nD Cert.MixFwdKernelIdeal.τ).loc Cert.MixFwdKernelIdeal.main_arg1) = m ((c.tc : Thread Cert.MixFwdKernelIdeal.nD Cert.MixFwdKernelIdeal.τ).loc Cert.MixFwdKernelIdeal.main_arg1)
      ∧ r.2.mem ((c.tc : Thread Cert.MixFwdKernelIdeal.nD Cert.MixFwdKernelIdeal.τ).loc Cert.MixFwdKernelIdeal.main_arg2) = m ((c.tc : Thread Cert.MixFwdKernelIdeal.nD Cert.MixFwdKernelIdeal.τ).loc Cert.MixFwdKernelIdeal.main_arg2)
      ∧ r.2.mem ((c.tc : Thread Cert.MixFwdKernelIdeal.nD Cert.MixFwdKernelIdeal.τ).loc Cert.MixFwdKernelIdeal.main_arg3) = m ((c.tc : Thread Cert.MixFwdKernelIdeal.nD Cert.MixFwdKernelIdeal.τ).loc Cert.MixFwdKernelIdeal.main_arg3)
      ∧ r.2.mem ((c.tc : Thread Cert.MixFwdKernelIdeal.nD Cert.MixFwdKernelIdeal.τ).loc Cert.MixFwdKernelIdeal.main_arg4) = m ((c.tc : Thread Cert.MixFwdKernelIdeal.nD Cert.MixFwdKernelIdeal.τ).loc Cert.MixFwdKernelIdeal.main_arg4)
      ∧ r.2.mem ((c.tc : Thread Cert.MixFwdKernelIdeal.nD Cert.MixFwdKernelIdeal.τ).loc Cert.MixFwdKernelIdeal.main_arg5) = m ((c.tc : Thread Cert.MixFwdKernelIdeal.nD Cert.MixFwdKernelIdeal.τ).loc Cert.MixFwdKernelIdeal.main_arg5)
      ∧ r.2.mem ((c.tc : Thread Cert.MixFwdKernelIdeal.nD Cert.MixFwdKernelIdeal.τ).loc Cert.MixFwdKernelIdeal.main_arg6) = m ((c.tc : Thread Cert.MixFwdKernelIdeal.nD Cert.MixFwdKernelIdeal.τ).loc Cert.MixFwdKernelIdeal.main_arg6))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4)
      ∧ r.2.mem ((c.tc : Thread Cert.MixFwdReferenceIdeal.nD Cert.MixFwdReferenceIdeal.τ).loc Cert.MixFwdReferenceIdeal.main_arg5) = m ((c.tc : Thread Cert.MixFwdReferenceIdeal.nD Cert.MixFwdReferenceIdeal.τ).loc Cert.MixFwdReferenceIdeal.main_arg5)
      ∧ r.2.mem ((c.tc : Thread Cert.MixFwdReferenceIdeal.nD Cert.MixFwdReferenceIdeal.τ).loc Cert.MixFwdReferenceIdeal.main_arg6) = m ((c.tc : Thread Cert.MixFwdReferenceIdeal.nD Cert.MixFwdReferenceIdeal.τ).loc Cert.MixFwdReferenceIdeal.main_arg6))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_MixKernel_MixKernelIdeal : Prop :=
  True

def algebraic_MixKernelIdeal_MixReferenceIdeal_on_mix_diagonal_pre_mix_finite [hMixKernelIdeal : Cert.MixKernelIdeal.Facts] [hMixReferenceIdeal : Cert.MixReferenceIdeal.Facts] [hPre_mix_finite : Cert.Pre_mix_finite.Facts] [hOn_mix_diagonal : Cert.On_mix_diagonal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v17_0)) (v1 : (c : Dev Cert.MixKernelIdeal.nD) → Buf (Elt Ideal) ((c.tc : Thread Cert.MixKernelIdeal.nD Cert.MixKernelIdeal.τ).loc Cert.MixKernelIdeal.main_v17_1)) (v2 : (c : Dev Cert.MixKernelIdeal.nD) → Buf (Elt Ideal) ((c.tc : Thread Cert.MixKernelIdeal.nD Cert.MixKernelIdeal.τ).loc Cert.MixKernelIdeal.main_v17_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          (∀ i : (⟨2, ![8192, 1024]⟩ : Shape).Idx, (Cert.On_mix_diagonal.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))).1 i = 1#1 → r.2.mem ((c.tc : Thread Cert.MixKernelIdeal.nD Cert.MixKernelIdeal.τ).loc Cert.MixKernelIdeal.main_v17_0) i = v0 c i)
          ∧ (∀ i : (⟨2, ![256, 256]⟩ : Shape).Idx, (Cert.On_mix_diagonal.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))).2.1 i = 1#1 → r.2.mem ((c.tc : Thread Cert.MixKernelIdeal.nD Cert.MixKernelIdeal.τ).loc Cert.MixKernelIdeal.main_v17_1) i = v1 c i)
          ∧ (∀ i : (⟨2, ![8, 256]⟩ : Shape).Idx, (Cert.On_mix_diagonal.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))).2.2 i = 1#1 → r.2.mem ((c.tc : Thread Cert.MixKernelIdeal.nD Cert.MixKernelIdeal.τ).loc Cert.MixKernelIdeal.main_v17_2) i = v2 c i)
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          (∀ i : (⟨2, ![8192, 1024]⟩ : Shape).Idx, (Cert.On_mix_diagonal.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))).1 i = 1#1 → r.2.mem ((c.tc : Thread Cert.MixReferenceIdeal.nD Cert.MixReferenceIdeal.τ).loc Cert.MixReferenceIdeal.main_v329) i = v0 c i)
          ∧ (∀ i : (⟨2, ![256, 256]⟩ : Shape).Idx, (Cert.On_mix_diagonal.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))).2.1 i = 1#1 → r.2.mem ((c.tc : Thread Cert.MixReferenceIdeal.nD Cert.MixReferenceIdeal.τ).loc Cert.MixReferenceIdeal.main_v333) i = v1 c i)
          ∧ (∀ i : (⟨2, ![8, 256]⟩ : Shape).Idx, (Cert.On_mix_diagonal.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))).2.2 i = 1#1 → r.2.mem ((c.tc : Thread Cert.MixReferenceIdeal.nD Cert.MixReferenceIdeal.τ).loc Cert.MixReferenceIdeal.main_v336) i = v2 c i)
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v38_0)) (v1 : (c : Dev Cert.AttnKernelIdeal.nD) → Buf (Elt Ideal) ((c.tc : Thread Cert.AttnKernelIdeal.nD Cert.AttnKernelIdeal.τ).loc Cert.AttnKernelIdeal.main_v38_1)) (v2 : (c : Dev Cert.AttnKernelIdeal.nD) → Buf (Elt Ideal) ((c.tc : Thread Cert.AttnKernelIdeal.nD Cert.AttnKernelIdeal.τ).loc Cert.AttnKernelIdeal.main_v38_2)) (v3 : (c : Dev Cert.AttnKernelIdeal.nD) → Buf (Elt Ideal) ((c.tc : Thread Cert.AttnKernelIdeal.nD Cert.AttnKernelIdeal.τ).loc Cert.AttnKernelIdeal.main_v38_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v38_0) = v0 c
          ∧ r.2.mem ((c.tc : Thread Cert.AttnKernelIdeal.nD Cert.AttnKernelIdeal.τ).loc Cert.AttnKernelIdeal.main_v38_1) = v1 c
          ∧ r.2.mem ((c.tc : Thread Cert.AttnKernelIdeal.nD Cert.AttnKernelIdeal.τ).loc Cert.AttnKernelIdeal.main_v38_2) = v2 c
          ∧ r.2.mem ((c.tc : Thread Cert.AttnKernelIdeal.nD Cert.AttnKernelIdeal.τ).loc Cert.AttnKernelIdeal.main_v38_3) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v159) = v0 c
          ∧ r.2.mem ((c.tc : Thread Cert.AttnReferenceIdeal.nD Cert.AttnReferenceIdeal.τ).loc Cert.AttnReferenceIdeal.main_v160) = v1 c
          ∧ r.2.mem ((c.tc : Thread Cert.AttnReferenceIdeal.nD Cert.AttnReferenceIdeal.τ).loc Cert.AttnReferenceIdeal.main_v161) = v2 c
          ∧ r.2.mem ((c.tc : Thread Cert.AttnReferenceIdeal.nD Cert.AttnReferenceIdeal.τ).loc Cert.AttnReferenceIdeal.main_v162) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_BiasKernel_BiasKernelIdeal : Prop :=
  True

def algebraic_BiasKernelIdeal_BiasReferenceIdeal [hBiasKernelIdeal : Cert.BiasKernelIdeal.Facts] [hBiasReferenceIdeal : Cert.BiasReferenceIdeal.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasKernelIdeal m →
    (∀ c : Dev Cert.BiasKernelIdeal.nD,
      m' ((c.tc : Thread Cert.BiasReferenceIdeal.nD Cert.BiasReferenceIdeal.τ).loc Cert.BiasReferenceIdeal.main_arg0) = m ((c.tc : Thread Cert.BiasKernelIdeal.nD Cert.BiasKernelIdeal.τ).loc Cert.BiasKernelIdeal.main_arg0)) →
    ∃ (v0 : (c : Dev Cert.BiasKernelIdeal.nD) → Buf (Elt Ideal) ((c.tc : Thread Cert.BiasKernelIdeal.nD Cert.BiasKernelIdeal.τ).loc Cert.BiasKernelIdeal.main_v16)),
      θ_run (Cert.BiasKernelIdeal.defs (F := Ideal)) (onTc (τ := Cert.BiasKernelIdeal.τ) (Cert.BiasKernelIdeal.main (F := Ideal))) ⟨m, fun _ => 0, g⟩ (fun r => ∀ c : Dev Cert.BiasKernelIdeal.nD,
          r.2.mem ((c.tc : Thread Cert.BiasKernelIdeal.nD Cert.BiasKernelIdeal.τ).loc Cert.BiasKernelIdeal.main_v16) = v0 c
          ∧ r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v26) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0))

def preserves_MixoutKernel_MixoutKernelIdeal : Prop :=
  True

def algebraic_MixoutKernelIdeal_MixoutReferenceIdeal_pre_mixout_finite [hMixoutKernelIdeal : Cert.MixoutKernelIdeal.Facts] [hMixoutReferenceIdeal : Cert.MixoutReferenceIdeal.Facts] [hPre_mixout_finite : Cert.Pre_mixout_finite.Facts] : Prop :=
  ∀ (m : (ℓ : Loc Cert.MixoutKernelIdeal.nD Cert.MixoutKernelIdeal.τ Cert.MixoutKernelIdeal.sig) → Buf (Elt Ideal) ℓ) (g : Dev Cert.MixoutKernelIdeal.nD → PrngReg)
    (m' : (ℓ : Loc Cert.MixoutReferenceIdeal.nD Cert.MixoutReferenceIdeal.τ Cert.MixoutReferenceIdeal.sig) → Buf (Elt Ideal) ℓ) (g' : Dev Cert.MixoutReferenceIdeal.nD → PrngReg), Pre_MixoutKernelIdeal_mixout_finite m →
    (∀ c : Dev Cert.MixoutKernelIdeal.nD,
      m' ((c.tc : Thread Cert.MixoutReferenceIdeal.nD Cert.MixoutReferenceIdeal.τ).loc Cert.MixoutReferenceIdeal.main_arg0) = m ((c.tc : Thread Cert.MixoutKernelIdeal.nD Cert.MixoutKernelIdeal.τ).loc Cert.MixoutKernelIdeal.main_arg0)
      ∧ m' ((c.tc : Thread Cert.MixoutReferenceIdeal.nD Cert.MixoutReferenceIdeal.τ).loc Cert.MixoutReferenceIdeal.main_arg1) = m ((c.tc : Thread Cert.MixoutKernelIdeal.nD Cert.MixoutKernelIdeal.τ).loc Cert.MixoutKernelIdeal.main_arg1)
      ∧ m' ((c.tc : Thread Cert.MixoutReferenceIdeal.nD Cert.MixoutReferenceIdeal.τ).loc Cert.MixoutReferenceIdeal.main_arg2) = m ((c.tc : Thread Cert.MixoutKernelIdeal.nD Cert.MixoutKernelIdeal.τ).loc Cert.MixoutKernelIdeal.main_arg2)
      ∧ m' ((c.tc : Thread Cert.MixoutReferenceIdeal.nD Cert.MixoutReferenceIdeal.τ).loc Cert.MixoutReferenceIdeal.main_arg3) = m ((c.tc : Thread Cert.MixoutKernelIdeal.nD Cert.MixoutKernelIdeal.τ).loc Cert.MixoutKernelIdeal.main_arg3)
      ∧ m' ((c.tc : Thread Cert.MixoutReferenceIdeal.nD Cert.MixoutReferenceIdeal.τ).loc Cert.MixoutReferenceIdeal.main_arg4) = m ((c.tc : Thread Cert.MixoutKernelIdeal.nD Cert.MixoutKernelIdeal.τ).loc Cert.MixoutKernelIdeal.main_arg4)
      ∧ m' ((c.tc : Thread Cert.MixoutReferenceIdeal.nD Cert.MixoutReferenceIdeal.τ).loc Cert.MixoutReferenceIdeal.main_arg5) = m ((c.tc : Thread Cert.MixoutKernelIdeal.nD Cert.MixoutKernelIdeal.τ).loc Cert.MixoutKernelIdeal.main_arg5)) →
    ∃ (v0 : (c : Dev Cert.MixoutKernelIdeal.nD) → Buf (Elt Ideal) ((c.tc : Thread Cert.MixoutKernelIdeal.nD Cert.MixoutKernelIdeal.τ).loc Cert.MixoutKernelIdeal.main_v26_0)) (v1 : (c : Dev Cert.MixoutKernelIdeal.nD) → Buf (Elt Ideal) ((c.tc : Thread Cert.MixoutKernelIdeal.nD Cert.MixoutKernelIdeal.τ).loc Cert.MixoutKernelIdeal.main_v26_1)) (v2 : (c : Dev Cert.MixoutKernelIdeal.nD) → Buf (Elt Ideal) ((c.tc : Thread Cert.MixoutKernelIdeal.nD Cert.MixoutKernelIdeal.τ).loc Cert.MixoutKernelIdeal.main_v26_2)) (v3 : (c : Dev Cert.MixoutKernelIdeal.nD) → Buf (Elt Ideal) ((c.tc : Thread Cert.MixoutKernelIdeal.nD Cert.MixoutKernelIdeal.τ).loc Cert.MixoutKernelIdeal.main_v26_3)),
      θ_run (Cert.MixoutKernelIdeal.defs (F := Ideal)) (onTc (τ := Cert.MixoutKernelIdeal.τ) (Cert.MixoutKernelIdeal.main (F := Ideal))) ⟨m, fun _ => 0, g⟩ (fun r => ∀ c : Dev Cert.MixoutKernelIdeal.nD,
          r.2.mem ((c.tc : Thread Cert.MixoutKernelIdeal.nD Cert.MixoutKernelIdeal.τ).loc Cert.MixoutKernelIdeal.main_v26_0) = v0 c
          ∧ r.2.mem ((c.tc : Thread Cert.MixoutKernelIdeal.nD Cert.MixoutKernelIdeal.τ).loc Cert.MixoutKernelIdeal.main_v26_1) = v1 c
          ∧ r.2.mem ((c.tc : Thread Cert.MixoutKernelIdeal.nD Cert.MixoutKernelIdeal.τ).loc Cert.MixoutKernelIdeal.main_v26_2) = v2 c
          ∧ r.2.mem ((c.tc : Thread Cert.MixoutKernelIdeal.nD Cert.MixoutKernelIdeal.τ).loc Cert.MixoutKernelIdeal.main_v26_3) = v3 c
          ∧ r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
          ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
          ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
          ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3)
          ∧ r.2.mem ((c.tc : Thread Cert.MixoutKernelIdeal.nD Cert.MixoutKernelIdeal.τ).loc Cert.MixoutKernelIdeal.main_arg4) = m ((c.tc : Thread Cert.MixoutKernelIdeal.nD Cert.MixoutKernelIdeal.τ).loc Cert.MixoutKernelIdeal.main_arg4)
          ∧ r.2.mem ((c.tc : Thread Cert.MixoutKernelIdeal.nD Cert.MixoutKernelIdeal.τ).loc Cert.MixoutKernelIdeal.main_arg5) = m ((c.tc : Thread Cert.MixoutKernelIdeal.nD Cert.MixoutKernelIdeal.τ).loc Cert.MixoutKernelIdeal.main_arg5))
      ∧ θ_run (Cert.MixoutReferenceIdeal.defs (F := Ideal)) (onTc (τ := Cert.MixoutReferenceIdeal.τ) (Cert.MixoutReferenceIdeal.main (F := Ideal))) ⟨m', fun _ => 0, g'⟩ (fun r => ∀ c : Dev Cert.MixoutReferenceIdeal.nD,
          r.2.mem ((c.tc : Thread Cert.MixoutReferenceIdeal.nD Cert.MixoutReferenceIdeal.τ).loc Cert.MixoutReferenceIdeal.main_v68) = v0 c
          ∧ r.2.mem ((c.tc : Thread Cert.MixoutReferenceIdeal.nD Cert.MixoutReferenceIdeal.τ).loc Cert.MixoutReferenceIdeal.main_v74) = v1 c
          ∧ r.2.mem ((c.tc : Thread Cert.MixoutReferenceIdeal.nD Cert.MixoutReferenceIdeal.τ).loc Cert.MixoutReferenceIdeal.main_v69) = v2 c
          ∧ r.2.mem ((c.tc : Thread Cert.MixoutReferenceIdeal.nD Cert.MixoutReferenceIdeal.τ).loc Cert.MixoutReferenceIdeal.main_v73) = v3 c
          ∧ r.2.mem ((c.tc : Thread Cert.MixoutReferenceIdeal.nD Cert.MixoutReferenceIdeal.τ).loc Cert.MixoutReferenceIdeal.main_arg0) = m' ((c.tc : Thread Cert.MixoutReferenceIdeal.nD Cert.MixoutReferenceIdeal.τ).loc Cert.MixoutReferenceIdeal.main_arg0)
          ∧ r.2.mem ((c.tc : Thread Cert.MixoutReferenceIdeal.nD Cert.MixoutReferenceIdeal.τ).loc Cert.MixoutReferenceIdeal.main_arg1) = m' ((c.tc : Thread Cert.MixoutReferenceIdeal.nD Cert.MixoutReferenceIdeal.τ).loc Cert.MixoutReferenceIdeal.main_arg1)
          ∧ r.2.mem ((c.tc : Thread Cert.MixoutReferenceIdeal.nD Cert.MixoutReferenceIdeal.τ).loc Cert.MixoutReferenceIdeal.main_arg2) = m' ((c.tc : Thread Cert.MixoutReferenceIdeal.nD Cert.MixoutReferenceIdeal.τ).loc Cert.MixoutReferenceIdeal.main_arg2)
          ∧ r.2.mem ((c.tc : Thread Cert.MixoutReferenceIdeal.nD Cert.MixoutReferenceIdeal.τ).loc Cert.MixoutReferenceIdeal.main_arg3) = m' ((c.tc : Thread Cert.MixoutReferenceIdeal.nD Cert.MixoutReferenceIdeal.τ).loc Cert.MixoutReferenceIdeal.main_arg3)
          ∧ r.2.mem ((c.tc : Thread Cert.MixoutReferenceIdeal.nD Cert.MixoutReferenceIdeal.τ).loc Cert.MixoutReferenceIdeal.main_arg4) = m' ((c.tc : Thread Cert.MixoutReferenceIdeal.nD Cert.MixoutReferenceIdeal.τ).loc Cert.MixoutReferenceIdeal.main_arg4)
          ∧ r.2.mem ((c.tc : Thread Cert.MixoutReferenceIdeal.nD Cert.MixoutReferenceIdeal.τ).loc Cert.MixoutReferenceIdeal.main_arg5) = m' ((c.tc : Thread Cert.MixoutReferenceIdeal.nD Cert.MixoutReferenceIdeal.τ).loc Cert.MixoutReferenceIdeal.main_arg5))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v110_0)) (v1 : (c : Dev Cert.FfnKernelIdeal.nD) → Buf (Elt Ideal) ((c.tc : Thread Cert.FfnKernelIdeal.nD Cert.FfnKernelIdeal.τ).loc Cert.FfnKernelIdeal.main_v110_1)) (v2 : (c : Dev Cert.FfnKernelIdeal.nD) → Buf (Elt Ideal) ((c.tc : Thread Cert.FfnKernelIdeal.nD Cert.FfnKernelIdeal.τ).loc Cert.FfnKernelIdeal.main_v110_2)) (v3 : (c : Dev Cert.FfnKernelIdeal.nD) → Buf (Elt Ideal) ((c.tc : Thread Cert.FfnKernelIdeal.nD Cert.FfnKernelIdeal.τ).loc Cert.FfnKernelIdeal.main_v110_3)) (v4 : (c : Dev Cert.FfnKernelIdeal.nD) → Buf (Elt Ideal) ((c.tc : Thread Cert.FfnKernelIdeal.nD Cert.FfnKernelIdeal.τ).loc Cert.FfnKernelIdeal.main_v110_4)) (v5 : (c : Dev Cert.FfnKernelIdeal.nD) → Buf (Elt Ideal) ((c.tc : Thread Cert.FfnKernelIdeal.nD Cert.FfnKernelIdeal.τ).loc Cert.FfnKernelIdeal.main_v110_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v110_0) = v0 c
          ∧ r.2.mem ((c.tc : Thread Cert.FfnKernelIdeal.nD Cert.FfnKernelIdeal.τ).loc Cert.FfnKernelIdeal.main_v110_1) = v1 c
          ∧ r.2.mem ((c.tc : Thread Cert.FfnKernelIdeal.nD Cert.FfnKernelIdeal.τ).loc Cert.FfnKernelIdeal.main_v110_2) = v2 c
          ∧ r.2.mem ((c.tc : Thread Cert.FfnKernelIdeal.nD Cert.FfnKernelIdeal.τ).loc Cert.FfnKernelIdeal.main_v110_3) = v3 c
          ∧ r.2.mem ((c.tc : Thread Cert.FfnKernelIdeal.nD Cert.FfnKernelIdeal.τ).loc Cert.FfnKernelIdeal.main_v110_4) = v4 c
          ∧ r.2.mem ((c.tc : Thread Cert.FfnKernelIdeal.nD Cert.FfnKernelIdeal.τ).loc Cert.FfnKernelIdeal.main_v110_5) = v5 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v84) = v0 c
          ∧ r.2.mem ((c.tc : Thread Cert.FfnReferenceIdeal.nD Cert.FfnReferenceIdeal.τ).loc Cert.FfnReferenceIdeal.main_v89) = v1 c
          ∧ r.2.mem ((c.tc : Thread Cert.FfnReferenceIdeal.nD Cert.FfnReferenceIdeal.τ).loc Cert.FfnReferenceIdeal.main_v92) = v2 c
          ∧ r.2.mem ((c.tc : Thread Cert.FfnReferenceIdeal.nD Cert.FfnReferenceIdeal.τ).loc Cert.FfnReferenceIdeal.main_v95) = v3 c
          ∧ r.2.mem ((c.tc : Thread Cert.FfnReferenceIdeal.nD Cert.FfnReferenceIdeal.τ).loc Cert.FfnReferenceIdeal.main_v98) = v4 c
          ∧ r.2.mem ((c.tc : Thread Cert.FfnReferenceIdeal.nD Cert.FfnReferenceIdeal.τ).loc Cert.FfnReferenceIdeal.main_v88) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_MixoutFwdKernel_MixoutFwdKernelIdeal : Prop :=
  True

def algebraic_MixoutFwdKernelIdeal_MixoutFwdReferenceIdeal [hMixoutFwdKernelIdeal : Cert.MixoutFwdKernelIdeal.Facts] [hMixoutFwdReferenceIdeal : Cert.MixoutFwdReferenceIdeal.Facts] : Prop :=
  ∀ (m : (ℓ : Loc Cert.MixoutFwdKernelIdeal.nD Cert.MixoutFwdKernelIdeal.τ Cert.MixoutFwdKernelIdeal.sig) → Buf (Elt Ideal) ℓ) (g : Dev Cert.MixoutFwdKernelIdeal.nD → PrngReg)
    (m' : (ℓ : Loc Cert.MixoutFwdReferenceIdeal.nD Cert.MixoutFwdReferenceIdeal.τ Cert.MixoutFwdReferenceIdeal.sig) → Buf (Elt Ideal) ℓ) (g' : Dev Cert.MixoutFwdReferenceIdeal.nD → PrngReg), Pre_MixoutFwdKernelIdeal m →
    (∀ c : Dev Cert.MixoutFwdKernelIdeal.nD,
      m' ((c.tc : Thread Cert.MixoutFwdReferenceIdeal.nD Cert.MixoutFwdReferenceIdeal.τ).loc Cert.MixoutFwdReferenceIdeal.main_arg0) = m ((c.tc : Thread Cert.MixoutFwdKernelIdeal.nD Cert.MixoutFwdKernelIdeal.τ).loc Cert.MixoutFwdKernelIdeal.main_arg0)
      ∧ m' ((c.tc : Thread Cert.MixoutFwdReferenceIdeal.nD Cert.MixoutFwdReferenceIdeal.τ).loc Cert.MixoutFwdReferenceIdeal.main_arg1) = m ((c.tc : Thread Cert.MixoutFwdKernelIdeal.nD Cert.MixoutFwdKernelIdeal.τ).loc Cert.MixoutFwdKernelIdeal.main_arg1)
      ∧ m' ((c.tc : Thread Cert.MixoutFwdReferenceIdeal.nD Cert.MixoutFwdReferenceIdeal.τ).loc Cert.MixoutFwdReferenceIdeal.main_arg2) = m ((c.tc : Thread Cert.MixoutFwdKernelIdeal.nD Cert.MixoutFwdKernelIdeal.τ).loc Cert.MixoutFwdKernelIdeal.main_arg2)
      ∧ m' ((c.tc : Thread Cert.MixoutFwdReferenceIdeal.nD Cert.MixoutFwdReferenceIdeal.τ).loc Cert.MixoutFwdReferenceIdeal.main_arg3) = m ((c.tc : Thread Cert.MixoutFwdKernelIdeal.nD Cert.MixoutFwdKernelIdeal.τ).loc Cert.MixoutFwdKernelIdeal.main_arg3)
      ∧ m' ((c.tc : Thread Cert.MixoutFwdReferenceIdeal.nD Cert.MixoutFwdReferenceIdeal.τ).loc Cert.MixoutFwdReferenceIdeal.main_arg4) = m ((c.tc : Thread Cert.MixoutFwdKernelIdeal.nD Cert.MixoutFwdKernelIdeal.τ).loc Cert.MixoutFwdKernelIdeal.main_arg4)) →
    ∃ (v0 : (c : Dev Cert.MixoutFwdKernelIdeal.nD) → Buf (Elt Ideal) ((c.tc : Thread Cert.MixoutFwdKernelIdeal.nD Cert.MixoutFwdKernelIdeal.τ).loc Cert.MixoutFwdKernelIdeal.main_v7_0)) (v1 : (c : Dev Cert.MixoutFwdKernelIdeal.nD) → Buf (Elt Ideal) ((c.tc : Thread Cert.MixoutFwdKernelIdeal.nD Cert.MixoutFwdKernelIdeal.τ).loc Cert.MixoutFwdKernelIdeal.main_v7_1)) (v2 : (c : Dev Cert.MixoutFwdKernelIdeal.nD) → Buf (Elt Ideal) ((c.tc : Thread Cert.MixoutFwdKernelIdeal.nD Cert.MixoutFwdKernelIdeal.τ).loc Cert.MixoutFwdKernelIdeal.main_v7_2)),
      θ_run (Cert.MixoutFwdKernelIdeal.defs (F := Ideal)) (onTc (τ := Cert.MixoutFwdKernelIdeal.τ) (Cert.MixoutFwdKernelIdeal.main (F := Ideal))) ⟨m, fun _ => 0, g⟩ (fun r => ∀ c : Dev Cert.MixoutFwdKernelIdeal.nD,
          r.2.mem ((c.tc : Thread Cert.MixoutFwdKernelIdeal.nD Cert.MixoutFwdKernelIdeal.τ).loc Cert.MixoutFwdKernelIdeal.main_v7_0) = v0 c
          ∧ r.2.mem ((c.tc : Thread Cert.MixoutFwdKernelIdeal.nD Cert.MixoutFwdKernelIdeal.τ).loc Cert.MixoutFwdKernelIdeal.main_v7_1) = v1 c
          ∧ r.2.mem ((c.tc : Thread Cert.MixoutFwdKernelIdeal.nD Cert.MixoutFwdKernelIdeal.τ).loc Cert.MixoutFwdKernelIdeal.main_v7_2) = v2 c
          ∧ r.2.mem ((c.tc : Thread Cert.MixoutFwdKernelIdeal.nD Cert.MixoutFwdKernelIdeal.τ).loc Cert.MixoutFwdKernelIdeal.main_arg0) = m ((c.tc : Thread Cert.MixoutFwdKernelIdeal.nD Cert.MixoutFwdKernelIdeal.τ).loc Cert.MixoutFwdKernelIdeal.main_arg0)
          ∧ r.2.mem ((c.tc : Thread Cert.MixoutFwdKernelIdeal.nD Cert.MixoutFwdKernelIdeal.τ).loc Cert.MixoutFwdKernelIdeal.main_arg1) = m ((c.tc : Thread Cert.MixoutFwdKernelIdeal.nD Cert.MixoutFwdKernelIdeal.τ).loc Cert.MixoutFwdKernelIdeal.main_arg1)
          ∧ r.2.mem ((c.tc : Thread Cert.MixoutFwdKernelIdeal.nD Cert.MixoutFwdKernelIdeal.τ).loc Cert.MixoutFwdKernelIdeal.main_arg2) = m ((c.tc : Thread Cert.MixoutFwdKernelIdeal.nD Cert.MixoutFwdKernelIdeal.τ).loc Cert.MixoutFwdKernelIdeal.main_arg2)
          ∧ r.2.mem ((c.tc : Thread Cert.MixoutFwdKernelIdeal.nD Cert.MixoutFwdKernelIdeal.τ).loc Cert.MixoutFwdKernelIdeal.main_arg3) = m ((c.tc : Thread Cert.MixoutFwdKernelIdeal.nD Cert.MixoutFwdKernelIdeal.τ).loc Cert.MixoutFwdKernelIdeal.main_arg3)
          ∧ r.2.mem ((c.tc : Thread Cert.MixoutFwdKernelIdeal.nD Cert.MixoutFwdKernelIdeal.τ).loc Cert.MixoutFwdKernelIdeal.main_arg4) = m ((c.tc : Thread Cert.MixoutFwdKernelIdeal.nD Cert.MixoutFwdKernelIdeal.τ).loc Cert.MixoutFwdKernelIdeal.main_arg4))
      ∧ θ_run (Cert.MixoutFwdReferenceIdeal.defs (F := Ideal)) (onTc (τ := Cert.MixoutFwdReferenceIdeal.τ) (Cert.MixoutFwdReferenceIdeal.main (F := Ideal))) ⟨m', fun _ => 0, g'⟩ (fun r => ∀ c : Dev Cert.MixoutFwdReferenceIdeal.nD,
          r.2.mem ((c.tc : Thread Cert.MixoutFwdReferenceIdeal.nD Cert.MixoutFwdReferenceIdeal.τ).loc Cert.MixoutFwdReferenceIdeal.main_v27) = v0 c
          ∧ r.2.mem ((c.tc : Thread Cert.MixoutFwdReferenceIdeal.nD Cert.MixoutFwdReferenceIdeal.τ).loc Cert.MixoutFwdReferenceIdeal.main_v28) = v1 c
          ∧ r.2.mem ((c.tc : Thread Cert.MixoutFwdReferenceIdeal.nD Cert.MixoutFwdReferenceIdeal.τ).loc Cert.MixoutFwdReferenceIdeal.main_v3) = v2 c
          ∧ r.2.mem ((c.tc : Thread Cert.MixoutFwdReferenceIdeal.nD Cert.MixoutFwdReferenceIdeal.τ).loc Cert.MixoutFwdReferenceIdeal.main_arg0) = m' ((c.tc : Thread Cert.MixoutFwdReferenceIdeal.nD Cert.MixoutFwdReferenceIdeal.τ).loc Cert.MixoutFwdReferenceIdeal.main_arg0)
          ∧ r.2.mem ((c.tc : Thread Cert.MixoutFwdReferenceIdeal.nD Cert.MixoutFwdReferenceIdeal.τ).loc Cert.MixoutFwdReferenceIdeal.main_arg1) = m' ((c.tc : Thread Cert.MixoutFwdReferenceIdeal.nD Cert.MixoutFwdReferenceIdeal.τ).loc Cert.MixoutFwdReferenceIdeal.main_arg1)
          ∧ r.2.mem ((c.tc : Thread Cert.MixoutFwdReferenceIdeal.nD Cert.MixoutFwdReferenceIdeal.τ).loc Cert.MixoutFwdReferenceIdeal.main_arg2) = m' ((c.tc : Thread Cert.MixoutFwdReferenceIdeal.nD Cert.MixoutFwdReferenceIdeal.τ).loc Cert.MixoutFwdReferenceIdeal.main_arg2)
          ∧ r.2.mem ((c.tc : Thread Cert.MixoutFwdReferenceIdeal.nD Cert.MixoutFwdReferenceIdeal.τ).loc Cert.MixoutFwdReferenceIdeal.main_arg3) = m' ((c.tc : Thread Cert.MixoutFwdReferenceIdeal.nD Cert.MixoutFwdReferenceIdeal.τ).loc Cert.MixoutFwdReferenceIdeal.main_arg3)
          ∧ r.2.mem ((c.tc : Thread Cert.MixoutFwdReferenceIdeal.nD Cert.MixoutFwdReferenceIdeal.τ).loc Cert.MixoutFwdReferenceIdeal.main_arg4) = m' ((c.tc : Thread Cert.MixoutFwdReferenceIdeal.nD Cert.MixoutFwdReferenceIdeal.τ).loc Cert.MixoutFwdReferenceIdeal.main_arg4))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)
      ∧ m' ((c.tc : Thread Cert.FfnFwdReferenceIdeal.nD Cert.FfnFwdReferenceIdeal.τ).loc Cert.FfnFwdReferenceIdeal.main_arg5) = m ((c.tc : Thread Cert.FfnFwdKernelIdeal.nD Cert.FfnFwdKernelIdeal.τ).loc Cert.FfnFwdKernelIdeal.main_arg5)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v10_0)) (v1 : (c : Dev Cert.FfnFwdKernelIdeal.nD) → Buf (Elt Ideal) ((c.tc : Thread Cert.FfnFwdKernelIdeal.nD Cert.FfnFwdKernelIdeal.τ).loc Cert.FfnFwdKernelIdeal.main_v10_1)) (v2 : (c : Dev Cert.FfnFwdKernelIdeal.nD) → Buf (Elt Ideal) ((c.tc : Thread Cert.FfnFwdKernelIdeal.nD Cert.FfnFwdKernelIdeal.τ).loc Cert.FfnFwdKernelIdeal.main_v10_2)) (v3 : (c : Dev Cert.FfnFwdKernelIdeal.nD) → Buf (Elt Ideal) ((c.tc : Thread Cert.FfnFwdKernelIdeal.nD Cert.FfnFwdKernelIdeal.τ).loc Cert.FfnFwdKernelIdeal.main_v10_3)) (v4 : (c : Dev Cert.FfnFwdKernelIdeal.nD) → Buf (Elt Ideal) ((c.tc : Thread Cert.FfnFwdKernelIdeal.nD Cert.FfnFwdKernelIdeal.τ).loc Cert.FfnFwdKernelIdeal.main_v10_4)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v10_0) = v0 c
          ∧ r.2.mem ((c.tc : Thread Cert.FfnFwdKernelIdeal.nD Cert.FfnFwdKernelIdeal.τ).loc Cert.FfnFwdKernelIdeal.main_v10_1) = v1 c
          ∧ r.2.mem ((c.tc : Thread Cert.FfnFwdKernelIdeal.nD Cert.FfnFwdKernelIdeal.τ).loc Cert.FfnFwdKernelIdeal.main_v10_2) = v2 c
          ∧ r.2.mem ((c.tc : Thread Cert.FfnFwdKernelIdeal.nD Cert.FfnFwdKernelIdeal.τ).loc Cert.FfnFwdKernelIdeal.main_v10_3) = v3 c
          ∧ r.2.mem ((c.tc : Thread Cert.FfnFwdKernelIdeal.nD Cert.FfnFwdKernelIdeal.τ).loc Cert.FfnFwdKernelIdeal.main_v10_4) = v4 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
          ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v33) = v0 c
          ∧ r.2.mem ((c.tc : Thread Cert.FfnFwdReferenceIdeal.nD Cert.FfnFwdReferenceIdeal.τ).loc Cert.FfnFwdReferenceIdeal.main_v34) = v1 c
          ∧ r.2.mem ((c.tc : Thread Cert.FfnFwdReferenceIdeal.nD Cert.FfnFwdReferenceIdeal.τ).loc Cert.FfnFwdReferenceIdeal.main_v9) = v2 c
          ∧ r.2.mem ((c.tc : Thread Cert.FfnFwdReferenceIdeal.nD Cert.FfnFwdReferenceIdeal.τ).loc Cert.FfnFwdReferenceIdeal.main_v37) = v3 c
          ∧ r.2.mem ((c.tc : Thread Cert.FfnFwdReferenceIdeal.nD Cert.FfnFwdReferenceIdeal.τ).loc Cert.FfnFwdReferenceIdeal.main_v40) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4)
          ∧ r.2.mem ((c.tc : Thread Cert.FfnFwdReferenceIdeal.nD Cert.FfnFwdReferenceIdeal.τ).loc Cert.FfnFwdReferenceIdeal.main_arg5) = m' ((c.tc : Thread Cert.FfnFwdReferenceIdeal.nD Cert.FfnFwdReferenceIdeal.τ).loc Cert.FfnFwdReferenceIdeal.main_arg5))

def preserves_AttnFwdKernel_AttnFwdKernelIdeal : Prop :=
  True

def algebraic_AttnFwdKernelIdeal_AttnFwdReferenceIdeal [hAttnFwdKernelIdeal : Cert.AttnFwdKernelIdeal.Facts] [hAttnFwdReferenceIdeal : Cert.AttnFwdReferenceIdeal.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdKernelIdeal m →
    (∀ c : Dev Cert.AttnFwdKernelIdeal.nD,
      m' ((c.tc : Thread Cert.AttnFwdReferenceIdeal.nD Cert.AttnFwdReferenceIdeal.τ).loc Cert.AttnFwdReferenceIdeal.main_arg0) = m ((c.tc : Thread Cert.AttnFwdKernelIdeal.nD Cert.AttnFwdKernelIdeal.τ).loc Cert.AttnFwdKernelIdeal.main_arg0)
      ∧ m' ((c.tc : Thread Cert.AttnFwdReferenceIdeal.nD Cert.AttnFwdReferenceIdeal.τ).loc Cert.AttnFwdReferenceIdeal.main_arg1) = m ((c.tc : Thread Cert.AttnFwdKernelIdeal.nD Cert.AttnFwdKernelIdeal.τ).loc Cert.AttnFwdKernelIdeal.main_arg1)
      ∧ m' ((c.tc : Thread Cert.AttnFwdReferenceIdeal.nD Cert.AttnFwdReferenceIdeal.τ).loc Cert.AttnFwdReferenceIdeal.main_arg2) = m ((c.tc : Thread Cert.AttnFwdKernelIdeal.nD Cert.AttnFwdKernelIdeal.τ).loc Cert.AttnFwdKernelIdeal.main_arg2)
      ∧ m' ((c.tc : Thread Cert.AttnFwdReferenceIdeal.nD Cert.AttnFwdReferenceIdeal.τ).loc Cert.AttnFwdReferenceIdeal.main_arg3) = m ((c.tc : Thread Cert.AttnFwdKernelIdeal.nD Cert.AttnFwdKernelIdeal.τ).loc Cert.AttnFwdKernelIdeal.main_arg3)) →
    ∃ (v0 : (c : Dev Cert.AttnFwdKernelIdeal.nD) → Buf (Elt Ideal) ((c.tc : Thread Cert.AttnFwdKernelIdeal.nD Cert.AttnFwdKernelIdeal.τ).loc Cert.AttnFwdKernelIdeal.main_v38)),
      θ_run (Cert.AttnFwdKernelIdeal.defs (F := Ideal)) (onTc (τ := Cert.AttnFwdKernelIdeal.τ) (Cert.AttnFwdKernelIdeal.main (F := Ideal))) ⟨m, fun _ => 0, g⟩ (fun r => ∀ c : Dev Cert.AttnFwdKernelIdeal.nD,
          r.2.mem ((c.tc : Thread Cert.AttnFwdKernelIdeal.nD Cert.AttnFwdKernelIdeal.τ).loc Cert.AttnFwdKernelIdeal.main_v38) = v0 c
          ∧ r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
          ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1)
          ∧ r.2.mem ((c.tc : Thread Cert.AttnFwdKernelIdeal.nD Cert.AttnFwdKernelIdeal.τ).loc Cert.AttnFwdKernelIdeal.main_arg2) = m ((c.tc : Thread Cert.AttnFwdKernelIdeal.nD Cert.AttnFwdKernelIdeal.τ).loc Cert.AttnFwdKernelIdeal.main_arg2)
          ∧ r.2.mem ((c.tc : Thread Cert.AttnFwdKernelIdeal.nD Cert.AttnFwdKernelIdeal.τ).loc Cert.AttnFwdKernelIdeal.main_arg3) = m ((c.tc : Thread Cert.AttnFwdKernelIdeal.nD Cert.AttnFwdKernelIdeal.τ).loc Cert.AttnFwdKernelIdeal.main_arg3))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v98) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2)
          ∧ r.2.mem ((c.tc : Thread Cert.AttnFwdReferenceIdeal.nD Cert.AttnFwdReferenceIdeal.τ).loc Cert.AttnFwdReferenceIdeal.main_arg3) = m' ((c.tc : Thread Cert.AttnFwdReferenceIdeal.nD Cert.AttnFwdReferenceIdeal.τ).loc Cert.AttnFwdReferenceIdeal.main_arg3))

def preserves_MixFwdKernel_MixFwdKernelIdeal : Prop :=
  True

def Claim : Prop :=
  ∃ (hLossKernel : Cert.LossKernel.Facts) (hLossKernelIdeal : Cert.LossKernelIdeal.Facts) (hLossReferenceIdeal : Cert.LossReferenceIdeal.Facts) (hMixKernel : Cert.MixKernel.Facts) (hMixKernelIdeal : Cert.MixKernelIdeal.Facts) (hMixReferenceIdeal : Cert.MixReferenceIdeal.Facts) (hAttnKernel : Cert.AttnKernel.Facts) (hAttnKernelIdeal : Cert.AttnKernelIdeal.Facts) (hAttnReferenceIdeal : Cert.AttnReferenceIdeal.Facts) (hBiasKernel : Cert.BiasKernel.Facts) (hBiasKernelIdeal : Cert.BiasKernelIdeal.Facts) (hBiasReferenceIdeal : Cert.BiasReferenceIdeal.Facts) (hMixoutKernel : Cert.MixoutKernel.Facts) (hMixoutKernelIdeal : Cert.MixoutKernelIdeal.Facts) (hMixoutReferenceIdeal : Cert.MixoutReferenceIdeal.Facts) (hFfnKernel : Cert.FfnKernel.Facts) (hFfnKernelIdeal : Cert.FfnKernelIdeal.Facts) (hFfnReferenceIdeal : Cert.FfnReferenceIdeal.Facts) (hMixoutFwdKernel : Cert.MixoutFwdKernel.Facts) (hMixoutFwdKernelIdeal : Cert.MixoutFwdKernelIdeal.Facts) (hMixoutFwdReferenceIdeal : Cert.MixoutFwdReferenceIdeal.Facts) (hFfnFwdKernel : Cert.FfnFwdKernel.Facts) (hFfnFwdKernelIdeal : Cert.FfnFwdKernelIdeal.Facts) (hFfnFwdReferenceIdeal : Cert.FfnFwdReferenceIdeal.Facts) (hAttnFwdKernel : Cert.AttnFwdKernel.Facts) (hAttnFwdKernelIdeal : Cert.AttnFwdKernelIdeal.Facts) (hAttnFwdReferenceIdeal : Cert.AttnFwdReferenceIdeal.Facts) (hMixFwdKernel : Cert.MixFwdKernel.Facts) (hMixFwdKernelIdeal : Cert.MixFwdKernelIdeal.Facts) (hMixFwdReferenceIdeal : Cert.MixFwdReferenceIdeal.Facts) (hPre_mix_finite : Cert.Pre_mix_finite.Facts) (hPre_attn_finite : Cert.Pre_attn_finite.Facts) (hPre_mixout_finite : Cert.Pre_mixout_finite.Facts) (hPre_ffn_finite : Cert.Pre_ffn_finite.Facts) (hOn_mix_diagonal : Cert.On_mix_diagonal.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_BiasKernel (hBiasKernel := hBiasKernel)
    ∧ quiescent_BiasKernelIdeal (hBiasKernelIdeal := hBiasKernelIdeal)
    ∧ quiescent_BiasReferenceIdeal (hBiasReferenceIdeal := hBiasReferenceIdeal)
    ∧ quiescent_MixoutKernel (hMixoutKernel := hMixoutKernel)
    ∧ quiescent_MixoutKernelIdeal (hMixoutKernelIdeal := hMixoutKernelIdeal)
    ∧ quiescent_MixoutKernelIdeal_pre_mixout_finite (hMixoutKernelIdeal := hMixoutKernelIdeal) (hPre_mixout_finite := hPre_mixout_finite)
    ∧ quiescent_MixoutReferenceIdeal (hMixoutReferenceIdeal := hMixoutReferenceIdeal)
    ∧ quiescent_MixoutReferenceIdeal_pre_mixout_finite (hMixoutReferenceIdeal := hMixoutReferenceIdeal) (hPre_mixout_finite := hPre_mixout_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_MixoutFwdKernel (hMixoutFwdKernel := hMixoutFwdKernel)
    ∧ quiescent_MixoutFwdKernelIdeal (hMixoutFwdKernelIdeal := hMixoutFwdKernelIdeal)
    ∧ quiescent_MixoutFwdReferenceIdeal (hMixoutFwdReferenceIdeal := hMixoutFwdReferenceIdeal)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_AttnFwdKernel (hAttnFwdKernel := hAttnFwdKernel)
    ∧ quiescent_AttnFwdKernelIdeal (hAttnFwdKernelIdeal := hAttnFwdKernelIdeal)
    ∧ quiescent_AttnFwdReferenceIdeal (hAttnFwdReferenceIdeal := hAttnFwdReferenceIdeal)
    ∧ quiescent_MixFwdKernel (hMixFwdKernel := hMixFwdKernel)
    ∧ quiescent_MixFwdKernelIdeal (hMixFwdKernelIdeal := hMixFwdKernelIdeal)
    ∧ quiescent_MixFwdReferenceIdeal (hMixFwdReferenceIdeal := hMixFwdReferenceIdeal)
    ∧ preserves_LossKernel_LossKernelIdeal
    ∧ algebraic_LossKernelIdeal_LossReferenceIdeal (hLossKernelIdeal := hLossKernelIdeal) (hLossReferenceIdeal := hLossReferenceIdeal)
    ∧ preserves_MixKernel_MixKernelIdeal
    ∧ algebraic_MixKernelIdeal_MixReferenceIdeal_on_mix_diagonal_pre_mix_finite (hMixKernelIdeal := hMixKernelIdeal) (hMixReferenceIdeal := hMixReferenceIdeal) (hPre_mix_finite := hPre_mix_finite) (hOn_mix_diagonal := hOn_mix_diagonal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_BiasKernel_BiasKernelIdeal
    ∧ algebraic_BiasKernelIdeal_BiasReferenceIdeal (hBiasKernelIdeal := hBiasKernelIdeal) (hBiasReferenceIdeal := hBiasReferenceIdeal)
    ∧ preserves_MixoutKernel_MixoutKernelIdeal
    ∧ algebraic_MixoutKernelIdeal_MixoutReferenceIdeal_pre_mixout_finite (hMixoutKernelIdeal := hMixoutKernelIdeal) (hMixoutReferenceIdeal := hMixoutReferenceIdeal) (hPre_mixout_finite := hPre_mixout_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_MixoutFwdKernel_MixoutFwdKernelIdeal
    ∧ algebraic_MixoutFwdKernelIdeal_MixoutFwdReferenceIdeal (hMixoutFwdKernelIdeal := hMixoutFwdKernelIdeal) (hMixoutFwdReferenceIdeal := hMixoutFwdReferenceIdeal)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_AttnFwdKernel_AttnFwdKernelIdeal
    ∧ algebraic_AttnFwdKernelIdeal_AttnFwdReferenceIdeal (hAttnFwdKernelIdeal := hAttnFwdKernelIdeal) (hAttnFwdReferenceIdeal := hAttnFwdReferenceIdeal)
    ∧ preserves_MixFwdKernel_MixFwdKernelIdeal
-- ==== On_mix_diagonal.lean ====
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S8192x1024 : Shape := ⟨2, ![8192, 1024]⟩
abbrev S256x256 : Shape := ⟨2, ![256, 256]⟩
abbrev S_ : Shape := ⟨0, ![]⟩
abbrev S8x256 : Shape := ⟨2, ![8, 256]⟩

class Facts : Prop where
  bcast_S_S8192x1024 : S_.BroadcastsInDim S8192x1024 (![] : Fin 0 → Fin S8192x1024.rank)
  bcast_S_S256x256 : S_.BroadcastsInDim S256x256 (![] : Fin 0 → Fin S256x256.rank)
  bcast_S_S8x256 : S_.BroadcastsInDim S8x256 (![] : Fin 0 → Fin S8x256.rank)

variable [Facts]

def fn_where {F : FTy → Type} [FloatOps F] (arg0 : IVec S256x256 1) (arg1 : IVec S256x256 32) (arg2 : IVec S256x256 32) : IVec S256x256 32 :=
  let v0 : IVec S256x256 32 := select arg0 arg1 arg2
  v0

def fn_floor_divide {F : FTy → Type} [FloatOps F] (arg0 : IVec S256x256 32) (arg1 : IVec S_ 32) : IVec S256x256 32 :=
  let v0 : IVec S_ 32 := id arg1
  let v1 : IVec S256x256 32 := broadcastInDim S256x256 ![] bcast_S_S256x256 v0
  let v2 : IVec S256x256 32 := Host.divsi arg0 v1
  let v3 : IVec S256x256 32 := signi arg0
  let v4 : IVec S_ 32 := signi v0
  let v5 : IVec S256x256 32 := broadcastInDim S256x256 ![] bcast_S_S256x256 v4
  let v6 : IVec S256x256 1 := cmpi .ne v3 v5
  let v7 : IVec S256x256 32 := broadcastInDim S256x256 ![] bcast_S_S256x256 v0
  let v8 : IVec S256x256 32 := Host.remsi arg0 v7
  let c : IVec S_ 32 := constantI S_ 32 0#32
  let v9 : IVec S256x256 32 := broadcastInDim S256x256 ![] bcast_S_S256x256 c
  let v10 : IVec S256x256 1 := cmpi .ne v8 v9
  let v11 : IVec S256x256 1 := andi v6 v10
  let c_0 : IVec S_ 32 := constantI S_ 32 1#32
  let v12 : IVec S256x256 32 := broadcastInDim S256x256 ![] bcast_S_S256x256 c_0
  let v13 : IVec S256x256 32 := subi v2 v12
  let v14 : IVec S256x256 32 := fn_where (F := F) v11 v13 v2
  v14

def fn {F : FTy → Type} [FloatOps F] (main_arg0 : FVec F S8192x256 .f32) (main_arg1 : FVec F S8192x256 .f32) (main_arg2 : FVec F S8192x256 .f32) (main_arg3 : FVec F S8192x256 .f32) (main_arg4 : FVec F S4x64x64 .f32) (main_arg5 : FVec F S256 .f32) (main_arg6 : FVec F S3x256 .f32) (main_arg7 : FVec F S8192x1024 .f32) : IVec S8192x1024 1 × IVec S256x256 1 × IVec S8x256 1 :=
  let main_v0 : IVec S256x256 32 := iotaInDim S256x256 32 0
  let main_v1 : IVec S256x256 32 := iotaInDim S256x256 32 1
  let main_c : IVec S_ 1 := constantI S_ 1 1#1
  let main_v2 : IVec S8192x1024 1 := broadcastInDim S8192x1024 ![] bcast_S_S8192x1024 main_c
  let main_c_0 : IVec S_ 32 := constantI S_ 32 64#32
  let main_v3 : IVec S256x256 32 := fn_floor_divide (F := F) main_v0 main_c_0
  let main_c_1 : IVec S_ 32 := constantI S_ 32 64#32
  let main_v4 : IVec S256x256 32 := fn_floor_divide (F := F) main_v1 main_c_1
  let main_v5 : IVec S256x256 1 := cmpi .eq main_v3 main_v4
  let main_c_2 : IVec S_ 1 := constantI S_ 1 1#1
  let main_v6 : IVec S8x256 1 := broadcastInDim S8x256 ![] bcast_S_S8x256 main_c_2
  (main_v2, main_v5, main_v6)
-- ==== Pre_attn_finite.lean ====
abbrev S8192x512 : Shape := ⟨2, ![8192, 512]⟩
abbrev S8x15x31 : Shape := ⟨3, ![8, 15, 31]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x512 .f32) (main_arg1 : FVec F S8192x512 .f32) (main_arg2 : FVec F S8192x512 .f32) (main_arg3 : FVec F S8x15x31 .f32) (main_arg4 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8x15x31 .f32 := Host.absf main_arg3
  let main_cst_4 : FVec F S_ .f32 := constant S_ .f32 0x7F800000#32
  let main_v13 : FVec F S8x15x31 .f32 := broadcastInDim S8x15x31 ![] bcast_S_S8x15x31 main_cst_4
  let main_v14 : IVec S8x15x31 1 := cmpf .olt main_v12 main_v13
  let main_c_5 : IVec S_ 1 := constantI S_ 1 1#1
  let main_v15 : IVec S_ 1 := (fun x v => Host.reduce IntOp.andi x v reducesTo_S8x15x31_S_d0_1_2 h_S_) main_v14 main_c_5
  fn_part1 (F := F) main_arg4 main_v3 main_v7 main_v11 main_v15
-- ==== Pre_ffn_finite.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg6 : FVec F S8192x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S8192x1024 .f32 := Host.absf main_arg6
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_arg6 main_v3 main_v7 main_v11 main_v15
-- ==== Pre_mix_finite.lean ====
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S8192x1024 : Shape := ⟨2, ![8192, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S256 : S_.BroadcastsInDim S256 (![] : Fin 0 → Fin S256.rank)
  reducesTo_S256_S_d0 : S256.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x256 .f32) (main_arg1 : FVec F S8192x256 .f32) (main_arg2 : FVec F S8192x256 .f32) (main_arg3 : FVec F S8192x256 .f32) (main_arg4 : FVec F S4x64x64 .f32) (main_arg5 : FVec F S256 .f32) (main_arg6 : FVec F S3x256 .f32) (main_arg7 : FVec F S8192x1024 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4x64x64 .f32 := Host.absf main_arg4
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : FVec F S256 .f32 := Host.absf main_arg5
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S8192x1024 .f32 := Host.absf main_arg7
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v3 main_v7 main_v11 main_v15
-- ==== Pre_mixout_finite.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg5
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg5 main_v3 main_v7 main_v11 main_v15
-- ==== LossKernel.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== MixKernel.lean ====
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S8192x1024 : Shape := ⟨2, ![8192, 1024]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S4x256 : Shape := ⟨2, ![4, 256]⟩
abbrev S8x256 : Shape := ⟨2, ![8, 256]⟩
abbrev S512x1024 : Shape := ⟨2, ![512, 1024]⟩
abbrev S8x1024 : Shape := ⟨2, ![8, 1024]⟩
abbrev S512x512 : Shape := ⟨2, ![512, 512]⟩
abbrev S8x512 : Shape := ⟨2, ![8, 512]⟩
abbrev S528x1024 : Shape := ⟨2, ![528, 1024]⟩
abbrev S528x512 : Shape := ⟨2, ![528, 512]⟩
abbrev S528x256 : Shape := ⟨2, ![528, 256]⟩
abbrev S512x256 : Shape := ⟨2, ![512, 256]⟩

abbrev nBuf : Space → Nat
  | .hbm => 30
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S4x64x64, .f32⟩
  | .hbm, ⟨5, _⟩ => ⟨S256, .f32⟩
  | .hbm, ⟨6, _⟩ => ⟨S3x256, .f32⟩
  | .hbm, ⟨7, _⟩ => ⟨S8192x1024, .f32⟩
  | .hbm, ⟨8, _⟩ => ⟨S8192x1024, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x64x1x64, .f32⟩
  | .hbm, ⟨17, _⟩ => ⟨S4x1x4x1, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S1x256, .f32⟩
  | .hbm, ⟨24, _⟩ => ⟨S_, .f32⟩
  | .hbm, ⟨25, _⟩ => ⟨S4x256, .f32⟩
  | .hbm, ⟨26, _⟩ => ⟨S8x256, .f32⟩
  | .hbm, ⟨27, _⟩ => ⟨S8192x1024, .bf16⟩
  | .hbm, ⟨28, _⟩ => ⟨S256x256, .f32⟩
  | .hbm, ⟨29, _⟩ => ⟨S8x256, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S256x256, .bf16⟩
  | .local _ .vmem, ⟨13, _⟩ => ⟨S8x256, .f32⟩
  | .local _ .vmem, ⟨14, _⟩ => ⟨S512x1024, .bf16⟩
  | .local _ .vmem, ⟨15, _⟩ => ⟨S512x1024, .bf16⟩
  | .local _ .vmem, ⟨16, _⟩ => ⟨S256x256, .f32⟩
  | .local _ .vmem, ⟨17, _⟩ => ⟨S8x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixReferenceIdeal.lean ====
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S8192x1024 : Shape := ⟨2, ![8192, 1024]⟩
abbrev S1x8192x256 : Shape := ⟨3, ![1, 8192, 256]⟩
abbrev S1x8192x4x64 : Shape := ⟨4, ![1, 8192, 4, 64]⟩
abbrev S_ : Shape := ⟨0, ![]⟩
abbrev S1x1x4x64 : Shape := ⟨4, ![1, 1, 4, 64]⟩
abbrev S1x8193x4x64 : Shape := ⟨4, ![1, 8193, 4, 64]⟩
abbrev S8192 : Shape := ⟨1, ![8192]⟩
abbrev S1x8192x1 : Shape := ⟨3, ![1, 8192, 1]⟩
abbrev S8192x1 : Shape := ⟨2, ![8192, 1]⟩
abbrev S8192x2 : Shape := ⟨2, ![8192, 2]⟩
abbrev S1x8192x64 : Shape := ⟨3, ![1, 8192, 64]⟩
abbrev S1x8192x1x64 : Shape := ⟨4, ![1, 8192, 1, 64]⟩
abbrev S4x64x1x8192 : Shape := ⟨4, ![4, 64, 1, 8192]⟩
abbrev S4x64 : Shape := ⟨2, ![4, 64]⟩
abbrev S1x1x256 : Shape := ⟨3, ![1, 1, 256]⟩
abbrev S1x8194x256 : Shape := ⟨3, ![1, 8194, 256]⟩
abbrev S1x256 : Shape := ⟨2, ![1, 256]⟩
abbrev S1x8192x512 : Shape := ⟨3, ![1, 8192, 512]⟩
abbrev S8192x512 : Shape := ⟨2, ![8192, 512]⟩
abbrev S1x4x64 : Shape := ⟨3, ![1, 4, 64]⟩
abbrev S4x1x8192x64 : Shape := ⟨4, ![4, 1, 8192, 64]⟩
abbrev S256x64 : Shape := ⟨2, ![256, 64]⟩
abbrev S1x256x1x64 : Shape := ⟨4, ![1, 256, 1, 64]⟩
abbrev S1x256x4x64 : Shape := ⟨4, ![1, 256, 4, 64]⟩
abbrev S256x256 : Shape := ⟨2, ![256, 256]⟩
abbrev S4x256 : Shape := ⟨2, ![4, 256]⟩
abbrev S8x256 : Shape := ⟨2, ![8, 256]⟩

abbrev nBuf : Space → Nat
  | .hbm => 477
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S4x64x64, .f32⟩
  | 5 => ⟨S256, .f32⟩
  | 6 => ⟨S3x256, .f32⟩
  | 7 => ⟨S8192x1024, .f32⟩
  | 8 => ⟨S1x8192x256, .f32⟩
  | 9 => ⟨S1x8192x4x64, .f32⟩
  | 10 => ⟨S_, .f32⟩
  | 11 => ⟨S1x1x4x64, .f32⟩
  | 12 => ⟨S_, .f32⟩
  | 13 => ⟨S_, .f32⟩
  | 14 => ⟨S1x8192x4x64, .f32⟩
  | 15 => ⟨S1x8193x4x64, .f32⟩
  | 16 => ⟨S_, .f32⟩
  | 17 => ⟨S1x1x4x64, .f32⟩
  | 18 => ⟨S8192, .i32⟩
  | 19 => ⟨S_, .i32⟩
  | 20 => ⟨S8192, .i32⟩
  | 21 => ⟨S8192, .i32⟩
  | 22 => ⟨S_, .i32⟩
  | 23 => ⟨S_, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S_, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .i32⟩
  | 45 => ⟨S8192, .f32⟩
  | 46 => ⟨S1x8192x1, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192x1, .i32⟩
  | 58 => ⟨S8192x1, .i32⟩
  | 59 => ⟨S8192x2, .i32⟩
  | 60 => ⟨S1x8192x64, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S_, .i32⟩
  | 69 => ⟨S8192, .i32⟩
  | 70 => ⟨S8192, .i32⟩
  | 71 => ⟨S8192x1, .i32⟩
  | 72 => ⟨S8192x1, .i32⟩
  | 73 => ⟨S8192x2, .i32⟩
  | 74 => ⟨S1x8192x64, .f32⟩
  | 75 => ⟨S1x8192x64, .f32⟩
  | 76 => ⟨S1x8192x64, .f32⟩
  | 77 => ⟨S1x8192x64, .f32⟩
  | 78 => ⟨S1x8192x1x64, .f32⟩
  | 79 => ⟨S1x8192x64, .f32⟩
  | 80 => ⟨S1x8192x64, .f32⟩
  | 81 => ⟨S_, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S_, .i32⟩
  | 99 => ⟨S_, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .i32⟩
  | 107 => ⟨S8192, .f32⟩
  | 108 => ⟨S1x8192x1, .f32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S_, .i32⟩
  | 117 => ⟨S8192, .i32⟩
  | 118 => ⟨S8192, .i32⟩
  | 119 => ⟨S8192x1, .i32⟩
  | 120 => ⟨S8192x1, .i32⟩
  | 121 => ⟨S8192x2, .i32⟩
  | 122 => ⟨S1x8192x64, .f32⟩
  | 123 => ⟨S_, .i32⟩
  | 124 => ⟨S8192, .i32⟩
  | 125 => ⟨S8192, .i1⟩
  | 126 => ⟨S_, .i32⟩
  | 127 => ⟨S8192, .i32⟩
  | _ => ⟨S8192x256, .f32⟩

abbrev hbmTy0_1 (i : Nat) : BufTy := match i % 128 with
  | 0 => ⟨S8192, .i32⟩
  | 1 => ⟨S8192, .i32⟩
  | 2 => ⟨S_, .i32⟩
  | 3 => ⟨S8192, .i32⟩
  | 4 => ⟨S8192, .i32⟩
  | 5 => ⟨S8192x1, .i32⟩
  | 6 => ⟨S8192x1, .i32⟩
  | 7 => ⟨S8192x2, .i32⟩
  | 8 => ⟨S1x8192x64, .f32⟩
  | 9 => ⟨S1x8192x64, .f32⟩
  | 10 => ⟨S1x8192x64, .f32⟩
  | 11 => ⟨S1x8192x64, .f32⟩
  | 12 => ⟨S1x8192x1x64, .f32⟩
  | 13 => ⟨S1x8192x64, .f32⟩
  | 14 => ⟨S1x8192x64, .f32⟩
  | 15 => ⟨S_, .i32⟩
  | 16 => ⟨S8192, .i32⟩
  | 17 => ⟨S8192, .i32⟩
  | 18 => ⟨S_, .i32⟩
  | 19 => ⟨S_, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192, .i32⟩
  | 41 => ⟨S8192, .f32⟩
  | 42 => ⟨S1x8192x1, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192x1, .i32⟩
  | 54 => ⟨S8192x1, .i32⟩
  | 55 => ⟨S8192x2, .i32⟩
  | 56 => ⟨S1x8192x64, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192x1, .i32⟩
  | 68 => ⟨S8192x1, .i32⟩
  | 69 => ⟨S8192x2, .i32⟩
  | 70 => ⟨S1x8192x64, .f32⟩
  | 71 => ⟨S1x8192x64, .f32⟩
  | 72 => ⟨S1x8192x64, .f32⟩
  | 73 => ⟨S1x8192x64, .f32⟩
  | 74 => ⟨S1x8192x1x64, .f32⟩
  | 75 => ⟨S1x8192x64, .f32⟩
  | 76 => ⟨S1x8192x64, .f32⟩
  | 77 => ⟨S_, .i32⟩
  | 78 => ⟨S8192, .i32⟩
  | 79 => ⟨S8192, .i32⟩
  | 80 => ⟨S_, .i32⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S_, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .i32⟩
  | 103 => ⟨S8192, .f32⟩
  | 104 => ⟨S1x8192x1, .f32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S_, .i32⟩
  | 113 => ⟨S8192, .i32⟩
  | 114 => ⟨S8192, .i32⟩
  | 115 => ⟨S8192x1, .i32⟩
  | 116 => ⟨S8192x1, .i32⟩
  | 117 => ⟨S8192x2, .i32⟩
  | 118 => ⟨S1x8192x64, .f32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S_, .i32⟩
  | 127 => ⟨S8192, .i32⟩
  | _ => ⟨S8192x256, .f32⟩

abbrev hbmTy0_2 (i : Nat) : BufTy := match i % 128 with
  | 0 => ⟨S8192, .i32⟩
  | 1 => ⟨S8192x1, .i32⟩
  | 2 => ⟨S8192x1, .i32⟩
  | 3 => ⟨S8192x2, .i32⟩
  | 4 => ⟨S1x8192x64, .f32⟩
  | 5 => ⟨S1x8192x64, .f32⟩
  | 6 => ⟨S1x8192x64, .f32⟩
  | 7 => ⟨S1x8192x64, .f32⟩
  | 8 => ⟨S1x8192x1x64, .f32⟩
  | 9 => ⟨S1x8192x64, .f32⟩
  | 10 => ⟨S1x8192x64, .f32⟩
  | 11 => ⟨S1x8192x1x64, .f32⟩
  | 12 => ⟨S1x8192x1x64, .f32⟩
  | 13 => ⟨S1x8192x1x64, .f32⟩
  | 14 => ⟨S1x8192x1x64, .f32⟩
  | 15 => ⟨S1x8192x4x64, .f32⟩
  | 16 => ⟨S4x64x1x8192, .f32⟩
  | 17 => ⟨S1x8192x4x64, .f32⟩
  | 18 => ⟨S4x64, .f32⟩
  | 19 => ⟨S1x1x4x64, .f32⟩
  | 20 => ⟨S1x8192x4x64, .f32⟩
  | 21 => ⟨S1x8192x4x64, .f32⟩
  | 22 => ⟨S1x8192x256, .f32⟩
  | 23 => ⟨S1x8192x256, .f32⟩
  | 24 => ⟨S1x8192x256, .f32⟩
  | 25 => ⟨S1x8192x256, .f32⟩
  | 26 => ⟨S1x8192x256, .f32⟩
  | 27 => ⟨S_, .f32⟩
  | 28 => ⟨S1x1x256, .f32⟩
  | 29 => ⟨S1x8194x256, .f32⟩
  | 30 => ⟨S_, .f32⟩
  | 31 => ⟨S1x1x256, .f32⟩
  | 32 => ⟨S_, .f32⟩
  | 33 => ⟨S1x1x256, .f32⟩
  | 34 => ⟨S1x256, .f32⟩
  | 35 => ⟨S256, .f32⟩
  | 36 => ⟨S1x8192x256, .f32⟩
  | 37 => ⟨S1x1x256, .f32⟩
  | 38 => ⟨S1x8192x256, .f32⟩
  | 39 => ⟨S1x8192x256, .f32⟩
  | 40 => ⟨S1x256, .f32⟩
  | 41 => ⟨S256, .f32⟩
  | 42 => ⟨S1x8192x256, .f32⟩
  | 43 => ⟨S1x1x256, .f32⟩
  | 44 => ⟨S1x8192x256, .f32⟩
  | 45 => ⟨S1x8192x256, .f32⟩
  | 46 => ⟨S1x8192x256, .f32⟩
  | 47 => ⟨S1x256, .f32⟩
  | 48 => ⟨S256, .f32⟩
  | 49 => ⟨S1x8192x256, .f32⟩
  | 50 => ⟨S1x1x256, .f32⟩
  | 51 => ⟨S1x8192x256, .f32⟩
  | 52 => ⟨S1x8192x256, .f32⟩
  | 53 => ⟨S1x8192x256, .f32⟩
  | 54 => ⟨S1x8192x256, .f32⟩
  | 55 => ⟨S1x8192x512, .f32⟩
  | 56 => ⟨S8192x512, .f32⟩
  | 57 => ⟨S8192x512, .f32⟩
  | 58 => ⟨S1x8192x512, .f32⟩
  | 59 => ⟨S1x8192x256, .f32⟩
  | 60 => ⟨S1x8192x256, .f32⟩
  | 61 => ⟨S1x8192x256, .f32⟩
  | 62 => ⟨S1x8192x256, .f32⟩
  | 63 => ⟨S1x8192x256, .f32⟩
  | 64 => ⟨S1x8192x256, .f32⟩
  | 65 => ⟨S1x8192x256, .f32⟩
  | 66 => ⟨S_, .f32⟩
  | 67 => ⟨S1x256, .f32⟩
  | 68 => ⟨S1x1x256, .f32⟩
  | 69 => ⟨S_, .f32⟩
  | 70 => ⟨S256, .f32⟩
  | 71 => ⟨S_, .f32⟩
  | 72 => ⟨S1x8194x256, .f32⟩
  | 73 => ⟨S1x256, .f32⟩
  | 74 => ⟨S_, .f32⟩
  | 75 => ⟨S3x256, .f32⟩
  | 76 => ⟨S1x8192x256, .f32⟩
  | 77 => ⟨S1x8192x256, .f32⟩
  | 78 => ⟨S1x8192x256, .f32⟩
  | 79 => ⟨S_, .f32⟩
  | 80 => ⟨S1x256, .f32⟩
  | 81 => ⟨S1x1x256, .f32⟩
  | 82 => ⟨S_, .f32⟩
  | 83 => ⟨S256, .f32⟩
  | 84 => ⟨S_, .f32⟩
  | 85 => ⟨S1x8194x256, .f32⟩
  | 86 => ⟨S1x8194x256, .f32⟩
  | 87 => ⟨S1x256, .f32⟩
  | 88 => ⟨S_, .f32⟩
  | 89 => ⟨S3x256, .f32⟩
  | 90 => ⟨S3x256, .f32⟩
  | 91 => ⟨S1x8192x256, .f32⟩
  | 92 => ⟨S1x8192x256, .f32⟩
  | 93 => ⟨S1x8192x256, .f32⟩
  | 94 => ⟨S_, .f32⟩
  | 95 => ⟨S1x256, .f32⟩
  | 96 => ⟨S1x1x256, .f32⟩
  | 97 => ⟨S_, .f32⟩
  | 98 => ⟨S256, .f32⟩
  | 99 => ⟨S_, .f32⟩
  | 100 => ⟨S1x8194x256, .f32⟩
  | 101 => ⟨S1x8194x256, .f32⟩
  | 102 => ⟨S1x256, .f32⟩
  | 103 => ⟨S_, .f32⟩
  | 104 => ⟨S3x256, .f32⟩
  | 105 => ⟨S3x256, .f32⟩
  | 106 => ⟨S1x1x256, .f32⟩
  | 107 => ⟨S1x8192x256, .f32⟩
  | 108 => ⟨S1x1x256, .f32⟩
  | 109 => ⟨S1x8192x256, .f32⟩
  | 110 => ⟨S1x8192x256, .f32⟩
  | 111 => ⟨S_, .f32⟩
  | 112 => ⟨S8192x256, .f32⟩
  | 113 => ⟨S_, .f32⟩
  | 114 => ⟨S8192x256, .f32⟩
  | 115 => ⟨S_, .f32⟩
  | 116 => ⟨S8192x256, .f32⟩
  | 117 => ⟨S1x8192x4x64, .f32⟩
  | 118 => ⟨S1x8192x4x64, .f32⟩
  | 119 => ⟨S_, .f32⟩
  | 120 => ⟨S1x4x64, .f32⟩
  | 121 => ⟨S1x1x4x64, .f32⟩
  | 122 => ⟨S1x8192x4x64, .f32⟩
  | 123 => ⟨S1x8192x4x64, .f32⟩
  | 124 => ⟨S_, .f32⟩
  | 125 => ⟨S4x64, .f32⟩
  | 126 => ⟨S256, .f32⟩
  | 127 => ⟨S4x64x1x8192, .f32⟩
  | _ => ⟨S8192x256, .f32⟩

abbrev hbmTy0_3 (i : Nat) : BufTy := match i % 128 with
  | 0 => ⟨S4x1x8192x64, .f32⟩
  | 1 => ⟨S1x8192x4x64, .f32⟩
  | 2 => ⟨S4x64x64, .f32⟩
  | 3 => ⟨S4x64x64, .f32⟩
  | 4 => ⟨S1x8192x1x64, .f32⟩
  | 5 => ⟨S1x8192x64, .f32⟩
  | 6 => ⟨S1x8192x1x64, .f32⟩
  | 7 => ⟨S1x8192x64, .f32⟩
  | 8 => ⟨S1x8192x1x64, .f32⟩
  | 9 => ⟨S1x8192x64, .f32⟩
  | 10 => ⟨S1x8192x1x64, .f32⟩
  | 11 => ⟨S1x8192x64, .f32⟩
  | 12 => ⟨S1x8192x64, .f32⟩
  | 13 => ⟨S1x8192x1x64, .f32⟩
  | 14 => ⟨S_, .f32⟩
  | 15 => ⟨S1x8192x4x64, .f32⟩
  | 16 => ⟨S1x8192x64, .f32⟩
  | 17 => ⟨S1x8192x64, .f32⟩
  | 18 => ⟨S1x8192x64, .f32⟩
  | 19 => ⟨S_, .f32⟩
  | 20 => ⟨S1x8193x4x64, .f32⟩
  | 21 => ⟨S1x8193x4x64, .f32⟩
  | 22 => ⟨S_, .f32⟩
  | 23 => ⟨S1x8193x4x64, .f32⟩
  | 24 => ⟨S1x8193x4x64, .f32⟩
  | 25 => ⟨S1x8193x4x64, .f32⟩
  | 26 => ⟨S1x8192x64, .f32⟩
  | 27 => ⟨S1x8192x1x64, .f32⟩
  | 28 => ⟨S_, .f32⟩
  | 29 => ⟨S1x8192x4x64, .f32⟩
  | 30 => ⟨S1x8192x4x64, .f32⟩
  | 31 => ⟨S1x8192x64, .f32⟩
  | 32 => ⟨S1x8192x64, .f32⟩
  | 33 => ⟨S1x8192x64, .f32⟩
  | 34 => ⟨S_, .f32⟩
  | 35 => ⟨S1x8193x4x64, .f32⟩
  | 36 => ⟨S1x8193x4x64, .f32⟩
  | 37 => ⟨S1x8193x4x64, .f32⟩
  | 38 => ⟨S_, .f32⟩
  | 39 => ⟨S1x8193x4x64, .f32⟩
  | 40 => ⟨S1x8193x4x64, .f32⟩
  | 41 => ⟨S1x8193x4x64, .f32⟩
  | 42 => ⟨S1x8192x64, .f32⟩
  | 43 => ⟨S1x8192x1x64, .f32⟩
  | 44 => ⟨S_, .f32⟩
  | 45 => ⟨S1x8192x4x64, .f32⟩
  | 46 => ⟨S1x8192x4x64, .f32⟩
  | 47 => ⟨S1x8192x64, .f32⟩
  | 48 => ⟨S1x8192x64, .f32⟩
  | 49 => ⟨S1x8192x64, .f32⟩
  | 50 => ⟨S_, .f32⟩
  | 51 => ⟨S1x8193x4x64, .f32⟩
  | 52 => ⟨S1x8193x4x64, .f32⟩
  | 53 => ⟨S1x8193x4x64, .f32⟩
  | 54 => ⟨S_, .f32⟩
  | 55 => ⟨S1x8193x4x64, .f32⟩
  | 56 => ⟨S1x8193x4x64, .f32⟩
  | 57 => ⟨S1x8193x4x64, .f32⟩
  | 58 => ⟨S1x8192x64, .f32⟩
  | 59 => ⟨S1x8192x1x64, .f32⟩
  | 60 => ⟨S_, .f32⟩
  | 61 => ⟨S1x8192x4x64, .f32⟩
  | 62 => ⟨S1x8192x4x64, .f32⟩
  | 63 => ⟨S1x8192x64, .f32⟩
  | 64 => ⟨S1x8192x64, .f32⟩
  | 65 => ⟨S1x8192x64, .f32⟩
  | 66 => ⟨S_, .f32⟩
  | 67 => ⟨S1x8193x4x64, .f32⟩
  | 68 => ⟨S1x8193x4x64, .f32⟩
  | 69 => ⟨S1x8193x4x64, .f32⟩
  | 70 => ⟨S_, .f32⟩
  | 71 => ⟨S1x8193x4x64, .f32⟩
  | 72 => ⟨S1x8193x4x64, .f32⟩
  | 73 => ⟨S1x8193x4x64, .f32⟩
  | 74 => ⟨S1x1x4x64, .f32⟩
  | 75 => ⟨S1x8192x4x64, .f32⟩
  | 76 => ⟨S_, .f32⟩
  | 77 => ⟨S_, .f32⟩
  | 78 => ⟨S1x8192x4x64, .f32⟩
  | 79 => ⟨S1x8192x4x64, .f32⟩
  | 80 => ⟨S1x8192x256, .f32⟩
  | 81 => ⟨S_, .f32⟩
  | 82 => ⟨S8192x256, .f32⟩
  | 83 => ⟨S8192x1024, .f32⟩
  | 84 => ⟨S8192x1024, .bf16⟩
  | 85 => ⟨S256x64, .f32⟩
  | 86 => ⟨S1x256x1x64, .f32⟩
  | 87 => ⟨S1x256x4x64, .f32⟩
  | 88 => ⟨S256x256, .f32⟩
  | 89 => ⟨S1x256, .f32⟩
  | 90 => ⟨S_, .f32⟩
  | 91 => ⟨S4x256, .f32⟩
  | 92 => ⟨S8x256, .f32⟩
  | _ => ⟨S8192x256, .f32⟩

abbrev hbmTy (i : Nat) : BufTy := match i / 128 with
  | 0 => hbmTy0_0 i
  | 1 => hbmTy0_1 i
  | 2 => hbmTy0_2 i
  | 3 => hbmTy0_3 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_call0_call0_cst : Ref sig .tc := ⟨.hbm, 12, rfl⟩
abbrev main_call0_call0_v0 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_c_4 : Ref sig .tc := ⟨.hbm, 33, rfl⟩
abbrev main_v12 : Ref sig .tc := ⟨.hbm, 34, rfl⟩
abbrev main_v13 : Ref sig .tc := ⟨.hbm, 35, rfl⟩
abbrev main_c_5 : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_7 : Ref sig .tc := ⟨.hbm, 47, rfl⟩
abbrev main_v18 : Ref sig .tc := ⟨.hbm, 48, rfl⟩
abbrev main_v19 : Ref sig .tc := ⟨.hbm, 49, rfl⟩
abbrev main_c_8 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_9 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_10 : Ref sig .tc := ⟨.hbm, 61, rfl⟩
abbrev main_v29 : Ref sig .tc := ⟨.hbm, 62, rfl⟩
abbrev main_v30 : Ref sig .tc := ⟨.hbm, 63, rfl⟩
abbrev main_c_11 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_12 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_13 : Ref sig .tc := ⟨.hbm, 81, rfl⟩
abbrev main_v46 : Ref sig .tc := ⟨.hbm, 82, rfl⟩
abbrev main_v47 : Ref sig .tc := ⟨.hbm, 83, rfl⟩
abbrev main_c_14 : Ref sig .tc := ⟨.hbm, 84, rfl⟩
abbrev main_c_15 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v48 : Ref sig .tc := ⟨.hbm, 91, rfl⟩
abbrev main_c_16 : Ref sig .tc := ⟨.hbm, 92, rfl⟩
abbrev main_v49 : Ref sig .tc := ⟨.hbm, 93, rfl⟩
abbrev main_v50 : Ref sig .tc := ⟨.hbm, 94, rfl⟩
abbrev main_c_17 : Ref sig .tc := ⟨.hbm, 95, rfl⟩
abbrev main_v51 : Ref sig .tc := ⟨.hbm, 96, rfl⟩
abbrev main_v52 : Ref sig .tc := ⟨.hbm, 97, rfl⟩
abbrev main_c_18 : Ref sig .tc := ⟨.hbm, 98, rfl⟩
abbrev main_c_19 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_c_20 : Ref sig .tc := ⟨.hbm, 109, rfl⟩
abbrev main_v57 : Ref sig .tc := ⟨.hbm, 110, rfl⟩
abbrev main_v58 : Ref sig .tc := ⟨.hbm, 111, rfl⟩
abbrev main_c_21 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_c_22 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_c_23 : Ref sig .tc := ⟨.hbm, 123, rfl⟩
abbrev main_v68 : Ref sig .tc := ⟨.hbm, 124, rfl⟩
abbrev main_v69 : Ref sig .tc := ⟨.hbm, 125, rfl⟩
abbrev main_c_24 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_25 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_c_26 : Ref sig .tc := ⟨.hbm, 143, rfl⟩
abbrev main_v85 : Ref sig .tc := ⟨.hbm, 144, rfl⟩
abbrev main_v86 : Ref sig .tc := ⟨.hbm, 145, rfl⟩
abbrev main_c_27 : Ref sig .tc := ⟨.hbm, 146, rfl⟩
abbrev main_c_28 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v87 : Ref sig .tc := ⟨.hbm, 153, rfl⟩
abbrev main_c_29 : Ref sig .tc := ⟨.hbm, 154, rfl⟩
abbrev main_v88 : Ref sig .tc := ⟨.hbm, 155, rfl⟩
abbrev main_v89 : Ref sig .tc := ⟨.hbm, 156, rfl⟩
abbrev main_c_30 : Ref sig .tc := ⟨.hbm, 157, rfl⟩
abbrev main_v90 : Ref sig .tc := ⟨.hbm, 158, rfl⟩
abbrev main_v91 : Ref sig .tc := ⟨.hbm, 159, rfl⟩
abbrev main_c_31 : Ref sig .tc := ⟨.hbm, 160, rfl⟩
abbrev main_c_32 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_c_33 : Ref sig .tc := ⟨.hbm, 171, rfl⟩
abbrev main_v96 : Ref sig .tc := ⟨.hbm, 172, rfl⟩
abbrev main_v97 : Ref sig .tc := ⟨.hbm, 173, rfl⟩
abbrev main_c_34 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_c_35 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_c_36 : Ref sig .tc := ⟨.hbm, 185, rfl⟩
abbrev main_v107 : Ref sig .tc := ⟨.hbm, 186, rfl⟩
abbrev main_v108 : Ref sig .tc := ⟨.hbm, 187, rfl⟩
abbrev main_c_37 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_c_38 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_c_39 : Ref sig .tc := ⟨.hbm, 205, rfl⟩
abbrev main_v124 : Ref sig .tc := ⟨.hbm, 206, rfl⟩
abbrev main_v125 : Ref sig .tc := ⟨.hbm, 207, rfl⟩
abbrev main_c_40 : Ref sig .tc := ⟨.hbm, 208, rfl⟩
abbrev main_c_41 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_v126 : Ref sig .tc := ⟨.hbm, 215, rfl⟩
abbrev main_c_42 : Ref sig .tc := ⟨.hbm, 216, rfl⟩
abbrev main_v127 : Ref sig .tc := ⟨.hbm, 217, rfl⟩
abbrev main_v128 : Ref sig .tc := ⟨.hbm, 218, rfl⟩
abbrev main_c_43 : Ref sig .tc := ⟨.hbm, 219, rfl⟩
abbrev main_v129 : Ref sig .tc := ⟨.hbm, 220, rfl⟩
abbrev main_v130 : Ref sig .tc := ⟨.hbm, 221, rfl⟩
abbrev main_c_44 : Ref sig .tc := ⟨.hbm, 222, rfl⟩
abbrev main_c_45 : Ref sig .tc := ⟨.hbm, 223, rfl⟩
abbrev main_call8_v0 : Ref sig .tc := ⟨.hbm, 224, rfl⟩
abbrev main_call8_v1 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_c_46 : Ref sig .tc := ⟨.hbm, 233, rfl⟩
abbrev main_v135 : Ref sig .tc := ⟨.hbm, 234, rfl⟩
abbrev main_v136 : Ref sig .tc := ⟨.hbm, 235, rfl⟩
abbrev main_c_47 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_c_48 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_c_49 : Ref sig .tc := ⟨.hbm, 247, rfl⟩
abbrev main_v146 : Ref sig .tc := ⟨.hbm, 248, rfl⟩
abbrev main_v147 : Ref sig .tc := ⟨.hbm, 249, rfl⟩
abbrev main_c_50 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_c_51 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_cst_52 : Ref sig .tc := ⟨.hbm, 283, rfl⟩
abbrev main_v179 : Ref sig .tc := ⟨.hbm, 284, rfl⟩
abbrev main_v180 : Ref sig .tc := ⟨.hbm, 285, rfl⟩
abbrev main_cst_53 : Ref sig .tc := ⟨.hbm, 286, rfl⟩
abbrev main_v181 : Ref sig .tc := ⟨.hbm, 287, rfl⟩
abbrev main_cst_54 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_cst_55 : Ref sig .tc := ⟨.hbm, 322, rfl⟩
abbrev main_v215 : Ref sig .tc := ⟨.hbm, 323, rfl⟩
abbrev main_v216 : Ref sig .tc := ⟨.hbm, 324, rfl⟩
abbrev main_cst_56 : Ref sig .tc := ⟨.hbm, 325, rfl⟩
abbrev main_v217 : Ref sig .tc := ⟨.hbm, 326, rfl⟩
abbrev main_cst_57 : Ref sig .tc := ⟨.hbm, 327, rfl⟩
abbrev main_v218 : Ref sig .tc := ⟨.hbm, 328, rfl⟩
abbrev main_v219 : Ref sig .tc := ⟨.hbm, 329, rfl⟩
abbrev main_cst_58 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_v223 : Ref sig .tc := ⟨.hbm, 334, rfl⟩
abbrev main_cst_59 : Ref sig .tc := ⟨.hbm, 335, rfl⟩
abbrev main_v224 : Ref sig .tc := ⟨.hbm, 336, rfl⟩
abbrev main_v225 : Ref sig .tc := ⟨.hbm, 337, rfl⟩
abbrev main_cst_60 : Ref sig .tc := ⟨.hbm, 338, rfl⟩
abbrev main_v226 : Ref sig .tc := ⟨.hbm, 339, rfl⟩
abbrev main_cst_61 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_cst_62 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_cst_63 : Ref sig .tc := ⟨.hbm, 350, rfl⟩
abbrev main_v235 : Ref sig .tc := ⟨.hbm, 351, rfl⟩
abbrev main_v236 : Ref sig .tc := ⟨.hbm, 352, rfl⟩
abbrev main_cst_64 : Ref sig .tc := ⟨.hbm, 353, rfl⟩
abbrev main_v237 : Ref sig .tc := ⟨.hbm, 354, rfl⟩
abbrev main_cst_65 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_cst_66 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_cst_67 : Ref sig .tc := ⟨.hbm, 367, rfl⟩
abbrev main_v248 : Ref sig .tc := ⟨.hbm, 368, rfl⟩
abbrev main_cst_68 : Ref sig .tc := ⟨.hbm, 369, rfl⟩
abbrev main_v249 : Ref sig .tc := ⟨.hbm, 370, rfl⟩
abbrev main_cst_69 : Ref sig .tc := ⟨.hbm, 371, rfl⟩
abbrev main_v250 : Ref sig .tc := ⟨.hbm, 372, rfl⟩
abbrev main_v251 : Ref sig .tc := ⟨.hbm, 373, rfl⟩
abbrev main_v252 : Ref sig .tc := ⟨.hbm, 374, rfl⟩
abbrev main_cst_70 : Ref sig .tc := ⟨.hbm, 375, rfl⟩
abbrev main_v253 : Ref sig .tc := ⟨.hbm, 376, rfl⟩
abbrev main_v254 : Ref sig .tc := ⟨.hbm, 377, rfl⟩
abbrev main_v255 : Ref sig .tc := ⟨.hbm, 378, rfl⟩
abbrev main_v256 : Ref sig .tc := ⟨.hbm, 379, rfl⟩
abbrev main_cst_71 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_v263 : Ref sig .tc := ⟨.hbm, 387, rfl⟩
abbrev main_v264 : Ref sig .tc := ⟨.hbm, 388, rfl⟩
abbrev main_v265 : Ref sig .tc := ⟨.hbm, 389, rfl⟩
abbrev main_v266 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_v273 : Ref sig .tc := ⟨.hbm, 397, rfl⟩
abbrev main_cst_72 : Ref sig .tc := ⟨.hbm, 398, rfl⟩
abbrev main_v274 : Ref sig .tc := ⟨.hbm, 399, rfl⟩
abbrev main_v275 : Ref sig .tc := ⟨.hbm, 400, rfl⟩
abbrev main_v276 : Ref sig .tc := ⟨.hbm, 401, rfl⟩
abbrev main_v277 : Ref sig .tc := ⟨.hbm, 402, rfl⟩
abbrev main_cst_73 : Ref sig .tc := ⟨.hbm, 403, rfl⟩
abbrev main_v278 : Ref sig .tc := ⟨.hbm, 404, rfl⟩
abbrev main_v279 : Ref sig .tc := ⟨.hbm, 405, rfl⟩
abbrev main_cst_74 : Ref sig .tc := ⟨.hbm, 406, rfl⟩
abbrev main_v280 : Ref sig .tc := ⟨.hbm, 407, rfl⟩
abbrev main_v281 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_cst_75 : Ref sig .tc := ⟨.hbm, 412, rfl⟩
abbrev main_v285 : Ref sig .tc := ⟨.hbm, 413, rfl⟩
abbrev main_v286 : Ref sig .tc := ⟨.hbm, 414, rfl⟩
abbrev main_v287 : Ref sig .tc := ⟨.hbm, 415, rfl⟩
abbrev main_v288 : Ref sig .tc := ⟨.hbm, 416, rfl⟩
abbrev main_v289 : Ref sig .tc := ⟨.hbm, 417, rfl⟩
abbrev main_cst_76 : Ref sig .tc := ⟨.hbm, 418, rfl⟩
abbrev main_v290 : Ref sig .tc := ⟨.hbm, 419, rfl⟩
abbrev main_v291 : Ref sig .tc := ⟨.hbm, 420, rfl⟩
abbrev main_v292 : Ref sig .tc := ⟨.hbm, 421, rfl⟩
abbrev main_cst_77 : Ref sig .tc := ⟨.hbm, 422, rfl⟩
abbrev main_v293 : Ref sig .tc := ⟨.hbm, 423, rfl⟩
abbrev main_v294 : Ref sig .tc := ⟨.hbm, 424, rfl⟩
abbrev main_v295 : Ref sig .tc := ⟨.hbm, 425, rfl⟩
abbrev main_v296 : Ref sig .tc := ⟨.hbm, 426, rfl⟩
abbrev main_v297 : Ref sig .tc := ⟨.hbm, 427, rfl⟩
abbrev main_cst_78 : Ref sig .tc := ⟨.hbm, 428, rfl⟩
abbrev main_v298 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_cst_79 : Ref sig .tc := ⟨.hbm, 434, rfl⟩
abbrev main_v303 : Ref sig .tc := ⟨.hbm, 435, rfl⟩
abbrev main_v304 : Ref sig .tc := ⟨.hbm, 436, rfl⟩
abbrev main_v305 : Ref sig .tc := ⟨.hbm, 437, rfl⟩
abbrev main_cst_80 : Ref sig .tc := ⟨.hbm, 438, rfl⟩
abbrev main_v306 : Ref sig .tc := ⟨.hbm, 439, rfl⟩
abbrev main_v307 : Ref sig .tc := ⟨.hbm, 440, rfl⟩
abbrev main_v308 : Ref sig .tc := ⟨.hbm, 441, rfl⟩
abbrev main_v309 : Ref sig .tc := ⟨.hbm, 442, rfl⟩
abbrev main_v310 : Ref sig .tc := ⟨.hbm, 443, rfl⟩
abbrev main_cst_81 : Ref sig .tc := ⟨.hbm, 444, rfl⟩
abbrev main_v311 : Ref sig .tc := ⟨.hbm, 445, rfl⟩
abbrev main_v312 : Ref sig .tc := ⟨.hbm, 446, rfl⟩
abbrev main_v313 : Ref sig .tc := ⟨.hbm, 447, rfl⟩
abbrev main_v314 : Ref sig .tc := ⟨.hbm, 448, rfl⟩
abbrev main_v315 : Ref sig .tc := ⟨.hbm, 449, rfl⟩
abbrev main_cst_82 : Ref sig .tc := ⟨.hbm, 450, rfl⟩
abbrev main_v316 : Ref sig .tc := ⟨.hbm, 451, rfl⟩
abbrev main_v317 : Ref sig .tc := ⟨.hbm, 452, rfl⟩
abbrev main_v318 : Ref sig .tc := ⟨.hbm, 453, rfl⟩
abbrev main_cst_83 : Ref sig .tc := ⟨.hbm, 454, rfl⟩
abbrev main_v319 : Ref sig .tc := ⟨.hbm, 455, rfl⟩
abbrev main_v320 : Ref sig .tc := ⟨.hbm, 456, rfl⟩
abbrev main_v321 : Ref sig .tc := ⟨.hbm, 457, rfl⟩
abbrev main_v322 : Ref sig .tc := ⟨.hbm, 458, rfl⟩
abbrev main_v323 : Ref sig .tc := ⟨.hbm, 459, rfl⟩
abbrev main_call9_call0_cst : Ref sig .tc := ⟨.hbm, 460, rfl⟩
abbrev main_call9_call0_v0 : Ref sig .tc := ⟨.hbm, 461, rfl⟩
abbrev main_v324 : Ref sig .tc := ⟨.hbm, 462, rfl⟩
abbrev main_v325 : Ref sig .tc := ⟨.hbm, 463, rfl⟩
abbrev main_v326 : Ref sig .tc := ⟨.hbm, 464, rfl⟩
abbrev main_cst_84 : Ref sig .tc := ⟨.hbm, 465, rfl⟩
abbrev main_v327 : Ref sig .tc := ⟨.hbm, 466, rfl⟩
abbrev main_v328 : Ref sig .tc := ⟨.hbm, 467, rfl⟩
abbrev main_v329 : Ref sig .tc := ⟨.hbm, 468, rfl⟩
abbrev main_v330 : Ref sig .tc := ⟨.hbm, 469, rfl⟩
abbrev main_v331 : Ref sig .tc := ⟨.hbm, 470, rfl⟩
abbrev main_v332 : Ref sig .tc := ⟨.hbm, 471, rfl⟩
abbrev main_v333 : Ref sig .tc := ⟨.hbm, 472, rfl⟩
abbrev main_v334 : Ref sig .tc := ⟨.hbm, 473, rfl⟩
abbrev main_cst_85 : Ref sig .tc := ⟨.hbm, 474, rfl⟩
abbrev main_v335 : Ref sig .tc := ⟨.hbm, 475, rfl⟩
abbrev main_v336 : Ref sig .tc := ⟨.hbm, 476, rfl⟩

abbrev nD : Nat := 1
abbrev τ : Topo := Topo.v7x

variable {F : FTy → Type} [FloatOps F]
-- ==== AttnKernel.lean ====
abbrev S8192x512 : Shape := ⟨2, ![8192, 512]⟩
abbrev S8x15x31 : Shape := ⟨3, ![8, 15, 31]⟩
abbrev S8192x1024 : Shape := ⟨2, ![8192, 1024]⟩
abbrev S8192x1536 : Shape := ⟨2, ![8192, 1536]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S8x15x64x64 : Shape := ⟨4, ![8, 15, 64, 64]⟩
abbrev S2x4x15x64x64 : Shape := ⟨5, ![2, 4, 15, 64, 64]⟩
abbrev S2x15x64x4x64 : Shape := ⟨5, ![2, 15, 64, 4, 64]⟩
abbrev S960x256 : Shape := ⟨2, ![960, 256]⟩
abbrev S2x960x256 : Shape := ⟨3, ![2, 960, 256]⟩
abbrev S1x960x256 : Shape := ⟨3, ![1, 960, 256]⟩
abbrev S2048x256 : Shape := ⟨2, ![2048, 256]⟩
abbrev S8192x256 : Shape := ⟨2, ![8192, 256]⟩
abbrev S64x256 : Shape := ⟨2, ![64, 256]⟩
abbrev S256x256 : Shape := ⟨2, ![256, 256]⟩
abbrev S512x256 : Shape := ⟨2, ![512, 256]⟩
abbrev S1x512x256 : Shape := ⟨3, ![1, 512, 256]⟩
abbrev S256 : Shape := ⟨1, ![256]⟩
abbrev S1x256 : Shape := ⟨2, ![1, 256]⟩

abbrev nBuf : Space → Nat
  | .hbm => 112
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8x15x31, .f32⟩
  | .hbm, ⟨4, _⟩ => ⟨S8192x1024, .f32⟩
  | .hbm, ⟨5, _⟩ => ⟨S8192x1536, .f32⟩
  | .hbm, ⟨6, _⟩ => ⟨S8192x1536, .bf16⟩
  | .hbm, ⟨7, _⟩ => ⟨S64, .i32⟩
  | .hbm, ⟨8, _⟩ => ⟨S1x64, .i32⟩
  | .hbm, ⟨9, _⟩ => ⟨S64x1, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i1⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S64x64, .i32⟩
  | .hbm, ⟨31, _⟩ => ⟨S64x64x1, .i32⟩
  | .hbm, ⟨32, _⟩ => ⟨S8x15x64x64, .f32⟩
  | .hbm, ⟨33, _⟩ => ⟨S2x4x15x64x64, .f32⟩
  | .hbm, ⟨34, _⟩ => ⟨S2x15x64x4x64, .f32⟩
  | .hbm, ⟨35, _⟩ => ⟨S960x256, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S960x256, .i32⟩
  | .hbm, ⟨43, _⟩ => ⟨S960x256, .i32⟩
  | .hbm, ⟨44, _⟩ => ⟨S_, .i32⟩
  | .hbm, ⟨45, _⟩ => ⟨S960x256, .i32⟩
  | .hbm, ⟨46, _⟩ => ⟨S960x256, .i1⟩
  | .hbm, ⟨47, _⟩ => ⟨S_, .i32⟩
  | .hbm, ⟨48, _⟩ => ⟨S960x256, .i32⟩
  | .hbm, ⟨49, _⟩ => ⟨S960x256, .i1⟩
  | .hbm, ⟨50, _⟩ => ⟨S_, .i32⟩
  | .hbm, ⟨51, _⟩ => ⟨S_, .i1⟩
  | .hbm, ⟨52, _⟩ => ⟨S960x256, .i1⟩
  | .hbm, ⟨53, _⟩ => ⟨S960x256, .i1⟩
  | .hbm, ⟨54, _⟩ => ⟨S960x256, .i1⟩
  | .hbm, ⟨55, _⟩ => ⟨S960x256, .i32⟩
  | .hbm, ⟨56, _⟩ => ⟨S960x256, .i32⟩
  | .hbm, ⟨57, _⟩ => ⟨S960x256, .i32⟩
  | .hbm, ⟨58, _⟩ => ⟨S960x256, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S960x256, .i32⟩
  | .hbm, ⟨66, _⟩ => ⟨S960x256, .i32⟩
  | .hbm, ⟨67, _⟩ => ⟨S_, .i32⟩
  | .hbm, ⟨68, _⟩ => ⟨S960x256, .i32⟩
  | .hbm, ⟨69, _⟩ => ⟨S960x256, .i1⟩
  | .hbm, ⟨70, _⟩ => ⟨S_, .i32⟩
  | .hbm, ⟨71, _⟩ => ⟨S960x256, .i32⟩
  | .hbm, ⟨72, _⟩ => ⟨S960x256, .i1⟩
  | .hbm, ⟨73, _⟩ => ⟨S_, .i32⟩
  | .hbm, ⟨74, _⟩ => ⟨S_, .i1⟩
  | .hbm, ⟨75, _⟩ => ⟨S960x256, .i1⟩
  | .hbm, ⟨76, _⟩ => ⟨S960x256, .i1⟩
  | .hbm, ⟨77, _⟩ => ⟨S960x256, .i1⟩
  | .hbm, ⟨78, _⟩ => ⟨S960x256, .i32⟩
  | .hbm, ⟨79, _⟩ => ⟨S960x256, .i32⟩
  | .hbm, ⟨80, _⟩ => ⟨S960x256, .i32⟩
  | .hbm, ⟨81, _⟩ => ⟨S_, .i32⟩
  | .hbm, ⟨82, _⟩ => ⟨S960x256, .i32⟩
  | .hbm, ⟨83, _⟩ => ⟨S960x256, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S960x256, .i32⟩
  | .hbm, ⟨88, _⟩ => ⟨S960x256, .i32⟩
  | .hbm, ⟨89, _⟩ => ⟨S_, .i32⟩
  | .hbm, ⟨90, _⟩ => ⟨S960x256, .i32⟩
  | .hbm, ⟨91, _⟩ => ⟨S960x256, .i32⟩
  | .hbm, ⟨92, _⟩ => ⟨S960x256, .i1⟩
  | .hbm, ⟨93, _⟩ => ⟨S_, .i32⟩
  | .hbm, ⟨94, _⟩ => ⟨S960x256, .i32⟩
  | .hbm, ⟨95, _⟩ => ⟨S960x256, .i32⟩
  | .hbm, ⟨96, _⟩ => ⟨S960x256, .i1⟩
  | .hbm, ⟨97, _⟩ => ⟨S960x256, .i1⟩
  | .hbm, ⟨98, _⟩ => ⟨S_, .f32⟩
  | .hbm, ⟨99, _⟩ => ⟨S_, .f32⟩
  | .hbm, ⟨100, _⟩ => ⟨S960x256, .f32⟩
  | .hbm, ⟨101, _⟩ => ⟨S960x256, .f32⟩
  | .hbm, ⟨102, _⟩ => ⟨S960x256, .f32⟩
  | .hbm, ⟨103, _⟩ => ⟨S2x960x256, .f32⟩
  | .hbm, ⟨104, _⟩ => ⟨S1x960x256, .f32⟩
  | .hbm, ⟨105, _⟩ => ⟨S1x960x256, .f32⟩
  | .hbm, ⟨106, _⟩ => ⟨S2x960x256, .f32⟩
  | .hbm, ⟨107, _⟩ => ⟨S2x960x256, .f32⟩
  | .hbm, ⟨108, _⟩ => ⟨S8192x512, .bf16⟩
  | .hbm, ⟨109, _⟩ => ⟨S8192x512, .bf16⟩
  | .hbm, ⟨110, _⟩ => ⟨S8192x512, .bf16⟩
  | .hbm, ⟨111, _⟩ => ⟨S2x960x256, .f32⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S1x960x256, .f32⟩
  | .local _ .vmem, ⟨5, _⟩ => ⟨S1x960x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S8192x256, .bf16⟩
  | .local _ .vmem, ⟨11, _⟩ => ⟨S8192x256, .bf16⟩
  | .local _ .vmem, ⟨12, _⟩ => ⟨S8192x256, .bf16⟩
  | .local _ .vmem, ⟨13, _⟩ => ⟨S8192x256, .bf16⟩
  | .local _ .vmem, ⟨14, _⟩ => ⟨S1x960x256, .f32⟩
  | .local _ .vmem, ⟨15, _⟩ => ⟨S1x960x256, .f32⟩
  | .local _ .vmem, ⟨16, _⟩ => ⟨S8192x256, .f32⟩
  | .local _ .vmem, ⟨17, _⟩ => ⟨S8192x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v21 : Ref sig .tc := ⟨.hbm, 57, rfl⟩
abbrev main_v22 : Ref sig .tc := ⟨.hbm, 58, rfl⟩
abbrev main_c_5 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v23 : Ref sig .tc := ⟨.hbm, 80, rfl⟩
abbrev main_c_6 : Ref sig .tc := ⟨.hbm, 81, rfl⟩
abbrev main_v24 : Ref sig .tc := ⟨.hbm, 82, rfl⟩
abbrev main_v25 : Ref sig .tc := ⟨.hbm, 83, rfl⟩
abbrev main_c_7 : Ref sig .tc := ⟨.hbm, 84, rfl⟩
abbrev main_c_8 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v26 : Ref sig .tc := ⟨.hbm, 91, rfl⟩
abbrev main_v27 : Ref sig .tc := ⟨.hbm, 92, rfl⟩
abbrev main_c_9 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_cst : Ref sig .tc := ⟨.hbm, 98, rfl⟩
abbrev main_cst_10 : Ref sig .tc := ⟨.hbm, 99, rfl⟩
abbrev main_call4_v0 : Ref sig .tc := ⟨.hbm, 100, rfl⟩
abbrev main_call4_v1 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38_0 : Ref sig .tc := ⟨.hbm, 108, rfl⟩
abbrev main_v38_1 : Ref sig .tc := ⟨.hbm, 109, rfl⟩
abbrev main_v38_2 : Ref sig .tc := ⟨.hbm, 110, rfl⟩
abbrev main_v38_3 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_5 : BitVec 32 := 0#32
  let c32_i32_6 : BitVec 32 := 32#32
  let v26 : BitVec 32 := Scalar.addi c0_i32_5 c32_i32_6
  let c1_i32 : BitVec 32 := 1#32
  ⟨c0_i32_5, v26, c1_i32⟩
def k0_mult1 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c64_i32_9 : BitVec 32 := 64#32
  let v29 : BitVec 32 := Scalar.muli arg13 c64_i32_9
  v29
def k0_off1 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c64_i32_9 : BitVec 32 := 64#32
  let v29 : BitVec 32 := Scalar.muli arg13 c64_i32_9
  let v30 : BitVec 32 := v29
  let v32 : Index := Scalar.indexCast v30
  let c0 : Index := 0#32
  ![v32.toNat, 0]
def k0_mult2 (i : grid0.Coords) (k0_t1 : Fin k0_t1_loop.trips) : BitVec 32 :=
  let c120_i32 : BitVec 32 := 120#32
  let c0_i32_10 : BitVec 32 := 0#32
  let arg1 : BitVec 32 := BitVec.ofNat 32 (i 1).val
  let c32_i32 : BitVec 32 := 32#32
  let v0 : BitVec 32 := Scalar.muli arg1 c32_i32
  let c0_i32_5 : BitVec 32 := 0#32
  let c1_i32 : BitVec 32 := 1#32
  let arg13 : BitVec 32 := Scf.iv c0_i32_5 c1_i32 k0_t1
  let v31 : BitVec 32 := Scalar.addi v0 arg13
  let c4_i32 : BitVec 32 := 4#32
  let v35 : BitVec 32 := Scalar.subi v31 c4_i32
  let v36 : BitVec 32 := Scalar.maxsi c0_i32_10 v35
  let v37 : BitVec 32 := Scalar.minsi c120_i32 v36
  let c64_i32_11 : BitVec 32 := 64#32
  let v46 : BitVec 32 := Scalar.muli v37 c64_i32_11
  v46
def k0_off2 (i : grid0.Coords) (k0_t1 : Fin k0_t1_loop.trips) : Fin 2 → Nat :=
  let c120_i32 : BitVec 32 := 120#32
  let c0_i32_10 : BitVec 32 := 0#32
  let arg1 : BitVec 32 := BitVec.ofNat 32 (i 1).val
  let c32_i32 : BitVec 32 := 32#32
  let v0 : BitVec 32 := Scalar.muli arg1 c32_i32
  let c0_i32_5 : BitVec 32 := 0#32
  let c1_i32 : BitVec 32 := 1#32
  let arg13 : BitVec 32 := Scf.iv c0_i32_5 c1_i32 k0_t1
  let v31 : BitVec 32 := Scalar.addi v0 arg13
  let c4_i32 : BitVec 32 := 4#32
  let v35 : BitVec 32 := Scalar.subi v31 c4_i32
  let v36 : BitVec 32 := Scalar.maxsi c0_i32_10 v35
  let v37 : BitVec 32 := Scalar.minsi c120_i32 v36
  let c64_i32_11 : BitVec 32 := 64#32
  let v46 : BitVec 32 := Scalar.muli v37 c64_i32_11
  let v47 : BitVec 32 := v46
  let v48 : Index := Scalar.indexCast v47
  let c0_12 : Index := 0#32
  ![v48.toNat, 0]
def k0_mult3 (i : grid0.Coords) (k0_t1 : Fin k0_t1_loop.trips) : BitVec 32 :=
  let c120_i32 : BitVec 32 := 120#32
  let c0_i32_10 : BitVec 32 := 0#32
  let arg1 : BitVec 32 := BitVec.ofNat 32 (i 1).val
  let c32_i32 : BitVec 32 := 32#32
  let v0 : BitVec 32 := Scalar.muli arg1 c32_i32
  let c0_i32_5 : BitVec 32 := 0#32
  let c1_i32 : BitVec 32 := 1#32
  let arg13 : BitVec 32 := Scf.iv c0_i32_5 c1_i32 k0_t1
  let v31 : BitVec 32 := Scalar.addi v0 arg13
  let c4_i32 : BitVec 32 := 4#32
  let v35 : BitVec 32 := Scalar.subi v31 c4_i32
  let v36 : BitVec 32 := Scalar.maxsi c0_i32_10 v35
  let v37 : BitVec 32 := Scalar.minsi c120_i32 v36
  let v38 : BitVec 32 := Scalar.subi v37 v31
  let c7_i32 : BitVec 32 := 7#32
  let v39 : BitVec 32 := Scalar.addi v38 c7_i32
  let c64_i32_14 : BitVec 32 := 64#32
  let v54 : BitVec 32 := Scalar.muli v39 c64_i32_14
  v54
def k0_off3 (i : grid0.Coords) (k0_t1 : Fin k0_t1_loop.trips) : Fin 3 → Nat :=
  let c0_17 : Index := 0#32
  let c120_i32 : BitVec 32 := 120#32
  let c0_i32_10 : BitVec 32 := 0#32
  let arg1 : BitVec 32 := BitVec.ofNat 32 (i 1).val
  let c32_i32 : BitVec 32 := 32#32
  let v0 : BitVec 32 := Scalar.muli arg1 c32_i32
  let c0_i32_5 : BitVec 32 := 0#32
  let c1_i32 : BitVec 32 := 1#32
  let arg13 : BitVec 32 := Scf.iv c0_i32_5 c1_i32 k0_t1
  let v31 : BitVec 32 := Scalar.addi v0 arg13
  let c4_i32 : BitVec 32 := 4#32
  let v35 : BitVec 32 := Scalar.subi v31 c4_i32
  let v36 : BitVec 32 := Scalar.maxsi c0_i32_10 v35
  let v37 : BitVec 32 := Scalar.minsi c120_i32 v36
  let v38 : BitVec 32 := Scalar.subi v37 v31
  let c7_i32 : BitVec 32 := 7#32
  let v39 : BitVec 32 := Scalar.addi v38 c7_i32
  let c64_i32_14 : BitVec 32 := 64#32
  let v54 : BitVec 32 := Scalar.muli v39 c64_i32_14
  let v55 : BitVec 32 := v54
  let v59 : Index := Scalar.indexCast v55
  let c0_18 : Index := 0#32
  ![0, v59.toNat, 0]
def k0_cond2 (i : grid0.Coords) : BitVec 1 :=
  let arg1 : BitVec 32 := BitVec.ofNat 32 (i 1).val
  let c3_i32 : BitVec 32 := 3#32
  let v1 : BitVec 1 := Scalar.cmpi .eq arg1 c3_i32
  let v27 : BitVec 32 := Scalar.extui v1
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x960x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x960x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnReferenceIdeal.lean ====
abbrev S8192x512 : Shape := ⟨2, ![8192, 512]⟩
abbrev S8x15x31 : Shape := ⟨3, ![8, 15, 31]⟩
abbrev S8192x1024 : Shape := ⟨2, ![8192, 1024]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S8x15x64x64 : Shape := ⟨4, ![8, 15, 64, 64]⟩
abbrev S1x8192x512 : Shape := ⟨3, ![1, 8192, 512]⟩
abbrev S1x128x64x8x64 : Shape := ⟨5, ![1, 128, 64, 8, 64]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S1x128x8x64x8x64 : Shape := ⟨6, ![1, 128, 8, 64, 8, 64]⟩
abbrev S8x128x8x64x64 : Shape := ⟨5, ![8, 128, 8, 64, 64]⟩
abbrev S8x128x64x8x64 : Shape := ⟨5, ![8, 128, 64, 8, 64]⟩
abbrev S1x8x128x64x8x64 : Shape := ⟨6, ![1, 8, 128, 64, 8, 64]⟩
abbrev S64x1x64 : Shape := ⟨3, ![64, 1, 64]⟩
abbrev S1x8x128x64 : Shape := ⟨4, ![1, 8, 128, 64]⟩
abbrev S1x8x128x64x1x1 : Shape := ⟨6, ![1, 8, 128, 64, 1, 1]⟩
abbrev S1x128x8x64x64 : Shape := ⟨5, ![1, 128, 8, 64, 64]⟩
abbrev S8x128x64 : Shape := ⟨3, ![8, 128, 64]⟩
abbrev S1x8x128x8x64x64 : Shape := ⟨6, ![1, 8, 128, 8, 64, 64]⟩
abbrev S1x8x128x64x64 : Shape := ⟨5, ![1, 8, 128, 64, 64]⟩
abbrev S2x4x15x64x64 : Shape := ⟨5, ![2, 4, 15, 64, 64]⟩
abbrev S2x15x64x4x64 : Shape := ⟨5, ![2, 15, 64, 4, 64]⟩
abbrev S2x960x256 : Shape := ⟨3, ![2, 960, 256]⟩

abbrev nBuf : Space → Nat
  | .hbm => 231
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x15x31, .f32⟩
  | 4 => ⟨S8192x1024, .f32⟩
  | 5 => ⟨S64, .i32⟩
  | 6 => ⟨S1x64, .i32⟩
  | 7 => ⟨S64x1, .i32⟩
  | 8 => ⟨S64x64, .i32⟩
  | 9 => ⟨S64x64, .i32⟩
  | 10 => ⟨S64x64, .i32⟩
  | 11 => ⟨S_, .i32⟩
  | 12 => ⟨S_, .i32⟩
  | 13 => ⟨S_, .i32⟩
  | 14 => ⟨S64x64, .i32⟩
  | 15 => ⟨S64x64, .i32⟩
  | 16 => ⟨S_, .i32⟩
  | 17 => ⟨S64x64, .i32⟩
  | 18 => ⟨S64x64, .i32⟩
  | 19 => ⟨S_, .i32⟩
  | 20 => ⟨S64x64, .i32⟩
  | 21 => ⟨S64x64, .i32⟩
  | 22 => ⟨S_, .i32⟩
  | 23 => ⟨S64x64, .i32⟩
  | 24 => ⟨S64x64, .i1⟩
  | 25 => ⟨S_, .i32⟩
  | 26 => ⟨S64x64, .i32⟩
  | 27 => ⟨S64x64, .i32⟩
  | 28 => ⟨S64x64, .i32⟩
  | 29 => ⟨S64x64x1, .i32⟩
  | 30 => ⟨S8x15x64x64, .f32⟩
  | 31 => ⟨S1x8192x512, .f32⟩
  | 32 => ⟨S1x8192x512, .f32⟩
  | 33 => ⟨S1x8192x512, .f32⟩
  | 34 => ⟨S1x128x64x8x64, .f32⟩
  | 35 => ⟨S1x128x64x8x64, .f32⟩
  | 36 => ⟨S1x128x64x8x64, .f32⟩
  | 37 => ⟨S128, .i32⟩
  | 38 => ⟨S_, .i32⟩
  | 39 => ⟨S128, .i32⟩
  | 40 => ⟨S128, .i32⟩
  | 41 => ⟨S_, .i32⟩
  | 42 => ⟨S_, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128x1, .i32⟩
  | 50 => ⟨S8, .i32⟩
  | 51 => ⟨S1x8, .i32⟩
  | 52 => ⟨S128x8, .i32⟩
  | 53 => ⟨S128x8, .i32⟩
  | 54 => ⟨S128x8, .i32⟩
  | 55 => ⟨S_, .i32⟩
  | 56 => ⟨S128x8, .i32⟩
  | 57 => ⟨S128x8, .i1⟩
  | 58 => ⟨S_, .i32⟩
  | 59 => ⟨S128x8, .i32⟩
  | 60 => ⟨S128x8, .i32⟩
  | 61 => ⟨S128x8, .i32⟩
  | 62 => ⟨S128x8x1, .i32⟩
  | 63 => ⟨S1x128x8x64x8x64, .f32⟩
  | 64 => ⟨S_, .i32⟩
  | 65 => ⟨S128x8, .i32⟩
  | 66 => ⟨S128x8, .i1⟩
  | 67 => ⟨S_, .i32⟩
  | 68 => ⟨S128x8, .i32⟩
  | 69 => ⟨S128x8, .i32⟩
  | 70 => ⟨S128x8, .i32⟩
  | 71 => ⟨S128x8x1, .i32⟩
  | 72 => ⟨S1x128x8x64x8x64, .f32⟩
  | 73 => ⟨S64, .i32⟩
  | 74 => ⟨S_, .i32⟩
  | 75 => ⟨S64, .i32⟩
  | 76 => ⟨S64, .i32⟩
  | 77 => ⟨S_, .i32⟩
  | 78 => ⟨S_, .i32⟩
  | 79 => ⟨S_, .i32⟩
  | 80 => ⟨S64, .i32⟩
  | 81 => ⟨S64, .i32⟩
  | 82 => ⟨S_, .i32⟩
  | 83 => ⟨S64, .i32⟩
  | 84 => ⟨S64, .i32⟩
  | 85 => ⟨S1x64, .i32⟩
  | 86 => ⟨S64x1, .i32⟩
  | 87 => ⟨S64x64, .i32⟩
  | 88 => ⟨S64x64, .i32⟩
  | 89 => ⟨S64x64, .i1⟩
  | 90 => ⟨S1x64, .i32⟩
  | 91 => ⟨S64x1, .i32⟩
  | 92 => ⟨S_, .i32⟩
  | 93 => ⟨S64x1, .i32⟩
  | 94 => ⟨S64x1, .i32⟩
  | 95 => ⟨S64x64, .i32⟩
  | 96 => ⟨S64x64, .i32⟩
  | 97 => ⟨S64x64, .i1⟩
  | 98 => ⟨S64x64, .i1⟩
  | 99 => ⟨S128x1, .i32⟩
  | 100 => ⟨S128x8, .i32⟩
  | 101 => ⟨S128x8, .i32⟩
  | 102 => ⟨S_, .i32⟩
  | 103 => ⟨S128x8, .i32⟩
  | 104 => ⟨S128x8, .i32⟩
  | 105 => ⟨S_, .i32⟩
  | 106 => ⟨S128x8, .i32⟩
  | 107 => ⟨S128x8, .i1⟩
  | 108 => ⟨S_, .i32⟩
  | 109 => ⟨S128x8, .i32⟩
  | 110 => ⟨S128x8, .i32⟩
  | 111 => ⟨S128x8, .i32⟩
  | 112 => ⟨S128x8x1, .i32⟩
  | 113 => ⟨S8x128x8x64x64, .f32⟩
  | 114 => ⟨S8x128x64x8x64, .f32⟩
  | 115 => ⟨S1x8x128x64x8x64, .f32⟩
  | 116 => ⟨S_, .f32⟩
  | 117 => ⟨S1x8x128x64x8x64, .f32⟩
  | 118 => ⟨S1x8x128x64x8x64, .f32⟩
  | 119 => ⟨S1x8x128x64x8x64, .f32⟩
  | 120 => ⟨S1x8x128x64x8x64, .f32⟩
  | 121 => ⟨S64x1x64, .i1⟩
  | 122 => ⟨S_, .f32⟩
  | 123 => ⟨S_, .f32⟩
  | 124 => ⟨S1x8x128x64x8x64, .i1⟩
  | 125 => ⟨S1x8x128x64x8x64, .f32⟩
  | 126 => ⟨S1x8x128x64x8x64, .f32⟩
  | 127 => ⟨S_, .f32⟩
  | _ => ⟨S8192x512, .f32⟩

abbrev hbmTy0_1 (i : Nat) : BufTy := match i % 128 with
  | 0 => ⟨S1x8x128x64x8x64, .f32⟩
  | 1 => ⟨S_, .f32⟩
  | 2 => ⟨S1x8x128x64, .f32⟩
  | 3 => ⟨S1x8x128x64x1x1, .f32⟩
  | 4 => ⟨S1x8x128x64x8x64, .f32⟩
  | 5 => ⟨S1x8x128x64x8x64, .i1⟩
  | 6 => ⟨S1x8x128x64x8x64, .f32⟩
  | 7 => ⟨S_, .f32⟩
  | 8 => ⟨S1x8x128x64, .f32⟩
  | 9 => ⟨S_, .f32⟩
  | 10 => ⟨S1x8x128x64, .f32⟩
  | 11 => ⟨S1x8x128x64, .f32⟩
  | 12 => ⟨S_, .f32⟩
  | 13 => ⟨S1x8x128x64, .f32⟩
  | 14 => ⟨S1x8x128x64, .i1⟩
  | 15 => ⟨S_, .f32⟩
  | 16 => ⟨S1x8x128x64, .f32⟩
  | 17 => ⟨S1x8x128x64, .i1⟩
  | 18 => ⟨S_, .f32⟩
  | 19 => ⟨S1x8x128x64, .f32⟩
  | 20 => ⟨S_, .f32⟩
  | 21 => ⟨S1x8x128x64, .f32⟩
  | 22 => ⟨S_, .f32⟩
  | 23 => ⟨S1x8x128x64, .f32⟩
  | 24 => ⟨S1x8x128x64, .f32⟩
  | 25 => ⟨S1x8x128x64, .f32⟩
  | 26 => ⟨S1x8x128x64x1x1, .f32⟩
  | 27 => ⟨S1x8x128x64x8x64, .f32⟩
  | 28 => ⟨S1x8x128x64x8x64, .f32⟩
  | 29 => ⟨S1x8x128x64x8x64, .f32⟩
  | 30 => ⟨S_, .f32⟩
  | 31 => ⟨S1x8x128x64, .f32⟩
  | 32 => ⟨S1x8x128x64x1x1, .f32⟩
  | 33 => ⟨S1x8x128x64x8x64, .f32⟩
  | 34 => ⟨S1x8x128x64x8x64, .f32⟩
  | 35 => ⟨S1x8x128x64x1x1, .f32⟩
  | 36 => ⟨S_, .f32⟩
  | 37 => ⟨S1x8x128x64x1x1, .f32⟩
  | 38 => ⟨S1x8x128x64x1x1, .f32⟩
  | 39 => ⟨S1x128x8x64x64, .f32⟩
  | 40 => ⟨S1x128x64x8x64, .f32⟩
  | 41 => ⟨S1x8192x512, .f32⟩
  | 42 => ⟨S8192x512, .f32⟩
  | 43 => ⟨S8192x512, .f32⟩
  | 44 => ⟨S1x8192x512, .f32⟩
  | 45 => ⟨S1x128x64x8x64, .f32⟩
  | 46 => ⟨S1x128x8x64x64, .f32⟩
  | 47 => ⟨S1x128x8x64x8x64, .f32⟩
  | 48 => ⟨S1x8x128x64x8x64, .f32⟩
  | 49 => ⟨S1x128x8x64x8x64, .f32⟩
  | 50 => ⟨S1x128x8x64x8x64, .f32⟩
  | 51 => ⟨S1x8x128x64x8x64, .f32⟩
  | 52 => ⟨S1x8x128x64x8x64, .f32⟩
  | 53 => ⟨S1x8x128x64x8x64, .f32⟩
  | 54 => ⟨S_, .f32⟩
  | 55 => ⟨S1x8x128x64, .f32⟩
  | 56 => ⟨S1x8x128x64x1x1, .f32⟩
  | 57 => ⟨S1x8x128x64x1x1, .f32⟩
  | 58 => ⟨S1x8x128x64x8x64, .f32⟩
  | 59 => ⟨S1x8x128x64x8x64, .f32⟩
  | 60 => ⟨S_, .f32⟩
  | 61 => ⟨S8x128x64, .f32⟩
  | 62 => ⟨S1x8x128x64, .f32⟩
  | 63 => ⟨S1x8x128x64x8x64, .f32⟩
  | 64 => ⟨S1x8x128x64x8x64, .f32⟩
  | 65 => ⟨S1x8x128x64x8x64, .f32⟩
  | 66 => ⟨S_, .f32⟩
  | 67 => ⟨S1x8x128x64x8x64, .f32⟩
  | 68 => ⟨S1x8x128x64x8x64, .f32⟩
  | 69 => ⟨S_, .f32⟩
  | 70 => ⟨S8x128x64x8x64, .f32⟩
  | 71 => ⟨S_, .f32⟩
  | 72 => ⟨S1x8x128x64x8x64, .f32⟩
  | 73 => ⟨S1x8x128x64x8x64, .f32⟩
  | 74 => ⟨S1x8x128x8x64x64, .f32⟩
  | 75 => ⟨S1x128x8x64x8x64, .f32⟩
  | 76 => ⟨S1x8x128x64x64, .f32⟩
  | 77 => ⟨S1x128x64x8x64, .f32⟩
  | 78 => ⟨S8x128x8x64x64, .f32⟩
  | 79 => ⟨S_, .f32⟩
  | 80 => ⟨S8x15x64x64, .f32⟩
  | 81 => ⟨S8x15x64x64, .f32⟩
  | 82 => ⟨S_, .f32⟩
  | 83 => ⟨S1x128x64x8x64, .f32⟩
  | 84 => ⟨S1x128x64x8x64, .f32⟩
  | 85 => ⟨S_, .f32⟩
  | 86 => ⟨S1x128x64x8x64, .f32⟩
  | 87 => ⟨S1x128x64x8x64, .f32⟩
  | 88 => ⟨S1x8192x512, .f32⟩
  | 89 => ⟨S1x8192x512, .f32⟩
  | 90 => ⟨S1x8192x512, .f32⟩
  | 91 => ⟨S_, .f32⟩
  | 92 => ⟨S8192x512, .f32⟩
  | 93 => ⟨S_, .f32⟩
  | 94 => ⟨S8192x512, .f32⟩
  | 95 => ⟨S_, .f32⟩
  | 96 => ⟨S8192x512, .f32⟩
  | 97 => ⟨S2x4x15x64x64, .f32⟩
  | 98 => ⟨S2x15x64x4x64, .f32⟩
  | 99 => ⟨S8192x512, .bf16⟩
  | 100 => ⟨S8192x512, .bf16⟩
  | 101 => ⟨S8192x512, .bf16⟩
  | 102 => ⟨S2x960x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_c_13 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_15 : Ref sig .tc := ⟨.hbm, 102, rfl⟩
abbrev main_v66 : Ref sig .tc := ⟨.hbm, 103, rfl⟩
abbrev main_v67 : Ref sig .tc := ⟨.hbm, 104, rfl⟩
abbrev main_c_16 : Ref sig .tc := ⟨.hbm, 105, rfl⟩
abbrev main_v68 : Ref sig .tc := ⟨.hbm, 106, rfl⟩
abbrev main_v69 : Ref sig .tc := ⟨.hbm, 107, rfl⟩
abbrev main_c_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_18 : Ref sig .tc := ⟨.hbm, 122, rfl⟩
abbrev main_call3_v0 : Ref sig .tc := ⟨.hbm, 123, rfl⟩
abbrev main_v82_1 : Ref sig .tc := ⟨.hbm, 124, rfl⟩
abbrev main_call3_v2 : Ref sig .tc := ⟨.hbm, 125, rfl⟩
abbrev main_v82_0 : Ref sig .tc := ⟨.hbm, 126, rfl⟩
abbrev main_call3_cst : Ref sig .tc := ⟨.hbm, 127, rfl⟩
abbrev main_v82_2 : Ref sig .tc := ⟨.hbm, 128, rfl⟩
abbrev main_cst_19 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_cst_21 : Ref sig .tc := ⟨.hbm, 137, rfl⟩
abbrev main_v89 : Ref sig .tc := ⟨.hbm, 138, rfl⟩
abbrev main_v90 : Ref sig .tc := ⟨.hbm, 139, rfl⟩
abbrev main_cst_22 : Ref sig .tc := ⟨.hbm, 140, rfl⟩
abbrev main_v91 : Ref sig .tc := ⟨.hbm, 141, rfl⟩
abbrev main_v92 : Ref sig .tc := ⟨.hbm, 142, rfl⟩
abbrev main_cst_23 : Ref sig .tc := ⟨.hbm, 143, rfl⟩
abbrev main_v93 : Ref sig .tc := ⟨.hbm, 144, rfl⟩
abbrev main_v94 : Ref sig .tc := ⟨.hbm, 145, rfl⟩
abbrev main_cst_24 : Ref sig .tc := ⟨.hbm, 146, rfl⟩
abbrev main_v95 : Ref sig .tc := ⟨.hbm, 147, rfl⟩
abbrev main_cst_25 : Ref sig .tc := ⟨.hbm, 148, rfl⟩
abbrev main_v96 : Ref sig .tc := ⟨.hbm, 149, rfl⟩
abbrev main_cst_26 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_27 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_28 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_29 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_30 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_call4_cst : Ref sig .tc := ⟨.hbm, 194, rfl⟩
abbrev main_call4_v0 : Ref sig .tc := ⟨.hbm, 195, rfl⟩
abbrev main_v136 : Ref sig .tc := ⟨.hbm, 196, rfl⟩
abbrev main_cst_31 : Ref sig .tc := ⟨.hbm, 197, rfl⟩
abbrev main_v137 : Ref sig .tc := ⟨.hbm, 198, rfl⟩
abbrev main_cst_32 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_33 : Ref sig .tc := ⟨.hbm, 207, rfl⟩
abbrev main_v145 : Ref sig .tc := ⟨.hbm, 208, rfl⟩
abbrev main_v146 : Ref sig .tc := ⟨.hbm, 209, rfl⟩
abbrev main_cst_34 : Ref sig .tc := ⟨.hbm, 210, rfl⟩
abbrev main_v147 : Ref sig .tc := ⟨.hbm, 211, rfl⟩
abbrev main_v148 : Ref sig .tc := ⟨.hbm, 212, rfl⟩
abbrev main_cst_35 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_cst_36 : Ref sig .tc := ⟨.hbm, 219, rfl⟩
abbrev main_v154 : Ref sig .tc := ⟨.hbm, 220, rfl⟩
abbrev main_cst_37 : Ref sig .tc := ⟨.hbm, 221, rfl⟩
abbrev main_v155 : Ref sig .tc := ⟨.hbm, 222, rfl⟩
abbrev main_cst_38 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩

abbrev nD : Nat := 1
abbrev τ : Topo := Topo.v7x

variable {F : FTy → Type} [FloatOps F]
-- ==== BiasKernel.lean ====
abbrev S2x960x256 : Shape := ⟨3, ![2, 960, 256]⟩
abbrev S30x16384 : Shape := ⟨2, ![30, 16384]⟩
abbrev S64x4x64x4x32 : Shape := ⟨5, ![64, 4, 64, 4, 32]⟩
abbrev S_ : Shape := ⟨0, ![]⟩
abbrev S16384x128 : Shape := ⟨2, ![16384, 128]⟩
abbrev S30x128 : Shape := ⟨2, ![30, 128]⟩

abbrev nBuf : Space → Nat
  | .hbm => 26
  | .vmem => 3
  | .smem => 0
  | _ => 0

abbrev bufTy : (tb : Table) → Fin (tcTables nBuf tb) → BufTy
  | .hbm, ⟨0, _⟩ => ⟨S2x960x256, .f32⟩
  | .hbm, ⟨1, _⟩ => ⟨S30x16384, .f32⟩
  | .hbm, ⟨2, _⟩ => ⟨S64x4x64x4x32, .i32⟩
  | .hbm, ⟨3, _⟩ => ⟨S64x4x64x4x32, .i32⟩
  | .hbm, ⟨4, _⟩ => ⟨S64x4x64x4x32, .i32⟩
  | .hbm, ⟨5, _⟩ => ⟨S64x4x64x4x32, .i32⟩
  | .hbm, ⟨6, _⟩ => ⟨S64x4x64x4x32, .i32⟩
  | .hbm, ⟨7, _⟩ => ⟨S64x4x64x4x32, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64x4x64x4x32, .i32⟩
  | .hbm, ⟨12, _⟩ => ⟨S64x4x64x4x32, .i32⟩
  | .hbm, ⟨13, _⟩ => ⟨S_, .i32⟩
  | .hbm, ⟨14, _⟩ => ⟨S64x4x64x4x32, .i32⟩
  | .hbm, ⟨15, _⟩ => ⟨S64x4x64x4x32, .i32⟩
  | .hbm, ⟨16, _⟩ => ⟨S_, .i32⟩
  | .hbm, ⟨17, _⟩ => ⟨S64x4x64x4x32, .i32⟩
  | .hbm, ⟨18, _⟩ => ⟨S64x4x64x4x32, .i32⟩
  | .hbm, ⟨19, _⟩ => ⟨S64x4x64x4x32, .i1⟩
  | .hbm, ⟨20, _⟩ => ⟨S64x4x64x4x32, .i1⟩
  | .hbm, ⟨21, _⟩ => ⟨S64x4x64x4x32, .i1⟩
  | .hbm, ⟨22, _⟩ => ⟨S64x4x64x4x32, .f32⟩
  | .hbm, ⟨23, _⟩ => ⟨S16384x128, .f32⟩
  | .hbm, ⟨24, _⟩ => ⟨S16384x128, .bf16⟩
  | .hbm, ⟨25, _⟩ => ⟨S30x128, .f32⟩
  | .local _ .vmem, ⟨0, _⟩ => ⟨S30x16384, .f32⟩
  | .local _ .vmem, ⟨1, _⟩ => ⟨S16384x128, .bf16⟩
  | .local _ .vmem, ⟨2, _⟩ => ⟨S30x128, .f32⟩
  | _, _ => ⟨S2x960x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S30x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasReferenceIdeal.lean ====
abbrev S2x960x256 : Shape := ⟨3, ![2, 960, 256]⟩
abbrev S2x15x64x4x64 : Shape := ⟨5, ![2, 15, 64, 4, 64]⟩
abbrev S2x4x15x64x64 : Shape := ⟨5, ![2, 4, 15, 64, 64]⟩
abbrev S8x15x64x64 : Shape := ⟨4, ![8, 15, 64, 64]⟩
abbrev S_ : Shape := ⟨0, ![]⟩
abbrev S8x15x31 : Shape := ⟨3, ![8, 15, 31]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S2x4x15x31 : Shape := ⟨4, ![2, 4, 15, 31]⟩
abbrev S2x15x4x31 : Shape := ⟨4, ![2, 15, 4, 31]⟩
abbrev S2x15x4x1 : Shape := ⟨4, ![2, 15, 4, 1]⟩
abbrev S2x15x4x32 : Shape := ⟨4, ![2, 15, 4, 32]⟩
abbrev S30x128 : Shape := ⟨2, ![30, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x960x256, .f32⟩
  | .hbm, ⟨1, _⟩ => ⟨S2x15x64x4x64, .f32⟩
  | .hbm, ⟨2, _⟩ => ⟨S2x4x15x64x64, .f32⟩
  | .hbm, ⟨3, _⟩ => ⟨S8x15x64x64, .f32⟩
  | .hbm, ⟨4, _⟩ => ⟨S_, .f32⟩
  | .hbm, ⟨5, _⟩ => ⟨S8x15x31, .f32⟩
  | .hbm, ⟨6, _⟩ => ⟨S64, .i32⟩
  | .hbm, ⟨7, _⟩ => ⟨S1x64, .i32⟩
  | .hbm, ⟨8, _⟩ => ⟨S64x1, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i1⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64x1, .i32⟩
  | .hbm, ⟨31, _⟩ => ⟨S8x15x64x64, .f32⟩
  | .hbm, ⟨32, _⟩ => ⟨S_, .f32⟩
  | .hbm, ⟨33, _⟩ => ⟨S8x15x31, .f32⟩
  | .hbm, ⟨34, _⟩ => ⟨S8x15x31, .f32⟩
  | .hbm, ⟨35, _⟩ => ⟨S2x4x15x31, .f32⟩
  | .hbm, ⟨36, _⟩ => ⟨S2x15x4x31, .f32⟩
  | .hbm, ⟨37, _⟩ => ⟨S_, .f32⟩
  | .hbm, ⟨38, _⟩ => ⟨S2x15x4x1, .f32⟩
  | .hbm, ⟨39, _⟩ => ⟨S2x15x4x32, .f32⟩
  | .hbm, ⟨40, _⟩ => ⟨S30x128, .f32⟩
  | _, _ => ⟨S2x960x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== MixoutKernel.lean ====
abbrev S8192x1024 : Shape := ⟨2, ![8192, 1024]⟩
abbrev S1024x1024 : Shape := ⟨2, ![1024, 1024]⟩
abbrev S1024 : Shape := ⟨1, ![1024]⟩
abbrev S4x256x1024 : Shape := ⟨3, ![4, 256, 1024]⟩
abbrev S_ : Shape := ⟨0, ![]⟩
abbrev S8192x256 : Shape := ⟨2, ![8192, 256]⟩
abbrev S1x256x1024 : Shape := ⟨3, ![1, 256, 1024]⟩
abbrev S256x1024 : Shape := ⟨2, ![256, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 37
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S1024x1024, .bf16⟩
  | .hbm, ⟨7, _⟩ => ⟨S4x256x1024, .bf16⟩
  | .hbm, ⟨8, _⟩ => ⟨S8192x1024, .bf16⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x256, .bf16⟩
  | .hbm, ⟨13, _⟩ => ⟨S1x256x1024, .bf16⟩
  | .hbm, ⟨14, _⟩ => ⟨S256x1024, .bf16⟩
  | .hbm, ⟨15, _⟩ => ⟨S8192x1024, .f32⟩
  | .hbm, ⟨16, _⟩ => ⟨S8192x256, .bf16⟩
  | .hbm, ⟨17, _⟩ => ⟨S1x256x1024, .bf16⟩
  | .hbm, ⟨18, _⟩ => ⟨S256x1024, .bf16⟩
  | .hbm, ⟨19, _⟩ => ⟨S8192x1024, .f32⟩
  | .hbm, ⟨20, _⟩ => ⟨S8192x1024, .f32⟩
  | .hbm, ⟨21, _⟩ => ⟨S8192x256, .bf16⟩
  | .hbm, ⟨22, _⟩ => ⟨S1x256x1024, .bf16⟩
  | .hbm, ⟨23, _⟩ => ⟨S256x1024, .bf16⟩
  | .hbm, ⟨24, _⟩ => ⟨S8192x1024, .f32⟩
  | .hbm, ⟨25, _⟩ => ⟨S8192x1024, .f32⟩
  | .hbm, ⟨26, _⟩ => ⟨S8192x256, .bf16⟩
  | .hbm, ⟨27, _⟩ => ⟨S1x256x1024, .bf16⟩
  | .hbm, ⟨28, _⟩ => ⟨S256x1024, .bf16⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .bf16⟩
  | .hbm, ⟨35, _⟩ => ⟨S8192x1024, .f32⟩
  | .hbm, ⟨36, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixoutReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S6x1024, .f32⟩
  | .hbm, ⟨100, _⟩ => ⟨S8x1024, .f32⟩
  | .hbm, ⟨101, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_19 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== FfnKernel.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S_ : Shape := ⟨0, ![]⟩
abbrev S1x1024x704 : Shape := ⟨3, ![1, 1024, 704]⟩
abbrev S1024x704 : Shape := ⟨2, ![1024, 704]⟩
abbrev S8192x704 : Shape := ⟨2, ![8192, 704]⟩
abbrev S1x704x1024 : Shape := ⟨3, ![1, 704, 1024]⟩
abbrev S704x1024 : Shape := ⟨2, ![704, 1024]⟩
abbrev S1x8192x704 : Shape := ⟨3, ![1, 8192, 704]⟩
abbrev S4x8192x704 : Shape := ⟨3, ![4, 8192, 704]⟩
abbrev S1x1024 : Shape := ⟨2, ![1, 1024]⟩
abbrev S8x1024 : Shape := ⟨2, ![8, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S256x704 : Shape := ⟨2, ![256, 704]⟩
abbrev S1x256x704 : Shape := ⟨3, ![1, 256, 704]⟩

abbrev nBuf : Space → Nat
  | .hbm => 134
  | .vmem => 26
  | .smem => 0
  | _ => 0

abbrev hbmTy0_0 (i : Nat) : BufTy := match i % 128 with
  | 0 => ⟨S8192x1024, .f32⟩
  | 1 => ⟨S1024x2816, .f32⟩
  | 2 => ⟨S1024x2816, .f32⟩
  | 3 => ⟨S2816x1024, .f32⟩
  | 4 => ⟨S1024, .f32⟩
  | 5 => ⟨S1024, .f32⟩
  | 6 => ⟨S8192x1024, .f32⟩
  | 7 => ⟨S1024x2816, .bf16⟩
  | 8 => ⟨S1024x4x704, .bf16⟩
  | 9 => ⟨S4x1024x704, .bf16⟩
  | 10 => ⟨S1024x2816, .bf16⟩
  | 11 => ⟨S1024x4x704, .bf16⟩
  | 12 => ⟨S4x1024x704, .bf16⟩
  | 13 => ⟨S2816x1024, .bf16⟩
  | 14 => ⟨S4x704x1024, .bf16⟩
  | 15 => ⟨S8192x1024, .bf16⟩
  | 16 => ⟨S_, .f32⟩
  | 17 => ⟨S8192x1024, .f32⟩
  | 18 => ⟨S1x1024x704, .bf16⟩
  | 19 => ⟨S1024x704, .bf16⟩
  | 20 => ⟨S8192x704, .f32⟩
  | 21 => ⟨S1x1024x704, .bf16⟩
  | 22 => ⟨S1024x704, .bf16⟩
  | 23 => ⟨S8192x704, .f32⟩
  | 24 => ⟨S8192x704, .bf16⟩
  | 25 => ⟨S8192x704, .bf16⟩
  | 26 => ⟨S8192x704, .f32⟩
  | 27 => ⟨S8192x704, .f32⟩
  | 28 => ⟨S_, .f32⟩
  | 29 => ⟨S8192x704, .f32⟩
  | 30 => ⟨S8192x704, .f32⟩
  | 31 => ⟨S_, .f32⟩
  | 32 => ⟨S8192x704, .f32⟩
  | 33 => ⟨S8192x704, .f32⟩
  | 34 => ⟨S8192x704, .f32⟩
  | 35 => ⟨S8192x704, .f32⟩
  | 36 => ⟨S8192x704, .bf16⟩
  | 37 => ⟨S1x704x1024, .bf16⟩
  | 38 => ⟨S704x1024, .bf16⟩
  | 39 => ⟨S8192x1024, .f32⟩
  | 40 => ⟨S8192x1024, .f32⟩
  | 41 => ⟨S1x1024x704, .bf16⟩
  | 42 => ⟨S1024x704, .bf16⟩
  | 43 => ⟨S8192x704, .f32⟩
  | 44 => ⟨S1x1024x704, .bf16⟩
  | 45 => ⟨S1024x704, .bf16⟩
  | 46 => ⟨S8192x704, .f32⟩
  | 47 => ⟨S8192x704, .bf16⟩
  | 48 => ⟨S8192x704, .bf16⟩
  | 49 => ⟨S8192x704, .f32⟩
  | 50 => ⟨S8192x704, .f32⟩
  | 51 => ⟨S_, .f32⟩
  | 52 => ⟨S8192x704, .f32⟩
  | 53 => ⟨S8192x704, .f32⟩
  | 54 => ⟨S_, .f32⟩
  | 55 => ⟨S8192x704, .f32⟩
  | 56 => ⟨S8192x704, .f32⟩
  | 57 => ⟨S8192x704, .f32⟩
  | 58 => ⟨S8192x704, .f32⟩
  | 59 => ⟨S8192x704, .bf16⟩
  | 60 => ⟨S1x704x1024, .bf16⟩
  | 61 => ⟨S704x1024, .bf16⟩
  | 62 => ⟨S8192x1024, .f32⟩
  | 63 => ⟨S8192x1024, .f32⟩
  | 64 => ⟨S1x1024x704, .bf16⟩
  | 65 => ⟨S1024x704, .bf16⟩
  | 66 => ⟨S8192x704, .f32⟩
  | 67 => ⟨S1x1024x704, .bf16⟩
  | 68 => ⟨S1024x704, .bf16⟩
  | 69 => ⟨S8192x704, .f32⟩
  | 70 => ⟨S8192x704, .bf16⟩
  | 71 => ⟨S8192x704, .bf16⟩
  | 72 => ⟨S8192x704, .f32⟩
  | 73 => ⟨S8192x704, .f32⟩
  | 74 => ⟨S_, .f32⟩
  | 75 => ⟨S8192x704, .f32⟩
  | 76 => ⟨S8192x704, .f32⟩
  | 77 => ⟨S_, .f32⟩
  | 78 => ⟨S8192x704, .f32⟩
  | 79 => ⟨S8192x704, .f32⟩
  | 80 => ⟨S8192x704, .f32⟩
  | 81 => ⟨S8192x704, .f32⟩
  | 82 => ⟨S8192x704, .bf16⟩
  | 83 => ⟨S1x704x1024, .bf16⟩
  | 84 => ⟨S704x1024, .bf16⟩
  | 85 => ⟨S8192x1024, .f32⟩
  | 86 => ⟨S8192x1024, .f32⟩
  | 87 => ⟨S1x1024x704, .bf16⟩
  | 88 => ⟨S1024x704, .bf16⟩
  | 89 => ⟨S8192x704, .f32⟩
  | 90 => ⟨S1x1024x704, .bf16⟩
  | 91 => ⟨S1024x704, .bf16⟩
  | 92 => ⟨S8192x704, .f32⟩
  | 93 => ⟨S8192x704, .bf16⟩
  | 94 => ⟨S8192x704, .bf16⟩
  | 95 => ⟨S8192x704, .f32⟩
  | 96 => ⟨S8192x704, .f32⟩
  | 97 => ⟨S_, .f32⟩
  | 98 => ⟨S8192x704, .f32⟩
  | 99 => ⟨S8192x704, .f32⟩
  | 100 => ⟨S_, .f32⟩
  | 101 => ⟨S8192x704, .f32⟩
  | 102 => ⟨S8192x704, .f32⟩
  | 103 => ⟨S8192x704, .f32⟩
  | 104 => ⟨S8192x704, .f32⟩
  | 105 => ⟨S8192x704, .bf16⟩
  | 106 => ⟨S1x704x1024, .bf16⟩
  | 107 => ⟨S704x1024, .bf16⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S1x8192x704, .bf16⟩
  | 118 => ⟨S1x8192x704, .bf16⟩
  | 119 => ⟨S1x8192x704, .bf16⟩
  | 120 => ⟨S1x8192x704, .bf16⟩
  | 121 => ⟨S4x8192x704, .bf16⟩
  | 122 => ⟨S1x8192x704, .bf16⟩
  | 123 => ⟨S1x8192x704, .bf16⟩
  | 124 => ⟨S1x8192x704, .bf16⟩
  | 125 => ⟨S1x8192x704, .bf16⟩
  | 126 => ⟨S4x8192x704, .bf16⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .bf16⟩
  | 2 => ⟨S4x8192x704, .bf16⟩
  | 3 => ⟨S4x8192x704, .bf16⟩
  | 4 => ⟨S4x8192x704, .bf16⟩
  | 5 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S4x1024x704, .bf16⟩
  | .local _ .vmem, ⟨11, _⟩ => ⟨S4x1024x704, .bf16⟩
  | .local _ .vmem, ⟨12, _⟩ => ⟨S4x704x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S4x256x704, .bf16⟩
  | .local _ .vmem, ⟨23, _⟩ => ⟨S4x256x704, .bf16⟩
  | .local _ .vmem, ⟨24, _⟩ => ⟨S8x1024, .f32⟩
  | .local _ .vmem, ⟨25, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_4 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_6 : Ref sig .tc := ⟨.hbm, 97, rfl⟩
abbrev main_v83 : Ref sig .tc := ⟨.hbm, 98, rfl⟩
abbrev main_v84 : Ref sig .tc := ⟨.hbm, 99, rfl⟩
abbrev main_cst_7 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_8 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110_0 : Ref sig .tc := ⟨.hbm, 128, rfl⟩
abbrev main_v110_1 : Ref sig .tc := ⟨.hbm, 129, rfl⟩
abbrev main_v110_2 : Ref sig .tc := ⟨.hbm, 130, rfl⟩
abbrev main_v110_3 : Ref sig .tc := ⟨.hbm, 131, rfl⟩
abbrev main_v110_4 : Ref sig .tc := ⟨.hbm, 132, rfl⟩
abbrev main_v110_5 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnReferenceIdeal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S6x1024 : Shape := ⟨2, ![6, 1024]⟩
abbrev S8x1024 : Shape := ⟨2, ![8, 1024]⟩
abbrev S8192x4x704 : Shape := ⟨3, ![8192, 4, 704]⟩
abbrev S4x8192x704 : Shape := ⟨3, ![4, 8192, 704]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S1024x2816, .f32⟩
  | 2 => ⟨S1024x2816, .f32⟩
  | 3 => ⟨S2816x1024, .f32⟩
  | 4 => ⟨S1024, .f32⟩
  | 5 => ⟨S1024, .f32⟩
  | 6 => ⟨S8192x1024, .f32⟩
  | 7 => ⟨S8192x2816, .f32⟩
  | 8 => ⟨S8192x2816, .f32⟩
  | 9 => ⟨S8192x2816, .f32⟩
  | 10 => ⟨S8192x2816, .f32⟩
  | 11 => ⟨S_, .f32⟩
  | 12 => ⟨S8192x2816, .f32⟩
  | 13 => ⟨S8192x2816, .f32⟩
  | 14 => ⟨S_, .f32⟩
  | 15 => ⟨S8192x2816, .f32⟩
  | 16 => ⟨S8192x2816, .f32⟩
  | 17 => ⟨S_, .f32⟩
  | 18 => ⟨S8192x2816, .f32⟩
  | 19 => ⟨S8192x2816, .f32⟩
  | 20 => ⟨S8192x2816, .f32⟩
  | 21 => ⟨S8192x2816, .f32⟩
  | 22 => ⟨S8192x2816, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S8192x1024, .f32⟩
  | 82 => ⟨S_, .f32⟩
  | 83 => ⟨S8192, .f32⟩
  | 84 => ⟨S8192x1, .f32⟩
  | 85 => ⟨S8192x1024, .f32⟩
  | 86 => ⟨S8192x1024, .f32⟩
  | 87 => ⟨S8192x1, .f32⟩
  | 88 => ⟨S8192x1024, .f32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S8192x2816, .f32⟩
  | 124 => ⟨S8192x2816, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S1x1024, .f32⟩
  | 2 => ⟨S1x1024, .f32⟩
  | 3 => ⟨S_, .f32⟩
  | 4 => ⟨S6x1024, .f32⟩
  | 5 => ⟨S8x1024, .f32⟩
  | 6 => ⟨S8192x1024, .bf16⟩
  | 7 => ⟨S8192x4x704, .f32⟩
  | 8 => ⟨S4x8192x704, .f32⟩
  | 9 => ⟨S4x8192x704, .bf16⟩
  | 10 => ⟨S8192x4x704, .f32⟩
  | 11 => ⟨S4x8192x704, .f32⟩
  | 12 => ⟨S4x8192x704, .bf16⟩
  | 13 => ⟨S8192x4x704, .f32⟩
  | 14 => ⟨S4x8192x704, .f32⟩
  | 15 => ⟨S4x8192x704, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v2_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v2_1 : Ref sig .tc := ⟨.hbm, 20, rfl⟩
abbrev main_v2_0 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_17 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_19 : Ref sig .tc := ⟨.hbm, 112, rfl⟩
abbrev main_v73 : Ref sig .tc := ⟨.hbm, 113, rfl⟩
abbrev main_v74 : Ref sig .tc := ⟨.hbm, 114, rfl⟩
abbrev main_cst_20 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_21 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩

abbrev nD : Nat := 1
abbrev τ : Topo := Topo.v7x

variable {F : FTy → Type} [FloatOps F]
-- ==== MixoutFwdKernel.lean ====
abbrev S8192x1024 : Shape := ⟨2, ![8192, 1024]⟩
abbrev S1024x1024 : Shape := ⟨2, ![1024, 1024]⟩
abbrev S1024 : Shape := ⟨1, ![1024]⟩
abbrev S4x256x1024 : Shape := ⟨3, ![4, 256, 1024]⟩
abbrev S8192x512 : Shape := ⟨2, ![8192, 512]⟩
abbrev S1x1024 : Shape := ⟨2, ![1, 1024]⟩
abbrev S512x512 : Shape := ⟨2, ![512, 512]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S4x256x1024, .bf16⟩
  | .hbm, ⟨7, _⟩ => ⟨S8192x1024, .bf16⟩
  | .hbm, ⟨8, _⟩ => ⟨S8192x512, .bf16⟩
  | .hbm, ⟨9, _⟩ => ⟨S8192x512, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S4x256x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixoutFwdReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== FfnFwdKernel.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S1x1024 : Shape := ⟨2, ![1, 1024]⟩
abbrev S4x8192x704 : Shape := ⟨3, ![4, 8192, 704]⟩
abbrev S512x1024 : Shape := ⟨2, ![512, 1024]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x4x704, .bf16⟩
  | .hbm, ⟨8, _⟩ => ⟨S4x1024x704, .bf16⟩
  | .hbm, ⟨9, _⟩ => ⟨S1024x2816, .bf16⟩
  | .hbm, ⟨10, _⟩ => ⟨S1024x4x704, .bf16⟩
  | .hbm, ⟨11, _⟩ => ⟨S4x1024x704, .bf16⟩
  | .hbm, ⟨12, _⟩ => ⟨S2816x1024, .bf16⟩
  | .hbm, ⟨13, _⟩ => ⟨S4x704x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S4x8192x704, .bf16⟩
  | .hbm, ⟨20, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S4x1024x704, .bf16⟩
  | .local _ .vmem, ⟨3, _⟩ => ⟨S4x1024x704, .bf16⟩
  | .local _ .vmem, ⟨4, _⟩ => ⟨S4x704x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnFwdReferenceIdeal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x704 : Shape := ⟨3, ![8192, 4, 704]⟩
abbrev S4x8192x704 : Shape := ⟨3, ![4, 8192, 704]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S8192x4x704, .f32⟩
  | .hbm, ⟨57, _⟩ => ⟨S4x8192x704, .f32⟩
  | .hbm, ⟨58, _⟩ => ⟨S4x8192x704, .bf16⟩
  | .hbm, ⟨59, _⟩ => ⟨S8192x4x704, .f32⟩
  | .hbm, ⟨60, _⟩ => ⟨S4x8192x704, .f32⟩
  | .hbm, ⟨61, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== AttnFwdKernel.lean ====
abbrev S8192x512 : Shape := ⟨2, ![8192, 512]⟩
abbrev S8x15x31 : Shape := ⟨3, ![8, 15, 31]⟩
abbrev S8192x1536 : Shape := ⟨2, ![8192, 1536]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S8x15x64x64 : Shape := ⟨4, ![8, 15, 64, 64]⟩
abbrev S2x4x15x64x64 : Shape := ⟨5, ![2, 4, 15, 64, 64]⟩
abbrev S2x15x64x4x64 : Shape := ⟨5, ![2, 15, 64, 4, 64]⟩
abbrev S960x256 : Shape := ⟨2, ![960, 256]⟩
abbrev S2x960x256 : Shape := ⟨3, ![2, 960, 256]⟩
abbrev S1x960x256 : Shape := ⟨3, ![1, 960, 256]⟩
abbrev S2048x256 : Shape := ⟨2, ![2048, 256]⟩
abbrev S8192x256 : Shape := ⟨2, ![8192, 256]⟩
abbrev S64x256 : Shape := ⟨2, ![64, 256]⟩
abbrev S256x256 : Shape := ⟨2, ![256, 256]⟩
abbrev S512x256 : Shape := ⟨2, ![512, 256]⟩
abbrev S1x512x256 : Shape := ⟨3, ![1, 512, 256]⟩
abbrev S256 : Shape := ⟨1, ![256]⟩
abbrev S1x256 : Shape := ⟨2, ![1, 256]⟩

abbrev nBuf : Space → Nat
  | .hbm => 108
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8x15x31, .f32⟩
  | .hbm, ⟨4, _⟩ => ⟨S8192x1536, .f32⟩
  | .hbm, ⟨5, _⟩ => ⟨S8192x1536, .bf16⟩
  | .hbm, ⟨6, _⟩ => ⟨S64, .i32⟩
  | .hbm, ⟨7, _⟩ => ⟨S1x64, .i32⟩
  | .hbm, ⟨8, _⟩ => ⟨S64x1, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i1⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64x1, .i32⟩
  | .hbm, ⟨31, _⟩ => ⟨S8x15x64x64, .f32⟩
  | .hbm, ⟨32, _⟩ => ⟨S2x4x15x64x64, .f32⟩
  | .hbm, ⟨33, _⟩ => ⟨S2x15x64x4x64, .f32⟩
  | .hbm, ⟨34, _⟩ => ⟨S960x256, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S960x256, .i32⟩
  | .hbm, ⟨42, _⟩ => ⟨S960x256, .i32⟩
  | .hbm, ⟨43, _⟩ => ⟨S_, .i32⟩
  | .hbm, ⟨44, _⟩ => ⟨S960x256, .i32⟩
  | .hbm, ⟨45, _⟩ => ⟨S960x256, .i1⟩
  | .hbm, ⟨46, _⟩ => ⟨S_, .i32⟩
  | .hbm, ⟨47, _⟩ => ⟨S960x256, .i32⟩
  | .hbm, ⟨48, _⟩ => ⟨S960x256, .i1⟩
  | .hbm, ⟨49, _⟩ => ⟨S_, .i32⟩
  | .hbm, ⟨50, _⟩ => ⟨S_, .i1⟩
  | .hbm, ⟨51, _⟩ => ⟨S960x256, .i1⟩
  | .hbm, ⟨52, _⟩ => ⟨S960x256, .i1⟩
  | .hbm, ⟨53, _⟩ => ⟨S960x256, .i1⟩
  | .hbm, ⟨54, _⟩ => ⟨S960x256, .i32⟩
  | .hbm, ⟨55, _⟩ => ⟨S960x256, .i32⟩
  | .hbm, ⟨56, _⟩ => ⟨S960x256, .i32⟩
  | .hbm, ⟨57, _⟩ => ⟨S960x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S960x256, .i32⟩
  | .hbm, ⟨65, _⟩ => ⟨S960x256, .i32⟩
  | .hbm, ⟨66, _⟩ => ⟨S_, .i32⟩
  | .hbm, ⟨67, _⟩ => ⟨S960x256, .i32⟩
  | .hbm, ⟨68, _⟩ => ⟨S960x256, .i1⟩
  | .hbm, ⟨69, _⟩ => ⟨S_, .i32⟩
  | .hbm, ⟨70, _⟩ => ⟨S960x256, .i32⟩
  | .hbm, ⟨71, _⟩ => ⟨S960x256, .i1⟩
  | .hbm, ⟨72, _⟩ => ⟨S_, .i32⟩
  | .hbm, ⟨73, _⟩ => ⟨S_, .i1⟩
  | .hbm, ⟨74, _⟩ => ⟨S960x256, .i1⟩
  | .hbm, ⟨75, _⟩ => ⟨S960x256, .i1⟩
  | .hbm, ⟨76, _⟩ => ⟨S960x256, .i1⟩
  | .hbm, ⟨77, _⟩ => ⟨S960x256, .i32⟩
  | .hbm, ⟨78, _⟩ => ⟨S960x256, .i32⟩
  | .hbm, ⟨79, _⟩ => ⟨S960x256, .i32⟩
  | .hbm, ⟨80, _⟩ => ⟨S_, .i32⟩
  | .hbm, ⟨81, _⟩ => ⟨S960x256, .i32⟩
  | .hbm, ⟨82, _⟩ => ⟨S960x256, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S960x256, .i32⟩
  | .hbm, ⟨87, _⟩ => ⟨S960x256, .i32⟩
  | .hbm, ⟨88, _⟩ => ⟨S_, .i32⟩
  | .hbm, ⟨89, _⟩ => ⟨S960x256, .i32⟩
  | .hbm, ⟨90, _⟩ => ⟨S960x256, .i32⟩
  | .hbm, ⟨91, _⟩ => ⟨S960x256, .i1⟩
  | .hbm, ⟨92, _⟩ => ⟨S_, .i32⟩
  | .hbm, ⟨93, _⟩ => ⟨S960x256, .i32⟩
  | .hbm, ⟨94, _⟩ => ⟨S960x256, .i32⟩
  | .hbm, ⟨95, _⟩ => ⟨S960x256, .i1⟩
  | .hbm, ⟨96, _⟩ => ⟨S960x256, .i1⟩
  | .hbm, ⟨97, _⟩ => ⟨S_, .f32⟩
  | .hbm, ⟨98, _⟩ => ⟨S_, .f32⟩
  | .hbm, ⟨99, _⟩ => ⟨S960x256, .f32⟩
  | .hbm, ⟨100, _⟩ => ⟨S960x256, .f32⟩
  | .hbm, ⟨101, _⟩ => ⟨S960x256, .f32⟩
  | .hbm, ⟨102, _⟩ => ⟨S2x960x256, .f32⟩
  | .hbm, ⟨103, _⟩ => ⟨S1x960x256, .f32⟩
  | .hbm, ⟨104, _⟩ => ⟨S1x960x256, .f32⟩
  | .hbm, ⟨105, _⟩ => ⟨S2x960x256, .f32⟩
  | .hbm, ⟨106, _⟩ => ⟨S2x960x256, .f32⟩
  | .hbm, ⟨107, _⟩ => ⟨S8192x512, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1x960x256, .f32⟩
  | .local _ .vmem, ⟨7, _⟩ => ⟨S1x960x256, .f32⟩
  | .local _ .vmem, ⟨8, _⟩ => ⟨S2048x256, .bf16⟩
  | .local _ .vmem, ⟨9, _⟩ => ⟨S2048x256, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v21 : Ref sig .tc := ⟨.hbm, 56, rfl⟩
abbrev main_v22 : Ref sig .tc := ⟨.hbm, 57, rfl⟩
abbrev main_c_5 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v23 : Ref sig .tc := ⟨.hbm, 79, rfl⟩
abbrev main_c_6 : Ref sig .tc := ⟨.hbm, 80, rfl⟩
abbrev main_v24 : Ref sig .tc := ⟨.hbm, 81, rfl⟩
abbrev main_v25 : Ref sig .tc := ⟨.hbm, 82, rfl⟩
abbrev main_c_7 : Ref sig .tc := ⟨.hbm, 83, rfl⟩
abbrev main_c_8 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v26 : Ref sig .tc := ⟨.hbm, 90, rfl⟩
abbrev main_v27 : Ref sig .tc := ⟨.hbm, 91, rfl⟩
abbrev main_c_9 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst : Ref sig .tc := ⟨.hbm, 97, rfl⟩
abbrev main_cst_10 : Ref sig .tc := ⟨.hbm, 98, rfl⟩
abbrev main_call4_v0 : Ref sig .tc := ⟨.hbm, 99, rfl⟩
abbrev main_call4_v1 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_3 : BitVec 32 := 0#32
  let c32_i32_4 : BitVec 32 := 32#32
  let v22 : BitVec 32 := Scalar.addi c0_i32_3 c32_i32_4
  let c1_i32 : BitVec 32 := 1#32
  ⟨c0_i32_3, v22, c1_i32⟩
def k0_mult1 (k0_t1 : Fin k0_t1_loop.trips) : BitVec 32 :=
  let c0_i32_3 : BitVec 32 := 0#32
  let c1_i32 : BitVec 32 := 1#32
  let arg7 : BitVec 32 := Scf.iv c0_i32_3 c1_i32 k0_t1
  let c64_i32_6 : BitVec 32 := 64#32
  let v23 : BitVec 32 := Scalar.muli arg7 c64_i32_6
  v23
def k0_off1 (k0_t1 : Fin k0_t1_loop.trips) : Fin 2 → Nat :=
  let c0_i32_3 : BitVec 32 := 0#32
  let c1_i32 : BitVec 32 := 1#32
  let arg7 : BitVec 32 := Scf.iv c0_i32_3 c1_i32 k0_t1
  let c64_i32_6 : BitVec 32 := 64#32
  let v23 : BitVec 32 := Scalar.muli arg7 c64_i32_6
  let v24 : BitVec 32 := v23
  let v26 : Index := Scalar.indexCast v24
  let c0 : Index := 0#32
  ![v26.toNat, 0]
def k0_mult2 (i : grid0.Coords) (k0_t1 : Fin k0_t1_loop.trips) : BitVec 32 :=
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let c0_i32_3 : BitVec 32 := 0#32
  let c1_i32 : BitVec 32 := 1#32
  let arg7 : BitVec 32 := Scf.iv c0_i32_3 c1_i32 k0_t1
  let v25 : BitVec 32 := Scalar.addi v0 arg7
  let c4_i32 : BitVec 32 := 4#32
  let v29 : BitVec 32 := Scalar.subi v25 c4_i32
  let v30 : BitVec 32 := Scalar.maxsi c0_i32_7 v29
  let v31 : BitVec 32 := Scalar.minsi c120_i32 v30
  let c64_i32_8 : BitVec 32 := 64#32
  let v40 : BitVec 32 := Scalar.muli v31 c64_i32_8
  v40
def k0_off2 (i : grid0.Coords) (k0_t1 : Fin k0_t1_loop.trips) : Fin 2 → Nat :=
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let c0_i32_3 : BitVec 32 := 0#32
  let c1_i32 : BitVec 32 := 1#32
  let arg7 : BitVec 32 := Scf.iv c0_i32_3 c1_i32 k0_t1
  let v25 : BitVec 32 := Scalar.addi v0 arg7
  let c4_i32 : BitVec 32 := 4#32
  let v29 : BitVec 32 := Scalar.subi v25 c4_i32
  let v30 : BitVec 32 := Scalar.maxsi c0_i32_7 v29
  let v31 : BitVec 32 := Scalar.minsi c120_i32 v30
  let c64_i32_8 : BitVec 32 := 64#32
  let v40 : BitVec 32 := Scalar.muli v31 c64_i32_8
  let v41 : BitVec 32 := v40
  let v42 : Index := Scalar.indexCast v41
  let c0_9 : Index := 0#32
  ![v42.toNat, 0]
def k0_mult3 (i : grid0.Coords) (k0_t1 : Fin k0_t1_loop.trips) : BitVec 32 :=
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let c0_i32_3 : BitVec 32 := 0#32
  let c1_i32 : BitVec 32 := 1#32
  let arg7 : BitVec 32 := Scf.iv c0_i32_3 c1_i32 k0_t1
  let v25 : BitVec 32 := Scalar.addi v0 arg7
  let c4_i32 : BitVec 32 := 4#32
  let v29 : BitVec 32 := Scalar.subi v25 c4_i32
  let v30 : BitVec 32 := Scalar.maxsi c0_i32_7 v29
  let v31 : BitVec 32 := Scalar.minsi c120_i32 v30
  let v32 : BitVec 32 := Scalar.subi v31 v25
  let c7_i32 : BitVec 32 := 7#32
  let v33 : BitVec 32 := Scalar.addi v32 c7_i32
  let c64_i32_11 : BitVec 32 := 64#32
  let v48 : BitVec 32 := Scalar.muli v33 c64_i32_11
  v48
def k0_off3 (i : grid0.Coords) (k0_t1 : Fin k0_t1_loop.trips) : Fin 3 → Nat :=
  let c0_14 : Index := 0#32
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let c0_i32_3 : BitVec 32 := 0#32
  let c1_i32 : BitVec 32 := 1#32
  let arg7 : BitVec 32 := Scf.iv c0_i32_3 c1_i32 k0_t1
  let v25 : BitVec 32 := Scalar.addi v0 arg7
  let c4_i32 : BitVec 32 := 4#32
  let v29 : BitVec 32 := Scalar.subi v25 c4_i32
  let v30 : BitVec 32 := Scalar.maxsi c0_i32_7 v29
  let v31 : BitVec 32 := Scalar.minsi c120_i32 v30
  let v32 : BitVec 32 := Scalar.subi v31 v25
  let c7_i32 : BitVec 32 := 7#32
  let v33 : BitVec 32 := Scalar.addi v32 c7_i32
  let c64_i32_11 : BitVec 32 := 64#32
  let v48 : BitVec 32 := Scalar.muli v33 c64_i32_11
  let v49 : BitVec 32 := v48
  let v53 : Index := Scalar.indexCast v49
  let c0_15 : Index := 0#32
  ![0, v53.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x960x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdReferenceIdeal.lean ====
abbrev S8192x512 : Shape := ⟨2, ![8192, 512]⟩
abbrev S8x15x31 : Shape := ⟨3, ![8, 15, 31]⟩
abbrev S1x8192x512 : Shape := ⟨3, ![1, 8192, 512]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S8x15x64x64 : Shape := ⟨4, ![8, 15, 64, 64]⟩
abbrev S1x128x64x8x64 : Shape := ⟨5, ![1, 128, 64, 8, 64]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S1x128x8x64x8x64 : Shape := ⟨6, ![1, 128, 8, 64, 8, 64]⟩
abbrev S8x128x8x64x64 : Shape := ⟨5, ![8, 128, 8, 64, 64]⟩
abbrev S8x128x64x8x64 : Shape := ⟨5, ![8, 128, 64, 8, 64]⟩
abbrev S1x8x128x64x8x64 : Shape := ⟨6, ![1, 8, 128, 64, 8, 64]⟩
abbrev S64x1x64 : Shape := ⟨3, ![64, 1, 64]⟩
abbrev S1x8x128x64 : Shape := ⟨4, ![1, 8, 128, 64]⟩
abbrev S1x8x128x64x1x1 : Shape := ⟨6, ![1, 8, 128, 64, 1, 1]⟩
abbrev S1x128x8x64x64 : Shape := ⟨5, ![1, 128, 8, 64, 64]⟩

abbrev nBuf : Space → Nat
  | .hbm => 145
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8x15x31, .f32⟩
  | 4 => ⟨S1x8192x512, .f32⟩
  | 5 => ⟨S1x8192x512, .f32⟩
  | 6 => ⟨S1x8192x512, .f32⟩
  | 7 => ⟨S64, .i32⟩
  | 8 => ⟨S1x64, .i32⟩
  | 9 => ⟨S64x1, .i32⟩
  | 10 => ⟨S64x64, .i32⟩
  | 11 => ⟨S64x64, .i32⟩
  | 12 => ⟨S64x64, .i32⟩
  | 13 => ⟨S_, .i32⟩
  | 14 => ⟨S_, .i32⟩
  | 15 => ⟨S_, .i32⟩
  | 16 => ⟨S64x64, .i32⟩
  | 17 => ⟨S64x64, .i32⟩
  | 18 => ⟨S_, .i32⟩
  | 19 => ⟨S64x64, .i32⟩
  | 20 => ⟨S64x64, .i32⟩
  | 21 => ⟨S_, .i32⟩
  | 22 => ⟨S64x64, .i32⟩
  | 23 => ⟨S64x64, .i32⟩
  | 24 => ⟨S_, .i32⟩
  | 25 => ⟨S64x64, .i32⟩
  | 26 => ⟨S64x64, .i1⟩
  | 27 => ⟨S_, .i32⟩
  | 28 => ⟨S64x64, .i32⟩
  | 29 => ⟨S64x64, .i32⟩
  | 30 => ⟨S64x64, .i32⟩
  | 31 => ⟨S64x64x1, .i32⟩
  | 32 => ⟨S8x15x64x64, .f32⟩
  | 33 => ⟨S1x128x64x8x64, .f32⟩
  | 34 => ⟨S1x128x64x8x64, .f32⟩
  | 35 => ⟨S1x128x64x8x64, .f32⟩
  | 36 => ⟨S128, .i32⟩
  | 37 => ⟨S_, .i32⟩
  | 38 => ⟨S128, .i32⟩
  | 39 => ⟨S128, .i32⟩
  | 40 => ⟨S_, .i32⟩
  | 41 => ⟨S_, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128x1, .i32⟩
  | 49 => ⟨S8, .i32⟩
  | 50 => ⟨S1x8, .i32⟩
  | 51 => ⟨S128x8, .i32⟩
  | 52 => ⟨S128x8, .i32⟩
  | 53 => ⟨S128x8, .i32⟩
  | 54 => ⟨S_, .i32⟩
  | 55 => ⟨S128x8, .i32⟩
  | 56 => ⟨S128x8, .i1⟩
  | 57 => ⟨S_, .i32⟩
  | 58 => ⟨S128x8, .i32⟩
  | 59 => ⟨S128x8, .i32⟩
  | 60 => ⟨S128x8, .i32⟩
  | 61 => ⟨S128x8x1, .i32⟩
  | 62 => ⟨S1x128x8x64x8x64, .f32⟩
  | 63 => ⟨S_, .i32⟩
  | 64 => ⟨S128x8, .i32⟩
  | 65 => ⟨S128x8, .i1⟩
  | 66 => ⟨S_, .i32⟩
  | 67 => ⟨S128x8, .i32⟩
  | 68 => ⟨S128x8, .i32⟩
  | 69 => ⟨S128x8, .i32⟩
  | 70 => ⟨S128x8x1, .i32⟩
  | 71 => ⟨S1x128x8x64x8x64, .f32⟩
  | 72 => ⟨S64, .i32⟩
  | 73 => ⟨S_, .i32⟩
  | 74 => ⟨S64, .i32⟩
  | 75 => ⟨S64, .i32⟩
  | 76 => ⟨S_, .i32⟩
  | 77 => ⟨S_, .i32⟩
  | 78 => ⟨S_, .i32⟩
  | 79 => ⟨S64, .i32⟩
  | 80 => ⟨S64, .i32⟩
  | 81 => ⟨S_, .i32⟩
  | 82 => ⟨S64, .i32⟩
  | 83 => ⟨S64, .i32⟩
  | 84 => ⟨S1x64, .i32⟩
  | 85 => ⟨S64x1, .i32⟩
  | 86 => ⟨S64x64, .i32⟩
  | 87 => ⟨S64x64, .i32⟩
  | 88 => ⟨S64x64, .i1⟩
  | 89 => ⟨S1x64, .i32⟩
  | 90 => ⟨S64x1, .i32⟩
  | 91 => ⟨S_, .i32⟩
  | 92 => ⟨S64x1, .i32⟩
  | 93 => ⟨S64x1, .i32⟩
  | 94 => ⟨S64x64, .i32⟩
  | 95 => ⟨S64x64, .i32⟩
  | 96 => ⟨S64x64, .i1⟩
  | 97 => ⟨S64x64, .i1⟩
  | 98 => ⟨S128x1, .i32⟩
  | 99 => ⟨S128x8, .i32⟩
  | 100 => ⟨S128x8, .i32⟩
  | 101 => ⟨S_, .i32⟩
  | 102 => ⟨S128x8, .i32⟩
  | 103 => ⟨S128x8, .i32⟩
  | 104 => ⟨S_, .i32⟩
  | 105 => ⟨S128x8, .i32⟩
  | 106 => ⟨S128x8, .i1⟩
  | 107 => ⟨S_, .i32⟩
  | 108 => ⟨S128x8, .i32⟩
  | 109 => ⟨S128x8, .i32⟩
  | 110 => ⟨S128x8, .i32⟩
  | 111 => ⟨S128x8x1, .i32⟩
  | 112 => ⟨S8x128x8x64x64, .f32⟩
  | 113 => ⟨S8x128x64x8x64, .f32⟩
  | 114 => ⟨S1x8x128x64x8x64, .f32⟩
  | 115 => ⟨S_, .f32⟩
  | 116 => ⟨S1x8x128x64x8x64, .f32⟩
  | 117 => ⟨S1x8x128x64x8x64, .f32⟩
  | 118 => ⟨S1x8x128x64x8x64, .f32⟩
  | 119 => ⟨S1x8x128x64x8x64, .f32⟩
  | 120 => ⟨S64x1x64, .i1⟩
  | 121 => ⟨S_, .f32⟩
  | 122 => ⟨S_, .f32⟩
  | 123 => ⟨S1x8x128x64x8x64, .i1⟩
  | 124 => ⟨S1x8x128x64x8x64, .f32⟩
  | 125 => ⟨S1x8x128x64x8x64, .f32⟩
  | 126 => ⟨S_, .f32⟩
  | 127 => ⟨S1x8x128x64, .f32⟩
  | _ => ⟨S8192x512, .f32⟩

abbrev hbmTy0_1 (i : Nat) : BufTy := match i % 128 with
  | 0 => ⟨S_, .f32⟩
  | 1 => ⟨S1x8x128x64, .f32⟩
  | 2 => ⟨S1x8x128x64, .f32⟩
  | 3 => ⟨S1x8x128x64x1x1, .f32⟩
  | 4 => ⟨S1x8x128x64x8x64, .f32⟩
  | 5 => ⟨S1x8x128x64x8x64, .f32⟩
  | 6 => ⟨S1x8x128x64x8x64, .f32⟩
  | 7 => ⟨S_, .f32⟩
  | 8 => ⟨S1x8x128x64, .f32⟩
  | 9 => ⟨S1x8x128x64x1x1, .f32⟩
  | 10 => ⟨S1x8x128x64x8x64, .f32⟩
  | 11 => ⟨S1x8x128x64x8x64, .f32⟩
  | 12 => ⟨S1x128x8x64x64, .f32⟩
  | 13 => ⟨S1x128x64x8x64, .f32⟩
  | 14 => ⟨S1x8192x512, .f32⟩
  | 15 => ⟨S8192x512, .f32⟩
  | 16 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_c_13 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_c_16 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v82 : Ref sig .tc := ⟨.hbm, 125, rfl⟩
abbrev main_cst_19 : Ref sig .tc := ⟨.hbm, 126, rfl⟩
abbrev main_v83 : Ref sig .tc := ⟨.hbm, 127, rfl⟩
abbrev main_cst_20 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_21 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]
-- ==== MixFwdKernel.lean ====
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S8192x1024 : Shape := ⟨2, ![8192, 1024]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S4x256 : Shape := ⟨2, ![4, 256]⟩
abbrev S8x256 : Shape := ⟨2, ![8, 256]⟩
abbrev S8192x512 : Shape := ⟨2, ![8192, 512]⟩
abbrev S512x1024 : Shape := ⟨2, ![512, 1024]⟩
abbrev S8x1024 : Shape := ⟨2, ![8, 1024]⟩
abbrev S512x512 : Shape := ⟨2, ![512, 512]⟩
abbrev S528x1024 : Shape := ⟨2, ![528, 1024]⟩
abbrev S528x256 : Shape := ⟨2, ![528, 256]⟩
abbrev S512x256 : Shape := ⟨2, ![512, 256]⟩

abbrev nBuf : Space → Nat
  | .hbm => 27
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S4x64x64, .f32⟩
  | .hbm, ⟨5, _⟩ => ⟨S256, .f32⟩
  | .hbm, ⟨6, _⟩ => ⟨S3x256, .f32⟩
  | .hbm, ⟨7, _⟩ => ⟨S8192x1024, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x64x1x64, .f32⟩
  | .hbm, ⟨16, _⟩ => ⟨S4x1x4x1, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S256x256, .bf16⟩
  | .hbm, ⟨22, _⟩ => ⟨S1x256, .f32⟩
  | .hbm, ⟨23, _⟩ => ⟨S_, .f32⟩
  | .hbm, ⟨24, _⟩ => ⟨S4x256, .f32⟩
  | .hbm, ⟨25, _⟩ => ⟨S8x256, .f32⟩
  | .hbm, ⟨26, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S256x256, .bf16⟩
  | .local _ .vmem, ⟨7, _⟩ => ⟨S8x256, .f32⟩
  | .local _ .vmem, ⟨8, _⟩ => ⟨S512x512, .bf16⟩
  | .local _ .vmem, ⟨9, _⟩ => ⟨S512x512, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixFwdReferenceIdeal.lean ====
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S1x8192x256 : Shape := ⟨3, ![1, 8192, 256]⟩
abbrev S1x8192x4x64 : Shape := ⟨4, ![1, 8192, 4, 64]⟩
abbrev S_ : Shape := ⟨0, ![]⟩
abbrev S1x1x4x64 : Shape := ⟨4, ![1, 1, 4, 64]⟩
abbrev S1x8193x4x64 : Shape := ⟨4, ![1, 8193, 4, 64]⟩
abbrev S8192 : Shape := ⟨1, ![8192]⟩
abbrev S1x8192x1 : Shape := ⟨3, ![1, 8192, 1]⟩
abbrev S8192x1 : Shape := ⟨2, ![8192, 1]⟩
abbrev S8192x2 : Shape := ⟨2, ![8192, 2]⟩
abbrev S1x8192x64 : Shape := ⟨3, ![1, 8192, 64]⟩
abbrev S1x8192x1x64 : Shape := ⟨4, ![1, 8192, 1, 64]⟩
abbrev S4x64x1x8192 : Shape := ⟨4, ![4, 64, 1, 8192]⟩
abbrev S4x64 : Shape := ⟨2, ![4, 64]⟩
abbrev S1x1x256 : Shape := ⟨3, ![1, 1, 256]⟩
abbrev S1x8194x256 : Shape := ⟨3, ![1, 8194, 256]⟩
abbrev S1x256 : Shape := ⟨2, ![1, 256]⟩
abbrev S1x8192x512 : Shape := ⟨3, ![1, 8192, 512]⟩
abbrev S8192x512 : Shape := ⟨2, ![8192, 512]⟩

abbrev nBuf : Space → Nat
  | .hbm => 307
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S4x64x64, .f32⟩
  | 5 => ⟨S256, .f32⟩
  | 6 => ⟨S3x256, .f32⟩
  | 7 => ⟨S1x8192x256, .f32⟩
  | 8 => ⟨S1x8192x4x64, .f32⟩
  | 9 => ⟨S_, .f32⟩
  | 10 => ⟨S1x1x4x64, .f32⟩
  | 11 => ⟨S_, .f32⟩
  | 12 => ⟨S_, .f32⟩
  | 13 => ⟨S1x8192x4x64, .f32⟩
  | 14 => ⟨S1x8193x4x64, .f32⟩
  | 15 => ⟨S8192, .i32⟩
  | 16 => ⟨S_, .i32⟩
  | 17 => ⟨S8192, .i32⟩
  | 18 => ⟨S8192, .i32⟩
  | 19 => ⟨S_, .i32⟩
  | 20 => ⟨S_, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S_, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S8192, .i32⟩
  | 42 => ⟨S8192, .f32⟩
  | 43 => ⟨S1x8192x1, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192x1, .i32⟩
  | 55 => ⟨S8192x1, .i32⟩
  | 56 => ⟨S8192x2, .i32⟩
  | 57 => ⟨S1x8192x64, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192x1, .i32⟩
  | 69 => ⟨S8192x1, .i32⟩
  | 70 => ⟨S8192x2, .i32⟩
  | 71 => ⟨S1x8192x64, .f32⟩
  | 72 => ⟨S1x8192x64, .f32⟩
  | 73 => ⟨S1x8192x64, .f32⟩
  | 74 => ⟨S1x8192x64, .f32⟩
  | 75 => ⟨S1x8192x1x64, .f32⟩
  | 76 => ⟨S1x8192x64, .f32⟩
  | 77 => ⟨S1x8192x64, .f32⟩
  | 78 => ⟨S_, .i32⟩
  | 79 => ⟨S8192, .i32⟩
  | 80 => ⟨S8192, .i32⟩
  | 81 => ⟨S_, .i32⟩
  | 82 => ⟨S_, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S_, .i32⟩
  | 96 => ⟨S_, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192, .i32⟩
  | 104 => ⟨S8192, .f32⟩
  | 105 => ⟨S1x8192x1, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192x1, .i32⟩
  | 117 => ⟨S8192x1, .i32⟩
  | 118 => ⟨S8192x2, .i32⟩
  | 119 => ⟨S1x8192x64, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S_, .i32⟩
  | _ => ⟨S8192x256, .f32⟩

abbrev hbmTy0_1 (i : Nat) : BufTy := match i % 128 with
  | 0 => ⟨S8192, .i32⟩
  | 1 => ⟨S8192, .i32⟩
  | 2 => ⟨S8192x1, .i32⟩
  | 3 => ⟨S8192x1, .i32⟩
  | 4 => ⟨S8192x2, .i32⟩
  | 5 => ⟨S1x8192x64, .f32⟩
  | 6 => ⟨S1x8192x64, .f32⟩
  | 7 => ⟨S1x8192x64, .f32⟩
  | 8 => ⟨S1x8192x64, .f32⟩
  | 9 => ⟨S1x8192x1x64, .f32⟩
  | 10 => ⟨S1x8192x64, .f32⟩
  | 11 => ⟨S1x8192x64, .f32⟩
  | 12 => ⟨S_, .i32⟩
  | 13 => ⟨S8192, .i32⟩
  | 14 => ⟨S8192, .i32⟩
  | 15 => ⟨S_, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S_, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .i32⟩
  | 38 => ⟨S8192, .f32⟩
  | 39 => ⟨S1x8192x1, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i32⟩
  | 50 => ⟨S8192x1, .i32⟩
  | 51 => ⟨S8192x1, .i32⟩
  | 52 => ⟨S8192x2, .i32⟩
  | 53 => ⟨S1x8192x64, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192x1, .i32⟩
  | 65 => ⟨S8192x1, .i32⟩
  | 66 => ⟨S8192x2, .i32⟩
  | 67 => ⟨S1x8192x64, .f32⟩
  | 68 => ⟨S1x8192x64, .f32⟩
  | 69 => ⟨S1x8192x64, .f32⟩
  | 70 => ⟨S1x8192x64, .f32⟩
  | 71 => ⟨S1x8192x1x64, .f32⟩
  | 72 => ⟨S1x8192x64, .f32⟩
  | 73 => ⟨S1x8192x64, .f32⟩
  | 74 => ⟨S_, .i32⟩
  | 75 => ⟨S8192, .i32⟩
  | 76 => ⟨S8192, .i32⟩
  | 77 => ⟨S_, .i32⟩
  | 78 => ⟨S_, .i32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S_, .i32⟩
  | 92 => ⟨S_, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .i32⟩
  | 100 => ⟨S8192, .f32⟩
  | 101 => ⟨S1x8192x1, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S_, .i32⟩
  | 110 => ⟨S8192, .i32⟩
  | 111 => ⟨S8192, .i32⟩
  | 112 => ⟨S8192x1, .i32⟩
  | 113 => ⟨S8192x1, .i32⟩
  | 114 => ⟨S8192x2, .i32⟩
  | 115 => ⟨S1x8192x64, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S_, .i32⟩
  | 124 => ⟨S8192, .i32⟩
  | 125 => ⟨S8192, .i32⟩
  | 126 => ⟨S8192x1, .i32⟩
  | 127 => ⟨S8192x1, .i32⟩
  | _ => ⟨S8192x256, .f32⟩

abbrev hbmTy0_2 (i : Nat) : BufTy := match i % 128 with
  | 0 => ⟨S8192x2, .i32⟩
  | 1 => ⟨S1x8192x64, .f32⟩
  | 2 => ⟨S1x8192x64, .f32⟩
  | 3 => ⟨S1x8192x64, .f32⟩
  | 4 => ⟨S1x8192x64, .f32⟩
  | 5 => ⟨S1x8192x1x64, .f32⟩
  | 6 => ⟨S1x8192x64, .f32⟩
  | 7 => ⟨S1x8192x64, .f32⟩
  | 8 => ⟨S1x8192x1x64, .f32⟩
  | 9 => ⟨S1x8192x1x64, .f32⟩
  | 10 => ⟨S1x8192x1x64, .f32⟩
  | 11 => ⟨S1x8192x1x64, .f32⟩
  | 12 => ⟨S1x8192x4x64, .f32⟩
  | 13 => ⟨S4x64x1x8192, .f32⟩
  | 14 => ⟨S1x8192x4x64, .f32⟩
  | 15 => ⟨S4x64, .f32⟩
  | 16 => ⟨S1x1x4x64, .f32⟩
  | 17 => ⟨S1x8192x4x64, .f32⟩
  | 18 => ⟨S1x8192x4x64, .f32⟩
  | 19 => ⟨S1x8192x256, .f32⟩
  | 20 => ⟨S1x8192x256, .f32⟩
  | 21 => ⟨S1x8192x256, .f32⟩
  | 22 => ⟨S1x8192x256, .f32⟩
  | 23 => ⟨S1x8192x256, .f32⟩
  | 24 => ⟨S_, .f32⟩
  | 25 => ⟨S1x1x256, .f32⟩
  | 26 => ⟨S1x8194x256, .f32⟩
  | 27 => ⟨S1x256, .f32⟩
  | 28 => ⟨S256, .f32⟩
  | 29 => ⟨S1x8192x256, .f32⟩
  | 30 => ⟨S1x1x256, .f32⟩
  | 31 => ⟨S1x8192x256, .f32⟩
  | 32 => ⟨S1x8192x256, .f32⟩
  | 33 => ⟨S1x256, .f32⟩
  | 34 => ⟨S256, .f32⟩
  | 35 => ⟨S1x8192x256, .f32⟩
  | 36 => ⟨S1x1x256, .f32⟩
  | 37 => ⟨S1x8192x256, .f32⟩
  | 38 => ⟨S1x8192x256, .f32⟩
  | 39 => ⟨S1x8192x256, .f32⟩
  | 40 => ⟨S1x256, .f32⟩
  | 41 => ⟨S256, .f32⟩
  | 42 => ⟨S1x8192x256, .f32⟩
  | 43 => ⟨S1x1x256, .f32⟩
  | 44 => ⟨S1x8192x256, .f32⟩
  | 45 => ⟨S1x8192x256, .f32⟩
  | 46 => ⟨S1x8192x256, .f32⟩
  | 47 => ⟨S1x8192x256, .f32⟩
  | 48 => ⟨S1x8192x512, .f32⟩
  | 49 => ⟨S8192x512, .f32⟩
  | 50 => ⟨S8192x512, .bf16⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_call0_call0_cst : Ref sig .tc := ⟨.hbm, 11, rfl⟩
abbrev main_call0_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_c_1 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_c_4 : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_6 : Ref sig .tc := ⟨.hbm, 44, rfl⟩
abbrev main_v17 : Ref sig .tc := ⟨.hbm, 45, rfl⟩
abbrev main_v18 : Ref sig .tc := ⟨.hbm, 46, rfl⟩
abbrev main_c_7 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_8 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_9 : Ref sig .tc := ⟨.hbm, 58, rfl⟩
abbrev main_v28 : Ref sig .tc := ⟨.hbm, 59, rfl⟩
abbrev main_v29 : Ref sig .tc := ⟨.hbm, 60, rfl⟩
abbrev main_c_10 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_11 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_12 : Ref sig .tc := ⟨.hbm, 78, rfl⟩
abbrev main_v45 : Ref sig .tc := ⟨.hbm, 79, rfl⟩
abbrev main_v46 : Ref sig .tc := ⟨.hbm, 80, rfl⟩
abbrev main_c_13 : Ref sig .tc := ⟨.hbm, 81, rfl⟩
abbrev main_c_14 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v47 : Ref sig .tc := ⟨.hbm, 88, rfl⟩
abbrev main_c_15 : Ref sig .tc := ⟨.hbm, 89, rfl⟩
abbrev main_v48 : Ref sig .tc := ⟨.hbm, 90, rfl⟩
abbrev main_v49 : Ref sig .tc := ⟨.hbm, 91, rfl⟩
abbrev main_c_16 : Ref sig .tc := ⟨.hbm, 92, rfl⟩
abbrev main_v50 : Ref sig .tc := ⟨.hbm, 93, rfl⟩
abbrev main_v51 : Ref sig .tc := ⟨.hbm, 94, rfl⟩
abbrev main_c_17 : Ref sig .tc := ⟨.hbm, 95, rfl⟩
abbrev main_c_18 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_19 : Ref sig .tc := ⟨.hbm, 106, rfl⟩
abbrev main_v56 : Ref sig .tc := ⟨.hbm, 107, rfl⟩
abbrev main_v57 : Ref sig .tc := ⟨.hbm, 108, rfl⟩
abbrev main_c_20 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_c_21 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_c_22 : Ref sig .tc := ⟨.hbm, 120, rfl⟩
abbrev main_v67 : Ref sig .tc := ⟨.hbm, 121, rfl⟩
abbrev main_v68 : Ref sig .tc := ⟨.hbm, 122, rfl⟩
abbrev main_c_23 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_c_24 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_c_25 : Ref sig .tc := ⟨.hbm, 140, rfl⟩
abbrev main_v84 : Ref sig .tc := ⟨.hbm, 141, rfl⟩
abbrev main_v85 : Ref sig .tc := ⟨.hbm, 142, rfl⟩
abbrev main_c_26 : Ref sig .tc := ⟨.hbm, 143, rfl⟩
abbrev main_c_27 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_v86 : Ref sig .tc := ⟨.hbm, 150, rfl⟩
abbrev main_c_28 : Ref sig .tc := ⟨.hbm, 151, rfl⟩
abbrev main_v87 : Ref sig .tc := ⟨.hbm, 152, rfl⟩
abbrev main_v88 : Ref sig .tc := ⟨.hbm, 153, rfl⟩
abbrev main_c_29 : Ref sig .tc := ⟨.hbm, 154, rfl⟩
abbrev main_v89 : Ref sig .tc := ⟨.hbm, 155, rfl⟩
abbrev main_v90 : Ref sig .tc := ⟨.hbm, 156, rfl⟩
abbrev main_c_30 : Ref sig .tc := ⟨.hbm, 157, rfl⟩
abbrev main_c_31 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_c_32 : Ref sig .tc := ⟨.hbm, 168, rfl⟩
abbrev main_v95 : Ref sig .tc := ⟨.hbm, 169, rfl⟩
abbrev main_v96 : Ref sig .tc := ⟨.hbm, 170, rfl⟩
abbrev main_c_33 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_c_34 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_c_35 : Ref sig .tc := ⟨.hbm, 182, rfl⟩
abbrev main_v106 : Ref sig .tc := ⟨.hbm, 183, rfl⟩
abbrev main_v107 : Ref sig .tc := ⟨.hbm, 184, rfl⟩
abbrev main_c_36 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_c_37 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_c_38 : Ref sig .tc := ⟨.hbm, 202, rfl⟩
abbrev main_v123 : Ref sig .tc := ⟨.hbm, 203, rfl⟩
abbrev main_v124 : Ref sig .tc := ⟨.hbm, 204, rfl⟩
abbrev main_c_39 : Ref sig .tc := ⟨.hbm, 205, rfl⟩
abbrev main_c_40 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v125 : Ref sig .tc := ⟨.hbm, 212, rfl⟩
abbrev main_c_41 : Ref sig .tc := ⟨.hbm, 213, rfl⟩
abbrev main_v126 : Ref sig .tc := ⟨.hbm, 214, rfl⟩
abbrev main_v127 : Ref sig .tc := ⟨.hbm, 215, rfl⟩
abbrev main_c_42 : Ref sig .tc := ⟨.hbm, 216, rfl⟩
abbrev main_v128 : Ref sig .tc := ⟨.hbm, 217, rfl⟩
abbrev main_v129 : Ref sig .tc := ⟨.hbm, 218, rfl⟩
abbrev main_c_43 : Ref sig .tc := ⟨.hbm, 219, rfl⟩
abbrev main_c_44 : Ref sig .tc := ⟨.hbm, 220, rfl⟩
abbrev main_call8_v0 : Ref sig .tc := ⟨.hbm, 221, rfl⟩
abbrev main_call8_v1 : Ref sig .tc := ⟨.hbm, 222, rfl⟩
abbrev main_call8_v2 : Ref sig .tc := ⟨.hbm, 223, rfl⟩
abbrev main_call8_v3 : Ref sig .tc := ⟨.hbm, 224, rfl⟩
abbrev main_call8_v4 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_c_45 : Ref sig .tc := ⟨.hbm, 230, rfl⟩
abbrev main_v134 : Ref sig .tc := ⟨.hbm, 231, rfl⟩
abbrev main_v135 : Ref sig .tc := ⟨.hbm, 232, rfl⟩
abbrev main_c_46 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_c_47 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_c_48 : Ref sig .tc := ⟨.hbm, 244, rfl⟩
abbrev main_v145 : Ref sig .tc := ⟨.hbm, 245, rfl⟩
abbrev main_v146 : Ref sig .tc := ⟨.hbm, 246, rfl⟩
abbrev main_c_49 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_c_50 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_cst_51 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩

abbrev nD : Nat := 1
abbrev τ : Topo := Topo.v7x

variable {F : FTy → Type} [FloatOps F]
-- ==== Proof.MixSpec.lean ====
/-
  The mixer call in plain terms: an array continued by zeros on both sides, the sum over a window around a row, the
  number of rows in a window, and the gradients of the pooling mixer and of the gated convolution built from them.
-/
module

public import Idealize.ShloMosaic.Lib.Pipeline.ValueKit

@[expose] public section

noncomputable section

open Idealize.ShloMosaic

namespace MixSpec

/-- Column `c` of an array of 8192 rows, continued by zeros. -/
def zx {w : Nat} (x : (⟨2, ![8192, w]⟩ : Shape).Idx → EReal) (c : Fin w) (t : ℤ) : EReal :=
  if h : 0 ≤ t ∧ t < 8192 then x (ix2 ⟨t.toNat, by omega⟩ c) else 0

theorem zx_in {w : Nat} (x : (⟨2, ![8192, w]⟩ : Shape).Idx → EReal) (c : Fin w) (t : ℤ) (r : Fin 8192) (h : t = r.val) :
    zx x c t = x (ix2 r c) := by
  subst h
  unfold zx
  rw [dif_pos ⟨by omega, by have := r.isLt; omega⟩]
  congr 2

theorem zx_out {w : Nat} (x : (⟨2, ![8192, w]⟩ : Shape).Idx → EReal) (c : Fin w) (t : ℤ) (h : t < 0 ∨ 8192 ≤ t) : zx x c t = 0 := by
  unfold zx
  rw [dif_neg (by omega)]

/-- Half the width of the window of channel `c`. -/
def half (c : ℕ) : ℕ := if c < 64 then 1 else if c < 128 then 2 else if c < 192 then 4 else 8

/-- The sum of `e` over the `2 h` rows from `t - h` on. -/
def win (e : ℤ → EReal) (h : ℕ) (t : ℤ) : EReal := ∑ k ∈ Finset.range (2 * h), e (t - h + k)

/-- The number of rows of the window around row `t` that exist, at least one. -/
def cnt (h : ℕ) (t : ℤ) : ℤ := max (min (t + h) 8192 - max (t - h) 0) 1

/-- A tree of sums of neighbours is the sum over the window, at each of the four widths. -/
theorem win_one (e : ℤ → EReal) (t : ℤ) : e t + e (t - 1) = win e 1 t := by
  simp [win, Finset.sum_range_succ]
  rw [add_comm]

theorem win_pair (e : ℤ → EReal) (h : ℕ) (t : ℤ) : win e h (t - h) + win e h (t + h) = win e (2 * h) t := by
  unfold win
  rw [show 2 * (2 * h) = 2 * h + 2 * h by ring, Finset.sum_range_add]
  congr 1
  · refine Finset.sum_congr rfl fun k _ => congrArg e ?_
    push_cast; ring
  · refine Finset.sum_congr rfl fun k _ => congrArg e ?_
    push_cast; ring

/-- The index of the weight of group `c / 64` at `(a, b)`. -/
def gix (c : Fin 256) (a b : Fin 64) : (⟨3, ![4, 64, 64]⟩ : Shape).Idx := ix3 ⟨c.val / 64, by omega⟩ a b

/-- Channel `l` of the group of channel `c`, and the place of `c` in its group. -/
def chan (c : Fin 256) (l : Fin 64) : Fin 256 := ⟨64 * (c.val / 64) + l.val, by omega⟩
def place (c : Fin 256) : Fin 64 := ⟨c.val % 64, by omega⟩

variable (u gb gc hh : (⟨2, ![8192, 256]⟩ : Shape).Idx → EReal) (pw : (⟨3, ![4, 64, 64]⟩ : Shape).Idx → EReal)
  (ps : (⟨1, ![256]⟩ : Shape).Idx → EReal) (cw : (⟨2, ![3, 256]⟩ : Shape).Idx → EReal) (dy : (⟨2, ![8192, 1024]⟩ : Shape).Idx → EReal)

/-- The pooled activations: the mean over the window less the row itself. -/
def pm (c : Fin 256) (t : ℤ) : EReal := Ideal.div (win (zx u c) (half c.val) t) ((cnt (half c.val) t : ℝ) : EReal) - zx u c t
/-- The gradient that comes in, at the pooling mixer's and at the convolution's channels. -/
def dya (c : Fin 256) (t : ℤ) : EReal := zx dy ⟨c.val, by omega⟩ t
def dyb (c : Fin 256) (t : ℤ) : EReal := zx dy ⟨256 + c.val, by omega⟩ t
/-- The product of the pooled activations by the group's matrix, before the scale. -/
def ym (c : Fin 256) (t : ℤ) : EReal := ∑ l : Fin 64, pm u (chan c l) t * pw (gix c l (place c))
/-- The gradient at that product, and at the pooled activations. -/
def dq (c : Fin 256) (t : ℤ) : EReal := dya dy c t * ps (ix1 c)
def dp (c : Fin 256) (t : ℤ) : EReal := ∑ l : Fin 64, dq ps dy (chan c l) t * pw (gix c (place c) l)
def rr (c : Fin 256) (t : ℤ) : EReal := Ideal.div (dp pw ps dy c t) ((cnt (half c.val) t : ℝ) : EReal)
/-- The gradient in the activations. -/
def du (c : Fin 256) (t : ℤ) : EReal := win (rr pw ps dy c) (half c.val) (t + 1) - dp pw ps dy c t
/-- The convolution's input, the gradient at the convolution, and the four gradients of the gated convolution. -/
def zz (c : Fin 256) (t : ℤ) : EReal := zx gc c t * zx hh c t
def dconv (c : Fin 256) (t : ℤ) : EReal := dyb dy c t * zx gb c t
def dgb (c : Fin 256) (t : ℤ) : EReal :=
  dyb dy c t * (cw (ix2 0 c) * zz gc hh c (t - 1) + cw (ix2 1 c) * zz gc hh c t + cw (ix2 2 c) * zz gc hh c (t + 1))
def dz (c : Fin 256) (t : ℤ) : EReal :=
  cw (ix2 0 c) * dconv gb dy c (t + 1) + cw (ix2 1 c) * dconv gb dy c t + cw (ix2 2 c) * dconv gb dy c (t - 1)

/-- The first result: the four gradients side by side. -/
def res1 : (⟨2, ![8192, 1024]⟩ : Shape).Idx → EReal := fun i =>
  let c : Fin 256 := ⟨(i 1).val % 256, by omega⟩
  let t : ℤ := (i 0).val
  if (i 1).val < 256 then du pw ps dy c t
  else if (i 1).val < 512 then dgb gc hh cw dy c t
  else if (i 1).val < 768 then dz gb cw dy c t * zx hh c t
  else dz gb cw dy c t * zx gc c t
/-- The second result on the diagonal blocks: the gradient in the groups' matrices. -/
def res2 (c j : Fin 256) : EReal := ∑ t : Fin 8192, pm u c t.val * dq ps dy j t.val
/-- The third result: the gradient in the scale and in the three rows of the filter. -/
def res3 : (⟨2, ![8, 256]⟩ : Shape).Idx → EReal := fun i =>
  let c : Fin 256 := ⟨(i 1).val, (i 1).isLt⟩
  if (i 0).val = 0 then ∑ t : Fin 8192, dya dy c t.val * ym u pw c t.val
  else if (i 0).val < 4 then ∑ t : Fin 8192, dconv gb dy c t.val * zz gc hh c ((t.val : ℤ) + (i 0).val - 2)
  else 0

/-- A sum over 256 channels against a matrix that is zero off the diagonal blocks is the sum over the channel's group. -/
theorem sum_block (c : Fin 256) (f g : Fin 256 → EReal) (h : ∀ j : Fin 256, j.val / 64 ≠ c.val / 64 → g j = 0) :
    ∑ j, f j * g j = ∑ l : Fin 64, f (chan c l) * g (chan c l) := by
  have hi : Function.Injective (chan c) := fun a b e => by
    have := congrArg Fin.val e
    simp only [chan] at this
    exact Fin.ext (by omega)
  rw [← Finset.sum_image (f := fun j => f j * g j) (s := Finset.univ) (g := chan c) (fun a _ b _ e => hi e)]
  refine (Finset.sum_subset (Finset.subset_univ _) fun j _ hj => ?_).symm
  rw [h j fun e => hj (Finset.mem_image.mpr ⟨⟨j.val % 64, by omega⟩, Finset.mem_univ _, Fin.ext ?_⟩), mul_zero]
  simp only [chan]
  omega

end MixSpec

end
-- ==== Proof.MixTile.lean ====
/-
  The mixer kernel's tile of 528 rows (512 rows and 8 more on either side): what a rotation along the rows, the tree of
  sums of neighbours and the choice by channel read, away from the ends.
-/
module

public import proofs.«01_k».proof.Proof.Gen.MixKernelIdeal.Value
public import Idealize.ShloMosaic.Lib.Pipeline.ValueKit
public import proofs.«01_k».proof.Proof.MixSpec

@[expose] public section

set_option maxRecDepth 16384

noncomputable section

open Idealize.ShloMosaic Idealize.ShloMosaic.TcCoe Idealize.SL.Sem
open Idealize.ShloMosaic.Pipeline (Dat)
open MixSpec

namespace Cert.MixKernelIdeal.Proofs

open Cert.MixKernelIdeal Cert.MixKernelIdeal.Gen

/-- Column `c` of a tile is `e` on the rows from `lo` up to `hi`. -/
def Agrees (x : FVec Ideal S528x256 .f32) (c : Fin 256) (e : ℤ → EReal) (lo hi : ℕ) : Prop :=
  ∀ r : Fin 528, lo ≤ r.val → r.val < hi → x (ix2 r c) = e r.val

/-- The four widths' sums from the sums over two rows, chosen by channel: the tail of the tree. -/
def tree (a : FVec Ideal S528x256 .f32) (v30 v32 : IVec S528x256 1) : FVec Ideal S528x256 .f32 :=
  let v103 : FVec Ideal S528x256 .f32 := addf (dynamicRotate 0 1#32 none a rotates_S528x256_d0) (dynamicRotate 0 527#32 none a rotates_S528x256_d0)
  let v106 : FVec Ideal S528x256 .f32 := addf (dynamicRotate 0 2#32 none v103 rotates_S528x256_d0) (dynamicRotate 0 526#32 none v103 rotates_S528x256_d0)
  let v109 : FVec Ideal S528x256 .f32 := addf (dynamicRotate 0 4#32 none v106 rotates_S528x256_d0) (dynamicRotate 0 524#32 none v106 rotates_S528x256_d0)
  select v30 v103 (select v32 v106 v109)

theorem Agrees.add {x y : FVec Ideal S528x256 .f32} {c : Fin 256} {e f : ℤ → EReal} {lo hi lo' hi' : ℕ} (h : Agrees x c e lo hi)
    (h' : Agrees y c f lo' hi') : Agrees (addf x y) c (fun t => e t + f t) (max lo lo') (min hi hi') := by
  intro r h1 h2
  pointwise
  rw [h r (by omega) (by omega), h' r (by omega) (by omega)]

theorem rot_apply (x : FVec Ideal S528x256 .f32) (k : ℕ) (hk : k < 528) (r : Fin 528) (c : Fin 256) :
    dynamicRotate 0 (BitVec.ofNat 32 k) none x rotates_S528x256_d0 (ix2 r c) = x (ix2 ⟨(r.val + 528 - k) % 528, Nat.mod_lt _ (by omega)⟩ c) := by
  have : (BitVec.ofNat 32 k).toNat = k := by simp; omega
  pointwise
  congr 3
  rw [this, Nat.mod_eq_of_lt hk]

/-- A rotation by `k` reads `k` rows further up. -/
theorem Agrees.back {x : FVec Ideal S528x256 .f32} {c : Fin 256} {e : ℤ → EReal} {lo hi : ℕ} (h : Agrees x c e lo hi) (k : ℕ) (hk : k < 528) :
    Agrees (dynamicRotate 0 (BitVec.ofNat 32 k) none x rotates_S528x256_d0) c (fun t => e (t - k)) (lo + k) (hi + k) := by
  intro r h1 h2
  rw [rot_apply x k hk, h _ (by have := r.isLt; simp only []; omega) (by have := r.isLt; simp only []; omega)]
  congr 1
  have := r.isLt
  simp only []
  omega

/-- A rotation by `528 - k` reads `k` rows further down. -/
theorem Agrees.forth {x : FVec Ideal S528x256 .f32} {c : Fin 256} {e : ℤ → EReal} {lo hi : ℕ} (h : Agrees x c e lo hi) (k : ℕ) (hk : k < 528)
    (hk0 : 0 < k) (hh : hi ≤ 528) :
    Agrees (dynamicRotate 0 (BitVec.ofNat 32 (528 - k)) none x rotates_S528x256_d0) c (fun t => e (t + k)) lo (hi - k) := by
  intro r h1 h2
  rw [rot_apply x (528 - k) (by omega), h _ (by have := r.isLt; simp only []; omega) (by have := r.isLt; simp only []; omega)]
  congr 1
  have := r.isLt
  simp only []
  omega

theorem toInt_small (n : ℕ) (h : n < 2147483648) : (BitVec.ofNat 32 n).toInt = n := by
  rw [BitVec.toInt_eq_toNat_of_lt (by simp; omega), BitVec.toNat_ofNat, Nat.mod_eq_of_lt (by omega)]

theorem lane_lt (k : ℕ) (hk : k ≤ 256) (r : Fin 528) (c : Fin 256) :
    cmpi .slt (iota .tc S528x256 32 [1] iota_S528x256_d1_w32) (broadcast S528x256 (BitVec.ofNat 32 k)) (ix2 r c) = if c.val < k then 1#1 else 0#1 := by
  pointwise
  have hc := c.isLt
  simp only [IntOp.cmpi, BitVec.slt, toInt_small c.val (by omega), toInt_small k (by omega)]
  split_ifs with h <;> simp [h]

/-- The choice by channel. -/
theorem by_window (x1 x2 x3 x4 : FVec Ideal S528x256 .f32) (r : Fin 528) (c : Fin 256) :
    select k0_pay10 x1 (select k0_pay11 x2 (select k0_pay12 x3 x4)) (ix2 r c)
      = if c.val < 64 then x1 (ix2 r c) else if c.val < 128 then x2 (ix2 r c) else if c.val < 192 then x3 (ix2 r c) else x4 (ix2 r c) := by
  have h1 : k0_pay10 (ix2 r c) = if c.val < 64 then 1#1 else 0#1 := lane_lt 64 (by omega) r c
  have h2 : k0_pay11 (ix2 r c) = if c.val < 128 then 1#1 else 0#1 := lane_lt 128 (by omega) r c
  have h3 : k0_pay12 (ix2 r c) = if c.val < 192 then 1#1 else 0#1 := lane_lt 192 (by omega) r c
  pointwise
  rw [h1, h2, h3]
  split_ifs <;> rfl

/-- The tree of sums over neighbours and the choice by channel: from the sums over two rows, the sum over the channel's window. -/
theorem tree_apply (a : FVec Ideal S528x256 .f32) (c : Fin 256) (e : ℤ → EReal) (o : ℤ)
    (h : Agrees a c (fun t => win e 1 (t + o)) 1 527) (r : Fin 528) (h1 : 8 ≤ r.val) (h2 : r.val < 520) :
    select k0_pay10 a (tree a k0_pay11 k0_pay12) (ix2 r c) = win e (half c.val) (r.val + o) := by
  have e1 := (h.back 1 (by omega)).add (h.forth 1 (by omega) (by omega) (by omega))
  have e2 := (e1.back 2 (by omega)).add (e1.forth 2 (by omega) (by omega) (by omega))
  have e3 := (e2.back 4 (by omega)).add (e2.forth 4 (by omega) (by omega) (by omega))
  have w1 : ∀ t, win e 1 (t - 1) + win e 1 (t + 1) = win e 2 t := win_pair e 1
  have w2 : ∀ t, win e 2 (t - 2) + win e 2 (t + 2) = win e 4 t := win_pair e 2
  have w4 : ∀ t, win e 4 (t - 4) + win e 4 (t + 4) = win e 8 t := win_pair e 4
  unfold tree
  rw [by_window]
  unfold half
  split_ifs with c1 c2 c3
  · exact h r (by omega) (by omega)
  · refine (e1 r (by omega) (by omega)).trans ?_
    rw [← w1]; push_cast; congr 2 <;> ring
  · refine (e2 r (by omega) (by omega)).trans ?_
    rw [← w2, ← w1, ← w1]; push_cast; congr 3 <;> ring
  · refine (e3 r (by omega) (by omega)).trans ?_
    rw [← w4, ← w2, ← w2, ← w1, ← w1, ← w1, ← w1]; push_cast; congr 4 <;> ring

theorem point_val : ∀ t : Fin cfg0.N, ((grid0.coords t) 0).val = t.val ∧ t.val < 16 := (by decide +kernel : ∀ t : Fin grid0.N, _)

theorem toInt_addw (x y : BitVec 32) (a b : ℤ) (hx : x.toInt = a) (hy : y.toInt = b) (h : -2147483648 ≤ a + b ∧ a + b < 2147483648) :
    (IntOp.addi x y).toInt = a + b := by
  rw [IntOp.addi, BitVec.toInt_add, hx, hy]
  exact Int.bmod_eq_of_le (by omega) (by omega)

theorem toInt_subw (x y : BitVec 32) (a b : ℤ) (hx : x.toInt = a) (hy : y.toInt = b) (h : -2147483648 ≤ a - b ∧ a - b < 2147483648) :
    (IntOp.subi x y).toInt = a - b := by
  rw [IntOp.subi, BitVec.toInt_sub, hx, hy]
  exact Int.bmod_eq_of_le (by omega) (by omega)

theorem toInt_maxw (x y : BitVec 32) (a b : ℤ) (hx : x.toInt = a) (hy : y.toInt = b) : (IntOp.maxsi x y).toInt = max a b := by
  unfold IntOp.maxsi
  rw [BitVec.slt, hx, hy]
  split_ifs with h <;> simp at h <;> omega

theorem toInt_minw (x y : BitVec 32) (a b : ℤ) (hx : x.toInt = a) (hy : y.toInt = b) : (IntOp.minsi x y).toInt = min a b := by
  unfold IntOp.minsi
  rw [BitVec.slt, hx, hy]
  split_ifs with h <;> simp at h <;> omega

/-- The counts of the tile of point `t`. -/
theorem count_apply (t : Fin cfg0.N) (r : Fin 528) (c : Fin 256) :
    k0_pay13 (F := Ideal) (BitVec.ofNat 32 ((grid0.coords t) 0).val) k0_pay10 k0_pay11 k0_pay12 (ix2 r c)
      = ((cnt (half c.val) (512 * t.val - 8 + r.val) : ℝ) : EReal) := by
  obtain ⟨ht, ht'⟩ := point_val t
  rw [ht]
  have h1 : k0_pay10 (ix2 r c) = if c.val < 64 then 1#1 else 0#1 := lane_lt 64 (by omega) r c
  have h2 : k0_pay11 (ix2 r c) = if c.val < 128 then 1#1 else 0#1 := lane_lt 128 (by omega) r c
  have h3 : k0_pay12 (ix2 r c) = if c.val < 192 then 1#1 else 0#1 := lane_lt 192 (by omega) r c
  pointwise [k0_pay13]
  rw [h1, h2, h3]
  have hh : (Scalar.select (if c.val < 64 then 1#1 else 0#1) 1#32 (Scalar.select (if c.val < 128 then 1#1 else 0#1) 2#32
      (Scalar.select (if c.val < 192 then 1#1 else 0#1) 4#32 8#32))).toInt = (half c.val : ℤ) := by
    unfold half
    split_ifs <;> rfl
  generalize (Scalar.select (if c.val < 64 then 1#1 else 0#1) 1#32 (Scalar.select (if c.val < 128 then 1#1 else 0#1) 2#32
      (Scalar.select (if c.val < 192 then 1#1 else 0#1) 4#32 8#32))) = w at hh
  have hb : half c.val ≤ 8 := by unfold half; split_ifs <;> omega
  have hm : (Scalar.muli (BitVec.ofNat 32 t.val) 512#32).toInt = 512 * (t.val : ℤ) := by
    rw [show Scalar.muli (BitVec.ofNat 32 t.val) 512#32 = BitVec.ofNat 32 (t.val * 512) from (BitVec.ofNat_mul _ _).symm, toInt_small _ (by omega)]
    push_cast; ring
  have ht0 : (IntOp.addi (Scalar.subi (Scalar.muli (BitVec.ofNat 32 t.val) 512#32) 8#32) (BitVec.ofNat 32 r.val)).toInt
      = 512 * (t.val : ℤ) - 8 + r.val :=
    toInt_addw _ _ _ _ (toInt_subw _ _ _ 8 hm rfl (by omega)) (toInt_small r.val (by omega)) (by omega)
  show ((BitVec.toInt _ : ℝ) : EReal) = _
  unfold cnt
  rw [toInt_maxw _ _ _ 1 (toInt_subw _ _ _ _ (toInt_minw _ _ _ 8192 (toInt_addw _ _ _ _ ht0 hh (by omega)) rfl)
    (toInt_maxw _ _ _ 0 (toInt_subw _ _ _ _ ht0 hh (by omega)) rfl) (by omega)) rfl]

theorem idx : ∀ t : Fin cfg0.N, win0_0.index t = ![t.val, 0] ∧ win0_1.index t = ![if t.val = 0 then 0 else 64 * t.val - 1, 0]
    ∧ win0_2.index t = ![if t.val = 15 then 1023 else 64 * (t.val + 1), 0] ∧ win0_3.index t = ![t.val, 0]
    ∧ win0_4.index t = ![if t.val = 0 then 0 else 64 * t.val - 1, 0] ∧ win0_5.index t = ![if t.val = 15 then 1023 else 64 * (t.val + 1), 0]
    ∧ win0_6.index t = ![0, 0] ∧ win0_7.index t = ![0, 0] ∧ win0_8.index t = ![t.val, 0] ∧ win0_9.index t = ![0, 0]
    ∧ win0_10.index t = ![0, 0] ∧ t.val < 16 :=
  (by decide +kernel : ∀ t : Fin grid0.N, _)

theorem first_point : ∀ t : Fin cfg0.N, Scalar.cmpi .sgt (BitVec.ofNat 32 ((grid0.coords t) 0).val) 0#32 = if t.val = 0 then 0#1 else 1#1 :=
  (by decide +kernel : ∀ t : Fin grid0.N, _)

theorem last_point : ∀ t : Fin cfg0.N, Scalar.cmpi .slt (BitVec.ofNat 32 ((grid0.coords t) 0).val) 15#32 = if t.val = 15 then 0#1 else 1#1 :=
  (by decide +kernel : ∀ t : Fin grid0.N, _)

/-- The tile of the activations at point `t`: rows `512 t - 8` up to `512 t + 520` of the array, zeros outside it. -/
theorem ext_apply (m : (ℓ : Loc nD τ sig) → Buf (Elt Ideal) ℓ) (d : Dev nD) (t : Fin cfg0.N) (r : Fin 528) (c : Fin 1024) :
    k0_pay8 (F := Ideal) (grid0.coords t) (iblk m d 1 t) (iblk m d 2 t) (iblk m d 0 t) (ix2 r c)
      = zx (V m d main_v0) c (512 * t.val - 8 + r.val) := by
  obtain ⟨ht, ht'⟩ := point_val t
  have hlo : Scalar.cmpi .sgt (BitVec.ofNat 32 ((grid0.coords t) 0).val) 0#32 = if t.val = 0 then 0#1 else 1#1 := first_point t
  have hhi : Scalar.cmpi .slt (BitVec.ofNat 32 ((grid0.coords t) 0).val) 15#32 = if t.val = 15 then 0#1 else 1#1 := last_point t
  pointwise [k0_pay8]
  rw [hlo, hhi]
  have hr := r.isLt
  by_cases a1 : r.val < 8
  · rw [dif_pos a1]
    by_cases a2 : t.val = 0
    · rw [if_pos a2, zx_out _ _ _ (by omega)]; rfl
    · rw [if_neg a2, zx_in _ _ _ ⟨512 * t.val + r.val - 8, by omega⟩ (by push_cast; omega)]
      show iblk m d 1 t _ = _
      blk_point [iblk, idx t]
      rw [if_neg a2]; omega
  · rw [dif_neg a1]
    by_cases a5 : r.val - 8 < 512
    · rw [dif_pos a5, zx_in _ _ _ ⟨512 * t.val + r.val - 8, by omega⟩ (by push_cast; omega)]
      blk_point [iblk, idx t]
    · rw [dif_neg a5]
      by_cases a2 : t.val = 15
      · rw [if_pos a2, zx_out _ _ _ (by omega)]; rfl
      · rw [if_neg a2, zx_in _ _ _ ⟨512 * t.val + r.val - 8, by omega⟩ (by push_cast; omega)]
        show iblk m d 2 t _ = _
        blk_point [iblk, idx t]
        rw [if_neg a2]; omega

/-- The tile of the gradients that come in, likewise. -/
theorem dext_apply (m : (ℓ : Loc nD τ sig) → Buf (Elt Ideal) ℓ) (d : Dev nD) (t : Fin cfg0.N) (r : Fin 528) (c : Fin 512) :
    k0_pay9 (F := Ideal) (grid0.coords t) (iblk m d 4 t) (iblk m d 5 t) (iblk m d 3 t) (ix2 r c)
      = zx (V m d main_arg7) ⟨c.val, by omega⟩ (512 * t.val - 8 + r.val) := by
  obtain ⟨ht, ht'⟩ := point_val t
  have hlo : Scalar.cmpi .sgt (BitVec.ofNat 32 ((grid0.coords t) 0).val) 0#32 = if t.val = 0 then 0#1 else 1#1 := first_point t
  have hhi : Scalar.cmpi .slt (BitVec.ofNat 32 ((grid0.coords t) 0).val) 15#32 = if t.val = 15 then 0#1 else 1#1 := last_point t
  pointwise [k0_pay9]
  rw [hlo, hhi]
  have hr := r.isLt
  by_cases a1 : r.val < 8
  · rw [dif_pos a1]
    by_cases a2 : t.val = 0
    · rw [if_pos a2, zx_out _ _ _ (by omega)]; rfl
    · rw [if_neg a2, zx_in _ _ _ ⟨512 * t.val + r.val - 8, by omega⟩ (by push_cast; omega)]
      show iblk m d 4 t _ = _
      blk_point [iblk, idx t]
      rw [if_neg a2]; omega
  · rw [dif_neg a1]
    by_cases a5 : r.val - 8 < 512
    · rw [dif_pos a5, zx_in _ _ _ ⟨512 * t.val + r.val - 8, by omega⟩ (by push_cast; omega)]
      blk_point [iblk, idx t]
    · rw [dif_neg a5]
      by_cases a2 : t.val = 15
      · rw [if_pos a2, zx_out _ _ _ (by omega)]; rfl
      · rw [if_neg a2, zx_in _ _ _ ⟨512 * t.val + r.val - 8, by omega⟩ (by push_cast; omega)]
        show iblk m d 5 t _ = _
        blk_point [iblk, idx t]
        rw [if_neg a2]; omega

end Cert.MixKernelIdeal.Proofs

end
-- ==== Proof.MixKer.lean ====
/-
  What the mixer kernel computes at one grid point, term by term: its payloads are the plain terms of MixSpec at the
  rows of the point's tile.
-/
module

public import proofs.«01_k».proof.Proof.MixTile

@[expose] public section

set_option maxRecDepth 16384

noncomputable section

open Idealize.ShloMosaic Idealize.ShloMosaic.TcCoe Idealize.SL.Sem
open Idealize.ShloMosaic.Pipeline (Dat)
open MixSpec

namespace Cert.MixKernelIdeal.Proofs

open Cert.MixKernelIdeal Cert.MixKernelIdeal.Gen

variable (m : (ℓ : Loc nD τ sig) → Buf (Elt Ideal) ℓ) (d : Dev nD)

/-- The arguments. -/
abbrev au : FVec Ideal S8192x256 .f32 := m ((d : Thread nD τ).loc main_arg0)
abbrev agb : FVec Ideal S8192x256 .f32 := m ((d : Thread nD τ).loc main_arg1)
abbrev agc : FVec Ideal S8192x256 .f32 := m ((d : Thread nD τ).loc main_arg2)
abbrev ah : FVec Ideal S8192x256 .f32 := m ((d : Thread nD τ).loc main_arg3)
abbrev apw : FVec Ideal S4x64x64 .f32 := m ((d : Thread nD τ).loc main_arg4)
abbrev aps : FVec Ideal S256 .f32 := m ((d : Thread nD τ).loc main_arg5)
abbrev acw : FVec Ideal S3x256 .f32 := m ((d : Thread nD τ).loc main_arg6)
abbrev ady : FVec Ideal S8192x1024 .f32 := m ((d : Thread nD τ).loc main_arg7)

theorem v0_apply (r : Fin 8192) (c : Fin 1024) : V m d main_v0 (ix2 r c)
    = if c.val < 256 then au m d (ix2 r ⟨c.val % 256, by omega⟩) else if c.val < 512 then agb m d (ix2 r ⟨c.val % 256, by omega⟩)
      else if c.val < 768 then agc m d (ix2 r ⟨c.val % 256, by omega⟩) else ah m d (ix2 r ⟨c.val % 256, by omega⟩) := by
  entry_read
  pointwise
  have hc := c.isLt
  have e : ∀ (x : FVec Ideal S8192x256 .f32) (a : Fin 256), a.val = c.val % 256 → x (ix2 r a) = x (ix2 r ⟨c.val % 256, by omega⟩) :=
    fun x a ha => congrArg (fun k => x (ix2 r k)) (Fin.ext ha)
  by_cases h1 : c.val < 256
  · rw [dif_pos h1, if_pos h1]
    exact e _ _ (by simp only []; omega)
  · rw [dif_neg h1, if_neg h1]
    by_cases h2 : c.val < 512
    · rw [dif_pos (by omega), if_pos h2]
      exact e _ _ (by simp only []; omega)
    · rw [dif_neg (by omega), if_neg h2]
      by_cases h3 : c.val < 768
      · rw [dif_pos (by omega), if_pos h3]
        exact e _ _ (by simp only []; omega)
      · rw [dif_neg (by omega), if_neg h3]
        exact e _ _ (by simp only []; omega)

theorem v13_apply (c j : Fin 256) : V m d main_v13 (ix2 c j)
    = if j.val / 64 = c.val / 64 then apw m d (gix c (place c) (place j)) else 0 := by
  entry_read
  pointwise
  have hw : FloatOps.uitofp (F := Ideal) FTy.f32
        (IntOp.cmpi CmpIPredicate.eq (IntOp.addi (BitVec.ofNat 32 (c.val / 64)) 0#32) (BitVec.ofNat 32 (j.val / 64)))
      = if j.val / 64 = c.val / 64 then (1 : EReal) else 0 := by
    have e : IntOp.cmpi CmpIPredicate.eq (IntOp.addi (BitVec.ofNat 32 (c.val / 64)) 0#32) (BitVec.ofNat 32 (j.val / 64))
        = if j.val / 64 = c.val / 64 then 1#1 else 0#1 := by
      have : ∀ a b : Fin 4, IntOp.cmpi CmpIPredicate.eq (IntOp.addi (BitVec.ofNat 32 a.val) 0#32) (BitVec.ofNat 32 b.val)
        = if b.val = a.val then 1#1 else 0#1 := by decide
      exact this ⟨c.val / 64, by omega⟩ ⟨j.val / 64, by omega⟩
    rw [e]
    split_ifs <;> simp [FloatOps.uitofp]
  rw [hw]
  split_ifs
  · exact mul_one (M := EReal) _
  · exact mul_zero (M₀ := EReal) _

theorem v16_eq : V m d main_v16 = (concatenate S8x256 0 [⟨S1x256, (broadcastInDim S1x256 ![1] bcast_S256_S1x256_1 (aps m d) : FVec Ideal S1x256 .f32)⟩,
    ⟨S3x256, acw m d⟩, ⟨S4x256, (broadcastInDim S4x256 ![] bcast_S_S4x256 (constant S_ .f32 0x00000000#32) : FVec Ideal S4x256 .f32)⟩]
    concatenates_S1x256_S3x256_S4x256_S8x256_d0 : FVec Ideal S8x256 .f32) := by
  rfl

theorem v16_scale (c : Fin 256) : V m d main_v16 (ix2 (0 : Fin 8) c) = aps m d (ix1 c) := by
  rw [v16_eq]
  pointwise

theorem v16_filter (k : Fin 3) (c : Fin 256) : V m d main_v16 (ix2 (⟨k.val + 1, by omega⟩ : Fin 8) c) = acw m d (ix2 k c) := by
  rw [v16_eq]
  pointwise
  rw [dif_neg (by omega), dif_pos (by omega)]
  exact congrArg _ (congrArg (fun a => ix2 a c) (Fin.ext (by simp only []; omega)))

theorem arg7_eq : V m d main_arg7 = ady m d := V_main_arg7 m d

/-- A sixteen-way split of the columns of the tile of activations: columns of one of the four arguments. -/
theorem zx_v0_u (c : Fin 256) (t : ℤ) : zx (V m d main_v0) ⟨c.val, by omega⟩ t = zx (au m d) c t := by
  unfold zx
  split_ifs
  · rw [v0_apply, if_pos c.isLt]
    exact congrArg _ (congrArg _ (Fin.ext (Nat.mod_eq_of_lt c.isLt)))
  · rfl
theorem zx_v0_gb (c : Fin 256) (t : ℤ) : zx (V m d main_v0) ⟨256 + c.val, by omega⟩ t = zx (agb m d) c t := by
  unfold zx
  split_ifs
  · rw [v0_apply, if_neg (by simp only []; omega), if_pos (by simp only []; omega)]
    exact congrArg _ (congrArg _ (Fin.ext (by simp only []; omega)))
  · rfl
theorem zx_v0_gc (c : Fin 256) (t : ℤ) : zx (V m d main_v0) ⟨512 + c.val, by omega⟩ t = zx (agc m d) c t := by
  unfold zx
  split_ifs
  · rw [v0_apply, if_neg (by simp only []; omega), if_neg (by simp only []; omega), if_pos (by simp only []; omega)]
    exact congrArg _ (congrArg _ (Fin.ext (by simp only []; omega)))
  · rfl
theorem zx_v0_h (c : Fin 256) (t : ℤ) : zx (V m d main_v0) ⟨768 + c.val, by omega⟩ t = zx (ah m d) c t := by
  unfold zx
  split_ifs
  · rw [v0_apply, if_neg (by simp only []; omega), if_neg (by simp only []; omega), if_neg (by simp only []; omega)]
    exact congrArg _ (congrArg _ (Fin.ext (by simp only []; omega)))
  · rfl

end Cert.MixKernelIdeal.Proofs

end
-- ==== Proof.MixBody.lean ====
module

public import proofs.«01_k».proof.Proof.MixKer

/-! The mixer's backward kernel on one tile: each intermediate array of the body at a row of the tile
and a channel, as the specification's function at the row of the array that the tile's row stands for. -/

@[expose] public section

set_option maxRecDepth 16384

noncomputable section

open Idealize.ShloMosaic Idealize.ShloMosaic.TcCoe Idealize.SL.Sem
open MixSpec

namespace Cert.MixKernelIdeal.Proofs

open Cert.MixKernelIdeal Cert.MixKernelIdeal.Gen

variable {u gb gc hh : FVec Ideal S8192x256 .f32} {pw : FVec Ideal S4x64x64 .f32} {ps : FVec Ideal S256 .f32}
  {cw : FVec Ideal S3x256 .f32} {dy : FVec Ideal S8192x1024 .f32}
  {E : FVec Ideal S528x1024 .f32} {D : FVec Ideal S528x512 .f32} {K : FVec Ideal S528x256 .f32} {W : FVec Ideal S256x256 .bf16}
  {S w0 w1 w2 : FVec Ideal S1x256 .f32} {T : ℤ}

/-- What the body reads at a point whose tile starts at row `T` of the arrays. -/
structure Tile (u gb gc hh : FVec Ideal S8192x256 .f32) (pw : FVec Ideal S4x64x64 .f32) (ps : FVec Ideal S256 .f32)
    (cw : FVec Ideal S3x256 .f32) (dy : FVec Ideal S8192x1024 .f32) (E : FVec Ideal S528x1024 .f32) (D : FVec Ideal S528x512 .f32)
    (K : FVec Ideal S528x256 .f32) (W : FVec Ideal S256x256 .bf16) (S w0 w1 w2 : FVec Ideal S1x256 .f32) (T : ℤ) : Prop where
  hu : ∀ (r : Fin 528) (c : Fin 256), E (ix2 r ⟨c.val, by omega⟩) = zx u c (T + r.val)
  hgb : ∀ (r : Fin 528) (c : Fin 256), E (ix2 r ⟨256 + c.val, by omega⟩) = zx gb c (T + r.val)
  hgc : ∀ (r : Fin 528) (c : Fin 256), E (ix2 r ⟨512 + c.val, by omega⟩) = zx gc c (T + r.val)
  hh : ∀ (r : Fin 528) (c : Fin 256), E (ix2 r ⟨768 + c.val, by omega⟩) = zx hh c (T + r.val)
  ha : ∀ (r : Fin 528) (c : Fin 256), D (ix2 r ⟨c.val, by omega⟩) = dya dy c (T + r.val)
  hb : ∀ (r : Fin 528) (c : Fin 256), D (ix2 r ⟨256 + c.val, by omega⟩) = dyb dy c (T + r.val)
  hK : ∀ (r : Fin 528) (c : Fin 256), K (ix2 r c) = ((cnt (half c.val) (T + r.val) : ℝ) : EReal)
  hW : ∀ c j : Fin 256, W (ix2 c j) = if j.val / 64 = c.val / 64 then pw (gix c (place c) (place j)) else 0
  hS : ∀ c : Fin 256, S (ix2 0 c) = ps (ix1 c)
  hw0 : ∀ c : Fin 256, w0 (ix2 0 c) = cw (ix2 0 c)
  hw1 : ∀ c : Fin 256, w1 (ix2 0 c) = cw (ix2 1 c)
  hw2 : ∀ c : Fin 256, w2 (ix2 0 c) = cw (ix2 2 c)

variable (h : Tile u gb gc hh pw ps cw dy E D K W S w0 w1 w2 T)
include h

theorem pay16_apply (r : Fin 528) (c : Fin 256) : k0_pay16 E (ix2 r c) = zx u c (T + r.val) := by
  rw [← h.hu r c]
  pointwise [k0_pay16]

theorem pay28_apply (r : Fin 528) (c : Fin 256) : k0_pay28 E (ix2 r c) = zx gc c (T + r.val) := by
  rw [← h.hgc r c]
  pointwise [k0_pay28]

theorem pay29_apply (r : Fin 528) (c : Fin 256) : k0_pay29 E (ix2 r c) = zx hh c (T + r.val) := by
  rw [← h.hh r c]
  pointwise [k0_pay29]

theorem pay20_apply (r : Fin 528) (c : Fin 256) : k0_pay20 D (ix2 r c) = dya dy c (T + r.val) := by
  rw [← h.ha r c]
  pointwise [k0_pay20]

theorem pay36_apply (r : Fin 528) (c : Fin 256) : k0_pay36 D (ix2 r c) = dyb dy c (T + r.val) := by
  rw [← h.hb r c]
  pointwise [k0_pay36]

theorem pay37_apply (r : Fin 528) (c : Fin 256) : k0_pay37 E D (ix2 r c) = dconv gb dy c (T + r.val) := by
  rw [dconv, ← pay36_apply h, ← h.hgb r c]
  pointwise [k0_pay37]

theorem pay30_apply (r : Fin 528) (c : Fin 256) : k0_pay30 E (ix2 r c) = zz gc hh c (T + r.val) := by
  rw [zz, ← pay28_apply h, ← pay29_apply h]
  rfl

theorem back_apply (x : FVec Ideal S528x256 .f32) (c : Fin 256) (e : ℤ → EReal) (hx : ∀ r : Fin 528, x (ix2 r c) = e (T + r.val)) (r : Fin 528)
    (h1 : 1 ≤ r.val) : dynamicRotate 0 1#32 none x rotates_S528x256_d0 (ix2 r c) = e (T + r.val - 1) := by
  have := (show Agrees x c (fun t => e (T + t)) 0 528 from fun r _ _ => hx r).back 1 (by omega) r (by omega) (by omega)
  rw [this]
  exact congrArg e (by push_cast; ring)

theorem forth_apply (x : FVec Ideal S528x256 .f32) (c : Fin 256) (e : ℤ → EReal) (hx : ∀ r : Fin 528, x (ix2 r c) = e (T + r.val)) (r : Fin 528)
    (h1 : r.val < 527) : dynamicRotate 0 527#32 none x rotates_S528x256_d0 (ix2 r c) = e (T + r.val + 1) := by
  have := (show Agrees x c (fun t => e (T + t)) 0 528 from fun r _ _ => hx r).forth 1 (by omega) (by omega) (by omega) r (by omega) (by omega)
  rw [this]
  exact congrArg e (by push_cast; ring)

theorem pay31_apply (r : Fin 528) (c : Fin 256) (h1 : 1 ≤ r.val) : k0_pay31 E (ix2 r c) = zz gc hh c (T + r.val - 1) :=
  back_apply h _ c (zz gc hh c) (fun r => pay30_apply h r c) r h1

theorem pay32_apply (r : Fin 528) (c : Fin 256) (h1 : r.val < 527) : k0_pay32 E (ix2 r c) = zz gc hh c (T + r.val + 1) :=
  forth_apply h _ c (zz gc hh c) (fun r => pay30_apply h r c) r h1

/-- The rows of the tile that the point owns. -/
abbrev own (a : Fin 512) : Fin 528 := ⟨8 + a.val, by omega⟩

omit h in
theorem own_apply (φ : FTy) (x : FVec Ideal S528x256 φ) (a : Fin 512) (c : Fin 256) :
    extractStridedSlice S512x256 ![8, 0] x slices_S528x256_o8_0_S512x256 (ix2 a c) = x (ix2 (own a) c) := by
  pointwise

theorem pay38_apply (a : Fin 512) (c : Fin 256) : k0_pay38 E D w0 w1 w2 (ix2 a c) = dgb gc hh cw dy c (T + (own a).val) := by
  rw [dgb, ← pay36_apply h, ← pay30_apply h, ← pay31_apply h _ _ (by simp only []; omega), ← pay32_apply h _ _ (by simp only []; omega),
    ← h.hw0, ← h.hw1, ← h.hw2]
  pointwise [k0_pay38, k0_pay33, k0_pay34, k0_pay35]

theorem pay39_apply (r : Fin 528) (c : Fin 256) (h1 : 1 ≤ r.val) (h2 : r.val < 527) :
    k0_pay39 E D w0 w1 w2 (ix2 r c) = dz gb cw dy c (T + r.val) := by
  rw [dz, ← back_apply h _ c _ (fun r => pay37_apply h r c) r h1, ← forth_apply h _ c _ (fun r => pay37_apply h r c) r h2, ← pay37_apply h,
    ← h.hw0, ← h.hw1, ← h.hw2]
  pointwise [k0_pay39, k0_pay33, k0_pay34, k0_pay35]

theorem pay40_apply (a : Fin 512) (c : Fin 256) :
    k0_pay40 E D w0 w1 w2 (ix2 a c) = dz gb cw dy c (T + (own a).val) * zx hh c (T + (own a).val) := by
  rw [← pay39_apply h _ _ (by simp only []; omega) (by simp only []; omega), ← pay29_apply h]
  pointwise [k0_pay40]

theorem pay1_apply (a : Fin 512) (c : Fin 256) :
    k0_pay1 (k0_pay28 E) (k0_pay39 E D w0 w1 w2) (ix2 a c) = dz gb cw dy c (T + (own a).val) * zx gc c (T + (own a).val) := by
  rw [← pay39_apply h _ _ (by simp only []; omega) (by simp only []; omega), ← pay28_apply h]
  pointwise [k0_pay1]

omit h in
theorem pair_sum (x : FVec Ideal S528x256 .f32) (c : Fin 256) (e : ℤ → EReal) (hx : ∀ r : Fin 528, x (ix2 r c) = e (T + r.val)) :
    Agrees (addf x (dynamicRotate 0 1#32 none x rotates_S528x256_d0)) c (fun t => win e 1 (t + T)) 1 527 := by
  have h0 : Agrees x c (fun t => e (T + t)) 0 528 := fun r _ _ => hx r
  intro r h1 h2
  rw [h0.add (h0.back 1 (by omega)) r (by omega) (by omega)]
  simp only [win, Finset.sum_range_succ, Finset.sum_range_zero, Nat.mul_one, Nat.cast_one, Nat.cast_zero, zero_add, add_zero]
  rw [add_comm]
  congr 2 <;> ring

omit h in
theorem pair_sum_next (x : FVec Ideal S528x256 .f32) (c : Fin 256) (e : ℤ → EReal) (hx : ∀ r : Fin 528, x (ix2 r c) = e (T + r.val)) :
    Agrees (addf x (dynamicRotate 0 527#32 none x rotates_S528x256_d0)) c (fun t => win e 1 (t + (T + 1))) 1 527 := by
  have h0 : Agrees x c (fun t => e (T + t)) 0 528 := fun r _ _ => hx r
  intro r h1 h2
  rw [h0.add (h0.forth 1 (by omega) (by omega) (by omega)) r (by omega) (by omega)]
  simp only [win, Finset.sum_range_succ, Finset.sum_range_zero, Nat.mul_one, Nat.cast_one, Nat.cast_zero, zero_add, add_zero]
  congr 2 <;> ring

theorem pay19_apply (a : Fin 512) (c : Fin 256) :
    k0_pay19 k0_pay10 K (k0_pay16 E) (k0_pay17 E) (k0_pay18 E k0_pay11 k0_pay12) (ix2 a c) = pm u c (T + (own a).val) := by
  have e := tree_apply (k0_pay17 E) c (zx u c) T (pair_sum (k0_pay16 E) c _ fun r => pay16_apply h r c) (own a) (by simp only []; omega)
    (by simp only []; omega)
  rw [pm, ← h.hK, ← pay16_apply h, add_comm T, ← e]
  have e' : k0_pay18 E k0_pay11 k0_pay12 = tree (k0_pay17 E) k0_pay11 k0_pay12 := rfl
  rw [e']
  generalize tree (k0_pay17 E) k0_pay11 k0_pay12 = A
  pointwise [k0_pay19]

theorem pay22_apply (r : Fin 528) (c : Fin 256) : k0_pay22 D S (ix2 r c) = dq ps dy c (T + r.val) := by
  rw [dq, ← pay20_apply h, ← h.hS]
  pointwise [k0_pay22]

theorem pay24_apply (r : Fin 528) (c : Fin 256) : k0_pay24 D W S (ix2 r c) = dp pw ps dy c (T + r.val) := by
  have e : k0_pay24 D W S (ix2 r c) = ∑ j : Fin 256, k0_pay22 D S (ix2 r j) * W (ix2 c j) := by
    pointwise [k0_pay24]
  rw [e, sum_block c (fun j => k0_pay22 D S (ix2 r j)) (fun j => W (ix2 c j)) fun j hj => by rw [h.hW, if_neg hj], dp]
  refine Finset.sum_congr rfl fun l _ => ?_
  have hc : (chan c l).val / 64 = c.val / 64 := by simp only [chan]; omega
  have hp : place (chan c l) = l := Fin.ext (by simp only [place, chan]; omega)
  beta_reduce
  rw [pay22_apply h, h.hW, if_pos hc, hp]

theorem pay27_apply (a : Fin 512) (c : Fin 256) :
    k0_pay27 k0_pay10 (k0_pay24 D W S) (k0_pay25 D K W S) (k0_pay26 D k0_pay11 k0_pay12 K W S) (ix2 a c) = du pw ps dy c (T + (own a).val) := by
  have hr : ∀ r : Fin 528, divf (k0_pay24 D W S) K (ix2 r c) = rr pw ps dy c (T + r.val) := fun r => by
    rw [rr, ← pay24_apply h, ← h.hK]
    rfl
  have e := tree_apply (k0_pay25 D K W S) c (rr pw ps dy c) (T + 1) (pair_sum_next _ c _ hr) (own a) (by simp only []; omega)
    (by simp only []; omega)
  have e' : k0_pay26 D k0_pay11 k0_pay12 K W S = tree (k0_pay25 D K W S) k0_pay11 k0_pay12 := rfl
  rw [du, ← pay24_apply h, show T + ((own a).val : ℤ) + 1 = (own a).val + (T + 1) by ring, ← e, e']
  generalize tree (k0_pay25 D K W S) k0_pay11 k0_pay12 = A
  pointwise [k0_pay27]

/-- What a point adds to the four accumulated rows and to the accumulated matrix. -/
theorem pay21_apply (x : FVec Ideal S1x256 .f32) (c : Fin 256) :
    k0_pay21 D k0_pay10 K W (k0_pay16 E) (k0_pay17 E) (k0_pay18 E k0_pay11 k0_pay12) x (ix2 0 c)
      = x (ix2 0 c) + ∑ a : Fin 512, dya dy c (T + (own a).val) * ym u pw c (T + (own a).val) := by
  have e : ∀ P : FVec Ideal S512x256 .bf16, (∀ a c, P (ix2 a c) = pm u c (T + (own a).val)) → ∀ a : Fin 512,
      ∑ j : Fin 256, P (ix2 a j) * W (ix2 j c) = ym u pw c (T + (own a).val) := fun P hP a => by
    rw [sum_block c (fun j => P (ix2 a j)) (fun j => W (ix2 j c)) fun j hj => by rw [h.hW, if_neg (fun e => hj e.symm)], ym]
    refine Finset.sum_congr rfl fun l _ => ?_
    have hc : c.val / 64 = (chan c l).val / 64 := by simp only [chan]; omega
    have hp : place (chan c l) = l := Fin.ext (by simp only [place, chan]; omega)
    have hg : ∀ b, gix (chan c l) l b = gix c l b := fun b => congrArg (fun g => ix3 g l b) (Fin.ext (by simp only []; omega))
    beta_reduce
    rw [hP, h.hW, if_pos hc, hp, hg]
  have hP := pay19_apply h
  have hD := pay20_apply h
  have e' : k0_pay21 D k0_pay10 K W (k0_pay16 E) (k0_pay17 E) (k0_pay18 E k0_pay11 k0_pay12) x (ix2 0 c)
      = x (ix2 0 c) + ∑ a : Fin 512, k0_pay20 D (ix2 (own a) c) * ∑ j : Fin 256,
        k0_pay19 k0_pay10 K (k0_pay16 E) (k0_pay17 E) (k0_pay18 E k0_pay11 k0_pay12) (ix2 a j) * W (ix2 j c) := by
    pointwise [k0_pay21]
  rw [e']
  refine congrArg _ (Finset.sum_congr rfl fun a _ => ?_)
  rw [e _ hP, hD]

theorem pay23_apply (x : FVec Ideal S256x256 .f32) (c j : Fin 256) :
    k0_pay23 D k0_pay10 K S (k0_pay16 E) (k0_pay17 E) (k0_pay18 E k0_pay11 k0_pay12) x (ix2 c j)
      = x (ix2 c j) + ∑ a : Fin 512, pm u c (T + (own a).val) * dq ps dy j (T + (own a).val) := by
  have e' : k0_pay23 D k0_pay10 K S (k0_pay16 E) (k0_pay17 E) (k0_pay18 E k0_pay11 k0_pay12) x (ix2 c j)
      = x (ix2 c j) + ∑ a : Fin 512,
        k0_pay19 k0_pay10 K (k0_pay16 E) (k0_pay17 E) (k0_pay18 E k0_pay11 k0_pay12) (ix2 a c) * k0_pay22 D S (ix2 (own a) j) := by
    pointwise [k0_pay23]
  rw [e']
  refine congrArg _ (Finset.sum_congr rfl fun a _ => ?_)
  rw [pay19_apply h, pay22_apply h]

omit h in
theorem row_sum (z P : FVec Ideal S528x256 .f32) (x : FVec Ideal S1x256 .f32) (c : Fin 256) :
    addf (shapeCast S1x256 x shapeCasts_S1x256_S1x256) (shapeCast S1x256 (multiReduction .add [0] S256
      (mulf (extractStridedSlice S512x256 ![8, 0] P slices_S528x256_o8_0_S512x256) (extractStridedSlice S512x256 ![8, 0] z slices_S528x256_o8_0_S512x256))
      0x00000000#32 reduces_S512x256_S256 (.inl rfl) rfl) shapeCasts_S256_S1x256 : FVec Ideal S1x256 .f32) (ix2 0 c)
      = x (ix2 0 c) + ∑ a : Fin 512, P (ix2 (own a) c) * z (ix2 (own a) c) := by
  pointwise

theorem pay3_apply (x : FVec Ideal S1x256 .f32) (c : Fin 256) : k0_pay3 (k0_pay31 E) (k0_pay37 E D) x (ix2 0 c)
    = x (ix2 0 c) + ∑ a : Fin 512, dconv gb dy c (T + (own a).val) * zz gc hh c (T + (own a).val - 1) := by
  refine (row_sum _ _ _ _).trans (congrArg _ (Finset.sum_congr rfl fun a _ => ?_))
  rw [pay37_apply h, pay31_apply h _ _ (by simp only []; omega)]

theorem pay4_apply (x : FVec Ideal S1x256 .f32) (c : Fin 256) : k0_pay4 (k0_pay30 E) (k0_pay37 E D) x (ix2 0 c)
    = x (ix2 0 c) + ∑ a : Fin 512, dconv gb dy c (T + (own a).val) * zz gc hh c (T + (own a).val) := by
  refine (row_sum _ _ _ _).trans (congrArg _ (Finset.sum_congr rfl fun a _ => ?_))
  rw [pay37_apply h, pay30_apply h]

theorem pay5_apply (x : FVec Ideal S1x256 .f32) (c : Fin 256) : k0_pay5 (k0_pay32 E) (k0_pay37 E D) x (ix2 0 c)
    = x (ix2 0 c) + ∑ a : Fin 512, dconv gb dy c (T + (own a).val) * zz gc hh c (T + (own a).val + 1) := by
  refine (row_sum _ _ _ _).trans (congrArg _ (Finset.sum_congr rfl fun a _ => ?_))
  rw [pay37_apply h, pay32_apply h _ _ (by simp only []; omega)]

end Cert.MixKernelIdeal.Proofs

end
-- ==== Proof.MixValue.lean ====
module

public import proofs.«01_k».proof.Proof.MixBody
public import Idealize.ShloMosaic.Lib.Pipeline.ReadBack
public import Idealize.ShloMosaic.Lib.WritesUnit

/-! The mixer's backward kernel: its three result arrays in the closed form of the specification. -/

@[expose] public section

set_option maxRecDepth 16384

noncomputable section

open Idealize.ShloMosaic Idealize.ShloMosaic.TcCoe Idealize.SL.Sem
open Idealize.ShloMosaic.Pipeline (Dat)
open MixSpec

namespace Cert.MixKernelIdeal.Proofs

open Cert.MixKernelIdeal Cert.MixKernelIdeal.Gen

variable (m : (ℓ : Loc nD τ sig) → Buf (Elt Ideal) ℓ) (d : Dev nD)

theorem weight_block (t : Fin cfg0.N) (c j : Fin 256) :
    k0_pay14 (F := Ideal) (iblk m d 6 t) (ix2 c j) = if j.val / 64 = c.val / 64 then apw m d (gix c (place c) (place j)) else 0 := by
  rw [← v13_apply]
  pointwise [k0_pay14]
  blk_point [iblk, idx t]

theorem vec_block (t : Fin cfg0.N) (k : Fin 8) (c : Fin 256) : (iblk m d 7 t : FVec Ideal S8x256 .f32) (ix2 k c) = V m d main_v16 (ix2 k c) := by
  blk_point [iblk, idx t]

/-- What the body reads at point `t`. -/
theorem tile (t : Fin cfg0.N) : Tile (au m d) (agb m d) (agc m d) (ah m d) (apw m d) (aps m d) (acw m d) (ady m d)
    (k0_pay8 (grid0.coords t) (iblk m d 1 t) (iblk m d 2 t) (iblk m d 0 t)) (k0_pay9 (grid0.coords t) (iblk m d 4 t) (iblk m d 5 t) (iblk m d 3 t))
    (k0_pay13 (BitVec.ofNat 32 ((grid0.coords t) 0).val) k0_pay10 k0_pay11 k0_pay12) (k0_pay14 (iblk m d 6 t))
    (k0_pay15 (View.ld (iblk m d 7 t) (Rect.unit ![0, 0] ![1, 256] inb_S8x256_S1x256_0_0)))
    (View.ld (iblk m d 7 t) (Rect.unit ![1, 0] ![1, 256] inb_S8x256_S1x256_1_0))
    (View.ld (iblk m d 7 t) (Rect.unit ![2, 0] ![1, 256] inb_S8x256_S1x256_2_0))
    (View.ld (iblk m d 7 t) (Rect.unit ![3, 0] ![1, 256] inb_S8x256_S1x256_3_0)) (512 * t.val - 8) where
  hu r c := by rw [ext_apply, zx_v0_u]
  hgb r c := by rw [ext_apply, zx_v0_gb]
  hgc r c := by rw [ext_apply, zx_v0_gc]
  hh r c := by rw [ext_apply, zx_v0_h]
  ha r c := by rw [dext_apply, arg7_eq]; rfl
  hb r c := by rw [dext_apply, arg7_eq]; rfl
  hK r c := count_apply t r c
  hW c j := weight_block m d t c j
  hS c := by
    rw [← v16_scale, ← vec_block m d t 0]
    pointwise [k0_pay15]
  hw0 c := by
    refine Eq.trans ?_ ((vec_block m d t ⟨1, by omega⟩ c).trans (v16_filter m d 0 c))
    pointwise
  hw1 c := by
    refine Eq.trans ?_ ((vec_block m d t ⟨2, by omega⟩ c).trans (v16_filter m d 1 c))
    pointwise
  hw2 c := by
    refine Eq.trans ?_ ((vec_block m d t ⟨3, by omega⟩ c).trans (v16_filter m d 2 c))
    pointwise

theorem at_own (t : Fin cfg0.N) (a : Fin 512) : 512 * (t.val : ℤ) - 8 + ((own a).val : ℤ) = ((512 * t.val + a.val : ℕ) : ℤ) := by
  simp only []
  push_cast
  ring

/-- The four column blocks of the first result. -/
theorem four (P3 P2 P1 P0 : FVec Ideal S512x256 .bf16) (R : FVec Ideal S512x1024 .bf16)
    (h0 : ∀ a (c : Fin 256), P0 (ix2 a c) = R (ix2 a ⟨c.val, by omega⟩)) (h1 : ∀ a (c : Fin 256), P1 (ix2 a c) = R (ix2 a ⟨256 + c.val, by omega⟩))
    (h2 : ∀ a (c : Fin 256), P2 (ix2 a c) = R (ix2 a ⟨512 + c.val, by omega⟩)) (h3 : ∀ a (c : Fin 256), P3 (ix2 a c) = R (ix2 a ⟨768 + c.val, by omega⟩))
    (y : S512x1024.Idx) :
    View.canon (Val := Elt Ideal) (e := .bf16) [⟨Rect.unit ![0, 768] ![512, 256] inb_S512x1024_S512x256_0_768, P3⟩, ⟨Rect.unit ![0, 512] ![512, 256] inb_S512x1024_S512x256_0_512, P2⟩,
      ⟨Rect.unit ![0, 256] ![512, 256] inb_S512x1024_S512x256_0_256, P1⟩, ⟨Rect.unit ![0, 0] ![512, 256] inb_S512x1024_S512x256_0_0, P0⟩] y = R y := by
  canon_tiles x hx
  all_goals obtain ⟨a, b, rfl⟩ : ∃ a b, x = ix2 a b := ⟨x 0, x 1, by funext i; fin_cases i <;> rfl⟩
  · rw [h3]; blk_ext <;> first | exact hx0.symm | exact hx1.symm
  · rw [h2]; blk_ext <;> first | exact hx0.symm | exact hx1.symm
  · rw [h1]; blk_ext <;> first | exact hx0.symm | exact hx1.symm
  · rw [h0]; blk_ext <;> first | exact hx0.symm | exact hx1.symm

/-- One stored row of the third result, over what was there. -/
theorem canon_row (k : ℕ) (inb) (P : FVec Ideal S1x256 .f32) (L) (r : Fin 8) (c : Fin 256) :
    View.canon (Val := Elt Ideal) (s := S8x256) (e := .f32) (⟨Rect.unit ![k, 0] ![1, 256] inb, P⟩ :: L) (ix2 r c)
      = if r.val = k then P (ix2 0 c) else View.canon L (ix2 r c) := by
  split_ifs with h
  · have e : ix2 r c = (Rect.unit (s := S8x256) ![k, 0] ![1, 256] inb).emb (ix2 (0 : Fin 1) c) := by
      funext a
      fin_cases a <;> refine Fin.ext ?_ <;> simp [h]
    rw [e]
    exact View.canon_cons_emb _ _ _ _
  · refine View.canon_cons_of_not_mem _ _ fun hx => h ?_
    have := (Rect.mem_set_unit (inb := inb).mp hx) 0
    simp at this
    omega

theorem write_row {κ : Kind} {sp : Space} (v : View sig κ sp S8x256 .f32) (f : v.ty.Contents (Elt Ideal)) (k : ℕ) (inb) (P : FVec Ideal S1x256 .f32) (L) (r : Fin 8) (c : Fin 256) :
    v.read (Elt Ideal) (v.writes (Elt Ideal) f (⟨Rect.unit ![k, 0] ![1, 256] inb, P⟩ :: L)) (ix2 r c)
      = if r.val = k then P (ix2 0 c) else v.read (Elt Ideal) (v.writes (Elt Ideal) f L) (ix2 r c) := by
  rw [View.read_writes_cons_unit v f inb P L _ rfl]
  split_ifs with h h' h'
  · exact congrArg P (by funext a; fin_cases a <;> refine Fin.ext ?_ <;> simp [h'])
  · exact absurd (h 0) (by simp; omega)
  · exact absurd (fun a => by fin_cases a <;> simp [h']) h
  · rfl

/-- The place in the first result of the row `a` of point `t`. -/
theorem emb8 (t : Fin cfg0.N) (y : S512x1024.Idx) : ((View.whole main_v17_0).slice (win0_8.rect t)).emb y
    = ix2 (⟨512 * t.val + (y 0).val, by have := (point_val t).2; have := (y 0).isLt; simp at this; omega⟩ : Fin 8192) (⟨(y 1).val, (y 1).isLt⟩ : Fin 1024) := by
  blk_ext [idx t]

theorem sum_own (t : Fin cfg0.N) (f : ℤ → EReal) :
    ∑ a : Fin 512, f (512 * (t.val : ℤ) - 8 + ((own a).val : ℤ)) = ∑ a : Fin 512, f ((512 * t.val + a.val : ℕ) : ℤ) :=
  Finset.sum_congr rfl fun a _ => by rw [at_own]

/-- The first result at a column of its block `k`. -/
theorem res1_at (gb gc hh : FVec Ideal S8192x256 .f32) (pw : FVec Ideal S4x64x64 .f32) (ps : FVec Ideal S256 .f32) (cw : FVec Ideal S3x256 .f32)
    (dy : FVec Ideal S8192x1024 .f32) (r : Fin 8192) (c : Fin 256) (n : ℕ) (hn : n < 1024) (k : ℕ) (hk : n = 256 * k + c.val) :
    res1 gb gc hh pw ps cw dy (ix2 r ⟨n, hn⟩) = if k = 0 then du pw ps dy c r.val else if k = 1 then dgb gc hh cw dy c r.val
      else if k = 2 then dz gb cw dy c r.val * zx hh c r.val else dz gb cw dy c r.val * zx gc c r.val := by
  have hc := c.isLt
  have e : (⟨n % 256, by omega⟩ : Fin 256) = c := Fin.ext (by simp only []; omega)
  have e1 : (n < 256) = (k = 0) := propext (by omega)
  have e2 : (n < 512) = (k < 2) := propext (by omega)
  have e3 : (n < 768) = (k < 3) := propext (by omega)
  show (if n < 256 then du pw ps dy ⟨n % 256, _⟩ r.val else if n < 512 then dgb gc hh cw dy ⟨n % 256, _⟩ r.val
      else if n < 768 then dz gb cw dy ⟨n % 256, _⟩ r.val * zx hh ⟨n % 256, _⟩ r.val
      else dz gb cw dy ⟨n % 256, _⟩ r.val * zx gc ⟨n % 256, _⟩ r.val) = _
  simp only [e, e1, e2, e3]
  split_ifs <;> first | (exfalso; omega) | rfl

/-- The first result. -/
theorem final0 : (dats m 0 d).arrAt 8 (cfgs 0).N = res1 (agb m d) (agc m d) (ah m d) (apw m d) (aps m d) (acw m d) (ady m d) := by
  refine (dats m 0 d).arrAt_eq_of_covers 8 _ (by decide +kernel) fun t hf y => ?_
  blk_simp
  rw [after0_8, emb8]
  have ht : t.val < 16 := (point_val t).2
  have h := tile m d t
  have e0 : ∀ (a : Fin 512) (c : Fin 256) (n : ℕ) (hn : n < 1024) (k : ℕ), n = 256 * k + c.val →
      res1 (agb m d) (agc m d) (ah m d) (apw m d) (aps m d) (acw m d) (ady m d) (ix2 ⟨512 * t.val + a.val, by omega⟩ ⟨n, hn⟩)
      = if k = 0 then du (apw m d) (aps m d) (ady m d) c (512 * t.val - 8 + (own a).val)
        else if k = 1 then dgb (agc m d) (ah m d) (acw m d) (ady m d) c (512 * t.val - 8 + (own a).val)
        else if k = 2 then dz (agb m d) (acw m d) (ady m d) c (512 * t.val - 8 + (own a).val) * zx (ah m d) c (512 * t.val - 8 + (own a).val)
        else dz (agb m d) (acw m d) (ady m d) c (512 * t.val - 8 + (own a).val) * zx (agc m d) c (512 * t.val - 8 + (own a).val) := by
    intro a c n hn k hk
    rw [at_own]
    exact res1_at _ _ _ _ _ _ _ _ c n hn k hk
  by_cases hc : t.val % 16 = 0
  · rw [outsAt0_A m d t hc]; frame_out
    refine four _ _ _ _ (fun y => res1 (agb m d) (agc m d) (ah m d) (apw m d) (aps m d) (acw m d) (ady m d)
      (ix2 ⟨512 * t.val + (y 0).val, by have := (y 0).isLt; simp at this; omega⟩ ⟨(y 1).val, (y 1).isLt⟩)) ?_ ?_ ?_ ?_ y
    · exact fun a c => (pay27_apply h a c).trans (e0 a c _ _ 0 (by simp)).symm
    · exact fun a c => (pay38_apply h a c).trans (e0 a c _ _ 1 (by simp)).symm
    · exact fun a c => (pay40_apply h a c).trans (e0 a c _ _ 2 (by simp)).symm
    · exact fun a c => (pay1_apply h a c).trans (e0 a c _ _ 3 (by simp)).symm
  · rw [outsAt0_B m d t hc]; frame_out
    refine four _ _ _ _ (fun y => res1 (agb m d) (agc m d) (ah m d) (apw m d) (aps m d) (acw m d) (ady m d)
      (ix2 ⟨512 * t.val + (y 0).val, by have := (y 0).isLt; simp at this; omega⟩ ⟨(y 1).val, (y 1).isLt⟩)) ?_ ?_ ?_ ?_ y
    · exact fun a c => (pay27_apply h a c).trans (e0 a c _ _ 0 (by simp)).symm
    · exact fun a c => (pay38_apply h a c).trans (e0 a c _ _ 1 (by simp)).symm
    · exact fun a c => (pay40_apply h a c).trans (e0 a c _ _ 2 (by simp)).symm
    · exact fun a c => (pay1_apply h a c).trans (e0 a c _ _ 3 (by simp)).symm

/-- What point `n` adds to the second result. -/
def term2 (n : ℕ) (i : S256x256.Idx) : EReal :=
  ∑ a : Fin 512, pm (au m d) (i 0) ((512 * n + a.val : ℕ) : ℤ) * dq (aps m d) (ady m d) (i 1) ((512 * n + a.val : ℕ) : ℤ)

theorem part1 (t : Fin cfg0.N) (x : FVec Ideal S256x256 .f32) (i : S256x256.Idx) :
    k0_pay23 (k0_pay9 (grid0.coords t) (iblk m d 4 t) (iblk m d 5 t) (iblk m d 3 t)) k0_pay10
      (k0_pay13 (BitVec.ofNat 32 ((grid0.coords t) 0).val) k0_pay10 k0_pay11 k0_pay12)
      (k0_pay15 (View.ld (iblk m d 7 t) (Rect.unit ![0, 0] ![1, 256] inb_S8x256_S1x256_0_0)))
      (k0_pay16 (k0_pay8 (grid0.coords t) (iblk m d 1 t) (iblk m d 2 t) (iblk m d 0 t)))
      (k0_pay17 (k0_pay8 (grid0.coords t) (iblk m d 1 t) (iblk m d 2 t) (iblk m d 0 t)))
      (k0_pay18 (k0_pay8 (grid0.coords t) (iblk m d 1 t) (iblk m d 2 t) (iblk m d 0 t)) k0_pay11 k0_pay12) x i =
    x i + term2 m d t.val i := by
  obtain ⟨c, j, rfl⟩ : ∃ a b, i = ix2 (a : Fin 256) (b : Fin 256) := ⟨i 0, i 1, by funext i; fin_cases i <;> rfl⟩
  rw [pay23_apply (tile m d t)]
  exact congrArg _ (sum_own t fun z => pm (au m d) c z * dq (aps m d) (ady m d) j z)

/-- The second result. -/
theorem final1 : (dats m 0 d).arrAt 9 (cfgs 0).N = (fun i => res2 (au m d) (aps m d) (ady m d) (i 0) (i 1) : FVec Ideal S256x256 .f32) := by
  refine (dats m 0 d).arrAt_eq_of_covers 9 _ (by decide +kernel) fun t hf y => ?_
  blk_simp
  rw [after0_9, Pipeline.eq_sum_fin_of_reset_step_apply_of_flush (fun n h => (outsAt0 m d n h).2.1) 16 (fun _ => 0)
    (fun s i => term2 m d s.val i)
    (fun t h i => by
      rw [outsAt0_A m d t h]; frame_out
      exact (part1 m d t _ i).trans (congrArg (· + term2 m d t.val i) (by pointwise [k0_pay6])))
    (fun t h i => by rw [outsAt0_B m d t h]; frame_out; exact part1 m d t _ i) t ((flush0_9 t).mp hf) _, zero_add]
  have h0 : t.val / 16 = 0 := Nat.div_eq_of_lt (point_val t).2
  have ey : ((View.whole main_v17_1).slice (win0_9.rect t)).emb y = ix2 (⟨(y 0).val, (y 0).isLt⟩ : Fin 256) (⟨(y 1).val, (y 1).isLt⟩ : Fin 256) := by
    blk_ext [idx t]
  rw [ey]
  unfold res2 term2
  refine Fin.sum_mul_add_congr fun s k hl => ?_
  have e : 512 * (16 * (t.val / 16) + s.val) + k.val = s.val * 512 + k.val := by omega
  simp only [e]
  rfl

theorem res3_row (k : ℕ) (hk : k < 4) (h8 : k < 8) (c : Fin 256) : res3 (au m d) (agb m d) (agc m d) (ah m d) (apw m d) (ady m d) (ix2 ⟨k, h8⟩ c)
    = ∑ t : Fin 8192, if k = 0 then dya (ady m d) c t.val * ym (au m d) (apw m d) c t.val
      else dconv (agb m d) (ady m d) c t.val * zz (agc m d) (ah m d) c ((t.val : ℤ) + k - 2) := by
  show (if k = 0 then _ else if k < 4 then _ else _) = _
  split_ifs <;> rfl

/-- What point `n` adds to the third result. -/
def term3 (n : ℕ) (i : S8x256.Idx) : EReal :=
  if (i 0).val = 0 then ∑ a : Fin 512, dya (ady m d) (i 1) ((512 * n + a.val : ℕ) : ℤ) * ym (au m d) (apw m d) (i 1) ((512 * n + a.val : ℕ) : ℤ)
  else if (i 0).val < 4 then ∑ a : Fin 512, dconv (agb m d) (ady m d) (i 1) ((512 * n + a.val : ℕ) : ℤ)
    * zz (agc m d) (ah m d) (i 1) (((512 * n + a.val : ℕ) : ℤ) + (i 0).val - 2)
  else 0

theorem rows3 (t : Fin cfg0.N) (x : FVec Ideal S8x256 .f32) (P3 P2 P1 P0 : FVec Ideal S1x256 .f32) (Z r : EReal)
    (h3 : P3 = k0_pay5 (k0_pay32 (k0_pay8 (grid0.coords t) (iblk m d 1 t) (iblk m d 2 t) (iblk m d 0 t)))
            (k0_pay37 (k0_pay8 (grid0.coords t) (iblk m d 1 t) (iblk m d 2 t) (iblk m d 0 t))
              (k0_pay9 (grid0.coords t) (iblk m d 4 t) (iblk m d 5 t) (iblk m d 3 t)))
            (View.ld (Val := Elt Ideal) (e' := .f32) (S := S8x256) x (Rect.unit ![3, 0] ![1, 256] inb_S8x256_S1x256_3_0)))
    (h2 : P2 = k0_pay4 (k0_pay30 (k0_pay8 (grid0.coords t) (iblk m d 1 t) (iblk m d 2 t) (iblk m d 0 t)))
            (k0_pay37 (k0_pay8 (grid0.coords t) (iblk m d 1 t) (iblk m d 2 t) (iblk m d 0 t))
              (k0_pay9 (grid0.coords t) (iblk m d 4 t) (iblk m d 5 t) (iblk m d 3 t)))
            (View.ld (Val := Elt Ideal) (e' := .f32) (S := S8x256) x (Rect.unit ![2, 0] ![1, 256] inb_S8x256_S1x256_2_0)))
    (h1 : P1 = k0_pay3 (k0_pay31 (k0_pay8 (grid0.coords t) (iblk m d 1 t) (iblk m d 2 t) (iblk m d 0 t)))
            (k0_pay37 (k0_pay8 (grid0.coords t) (iblk m d 1 t) (iblk m d 2 t) (iblk m d 0 t))
              (k0_pay9 (grid0.coords t) (iblk m d 4 t) (iblk m d 5 t) (iblk m d 3 t)))
            (View.ld (Val := Elt Ideal) (e' := .f32) (S := S8x256) x (Rect.unit ![1, 0] ![1, 256] inb_S8x256_S1x256_1_0)))
    (h0 : P0 = k0_pay21 (k0_pay9 (grid0.coords t) (iblk m d 4 t) (iblk m d 5 t) (iblk m d 3 t)) k0_pay10
            (k0_pay13 (BitVec.ofNat 32 ((grid0.coords t) 0).val) k0_pay10 k0_pay11 k0_pay12) (k0_pay14 (iblk m d 6 t))
            (k0_pay16 (k0_pay8 (grid0.coords t) (iblk m d 1 t) (iblk m d 2 t) (iblk m d 0 t)))
            (k0_pay17 (k0_pay8 (grid0.coords t) (iblk m d 1 t) (iblk m d 2 t) (iblk m d 0 t)))
            (k0_pay18 (k0_pay8 (grid0.coords t) (iblk m d 1 t) (iblk m d 2 t) (iblk m d 0 t)) k0_pay11 k0_pay12)
            (View.ld (Val := Elt Ideal) (e' := .f32) (S := S8x256) x (Rect.unit ![0, 0] ![1, 256] inb_S8x256_S1x256_0_0))) (c : Fin 256) (k : Fin 8) (hZ : Z = x (ix2 k c)) (hr : r = x (ix2 k c)) :
    (if k.val = 3 then P3 (ix2 0 c) else if k.val = 2 then P2 (ix2 0 c) else if k.val = 1 then P1 (ix2 0 c) else if k.val = 0 then P0 (ix2 0 c) else Z)
      = r + term3 m d t.val (ix2 k c) := by
  have h := tile m d t
  have ld : ∀ (q : ℕ) (inb) (hq : q = k.val), View.ld (Val := Elt Ideal) (e' := .f32) (S := S8x256) x (Rect.unit ![q, 0] ![1, 256] inb) (ix2 (0 : Fin 1) c) = x (ix2 k c) := by
    intro q inb hq
    subst hq
    pointwise
  show _ = r + (if k.val = 0 then ∑ a : Fin 512, dya (ady m d) c ((512 * t.val + a.val : ℕ) : ℤ) * ym (au m d) (apw m d) c ((512 * t.val + a.val : ℕ) : ℤ)
    else if k.val < 4 then ∑ a : Fin 512, dconv (agb m d) (ady m d) c ((512 * t.val + a.val : ℕ) : ℤ)
      * zz (agc m d) (ah m d) c (((512 * t.val + a.val : ℕ) : ℤ) + k.val - 2)
    else 0)
  rw [hr]
  have row : ∀ q : ℤ, (k.val : ℤ) = q + 2 → (∑ a : Fin 512, dconv (agb m d) (ady m d) c ((512 * t.val + a.val : ℕ) : ℤ)
      * zz (agc m d) (ah m d) c (((512 * t.val + a.val : ℕ) : ℤ) + q)) = ∑ a : Fin 512, dconv (agb m d) (ady m d) c ((512 * t.val + a.val : ℕ) : ℤ)
      * zz (agc m d) (ah m d) c (((512 * t.val + a.val : ℕ) : ℤ) + k.val - 2) := fun q hq => by
    refine Finset.sum_congr rfl fun a _ => ?_
    rw [hq]
    exact congrArg (fun z => dconv (agb m d) (ady m d) c ((512 * t.val + a.val : ℕ) : ℤ) * zz (agc m d) (ah m d) c z) (by omega)
  by_cases a3 : k.val = 3
  · rw [if_pos a3, if_neg (by omega), if_pos (by omega), h3, pay5_apply h, ld 3 _ a3.symm, ← row 1 (by omega)]
    exact congrArg _ (sum_own t fun z => dconv (agb m d) (ady m d) c z * zz (agc m d) (ah m d) c (z + 1))
  rw [if_neg a3]
  by_cases a2 : k.val = 2
  · rw [if_pos a2, if_neg (by omega), if_pos (by omega), h2, pay4_apply h, ld 2 _ a2.symm, ← row 0 (by omega)]
    simp only [add_zero]
    exact congrArg _ (sum_own t fun z => dconv (agb m d) (ady m d) c z * zz (agc m d) (ah m d) c z)
  rw [if_neg a2]
  by_cases a1 : k.val = 1
  · rw [if_pos a1, if_neg (by omega), if_pos (by omega), h1, pay3_apply h, ld 1 _ a1.symm, ← row (-1) (by omega)]
    exact congrArg _ (sum_own t fun z => dconv (agb m d) (ady m d) c z * zz (agc m d) (ah m d) c (z - 1))
  rw [if_neg a1]
  by_cases a0 : k.val = 0
  · rw [if_pos a0, if_pos a0, h0, pay21_apply h, ld 0 _ a0.symm]
    exact congrArg _ (sum_own t fun z => dya (ady m d) c z * ym (au m d) (apw m d) c z)
  · rw [if_neg a0, if_neg a0, if_neg (by omega), hZ, add_zero]

theorem sum3 (q : ℕ) (h0 : q = 0) (y : S8x256.Idx) : ∑ s : Fin 16, term3 m d (16 * q + s.val) y
    = res3 (au m d) (agb m d) (agc m d) (ah m d) (apw m d) (ady m d) (ix2 (⟨(y 0).val, (y 0).isLt⟩ : Fin 8) (⟨(y 1).val, (y 1).isLt⟩ : Fin 256)) := by
  unfold term3 res3
  show (∑ s : Fin 16, if (y 0).val = 0 then ∑ a : Fin 512, _ else if (y 0).val < 4 then ∑ a : Fin 512, _ else 0)
    = if (y 0).val = 0 then _ else if (y 0).val < 4 then _ else 0
  split_ifs with a0 a1
  · refine Fin.sum_mul_add_congr fun s k hl => ?_
    have e : 512 * (16 * (q) + s.val) + k.val = s.val * 512 + k.val := by omega
    simp only [e]
    rfl
  · refine Fin.sum_mul_add_congr fun s k hl => ?_
    have e : 512 * (16 * (q) + s.val) + k.val = s.val * 512 + k.val := by omega
    simp only [e]
    rfl
  · exact Finset.sum_const_zero

/-- The third result. -/
theorem final2 : (dats m 0 d).arrAt 10 (cfgs 0).N = res3 (au m d) (agb m d) (agc m d) (ah m d) (apw m d) (ady m d) := by
  refine (dats m 0 d).arrAt_eq_of_covers 10 _ (by decide +kernel) fun t hf y => ?_
  blk_simp
  rw [after0_10, Pipeline.eq_sum_fin_of_reset_step_apply_of_flush (fun n h => (outsAt0 m d n h).2.2) 16 (fun _ => 0) (fun s i => term3 m d s.val i)
    (fun t h i => by
      obtain ⟨k, c, rfl⟩ : ∃ a b, i = ix2 (a : Fin 8) (b : Fin 256) := ⟨i 0, i 1, by funext i; fin_cases i <;> rfl⟩
      rw [outsAt0_A m d t h]
      frame_open
      simp (disch := decide) only [↓ View.readCov_skip, ↓ View.readCov_cons_toLoadRect, ↓ View.readCov_fill]
      frame_out
      rw [canon_row, canon_row, canon_row, canon_row]
      refine rows3 m d t k0_pay7 _ _ _ _ _ _ rfl rfl rfl rfl c k ?_ ?_
      · exact congrFun (View.canon_cons_unit_lit (Val := Elt Ideal) (S := S8x256) (e := .f32) inb_S8x256_S8x256_0_0 (k0_pay7 (F := Ideal)) [] (by decide)) _
      · pointwise [k0_pay7])
    (fun t h i => by
      obtain ⟨k, c, rfl⟩ : ∃ a b, i = ix2 (a : Fin 8) (b : Fin 256) := ⟨i 0, i 1, by funext i; fin_cases i <;> rfl⟩
      rw [outsAt0_B m d t h]
      frame_open
      simp (disch := decide) only [↓ View.readCov_skip, ↓ View.readCov_cons_toLoadRect, ↓ View.readCov_fill]
      frame_out
      rw [write_row, write_row, write_row, write_row]
      refine rows3 m d t _ _ _ _ _ _ _ rfl rfl rfl rfl c k ?_ rfl
      exact congrFun (Memref.IsWhole.read_unread _ _) _) t ((flush0_10 t).mp hf) _, zero_add]
  have h0 : t.val / 16 = 0 := Nat.div_eq_of_lt (point_val t).2
  have ey : ((View.whole main_v17_2).slice (win0_10.rect t)).emb y = ix2 (⟨(y 0).val, (y 0).isLt⟩ : Fin 8) (⟨(y 1).val, (y 1).isLt⟩ : Fin 256) := by
    blk_ext [idx t]
  rw [ey]
  exact sum3 m d (t.val / 16) h0 y

end Cert.MixKernelIdeal.Proofs

end
-- ==== Proof.MixScan.lean ====
/-
  The operations of the reference's pooling read at one element: a running sum and its reverse as sums over rows, a
  gather of rows by a table of row numbers and groups, and a scatter that adds rows by such a table.
-/
module

public import Idealize.ShloMosaic.Lib.Pipeline.ValueKit
public import Idealize.ShloMosaic.Lib.Routing.OpsPair
public import proofs.«01_k».proof.MixReferenceIdeal

@[expose] public section

set_option maxRecDepth 16384

noncomputable section

open Idealize.ShloMosaic

namespace Cert.MixReferenceIdeal.Proofs

/-- Adding one after another is the start plus the sum. -/
theorem foldl_add {β : Type} (l : List β) (f : β → EReal) (a : EReal) : l.foldl (fun r n => r + f n) a = a + (l.map f).sum := by
  induction l generalizing a with
  | nil => simp
  | cons b l ih => rw [List.foldl_cons, ih, List.map_cons, List.sum_cons, add_assoc]

/-- The one window of 8192 rows, a position in it for each row. -/
def rowPos : Fin 8192 ≃ (⟨4, ![1, 8192, 1, 1]⟩ : Shape).Idx where
  toFun k := ix4 0 k 0 0
  invFun i := i 1
  left_inv k := rfl
  right_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- A window sum from zero is the sum over the rows of the window. -/
theorem window_rows (lo hi : Fin 4 → ℕ) (x : FVec Ideal S1x8192x4x64 .f32) (v : FVec Ideal S_ .f32) (hu : 0 < S_.numel)
    (hv : v (Shape.Idx.first hu) = 0) (h : S1x8192x4x64.ReduceWindows ![1, 8192, 1, 1] ![1, 1, 1, 1] lo hi S1x8192x4x64) (j : S1x8192x4x64.Idx) :
    Host.reduceWindowAdd ![1, 8192, 1, 1] ![1, 1, 1, 1] lo hi x v h hu j =
      ∑ k : Fin 8192, (let p : Fin 4 → ℕ := fun a => (j a).val * (![1, 1, 1, 1] : Fin 4 → ℕ) a + (rowPos k a).val
        if hin : ∀ a : Fin 4, lo a ≤ p a ∧ p a - lo a < S1x8192x4x64.size a then x (fun a => ⟨p a - lo a, (hin a).2⟩) else (0 : EReal)) := by
  unfold Host.reduceWindowAdd
  rw [Ideal.hostReduceWindowAdd_def]
  unfold Ideal.hostReduceWindowAdd Host.reduceWindow
  rw [hv]
  refine (foldl_add (List.finRange (⟨4, ![1, 8192, 1, 1]⟩ : Shape).numel) _ 0).trans ?_
  rw [zero_add, ← Fin.sum_univ_def]
  refine Fintype.sum_equiv ((⟨S1x8192x4x64.rank, ![1, 8192, 1, 1]⟩ : Shape).rowMajor.symm.trans rowPos.symm) _ _ fun n => ?_
  rw [show rowPos (((⟨S1x8192x4x64.rank, ![1, 8192, 1, 1]⟩ : Shape).rowMajor.symm.trans rowPos.symm) n) =
    (⟨S1x8192x4x64.rank, ![1, 8192, 1, 1]⟩ : Shape).rowMajor.symm n from (congrArg rowPos (Equiv.trans_apply _ _ _)).trans (Equiv.apply_symm_apply rowPos _)]
  by_cases hin : ∀ a : Fin 4, lo a ≤ (j a).val * (![1, 1, 1, 1] : Fin 4 → ℕ) a + ((⟨S1x8192x4x64.rank, ![1, 8192, 1, 1]⟩ : Shape).rowMajor.symm n a).val
        ∧ (j a).val * (![1, 1, 1, 1] : Fin 4 → ℕ) a + ((⟨S1x8192x4x64.rank, ![1, 8192, 1, 1]⟩ : Shape).rowMajor.symm n a).val - lo a < S1x8192x4x64.size a
  · refine (dif_pos hin).trans ?_
    dsimp only
    rw [dif_pos]
    · rfl
    · exact hin
  · refine (dif_neg hin).trans ?_
    dsimp only
    rw [dif_neg]
    exact hin

/-- The running sum at row `t` is the sum of the rows up to `t`. -/
theorem cumsum_apply (x : FVec Ideal S1x8192x4x64 .f32) (v : FVec Ideal S_ .f32) (hu : 0 < S_.numel) (hv : v (Shape.Idx.first hu) = 0)
    (h : S1x8192x4x64.ReduceWindows ![1, 8192, 1, 1] ![1, 1, 1, 1] ![0, 8191, 0, 0] ![0, 0, 0, 0] S1x8192x4x64)
    (t : Fin 8192) (g : Fin 4) (l : Fin 64) :
    Host.reduceWindowAdd ![1, 8192, 1, 1] ![1, 1, 1, 1] ![0, 8191, 0, 0] ![0, 0, 0, 0] x v h hu (ix4 0 t g l) =
      ∑ s : Fin 8192, if s.val < t.val + 1 then x (ix4 0 s g l) else 0 := by
  rw [window_rows _ _ x v hu hv h]
  refine Fintype.sum_equiv (Equiv.addRight (⟨(t.val + 1) % 8192, by omega⟩ : Fin 8192)) _ _ fun k => ?_
  have hs : ((Equiv.addRight (⟨(t.val + 1) % 8192, by omega⟩ : Fin 8192)) k).val = (k.val + (t.val + 1) % 8192) % 8192 := rfl
  generalize (Equiv.addRight (⟨(t.val + 1) % 8192, by omega⟩ : Fin 8192)) k = s at hs
  have hk := k.isLt
  have ht := t.isLt
  dsimp only
  by_cases c : 8191 ≤ t.val + k.val
  · rw [if_pos (by omega), dif_pos]
    · refine congrArg x (funext fun a => Fin.ext ?_)
      match a with
      | ⟨0, _⟩ => rfl
      | ⟨1, _⟩ => show t.val * 1 + k.val - 8191 = s.val; omega
      | ⟨2, _⟩ => show g.val * 1 + 0 - 0 = g.val; omega
      | ⟨3, _⟩ => show l.val * 1 + 0 - 0 = l.val; omega
    · intro a
      match a with
      | ⟨0, _⟩ => show 0 ≤ 0 * 1 + 0 ∧ 0 * 1 + 0 - 0 < 1; omega
      | ⟨1, _⟩ => show 8191 ≤ t.val * 1 + k.val ∧ t.val * 1 + k.val - 8191 < 8192; omega
      | ⟨2, _⟩ => show 0 ≤ g.val * 1 + 0 ∧ g.val * 1 + 0 - 0 < 4; omega
      | ⟨3, _⟩ => show 0 ≤ l.val * 1 + 0 ∧ l.val * 1 + 0 - 0 < 64; omega
  · rw [if_neg (by omega), dif_neg]
    intro hin
    have : 8191 ≤ t.val * 1 + k.val := (hin 1).1
    omega

/-- The reversed running sum at row `t` is the sum of the rows from `t` on. -/
theorem revsum_apply (x : FVec Ideal S1x8192x4x64 .f32) (v : FVec Ideal S_ .f32) (hu : 0 < S_.numel) (hv : v (Shape.Idx.first hu) = 0)
    (h : S1x8192x4x64.ReduceWindows ![1, 8192, 1, 1] ![1, 1, 1, 1] ![0, 0, 0, 0] ![0, 8191, 0, 0] S1x8192x4x64)
    (t : Fin 8192) (g : Fin 4) (l : Fin 64) :
    Host.reduceWindowAdd ![1, 8192, 1, 1] ![1, 1, 1, 1] ![0, 0, 0, 0] ![0, 8191, 0, 0] x v h hu (ix4 0 t g l) =
      ∑ s : Fin 8192, if t.val ≤ s.val then x (ix4 0 s g l) else 0 := by
  rw [window_rows _ _ x v hu hv h]
  refine Fintype.sum_equiv (Equiv.addRight t) _ _ fun k => ?_
  have hs : ((Equiv.addRight t) k).val = (k.val + t.val) % 8192 := rfl
  generalize (Equiv.addRight t) k = s at hs
  have hk := k.isLt
  have ht := t.isLt
  dsimp only
  by_cases c : t.val + k.val < 8192
  · rw [if_pos (by omega), dif_pos]
    · refine congrArg x (funext fun a => Fin.ext ?_)
      match a with
      | ⟨0, _⟩ => rfl
      | ⟨1, _⟩ => show t.val * 1 + k.val - 0 = s.val; omega
      | ⟨2, _⟩ => show g.val * 1 + 0 - 0 = g.val; omega
      | ⟨3, _⟩ => show l.val * 1 + 0 - 0 = l.val; omega
    · intro a
      match a with
      | ⟨0, _⟩ => show 0 ≤ 0 * 1 + 0 ∧ 0 * 1 + 0 - 0 < 1; omega
      | ⟨1, _⟩ => show 0 ≤ t.val * 1 + k.val ∧ t.val * 1 + k.val - 0 < 8192; omega
      | ⟨2, _⟩ => show 0 ≤ g.val * 1 + 0 ∧ g.val * 1 + 0 - 0 < 4; omega
      | ⟨3, _⟩ => show 0 ≤ l.val * 1 + 0 ∧ l.val * 1 + 0 - 0 < 64; omega
  · rw [if_neg (by omega), dif_neg]
    intro hin
    have : t.val * 1 + k.val - 0 < 8192 := (hin 1).2
    omega

variable [Facts₀]

/-- Row `t` of a gather: the operand's row and group that the table names. -/
theorem gather_apply (x : FVec Ideal S1x8193x4x64 .f32) (idx : IVec S8192x2 32) (t : Fin 8192) (l : Fin 64) (p : Fin 8193) (g : Fin 4)
    (hp : (idx (ix2 t 0)).toInt = p.val) (hg : (idx (ix2 t 1)).toInt = g.val) :
    Host.gather gather_S1x8193x4x64_S8192x2_S1x8192x64_02_12_n_n_12_1_11164 x idx (ix3 0 t l) = x (ix4 0 p g l) := by
  unfold Host.gather
  refine congrArg x (funext fun a => Fin.ext ?_)
  match a with
  | ⟨0, _⟩ => rfl
  | ⟨1, _⟩ =>
    show min (idx _).toInt.toNat (8193 - 1) + 0 + 0 = p.val
    have e : (idx (ix2 t 0)).toInt.toNat = p.val := by rw [hp]; rfl
    rw [show (idx _) = idx (ix2 t 0) from congrArg idx (by funext b; match b with | ⟨0, _⟩ => rfl | ⟨1, _⟩ => rfl), e]
    omega
  | ⟨2, _⟩ =>
    show min (idx _).toInt.toNat (4 - 1) + 0 + 0 = g.val
    have e : (idx (ix2 t 1)).toInt.toNat = g.val := by rw [hg]; rfl
    rw [show (idx _) = idx (ix2 t 1) from congrArg idx (by funext b; match b with | ⟨0, _⟩ => rfl | ⟨1, _⟩ => rfl), e]
    omega
  | ⟨3, _⟩ =>
    show 0 + 0 + l.val = l.val
    omega

/-- Where row `t` of an update lands: at the row and group that the table names, in its own column. -/
theorem scatter_at (idx : IVec S8192x2 32) (k : S1x8192x64.Idx) (p : Fin 8193) (g : Fin 4) (l : Fin 64) :
    scatter_S1x8193x4x64_S8192x2_S1x8192x64_02_12_12_1.resultIdx? k idx = some (ix4 0 p g l) ↔
      (idx (ix2 (k 1) 0)).toInt = p.val ∧ (idx (ix2 (k 1) 1)).toInt = g.val ∧ (k 2).val = l.val := by
  rw [Routing.resultIdx?_eq_some]
  have e0 : scatter_S1x8193x4x64_S8192x2_S1x8192x64_02_12_12_1.start k idx 1 = (idx (ix2 (k 1) 0)).toInt :=
    congrArg (fun i => (idx i).toInt) (by funext b; match b with | ⟨0, _⟩ => rfl | ⟨1, _⟩ => rfl)
  have e1 : scatter_S1x8193x4x64_S8192x2_S1x8192x64_02_12_12_1.start k idx 2 = (idx (ix2 (k 1) 1)).toInt :=
    congrArg (fun i => (idx i).toInt) (by funext b; match b with | ⟨0, _⟩ => rfl | ⟨1, _⟩ => rfl)
  constructor
  · intro h
    have h1 := h 1
    have h2 := h 2
    have h3 : (0 : ℤ) + ((k 2).val : ℤ) = (l.val : ℤ) := h 3
    rw [e0] at h1
    rw [e1] at h2
    refine ⟨(add_zero _).symm.trans h1, (add_zero _).symm.trans h2, by omega⟩
  · rintro ⟨h1, h2, h3⟩ a
    match a with
    | ⟨0, _⟩ =>
      have : (k 0).val = 0 := by have : (k 0).val < 1 := (k 0).isLt; omega
      show (0 : ℤ) + ((k 0).val : ℤ) = 0
      omega
    | ⟨1, _⟩ => exact (congrArg (· + (0 : ℤ)) e0).trans ((add_zero _).trans h1)
    | ⟨2, _⟩ => exact (congrArg (· + (0 : ℤ)) e1).trans ((add_zero _).trans h2)
    | ⟨3, _⟩ =>
      show (0 : ℤ) + ((k 2).val : ℤ) = l.val
      omega

/-- A scatter that adds, at one element: the operand there and the rows that the table sends there. -/
theorem scatter_apply (x : FVec Ideal S1x8193x4x64 .f32) (idx : IVec S8192x2 32) (upd : FVec Ideal S1x8192x64 .f32) (p : Fin 8193)
    (g : Fin 4) (l : Fin 64) :
    Host.scatterAdd scatter_S1x8193x4x64_S8192x2_S1x8192x64_02_12_12_1 x idx upd (ix4 0 p g l) =
      (x (ix4 0 p g l) + ∑ t : Fin 8192, if (idx (ix2 t 0)).toInt = p.val ∧ (idx (ix2 t 1)).toInt = g.val then upd (ix3 0 t l) else 0 : EReal) := by
  unfold Host.scatterAdd
  rw [Ideal.hostScatterAdd_def]
  unfold Ideal.hostScatterAdd
  refine congrArg (fun e : EReal => (x (ix4 0 p g l) : EReal) + e) ?_
  rw [← Finset.sum_filter]
  refine Finset.sum_nbij' (fun j => j 1) (fun t => ix3 0 t l) ?_ ?_ ?_ ?_ ?_
  · intro j hj
    have h := (scatter_at idx j p g l).mp (Finset.mem_filter.mp hj).2
    exact Finset.mem_filter.mpr ⟨Finset.mem_univ _, h.1, h.2.1⟩
  · intro t ht
    have h := (Finset.mem_filter.mp ht).2
    exact Finset.mem_filter.mpr ⟨Finset.mem_univ _, (scatter_at idx (ix3 0 t l) p g l).mpr ⟨h.1, h.2, rfl⟩⟩
  · intro j hj
    have h := (scatter_at idx j p g l).mp (Finset.mem_filter.mp hj).2
    funext a
    match a with
    | ⟨0, _⟩ => exact Subsingleton.elim (α := Fin 1) _ _
    | ⟨1, _⟩ => rfl
    | ⟨2, _⟩ => exact Fin.ext h.2.2.symm
  · intro t _
    rfl
  · intro j hj
    have h := (scatter_at idx j p g l).mp (Finset.mem_filter.mp hj).2
    refine congrArg upd ?_
    funext a
    match a with
    | ⟨0, _⟩ => exact Subsingleton.elim (α := Fin 1) _ _
    | ⟨1, _⟩ => rfl
    | ⟨2, _⟩ => exact Fin.ext h.2.2

end Cert.MixReferenceIdeal.Proofs

end
-- ==== Proof.MixTab.lean ====
/-
  The reference's row numbers: for each group of channels the first row of the window around a row and the row behind
  its last, as the tables by which it gathers and scatters, and the number of rows between them.
-/
module

public import Idealize.ShloMosaic.Lib.Pipeline.ValueKit
public import proofs.«01_k».proof.Proof.Gen.MixReferenceIdeal.Read
public import proofs.«01_k».proof.Proof.MixScan

@[expose] public section

set_option maxRecDepth 16384

noncomputable section

open Idealize.ShloMosaic

namespace Cert.MixReferenceIdeal.Proofs
open Cert.MixReferenceIdeal.Read

/-- The first row of the window of half width `h` around row `t`, and the row behind its last. -/
def loRow (h : ℕ) (t : Fin 8192) : Fin 8193 := ⟨t.val - h, by omega⟩
def hiRow (h : ℕ) (t : Fin 8192) : Fin 8193 := ⟨min (t.val + h) 8192, by omega⟩

theorem toInt_lit (n : ℕ) (h : n < 2147483648) : (BitVec.ofNat 32 n).toInt = n := by
  rw [BitVec.toInt_eq_toNat_of_lt (by simp; omega), BitVec.toNat_ofNat, Nat.mod_eq_of_lt (by omega)]

/-- A word read as an integer after a difference, a sum, a maximum and a minimum. -/
theorem toInt_sub (x y : BitVec 32) (a b : ℤ) (hx : x.toInt = a) (hy : y.toInt = b) (h : -2147483648 ≤ a - b ∧ a - b < 2147483648) :
    (IntOp.subi x y).toInt = a - b := by
  rw [IntOp.subi, BitVec.toInt_sub, hx, hy]
  exact Int.bmod_eq_of_le (by omega) (by omega)

theorem toInt_add (x y : BitVec 32) (a b : ℤ) (hx : x.toInt = a) (hy : y.toInt = b) (h : -2147483648 ≤ a + b ∧ a + b < 2147483648) :
    (IntOp.addi x y).toInt = a + b := by
  rw [IntOp.addi, BitVec.toInt_add, hx, hy]
  exact Int.bmod_eq_of_le (by omega) (by omega)

theorem toInt_clip (x : BitVec 32) (a : ℤ) (hx : x.toInt = a) : (IntOp.minsi 8192#32 (IntOp.maxsi 0#32 x)).toInt = min 8192 (max 0 a) := by
  have hm : (IntOp.maxsi 0#32 x).toInt = max 0 a := by
    unfold IntOp.maxsi
    rw [BitVec.slt, hx, show (0#32 : BitVec 32).toInt = 0 from rfl]
    split_ifs with h <;> simp at h <;> first | omega | simp; omega
  unfold IntOp.minsi
  rw [BitVec.slt, hm, show (8192#32 : BitVec 32).toInt = 8192 from rfl]
  split_ifs with h <;> simp at h <;> first | omega | simp; omega

/-- Row numbers that are not negative stand as they are. -/
theorem wrap_self (w : BitVec 32) (h : 0 ≤ w.toInt) : Scalar.select (IntOp.cmpi .slt w 0#32) (IntOp.addi w 8193#32) w = w := by
  have h0 : (0#32 : BitVec 32).toInt = 0 := rfl
  have : IntOp.cmpi .slt w 0#32 = 0#1 := by
    show BitVec.ofBool (BitVec.slt w 0#32) = _
    rw [show BitVec.slt w 0#32 = false from by simp only [BitVec.slt, decide_eq_false_iff_not]; omega]
    rfl
  rw [this]
  rfl

theorem lo_word (t : Fin 8192) (h : ℕ) (hh : h ≤ 8) :
    (IntOp.minsi 8192#32 (IntOp.maxsi 0#32 (IntOp.subi (BitVec.ofNat 32 t.val) (BitVec.ofNat 32 h)))).toInt = (loRow h t).val := by
  have := t.isLt
  rw [toInt_clip _ _ (toInt_sub _ _ _ _ (toInt_lit _ (by omega)) (toInt_lit _ (by omega)) (by omega))]
  simp only [loRow]
  omega

theorem hi_word (t : Fin 8192) (h : ℕ) (hh : h ≤ 8) :
    (IntOp.minsi 8192#32 (IntOp.maxsi 0#32 (IntOp.addi (IntOp.subi (BitVec.ofNat 32 t.val) (BitVec.ofNat 32 h)) (BitVec.ofNat 32 (2 * h))))).toInt
      = (hiRow h t).val := by
  have := t.isLt
  rw [toInt_clip _ _ (toInt_add _ _ _ _ (toInt_sub _ _ _ _ (toInt_lit _ (by omega)) (toInt_lit _ (by omega)) (by omega))
    (toInt_lit _ (by omega)) (by omega))]
  simp only [hiRow]
  omega

/-- A table of rows `e` of the group `g`. -/
structure Tab (idx : IVec S8192x2 32) (e : Fin 8192 → Fin 8193) (g : Fin 4) : Prop where
  row : ∀ t : Fin 8192, (idx (ix2 t 0)).toInt = (e t).val
  grp : ∀ t : Fin 8192, (idx (ix2 t 1)).toInt = g.val

theorem wrap_row {w : BitVec 32} {n : ℕ} (h : w.toInt = n) : (Scalar.select (IntOp.cmpi .slt w 0#32) (IntOp.addi w 8193#32) w).toInt = n := by
  rw [wrap_self w (by omega), h]

variable [Facts₀]

theorem lo0 (t : Fin 8192) : (val_main_v9 (F := Ideal) (ix1 t)).toInt = (loRow 1 t).val := by
  pointwise [val_main_v9, val_main_call1_v4, val_main_call1_v3, val_main_c_2, val_main_call1_v2, val_main_call1_v1, val_main_call1_v0, val_main_c_1, val_main_v8, val_main_v6, val_main_v7, val_main_c]
  exact lo_word t 1 (by norm_num)

theorem hi0 (t : Fin 8192) : (val_main_v14 (F := Ideal) (ix1 t)).toInt = (hiRow 1 t).val := by
  pointwise [val_main_v14, val_main_call2_v4, val_main_call2_v3, val_main_c_6, val_main_call2_v2, val_main_call2_v1, val_main_call2_v0, val_main_c_5, val_main_v13, val_main_v11, val_main_v6, val_main_v10, val_main_c_3, val_main_v12, val_main_c_4]
  exact hi_word t 1 (by norm_num)

theorem loTab0 : Tab (val_main_v38 (F := Ideal)) (loRow 1) 0 where
  row t := by
    pointwise [val_main_v38, val_main_v36, val_main_v33, val_main_v30, val_main_v29, val_main_c_10, val_main_v32, val_main_v31, val_main_c_11, val_main_v37, val_main_v35, val_main_v34, val_main_c_12]
    exact wrap_row (lo0 t)
  grp t := by
    pointwise [val_main_v38, val_main_v36, val_main_v33, val_main_v30, val_main_v29, val_main_c_10, val_main_v32, val_main_v31, val_main_c_11, val_main_v37, val_main_v35, val_main_v34, val_main_c_12]
    rfl

theorem hiTab0 : Tab (val_main_v27 (F := Ideal)) (hiRow 1) 0 where
  row t := by
    pointwise [val_main_v27, val_main_v25, val_main_v22, val_main_v19, val_main_v18, val_main_c_7, val_main_v21, val_main_v20, val_main_c_8, val_main_v26, val_main_v24, val_main_v23, val_main_c_9]
    exact wrap_row (hi0 t)
  grp t := by
    pointwise [val_main_v27, val_main_v25, val_main_v22, val_main_v19, val_main_v18, val_main_c_7, val_main_v21, val_main_v20, val_main_c_8, val_main_v26, val_main_v24, val_main_v23, val_main_c_9]
    rfl

theorem lo1 (t : Fin 8192) : (val_main_v48 (F := Ideal) (ix1 t)).toInt = (loRow 2 t).val := by
  pointwise [val_main_v48, val_main_call3_v4, val_main_call3_v3, val_main_c_15, val_main_call3_v2, val_main_call3_v1, val_main_call3_v0, val_main_c_14, val_main_v47, val_main_v6, val_main_v46, val_main_c_13]
  exact lo_word t 2 (by norm_num)

theorem hi1 (t : Fin 8192) : (val_main_v53 (F := Ideal) (ix1 t)).toInt = (hiRow 2 t).val := by
  pointwise [val_main_v53, val_main_call4_v4, val_main_call4_v3, val_main_c_19, val_main_call4_v2, val_main_call4_v1, val_main_call4_v0, val_main_c_18, val_main_v52, val_main_v50, val_main_v6, val_main_v49, val_main_c_16, val_main_v51, val_main_c_17]
  exact hi_word t 2 (by norm_num)

theorem loTab1 : Tab (val_main_v77 (F := Ideal)) (loRow 2) 1 where
  row t := by
    pointwise [val_main_v77, val_main_v75, val_main_v72, val_main_v69, val_main_v68, val_main_c_23, val_main_v71, val_main_v70, val_main_c_24, val_main_v76, val_main_v74, val_main_v73, val_main_c_25]
    exact wrap_row (lo1 t)
  grp t := by
    pointwise [val_main_v77, val_main_v75, val_main_v72, val_main_v69, val_main_v68, val_main_c_23, val_main_v71, val_main_v70, val_main_c_24, val_main_v76, val_main_v74, val_main_v73, val_main_c_25]
    rfl

theorem hiTab1 : Tab (val_main_v66 (F := Ideal)) (hiRow 2) 1 where
  row t := by
    pointwise [val_main_v66, val_main_v64, val_main_v61, val_main_v58, val_main_v57, val_main_c_20, val_main_v60, val_main_v59, val_main_c_21, val_main_v65, val_main_v63, val_main_v62, val_main_c_22]
    exact wrap_row (hi1 t)
  grp t := by
    pointwise [val_main_v66, val_main_v64, val_main_v61, val_main_v58, val_main_v57, val_main_c_20, val_main_v60, val_main_v59, val_main_c_21, val_main_v65, val_main_v63, val_main_v62, val_main_c_22]
    rfl

theorem lo2 (t : Fin 8192) : (val_main_v87 (F := Ideal) (ix1 t)).toInt = (loRow 4 t).val := by
  pointwise [val_main_v87, val_main_call5_v4, val_main_call5_v3, val_main_c_28, val_main_call5_v2, val_main_call5_v1, val_main_call5_v0, val_main_c_27, val_main_v86, val_main_v6, val_main_v85, val_main_c_26]
  exact lo_word t 4 (by norm_num)

theorem hi2 (t : Fin 8192) : (val_main_v92 (F := Ideal) (ix1 t)).toInt = (hiRow 4 t).val := by
  pointwise [val_main_v92, val_main_call6_v4, val_main_call6_v3, val_main_c_32, val_main_call6_v2, val_main_call6_v1, val_main_call6_v0, val_main_c_31, val_main_v91, val_main_v89, val_main_v6, val_main_v88, val_main_c_29, val_main_v90, val_main_c_30]
  exact hi_word t 4 (by norm_num)

theorem loTab2 : Tab (val_main_v116 (F := Ideal)) (loRow 4) 2 where
  row t := by
    pointwise [val_main_v116, val_main_v114, val_main_v111, val_main_v108, val_main_v107, val_main_c_36, val_main_v110, val_main_v109, val_main_c_37, val_main_v115, val_main_v113, val_main_v112, val_main_c_38]
    exact wrap_row (lo2 t)
  grp t := by
    pointwise [val_main_v116, val_main_v114, val_main_v111, val_main_v108, val_main_v107, val_main_c_36, val_main_v110, val_main_v109, val_main_c_37, val_main_v115, val_main_v113, val_main_v112, val_main_c_38]
    rfl

theorem hiTab2 : Tab (val_main_v105 (F := Ideal)) (hiRow 4) 2 where
  row t := by
    pointwise [val_main_v105, val_main_v103, val_main_v100, val_main_v97, val_main_v96, val_main_c_33, val_main_v99, val_main_v98, val_main_c_34, val_main_v104, val_main_v102, val_main_v101, val_main_c_35]
    exact wrap_row (hi2 t)
  grp t := by
    pointwise [val_main_v105, val_main_v103, val_main_v100, val_main_v97, val_main_v96, val_main_c_33, val_main_v99, val_main_v98, val_main_c_34, val_main_v104, val_main_v102, val_main_v101, val_main_c_35]
    rfl

theorem lo3 (t : Fin 8192) : (val_main_v126 (F := Ideal) (ix1 t)).toInt = (loRow 8 t).val := by
  pointwise [val_main_v126, val_main_call7_v4, val_main_call7_v3, val_main_c_41, val_main_call7_v2, val_main_call7_v1, val_main_call7_v0, val_main_c_40, val_main_v125, val_main_v6, val_main_v124, val_main_c_39]
  exact lo_word t 8 (by norm_num)

theorem hi3 (t : Fin 8192) : (val_main_v131 (F := Ideal) (ix1 t)).toInt = (hiRow 8 t).val := by
  pointwise [val_main_v131, val_main_call8_v4, val_main_call8_v3, val_main_c_45, val_main_call8_v2, val_main_call8_v1, val_main_call8_v0, val_main_c_44, val_main_v130, val_main_v128, val_main_v6, val_main_v127, val_main_c_42, val_main_v129, val_main_c_43]
  exact hi_word t 8 (by norm_num)

theorem loTab3 : Tab (val_main_v155 (F := Ideal)) (loRow 8) 3 where
  row t := by
    pointwise [val_main_v155, val_main_v153, val_main_v150, val_main_v147, val_main_v146, val_main_c_49, val_main_v149, val_main_v148, val_main_c_50, val_main_v154, val_main_v152, val_main_v151, val_main_c_51]
    exact wrap_row (lo3 t)
  grp t := by
    pointwise [val_main_v155, val_main_v153, val_main_v150, val_main_v147, val_main_v146, val_main_c_49, val_main_v149, val_main_v148, val_main_c_50, val_main_v154, val_main_v152, val_main_v151, val_main_c_51]
    rfl

theorem hiTab3 : Tab (val_main_v144 (F := Ideal)) (hiRow 8) 3 where
  row t := by
    pointwise [val_main_v144, val_main_v142, val_main_v139, val_main_v136, val_main_v135, val_main_c_46, val_main_v138, val_main_v137, val_main_c_47, val_main_v143, val_main_v141, val_main_v140, val_main_c_48]
    exact wrap_row (hi3 t)
  grp t := by
    pointwise [val_main_v144, val_main_v142, val_main_v139, val_main_v136, val_main_v135, val_main_c_46, val_main_v138, val_main_v137, val_main_c_47, val_main_v143, val_main_v141, val_main_v140, val_main_c_48]
    rfl

theorem count0 (t : Fin 8192) : val_main_v16 (F := Ideal) (ix1 t) = (((hiRow 1 t).val - (loRow 1 t).val : ℤ) : ℝ) := by
  pointwise [val_main_v16, val_main_v15]
  exact congrArg (fun z : ℤ => (((z : ℝ)) : EReal)) (toInt_sub _ _ _ _ (hi0 t) (lo0 t) (by omega))

theorem count1 (t : Fin 8192) : val_main_v55 (F := Ideal) (ix1 t) = (((hiRow 2 t).val - (loRow 2 t).val : ℤ) : ℝ) := by
  pointwise [val_main_v55, val_main_v54]
  exact congrArg (fun z : ℤ => (((z : ℝ)) : EReal)) (toInt_sub _ _ _ _ (hi1 t) (lo1 t) (by omega))

theorem count2 (t : Fin 8192) : val_main_v94 (F := Ideal) (ix1 t) = (((hiRow 4 t).val - (loRow 4 t).val : ℤ) : ℝ) := by
  pointwise [val_main_v94, val_main_v93]
  exact congrArg (fun z : ℤ => (((z : ℝ)) : EReal)) (toInt_sub _ _ _ _ (hi2 t) (lo2 t) (by omega))

theorem count3 (t : Fin 8192) : val_main_v133 (F := Ideal) (ix1 t) = (((hiRow 8 t).val - (loRow 8 t).val : ℤ) : ℝ) := by
  pointwise [val_main_v133, val_main_v132]
  exact congrArg (fun z : ℤ => (((z : ℝ)) : EReal)) (toInt_sub _ _ _ _ (hi3 t) (lo3 t) (by omega))

end Cert.MixReferenceIdeal.Proofs

end
-- ==== Proof.MixSums.lean ====
/-
  Sums over windows of rows: a window sum as a difference of running sums, and as the reversed running sum of what is
  put down where a window opens and closes.
-/
module

public import Idealize.ShloMosaic.Lib.Pipeline.ValueKit
public import proofs.«01_k».proof.Proof.MixSpec
public import proofs.«01_k».proof.Proof.MixTab

@[expose] public section

noncomputable section

open Idealize.ShloMosaic

namespace MixSums
open MixSpec Cert.MixReferenceIdeal.Proofs

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a : ℝ) : ((if p then a else 0 : ℝ) : EReal) = if p then (a : EReal) else 0 := by
  split_ifs <;> simp

/-- A value at a row number is the sum over the rows that have this number. -/
theorem pick (e : ℤ → EReal) (hz : ∀ x, x < 0 ∨ 8192 ≤ x → e x = 0) (x : ℤ) :
    e x = ∑ s : Fin 8192, if (s.val : ℤ) = x then e s.val else 0 := by
  by_cases h : 0 ≤ x ∧ x < 8192
  · rw [Finset.sum_eq_single (⟨x.toNat, by omega⟩ : Fin 8192)]
    · have : ((x.toNat : ℕ) : ℤ) = x := by omega
      simp only [this, if_true]
    · intro b _ hb
      rw [if_neg]
      intro hx
      exact hb (Fin.ext (by show b.val = x.toNat; omega))
    · intro hb; exact absurd (Finset.mem_univ _) hb
  · rw [hz x (by omega), Finset.sum_eq_zero]
    intro s _
    rw [if_neg (by omega)]

/-- The sum over a window is the sum over the rows that lie in it. -/
theorem win_rows (e : ℤ → EReal) (hz : ∀ x, x < 0 ∨ 8192 ≤ x → e x = 0) (h : ℕ) (t : ℤ) :
    win e h t = ∑ s : Fin 8192, if t - h ≤ s.val ∧ (s.val : ℤ) < t + h then e s.val else 0 := by
  unfold win
  rw [Finset.sum_congr rfl fun (k : ℕ) _ => pick e hz (t - h + (k : ℤ)), Finset.sum_comm]
  refine Finset.sum_congr rfl fun s _ => ?_
  by_cases c : t - h ≤ s.val ∧ (s.val : ℤ) < t + h
  · rw [if_pos c, Finset.sum_eq_single ((s.val : ℤ) - (t - h)).toNat]
    · rw [if_pos (by omega)]
    · intro b _ hb
      rw [if_neg (by omega)]
    · intro hb
      exact absurd (Finset.mem_range.mpr (by omega)) hb
  · rw [if_neg c, Finset.sum_eq_zero]
    intro k hk
    have := Finset.mem_range.mp hk
    rw [if_neg (by omega)]

/-- The running sum behind the window less the one before it. -/
theorem diff_rows (e : Fin 8192 → ℝ) (h : ℕ) (t : Fin 8192) :
    (∑ s : Fin 8192, if s.val < (hiRow h t).val then e s else 0) - (∑ s : Fin 8192, if s.val < (loRow h t).val then e s else 0) =
      ∑ s : Fin 8192, if (t.val : ℤ) - h ≤ s.val ∧ (s.val : ℤ) < t.val + h then e s else 0 := by
  rw [← Finset.sum_sub_distrib]
  refine Finset.sum_congr rfl fun s _ => ?_
  have := s.isLt
  have := t.isLt
  by_cases a : s.val < (hiRow h t).val <;> by_cases b : s.val < (loRow h t).val <;>
    by_cases c : (t.val : ℤ) - h ≤ s.val ∧ (s.val : ℤ) < t.val + h <;>
    first
    | (exfalso; simp only [hiRow, loRow] at a b; omega)
    | (simp only [if_pos, if_neg, a, b, c, not_false_eq_true]; simp)

/-- What is put down at rows `R t` and summed from row `n + 1` on. -/
theorem from_row (R : Fin 8192 → Fin 8193) (f : Fin 8192 → ℝ) (n : Fin 8192) :
    (∑ s : Fin 8192, if n.val ≤ s.val then (∑ t : Fin 8192, if (R t).val = s.val + 1 then f t else 0) else 0) =
      ∑ t : Fin 8192, if n.val < (R t).val then f t else 0 := by
  have e : ∀ s : Fin 8192, (if n.val ≤ s.val then (∑ t : Fin 8192, if (R t).val = s.val + 1 then f t else 0) else 0) =
      ∑ t : Fin 8192, if n.val ≤ s.val ∧ (R t).val = s.val + 1 then f t else 0 := fun s => by
    by_cases c : n.val ≤ s.val
    · rw [if_pos c]; simp only [c, true_and]
    · rw [if_neg c]; simp only [c, false_and, if_false, Finset.sum_const_zero]
  rw [Finset.sum_congr rfl fun s _ => e s, Finset.sum_comm]
  refine Finset.sum_congr rfl fun t _ => ?_
  have := (R t).isLt
  by_cases c : n.val < (R t).val
  · rw [if_pos c, Finset.sum_eq_single (⟨(R t).val - 1, by omega⟩ : Fin 8192)]
    · rw [if_pos ⟨by show n.val ≤ (R t).val - 1; omega, by show (R t).val = (R t).val - 1 + 1; omega⟩]
    · intro b _ hb
      rw [if_neg]
      rintro ⟨_, hx⟩
      exact hb (Fin.ext (by show b.val = (R t).val - 1; omega))
    · intro hb; exact absurd (Finset.mem_univ _) hb
  · rw [if_neg c, Finset.sum_eq_zero]
    intro s _
    rw [if_neg (by omega)]

/-- What is taken away where a window opens and put down where it closes, summed from row `n + 1` on, is the sum over
    the windows that hold row `n`. -/
theorem scat_rows (f : Fin 8192 → ℝ) (h : ℕ) (n : Fin 8192) :
    (∑ s : Fin 8192, if n.val ≤ s.val then (∑ t : Fin 8192, if (loRow h t).val = s.val + 1 then -f t else 0)
        + (∑ t : Fin 8192, if (hiRow h t).val = s.val + 1 then f t else 0) else 0) =
      ∑ t : Fin 8192, if (n.val : ℤ) + 1 - h ≤ t.val ∧ (t.val : ℤ) < n.val + 1 + h then f t else 0 := by
  have e : ∀ (p : Prop) [Decidable p] (a b : ℝ), (if p then a + b else 0) = (if p then a else 0) + (if p then b else 0) := fun p _ a b => by
    split_ifs <;> simp
  rw [Finset.sum_congr rfl fun s _ => e _ _ _, Finset.sum_add_distrib, from_row, from_row, ← Finset.sum_add_distrib]
  refine Finset.sum_congr rfl fun t _ => ?_
  have := n.isLt
  have := t.isLt
  by_cases a : n.val < (hiRow h t).val <;> by_cases b : n.val < (loRow h t).val <;>
    by_cases c : (n.val : ℤ) + 1 - h ≤ t.val ∧ (t.val : ℤ) < n.val + 1 + h <;>
    first
    | (exfalso; simp only [hiRow, loRow] at a b; omega)
    | (simp only [if_pos, if_neg, a, b, c, not_false_eq_true]; simp)

/-- The window sum of an array of reals as the difference of its running sums. -/
theorem win_diff (e : ℤ → EReal) (hz : ∀ x, x < 0 ∨ 8192 ≤ x → e x = 0) (er : Fin 8192 → ℝ) (he : ∀ s : Fin 8192, e s.val = (er s : EReal))
    (h : ℕ) (t : Fin 8192) :
    (∑ s : Fin 8192, if s.val < (hiRow h t).val then e s.val else 0) - (∑ s : Fin 8192, if s.val < (loRow h t).val then e s.val else 0)
      = win e h t.val := by
  rw [win_rows e hz]
  simp only [he, ← coe_ite, ← coe_sum, ← EReal.coe_sub]
  rw [diff_rows]

/-- The window sum one row on as the reversed running sum of what the windows put down. -/
theorem win_scat (e : ℤ → EReal) (hz : ∀ x, x < 0 ∨ 8192 ≤ x → e x = 0) (er : Fin 8192 → ℝ) (he : ∀ s : Fin 8192, e s.val = (er s : EReal))
    (h : ℕ) (n : Fin 8192) :
    (∑ s : Fin 8192, if n.val ≤ s.val then (∑ t : Fin 8192, if (loRow h t).val = s.val + 1 then -e t.val else 0)
        + (∑ t : Fin 8192, if (hiRow h t).val = s.val + 1 then e t.val else 0) else 0) = win e h (n.val + 1) := by
  rw [win_rows e hz]
  simp only [he, ← EReal.coe_neg, ← coe_ite, ← coe_sum, ← EReal.coe_add]
  rw [scat_rows]

end MixSums

end
-- ==== Proof.MixPool.lean ====
/-
  The reference's pooling: the pooled activations, their product by the groups' matrices, the gradient at both, and
  the gradient in the activations, in plain terms where the activations and gradients are real numbers.
-/
module

public import Idealize.ShloMosaic.Lib.Pipeline.ValueKit
public import proofs.«01_k».proof.Proof.Gen.MixReferenceIdeal.Read
public import proofs.«01_k».proof.Proof.MixSums

@[expose] public section

set_option maxRecDepth 16384

noncomputable section

open Idealize.ShloMosaic

namespace Cert.MixReferenceIdeal.Proofs
open Cert.MixReferenceIdeal.Read MixSpec MixSums
variable [Facts₀]

/-- A real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.zero : IsReal 0 := ⟨0, EReal.coe_zero.symm⟩
theorem IsReal.sum {ι : Type*} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩
theorem IsReal.div {x : EReal} (n : ℝ) (hn : n ≠ 0) : IsReal x → IsReal (Ideal.div x (n : EReal)) := fun ⟨a, ha⟩ => by
  rw [ha, Ideal.div_coe hn]
  exact IsReal.mul ⟨a, rfl⟩ ⟨_, rfl⟩

theorem zx_real {w : ℕ} (x : (⟨2, ![8192, w]⟩ : Shape).Idx → EReal) (hx : ∀ i, IsReal (x i)) (c : Fin w) (t : ℤ) : IsReal (zx x c t) := by
  unfold zx
  split_ifs
  · exact hx _
  · exact IsReal.zero

theorem cnt_pos (h : ℕ) (t : ℤ) : ((cnt h t : ℝ)) ≠ 0 := by
  have : 1 ≤ cnt h t := le_max_right _ _
  exact_mod_cast (by omega : cnt h t ≠ 0)

variable (u gb gc hh : FVec Ideal S8192x256 .f32) (pw : FVec Ideal S4x64x64 .f32) (ps : FVec Ideal S256 .f32) (cw : FVec Ideal S3x256 .f32)
  (dy : FVec Ideal S8192x1024 .f32)

/-- Channel `l` of the group `g`. -/
def ch (g : Fin 4) (l : Fin 64) : Fin 256 := ⟨64 * g.val + l.val, by omega⟩

theorem chan_ch (g : Fin 4) (l k : Fin 64) : chan (ch g l) k = ch g k := by
  apply Fin.ext; simp only [chan, ch]; omega
theorem place_ch (g : Fin 4) (l : Fin 64) : place (ch g l) = l := by
  apply Fin.ext; simp only [place, ch]; omega
theorem gix_ch (g : Fin 4) (l a b : Fin 64) : gix (ch g l) a b = ix3 g a b := by
  unfold gix
  congr 1
  apply Fin.ext; simp only [ch]; omega
theorem ch_eq (g : Fin 4) (l : Fin 64) (h : g.val * 64 + l.val < 256) : (⟨g.val * 64 + l.val, h⟩ : Fin 256) = ch g l := by
  apply Fin.ext; simp only [ch]; omega
theorem ch_surj (c : Fin 256) : ∃ g l, c = ch g l := ⟨⟨c.val / 64, by omega⟩, ⟨c.val % 64, by omega⟩, by apply Fin.ext; simp only [ch]; omega⟩

theorem half_ch (g : Fin 4) (l : Fin 64) : half (ch g l).val = ![1, 2, 4, 8] g := by
  have := l.isLt
  unfold half ch
  match g with
  | ⟨0, _⟩ => rw [if_pos (by simp only; omega)]; rfl
  | ⟨1, _⟩ => rw [if_neg (by simp only; omega), if_pos (by simp only; omega)]; rfl
  | ⟨2, _⟩ => rw [if_neg (by simp only; omega), if_neg (by simp only; omega), if_pos (by simp only; omega)]; rfl
  | ⟨3, _⟩ => rw [if_neg (by simp only; omega), if_neg (by simp only; omega), if_neg (by simp only; omega)]; rfl

theorem count_val (h : ℕ) (hh : 1 ≤ h) (t : Fin 8192) : (hiRow h t).val - (loRow h t).val = cnt h t.val := by
  have := t.isLt
  simp only [hiRow, loRow, cnt]
  omega

theorem v1_at (s : Fin 8192) (g : Fin 4) (l : Fin 64) : val_main_v1 (F := Ideal) u (ix4 0 s g l) = u (ix2 s (ch g l)) := by
  pointwise [val_main_v1, val_main_v0]
  rw [ch_eq]

theorem v3_at (t : Fin 8192) (g : Fin 4) (l : Fin 64) :
    val_main_v3 (F := Ideal) u (ix4 0 t g l) = ∑ s : Fin 8192, if s.val < t.val + 1 then u (ix2 s (ch g l)) else 0 := by
  unfold val_main_v3
  rw [cumsum_apply]
  · exact Finset.sum_congr rfl fun s _ => by rw [v1_at]
  · pointwise [val_main_call0_call0_v0, val_main_call0_call0_cst]

/-- The running sums, with a row of zeros before them. -/
theorem v4_at (p : Fin 8193) (g : Fin 4) (l : Fin 64) :
    val_main_v4 (F := Ideal) u (ix4 0 p g l) = ∑ s : Fin 8192, if s.val < p.val then zx u (ch g l) s.val else 0 := by
  pointwise [val_main_v4]
  have e : ∀ s : Fin 8192, zx u (ch g l) s.val = u (ix2 s (ch g l)) := fun s => zx_in _ _ _ _ rfl
  by_cases h : p.val < 1
  · rw [dif_pos h, Finset.sum_eq_zero fun s _ => if_neg (by omega)]
    pointwise [val_main_v2, val_main_cst]
  · rw [dif_neg h, v3_at]
    refine Finset.sum_congr rfl fun s _ => ?_
    rw [e]
    congr 1
    exact propext ⟨fun q => by simp only at q; omega, fun q => by simp only; omega⟩

/-- The mean over the window less the row itself, from the running sums at the window's two ends. -/
theorem pooled_at (hu : ∀ i, IsReal (u i)) (g : Fin 4) (h : ℕ) (h1 : 1 ≤ h) (hg : ∀ l, half (ch g l).val = h) (A B : IVec S8192x2 32)
    (hA : Tab A (hiRow h) g) (hB : Tab B (loRow h) g) (t : Fin 8192) (l : Fin 64) (n : EReal)
    (hn : n = (((hiRow h t).val - (loRow h t).val : ℤ) : ℝ)) :
    Ideal.div (Host.gather gather_S1x8193x4x64_S8192x2_S1x8192x64_02_12_n_n_12_1_11164 (val_main_v4 (F := Ideal) u) A (ix3 0 t l)
      - Host.gather gather_S1x8193x4x64_S8192x2_S1x8192x64_02_12_n_n_12_1_11164 (val_main_v4 (F := Ideal) u) B (ix3 0 t l)) n
      - val_main_v1 (F := Ideal) u (ix4 0 t g l) = pm u (ch g l) t.val := by
  rw [gather_apply _ _ t l (hiRow h t) g (hA.row t) (hA.grp t), gather_apply _ _ t l (loRow h t) g (hB.row t) (hB.grp t), v4_at, v4_at, v1_at, hn,
    count_val h h1]
  have hz : ∀ x, x < 0 ∨ 8192 ≤ x → zx u (ch g l) x = 0 := fun x hx => zx_out _ _ _ hx
  choose ur hur using fun s : Fin 8192 => zx_real u hu (ch g l) s.val
  rw [win_diff (zx u (ch g l)) hz ur hur h t]
  unfold pm
  rw [hg, zx_in u (ch g l) t.val t rfl]

theorem v45_at (hu : ∀ i, IsReal (u i)) (t : Fin 8192) (l : Fin 64) : val_main_v45 (F := Ideal) u (ix3 0 t l) = pm u (ch 0 l) t.val := by
  pointwise [val_main_v45, val_main_v44, val_main_v43, val_main_v42, val_main_v41, val_main_v40, val_main_v17]
  exact pooled_at u hu 0 1 le_rfl (half_ch _) _ _ hiTab0 loTab0 t l _ (count0 t)
theorem v84_at (hu : ∀ i, IsReal (u i)) (t : Fin 8192) (l : Fin 64) : val_main_v84 (F := Ideal) u (ix3 0 t l) = pm u (ch 1 l) t.val := by
  pointwise [val_main_v84, val_main_v83, val_main_v82, val_main_v81, val_main_v80, val_main_v79, val_main_v56]
  exact pooled_at u hu 1 2 (by norm_num) (half_ch _) _ _ hiTab1 loTab1 t l _ (count1 t)
theorem v123_at (hu : ∀ i, IsReal (u i)) (t : Fin 8192) (l : Fin 64) : val_main_v123 (F := Ideal) u (ix3 0 t l) = pm u (ch 2 l) t.val := by
  pointwise [val_main_v123, val_main_v122, val_main_v121, val_main_v120, val_main_v119, val_main_v118, val_main_v95]
  exact pooled_at u hu 2 4 (by norm_num) (half_ch _) _ _ hiTab2 loTab2 t l _ (count2 t)
theorem v162_at (hu : ∀ i, IsReal (u i)) (t : Fin 8192) (l : Fin 64) : val_main_v162 (F := Ideal) u (ix3 0 t l) = pm u (ch 3 l) t.val := by
  pointwise [val_main_v162, val_main_v161, val_main_v160, val_main_v159, val_main_v158, val_main_v157, val_main_v134]
  exact pooled_at u hu 3 8 (by norm_num) (half_ch _) _ _ hiTab3 loTab3 t l _ (count3 t)

/-- The pooled activations. -/
theorem v167_at (hu : ∀ i, IsReal (u i)) (t : Fin 8192) (g : Fin 4) (l : Fin 64) :
    val_main_v167 (F := Ideal) u (ix4 0 t g l) = pm u (ch g l) t.val := by
  pointwise [val_main_v167, val_main_v166, val_main_v165, val_main_v164, val_main_v163]
  rw [v45_at u hu, v84_at u hu, v123_at u hu, v162_at u hu]
  match g with
  | ⟨0, _⟩ => rfl
  | ⟨1, _⟩ => rfl
  | ⟨2, _⟩ => rfl
  | ⟨3, _⟩ => rfl

/-- Their product by the group's matrix. -/
theorem v169_at (hu : ∀ i, IsReal (u i)) (t : Fin 8192) (g : Fin 4) (l : Fin 64) :
    val_main_v169 (F := Ideal) u pw (ix4 0 t g l) = ym u pw (ch g l) t.val := by
  pointwise [val_main_v169, val_main_v168]
  unfold ym
  refine Finset.sum_congr rfl fun k _ => ?_
  rw [v167_at u hu, chan_ch, gix_ch, place_ch]
  exact mul_comm _ _

theorem dya_at (t : Fin 8192) (c : Fin 256) : dy (ix2 t ⟨c.val, by omega⟩) = dya dy c t.val := (zx_in dy _ _ t rfl).symm

theorem v256_at (t : Fin 8192) (g : Fin 4) (l : Fin 64) : val_main_v256 (F := Ideal) ps dy (ix4 0 t g l) = dq ps dy (ch g l) t.val := by
  pointwise [val_main_v256, val_main_v255, val_main_v251, val_main_v208, val_main_v207, val_main_v206, val_main_v171, val_main_v170]
  unfold dq
  rw [← dya_at]
  have e : g.val * 64 + l.val = (ch g l).val := by simp only [ch]; omega
  exact congrArg₂ (fun a b : EReal => a * b) (congrArg dy (congrArg (ix2 t) (Fin.ext e))) (congrArg ps (congrArg ix1 (Fin.ext e)))

/-- The gradient at the pooled activations. -/
theorem v261_at (t : Fin 8192) (g : Fin 4) (l : Fin 64) : val_main_v261 (F := Ideal) pw ps dy (ix4 0 t g l) = dp pw ps dy (ch g l) t.val := by
  pointwise [val_main_v261, val_main_v260, val_main_v259]
  unfold dp
  refine Finset.sum_congr rfl fun k _ => ?_
  rw [v256_at, chan_ch, gix_ch, place_ch]

end Cert.MixReferenceIdeal.Proofs

end
-- ==== Proof.MixDu.lean ====
/-
  The reference's gradient in the activations: what each group's windows put down where they open and close, summed
  from behind, less the gradient at the row itself.
-/
module

public import Idealize.ShloMosaic.Lib.Pipeline.ValueKit
public import proofs.«01_k».proof.Proof.MixPool

@[expose] public section

set_option maxRecDepth 16384

noncomputable section

open Idealize.ShloMosaic

namespace Cert.MixReferenceIdeal.Proofs
open Cert.MixReferenceIdeal.Read MixSpec MixSums
variable [Facts₀]
variable (u gb gc hh : FVec Ideal S8192x256 .f32) (pw : FVec Ideal S4x64x64 .f32) (ps : FVec Ideal S256 .f32) (cw : FVec Ideal S3x256 .f32)
  (dy : FVec Ideal S8192x1024 .f32)

/-- One scatter into zeros, read at a group: its own group's rows, or nothing. -/
theorem put_own (z : FVec Ideal S1x8193x4x64 .f32) (hz : ∀ i, z i = 0) (idx : IVec S8192x2 32) (e : Fin 8192 → Fin 8193) (g : Fin 4)
    (hT : Tab idx e g) (upd : FVec Ideal S1x8192x64 .f32) (p : Fin 8193) (l : Fin 64) :
    Host.scatterAdd scatter_S1x8193x4x64_S8192x2_S1x8192x64_02_12_12_1 z idx upd (ix4 0 p g l) =
      ∑ t : Fin 8192, if (e t).val = p.val then upd (ix3 0 t l) else 0 := by
  rw [scatter_apply, hz]
  refine (zero_add (M := EReal) _).trans (Finset.sum_congr rfl fun t _ => ?_)
  rw [hT.row, hT.grp]
  congr 1
  exact propext ⟨fun q => by have := q.1; omega, fun q => ⟨by omega, rfl⟩⟩

theorem put_other (z : FVec Ideal S1x8193x4x64 .f32) (hz : ∀ i, z i = 0) (idx : IVec S8192x2 32) (e : Fin 8192 → Fin 8193) (g g' : Fin 4)
    (hT : Tab idx e g) (hg : g ≠ g') (upd : FVec Ideal S1x8192x64 .f32) (p : Fin 8193) (l : Fin 64) :
    Host.scatterAdd scatter_S1x8193x4x64_S8192x2_S1x8192x64_02_12_12_1 z idx upd (ix4 0 p g' l) = (0 : EReal) := by
  rw [scatter_apply, hz]
  refine (zero_add (M := EReal) _).trans (Finset.sum_eq_zero fun t _ => if_neg ?_)
  rw [hT.grp]
  intro q
  exact hg (Fin.ext (by have := q.2; omega))

/-- One scatter into zeros, at every group. -/
theorem put_at (z : FVec Ideal S1x8193x4x64 .f32) (hz : ∀ i, z i = 0) (idx : IVec S8192x2 32) (e : Fin 8192 → Fin 8193) (g g' : Fin 4)
    (hT : Tab idx e g) (upd : FVec Ideal S1x8192x64 .f32) (s : Fin 8192 → EReal) (p : Fin 8193) (l : Fin 64) (hs : ∀ t, upd (ix3 0 t l) = s t) :
    Host.scatterAdd scatter_S1x8193x4x64_S8192x2_S1x8192x64_02_12_12_1 z idx upd (ix4 0 p g' l) =
      if g = g' then (∑ t : Fin 8192, if (e t).val = p.val then s t else 0) else 0 := by
  split_ifs with h
  · subst h
    rw [put_own z hz idx e g hT]
    exact Finset.sum_congr rfl fun t _ => by rw [hs]
  · exact put_other z hz idx e g g' hT h upd p l

/-- The gradient at the mean, by its definition at a group. -/
theorem rr_at (g : Fin 4) (h : ℕ) (h1 : 1 ≤ h) (hg : ∀ l, half (ch g l).val = h) (t : Fin 8192) (l : Fin 64) (n : EReal)
    (hn : n = (((hiRow h t).val - (loRow h t).val : ℤ) : ℝ)) :
    Ideal.div (val_main_v261 (F := Ideal) pw ps dy (ix4 0 t g l)) n = rr pw ps dy (ch g l) t.val := by
  rw [v261_at, hn, count_val h h1]
  unfold rr
  rw [hg]

theorem v314_at (t : Fin 8192) (l : Fin 64) : val_main_v314 (F := Ideal) pw ps dy (ix3 0 t l) = rr pw ps dy (ch 0 l) t.val := by
  pointwise [val_main_v314, val_main_v313, val_main_v265, val_main_v264, val_main_v17]
  exact rr_at pw ps dy 0 1 le_rfl (half_ch _) t l _ (count0 t)
theorem v301_at (t : Fin 8192) (l : Fin 64) : val_main_v301 (F := Ideal) pw ps dy (ix3 0 t l) = rr pw ps dy (ch 1 l) t.val := by
  pointwise [val_main_v301, val_main_v300, val_main_v267, val_main_v266, val_main_v56]
  exact rr_at pw ps dy 1 2 (by norm_num) (half_ch _) t l _ (count1 t)
theorem v288_at (t : Fin 8192) (l : Fin 64) : val_main_v288 (F := Ideal) pw ps dy (ix3 0 t l) = rr pw ps dy (ch 2 l) t.val := by
  pointwise [val_main_v288, val_main_v287, val_main_v269, val_main_v268, val_main_v95]
  exact rr_at pw ps dy 2 4 (by norm_num) (half_ch _) t l _ (count2 t)
theorem v276_at (t : Fin 8192) (l : Fin 64) : val_main_v276 (F := Ideal) pw ps dy (ix3 0 t l) = rr pw ps dy (ch 3 l) t.val := by
  pointwise [val_main_v276, val_main_v275, val_main_v271, val_main_v270, val_main_v134]
  exact rr_at pw ps dy 3 8 (by norm_num) (half_ch _) t l _ (count3 t)

/-- What the windows of half width `h` put down at row `p`. -/
def puts (r : ℤ → EReal) (h : ℕ) (p : ℕ) : EReal :=
  (∑ t : Fin 8192, if (loRow h t).val = p then -r t.val else 0) + ∑ t : Fin 8192, if (hiRow h t).val = p then r t.val else 0

theorem v279_at (p : Fin 8193) (g : Fin 4) (l : Fin 64) : val_main_v279 (F := Ideal) pw ps dy (ix4 0 p g l) =
    if (3 : Fin 4) = g then (∑ t : Fin 8192, if (loRow 8 t).val = p.val then -rr pw ps dy (ch 3 l) t.val else 0) else 0 :=
  put_at _ (fun i => by pointwise [val_main_v278, val_main_cst_73]) _ _ 3 g loTab3 _ _ p l fun t => by pointwise [val_main_v277]; rw [v276_at]
theorem v281_at (p : Fin 8193) (g : Fin 4) (l : Fin 64) : val_main_v281 (F := Ideal) pw ps dy (ix4 0 p g l) =
    if (3 : Fin 4) = g then (∑ t : Fin 8192, if (hiRow 8 t).val = p.val then rr pw ps dy (ch 3 l) t.val else 0) else 0 :=
  put_at _ (fun i => by pointwise [val_main_v280, val_main_cst_74]) _ _ 3 g hiTab3 _ _ p l fun t => v276_at pw ps dy t l
theorem v291_at (p : Fin 8193) (g : Fin 4) (l : Fin 64) : val_main_v291 (F := Ideal) pw ps dy (ix4 0 p g l) =
    if (2 : Fin 4) = g then (∑ t : Fin 8192, if (loRow 4 t).val = p.val then -rr pw ps dy (ch 2 l) t.val else 0) else 0 :=
  put_at _ (fun i => by pointwise [val_main_v290, val_main_cst_76]) _ _ 2 g loTab2 _ _ p l fun t => by pointwise [val_main_v289]; rw [v288_at]
theorem v294_at (p : Fin 8193) (g : Fin 4) (l : Fin 64) : val_main_v294 (F := Ideal) pw ps dy (ix4 0 p g l) =
    if (2 : Fin 4) = g then (∑ t : Fin 8192, if (hiRow 4 t).val = p.val then rr pw ps dy (ch 2 l) t.val else 0) else 0 :=
  put_at _ (fun i => by pointwise [val_main_v293, val_main_cst_77]) _ _ 2 g hiTab2 _ _ p l fun t => v288_at pw ps dy t l
theorem v304_at (p : Fin 8193) (g : Fin 4) (l : Fin 64) : val_main_v304 (F := Ideal) pw ps dy (ix4 0 p g l) =
    if (1 : Fin 4) = g then (∑ t : Fin 8192, if (loRow 2 t).val = p.val then -rr pw ps dy (ch 1 l) t.val else 0) else 0 :=
  put_at _ (fun i => by pointwise [val_main_v303, val_main_cst_79]) _ _ 1 g loTab1 _ _ p l fun t => by pointwise [val_main_v302]; rw [v301_at]
theorem v307_at (p : Fin 8193) (g : Fin 4) (l : Fin 64) : val_main_v307 (F := Ideal) pw ps dy (ix4 0 p g l) =
    if (1 : Fin 4) = g then (∑ t : Fin 8192, if (hiRow 2 t).val = p.val then rr pw ps dy (ch 1 l) t.val else 0) else 0 :=
  put_at _ (fun i => by pointwise [val_main_v306, val_main_cst_80]) _ _ 1 g hiTab1 _ _ p l fun t => v301_at pw ps dy t l
theorem v317_at (p : Fin 8193) (g : Fin 4) (l : Fin 64) : val_main_v317 (F := Ideal) pw ps dy (ix4 0 p g l) =
    if (0 : Fin 4) = g then (∑ t : Fin 8192, if (loRow 1 t).val = p.val then -rr pw ps dy (ch 0 l) t.val else 0) else 0 :=
  put_at _ (fun i => by pointwise [val_main_v316, val_main_cst_82]) _ _ 0 g loTab0 _ _ p l fun t => by pointwise [val_main_v315]; rw [v314_at]
theorem v320_at (p : Fin 8193) (g : Fin 4) (l : Fin 64) : val_main_v320 (F := Ideal) pw ps dy (ix4 0 p g l) =
    if (0 : Fin 4) = g then (∑ t : Fin 8192, if (hiRow 1 t).val = p.val then rr pw ps dy (ch 0 l) t.val else 0) else 0 :=
  put_at _ (fun i => by pointwise [val_main_v319, val_main_cst_83]) _ _ 0 g hiTab0 _ _ p l fun t => v314_at pw ps dy t l

theorem v321_at (p : Fin 8193) (g : Fin 4) (l : Fin 64) :
    val_main_v321 (F := Ideal) pw ps dy (ix4 0 p g l) = puts (rr pw ps dy (ch g l)) (half (ch g l).val) p.val := by
  rw [half_ch]
  unfold puts
  pointwise [val_main_v321, val_main_v318, val_main_v308, val_main_v305, val_main_v295, val_main_v292, val_main_v282]
  rw [v279_at, v281_at, v291_at, v294_at, v304_at, v307_at, v317_at, v320_at]
  obtain rfl | rfl | rfl | rfl : g = 0 ∨ g = 1 ∨ g = 2 ∨ g = 3 := by omega
  all_goals
    simp only [show ((3 : Fin 4) = 0) = False from eq_false (by decide), show ((2 : Fin 4) = 0) = False from eq_false (by decide),
      show ((1 : Fin 4) = 0) = False from eq_false (by decide), show ((3 : Fin 4) = 1) = False from eq_false (by decide),
      show ((2 : Fin 4) = 1) = False from eq_false (by decide), show ((0 : Fin 4) = 1) = False from eq_false (by decide),
      show ((3 : Fin 4) = 2) = False from eq_false (by decide), show ((1 : Fin 4) = 2) = False from eq_false (by decide),
      show ((0 : Fin 4) = 2) = False from eq_false (by decide), show ((2 : Fin 4) = 3) = False from eq_false (by decide),
      show ((1 : Fin 4) = 3) = False from eq_false (by decide), show ((0 : Fin 4) = 3) = False from eq_false (by decide),
      if_false, if_true, add_zero, zero_add]
    rfl

/-- The gradient at the row itself. -/
theorem v312_at (t : Fin 8192) (g : Fin 4) (l : Fin 64) :
    val_main_v312 (F := Ideal) pw ps dy (ix4 0 t g l) = -dp pw ps dy (ch g l) t.val := by
  pointwise [val_main_v312, val_main_v311, val_main_v310, val_main_v309, val_main_v299, val_main_v298, val_main_v297, val_main_v296,
    val_main_v286, val_main_v285, val_main_v284, val_main_v283, val_main_v274, val_main_v273, val_main_v272, val_main_v265, val_main_v264,
    val_main_v267, val_main_v266, val_main_v269, val_main_v268, val_main_v271, val_main_v270, val_main_cst_72, val_main_cst_75, val_main_cst_78, val_main_cst_81]
  rw [v261_at, v261_at, v261_at, v261_at]
  obtain rfl | rfl | rfl | rfl : g = 0 ∨ g = 1 ∨ g = 2 ∨ g = 3 := by omega
  all_goals simp

theorem rr_real (hpw : ∀ i, IsReal (pw i)) (hps : ∀ i, IsReal (ps i)) (hdy : ∀ i, IsReal (dy i)) (c : Fin 256) (t : ℤ) : IsReal (rr pw ps dy c t) :=
  IsReal.div _ (cnt_pos _ _) (IsReal.sum _ _ fun l => ((zx_real dy hdy _ _).mul (hps _)).mul (hpw _))

theorem rr_out (c : Fin 256) (t : ℤ) (h : t < 0 ∨ 8192 ≤ t) : rr pw ps dy c t = 0 := by
  unfold rr dp dq dya
  rw [Finset.sum_eq_zero fun l _ => by rw [zx_out _ _ _ h, zero_mul, zero_mul], Ideal.div_coe (cnt_pos _ _), zero_mul]

/-- The gradient in the activations. -/
theorem v325_at (hpw : ∀ i, IsReal (pw i)) (hps : ∀ i, IsReal (ps i)) (hdy : ∀ i, IsReal (dy i)) (t : Fin 8192) (g : Fin 4) (l : Fin 64) :
    val_main_v325 (F := Ideal) pw ps dy (ix4 0 t g l) = du pw ps dy (ch g l) t.val := by
  pointwise [val_main_v325]
  rw [v312_at]
  have e : val_main_v324 (F := Ideal) pw ps dy (ix4 0 t g l) = win (rr pw ps dy (ch g l)) (half (ch g l).val) (t.val + 1) := by
    choose r hr using fun s : Fin 8192 => rr_real pw ps dy hpw hps hdy (ch g l) s.val
    rw [← win_scat (rr pw ps dy (ch g l)) (fun x hx => rr_out pw ps dy _ x hx) r hr]
    unfold val_main_v324
    rw [revsum_apply]
    · refine Finset.sum_congr rfl fun s _ => ?_
      have : val_main_v323 (F := Ideal) pw ps dy (ix4 0 s g l) = puts (rr pw ps dy (ch g l)) (half (ch g l).val) (s.val + 1) := by
        pointwise [val_main_v323]
        rw [v321_at]
        congr 1
        simp only [Fin.val_mk]; omega
      rw [this]
      rfl
    · pointwise [val_main_call9_call0_v0, val_main_call9_call0_cst]
  rw [e]
  unfold du
  exact (add_comm (G := EReal) _ _).trans (sub_eq_add_neg (G := EReal) _ _).symm

theorem v327_at (hpw : ∀ i, IsReal (pw i)) (hps : ∀ i, IsReal (ps i)) (hdy : ∀ i, IsReal (dy i)) (t : Fin 8192) (c : Fin 256) :
    val_main_v327 (F := Ideal) pw ps dy (ix2 t c) = du pw ps dy c t.val := by
  obtain ⟨g, l, rfl⟩ := ch_surj c
  rw [← v325_at pw ps dy hpw hps hdy]
  pointwise [val_main_v327, val_main_v326, val_main_cst_84]
  refine (Fin.sum_univ_one _).trans (congrArg (val_main_v325 (F := Ideal) pw ps dy) (congrArg₂ (ix4 0 t) (Fin.ext ?_) (Fin.ext ?_)))
  · simp only [ch]; omega
  · simp only [ch]; omega

end Cert.MixReferenceIdeal.Proofs

end
-- ==== Proof.MixRef.lean ====
/-
  The reference of the mixer call: its gated convolution backward, and its three results in plain terms.
-/
module

public import Idealize.ShloMosaic.Lib.Pipeline.ValueKit
public import proofs.«01_k».proof.Proof.Gen.MixReferenceIdeal.Run
public import proofs.«01_k».proof.Proof.MixDu

@[expose] public section

set_option maxRecDepth 16384

noncomputable section

open Idealize.ShloMosaic

namespace Cert.MixReferenceIdeal.Proofs
open Cert.MixReferenceIdeal.Read MixSpec MixSums
variable [Facts₀]
variable (u gb gc hh : FVec Ideal S8192x256 .f32) (pw : FVec Ideal S4x64x64 .f32) (ps : FVec Ideal S256 .f32) (cw : FVec Ideal S3x256 .f32)
  (dy : FVec Ideal S8192x1024 .f32)

/-- A sum over two axes of size one is the one element. -/
theorem sum_one3 (x : FVec Ideal S1x1x256 .f32) (h : S1x1x256.ReducesTo [0, 1] S256) (c : Fin 256) :
    Ideal.hostReduceAdd h x 0 (ix1 c) = x (ix3 0 0 c) := by
  unfold Ideal.hostReduceAdd
  rw [zero_add, Finset.sum_eq_single_of_mem (ix3 0 0 c)]
  · refine Finset.mem_filter.mpr ⟨Finset.mem_univ _, ?_⟩
    funext b
    match b with
    | ⟨0, _⟩ => rfl
  · intro i hi hne
    exfalso
    apply hne
    have e := congrFun (Finset.mem_filter.mp hi).2 0
    funext b
    match b with
    | ⟨0, _⟩ => exact Subsingleton.elim (α := Fin 1) _ _
    | ⟨1, _⟩ => exact Subsingleton.elim (α := Fin 1) _ _
    | ⟨2, _⟩ => exact e

theorem sum_one4 (x : FVec Ideal S1x1x4x64 .f32) (h : S1x1x4x64.ReducesTo [0, 1] S4x64) (g : Fin 4) (l : Fin 64) :
    Ideal.hostReduceAdd h x 0 (ix2 g l) = x (ix4 0 0 g l) := by
  unfold Ideal.hostReduceAdd
  rw [zero_add, Finset.sum_eq_single_of_mem (ix4 0 0 g l)]
  · refine Finset.mem_filter.mpr ⟨Finset.mem_univ _, ?_⟩
    funext b
    match b with
    | ⟨0, _⟩ => rfl
    | ⟨1, _⟩ => rfl
  · intro i hi hne
    exfalso
    apply hne
    have e := congrFun (Finset.mem_filter.mp hi).2 0
    have e' := congrFun (Finset.mem_filter.mp hi).2 1
    funext b
    match b with
    | ⟨0, _⟩ => exact Subsingleton.elim (α := Fin 1) _ _
    | ⟨1, _⟩ => exact Subsingleton.elim (α := Fin 1) _ _
    | ⟨2, _⟩ => exact e
    | ⟨3, _⟩ => exact e'

/-- The convolution's input with a row of zeros before and behind. -/
theorem v180_at (p : Fin 8194) (c : Fin 256) : val_main_v180 (F := Ideal) gc hh (ix3 0 p c) = zz gc hh c ((p.val : ℤ) - 1) := by
  pointwise [val_main_v180, val_main_v178, val_main_v176, val_main_v177, val_main_v179, val_main_v181, val_main_cst_52, val_main_cst_53]
  have := p.isLt
  unfold zz
  by_cases h : p.val < 1
  · rw [dif_pos h, zx_out _ _ _ (by omega), zero_mul]
  rw [dif_neg h]
  by_cases h' : p.val - 1 < 8192
  · rw [dif_pos h', zx_in gc c _ ⟨p.val - 1, h'⟩ (by simp only; omega), zx_in hh c _ ⟨p.val - 1, h'⟩ (by simp only; omega)]
  · rw [dif_neg h', zx_out _ _ _ (by omega), zero_mul]

theorem dyb_at (t : Fin 8192) (c : Fin 256) (h : 256 + c.val < 1024) : dy (ix2 t ⟨256 + c.val, h⟩) = dyb dy c t.val := (zx_in dy _ _ t rfl).symm

/-- The gradient at the convolution. -/
theorem v210_at (t : Fin 8192) (c : Fin 256) : val_main_v210 (F := Ideal) gb dy (ix3 0 t c) = dconv gb dy c t.val := by
  pointwise [val_main_v210, val_main_v209, val_main_v207, val_main_v206, val_main_v175]
  unfold dconv
  rw [dyb_at dy t c, zx_in gb c t.val t rfl]
  exact mul_comm _ _

/-- The gradient in the gate of the convolution's result. -/
theorem v250_at (t : Fin 8192) (c : Fin 256) : val_main_v250 (F := Ideal) gc hh cw dy (ix2 t c) = dgb gc hh cw dy c t.val := by
  pointwise [val_main_v250, val_main_cst_69, val_main_v211, val_main_v209, val_main_v207, val_main_v206, val_main_v202, val_main_v201, val_main_v200, val_main_v199,
    val_main_v198, val_main_v197, val_main_v196, val_main_v195, val_main_v194, val_main_v193, val_main_v192, val_main_v191, val_main_v190, val_main_v189, val_main_v188,
    val_main_v187, val_main_v186, val_main_v185, val_main_v184, val_main_v183]
  refine (Fin.sum_univ_one _).trans ?_
  rw [v180_at, v180_at, v180_at, dyb_at dy t c]
  unfold dgb
  rw [show (((⟨1 + t.val, by omega⟩ : Fin 8194).val : ℤ) - 1) = t.val from by simp only; omega,
    show (((⟨2 + t.val, by omega⟩ : Fin 8194).val : ℤ) - 1) = t.val + 1 from by simp only; omega]

theorem dconv_out (c : Fin 256) (t : ℤ) (h : t < 0 ∨ 8192 ≤ t) : dconv gb dy c t = 0 := by
  unfold dconv
  rw [zx_out gb c t h, mul_zero (M₀ := EReal)]

theorem turn (a b c : EReal) : a + b + c = c + b + a := by
  rw [add_comm (a + b), add_comm a, add_assoc]

/-- The gradient in the convolution's input. -/
theorem v244_at (t : Fin 8192) (c : Fin 256) : val_main_v244 (F := Ideal) gb cw dy (ix3 0 t c) = dz gb cw dy c t.val := by
  pointwise [val_main_v244, val_main_v239, val_main_v238, val_main_v233, val_main_v232, val_main_v228, val_main_v227, val_main_v222, val_main_v221, val_main_v218, val_main_v213, val_main_v212, val_main_v199,
    val_main_v197, val_main_v196, val_main_v192, val_main_v190, val_main_v189,
    val_main_v186, val_main_v184, val_main_v183, val_main_cst_57, val_main_cst_61, val_main_cst_65]
  have e0 : (if h : 2 ≤ 1 + t.val ∧ 1 + t.val - 2 < 8192 then cw (ix2 2 c) * val_main_v210 (F := Ideal) gb dy (ix3 0 ⟨1 + t.val - 2, h.2⟩ c) else 0)
      = cw (ix2 2 c) * dconv gb dy c (t.val - 1) := by
    split_ifs with h
    · rw [v210_at, show (((⟨1 + t.val - 2, h.2⟩ : Fin 8192).val : ℤ)) = t.val - 1 from by simp only; omega]
    · rw [dconv_out gb dy c _ (by omega), mul_zero (M₀ := EReal)]
  have e2 : (if h : 1 + t.val < 8192 then cw (ix2 0 c) * val_main_v210 (F := Ideal) gb dy (ix3 0 ⟨1 + t.val, h⟩ c) else 0)
      = cw (ix2 0 c) * dconv gb dy c (t.val + 1) := by
    split_ifs with h
    · rw [v210_at, show (((⟨1 + t.val, h⟩ : Fin 8192).val : ℤ)) = t.val + 1 from by simp only; omega]
    · rw [dconv_out gb dy c _ (by omega), mul_zero (M₀ := EReal)]
  refine (congrArg₂ (fun a b : EReal => a + cw (ix2 1 c) * val_main_v210 (F := Ideal) gb dy (ix3 0 t c) + b) e0 e2).trans ?_
  rw [v210_at]
  unfold dz
  exact turn _ _ _

/-- The gradient in the scale. -/
theorem v258_at (hu : ∀ i, IsReal (u i)) (c : Fin 256) :
    val_main_v258 (F := Ideal) u pw dy (ix1 c) = ∑ t : Fin 8192, dya dy c t.val * ym u pw c t.val := by
  have e : ∀ g l, val_main_v257 (F := Ideal) u pw dy (ix2 g l) = ∑ t : Fin 8192, dya dy (ch g l) t.val * ym u pw (ch g l) t.val := fun g l => by
    unfold val_main_v257
    refine Eq.trans ?_ ((sum_one4 (val_main_v254 (F := Ideal) u pw dy) Gen.reducesTo_S1x1x4x64_S4x64_d0_1 g l).trans ?_)
    · pointwise [val_main_cst_71]
    · pointwise [val_main_v254, val_main_v253, val_main_v252, val_main_v251, val_main_v208, val_main_v207, val_main_v206, val_main_cst_70]
      refine Finset.sum_congr rfl fun t _ => ?_
      rw [v169_at u pw hu, ← dya_at]
      refine (mul_comm _ _).trans (congrArg (fun a : EReal => a * _) (congrArg dy (congrArg (ix2 t) (Fin.ext ?_))))
      simp only [ch]; omega
  obtain ⟨g, l, rfl⟩ := ch_surj c
  rw [← e]
  pointwise [val_main_v258]
  refine congrArg (val_main_v257 (F := Ideal) u pw dy) (congrArg₂ ix2 (Fin.ext ?_) (Fin.ext ?_))
  · simp only [ch]; omega
  · simp only [ch]; omega

/-- The gradient in the groups' matrices. -/
theorem v263_at (hu : ∀ i, IsReal (u i)) (g : Fin 4) (a b : Fin 64) :
    val_main_v263 (F := Ideal) u ps dy (ix3 g a b) = ∑ t : Fin 8192, pm u (ch g a) t.val * dq ps dy (ch g b) t.val := by
  pointwise [val_main_v263, val_main_v262, val_main_v259]
  refine (Fin.sum_univ_one _).trans (Finset.sum_congr rfl fun t _ => ?_)
  rw [v256_at]
  exact (congrArg (fun x : EReal => dq ps dy (ch g b) t.val * x) (v167_at u hu t g a)).trans (mul_comm _ _)

/-- One row of the gradient in the filter. -/
theorem filter_row (x : FVec Ideal S1x1x256 .f32) (k : ℤ) (c : Fin 256) (z : Fin 8192 → EReal) (hz : ∀ t : Fin 8192, z t = zz gc hh c (t.val + k))
    (hx : x (ix3 0 0 c) = ∑ t : Fin 8192, val_main_v210 (F := Ideal) gb dy (ix3 0 t c) * z t) (h : S1x1x256.ReducesTo [0, 1] S256) :
    Ideal.hostReduceAdd h x 0 (ix1 c) = ∑ t : Fin 8192, dconv gb dy c t.val * zz gc hh c ((t.val : ℤ) + k) := by
  rw [sum_one3, hx]
  exact Finset.sum_congr rfl fun t _ => by rw [v210_at, hz]

theorem v217_at (c : Fin 256) : val_main_v217 (F := Ideal) gb gc hh dy (ix1 c) = ∑ t : Fin 8192, dconv gb dy c t.val * zz gc hh c ((t.val : ℤ) + 1) := by
  unfold val_main_v217
  refine Eq.trans ?_ (filter_row gb gc hh dy (val_main_v216 (F := Ideal) gb gc hh dy) 1 c
    (fun t => val_main_v180 (F := Ideal) gc hh (ix3 0 ⟨2 + t.val, by omega⟩ c)) (fun t => ?_) ?_ Gen.reducesTo_S1x1x256_S256_d0_1)
  · pointwise [val_main_cst_56]
  · rw [v180_at]; congr 1; simp only; omega
  · pointwise [val_main_v216, val_main_v215, val_main_v214, val_main_v198, val_main_cst_55]

theorem v226_at (c : Fin 256) : val_main_v226 (F := Ideal) gb gc hh dy (ix1 c) = ∑ t : Fin 8192, dconv gb dy c t.val * zz gc hh c ((t.val : ℤ) + 0) := by
  unfold val_main_v226
  refine Eq.trans ?_ (filter_row gb gc hh dy (val_main_v225 (F := Ideal) gb gc hh dy) 0 c
    (fun t => val_main_v180 (F := Ideal) gc hh (ix3 0 ⟨1 + t.val, by omega⟩ c)) (fun t => ?_) ?_ Gen.reducesTo_S1x1x256_S256_d0_1)
  · pointwise [val_main_cst_60]
  · rw [v180_at]; congr 1; simp only; omega
  · pointwise [val_main_v225, val_main_v224, val_main_v223, val_main_v191, val_main_cst_59]

theorem v237_at (c : Fin 256) : val_main_v237 (F := Ideal) gb gc hh dy (ix1 c) = ∑ t : Fin 8192, dconv gb dy c t.val * zz gc hh c ((t.val : ℤ) + -1) := by
  unfold val_main_v237
  refine Eq.trans ?_ (filter_row gb gc hh dy (val_main_v236 (F := Ideal) gb gc hh dy) (-1) c
    (fun t => val_main_v180 (F := Ideal) gc hh (ix3 0 ⟨t.val, by omega⟩ c)) (fun t => ?_) ?_ Gen.reducesTo_S1x1x256_S256_d0_1)
  · pointwise [val_main_cst_64]
  · rw [v180_at]; rfl
  · pointwise [val_main_v236, val_main_v235, val_main_v234, val_main_v185, val_main_cst_63]

/-- The gradient in the filter. -/
theorem v242_at (r : Fin 3) (c : Fin 256) :
    val_main_v242 (F := Ideal) gb gc hh dy (ix2 r c) = ∑ t : Fin 8192, dconv gb dy c t.val * zz gc hh c ((t.val : ℤ) + ((r.val : ℤ) - 1)) := by
  pointwise [val_main_v242, val_main_v241, val_main_v240, val_main_v231, val_main_v230, val_main_v229, val_main_v220, val_main_v219,
    val_main_cst_58, val_main_cst_62, val_main_cst_66]
  rw [v217_at, v226_at, v237_at]
  obtain rfl | rfl | rfl : r = 0 ∨ r = 1 ∨ r = 2 := by omega
  all_goals simp

/-- The first result. -/
theorem v329_at (hpw : ∀ i, IsReal (pw i)) (hps : ∀ i, IsReal (ps i)) (hdy : ∀ i, IsReal (dy i)) (t : Fin 8192) (n : Fin 1024) :
    val_main_v329 (F := Ideal) gb gc hh pw ps cw dy (ix2 t n) = res1 gb gc hh pw ps cw dy (ix2 t n) := by
  pointwise [val_main_v329, val_main_v328, val_main_v248, val_main_v249, val_main_v246, val_main_v247, val_main_v176, val_main_v177, val_main_cst_67, val_main_cst_68]
  have hn := n.isLt
  unfold res1
  simp only [show ((ix2 t n : (⟨2, ![8192, 1024]⟩ : Shape).Idx) 1).val = n.val from rfl, show ((ix2 t n : (⟨2, ![8192, 1024]⟩ : Shape).Idx) 0).val = t.val from rfl]
  by_cases h1 : n.val < 256
  · rw [dif_pos h1, if_pos h1, v327_at pw ps dy hpw hps hdy]
    congr 1
    exact Fin.ext (by simp only; omega)
  rw [dif_neg h1, if_neg h1]
  by_cases h2 : n.val < 512
  · rw [dif_pos (by omega), if_pos h2, v250_at]
    congr 1
    exact Fin.ext (by simp only; omega)
  rw [dif_neg (by omega), if_neg h2]
  by_cases h3 : n.val < 768
  · rw [dif_pos (by omega), if_pos h3]
    refine (Fin.sum_univ_one _).trans ?_
    have e : (⟨n.val - 256 - 256, by omega⟩ : Fin 256) = ⟨n.val % 256, by omega⟩ := Fin.ext (by simp only; omega)
    refine (congrArg (fun c : Fin 256 => (val_main_v244 (F := Ideal) gb cw dy (ix3 0 t c) * hh (ix2 t c) : EReal)) e).trans ?_
    simp only
    rw [v244_at, zx_in hh _ t.val t rfl]
  · rw [dif_neg (by omega), if_neg h3]
    refine (Fin.sum_univ_one _).trans ?_
    have e : (⟨n.val - 256 - 256 - 256, by omega⟩ : Fin 256) = ⟨n.val % 256, by omega⟩ := Fin.ext (by simp only; omega)
    refine (congrArg (fun c : Fin 256 => (gc (ix2 t c) * val_main_v244 (F := Ideal) gb cw dy (ix3 0 t c) : EReal)) e).trans ?_
    simp only
    rw [v244_at, zx_in gc _ t.val t rfl]
    exact mul_comm _ _

/-- The second result, on the diagonal blocks. -/
theorem v333_at (hu : ∀ i, IsReal (u i)) (c j : Fin 256) (hd : c.val / 64 = j.val / 64) :
    val_main_v333 (F := Ideal) u ps dy (ix2 c j) = res2 u ps dy c j := by
  pointwise [val_main_v333, val_main_v332, val_main_v331, val_main_v330]
  rw [v263_at u ps dy hu]
  unfold res2
  have e1 : ch ⟨c.val / 64, by omega⟩ ⟨c.val % 64, by omega⟩ = c := Fin.ext (by simp only [ch]; omega)
  have e2 : ch ⟨c.val / 64, by omega⟩ ⟨j.val % 64, by omega⟩ = j := Fin.ext (by simp only [ch]; omega)
  rw [e1, e2]

/-- The third result. -/
theorem v336_at (hu : ∀ i, IsReal (u i)) (r : Fin 8) (c : Fin 256) :
    val_main_v336 (F := Ideal) u gb gc hh pw dy (ix2 r c) = res3 u gb gc hh pw dy (ix2 r c) := by
  pointwise [val_main_v336, val_main_v335, val_main_v334, val_main_cst_85]
  unfold res3
  simp only [show ((ix2 r c : (⟨2, ![8, 256]⟩ : Shape).Idx) 1).val = c.val from rfl, show ((ix2 r c : (⟨2, ![8, 256]⟩ : Shape).Idx) 0).val = r.val from rfl]
  by_cases h1 : r.val < 1
  · rw [if_pos (show r.val = 0 by omega)]
    exact (dif_pos h1).trans (v258_at u pw dy hu c)
  rw [if_neg (show ¬r.val = 0 by omega)]
  refine (dif_neg h1).trans ?_
  by_cases h2 : r.val < 4
  · rw [if_pos h2]
    refine (dif_pos (show r.val - 1 < 3 by omega)).trans ((v242_at gb gc hh dy ⟨r.val - 1, by omega⟩ c).trans ?_)
    refine Finset.sum_congr rfl fun t _ => congrArg (fun z : ℤ => (dconv gb dy c t.val * zz gc hh c z : EReal)) ?_
    simp only; omega
  · rw [if_neg h2]
    exact dif_neg (show ¬r.val - 1 < 3 by omega)

end Cert.MixReferenceIdeal.Proofs

end
-- ==== Proof.Finite.lean ====
/-
  What a printed "every entry is finite" gives of an array: `jnp.all (jnp.abs a < inf)` at the ideal instance says
  that every entry of `a` is a real.
-/
module

public import Idealize.ShloMosaic.Lib.StableHlo
public import Idealize.ShloMosaic.Lib.ReduceAll
public import Idealize.ShloMosaic.Lib.Pipeline.ValueKit
public import proofs.«01_k».proof.Proof.MixPool

@[expose] public section

set_option maxRecDepth 16384

noncomputable section

namespace Cert.Proofs.Finite

open Idealize.ShloMosaic Cert.MixReferenceIdeal.Proofs

instance : Subsingleton (⟨0, ![]⟩ : Shape).Idx := ⟨fun a b => funext fun k => k.elim0⟩

/-- An extended real of absolute value below infinity is a real. -/
theorem real_of_abs {s : Shape} (a : FVec Ideal s .f32) (hb : (⟨0, ![]⟩ : Shape).BroadcastsInDim s (![] : Fin 0 → Fin s.rank)) (i : s.Idx)
    (h : cmpf .olt (Host.absf a) (broadcastInDim s ![] hb (constant (F := Ideal) ⟨0, ![]⟩ .f32 0x7F800000#32)) i = 1#1) : IsReal (a i) := by
  have h2 : BitVec.ofBool (decide (max (a i) (-(a i)) < Ideal.ofBits .f32 0x7F800000#32)) = 1#1 := h
  have h3 : max (a i) (-(a i)) < ⊤ := by
    have : Ideal.ofBits .f32 0x7F800000#32 = ⊤ := by simp [Ideal.ofBits, Ideal.ieee]
    rw [this] at h2
    by_contra hn
    simp [hn] at h2
  generalize a i = x at h3
  induction x using EReal.rec with
  | bot => simp at h3
  | coe r => exact ⟨r, rfl⟩
  | top => simp at h3

theorem real_of_all {s : Shape} {axes : List (Fin s.rank)} (a : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi (cmpf .olt (Host.absf a) (broadcastInDim s ![] hb (constant (F := Ideal) ⟨0, ![]⟩ .f32 0x7F800000#32))) (constantI ⟨0, ![]⟩ 1 1#1) hr hu j = 1#1) (i : s.Idx) :
    IsReal (a i) := by
  have h := Host.reduce_andi_all _ _ hr hu j e i
  exact real_of_abs a hb i h

end Cert.Proofs.Finite

end
-- ==== Proof.MixPre.lean ====
/-
  The precondition and the mask of the claim about `mixab_bwd`: the finite arguments have real entries, and the mask of
  the second result is set only on the four diagonal blocks.
-/
module

public import proofs.«01_k».proof.Pre_mix_finite
public import proofs.«01_k».proof.On_mix_diagonal
public import proofs.«01_k».proof.Proof.Finite

@[expose] public section

set_option maxRecDepth 16384

noncomputable section

namespace Cert.Pre_mix_finite

open Idealize.ShloMosaic

theorem facts : Facts where
  bcast_S_S8192x256 := by decide
  reducesTo_S8192x256_S_d0_1 := by decide
  h_S_ := by decide
  bcast_S_S4x64x64 := by decide
  reducesTo_S4x64x64_S_d0_1_2 := by decide
  bcast_S_S256 := by decide
  reducesTo_S256_S_d0 := by decide
  bcast_S_S8192x1024 := by decide
  reducesTo_S8192x1024_S_d0_1 := by decide

open Cert.MixReferenceIdeal.Proofs Cert.Proofs.Finite

/-- A conjunction of two bits that is set has both set. -/
theorem both {s : Shape} {a b : IVec s 1} {i : s.Idx} (h : andi a b i = 1#1) : a i = 1#1 ∧ b i = 1#1 := by
  have h' : a i &&& b i = 1#1 := h
  generalize a i = x at *
  generalize b i = y at *
  revert h'
  revert x y
  decide

/-- The pooled activations, the pooling weights, their scale and the gradient that comes in have real entries. -/
theorem reals [Facts] (u gb gc hh : FVec Ideal S8192x256 .f32) (pw : FVec Ideal S4x64x64 .f32) (ps : FVec Ideal S256 .f32)
    (cw : FVec Ideal S3x256 .f32) (dy : FVec Ideal S8192x1024 .f32) (h : fn (F := Ideal) u gb gc hh pw ps cw dy = fun _ => 1#1) :
    (∀ i, IsReal (u i)) ∧ (∀ i, IsReal (pw i)) ∧ (∀ i, IsReal (ps i)) ∧ ∀ i, IsReal (dy i) := by
  have h0 := congrFun h (fun k => k.elim0)
  obtain ⟨h1, hd⟩ := both h0
  obtain ⟨h2, hs⟩ := both h1
  obtain ⟨hu, hp⟩ := both h2
  exact ⟨fun i => real_of_all _ _ _ _ _ hu i, fun i => real_of_all _ _ _ _ _ hp i, fun i => real_of_all _ _ _ _ _ hs i, fun i => real_of_all _ _ _ _ _ hd i⟩

end Cert.Pre_mix_finite

namespace Cert.On_mix_diagonal

open Idealize.ShloMosaic

theorem facts : Facts where
  bcast_S_S8192x1024 := by decide
  bcast_S_S256x256 := by decide
  bcast_S_S8x256 := by decide

/-- The sign of a word, as printed. -/
def sgn (x : BitVec 32) : BitVec 32 := if x = 0 then 0 else if x.msb then -1 else 1

/-- The word by which the floor division by 64 is printed. -/
def quot (x : BitVec 32) : BitVec 32 :=
  if (BitVec.ofBool (sgn x != sgn 64#32) &&& BitVec.ofBool (x.srem 64#32 != 0#32)) = 1#1 then x.sdiv 64#32 - 1#32 else x.sdiv 64#32

theorem quot_val (n : Fin 256) : quot (BitVec.ofNat 32 n.val) = BitVec.ofNat 32 (n.val / 64) := by
  revert n
  decide +kernel

theorem no_corner (x : BitVec 32) : ¬ IntOp.SDivCorner x 64#32 := by
  unfold IntOp.SDivCorner
  rintro (h | h)
  · exact absurd h (by decide)
  · exact absurd h.2 (by decide)

theorem floor_divide_at [Facts] (x : IVec S256x256 32) (i : S256x256.Idx) :
    fn_floor_divide (F := Ideal) x (constantI S_ 32 64#32) i = quot (x i) := by
  have hd : Host.divsi x (broadcastInDim S256x256 ![] Facts.bcast_S_S256x256 (id (constantI S_ 32 64#32))) i = (x i).sdiv 64#32 := if_neg (no_corner _)
  have hr : Host.remsi x (broadcastInDim S256x256 ![] Facts.bcast_S_S256x256 (id (constantI S_ 32 64#32))) i = (x i).srem 64#32 := if_neg (no_corner _)
  show (if (BitVec.ofBool (sgn (x i) != sgn 64#32) &&& BitVec.ofBool (Host.remsi x (broadcastInDim S256x256 ![] Facts.bcast_S_S256x256 (id (constantI S_ 32 64#32))) i != 0#32)) = 1#1
    then Host.divsi x (broadcastInDim S256x256 ![] Facts.bcast_S_S256x256 (id (constantI S_ 32 64#32))) i - 1#32
    else Host.divsi x (broadcastInDim S256x256 ![] Facts.bcast_S_S256x256 (id (constantI S_ 32 64#32))) i) = _
  rw [hd, hr]
  rfl

theorem diagonal [Facts] (u gb gc hh : FVec Ideal S8192x256 .f32) (pw : FVec Ideal S4x64x64 .f32) (ps : FVec Ideal S256 .f32)
    (cw : FVec Ideal S3x256 .f32) (dy : FVec Ideal S8192x1024 .f32) (c j : Fin 256)
    (h : (fn (F := Ideal) u gb gc hh pw ps cw dy).2.1 (ix2 c j) = 1#1) : c.val / 64 = j.val / 64 := by
  have h' : BitVec.ofBool (fn_floor_divide (F := Ideal) (iotaInDim S256x256 32 0) (constantI S_ 32 64#32) (ix2 c j)
    == fn_floor_divide (F := Ideal) (iotaInDim S256x256 32 1) (constantI S_ 32 64#32) (ix2 c j)) = 1#1 := h
  rw [floor_divide_at, floor_divide_at] at h'
  have hc : iotaInDim S256x256 32 0 (ix2 c j) = BitVec.ofNat 32 c.val := rfl
  have hj : iotaInDim S256x256 32 1 (ix2 c j) = BitVec.ofNat 32 j.val := rfl
  rw [hc, hj, quot_val, quot_val] at h'
  have e : BitVec.ofNat 32 (c.val / 64) = BitVec.ofNat 32 (j.val / 64) := by
    by_contra hn
    rw [beq_eq_false_iff_ne.mpr hn] at h'
    exact absurd h' (by decide)
  have e' := congrArg BitVec.toNat e
  simp only [BitVec.toNat_ofNat] at e'
  omega

end Cert.On_mix_diagonal

end
-- ==== Proof.MixClaims.lean ====
/-
  The five claims of the mix call: the runs of its three programs, and the value of its three results.
-/
module

public import proofs.«01_k».proof.Defs
public import proofs.«01_k».proof.Proof.MixValue
public import proofs.«01_k».proof.Proof.MixRef
public import proofs.«01_k».proof.Proof.MixPre
public import proofs.«01_k».proof.Proof.Gen.MixKernel.Frame

@[expose] public section

set_option maxRecDepth 16384

noncomputable section

namespace Cert.Proof

open Idealize.ShloMosaic Idealize.ShloMosaic.TcCoe Idealize.SL.Sem

theorem mix_frame : @Cert.quiescent_MixKernel Cert.MixKernel.Gen.facts := fun m ρ _ => Cert.MixKernel.Gen.frame m ρ

theorem mix_ideal_frame : @Cert.quiescent_MixKernelIdeal Cert.MixKernelIdeal.Gen.facts := fun m ρ _ => Cert.MixKernelIdeal.Gen.frame m ρ

theorem mix_reference_frame : @Cert.quiescent_MixReferenceIdeal Cert.MixReferenceIdeal.Gen.facts := fun m ρ _ =>
  (θ_run Cert.MixReferenceIdeal.defs _ _).mono (fun r h => ⟨fun c => (h c).2.2.2, sem_eq_zero_of_no_sems (by decide) r.2⟩)
    (Cert.MixReferenceIdeal.Value.run (F := Ideal) m ρ)

theorem mix_preserves : Cert.preserves_MixKernel_MixKernelIdeal := trivial

open MixSpec

/-- Where the kernel's run ends: its three results in closed form, its arguments unchanged. -/
theorem mix_kernel_run (m : (ℓ : Loc Cert.MixKernelIdeal.nD Cert.MixKernelIdeal.τ Cert.MixKernelIdeal.sig) → Buf (Elt Ideal) ℓ) (g : Dev Cert.MixKernelIdeal.nD → PrngReg) :
    θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
      r.2.mem ((c.tc : Thread Cert.MixKernelIdeal.nD Cert.MixKernelIdeal.τ).loc Cert.MixKernelIdeal.main_v17_0) = res1 (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7))
      ∧ r.2.mem ((c.tc : Thread Cert.MixKernelIdeal.nD Cert.MixKernelIdeal.τ).loc Cert.MixKernelIdeal.main_v17_1) = (fun i : (⟨2, ![256, 256]⟩ : Shape).Idx => res2 (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg7)) (i 0) (i 1))
      ∧ r.2.mem ((c.tc : Thread Cert.MixKernelIdeal.nD Cert.MixKernelIdeal.τ).loc Cert.MixKernelIdeal.main_v17_2) = res3 (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg7))
      ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)) := by
  run_from Cert.MixKernelIdeal.Gen.run_main m g
  · exact Cert.MixKernelIdeal.Proofs.final0 m c
  · exact Cert.MixKernelIdeal.Proofs.final1 m c
  · exact Cert.MixKernelIdeal.Proofs.final2 m c

/-- Where the reference's run ends: its three results as the read-out terms of its arguments. -/
theorem mix_reference_run (m : (ℓ : Loc Cert.MixReferenceIdeal.nD Cert.MixReferenceIdeal.τ Cert.MixReferenceIdeal.sig) → Buf (Elt Ideal) ℓ) (g : Dev Cert.MixReferenceIdeal.nD → PrngReg) :
    θ_run (Cert.MixReferenceIdeal.defs (F := Ideal)) (onTc (τ := Cert.MixReferenceIdeal.τ) (Cert.MixReferenceIdeal.main (F := Ideal))) ⟨m, fun _ => 0, g⟩ (fun r => ∀ c : Dev Cert.MixReferenceIdeal.nD,
      r.2.mem ((c.tc : Thread Cert.MixReferenceIdeal.nD Cert.MixReferenceIdeal.τ).loc Cert.MixReferenceIdeal.main_v329) = Cert.MixReferenceIdeal.Read.val_main_v329 (F := Ideal) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7))
      ∧ r.2.mem ((c.tc : Thread Cert.MixReferenceIdeal.nD Cert.MixReferenceIdeal.τ).loc Cert.MixReferenceIdeal.main_v333) = Cert.MixReferenceIdeal.Read.val_main_v333 (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg7))
      ∧ r.2.mem ((c.tc : Thread Cert.MixReferenceIdeal.nD Cert.MixReferenceIdeal.τ).loc Cert.MixReferenceIdeal.main_v336) = Cert.MixReferenceIdeal.Read.val_main_v336 (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg7))
      ∧ r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)) :=
  (θ_run _ _ _).mono (fun r h c => ⟨(h c).1.trans (Cert.MixReferenceIdeal.Read.val_main_v329_eq (StableHlo.launchContents m c)),
    (h c).2.1.trans (Cert.MixReferenceIdeal.Read.val_main_v333_eq (StableHlo.launchContents m c)), (h c).2.2.1.trans (Cert.MixReferenceIdeal.Read.val_main_v336_eq (StableHlo.launchContents m c)),
    (h c).2.2.2⟩) (Cert.MixReferenceIdeal.Value.run (F := Ideal) m g)

theorem mix_algebraic : @Cert.algebraic_MixKernelIdeal_MixReferenceIdeal_on_mix_diagonal_pre_mix_finite Cert.MixKernelIdeal.Gen.facts
    Cert.MixReferenceIdeal.Gen.facts Cert.Pre_mix_finite.facts Cert.On_mix_diagonal.facts := by
  intro m g m' g' hpre hagree
  haveI := Cert.Pre_mix_finite.facts
  haveI := Cert.On_mix_diagonal.facts
  refine ⟨fun c => res1 (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)), fun c => (fun i : (⟨2, ![256, 256]⟩ : Shape).Idx => res2 (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg7)) (i 0) (i 1)),
    fun c => res3 (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg7)), ?_, ?_⟩
  · exact (θ_run _ _ _).mono (fun r h c => ⟨fun i _ => congrFun (h c).1 i, fun i _ => congrFun (h c).2.1 i, fun i _ => congrFun (h c).2.2.1 i, (h c).2.2.2⟩)
      (mix_kernel_run m g)
  · refine (θ_run _ _ _).mono (fun r h c => ?_) (mix_reference_run m' g')
    obtain ⟨hu, hp, hs, hd⟩ := Cert.Pre_mix_finite.reals _ _ _ _ _ _ _ _ (hpre c)
    obtain ⟨e1, e2, e3, e4⟩ := h c
    obtain ⟨a0, a1, a2, a3, a4, a5, a6, a7⟩ := hagree c
    rw [a1, a2, a3, a4, a5, a6, a7] at e1
    rw [a0, a5, a7] at e2
    rw [a0, a1, a2, a3, a4, a7] at e3
    refine ⟨fun i _ => ?_, fun i hi => ?_, fun i _ => ?_, e4⟩
    · obtain ⟨t, n, rfl⟩ : ∃ t n, i = ix2 t n := ⟨i 0, i 1, (ix2_eta i).symm⟩
      exact (congrFun e1 _).trans (Cert.MixReferenceIdeal.Proofs.v329_at _ _ _ _ _ _ _ hp hs hd t n)
    · obtain ⟨t, n, rfl⟩ : ∃ t n, i = ix2 t n := ⟨i 0, i 1, (ix2_eta i).symm⟩
      exact (congrFun e2 _).trans (Cert.MixReferenceIdeal.Proofs.v333_at _ _ _ hu t n (Cert.On_mix_diagonal.diagonal _ _ _ _ _ _ _ _ t n hi))
    · obtain ⟨t, n, rfl⟩ : ∃ t n, i = ix2 t n := ⟨i 0, i 1, (ix2_eta i).symm⟩
      exact (congrFun e3 _).trans (Cert.MixReferenceIdeal.Proofs.v336_at _ _ _ _ _ _ hu t n)

end Cert.Proof

end
-- ==== Proof.AttnTrip.lean ====
module

public import proofs.«01_k».proof.Proof.Gen.AttnKernelIdeal.Frame
public import proofs.«01_k».proof.Proof.Gen.AttnKernelIdeal.Loops
public import proofs.«01_k».proof.Proof.Gen.AttnKernelIdeal.Skeleton
public import Idealize.ShloMosaic.Lib.WritesUnit

@[expose] public section

set_option maxRecDepth 16384

noncomputable section

namespace Cert.AttnKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

variable {F : FTy → Type} [FloatOps F]

/-- What the memrefs of the inputs hold at a point: queries, keys, values, the table of biases, the gradient that comes in. -/
structure Ins (F : FTy → Type) where
  q : Vec F S2048x256 .bf16
  k : Vec F S8192x256 .bf16
  v : Vec F S8192x256 .bf16
  b : Vec F S1x960x256 .f32
  o : Vec F S2048x256 .f32

namespace Ins

variable (x : Ins F) (i : grid0.Coords) (k : Fin k0_t1_loop.trips)

/-- The blocks that trip `k` reads. -/
def qv : Vec F S64x256 .bf16 := View.ld x.q (Rect.unit (s := S2048x256) (k0_off1 k) S64x256.size (k0_off1_inb k))
def kv : Vec F S512x256 .bf16 := View.ld x.k (Rect.unit (s := S8192x256) (k0_off2 i k) S512x256.size (k0_off2_inb i k))
def vv : Vec F S512x256 .bf16 := View.ld x.v (Rect.unit (s := S8192x256) (k0_off2 i k) S512x256.size (k0_off2_inb i k))
def bv : Vec F S1x512x256 .f32 := View.ld x.b (Rect.unit (s := S1x960x256) (k0_off3 i k) S1x512x256.size (k0_off3_inb i k))
def ov : Vec F S64x256 .f32 := View.ld x.o (Rect.unit (s := S2048x256) (k0_off1 k) S64x256.size (k0_off1_inb k))

/-- The exponentials and their sums' broadcast, as the trip's payloads name them. -/
def e1 : FVec F S512x256 .f32 := k0_pay15 k0_pay1 k0_pay2 k0_pay3 k0_pay4 (x.qv k) (x.kv i k) (x.bv i k)
def e2 : FVec F S512x256 .f32 := k0_pay16 k0_pay1 k0_pay2 k0_pay3 k0_pay4 (x.qv k) (x.kv i k) (x.bv i k)

/-- What trip `k` stores of the queries' gradient, and what it makes of the other three accumulators' blocks. -/
def dqP : FVec F S64x256 .bf16 :=
  k0_pay22 k0_pay1 k0_pay2 k0_pay3 k0_pay4 (k0_pay13 (x.kv i k)) (k0_pay14 (x.vv i k)) (x.e1 i k) (x.e2 i k) (x.ov k)
def dbP (f : Vec F S1x512x256 .f32) : FVec F S1x512x256 .f32 :=
  k0_pay20 k0_pay1 k0_pay2 k0_pay3 k0_pay4 (k0_pay14 (x.vv i k)) (x.e1 i k) (x.e2 i k) (x.ov k) f
def dkP (f : Vec F S512x256 .f32) : FVec F S512x256 .f32 :=
  k0_pay8 f (k0_pay23 k0_pay1 k0_pay2 k0_pay3 k0_pay4 (k0_pay12 k0_pay1 k0_pay2 k0_pay3 k0_pay4 (x.qv k)) (k0_pay14 (x.vv i k)) (x.e1 i k) (x.e2 i k) (x.ov k))
def dvP (f : Vec F S512x256 .f32) : FVec F S512x256 .f32 :=
  k0_pay9 (k0_pay17 (x.e1 i k) (x.e2 i k)) (k0_pay18 k0_pay1 k0_pay2 k0_pay3 k0_pay4 (x.ov k)) f

end Ins

/-- An array with the block at `off` replaced. -/
def over {α : Type} {s : Shape} (off size : Fin s.rank → ℕ) (w : (⟨s.rank, size⟩ : Shape).Idx → α) (f : s.Idx → α) : s.Idx → α := fun y =>
  if h : ∀ a, off a ≤ (y a).val ∧ (y a).val < off a + size a then w (Rect.unitLocal (s := s) (off := off) (size := size) y h) else f y

/-- The three accumulators after the first `n` trips. -/
def dbAt (x : Ins F) (i : grid0.Coords) (f : Vec F S1x960x256 .f32) : ℕ → Vec F S1x960x256 .f32
  | 0 => f
  | n + 1 => if h : n < k0_t1_loop.trips then
      over (s := S1x960x256) (k0_off3 i ⟨n, h⟩) S1x512x256.size (x.dbP i ⟨n, h⟩ (View.ld (dbAt x i f n) (Rect.unit (s := S1x960x256) (k0_off3 i ⟨n, h⟩) S1x512x256.size (k0_off3_inb i ⟨n, h⟩)))) (dbAt x i f n)
    else dbAt x i f n
def dkAt (x : Ins F) (i : grid0.Coords) (f : Vec F S8192x256 .f32) : ℕ → Vec F S8192x256 .f32
  | 0 => f
  | n + 1 => if h : n < k0_t1_loop.trips then
      over (s := S8192x256) (k0_off2 i ⟨n, h⟩) S512x256.size (x.dkP i ⟨n, h⟩ (View.ld (dkAt x i f n) (Rect.unit (s := S8192x256) (k0_off2 i ⟨n, h⟩) S512x256.size (k0_off2_inb i ⟨n, h⟩)))) (dkAt x i f n)
    else dkAt x i f n
def dvAt (x : Ins F) (i : grid0.Coords) (f : Vec F S8192x256 .f32) : ℕ → Vec F S8192x256 .f32
  | 0 => f
  | n + 1 => if h : n < k0_t1_loop.trips then
      over (s := S8192x256) (k0_off2 i ⟨n, h⟩) S512x256.size (x.dvP i ⟨n, h⟩ (View.ld (dvAt x i f n) (Rect.unit (s := S8192x256) (k0_off2 i ⟨n, h⟩) S512x256.size (k0_off2_inb i ⟨n, h⟩)))) (dvAt x i f n)
    else dvAt x i f n
def dqAt (x : Ins F) (i : grid0.Coords) (f : Vec F S2048x256 .bf16) : ℕ → Vec F S2048x256 .bf16
  | 0 => f
  | n + 1 => if h : n < k0_t1_loop.trips then
      over (s := S2048x256) (k0_off1 ⟨n, h⟩) S64x256.size (x.dqP i ⟨n, h⟩) (dqAt x i f n)
    else dqAt x i f n

theorem dbAt_succ (x : Ins F) (i : grid0.Coords) (f : Vec F S1x960x256 .f32) (n : ℕ) (h : n < k0_t1_loop.trips) : dbAt x i f (n + 1)
    = over (s := S1x960x256) (k0_off3 i ⟨n, h⟩) S1x512x256.size (x.dbP i ⟨n, h⟩ (View.ld (dbAt x i f n) (Rect.unit (s := S1x960x256) (k0_off3 i ⟨n, h⟩) S1x512x256.size (k0_off3_inb i ⟨n, h⟩)))) (dbAt x i f n) := by
  rw [dbAt]; exact dif_pos h
theorem dkAt_succ (x : Ins F) (i : grid0.Coords) (f : Vec F S8192x256 .f32) (n : ℕ) (h : n < k0_t1_loop.trips) : dkAt x i f (n + 1)
    = over (s := S8192x256) (k0_off2 i ⟨n, h⟩) S512x256.size (x.dkP i ⟨n, h⟩ (View.ld (dkAt x i f n) (Rect.unit (s := S8192x256) (k0_off2 i ⟨n, h⟩) S512x256.size (k0_off2_inb i ⟨n, h⟩)))) (dkAt x i f n) := by
  rw [dkAt]; exact dif_pos h
theorem dvAt_succ (x : Ins F) (i : grid0.Coords) (f : Vec F S8192x256 .f32) (n : ℕ) (h : n < k0_t1_loop.trips) : dvAt x i f (n + 1)
    = over (s := S8192x256) (k0_off2 i ⟨n, h⟩) S512x256.size (x.dvP i ⟨n, h⟩ (View.ld (dvAt x i f n) (Rect.unit (s := S8192x256) (k0_off2 i ⟨n, h⟩) S512x256.size (k0_off2_inb i ⟨n, h⟩)))) (dvAt x i f n) := by
  rw [dvAt]; exact dif_pos h
theorem dqAt_succ (x : Ins F) (i : grid0.Coords) (f : Vec F S2048x256 .bf16) (n : ℕ) (h : n < k0_t1_loop.trips) : dqAt x i f (n + 1)
    = over (s := S2048x256) (k0_off1 ⟨n, h⟩) S64x256.size (x.dqP i ⟨n, h⟩) (dqAt x i f n) := by
  rw [dqAt]; exact dif_pos h

variable (c : Dev nD) (i : grid0.Coords) (arg2 : Memref sig .tc .vmem S2048x256 .bf16) (harg2 : arg2.IsWhole) (arg3 : Memref sig .tc .vmem S8192x256 .bf16) (harg3 : arg3.IsWhole)
  (arg4 : Memref sig .tc .vmem S8192x256 .bf16) (harg4 : arg4.IsWhole) (arg5 : Memref sig .tc .vmem S1x960x256 .f32) (harg5 : arg5.IsWhole) (arg6 : Memref sig .tc .vmem S2048x256 .f32) (harg6 : arg6.IsWhole)
  (arg7 : Memref sig .tc .vmem S2048x256 .bf16) (harg7 : arg7.IsWhole) (arg8 : Memref sig .tc .vmem S8192x256 .bf16) (harg8 : arg8.IsWhole) (arg9 : Memref sig .tc .vmem S8192x256 .bf16) (harg9 : arg9.IsWhole)
  (arg10 : Memref sig .tc .vmem S1x960x256 .f32) (harg10 : arg10.IsWhole) (arg11 : Memref sig .tc .vmem S8192x256 .f32) (harg11 : arg11.IsWhole) (arg12 : Memref sig .tc .vmem S8192x256 .f32) (harg12 : arg12.IsWhole)
variable (x : Ins F)

/-- One trip's pieces, from what the memrefs hold. -/
theorem trip_pieces (k : Fin k0_t1_loop.trips) (f7) (f10) (f11) (f12) :
    tripL_k0_t1 (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) k f7 f10 f11 f12
      = ([⟨Rect.unit (k0_off1 k) S64x256.size (k0_off1_inb k), x.dqP i k⟩],
         [⟨Rect.unit (k0_off3 i k) S1x512x256.size (k0_off3_inb i k), x.dbP i k (View.ld (arg10.view.read (Elt F) f10) (Rect.unit (s := S1x960x256) (k0_off3 i k) S1x512x256.size (k0_off3_inb i k)))⟩],
         [⟨Rect.unit (k0_off2 i k) S512x256.size (k0_off2_inb i k), x.dkP i k (View.ld (arg11.view.read (Elt F) f11) (Rect.unit (s := S8192x256) (k0_off2 i k) S512x256.size (k0_off2_inb i k)))⟩],
         [⟨Rect.unit (k0_off2 i k) S512x256.size (k0_off2_inb i k), x.dvP i k (View.ld (arg12.view.read (Elt F) f12) (Rect.unit (s := S8192x256) (k0_off2 i k) S512x256.size (k0_off2_inb i k)))⟩]) := by
  unfold tripL_k0_t1 trip_k0_t1
  sl_unfold_words
  dsimp only [Ins.dqP, Ins.dbP, Ins.dkP, Ins.dvP, Ins.e1, Ins.e2, Ins.qv, Ins.kv, Ins.vv, Ins.bv, Ins.ov]
  simp only [View.readAt_eq_ld, harg2.read_unread, harg3.read_unread, harg4.read_unread, harg5.read_unread, harg6.read_unread]
  rfl

/-- A whole rectangle written over an array reads as `over`. -/
theorem read_cons {s : Shape} {e : EltTy} (v : View sig .tc .vmem s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f ((⟨Rect.unit off size inb, w⟩ : View.Piece (Elt F) s e) :: L)) = over (s := s) off size w (v.read (Elt F) (v.writes (Elt F) f L)) :=
  funext fun y => View.read_writes_cons_unit v f inb w L y rfl

/-- The loop's pieces read back: the accumulators after `n` trips. -/
theorem loop_read (G7) (G10) (G11) (G12) (n : ℕ) (hn : n ≤ k0_t1_loop.trips) :
    arg7.view.read (Elt F) (arg7.view.writes (Elt F) G7 (pb_k0_t1 (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) G7 G10 G11 G12 n).1) = dqAt x i (arg7.view.read (Elt F) G7) n
    ∧ arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) G7 G10 G11 G12 n).2.1) = dbAt x i (arg10.view.read (Elt F) G10) n
    ∧ arg11.view.read (Elt F) (arg11.view.writes (Elt F) G11 (pb_k0_t1 (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) G7 G10 G11 G12 n).2.2.1) = dkAt x i (arg11.view.read (Elt F) G11) n
    ∧ arg12.view.read (Elt F) (arg12.view.writes (Elt F) G12 (pb_k0_t1 (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) G7 G10 G11 G12 n).2.2.2) = dvAt x i (arg12.view.read (Elt F) G12) n := by
  induction n with
  | zero => exact ⟨rfl, rfl, rfl, rfl⟩
  | succ n ih =>
    obtain ⟨h7, h10, h11, h12⟩ := ih (Nat.le_of_succ_le hn)
    have hs := pb_k0_t1_succ (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) G7 G10 G11 G12 ⟨n, hn⟩
    rw [trip_pieces] at hs
    generalize pb_k0_t1 (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) G7 G10 G11 G12 n = P at *
    rw [show (pb_k0_t1 (F := F) Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 32#32)
        (harg2.unread x.q) (harg3.unread x.k) (harg4.unread x.v) (harg5.unread x.b) (harg6.unread x.o) G7 G10 G11 G12 (n + 1)) = _ from hs]
    dsimp only [List.cons_append, List.nil_append]
    refine ⟨?_, ?_, ?_, ?_⟩
    · rw [read_cons, h7]; exact (dqAt_succ x i _ n hn).symm
    · rw [read_cons, h10]; exact (dbAt_succ x i _ n hn).symm
    · rw [read_cons, h11]; exact (dkAt_succ x i _ n hn).symm
    · rw [read_cons, h12]; exact (dvAt_succ x i _ n hn).symm

theorem off1_eq : ∀ k : Fin k0_t1_loop.trips, k0_off1 k = ![64 * k.val, 0] := by decide +kernel

/-- After the last trip nothing is left of what the queries' gradient's block held before. -/
theorem dqAt_whole (f g : Vec F S2048x256 .bf16) : dqAt x i f 32 = dqAt x i g 32 := by
  have H : ∀ n, n ≤ k0_t1_loop.trips → ∀ y : S2048x256.Idx, (y 0).val < 64 * n → dqAt x i f n y = dqAt x i g n y := by
    intro n
    induction n with
    | zero => intro _ y hy; exact absurd hy (Nat.not_lt_zero _)
    | succ n ih =>
      intro hn y hy
      have e : ∀ h : Vec F S2048x256 .bf16, dqAt x i h (n + 1) = over (s := S2048x256) (k0_off1 ⟨n, hn⟩) S64x256.size (x.dqP i ⟨n, hn⟩) (dqAt x i h n) := fun h => dqAt_succ x i h n hn
      rw [e, e]
      unfold over
      split
      · rfl
      · rename_i h
        refine ih (Nat.le_of_succ_le hn) y (Nat.lt_of_not_le fun hle => h ?_)
        rw [off1_eq]
        exact Fin.forall_fin_two.mpr ⟨⟨hle, by show (y 0).val < 64 * n + 64; omega⟩, ⟨Nat.zero_le _, (by show (y 1).val < 0 + 256; have := (y 1).isLt; change (y 1).val < 256 at this; omega)⟩⟩
  exact funext fun y => H 32 (le_of_eq (by decide)) y (by have := (y 0).isLt; change (y 0).val < 2048 at this; omega)

end Cert.AttnKernelIdeal.Body
-- ==== Proof.AttnBody.lean ====
/- The body of the attention's backward kernel at one grid point, run once per case of its two conditionals: what its memrefs hold afterwards. -/
module

public import proofs.«01_k».proof.Proof.Gen.AttnKernelIdeal.Frame
public import proofs.«01_k».proof.Proof.Gen.AttnKernelIdeal.Loops
public import proofs.«01_k».proof.Proof.Gen.AttnKernelIdeal.Skeleton
public import proofs.«01_k».proof.Proof.AttnTrip

@[expose] public section

set_option maxRecDepth 16384
set_option maxHeartbeats 4000000

noncomputable section

namespace Cert.AttnKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

variable {F : FTy → Type} [FloatOps F]

local notation "𝕄" => MT nD τ sig Unit (Elt F) ℕ (UR sig nD τ) ℕ

/-- A load of the whole of an array. -/
theorem ld_whole {s : Shape} {e : EltTy} (X : s.Idx → Elt F e) {off : Fin s.rank → ℕ} (hoff : ∀ a, off a = 0) (inb : ∀ a, off a + s.size a ≤ s.size a) :
    View.ld X (Rect.unit off s.size inb) = X := by
  refine funext fun y => congrArg X (funext fun a => Fin.ext ?_)
  show off a + 1 * (y a).val = (y a).val
  rw [hoff a]; omega

/-- A store over the whole of a memref reads back as what was stored. -/
theorem read_whole {s : Shape} {e : EltTy} (v : View sig .tc .vmem s e) (f : v.ty.Contents (Elt F)) {off : Fin s.rank → ℕ} (w : s.Idx → Elt F e)
    (hoff : ∀ a, off a = 0) (inb : ∀ a, off a + s.size a ≤ s.size a) :
    v.read (Elt F) (v.writes (Elt F) f [(⟨Rect.unit off s.size inb, w⟩ : View.Piece (Elt F) s e)]) = w := by
  refine (read_cons v f inb w []).trans (funext fun y => ?_)
  have h : ∀ a, off a ≤ (y a).val ∧ (y a).val < off a + s.size a := fun a => by rw [hoff a]; have := (y a).isLt; omega
  refine (dif_pos h).trans (congrArg w (funext fun a => Fin.ext ?_))
  rw [Rect.unitLocal_val, hoff a, Nat.sub_zero]

variable (c : Dev nD) (i : grid0.Coords) (arg2 : Memref sig .tc .vmem S2048x256 .bf16) (harg2 : arg2.IsWhole) (arg3 : Memref sig .tc .vmem S8192x256 .bf16) (harg3 : arg3.IsWhole)
  (arg4 : Memref sig .tc .vmem S8192x256 .bf16) (harg4 : arg4.IsWhole) (arg5 : Memref sig .tc .vmem S1x960x256 .f32) (harg5 : arg5.IsWhole) (arg6 : Memref sig .tc .vmem S2048x256 .f32) (harg6 : arg6.IsWhole)
  (arg7 : Memref sig .tc .vmem S2048x256 .bf16) (harg7 : arg7.IsWhole) (arg8 : Memref sig .tc .vmem S8192x256 .bf16) (harg8 : arg8.IsWhole) (arg9 : Memref sig .tc .vmem S8192x256 .bf16) (harg9 : arg9.IsWhole)
  (arg10 : Memref sig .tc .vmem S1x960x256 .f32) (harg10 : arg10.IsWhole) (arg11 : Memref sig .tc .vmem S8192x256 .f32) (harg11 : arg11.IsWhole) (arg12 : Memref sig .tc .vmem S8192x256 .f32) (harg12 : arg12.IsWhole)
  (x : Ins F) (g7 : Vec F S2048x256 .bf16) (g8 g9 : Vec F S8192x256 .bf16) (g10 : Vec F S1x960x256 .f32) (g11 g12 : Vec F S8192x256 .f32)

/-- The body at a group's first point: the accumulators start from zero. -/
theorem run_first (hc0 : (Scalar.cmpi .ne (Scalar.extui (Scalar.cmpi .eq (BitVec.ofNat 32 (i 1).val) 0#32)) 0#32) = 1#1) (hc1 : ¬ k0_cond2 i = 1#1) (E : Set ℕ) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.b ∗ owns (c : Thread nD τ) arg6 fullShare x.o
        ∗ (∃ d, owns (c : Thread nD τ) arg7 fullShare d) ∗ owns (c : Thread nD τ) arg8 fullShare g8 ∗ owns (c : Thread nD τ) arg9 fullShare g9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x.q ∗ owns (c : Thread nD τ) arg3 fullShare x.k ∗ owns (c : Thread nD τ) arg4 fullShare x.v ∗ owns (c : Thread nD τ) arg5 fullShare x.b ∗ owns (c : Thread nD τ) arg6 fullShare x.o
            ∗ owns (c : Thread nD τ) arg7 fullShare (dqAt x i g7 32) ∗ owns (c : Thread nD τ) arg8 fullShare g8 ∗ owns (c : Thread nD τ) arg9 fullShare g9 ∗ owns (c : Thread nD τ) arg10 fullShare (dbAt x i k0_pay7 32) ∗ owns (c : Thread nD τ) arg11 fullShare (dkAt x i k0_pay5 32) ∗ owns (c : Thread nD τ) arg12 fullShare (dvAt x i k0_pay6 32)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    exact ((loop_read c i arg2 harg2 arg3 harg3 arg4 harg4 arg5 harg5 arg6 harg6 arg7 harg7 arg8 harg8 arg9 harg9 arg10 harg10 arg11 harg11 arg12 harg12 x _ _ _ _ 32 (by decide)).1).trans (dqAt_whole i x _ _)
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    exact (congrArg (View.read (Elt F) arg10.view) (View.writes_append _ _ _ _)).trans (((loop_read c i arg2 harg2 arg3 harg3 arg4 harg4 arg5 harg5 arg6 harg6 arg7 harg7 arg8 harg8 arg9 harg9 arg10 harg10 arg11 harg11 arg12 harg12 x _ _ _ _ 32 (by decide)).2.1).trans (congrArg (fun f => dbAt x i f 32) (read_whole arg10.view _ _ (by decide) _)))
  isplitl [H11]
  · iexists _; isplitr
    swap; · iexact H11
    ipureintro
    exact (congrArg (View.read (Elt F) arg11.view) (View.writes_append _ _ _ _)).trans (((loop_read c i arg2 harg2 arg3 harg3 arg4 harg4 arg5 harg5 arg6 harg6 arg7 harg7 arg8 harg8 arg9 harg9 arg10 harg10 arg11 harg11 arg12 harg12 x _ _ _ _ 32 (by decide)).2.2.1).trans (congrArg (fun f => dkAt x i f 32) (read_whole arg11.view _ _ (by decide) _)))
  iexists _; isplitr
  swap; · iexact H12
  ipureintro
  exact (congrArg (View.read (Elt F) arg12.view) (View.writes_append _ _ _ _)).trans (((loop_read c i arg2 harg2 arg3 harg3 arg4 harg4 arg5 harg5 arg6 harg6 arg7 harg7 arg8 harg8 arg9 harg9 arg10 harg10 arg11 harg11 arg12 harg12 x _ _ _ _ 32 (by decide)).2.2.2).trans (congrArg (fun f => dvAt x i f 32) (read_whole arg12.view _ _ (by decide) _)))

/-- The body at a point between: the accumulators go on from what the point before left. -/
theorem run_middle (hc0 : ¬ (Scalar.cmpi .ne (Scalar.extui (Scalar.cmpi .eq (BitVec.ofNat 32 (i 1).val) 0#32)) 0#32) = 1#1) (hc1 : ¬ k0_cond2 i = 1#1) (E : Set ℕ) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.b ∗ owns (c : Thread nD τ) arg6 fullShare x.o
        ∗ (∃ d, owns (c : Thread nD τ) arg7 fullShare d) ∗ owns (c : Thread nD τ) arg8 fullShare g8 ∗ owns (c : Thread nD τ) arg9 fullShare g9 ∗ owns (c : Thread nD τ) arg10 fullShare g10 ∗ owns (c : Thread nD τ) arg11 fullShare g11 ∗ owns (c : Thread nD τ) arg12 fullShare g12
        ∗ (iprop(owns (c : Thread nD τ) arg2 fullShare x.q ∗ owns (c : Thread nD τ) arg3 fullShare x.k ∗ owns (c : Thread nD τ) arg4 fullShare x.v ∗ owns (c : Thread nD τ) arg5 fullShare x.b ∗ owns (c : Thread nD τ) arg6 fullShare x.o
            ∗ owns (c : Thread nD τ) arg7 fullShare (dqAt x i g7 32) ∗ owns (c : Thread nD τ) arg8 fullShare g8 ∗ owns (c : Thread nD τ) arg9 fullShare g9 ∗ owns (c : Thread nD τ) arg10 fullShare (dbAt x i g10 32) ∗ owns (c : Thread nD τ) arg11 fullShare (dkAt x i g11 32) ∗ owns (c : Thread nD τ) arg12 fullShare (dvAt x i g12 32)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    exact ((loop_read c i arg2 harg2 arg3 harg3 arg4 harg4 arg5 harg5 arg6 harg6 arg7 harg7 arg8 harg8 arg9 harg9 arg10 harg10 arg11 harg11 arg12 harg12 x _ _ _ _ 32 (by decide)).1).trans (dqAt_whole i x _ _)
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    exact ((loop_read c i arg2 harg2 arg3 harg3 arg4 harg4 arg5 harg5 arg6 harg6 arg7 harg7 arg8 harg8 arg9 harg9 arg10 harg10 arg11 harg11 arg12 harg12 x _ _ _ _ 32 (by decide)).2.1).trans (congrArg (fun f => dbAt x i f 32) (harg10.read_unread _))
  isplitl [H11]
  · iexists _; isplitr
    swap; · iexact H11
    ipureintro
    exact ((loop_read c i arg2 harg2 arg3 harg3 arg4 harg4 arg5 harg5 arg6 harg6 arg7 harg7 arg8 harg8 arg9 harg9 arg10 harg10 arg11 harg11 arg12 harg12 x _ _ _ _ 32 (by decide)).2.2.1).trans (congrArg (fun f => dkAt x i f 32) (harg11.read_unread _))
  iexists _; isplitr
  swap; · iexact H12
  ipureintro
  exact ((loop_read c i arg2 harg2 arg3 harg3 arg4 harg4 arg5 harg5 arg6 harg6 arg7 harg7 arg8 harg8 arg9 harg9 arg10 harg10 arg11 harg11 arg12 harg12 x _ _ _ _ 32 (by decide)).2.2.2).trans (congrArg (fun f => dvAt x i f 32) (harg12.read_unread _))

/-- The body at a group's last point: the same, and the accumulated gradients go out in the narrow format. -/
theorem run_last (hc0 : ¬ (Scalar.cmpi .ne (Scalar.extui (Scalar.cmpi .eq (BitVec.ofNat 32 (i 1).val) 0#32)) 0#32) = 1#1) (hc1 : k0_cond2 i = 1#1) (E : Set ℕ) (K : PUnit → sProp 𝕄) :
    iprop(owns (c : Thread nD τ) arg2 fullShare x.q ∗ owns (c : Thread nD τ) arg3 fullShare x.k ∗ owns (c : Thread nD τ) arg4 fullShare x.v ∗ owns (c : Thread nD τ) arg5 fullShare x.b ∗ owns (c : Thread nD τ) arg6 fullShare x.o
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare g10 ∗ owns (c : Thread nD τ) arg11 fullShare g11 ∗ owns (c : Thread nD τ) arg12 fullShare g12
        ∗ (iprop(owns (c : Thread nD τ) arg2 fullShare x.q ∗ owns (c : Thread nD τ) arg3 fullShare x.k ∗ owns (c : Thread nD τ) arg4 fullShare x.v ∗ owns (c : Thread nD τ) arg5 fullShare x.b ∗ owns (c : Thread nD τ) arg6 fullShare x.o
            ∗ owns (c : Thread nD τ) arg7 fullShare (dqAt x i g7 32) ∗ owns (c : Thread nD τ) arg8 fullShare (k0_pay10 (dkAt x i g11 32)) ∗ owns (c : Thread nD τ) arg9 fullShare (k0_pay11 (dvAt x i g12 32)) ∗ owns (c : Thread nD τ) arg10 fullShare (dbAt x i g10 32) ∗ owns (c : Thread nD τ) arg11 fullShare (dkAt x i g11 32) ∗ owns (c : Thread nD τ) arg12 fullShare (dvAt x i g12 32)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
  simp only [cc0_attn_bwd_eq_skeleton]; unfold cc0_attn_bwd_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    exact ((loop_read c i arg2 harg2 arg3 harg3 arg4 harg4 arg5 harg5 arg6 harg6 arg7 harg7 arg8 harg8 arg9 harg9 arg10 harg10 arg11 harg11 arg12 harg12 x _ _ _ _ 32 (by decide)).1).trans (dqAt_whole i x _ _)
  isplitl [H8]
  · iexists _; isplitr
    swap; · iexact H8
    ipureintro
    exact (read_whole arg8.view _ _ (by decide) _).trans (congrArg (fun f => k0_pay10 f) ((ld_whole _ (by decide) _).trans (((loop_read c i arg2 harg2 arg3 harg3 arg4 harg4 arg5 harg5 arg6 harg6 arg7 harg7 arg8 harg8 arg9 harg9 arg10 harg10 arg11 harg11 arg12 harg12 x _ _ _ _ 32 (by decide)).2.2.1).trans (congrArg (fun f => dkAt x i f 32) (harg11.read_unread _)))))
  isplitl [H9]
  · iexists _; isplitr
    swap; · iexact H9
    ipureintro
    exact (read_whole arg9.view _ _ (by decide) _).trans (congrArg (fun f => k0_pay11 f) ((ld_whole _ (by decide) _).trans (((loop_read c i arg2 harg2 arg3 harg3 arg4 harg4 arg5 harg5 arg6 harg6 arg7 harg7 arg8 harg8 arg9 harg9 arg10 harg10 arg11 harg11 arg12 harg12 x _ _ _ _ 32 (by decide)).2.2.2).trans (congrArg (fun f => dvAt x i f 32) (harg12.read_unread _)))))
  isplitl [H10]
  · iexists _; isplitr
    swap; · iexact H10
    ipureintro
    exact ((loop_read c i arg2 harg2 arg3 harg3 arg4 harg4 arg5 harg5 arg6 harg6 arg7 harg7 arg8 harg8 arg9 harg9 arg10 harg10 arg11 harg11 arg12 harg12 x _ _ _ _ 32 (by decide)).2.1).trans (congrArg (fun f => dbAt x i f 32) (harg10.read_unread _))
  isplitl [H11]
  · iexists _; isplitr
    swap; · iexact H11
    ipureintro
    exact ((loop_read c i arg2 harg2 arg3 harg3 arg4 harg4 arg5 harg5 arg6 harg6 arg7 harg7 arg8 harg8 arg9 harg9 arg10 harg10 arg11 harg11 arg12 harg12 x _ _ _ _ 32 (by decide)).2.2.1).trans (congrArg (fun f => dkAt x i f 32) (harg11.read_unread _))
  iexists _; isplitr
  swap; · iexact H12
  ipureintro
  exact ((loop_read c i arg2 harg2 arg3 harg3 arg4 harg4 arg5 harg5 arg6 harg6 arg7 harg7 arg8 harg8 arg9 harg9 arg10 harg10 arg11 harg11 arg12 harg12 x _ _ _ _ 32 (by decide)).2.2.2).trans (congrArg (fun f => dvAt x i f 32) (harg12.read_unread _))

end Cert.AttnKernelIdeal.Body
-- ==== Proof.AttnFrame.lean ====
/- The run of the attention's backward kernel over its grid, for any float values, and the frame that follows from it. -/
module

public import proofs.«01_k».proof.Proof.AttnBody
public import Idealize.ShloMosaic.Lib.Claim

@[expose] public section

set_option maxRecDepth 16384
set_option maxHeartbeats 4000000

noncomputable section

namespace Cert.AttnKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.AttnKernelIdeal Cert.AttnKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditionals over the grid -/

/-- The condition under which a point starts its accumulators. -/
abbrev starts (i : grid0.Coords) : Prop :=
  (Scalar.cmpi .ne (Scalar.extui (Scalar.cmpi .eq (BitVec.ofNat 32 (i 1).val) 0#32)) 0#32) = 1#1

theorem starts_iff : ∀ t : Fin cfg0.N, starts (grid0.coords t) ↔ t.val % 4 = 0 :=
  (by decide +kernel : ∀ t : Fin grid0.N, starts (grid0.coords t) ↔ t.val % 4 = 0)

theorem ends_iff : ∀ t : Fin cfg0.N, k0_cond2 (grid0.coords t) = 1#1 ↔ t.val % 4 = 3 :=
  (by decide +kernel : ∀ t : Fin grid0.N, k0_cond2 (grid0.coords t) = 1#1 ↔ t.val % 4 = 3)

theorem idle6 : ∀ t : Fin cfg0.N, cfg0.idle 6 (cfg0.grid.coords t) = !(decide (t.val % 4 = 3)) :=
  (by decide +kernel : ∀ t : Fin grid0.N, idle0 6 (grid0.coords t) = !(decide (t.val % 4 = 3)))

theorem idle7 : ∀ t : Fin cfg0.N, cfg0.idle 7 (cfg0.grid.coords t) = !(decide (t.val % 4 = 3)) :=
  (by decide +kernel : ∀ t : Fin grid0.N, idle0 7 (grid0.coords t) = !(decide (t.val % 4 = 3)))

/-! ## What the buffers hold after each point -/

/-- The five input blocks of a point. -/
def ins (c : Dev nD) (t : Fin cfg0.N) : Ins F := ⟨iblk m c 0 t, iblk m c 1 t, iblk m c 2 t, iblk m c 3 t, iblk m c 4 t⟩

/-- The three accumulators: of the table's gradient and of the gradients of the keys and of the values. -/
structure Acc (F : FTy → Type) where
  db : Vec F S1x960x256 .f32
  dk : Vec F S8192x256 .f32
  dv : Vec F S8192x256 .f32

/-- The accumulators at zero. -/
def Acc.zero : Acc F := ⟨k0_pay7, k0_pay5, k0_pay6⟩

/-- The accumulators after one point. -/
def Acc.step (x : Ins F) (i : grid0.Coords) (a : Acc F) : Acc F := ⟨dbAt x i a.db 32, dkAt x i a.dk 32, dvAt x i a.dv 32⟩

/-- The accumulators after point `n`: from zero at a group's first point, from the point before elsewhere. -/
def accAt (c : Dev nD) : (n : ℕ) → n < cfg0.N → Acc F
  | 0, hn => Acc.zero.step (ins m c ⟨0, hn⟩) (grid0.coords ⟨0, hn⟩)
  | n + 1, hn =>
    if (n + 1) % 4 = 0 then Acc.zero.step (ins m c ⟨n + 1, hn⟩) (grid0.coords ⟨n + 1, hn⟩)
    else (accAt c n (Nat.lt_of_succ_lt hn)).step (ins m c ⟨n + 1, hn⟩) (grid0.coords ⟨n + 1, hn⟩)

theorem accAt_first (c : Dev nD) (t : Fin cfg0.N) (h : t.val % 4 = 0) :
    accAt m c t.val t.isLt = Acc.zero.step (ins m c t) (grid0.coords t) := by
  obtain ⟨n, hn⟩ := t
  cases n with
  | zero => rfl
  | succ n => exact if_pos h

theorem accAt_next (c : Dev nD) (t : Fin cfg0.N) (h : ¬ t.val % 4 = 0) :
    accAt m c t.val t.isLt = (accAt m c (t.val - 1) (by have := t.isLt; omega)).step (ins m c t) (grid0.coords t) := by
  obtain ⟨n, hn⟩ := t
  cases n with
  | zero => exact absurd rfl h
  | succ n => exact if_neg h

/-- The gradient of the queries of a point's block. -/
def dqOut (c : Dev nD) (t : Fin cfg0.N) : Vec F S2048x256 .bf16 := dqAt (ins m c t) (grid0.coords t) (ins m c t).q 32

/-! ## The proof data -/

abbrev sc0 : Memref sig .tc .vmem S8192x256 .f32 := Memref.whole cc0_scratch0
abbrev sc1 : Memref sig .tc .vmem S8192x256 .f32 := Memref.whole cc0_scratch1

/-- The invariant before point `n`: the two scratch accumulators at what the point before left. -/
def Phi (c : Dev nD) : (n : ℕ) → n ≤ cfg0.N → sProp 𝕄
  | 0, _ => Pipeline.ΦA spec0 c
  | n + 1, hn => iprop(iprop(owns (c : Thread nD τ) sc0 fullShare (accAt m c n hn).dk ∗ owns (c : Thread nD τ) sc1 fullShare (accAt m c n hn).dv) ∗ (∃ r, prngReg c r))

theorem Phi_succ (c : Dev nD) (n : ℕ) (hn : n < cfg0.N) :
    Phi m c (n + 1) hn = iprop(iprop(owns (c : Thread nD τ) sc0 fullShare (accAt m c n hn).dk ∗ owns (c : Thread nD τ) sc1 fullShare (accAt m c n hn).dv) ∗ (∃ r, prngReg c r)) := rfl

theorem Phi_pos (c : Dev nD) (n : ℕ) (h : n ≤ cfg0.N) (hz : n ≠ 0) :
    Phi m c n h = iprop(iprop(owns (c : Thread nD τ) sc0 fullShare (accAt m c (n - 1) (by omega)).dk ∗ owns (c : Thread nD τ) sc1 fullShare (accAt m c (n - 1) (by omega)).dv) ∗ (∃ r, prngReg c r)) := by
  cases n with
  | zero => exact absurd rfl hz
  | succ n => rfl

theorem PhiA_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Forgetting what the scratch accumulators hold. -/
theorem Phi_forget (c : Dev nD) (n : ℕ) (h : n ≤ cfg0.N) : Phi m c n h ⊢ Pipeline.ΦA spec0 c := by
  cases n with
  | zero => exact Idealize.SL.BI.Entails.refl _
  | succ n =>
    rw [Phi_succ, PhiA_eq]
    iintro ⟨⟨H0, H1⟩, Hg⟩
    isplitl [H0 H1]
    · isplitl [H0]
      · iexists _; iexact H0
      iexists _; iexact H1
    iexact Hg

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut m c t
    | ⟨6, _⟩ => k0_pay10 (accAt m c t.val t.isLt).dk
    | ⟨7, _⟩ => k0_pay11 (accAt m c t.val t.isLt).dv
    | ⟨8, _⟩ => (accAt m c t.val t.isLt).db
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dqOut m c t := by dsimp only [dats]
theorem after6 (c : Dev nD) (t : Fin cfg0.N) : (dats m 0 c).after 6 t = k0_pay10 (accAt m c t.val t.isLt).dk := by dsimp only [dats]
theorem after7 (c : Dev nD) (t : Fin cfg0.N) : (dats m 0 c).after 7 t = k0_pay11 (accAt m c t.val t.isLt).dv := by dsimp only [dats]
theorem after8 (c : Dev nD) (t : Fin cfg0.N) : (dats m 0 c).after 8 t = (accAt m c t.val t.isLt).db := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- Within a group the table's gradient is found as the point before left it. -/
theorem before8 (c : Dev nD) (t : Fin cfg0.N) (h : ¬ t.val % 4 = 0) (d) :
    (dats m 0 c).before 8 t d = (accAt m c (t.val - 1) (by have := t.isLt; omega)).db := by
  rw [Dat.before_out_kept _ 8 rfl t (by omega) (Bool.eq_false_iff.mpr fun hf => by have := (flush0_8 _).mp hf; dsimp only at this; omega) (fun _ => rfl) (fun _ _ => rfl)]
  dsimp only [dats]

/-! ## The body at a point -/

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))

/-- What it leaves, the buffers of windows 6 and 7 at `P6` and `P7`. -/
def post (c : Dev nD) (t : Fin cfg0.N) (P6 P7 : sProp 𝕄) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ P6 ∗ P7 ∗ owns (c : Thread nD τ) (st0_8 t) fullShare ((dats m 0 c).after 8 t))

/-- An untouched buffer of window 6 or 7. -/
abbrev kept6 (c : Dev nD) (t : Fin cfg0.N) : sProp 𝕄 := iprop(∃ d, owns (c : Thread nD τ) (st0_6 t) fullShare ((dats m 0 c).before 6 t d))
abbrev kept7 (c : Dev nD) (t : Fin cfg0.N) : sProp 𝕄 := iprop(∃ d, owns (c : Thread nD τ) (st0_7 t) fullShare ((dats m 0 c).before 7 t d))
/-- A written one. -/
abbrev made6 (c : Dev nD) (t : Fin cfg0.N) : sProp 𝕄 := owns (c : Thread nD τ) (st0_6 t) fullShare ((dats m 0 c).after 6 t)
abbrev made7 (c : Dev nD) (t : Fin cfg0.N) : sProp 𝕄 := owns (c : Thread nD τ) (st0_7 t) fullShare ((dats m 0 c).after 7 t)

/-- A group's first point. -/
theorem sound_first (c : Dev nD) (t : Fin cfg0.N) (h0 : t.val % 4 = 0) :
    pre m c t ⊢ wp frame (wpE (defs₀ (F := F)) Variants.none c none) Set.univ (bodyAt0 t) (fun _ => post m c t (kept6 m c t) (kept7 m c t)) := by
  unfold pre post bodyAt0
  simp only [before0, before1, before2, before3, before4]
  rw [show (dats m 0 c).owesAt () t.succ = (dats m 0 c).owesAt () t.castSucc from rfl, after0, after1, after2, after3, after4, after5, after8]
  rw [show (dats m 0 c).Φ t.succ = Phi m c (t.val + 1) t.isLt from rfl, Phi_succ, Phi_castSucc, accAt_first m c t h0]
  refine (sep_mono (Phi_forget m c _ _) .rfl).trans ?_
  rw [PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ _ _ _ _ (ins m c t) (ins m c t).q ((dats m 0 c).before 6 t d6) ((dats m 0 c).before 7 t d7) ((starts_iff t).mpr h0) (fun h => absurd ((ends_iff t).mp h) (by omega)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexact H8

/-- A point between. -/
theorem sound_middle (c : Dev nD) (t : Fin cfg0.N) (h0 : ¬ t.val % 4 = 0) (h3 : ¬ t.val % 4 = 3) :
    pre m c t ⊢ wp frame (wpE (defs₀ (F := F)) Variants.none c none) Set.univ (bodyAt0 t) (fun _ => post m c t (kept6 m c t) (kept7 m c t)) := by
  unfold pre post bodyAt0
  simp only [before0, before1, before2, before3, before4, before8 m c t h0]
  rw [show (dats m 0 c).owesAt () t.succ = (dats m 0 c).owesAt () t.castSucc from rfl, after0, after1, after2, after3, after4, after5, after8]
  rw [show (dats m 0 c).Φ t.succ = Phi m c (t.val + 1) t.isLt from rfl, Phi_succ, Phi_castSucc, accAt_next m c t h0]
  rw [Phi_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_middle c (grid0.coords t) _ _ _ _ _ _ _ _ _ _ _ _ _ _ _ _ _ _ _ _ _ _ (ins m c t) (ins m c t).q ((dats m 0 c).before 6 t d6) ((dats m 0 c).before 7 t d7) _ _ _ (fun h => h0 ((starts_iff t).mp h)) (fun h => h3 ((ends_iff t).mp h)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexact H8

/-- A group's last point. -/
theorem sound_last (c : Dev nD) (t : Fin cfg0.N) (h0 : ¬ t.val % 4 = 0) (h3 : t.val % 4 = 3) :
    pre m c t ⊢ wp frame (wpE (defs₀ (F := F)) Variants.none c none) Set.univ (bodyAt0 t) (fun _ => post m c t (made6 m c t) (made7 m c t)) := by
  unfold pre post bodyAt0
  simp only [before0, before1, before2, before3, before4, before8 m c t h0]
  rw [show (dats m 0 c).owesAt () t.succ = (dats m 0 c).owesAt () t.castSucc from rfl, after0, after1, after2, after3, after4, after5, after8]
  unfold made6 made7
  rw [after6, after7]
  rw [show (dats m 0 c).Φ t.succ = Phi m c (t.val + 1) t.isLt from rfl, Phi_succ, Phi_castSucc, accAt_next m c t h0]
  rw [Phi_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_last c (grid0.coords t) _ _ _ _ _ _ _ _ _ _ _ _ _ _ _ _ _ _ _ _ _ _ (ins m c t) (ins m c t).q _ _ _ (fun h => h0 ((starts_iff t).mp h)) ((ends_iff t).mpr h3) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  by_cases h3 : t.val % 4 = 3
  · have h6 : cfg0.idle 6 (cfg0.grid.coords t) = false := by rw [idle6 t, decide_eq_true h3]; rfl
    have h7 : cfg0.idle 7 (cfg0.grid.coords t) = false := by rw [idle7 t, decide_eq_true h3]; rfl
    have i6 : idle0 6 (grid0.coords t) = false := h6
    have i7 : idle0 7 (grid0.coords t) = false := h7
    simp only [i6, i7]
    exact triple_restated (sound_last m c t (by omega) h3) rfl .rfl fun _ => .rfl
  · have h6 : cfg0.idle 6 (cfg0.grid.coords t) = true := by rw [idle6 t, decide_eq_false h3]; rfl
    have h7 : cfg0.idle 7 (cfg0.grid.coords t) = true := by rw [idle7 t, decide_eq_false h3]; rfl
    have g6 : win0_6.flush t = false := Bool.eq_false_iff.mpr fun hf => h3 ((flush0_6 t).mp hf)
    have g7 : win0_7.flush t = false := Bool.eq_false_iff.mpr fun hf => h3 ((flush0_7 t).mp hf)
    have i6 : idle0 6 (grid0.coords t) = true := h6
    have i7 : idle0 7 (grid0.coords t) = true := h7
    simp only [i6, i7, g6, g7]
    by_cases h0 : t.val % 4 = 0
    · exact triple_restated (sound_first m c t h0) rfl .rfl fun _ => .rfl
    · exact triple_restated (sound_middle m c t h0 h3) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_forget m c _ _

/-! ## The run -/

set_option backward.isDefEq.respectTransparency.types false in
/-- Every run of the program ends, with no semaphore left up and every array at what the grid's points wrote. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.AttnKernelIdeal.Body
-- ==== Proof.AttnClaims.lean ====
/-
  The claims of the attention's backward call: the runs of its three programs.
-/
module

public import proofs.«01_k».proof.Defs
public import proofs.«01_k».proof.Proof.AttnFrame
public import proofs.«01_k».proof.Proof.Gen.AttnKernel
public import proofs.«01_k».proof.Proof.Gen.AttnReferenceIdeal.Read

@[expose] public section

set_option maxRecDepth 16384

noncomputable section

namespace Cert.Proof

open Idealize.ShloMosaic Idealize.ShloMosaic.TcCoe Idealize.SL.Sem

theorem attn_ideal_frame : @Cert.quiescent_AttnKernelIdeal Cert.AttnKernelIdeal.Gen.facts := fun m ρ _ => Cert.AttnKernelIdeal.Body.frame m ρ

/-- The printed program has the text of the ideal one. -/
theorem attn_main_eq : (Cert.AttnKernel.main (F := Bits)) = (Cert.AttnKernelIdeal.main (F := Bits)) := by sl_kernel_rfl

theorem attn_defs_eq : (Cert.AttnKernel.defs (F := Bits)) = (Cert.AttnKernelIdeal.defs (F := Bits)) := by sl_kernel_rfl

/-- So its run is that one's at machine words. -/
theorem attn_frame : @Cert.quiescent_AttnKernel Cert.AttnKernel.Gen.facts := fun m ρ _ => by
  rw [attn_main_eq, attn_defs_eq]
  exact (Cert.AttnKernelIdeal.Body.frame (F := Bits) m ρ)

theorem attn_preserves : Cert.preserves_AttnKernel_AttnKernelIdeal := trivial

theorem attn_reference_frame : @Cert.quiescent_AttnReferenceIdeal Cert.AttnReferenceIdeal.Gen.facts := fun m ρ _ =>
  (θ_run Cert.AttnReferenceIdeal.defs _ _).mono (fun r h => ⟨fun c => (h c).2.2.2.2, sem_eq_zero_of_no_sems (by decide) r.2⟩)
    (Cert.AttnReferenceIdeal.Value.run (F := Ideal) m ρ)

end Cert.Proof

end
-- ==== Proof.AttnSpec.lean ====
/-
  The attention's backward call in the reals: scores within a window of rows, their exponentials, the gradients of the
  queries, keys, values and of the table of biases. Row `r` of the 128 rows of tokens looks at the eight rows from `rs r`
  on; `j` counts the 512 keys of these; `c` is a query's column and `h` its head.
-/
module

public import Idealize.ShloMosaic.Lib.Pipeline.ValueKit

@[expose] public section

noncomputable section

open Idealize.ShloMosaic

namespace AttnSpec

/-- The first of the eight rows that row `r` looks at. -/
def rs (r : ℕ) : ℕ := min (r - 4) 120

/-- Whether the query in column `c` sees the key in column `k`. -/
def valid (c k : ℕ) : Prop := min (c - 8) 48 ≤ k ∧ k < min (c - 8) 48 + 16

instance (c k : ℕ) : Decidable (valid c k) := inferInstanceAs (Decidable (_ ∧ _))

/-- The arrays in the reals. -/
structure Arr where
  q : ℕ → ℕ → ℝ
  k : ℕ → ℕ → ℝ
  v : ℕ → ℕ → ℝ
  o : ℕ → ℕ → ℝ
  t : ℕ → ℕ → ℕ → ℕ → ℝ

namespace Arr

variable (A : Arr) (r h c j : ℕ)

/-- A score, the bias in it. -/
def sco : ℝ := (∑ d : Fin 64, A.q (64 * r + c) (64 * h + d.val) * A.k (64 * rs r + j) (64 * h + d.val)) * (1 / 8) + A.t h (rs r + 7 - r + j / 64) c (j % 64)

/-- Its exponential where the key is seen. -/
def wt : ℝ := if valid c (j % 64) then Real.exp (A.sco r h c j) else 0

/-- A query's sum of exponentials. -/
def zt : ℝ := ∑ j : Fin 512, A.wt r h c j.val

/-- The weight of a key. -/
def pr : ℝ := A.wt r h c j / A.zt r h c

/-- The gradient of a weight. -/
def dp : ℝ := ∑ d : Fin 64, A.o (64 * r + c) (64 * h + d.val) * A.v (64 * rs r + j) (64 * h + d.val)

/-- The gradient of a score. -/
def ds : ℝ := A.pr r h c j * (A.dp r h c j - ∑ j' : Fin 512, A.pr r h c j'.val * A.dp r h c j'.val)

/-- The gradient of the queries, row of tokens `a`, column `b`. -/
def dq (a b : ℕ) : ℝ := (∑ j : Fin 512, A.ds (a / 64) (b / 64) (a % 64) j.val * A.k (64 * rs (a / 64) + j.val) b) * (1 / 8)

/-- What row `r` gives to the gradient of the keys. -/
def dkT (r a b : ℕ) : ℝ :=
  if 64 * rs r ≤ a ∧ a < 64 * rs r + 512 then (∑ c : Fin 64, A.ds r (b / 64) c.val (a - 64 * rs r) * A.q (64 * r + c.val) b) * (1 / 8) else 0

/-- What row `r` gives to the gradient of the values. -/
def dvT (r a b : ℕ) : ℝ :=
  if 64 * rs r ≤ a ∧ a < 64 * rs r + 512 then ∑ c : Fin 64, A.pr r (b / 64) c.val (a - 64 * rs r) * A.o (64 * r + c.val) b else 0

/-- What row `r` gives to the gradient of the table: row offset and key column in `a`, query column `c`, head `h`. -/
def dbT (r a h c : ℕ) : ℝ :=
  if 64 * (rs r + 7 - r) ≤ a ∧ a < 64 * (rs r + 7 - r) + 512 then A.ds r h c (a - 64 * (rs r + 7 - r)) else 0

theorem wt_nonneg : 0 ≤ A.wt r h c j := by
  unfold wt; split
  · exact (Real.exp_pos _).le
  · exact le_refl _

/-- Every query sees a key. -/
theorem zt_pos (hc : c < 64) : 0 < A.zt r h c := by
  refine Finset.sum_pos' (fun j _ => A.wt_nonneg r h c j.val) ⟨⟨min (c - 8) 48, by omega⟩, Finset.mem_univ _, ?_⟩
  have h1 : valid c ((⟨min (c - 8) 48, by omega⟩ : Fin 512).val % 64) := by
    show valid c (min (c - 8) 48 % 64)
    rw [Nat.mod_eq_of_lt (by omega)]; exact ⟨le_refl _, by omega⟩
  unfold wt; rw [if_pos h1]; exact Real.exp_pos _

end Arr

/-! ## The exponentials, from scores that are real or minus infinity -/

/-- A score is real where the key is seen, minus infinity elsewhere. -/
def score (A : Arr) (r h c j : ℕ) : EReal := if valid c (j % 64) then ((A.sco r h c j : ℝ) : EReal) else ⊥

/-- The exponential of a score less a real number. -/
theorem exp_score (A : Arr) (r h c j : ℕ) (M : ℝ) : Ideal.exp (score A r h c j - ((M : ℝ) : EReal)) = ((A.wt r h c j * Real.exp (-M) : ℝ) : EReal) := by
  unfold score Arr.wt
  split
  · rw [← EReal.coe_sub]
    show ((Real.exp (A.sco r h c j - M) : ℝ) : EReal) = _
    rw [sub_eq_add_neg, Real.exp_add]
  · rw [zero_mul, EReal.bot_sub]
    rfl

/-- The largest of finitely many scores, one of them seen, is real. -/
theorem fold_max_real {ι : Type} (s : Finset ι) (f : ι → EReal) (hf : ∀ i ∈ s, f i ≠ ⊤) (i : ι) (hi : i ∈ s) (hb : f i ≠ ⊥) :
    ∃ M : ℝ, s.fold max ⊥ f = ((M : ℝ) : EReal) := by
  have h1 : s.fold max ⊥ f ≠ ⊤ := by
    have : s.fold max ⊥ f < ⊤ := (Finset.fold_max_lt ⊤).mpr ⟨bot_lt_top, fun i hi => lt_of_le_of_ne le_top (hf i hi)⟩
    exact this.ne
  have h2 : s.fold max ⊥ f ≠ ⊥ := by
    have : ⊥ < s.fold max ⊥ f := (Finset.lt_fold_max ⊥).mpr (Or.inr ⟨i, hi, bot_lt_iff_ne_bot.mpr hb⟩)
    exact this.ne'
  exact ⟨_, (EReal.coe_toReal h1 h2).symm⟩

theorem score_ne_top (A : Arr) (r h c j : ℕ) : score A r h c j ≠ ⊤ := by
  unfold score; split
  · exact EReal.coe_ne_top _
  · exact bot_ne_top

/-- The key that a query always sees. -/
theorem score_seen (A : Arr) (r h c : ℕ) (hc : c < 64) : score A r h c (min (c - 8) 48) ≠ ⊥ := by
  unfold score
  rw [if_pos]
  · exact EReal.coe_ne_bot _
  · rw [Nat.mod_eq_of_lt (by omega)]; exact ⟨le_refl _, by omega⟩

/-- A finite sum of reals, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over the 256 lanes of which only one head's count. -/
theorem sum_head {M : Type} [AddCommMonoid M] (h : ℕ) (hh : h < 4) (f : Fin 256 → M) (g : ℕ → M) (hf : ∀ d : Fin 256, f d = if d.val / 64 = h then g (d.val - 64 * h) else 0) :
    ∑ d, f d = ∑ d : Fin 64, g d.val := by
  rw [Finset.sum_congr rfl (fun d _ => hf d), ← Finset.sum_filter]
  symm
  refine Finset.sum_bij (fun d _ => (⟨64 * h + d.val, by omega⟩ : Fin 256)) ?_ ?_ ?_ ?_
  · intro d _; rw [Finset.mem_filter]; refine ⟨Finset.mem_univ _, ?_⟩; show (64 * h + d.val) / 64 = h; omega
  · intro a _ b _ hab; have := congrArg Fin.val hab; dsimp only at this; exact Fin.ext (by omega)
  · intro b hb; rw [Finset.mem_filter] at hb
    exact ⟨⟨b.val - 64 * h, by have := hb.2; omega⟩, Finset.mem_univ _, Fin.ext (by show 64 * h + (b.val - 64 * h) = b.val; have := hb.2; omega)⟩
  · intro d _; show g d.val = g (64 * h + d.val - 64 * h); rw [Nat.add_sub_cancel_left]

/-- A sum over the 512 keys as one over eight rows of 64. -/
theorem sum_keys {M : Type} [AddCommMonoid M] (f : ℕ → M) : ∑ j : Fin 512, f j.val = ∑ i : Fin 8, ∑ k : Fin 64, f (64 * i.val + k.val) := by
  rw [← Fintype.sum_prod_type' (fun (i : Fin 8) (k : Fin 64) => f (64 * i.val + k.val))]
  symm
  refine Fintype.sum_equiv (finProdFinEquiv (m := 8) (n := 64)) _ _ fun p => ?_
  show f (64 * p.1.val + p.2.val) = f (p.2.val + 64 * p.1.val)
  rw [Nat.add_comm]

end AttnSpec
-- ==== Proof.AttnPay.lean ====
/-
  One trip of the attention's backward kernel in the reals: from the blocks of one row of queries and of its eight rows
  of keys, what the trip stores and adds.
-/
module

public import proofs.«01_k».proof.Proof.AttnFrame
public import proofs.«01_k».proof.Proof.AttnSpec
public import Idealize.ShloMosaic.Lib.Pipeline.ValueKit

@[expose] public section

set_option maxRecDepth 16384

noncomputable section

namespace Cert.AttnKernelIdeal.Body

open Idealize.ShloMosaic Idealize.ShloMosaic.TcCoe Idealize.ShloMosaic.Tactic
open Cert.AttnKernelIdeal Cert.AttnKernelIdeal.Gen
open AttnSpec

/-- The lanes of a head, as the kernel's masks say them. -/
theorem lane0 : ∀ d : Fin 256, IntOp.andi (IntOp.cmpi .sge (BitVec.ofNat 32 d.val) 0#32) (IntOp.cmpi .slt (BitVec.ofNat 32 d.val) 64#32) = 1#1 ↔ d.val / 64 = 0 := by decide +kernel
theorem lane1 : ∀ d : Fin 256, IntOp.andi (IntOp.cmpi .sge (BitVec.ofNat 32 d.val) 64#32) (IntOp.cmpi .slt (BitVec.ofNat 32 d.val) 128#32) = 1#1 ↔ d.val / 64 = 1 := by decide +kernel
theorem lane2 : ∀ d : Fin 256, IntOp.andi (IntOp.cmpi .sge (BitVec.ofNat 32 d.val) 128#32) (IntOp.cmpi .slt (BitVec.ofNat 32 d.val) 192#32) = 1#1 ↔ d.val / 64 = 2 := by decide +kernel
theorem lane3 : ∀ d : Fin 256, IntOp.andi (IntOp.cmpi .sge (BitVec.ofNat 32 d.val) 192#32) (IntOp.cmpi .slt (BitVec.ofNat 32 d.val) 256#32) = 1#1 ↔ d.val / 64 = 3 := by decide +kernel
theorem mask1 (c : Fin 64) (d : Fin 256) {α : Type} (a b : α) : Scalar.select (k0_pay1 (ix2 c d)) a b = if d.val / 64 = 0 then a else b := by
  pointwise [k0_pay1]; exact if_congr (lane0 d) rfl rfl
theorem mask2 (c : Fin 64) (d : Fin 256) {α : Type} (a b : α) : Scalar.select (k0_pay2 (ix2 c d)) a b = if d.val / 64 = 1 then a else b := by
  pointwise [k0_pay2]; exact if_congr (lane1 d) rfl rfl
theorem mask3 (c : Fin 64) (d : Fin 256) {α : Type} (a b : α) : Scalar.select (k0_pay3 (ix2 c d)) a b = if d.val / 64 = 2 then a else b := by
  pointwise [k0_pay3]; exact if_congr (lane2 d) rfl rfl
theorem mask4 (c : Fin 64) (d : Fin 256) {α : Type} (a b : α) : Scalar.select (k0_pay4 (ix2 c d)) a b = if d.val / 64 = 3 then a else b := by
  pointwise [k0_pay4]; exact if_congr (lane3 d) rfl rfl

/-- The four heads' rows on top of each other: row `p` is row `p % 64` on the lanes of head `p / 64`. -/
theorem stack_pick (f : Fin 64 → Fin 256 → EReal) (p d : Fin 256) :
    (if h : p.val < 64 then (if d.val / 64 = 0 then f ⟨p.val, h⟩ d else 0)
      else if h : p.val - 64 < 64 then (if d.val / 64 = 1 then f ⟨p.val - 64, h⟩ d else 0)
      else if h : p.val - (64 + 64) < 64 then (if d.val / 64 = 2 then f ⟨p.val - (64 + 64), h⟩ d else 0)
      else (if d.val / 64 = 3 then f ⟨p.val - (64 + (64 + 64)), by omega⟩ d else 0))
    = if d.val / 64 = p.val / 64 then f ⟨p.val % 64, by omega⟩ d else 0 := by
  have hd := d.isLt; have hp := p.isLt
  split
  · rw [show p.val / 64 = 0 by omega]
    exact if_congr Iff.rfl (congrArg (fun i => f i d) (Fin.ext (by show p.val = p.val % 64; omega))) rfl
  · split
    · rw [show p.val / 64 = 1 by omega]
      exact if_congr Iff.rfl (congrArg (fun i => f i d) (Fin.ext (by show p.val - 64 = p.val % 64; omega))) rfl
    · split
      · rw [show p.val / 64 = 2 by omega]
        exact if_congr Iff.rfl (congrArg (fun i => f i d) (Fin.ext (by show p.val - (64 + 64) = p.val % 64; omega))) rfl
      · rw [show p.val / 64 = 3 by omega]
        exact if_congr Iff.rfl (congrArg (fun i => f i d) (Fin.ext (by show p.val - (64 + (64 + 64)) = p.val % 64; omega))) rfl

theorem pay12_at (qv : Vec Ideal S64x256 .bf16) (p d : Fin 256) :
    k0_pay12 k0_pay1 k0_pay2 k0_pay3 k0_pay4 qv (ix2 p d) = (if d.val / 64 = p.val / 64 then qv (ix2 (⟨p.val % 64, by omega⟩ : Fin 64) d) else 0 : EReal) := by
  refine Eq.trans ?_ (stack_pick (fun c d => (qv (ix2 c d) : EReal)) p d)
  pointwise [k0_pay12]
  simp only [mask1, mask2, mask3, mask4]
  rfl

theorem pay18_at (ov : Vec Ideal S64x256 .f32) (p d : Fin 256) :
    k0_pay18 k0_pay1 k0_pay2 k0_pay3 k0_pay4 ov (ix2 p d) = (if d.val / 64 = p.val / 64 then ov (ix2 (⟨p.val % 64, by omega⟩ : Fin 64) d) else 0 : EReal) := by
  refine Eq.trans ?_ (stack_pick (fun c d => (ov (ix2 c d) : EReal)) p d)
  pointwise [k0_pay18]
  simp only [mask1, mask2, mask3, mask4]
  rfl

theorem sum_coe {ι : Type} [Fintype ι] (f : ι → EReal) (g : ι → ℝ) (h : ∀ i, f i = ((g i : ℝ) : EReal)) : ∑ i, f i = ((∑ i, g i : ℝ) : EReal) := by
  rw [coe_sum]; exact Finset.sum_congr rfl fun i _ => h i

/-- A product over the 256 lanes of a group of heads with a row that holds one head. -/
theorem dot_head (g : ℕ) (p : Fin 256) (K Q : ℕ → ℝ) (f : Fin 256 → EReal)
    (hf : ∀ d : Fin 256, f d = ((K (256 * g + d.val) : ℝ) : EReal) * (if d.val / 64 = p.val / 64 then ((Q (256 * g + d.val) : ℝ) : EReal) else 0)) :
    ∑ d, f d = ((∑ d : Fin 64, Q (64 * (4 * g + p.val / 64) + d.val) * K (64 * (4 * g + p.val / 64) + d.val) : ℝ) : EReal) := by
  have hp := p.isLt
  rw [sum_coe f (fun d => if d.val / 64 = p.val / 64 then (fun n => Q (64 * (4 * g + p.val / 64) + n) * K (64 * (4 * g + p.val / 64) + n)) (d.val - 64 * (p.val / 64)) else 0)]
  · exact congrArg _ (sum_head (p.val / 64) (by omega) _ (fun n => Q (64 * (4 * g + p.val / 64) + n) * K (64 * (4 * g + p.val / 64) + n)) fun d => rfl)
  · intro d
    rw [hf d]
    split
    · rename_i h
      rw [← EReal.coe_mul, mul_comm]
      have e : 64 * (4 * g + p.val / 64) + (d.val - 64 * (p.val / 64)) = 256 * g + d.val := by omega
      simp only [e]
    · rw [mul_zero]; rfl

/-- The blocks of a trip: row `r` of queries and of the result's gradient, its eight rows of keys and values, its biases. -/
structure Trip (A : Arr) (r g : ℕ) (qv : Vec Ideal S64x256 .bf16) (kv vv : Vec Ideal S512x256 .bf16) (bv : Vec Ideal S1x512x256 .f32) (ov : Vec Ideal S64x256 .f32) : Prop where
  q : ∀ (c : Fin 64) (b : Fin 256), qv (ix2 c b) = ((A.q (64 * r + c.val) (256 * g + b.val) : ℝ) : EReal)
  k : ∀ (j : Fin 512) (b : Fin 256), kv (ix2 j b) = ((A.k (64 * rs r + j.val) (256 * g + b.val) : ℝ) : EReal)
  v : ∀ (j : Fin 512) (b : Fin 256), vv (ix2 j b) = ((A.v (64 * rs r + j.val) (256 * g + b.val) : ℝ) : EReal)
  b : ∀ (j : Fin 512) (p : Fin 256), bv (ix3 (0 : Fin 1) j p) = (if valid (p.val % 64) (j.val % 64) then ((A.t (4 * g + p.val / 64) (rs r + 7 - r + j.val / 64) (p.val % 64) (j.val % 64) : ℝ) : EReal) else ⊥ : EReal)
  o : ∀ (c : Fin 64) (b : Fin 256), ov (ix2 c b) = ((A.o (64 * r + c.val) (256 * g + b.val) : ℝ) : EReal)

theorem eighth : Ideal.ofBits FTy.f32 1040187392#32 = (((1 / 8 : ℝ)) : EReal) := by
  simp [Ideal.ofBits, Ideal.ieee, -EReal.coe_mul]; norm_num

theorem lowest : Ideal.ofBits FTy.f32 4286578688#32 = (⊥ : EReal) := by
  simp [Ideal.ofBits, Ideal.ieee, -EReal.coe_mul]

section
variable {A : Arr} {r g : ℕ} {qv : Vec Ideal S64x256 .bf16} {kv vv : Vec Ideal S512x256 .bf16} {bv : Vec Ideal S1x512x256 .f32} {ov : Vec Ideal S64x256 .f32}
variable (H : Trip A r g qv kv vv bv ov)
include H

/-- The kernel's scores. -/
theorem score_at (j : Fin 512) (p : Fin 256) :
    ((∑ x, (kv (ix2 j x) : EReal) * k0_pay12 k0_pay1 k0_pay2 k0_pay3 k0_pay4 qv (ix2 p x)) * Ideal.ofBits FTy.f32 1040187392#32 + bv (ix3 (0 : Fin 1) j p) : EReal)
    = score A r (4 * g + p.val / 64) (p.val % 64) j.val := by
  rw [eighth, dot_head g p (A.k (64 * rs r + j.val)) (A.q (64 * r + p.val % 64)) _ (fun d => by rw [pay12_at, H.k, H.q]), H.b, ← EReal.coe_mul]
  unfold score
  split
  · rw [← EReal.coe_add]; rfl
  · exact EReal.add_bot _

/-- The exponentials and their sums, both up to the factor of a query's largest score. -/
theorem exps_at (p : Fin 256) : ∃ M : ℝ,
    (∀ j : Fin 512, k0_pay15 k0_pay1 k0_pay2 k0_pay3 k0_pay4 qv kv bv (ix2 j p) = ((A.wt r (4 * g + p.val / 64) (p.val % 64) j.val * Real.exp (-M) : ℝ) : EReal))
    ∧ ∀ j : Fin 512, k0_pay16 k0_pay1 k0_pay2 k0_pay3 k0_pay4 qv kv bv (ix2 j p) = ((A.zt r (4 * g + p.val / 64) (p.val % 64) * Real.exp (-M) : ℝ) : EReal) := by
  obtain ⟨M, hM⟩ := fold_max_real (Finset.univ : Finset (Fin 512)) (fun j => score A r (4 * g + p.val / 64) (p.val % 64) j.val)
    (fun j _ => score_ne_top _ _ _ _ _) ⟨min (p.val % 64 - 8) 48, by omega⟩ (Finset.mem_univ _) (score_seen A r _ _ (by omega))
  have h15 : ∀ j : Fin 512, k0_pay15 k0_pay1 k0_pay2 k0_pay3 k0_pay4 qv kv bv (ix2 j p) = ((A.wt r (4 * g + p.val / 64) (p.val % 64) j.val * Real.exp (-M) : ℝ) : EReal) := by
    intro j
    pointwise [k0_pay15, k0_pay13]
    rw [score_at H j p, lowest, Finset.fold_congr (g := fun j : Fin 512 => score A r (4 * g + p.val / 64) (p.val % 64) j.val) (fun j _ => score_at H j p), hM]
    exact exp_score _ _ _ _ _ _
  refine ⟨M, h15, fun j => ?_⟩
  pointwise [k0_pay16]
  rw [sum_coe _ _ h15, ← Finset.sum_mul]
  rfl

/-- The weights. -/
theorem pr_at (j : Fin 512) (p : Fin 256) :
    k0_pay17 (k0_pay15 k0_pay1 k0_pay2 k0_pay3 k0_pay4 qv kv bv) (k0_pay16 k0_pay1 k0_pay2 k0_pay3 k0_pay4 qv kv bv) (ix2 j p)
      = ((A.pr r (4 * g + p.val / 64) (p.val % 64) j.val : ℝ) : EReal) := by
  obtain ⟨M, h1, h2⟩ := exps_at H p
  have hz := A.zt_pos r (4 * g + p.val / 64) (p.val % 64) (by omega)
  pointwise [k0_pay17]
  rw [h1, h2, Ideal.div_coe (mul_pos hz (Real.exp_pos _)).ne', ← EReal.coe_mul, mul_one_div, mul_div_mul_right _ _ (Real.exp_pos _).ne']
  rfl

/-- The gradients of the weights. -/
theorem dp_at (j : Fin 512) (p : Fin 256) :
    (∑ x, (vv (ix2 j x) : EReal) * k0_pay18 k0_pay1 k0_pay2 k0_pay3 k0_pay4 ov (ix2 p x) : EReal) = ((A.dp r (4 * g + p.val / 64) (p.val % 64) j.val : ℝ) : EReal) :=
  dot_head g p (A.v (64 * rs r + j.val)) (A.o (64 * r + p.val % 64)) _ (fun d => by rw [pay18_at, H.v, H.o])

/-- The gradients of the scores. -/
theorem ds_at (j : Fin 512) (p : Fin 256) :
    k0_pay19 k0_pay1 k0_pay2 k0_pay3 k0_pay4 (k0_pay14 vv) (k0_pay15 k0_pay1 k0_pay2 k0_pay3 k0_pay4 qv kv bv) (k0_pay16 k0_pay1 k0_pay2 k0_pay3 k0_pay4 qv kv bv) ov (ix2 j p)
      = ((A.ds r (4 * g + p.val / 64) (p.val % 64) j.val : ℝ) : EReal) := by
  pointwise [k0_pay19, k0_pay14]
  rw [pr_at H j p, dp_at H j p, sum_coe _ (fun j' : Fin 512 => A.pr r (4 * g + p.val / 64) (p.val % 64) j'.val * A.dp r (4 * g + p.val / 64) (p.val % 64) j'.val)
    (fun j' => by rw [pr_at H j' p, dp_at H j' p, EReal.coe_mul]), ← EReal.coe_sub, ← EReal.coe_mul]
  rfl

/-- What the trip stores as the queries' gradient. -/
theorem dq_at (c : Fin 64) (b : Fin 256) :
    k0_pay22 k0_pay1 k0_pay2 k0_pay3 k0_pay4 (k0_pay13 kv) (k0_pay14 vv) (k0_pay15 k0_pay1 k0_pay2 k0_pay3 k0_pay4 qv kv bv) (k0_pay16 k0_pay1 k0_pay2 k0_pay3 k0_pay4 qv kv bv) ov (ix2 c b)
      = ((A.dq (64 * r + c.val) (256 * g + b.val) : ℝ) : EReal) := by
  have hc := c.isLt; have hb := b.isLt
  have one : ∀ p : Fin 256, p.val / 64 = b.val / 64 → p.val % 64 = c.val →
      ((∑ x, (k0_pay21 k0_pay1 k0_pay2 k0_pay3 k0_pay4 (k0_pay14 vv) (k0_pay15 k0_pay1 k0_pay2 k0_pay3 k0_pay4 qv kv bv) (k0_pay16 k0_pay1 k0_pay2 k0_pay3 k0_pay4 qv kv bv) ov (ix2 x p) : EReal) * kv (ix2 x b))
        * Ideal.ofBits FTy.f32 1040187392#32 : EReal) = ((A.dq (64 * r + c.val) (256 * g + b.val) : ℝ) : EReal) := by
    intro p h1 h2
    rw [eighth, sum_coe _ (fun j : Fin 512 => A.ds r (4 * g + p.val / 64) (p.val % 64) j.val * A.k (64 * rs r + j.val) (256 * g + b.val)) fun j => ?_, ← EReal.coe_mul]
    · unfold Arr.dq
      rw [show (64 * r + c.val) / 64 = r by omega, show (256 * g + b.val) / 64 = 4 * g + p.val / 64 by omega, show (64 * r + c.val) % 64 = p.val % 64 by omega]
    · pointwise [k0_pay21]
      rw [ds_at H j p, H.k, EReal.coe_mul]
  pointwise [k0_pay22, k0_pay13]
  rw [mask4, mask3, mask2]
  split
  · exact one _ (by show (192 + c.val) / 64 = b.val / 64; omega) (by show (192 + c.val) % 64 = c.val; omega)
  · split
    · exact one _ (by show (128 + c.val) / 64 = b.val / 64; omega) (by show (128 + c.val) % 64 = c.val; omega)
    · split
      · exact one _ (by show (64 + c.val) / 64 = b.val / 64; omega) (by show (64 + c.val) % 64 = c.val; omega)
      · exact one _ (by show c.val / 64 = b.val / 64; omega) (by show c.val % 64 = c.val; omega)

/-- What the trip adds to the table's gradient. -/
theorem db_at (f : Vec Ideal S1x512x256 .f32) (j : Fin 512) (p : Fin 256) :
    k0_pay20 k0_pay1 k0_pay2 k0_pay3 k0_pay4 (k0_pay14 vv) (k0_pay15 k0_pay1 k0_pay2 k0_pay3 k0_pay4 qv kv bv) (k0_pay16 k0_pay1 k0_pay2 k0_pay3 k0_pay4 qv kv bv) ov f (ix3 (0 : Fin 1) j p)
      = (f (ix3 (0 : Fin 1) j p) + ((A.ds r (4 * g + p.val / 64) (p.val % 64) j.val : ℝ) : EReal) : EReal) := by
  pointwise [k0_pay20]
  rw [ds_at H j p]

omit H in
/-- A sum over four heads' queries of which only one head's count. -/
theorem dot_query (b : Fin 256) (u : ℕ → ℝ) (w : ℕ → ℝ) (f : Fin 256 → EReal) (z : Fin 256 → EReal)
    (hf : ∀ x : Fin 256, x.val / 64 = b.val / 64 → f x = ((u (x.val % 64) : ℝ) : EReal)) (hr : ∀ x, ∃ t : ℝ, f x = ((t : ℝ) : EReal))
    (hz : ∀ x : Fin 256, z x = if b.val / 64 = x.val / 64 then ((w (x.val % 64) : ℝ) : EReal) else 0) :
    (∑ x, f x * z x : EReal) = ((∑ c : Fin 64, u c.val * w c.val : ℝ) : EReal) := by
  have hb := b.isLt
  rw [sum_coe _ (fun x => if x.val / 64 = b.val / 64 then (fun n => u n * w n) (x.val - 64 * (b.val / 64)) else 0)]
  · exact congrArg _ (sum_head (b.val / 64) (by omega) _ (fun n => u n * w n) fun d => rfl)
  · intro x
    rw [hz x]
    by_cases h : x.val / 64 = b.val / 64
    · rw [if_pos h.symm, if_pos h, hf x h, ← EReal.coe_mul, show x.val - 64 * (b.val / 64) = x.val % 64 by omega]
    · rw [if_neg (fun e => h e.symm), if_neg h]
      obtain ⟨t, ht⟩ := hr x
      rw [ht, mul_zero]; rfl

/-- What the trip adds to the keys' gradient. -/
theorem dk_at (f : Vec Ideal S512x256 .f32) (j : Fin 512) (b : Fin 256) :
    k0_pay8 f (k0_pay23 k0_pay1 k0_pay2 k0_pay3 k0_pay4 (k0_pay12 k0_pay1 k0_pay2 k0_pay3 k0_pay4 qv) (k0_pay14 vv) (k0_pay15 k0_pay1 k0_pay2 k0_pay3 k0_pay4 qv kv bv) (k0_pay16 k0_pay1 k0_pay2 k0_pay3 k0_pay4 qv kv bv) ov) (ix2 j b)
      = (f (ix2 j b) + (((∑ c : Fin 64, A.ds r (4 * g + b.val / 64) c.val j.val * A.q (64 * r + c.val) (256 * g + b.val)) * (1 / 8) : ℝ) : EReal) : EReal) := by
  pointwise [k0_pay8, k0_pay23]
  rw [eighth, dot_query b (fun c => A.ds r (4 * g + b.val / 64) c j.val) (fun c => A.q (64 * r + c) (256 * g + b.val)) _ _ ?_ ?_ ?_, ← EReal.coe_mul]
  · intro x hx
    pointwise [k0_pay21]
    rw [ds_at H j x, hx]
  · intro x
    pointwise [k0_pay21]
    exact ⟨_, ds_at H j x⟩
  · intro x
    rw [pay12_at, H.q]

/-- What the trip adds to the values' gradient. -/
theorem dv_at (f : Vec Ideal S512x256 .f32) (j : Fin 512) (b : Fin 256) :
    k0_pay9 (k0_pay17 (k0_pay15 k0_pay1 k0_pay2 k0_pay3 k0_pay4 qv kv bv) (k0_pay16 k0_pay1 k0_pay2 k0_pay3 k0_pay4 qv kv bv)) (k0_pay18 k0_pay1 k0_pay2 k0_pay3 k0_pay4 ov) f (ix2 j b)
      = (f (ix2 j b) + ((∑ c : Fin 64, A.pr r (4 * g + b.val / 64) c.val j.val * A.o (64 * r + c.val) (256 * g + b.val) : ℝ) : EReal) : EReal) := by
  pointwise [k0_pay9]
  rw [dot_query b (fun c => A.pr r (4 * g + b.val / 64) c j.val) (fun c => A.o (64 * r + c) (256 * g + b.val)) _ _ ?_ ?_ ?_]
  · intro x hx
    rw [pr_at H j x, hx]
  · intro x
    exact ⟨_, pr_at H j x⟩
  · intro x
    rw [pay18_at, H.o]

end
end Cert.AttnKernelIdeal.Body
-- ==== Proof.AttnSum.lean ====
/-
  A grid point of the attention's backward kernel in the reals: what its thirty-two trips leave in the accumulators and
  in the queries' gradient's block.
-/
module

public import proofs.«01_k».proof.Proof.AttnPay
public import Idealize.ShloMosaic.Lib.Pipeline.ValueKit

@[expose] public section

set_option maxRecDepth 16384

noncomputable section

namespace Cert.AttnKernelIdeal.Body

open Idealize.ShloMosaic Idealize.ShloMosaic.TcCoe Idealize.ShloMosaic.Tactic
open Cert.AttnKernelIdeal Cert.AttnKernelIdeal.Gen
open AttnSpec

theorem off2_eq : ∀ (t : Fin cfg0.N) (k : Fin k0_t1_loop.trips), k0_off2 (grid0.coords t) k = ![64 * rs (32 * (t.val % 4) + k.val), 0] :=
  (by decide +kernel : ∀ (t : Fin grid0.N) (k : Fin k0_t1_loop.trips), k0_off2 (grid0.coords t) k = ![64 * rs (32 * (t.val % 4) + k.val), 0])

theorem off3_eq : ∀ (t : Fin cfg0.N) (k : Fin k0_t1_loop.trips), k0_off3 (grid0.coords t) k = ![0, 64 * (rs (32 * (t.val % 4) + k.val) + 7 - (32 * (t.val % 4) + k.val)), 0] :=
  (by decide +kernel : ∀ (t : Fin grid0.N) (k : Fin k0_t1_loop.trips), k0_off3 (grid0.coords t) k = ![0, 64 * (rs (32 * (t.val % 4) + k.val) + 7 - (32 * (t.val % 4) + k.val)), 0])

theorem trips_eq : k0_t1_loop.trips = 32 := by decide +kernel

/-- What the five windows of a grid point hold: heads `4 g …` and rows of tokens from `32 rb` on. -/
structure Holds (A : Arr) (g rb : ℕ) (x : Ins Ideal) : Prop where
  q : ∀ (a : Fin 2048) (b : Fin 256), x.q (ix2 a b) = ((A.q (2048 * rb + a.val) (256 * g + b.val) : ℝ) : EReal)
  k : ∀ (a : Fin 8192) (b : Fin 256), x.k (ix2 a b) = ((A.k a.val (256 * g + b.val) : ℝ) : EReal)
  v : ∀ (a : Fin 8192) (b : Fin 256), x.v (ix2 a b) = ((A.v a.val (256 * g + b.val) : ℝ) : EReal)
  b : ∀ (a : Fin 960) (p : Fin 256), x.b (ix3 (0 : Fin 1) a p) = (if valid (p.val % 64) (a.val % 64) then ((A.t (4 * g + p.val / 64) (a.val / 64) (p.val % 64) (a.val % 64) : ℝ) : EReal) else ⊥ : EReal)
  o : ∀ (a : Fin 2048) (b : Fin 256), x.o (ix2 a b) = ((A.o (2048 * rb + a.val) (256 * g + b.val) : ℝ) : EReal)

theorem rs_le (r : ℕ) : rs r ≤ 120 := Nat.min_le_right _ _
theorem rs_ge {r : ℕ} (h : r < 128) : r ≤ rs r + 7 := by unfold rs; omega
theorem rs_off {r : ℕ} : rs r + 7 - r ≤ 7 := by unfold rs; omega

/-- A load of a stack of rows, read at an index. -/
theorem ld_rows {e : EltTy} {R n : ℕ} (X : (⟨2, ![R, 256]⟩ : Shape).Idx → Elt Ideal e) (off : Fin 2 → ℕ) (o : ℕ) (ho : off = ![o, 0]) (inb)
    (j : Fin n) (b : Fin 256) (a : Fin R) (ha : a.val = o + j.val) :
    View.ld X (Rect.unit (s := ⟨2, ![R, 256]⟩) off ![n, 256] inb) (ix2 j b) = X (ix2 a b) := by
  subst ho
  exact View.ld_unit_apply_of _ _ _ _ _ _ (Fin.forall_fin_two.mpr ⟨ha, (Nat.zero_add _).symm⟩)

theorem ld_table (X : Vec Ideal S1x960x256 .f32) (off : Fin 3 → ℕ) (o : ℕ) (ho : off = ![0, o, 0]) (inb)
    (j : Fin 512) (b : Fin 256) (a : Fin 960) (ha : a.val = o + j.val) :
    View.ld X (Rect.unit (s := S1x960x256) off S1x512x256.size inb) (ix3 (0 : Fin 1) j b) = X (ix3 (0 : Fin 1) a b) := by
  subst ho
  refine View.ld_unit_apply_of _ _ _ _ _ _ fun d => ?_
  fin_cases d
  exacts [rfl, ha, (Nat.zero_add _).symm]

/-- The blocks a trip reads. -/
theorem trip_of {A : Arr} {x : Ins Ideal} (t : Fin cfg0.N) (H : Holds A (t.val / 4) (t.val % 4) x) (k : Fin k0_t1_loop.trips) :
    Trip A (32 * (t.val % 4) + k.val) (t.val / 4) (x.qv k) (x.kv (grid0.coords t) k) (x.vv (grid0.coords t) k) (x.bv (grid0.coords t) k) (x.ov k) := by
  have hk : k.val < 32 := lt_of_lt_of_eq k.isLt trips_eq
  have hr := rs_le (32 * (t.val % 4) + k.val)
  have h7 := @rs_off (32 * (t.val % 4) + k.val)
  have hd : ∀ c : Fin 64, 2048 * (t.val % 4) + (64 * k.val + c.val) = 64 * (32 * (t.val % 4) + k.val) + c.val := fun c => by omega
  refine ⟨fun c b => ?_, fun j b => ?_, fun j b => ?_, fun j p => ?_, fun c b => ?_⟩
  · refine (ld_rows x.q _ _ (off1_eq k) _ c b ⟨64 * k.val + c.val, by omega⟩ rfl).trans ((H.q _ _).trans ?_)
    rw [show 2048 * (t.val % 4) + (⟨64 * k.val + c.val, by omega⟩ : Fin 2048).val = _ from hd c]
  · exact (ld_rows x.k _ _ (off2_eq t k) _ j b ⟨64 * rs (32 * (t.val % 4) + k.val) + j.val, by omega⟩ rfl).trans (H.k _ _)
  · exact (ld_rows x.v _ _ (off2_eq t k) _ j b ⟨64 * rs (32 * (t.val % 4) + k.val) + j.val, by omega⟩ rfl).trans (H.v _ _)
  · refine (ld_table x.b _ _ (off3_eq t k) _ j p ⟨64 * (rs (32 * (t.val % 4) + k.val) + 7 - (32 * (t.val % 4) + k.val)) + j.val, by omega⟩ rfl).trans ((H.b _ _).trans ?_)
    dsimp only
    rw [Nat.mul_add_mod, Nat.mul_add_div (by norm_num)]
  · refine (ld_rows x.o _ _ (off1_eq k) _ c b ⟨64 * k.val + c.val, by omega⟩ rfl).trans ((H.o _ _).trans ?_)
    rw [show 2048 * (t.val % 4) + (⟨64 * k.val + c.val, by omega⟩ : Fin 2048).val = _ from hd c]

/-- A stack of rows replaced, read at an index. -/
theorem over_rows {α : Type} {R n : ℕ} (off : Fin 2 → ℕ) (o : ℕ) (ho : off = ![o, 0]) (W : (⟨2, ![n, 256]⟩ : Shape).Idx → α) (f : (⟨2, ![R, 256]⟩ : Shape).Idx → α) (a : Fin R) (b : Fin 256) :
    over (s := ⟨2, ![R, 256]⟩) off ![n, 256] W f (ix2 a b) = if h : o ≤ a.val ∧ a.val < o + n then W (ix2 (⟨a.val - o, by omega⟩ : Fin n) b) else f (ix2 a b) := by
  subst ho
  unfold over
  by_cases h : o ≤ a.val ∧ a.val < o + n
  · rw [dif_pos h]
    refine (dif_pos (Fin.forall_fin_two.mpr ⟨h, Nat.zero_le _, by show b.val < 0 + 256; omega⟩)).trans ?_
    refine congrArg W (funext fun d => Fin.ext ?_)
    fin_cases d
    · rfl
    · rfl
  · rw [dif_neg h]
    exact dif_neg fun hh => h (hh 0)

theorem over_table {α : Type} (off : Fin 3 → ℕ) (o : ℕ) (ho : off = ![0, o, 0]) (W : S1x512x256.Idx → α) (f : S1x960x256.Idx → α) (a : Fin 960) (b : Fin 256) :
    over (s := S1x960x256) off S1x512x256.size W f (ix3 (0 : Fin 1) a b) = if h : o ≤ a.val ∧ a.val < o + 512 then W (ix3 (0 : Fin 1) (⟨a.val - o, by omega⟩ : Fin 512) b) else f (ix3 (0 : Fin 1) a b) := by
  subst ho
  unfold over
  by_cases h : o ≤ a.val ∧ a.val < o + 512
  · rw [dif_pos h]
    refine (dif_pos (fun d => ?_)).trans ?_
    · fin_cases d
      · exact ⟨Nat.zero_le _, by show 0 < 0 + 1; omega⟩
      · exact h
      · exact ⟨Nat.zero_le _, by show b.val < 0 + 256; omega⟩
    refine congrArg W (funext fun d => Fin.ext ?_)
    fin_cases d
    · rfl
    · rfl
    · rfl
  · rw [dif_neg h]
    exact dif_neg fun hh => h (hh 1)

section
variable {A : Arr} {x : Ins Ideal} (t : Fin cfg0.N) (H : Holds A (t.val / 4) (t.val % 4) x)
include H

/-- The keys' accumulator after `n` trips. -/
theorem dkAt_eq (f : Vec Ideal S8192x256 .f32) (a : Fin 8192) (b : Fin 256) (n : ℕ) (hn : n ≤ 32) :
    dkAt x (grid0.coords t) f n (ix2 a b) = (f (ix2 a b) + ((∑ k ∈ Finset.range n, A.dkT (32 * (t.val % 4) + k) a.val (256 * (t.val / 4) + b.val) : ℝ) : EReal) : EReal) := by
  induction n with
  | zero => rw [Finset.sum_range_zero]; exact (add_zero _).symm
  | succ n ih =>
    have h : n < k0_t1_loop.trips := lt_of_lt_of_eq hn trips_eq.symm
    rw [dkAt_succ x _ f n h, Finset.sum_range_succ, EReal.coe_add, ← add_assoc, ← ih (by omega)]
    refine (over_rows _ _ (off2_eq t ⟨n, h⟩) _ _ a b).trans ?_
    unfold Arr.dkT
    split
    · rename_i hh
      refine (dk_at (trip_of t H ⟨n, h⟩) _ _ b).trans ?_
      rw [ld_rows _ _ _ (off2_eq t ⟨n, h⟩) _ _ b a (by show a.val = _ + (a.val - _); omega),
        show (256 * (t.val / 4) + b.val) / 64 = 4 * (t.val / 4) + b.val / 64 by omega]
    · rename_i hh
      exact (add_zero _).symm

/-- The values' accumulator after `n` trips. -/
theorem dvAt_eq (f : Vec Ideal S8192x256 .f32) (a : Fin 8192) (b : Fin 256) (n : ℕ) (hn : n ≤ 32) :
    dvAt x (grid0.coords t) f n (ix2 a b) = (f (ix2 a b) + ((∑ k ∈ Finset.range n, A.dvT (32 * (t.val % 4) + k) a.val (256 * (t.val / 4) + b.val) : ℝ) : EReal) : EReal) := by
  induction n with
  | zero => rw [Finset.sum_range_zero]; exact (add_zero _).symm
  | succ n ih =>
    have h : n < k0_t1_loop.trips := lt_of_lt_of_eq hn trips_eq.symm
    rw [dvAt_succ x _ f n h, Finset.sum_range_succ, EReal.coe_add, ← add_assoc, ← ih (by omega)]
    refine (over_rows _ _ (off2_eq t ⟨n, h⟩) _ _ a b).trans ?_
    unfold Arr.dvT
    split
    · rename_i hh
      refine (dv_at (trip_of t H ⟨n, h⟩) _ _ b).trans ?_
      rw [ld_rows _ _ _ (off2_eq t ⟨n, h⟩) _ _ b a (by show a.val = _ + (a.val - _); omega),
        show (256 * (t.val / 4) + b.val) / 64 = 4 * (t.val / 4) + b.val / 64 by omega]
    · rename_i hh
      exact (add_zero _).symm

/-- The table's accumulator after `n` trips. -/
theorem dbAt_eq (f : Vec Ideal S1x960x256 .f32) (a : Fin 960) (b : Fin 256) (n : ℕ) (hn : n ≤ 32) :
    dbAt x (grid0.coords t) f n (ix3 (0 : Fin 1) a b)
      = (f (ix3 (0 : Fin 1) a b) + ((∑ k ∈ Finset.range n, A.dbT (32 * (t.val % 4) + k) a.val (4 * (t.val / 4) + b.val / 64) (b.val % 64) : ℝ) : EReal) : EReal) := by
  induction n with
  | zero => rw [Finset.sum_range_zero]; exact (add_zero _).symm
  | succ n ih =>
    have h : n < k0_t1_loop.trips := lt_of_lt_of_eq hn trips_eq.symm
    rw [dbAt_succ x _ f n h, Finset.sum_range_succ, EReal.coe_add, ← add_assoc, ← ih (by omega)]
    refine (over_table _ _ (off3_eq t ⟨n, h⟩) _ _ a b).trans ?_
    unfold Arr.dbT
    split
    · rename_i hh
      refine (db_at (trip_of t H ⟨n, h⟩) _ _ b).trans ?_
      rw [ld_table _ _ _ (off3_eq t ⟨n, h⟩) _ _ b a (by show a.val = _ + (a.val - _); omega)]
    · rename_i hh
      exact (add_zero _).symm

/-- The queries' gradient's block after `n` trips, on the rows they wrote. -/
theorem dqAt_eq (f : Vec Ideal S2048x256 .bf16) (a : Fin 2048) (b : Fin 256) (n : ℕ) (hn : n ≤ 32) (ha : a.val < 64 * n) :
    dqAt x (grid0.coords t) f n (ix2 a b) = ((A.dq (2048 * (t.val % 4) + a.val) (256 * (t.val / 4) + b.val) : ℝ) : EReal) := by
  induction n with
  | zero => omega
  | succ n ih =>
    have h : n < k0_t1_loop.trips := lt_of_lt_of_eq hn trips_eq.symm
    rw [dqAt_succ x _ f n h]
    refine (over_rows _ _ (off1_eq ⟨n, h⟩) _ _ a b).trans ?_
    split
    · rename_i hh
      refine (dq_at (trip_of t H ⟨n, h⟩) ⟨a.val - 64 * n, by omega⟩ b).trans ?_
      rw [show 64 * (32 * (t.val % 4) + (⟨n, h⟩ : Fin k0_t1_loop.trips).val) + (⟨a.val - 64 * n, by omega⟩ : Fin 64).val = 2048 * (t.val % 4) + a.val by
        show 64 * (32 * (t.val % 4) + n) + (a.val - 64 * n) = _
        have : 64 * n ≤ a.val := hh.1
        omega]
    · rename_i hh
      have : ¬ (64 * n ≤ a.val ∧ a.val < 64 * n + 64) := hh
      exact ih (by omega) (by omega)

end
end Cert.AttnKernelIdeal.Body
-- ==== Proof.AttnHost.lean ====
/-
  The arrays that the attention's backward kernel reads: the joined projections and the spread table of biases, element
  by element.
-/
module

public import proofs.«01_k».proof.Proof.AttnSum
public import Idealize.ShloMosaic.Lib.Routing.Words
public import Idealize.ShloMosaic.Lib.Pipeline.ValueKit

@[expose] public section

set_option maxRecDepth 16384

noncomputable section

namespace Cert.AttnKernelIdeal.Body

open Idealize.ShloMosaic Idealize.ShloMosaic.TcCoe Idealize.ShloMosaic.Tactic
open Cert.AttnKernelIdeal Cert.AttnKernelIdeal.Gen
open AttnSpec

variable (m : (ℓ : Loc nD τ sig) → Buf (Elt Ideal) ℓ) (d : Dev nD)

theorem v1_eq : V m d main_v1 = (truncf .bf16 (concatenate S8192x1536 1 [⟨S8192x512, (m ((d : Thread nD τ).loc main_arg0) : FVec Ideal S8192x512 .f32)⟩, ⟨S8192x512, (m ((d : Thread nD τ).loc main_arg1) : FVec Ideal S8192x512 .f32)⟩, ⟨S8192x512, (m ((d : Thread nD τ).loc main_arg2) : FVec Ideal S8192x512 .f32)⟩] concatenates_S8192x512_S8192x512_S8192x512_S8192x1536_d1) bitsLt_bf16_f32 : FVec Ideal S8192x1536 .bf16) := by
  rfl

/-- The divisor and the remainder, as the host computes them. -/
def divisor (n0 : IVec S_ 32) : IVec S_ 32 := select (cmpi .eq n0 (constantI S_ 32 0#32)) (constantI S_ 32 1#32) n0
def remOf (n0 : IVec S_ 32) (x : IVec S960x256 32) : IVec S960x256 32 := Host.remsi x (broadcastInDim S960x256 ![] bcast_S_S960x256 (divisor n0))
def signed (n : IVec S_ 32) (r : IVec S960x256 32) : IVec S960x256 32 :=
  let z : IVec S960x256 32 := broadcastInDim S960x256 ![] bcast_S_S960x256 (constantI S_ 32 0#32)
  select (andi (cmpi .ne (cmpi .slt r z) (broadcastInDim S960x256 ![] bcast_S_S960x256 (cmpi .slt n (constantI S_ 32 0#32)))) (cmpi .ne r z))
    (addi r (broadcastInDim S960x256 ![] bcast_S_S960x256 n)) r
def rem64 (n0 : IVec S_ 32) (x : IVec S960x256 32) : IVec S960x256 32 := signed (divisor n0) (remOf n0 x)

section
variable (σ : Valuation τ sig (Elt Ideal))

theorem seg10_v37 : StableHlo.after (hostOps0_10 (F := Ideal)) σ (Proc.devRef .tc main_v37) = (addf (shapeCast S2x960x256 (σ (Proc.devRef .tc main_v19) : FVec Ideal S2x15x64x4x64 .f32) shapeCasts_S2x15x64x4x64_S2x960x256 : FVec Ideal S2x960x256 .f32) (broadcastInDim S2x960x256 ![0, 1, 2] bcast_S1x960x256_S2x960x256_0_1_2 (broadcastInDim S1x960x256 ![1, 2] bcast_S960x256_S1x960x256_1_2 (σ (Proc.devRef .tc main_v32) : FVec Ideal S960x256 .f32))) : FVec Ideal S2x960x256 .f32) := by
  rfl
theorem seg9_v32 : StableHlo.after (hostOps0_9 (F := Ideal)) σ (Proc.devRef .tc main_v32) = (select (σ (Proc.devRef .tc main_v31) : IVec S960x256 1) (broadcastInDim S960x256 ![] bcast_S_S960x256 (σ (Proc.devRef .tc main_cst) : FVec Ideal S_ .f32)) (broadcastInDim S960x256 ![] bcast_S_S960x256 (σ (Proc.devRef .tc main_cst_10) : FVec Ideal S_ .f32)) : FVec Ideal S960x256 .f32) := by
  rfl
theorem seg9_v19 : StableHlo.after (hostOps0_9 (F := Ideal)) σ (Proc.devRef .tc main_v19) = σ (Proc.devRef .tc main_v19) := by
  rfl
theorem seg8_v31 : StableHlo.after (hostOps0_8 (F := Ideal)) σ (Proc.devRef .tc main_v31) = (andi (cmpi .sge (σ (Proc.devRef .tc main_v21) : IVec S960x256 32) (σ (Proc.devRef .tc main_v26) : IVec S960x256 32)) (cmpi .slt (σ (Proc.devRef .tc main_v21) : IVec S960x256 32) (addi (σ (Proc.devRef .tc main_v26) : IVec S960x256 32) (broadcastInDim S960x256 ![] bcast_S_S960x256 (constantI S_ 32 16#32) : IVec S960x256 32))) : IVec S960x256 1) := by
  rfl
theorem seg8_cst : StableHlo.after (hostOps0_8 (F := Ideal)) σ (Proc.devRef .tc main_cst) = (constant S_ .f32 0x00000000#32 : FVec Ideal S_ .f32) := by
  rfl
theorem seg8_cst_10 : StableHlo.after (hostOps0_8 (F := Ideal)) σ (Proc.devRef .tc main_cst_10) = (constant S_ .f32 0xFF800000#32 : FVec Ideal S_ .f32) := by
  rfl
theorem seg8_v19 : StableHlo.after (hostOps0_8 (F := Ideal)) σ (Proc.devRef .tc main_v19) = σ (Proc.devRef .tc main_v19) := by
  rfl
theorem seg7_v26 : StableHlo.after (hostOps0_7 (F := Ideal)) σ (Proc.devRef .tc main_v26) = (minsi (broadcastInDim S960x256 ![] bcast_S_S960x256 (σ (Proc.devRef .tc main_c_8) : IVec S_ 32) : IVec S960x256 32) (maxsi (broadcastInDim S960x256 ![] bcast_S_S960x256 (σ (Proc.devRef .tc main_c_7) : IVec S_ 32) : IVec S960x256 32) (σ (Proc.devRef .tc main_v25) : IVec S960x256 32)) : IVec S960x256 32) := by
  rfl
theorem seg7_v19 : StableHlo.after (hostOps0_7 (F := Ideal)) σ (Proc.devRef .tc main_v19) = σ (Proc.devRef .tc main_v19) := by
  rfl
theorem seg7_v21 : StableHlo.after (hostOps0_7 (F := Ideal)) σ (Proc.devRef .tc main_v21) = σ (Proc.devRef .tc main_v21) := by
  rfl
theorem seg6_v25 : StableHlo.after (hostOps0_6 (F := Ideal)) σ (Proc.devRef .tc main_v25) = (subi (σ (Proc.devRef .tc main_v23) : IVec S960x256 32) (broadcastInDim S960x256 ![] bcast_S_S960x256 (constantI S_ 32 8#32) : IVec S960x256 32) : IVec S960x256 32) := by
  rfl
theorem seg6_c_7 : StableHlo.after (hostOps0_6 (F := Ideal)) σ (Proc.devRef .tc main_c_7) = (constantI S_ 32 0#32 : IVec S_ 32) := by
  rfl
theorem seg6_c_8 : StableHlo.after (hostOps0_6 (F := Ideal)) σ (Proc.devRef .tc main_c_8) = (constantI S_ 32 48#32 : IVec S_ 32) := by
  rfl
theorem seg6_v19 : StableHlo.after (hostOps0_6 (F := Ideal)) σ (Proc.devRef .tc main_v19) = σ (Proc.devRef .tc main_v19) := by
  rfl
theorem seg6_v21 : StableHlo.after (hostOps0_6 (F := Ideal)) σ (Proc.devRef .tc main_v21) = σ (Proc.devRef .tc main_v21) := by
  rfl
theorem seg5a_n : StableHlo.after ((hostOps0_5 (F := Ideal)).take 7) σ (Proc.devRef .tc main_call2_v2) = divisor (σ (Proc.devRef .tc main_c_5) : IVec S_ 32) := by
  rfl
theorem seg5a_r : StableHlo.after ((hostOps0_5 (F := Ideal)).take 7) σ (Proc.devRef .tc main_call2_v4) = remOf (σ (Proc.devRef .tc main_c_5) : IVec S_ 32) (σ (Proc.devRef .tc main_v22) : IVec S960x256 32) := by
  rfl
theorem seg5b : StableHlo.after ((hostOps0_5 (F := Ideal)).drop 7) σ (Proc.devRef .tc main_v23) = signed (σ (Proc.devRef .tc main_call2_v2) : IVec S_ 32) (σ (Proc.devRef .tc main_call2_v4) : IVec S960x256 32) := by
  rfl
theorem seg5_v23 : StableHlo.after (hostOps0_5 (F := Ideal)) σ (Proc.devRef .tc main_v23) = rem64 (σ (Proc.devRef .tc main_c_5) : IVec S_ 32) (σ (Proc.devRef .tc main_v22) : IVec S960x256 32) := by
  rw [← List.take_append_drop 7 (hostOps0_5 (F := Ideal)), StableHlo.after_append, seg5b, seg5a_n, seg5a_r]
  rfl
theorem seg5_v19 : StableHlo.after (hostOps0_5 (F := Ideal)) σ (Proc.devRef .tc main_v19) = σ (Proc.devRef .tc main_v19) := by
  rfl
theorem seg5_v21 : StableHlo.after (hostOps0_5 (F := Ideal)) σ (Proc.devRef .tc main_v21) = σ (Proc.devRef .tc main_v21) := by
  rfl
theorem seg4_v22 : StableHlo.after (hostOps0_4 (F := Ideal)) σ (Proc.devRef .tc main_v22) = (iotaInDim S960x256 32 1 : IVec S960x256 32) := by
  rfl
theorem seg4_c_5 : StableHlo.after (hostOps0_4 (F := Ideal)) σ (Proc.devRef .tc main_c_5) = (constantI S_ 32 64#32 : IVec S_ 32) := by
  rfl
theorem seg4_v19 : StableHlo.after (hostOps0_4 (F := Ideal)) σ (Proc.devRef .tc main_v19) = σ (Proc.devRef .tc main_v19) := by
  rfl
theorem seg4_v21 : StableHlo.after (hostOps0_4 (F := Ideal)) σ (Proc.devRef .tc main_v21) = σ (Proc.devRef .tc main_v21) := by
  rfl
theorem seg3a_n : StableHlo.after ((hostOps0_3 (F := Ideal)).take 7) σ (Proc.devRef .tc main_call1_v2) = divisor (σ (Proc.devRef .tc main_c_4) : IVec S_ 32) := by
  rfl
theorem seg3a_r : StableHlo.after ((hostOps0_3 (F := Ideal)).take 7) σ (Proc.devRef .tc main_call1_v4) = remOf (σ (Proc.devRef .tc main_c_4) : IVec S_ 32) (σ (Proc.devRef .tc main_v20) : IVec S960x256 32) := by
  rfl
theorem seg3b : StableHlo.after ((hostOps0_3 (F := Ideal)).drop 7) σ (Proc.devRef .tc main_v21) = signed (σ (Proc.devRef .tc main_call1_v2) : IVec S_ 32) (σ (Proc.devRef .tc main_call1_v4) : IVec S960x256 32) := by
  rfl
theorem seg3_v21 : StableHlo.after (hostOps0_3 (F := Ideal)) σ (Proc.devRef .tc main_v21) = rem64 (σ (Proc.devRef .tc main_c_4) : IVec S_ 32) (σ (Proc.devRef .tc main_v20) : IVec S960x256 32) := by
  rw [← List.take_append_drop 7 (hostOps0_3 (F := Ideal)), StableHlo.after_append, seg3b, seg3a_n, seg3a_r]
  rfl
theorem seg3_v19 : StableHlo.after (hostOps0_3 (F := Ideal)) σ (Proc.devRef .tc main_v19) = σ (Proc.devRef .tc main_v19) := by
  rfl
theorem seg2_v20 : StableHlo.after (hostOps0_2 (F := Ideal)) σ (Proc.devRef .tc main_v20) = (iotaInDim S960x256 32 0 : IVec S960x256 32) := by
  rfl
theorem seg2_c_4 : StableHlo.after (hostOps0_2 (F := Ideal)) σ (Proc.devRef .tc main_c_4) = (constantI S_ 32 64#32 : IVec S_ 32) := by
  rfl
theorem seg2_v19 : StableHlo.after (hostOps0_2 (F := Ideal)) σ (Proc.devRef .tc main_v19) = (transpose S2x15x64x4x64 [0, 2, 4, 1, 3] (shapeCast S2x4x15x64x64 (StableHlo.after hostOps0_2 σ (Proc.devRef .tc main_v17) : FVec Ideal S8x15x64x64 .f32) shapeCasts_S8x15x64x64_S2x4x15x64x64 : FVec Ideal S2x4x15x64x64 .f32) transposes_S2x4x15x64x64_S2x15x64x4x64_0_2_4_1_3 : FVec Ideal S2x15x64x4x64 .f32) := by
  rfl

end

/-- The arrays after the first three stretches of host operations. -/
def st3 : Valuation τ sig (Elt Ideal) := StableHlo.after hostOps0_2 (StableHlo.after hostOps0_1 (StableHlo.after hostOps0 (fun b => m (d, b))))

theorem V_eq (b : Ref sig .tc) : V m d b = StableHlo.after hostOps0_10 (StableHlo.after hostOps0_9 (StableHlo.after hostOps0_8 (StableHlo.after hostOps0_7
    (StableHlo.after hostOps0_6 (StableHlo.after hostOps0_5 (StableHlo.after hostOps0_4 (StableHlo.after hostOps0_3 (st3 m d)))))))) (Proc.devRef .tc b) := by
  unfold V st3
  simp only [List.flatten_cons, List.flatten_nil, List.append_nil, StableHlo.after_append]

/-- The spread table: a head's bias of row offset, query column and key column. -/
def spread : FVec Ideal S8x15x64x64 .f32 := st3 m d (Proc.devRef .tc main_v17)

/-- Where a query sees a key. -/
def seen : IVec S960x256 1 :=
  let k : IVec S960x256 32 := rem64 (constantI S_ 32 64#32) (iotaInDim S960x256 32 0)
  let s : IVec S960x256 32 := minsi (broadcastInDim S960x256 ![] bcast_S_S960x256 (constantI S_ 32 48#32) : IVec S960x256 32) (maxsi (broadcastInDim S960x256 ![] bcast_S_S960x256 (constantI S_ 32 0#32) : IVec S960x256 32) (subi (rem64 (constantI S_ 32 64#32) (iotaInDim S960x256 32 1)) (broadcastInDim S960x256 ![] bcast_S_S960x256 (constantI S_ 32 8#32) : IVec S960x256 32)))
  andi (cmpi .sge k s) (cmpi .slt k (addi s (broadcastInDim S960x256 ![] bcast_S_S960x256 (constantI S_ 32 16#32) : IVec S960x256 32)))

theorem v37_eq : V m d main_v37 = (addf (shapeCast S2x960x256 (transpose S2x15x64x4x64 [0, 2, 4, 1, 3] (shapeCast S2x4x15x64x64 (spread m d) shapeCasts_S8x15x64x64_S2x4x15x64x64 : FVec Ideal S2x4x15x64x64 .f32) transposes_S2x4x15x64x64_S2x15x64x4x64_0_2_4_1_3 : FVec Ideal S2x15x64x4x64 .f32) shapeCasts_S2x15x64x4x64_S2x960x256 : FVec Ideal S2x960x256 .f32)
    (broadcastInDim S2x960x256 ![0, 1, 2] bcast_S1x960x256_S2x960x256_0_1_2 (broadcastInDim S1x960x256 ![1, 2] bcast_S960x256_S1x960x256_1_2
      (select seen (broadcastInDim S960x256 ![] bcast_S_S960x256 (constant S_ .f32 0x00000000#32)) (broadcastInDim S960x256 ![] bcast_S_S960x256 (constant S_ .f32 0xFF800000#32)) : FVec Ideal S960x256 .f32))) : FVec Ideal S2x960x256 .f32) := by
  have h19 : st3 m d (Proc.devRef .tc main_v19) = _ := seg2_v19 _
  have h20 : st3 m d (Proc.devRef .tc main_v20) = _ := seg2_v20 _
  have h4 : st3 m d (Proc.devRef .tc main_c_4) = _ := seg2_c_4 _
  rw [V_eq, seg10_v37, seg9_v32, seg9_v19, seg8_v31, seg8_cst, seg8_cst_10, seg8_v19, seg7_v26, seg7_v19, seg7_v21, seg6_v25, seg6_c_7, seg6_c_8, seg6_v19, seg6_v21,
    seg5_v23, seg5_v19, seg5_v21, seg4_v22, seg4_c_5, seg4_v19, seg4_v21, seg3_v21, seg3_v19, h19, h20, h4]
  rfl

theorem rem64_apply (x : IVec S960x256 32) (n : ℕ) (hn : n < 1024) (i : S960x256.Idx) (hx : x i = BitVec.ofNat 32 n) : rem64 (constantI S_ 32 64#32) x i = BitVec.ofNat 32 (n % 64) := by
  unfold rem64 signed remOf divisor
  pointwise
  simp only [hx, show Scalar.select (IntOp.cmpi CmpIPredicate.eq 64#32 0#32) 1#32 64#32 = BitVec.ofNat 32 64 from rfl]
  rw [Routing.remsi_word .host (by omega) (by norm_num) (by norm_num)]
  have key : ∀ r : Fin 64, Scalar.select (IntOp.andi (IntOp.cmpi CmpIPredicate.ne (IntOp.cmpi CmpIPredicate.slt (BitVec.ofNat 32 r.val) 0#32) (IntOp.cmpi CmpIPredicate.slt (BitVec.ofNat 32 64) 0#32))
      (IntOp.cmpi CmpIPredicate.ne (BitVec.ofNat 32 r.val) 0#32)) (IntOp.addi (BitVec.ofNat 32 r.val) (BitVec.ofNat 32 64)) (BitVec.ofNat 32 r.val) = BitVec.ofNat 32 r.val := by decide +kernel
  exact key ⟨n % 64, by omega⟩

theorem seen_apply (a : Fin 960) (p : Fin 256) : seen (ix2 a p) = if valid (p.val % 64) (a.val % 64) then 1#1 else 0#1 := by
  have h0 : rem64 (constantI S_ 32 64#32) (iotaInDim S960x256 32 0) (ix2 a p) = BitVec.ofNat 32 (a.val % 64) := rem64_apply _ a.val (by omega) _ rfl
  have h1 : rem64 (constantI S_ 32 64#32) (iotaInDim S960x256 32 1) (ix2 a p) = BitVec.ofNat 32 (p.val % 64) := rem64_apply _ p.val (by omega) _ rfl
  unfold seen
  pointwise
  rw [h0, h1]
  have key : ∀ k c : Fin 64, IntOp.andi (IntOp.cmpi .sge (BitVec.ofNat 32 k.val) (IntOp.minsi 48#32 (IntOp.maxsi 0#32 (IntOp.subi (BitVec.ofNat 32 c.val) 8#32))))
    (IntOp.cmpi .slt (BitVec.ofNat 32 k.val) (IntOp.addi (IntOp.minsi 48#32 (IntOp.maxsi 0#32 (IntOp.subi (BitVec.ofNat 32 c.val) 8#32))) 16#32)) = if valid c.val k.val then 1#1 else 0#1 := by decide +kernel
  exact key ⟨a.val % 64, by omega⟩ ⟨p.val % 64, by omega⟩

/-- The spread table as the kernel reads it: minus infinity where the query does not see the key. -/
theorem v37_apply (g : Fin 2) (a : Fin 960) (p : Fin 256) : (V m d main_v37 : FVec Ideal S2x960x256 .f32) (ix3 g a p)
    = (if valid (p.val % 64) (a.val % 64) then spread m d (ix4 (⟨4 * g.val + p.val / 64, by omega⟩ : Fin 8) (⟨a.val / 64, by omega⟩ : Fin 15) (⟨p.val % 64, by omega⟩ : Fin 64) (⟨a.val % 64, by omega⟩ : Fin 64)) else ⊥ : EReal) := by
  rw [v37_eq]
  pointwise
  rw [seen_apply, lowest]
  have e : ix4 (⟨g.val * 4 + p.val / 64, by omega⟩ : Fin 8) (⟨a.val / 64, by omega⟩ : Fin 15) (⟨p.val % 64, by omega⟩ : Fin 64) (⟨a.val % 64, by omega⟩ : Fin 64)
      = ix4 (⟨4 * g.val + p.val / 64, by omega⟩ : Fin 8) (⟨a.val / 64, by omega⟩ : Fin 15) (⟨p.val % 64, by omega⟩ : Fin 64) (⟨a.val % 64, by omega⟩ : Fin 64) :=
    congrArg (fun i => ix4 i _ _ _) (Fin.ext (by show g.val * 4 + p.val / 64 = 4 * g.val + p.val / 64; omega))
  rw [e]
  split
  · exact add_zero (M := EReal) _
  · exact EReal.add_bot _
end Cert.AttnKernelIdeal.Body
-- ==== Proof.RealSums.lean ====
/-
  Sums over the extended reals: a real factor that is not negative goes under a sum.
-/
module

public import Idealize.ShloMosaic.PureOps.Ideal
public import Mathlib.Data.EReal.Operations

@[expose] public section

namespace RealSums

open Finset

/-- A real factor that is not negative goes under a finite sum, whatever the summands are. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [sum_insert ha, sum_insert ha, EReal.left_distrib_of_nonneg_of_ne_top (by exact_mod_cast hc) (EReal.coe_ne_top c), ih]

end RealSums
-- ==== Proof.AttnData.lean ====
/-
  The attention's arguments as reals, and the four results as arrays.
-/
module

public import proofs.«01_k».proof.Proof.AttnSpec
public import proofs.«01_k».proof.Proof.RealSums
public import Idealize.ShloMosaic.Lib.Pipeline.ValueKit

@[expose] public section

set_option maxRecDepth 16384

noncomputable section

namespace AttnSpec

open Idealize.ShloMosaic

/-- Every element is a real. -/
def AllReal {s : Shape} (x : s.Idx → EReal) : Prop := ∀ i, ∃ r : ℝ, x i = r

/-- A matrix of extended reals as reals, zero outside. -/
def at2 {n k : ℕ} (x : (⟨2, ![n, k]⟩ : Shape).Idx → EReal) (a b : ℕ) : ℝ :=
  if h : a < n ∧ b < k then (x (ix2 ⟨a, h.1⟩ ⟨b, h.2⟩)).toReal else 0

def at4 {n k l o : ℕ} (x : (⟨4, ![n, k, l, o]⟩ : Shape).Idx → EReal) (a b c d : ℕ) : ℝ :=
  if h : a < n ∧ b < k ∧ c < l ∧ d < o then (x (ix4 ⟨a, h.1⟩ ⟨b, h.2.1⟩ ⟨c, h.2.2.1⟩ ⟨d, h.2.2.2⟩)).toReal else 0

theorem at2_eq {n k : ℕ} {x : (⟨2, ![n, k]⟩ : Shape).Idx → EReal} (hx : AllReal x) (a : Fin n) (b : Fin k) : x (ix2 a b) = ((at2 x a.val b.val : ℝ) : EReal) := by
  unfold at2; rw [dif_pos ⟨a.isLt, b.isLt⟩]
  obtain ⟨r, hr⟩ := hx (ix2 a b)
  show _ = (((x (ix2 a b)).toReal : ℝ) : EReal)
  rw [hr]; rfl

theorem at4_eq {n k l o : ℕ} {x : (⟨4, ![n, k, l, o]⟩ : Shape).Idx → EReal} (hx : AllReal x) (a : Fin n) (b : Fin k) (c : Fin l) (d : Fin o) :
    x (ix4 a b c d) = ((at4 x a.val b.val c.val d.val : ℝ) : EReal) := by
  unfold at4; rw [dif_pos ⟨a.isLt, b.isLt, c.isLt, d.isLt⟩]
  obtain ⟨r, hr⟩ := hx (ix4 a b c d)
  show _ = (((x (ix4 a b c d)).toReal : ℝ) : EReal)
  rw [hr]; rfl

/-- The arguments as reals: of the cotangent the attention's half, of the table its spread over row offsets and columns. -/
def arrOf (q k v : (⟨2, ![8192, 512]⟩ : Shape).Idx → EReal) (t : (⟨4, ![8, 15, 64, 64]⟩ : Shape).Idx → EReal) (dy : (⟨2, ![8192, 1024]⟩ : Shape).Idx → EReal) : Arr where
  q := at2 q
  k := at2 k
  v := at2 v
  o a b := at2 dy a (512 + b)
  t := at4 t

/-- The results at an index. -/
def Arr.dkA (A : Arr) (a b : ℕ) : ℝ := ∑ r ∈ Finset.range 128, A.dkT r a b
def Arr.dvA (A : Arr) (a b : ℕ) : ℝ := ∑ r ∈ Finset.range 128, A.dvT r a b
def Arr.dbA (A : Arr) (a h c : ℕ) : ℝ := ∑ r ∈ Finset.range 128, A.dbT r a h c

/-- The results as arrays; the table's gradient by groups of four heads. -/
def resQ (A : Arr) : (⟨2, ![8192, 512]⟩ : Shape).Idx → EReal := fun i => ((A.dq (i 0).val (i 1).val : ℝ) : EReal)
def resK (A : Arr) : (⟨2, ![8192, 512]⟩ : Shape).Idx → EReal := fun i => ((A.dkA (i 0).val (i 1).val : ℝ) : EReal)
def resV (A : Arr) : (⟨2, ![8192, 512]⟩ : Shape).Idx → EReal := fun i => ((A.dvA (i 0).val (i 1).val : ℝ) : EReal)
def resT (A : Arr) : (⟨3, ![2, 960, 256]⟩ : Shape).Idx → EReal := fun i => ((A.dbA (i 1).val (4 * (i 0).val + (i 2).val / 64) ((i 2).val % 64) : ℝ) : EReal)

/-- A sum over 128 rows by four runs of 32. -/
theorem sum_runs (f : ℕ → ℝ) : ∑ r ∈ Finset.range 128, f r = ∑ s : Fin 4, ∑ k ∈ Finset.range 32, f (32 * s.val + k) := by
  rw [Fin.sum_univ_four]
  have h : ∀ n, ∑ r ∈ Finset.range (n + 32), f r = ∑ r ∈ Finset.range n, f r + ∑ k ∈ Finset.range 32, f (n + k) := fun n => Finset.sum_range_add f n 32
  rw [show (128 : ℕ) = 0 + 32 + 32 + 32 + 32 from rfl, h, h, h, h]
  simp

end AttnSpec

end
-- ==== Proof.AttnValue.lean ====
/-
  The attention's backward kernel: its four result arrays in the closed form of the specification.
-/
module

public import proofs.«01_k».proof.Proof.AttnHost
public import proofs.«01_k».proof.Proof.AttnData
public import Idealize.ShloMosaic.Lib.Pipeline.ReadBack

@[expose] public section

set_option maxRecDepth 16384

noncomputable section

namespace Cert.AttnKernelIdeal.Body

open Idealize.ShloMosaic Idealize.ShloMosaic.TcCoe Idealize.ShloMosaic.Tactic Idealize.SL.Sem
open Idealize.ShloMosaic.Pipeline (Dat)
open Cert.AttnKernelIdeal Cert.AttnKernelIdeal.Gen
open AttnSpec

variable (m : (ℓ : Loc nD τ sig) → Buf (Elt Ideal) ℓ) (d : Dev nD)

/-- The arguments. -/
abbrev aq : FVec Ideal S8192x512 .f32 := StableHlo.launchContents m d main_arg0
abbrev ak : FVec Ideal S8192x512 .f32 := StableHlo.launchContents m d main_arg1
abbrev av : FVec Ideal S8192x512 .f32 := StableHlo.launchContents m d main_arg2
abbrev at_ : FVec Ideal S8x15x31 .f32 := StableHlo.launchContents m d main_arg3
abbrev ady : FVec Ideal S8192x1024 .f32 := StableHlo.launchContents m d main_arg4

/-- The arguments are real. -/
structure Args : Prop where
  q : AllReal (aq m d)
  k : AllReal (ak m d)
  v : AllReal (av m d)
  t : AllReal (at_ m d)
  o : AllReal (ady m d)

/-- The arguments as reals. -/
def arr : Arr := arrOf (aq m d) (ak m d) (av m d) (spread m d) (ady m d)

theorem idx : ∀ t : Fin cfg0.N, win0_0.index t = ![t.val % 4, t.val / 4] ∧ win0_1.index t = ![0, t.val / 4 + 2] ∧ win0_2.index t = ![0, t.val / 4 + 4]
    ∧ win0_3.index t = ![t.val / 4, 0, 0] ∧ win0_4.index t = ![t.val % 4, t.val / 4 + 2] ∧ win0_5.index t = ![t.val % 4, t.val / 4] ∧ win0_6.index t = ![0, t.val / 4]
    ∧ win0_7.index t = ![0, t.val / 4] ∧ win0_8.index t = ![t.val / 4, 0, 0] := by decide +kernel

theorem point_lt (t : Fin cfg0.N) : t.val < 8 := lt_of_lt_of_eq t.isLt (by decide)

theorem v1_q (a : Fin 8192) (b : Fin 1536) (h : b.val < 512) : (V m d main_v1 : FVec Ideal S8192x1536 .bf16) (ix2 a b) = aq m d (ix2 a ⟨b.val, h⟩) := by
  rw [v1_eq]; pointwise
  exact dif_pos h

theorem v1_k (a : Fin 8192) (b : Fin 1536) (h : 512 ≤ b.val) (h2 : b.val < 1024) : (V m d main_v1 : FVec Ideal S8192x1536 .bf16) (ix2 a b) = ak m d (ix2 a ⟨b.val - 512, by omega⟩) := by
  rw [v1_eq]; pointwise
  refine (dif_neg (by omega)).trans ((dif_pos (by omega)).trans ?_)
  rfl

theorem v1_v (a : Fin 8192) (b : Fin 1536) (h : 1024 ≤ b.val) : (V m d main_v1 : FVec Ideal S8192x1536 .bf16) (ix2 a b) = av m d (ix2 a ⟨b.val - 1024, by omega⟩) := by
  rw [v1_eq]; pointwise
  refine (dif_neg (by omega)).trans ((dif_neg (by omega)).trans ?_)
  exact congrArg _ (congrArg _ (Fin.ext (by show b.val - (512 + 512) = b.val - 1024; omega)))

theorem arg4_eq : V m d main_arg4 = ady m d := rfl

/-- The spread table is real where the table is. -/
theorem spread_real (H : AllReal (at_ m d)) : AllReal (spread m d) := by
  intro i
  obtain ⟨j, hj⟩ : ∃ j, spread m d i = at_ m d j := ⟨_, rfl⟩
  rw [hj]; exact H j

variable {m d}

theorem blk_q (t : Fin cfg0.N) (a : Fin 2048) (b : Fin 256) : (iblk m d 0 t : FVec Ideal S2048x256 .bf16) (ix2 a b)
    = (V m d main_v1 : FVec Ideal S8192x1536 .bf16) (ix2 ⟨2048 * (t.val % 4) + a.val, by omega⟩ ⟨256 * (t.val / 4) + b.val, by have := point_lt t; omega⟩) := by
  blk_point [iblk, idx t]
  all_goals omega
theorem blk_k (t : Fin cfg0.N) (a : Fin 8192) (b : Fin 256) : (iblk m d 1 t : FVec Ideal S8192x256 .bf16) (ix2 a b)
    = (V m d main_v1 : FVec Ideal S8192x1536 .bf16) (ix2 a ⟨512 + (256 * (t.val / 4) + b.val), by have := point_lt t; omega⟩) := by
  blk_point [iblk, idx t]
  all_goals omega
theorem blk_v (t : Fin cfg0.N) (a : Fin 8192) (b : Fin 256) : (iblk m d 2 t : FVec Ideal S8192x256 .bf16) (ix2 a b)
    = (V m d main_v1 : FVec Ideal S8192x1536 .bf16) (ix2 a ⟨1024 + (256 * (t.val / 4) + b.val), by have := point_lt t; omega⟩) := by
  blk_point [iblk, idx t]
  all_goals omega
theorem blk_b (t : Fin cfg0.N) (a : Fin 960) (p : Fin 256) : (iblk m d 3 t : FVec Ideal S1x960x256 .f32) (ix3 (0 : Fin 1) a p)
    = (V m d main_v37 : FVec Ideal S2x960x256 .f32) (ix3 ⟨t.val / 4, by have := point_lt t; omega⟩ a p) := by
  blk_point [iblk, idx t]
theorem blk_o (t : Fin cfg0.N) (a : Fin 2048) (b : Fin 256) : (iblk m d 4 t : FVec Ideal S2048x256 .f32) (ix2 a b)
    = ady m d (ix2 ⟨2048 * (t.val % 4) + a.val, by omega⟩ ⟨512 + (256 * (t.val / 4) + b.val), by have := point_lt t; omega⟩) := by
  rw [← arg4_eq]
  blk_point [iblk, idx t]
  all_goals omega

theorem rd_q (H : Args m d) (t : Fin cfg0.N) (a : Fin 2048) (b : Fin 256) : (iblk m d 0 t : FVec Ideal S2048x256 .bf16) (ix2 a b)
    = (((arr m d).q (2048 * (t.val % 4) + a.val) (256 * (t.val / 4) + b.val) : ℝ) : EReal) := by
  have := point_lt t
  rw [blk_q, v1_q m d _ _ (by show 256 * (t.val / 4) + b.val < 512; omega), at2_eq H.q]
  rfl

theorem rd_k (H : Args m d) (t : Fin cfg0.N) (a : Fin 8192) (b : Fin 256) : (iblk m d 1 t : FVec Ideal S8192x256 .bf16) (ix2 a b)
    = (((arr m d).k a.val (256 * (t.val / 4) + b.val) : ℝ) : EReal) := by
  have := point_lt t
  rw [blk_k, v1_k m d _ _ (by show 512 ≤ 512 + (256 * (t.val / 4) + b.val); omega) (by show 512 + (256 * (t.val / 4) + b.val) < 1024; omega), at2_eq H.k]
  exact congrArg (fun n : ℕ => ((at2 (ak m d) a.val n : ℝ) : EReal)) (Nat.add_sub_cancel_left ..)

theorem rd_v (H : Args m d) (t : Fin cfg0.N) (a : Fin 8192) (b : Fin 256) : (iblk m d 2 t : FVec Ideal S8192x256 .bf16) (ix2 a b)
    = (((arr m d).v a.val (256 * (t.val / 4) + b.val) : ℝ) : EReal) := by
  have := point_lt t
  rw [blk_v, v1_v m d _ _ (by show 1024 ≤ 1024 + (256 * (t.val / 4) + b.val); omega), at2_eq H.v]
  exact congrArg (fun n : ℕ => ((at2 (av m d) a.val n : ℝ) : EReal)) (Nat.add_sub_cancel_left ..)

theorem rd_b (H : Args m d) (t : Fin cfg0.N) (a : Fin 960) (p : Fin 256) : (iblk m d 3 t : FVec Ideal S1x960x256 .f32) (ix3 (0 : Fin 1) a p)
    = (if valid (p.val % 64) (a.val % 64) then (((arr m d).t (4 * (t.val / 4) + p.val / 64) (a.val / 64) (p.val % 64) (a.val % 64) : ℝ) : EReal) else ⊥ : EReal) := by
  rw [blk_b, v37_apply, at4_eq (spread_real m d H.t)]
  rfl

theorem rd_o (H : Args m d) (t : Fin cfg0.N) (a : Fin 2048) (b : Fin 256) : (iblk m d 4 t : FVec Ideal S2048x256 .f32) (ix2 a b)
    = (((arr m d).o (2048 * (t.val % 4) + a.val) (256 * (t.val / 4) + b.val) : ℝ) : EReal) := by
  rw [blk_o, at2_eq H.o]
  rfl

theorem ins_q (H : Args m d) (t : Fin cfg0.N) (a : Fin 2048) (b : Fin 256) : (ins m d t).q (ix2 a b) = (((arr m d).q (2048 * (t.val % 4) + a.val) (256 * (t.val / 4) + b.val) : ℝ) : EReal) := rd_q H t a b
theorem ins_k (H : Args m d) (t : Fin cfg0.N) (a : Fin 8192) (b : Fin 256) : (ins m d t).k (ix2 a b) = (((arr m d).k a.val (256 * (t.val / 4) + b.val) : ℝ) : EReal) := rd_k H t a b
theorem ins_v (H : Args m d) (t : Fin cfg0.N) (a : Fin 8192) (b : Fin 256) : (ins m d t).v (ix2 a b) = (((arr m d).v a.val (256 * (t.val / 4) + b.val) : ℝ) : EReal) := rd_v H t a b
theorem ins_b (H : Args m d) (t : Fin cfg0.N) (a : Fin 960) (p : Fin 256) : (ins m d t).b (ix3 (0 : Fin 1) a p)
    = (if valid (p.val % 64) (a.val % 64) then (((arr m d).t (4 * (t.val / 4) + p.val / 64) (a.val / 64) (p.val % 64) (a.val % 64) : ℝ) : EReal) else ⊥ : EReal) := rd_b H t a p
theorem ins_o (H : Args m d) (t : Fin cfg0.N) (a : Fin 2048) (b : Fin 256) : (ins m d t).o (ix2 a b) = (((arr m d).o (2048 * (t.val % 4) + a.val) (256 * (t.val / 4) + b.val) : ℝ) : EReal) := rd_o H t a b

/-- What the body reads at a point. -/
theorem holds (H : Args m d) (t : Fin cfg0.N) : Holds (arr m d) (t.val / 4) (t.val % 4) (ins m d t) :=
  Holds.mk (ins_q H t) (ins_k H t) (ins_v H t) (ins_b H t) (ins_o H t)

/-! ## The accumulators -/

theorem step_dk (x : Ins Ideal) (i : grid0.Coords) (a : Acc Ideal) : (a.step x i).dk = dkAt x i a.dk 32 := by unfold Acc.step; dsimp only
theorem step_dv (x : Ins Ideal) (i : grid0.Coords) (a : Acc Ideal) : (a.step x i).dv = dvAt x i a.dv 32 := by unfold Acc.step; dsimp only
theorem step_db (x : Ins Ideal) (i : grid0.Coords) (a : Acc Ideal) : (a.step x i).db = dbAt x i a.db 32 := by unfold Acc.step; dsimp only

theorem step_k (H : Args m d) (t : Fin cfg0.N) (f : Acc Ideal) (a : Fin 8192) (b : Fin 256) : (f.step (ins m d t) (grid0.coords t)).dk (ix2 a b)
    = f.dk (ix2 a b) + ((∑ k ∈ Finset.range 32, (arr m d).dkT (32 * (t.val % 4) + k) a.val (256 * (t.val / 4) + b.val) : ℝ) : EReal) := by
  have h := holds H t
  generalize ins m d t = x at h
  rw [step_dk]
  exact dkAt_eq t h f.dk a b 32 le_rfl

theorem step_v (H : Args m d) (t : Fin cfg0.N) (f : Acc Ideal) (a : Fin 8192) (b : Fin 256) : (f.step (ins m d t) (grid0.coords t)).dv (ix2 a b)
    = f.dv (ix2 a b) + ((∑ k ∈ Finset.range 32, (arr m d).dvT (32 * (t.val % 4) + k) a.val (256 * (t.val / 4) + b.val) : ℝ) : EReal) := by
  have h := holds H t
  generalize ins m d t = x at h
  rw [step_dv]
  exact dvAt_eq t h f.dv a b 32 le_rfl

theorem step_b (H : Args m d) (t : Fin cfg0.N) (f : Acc Ideal) (a : Fin 960) (p : Fin 256) : (f.step (ins m d t) (grid0.coords t)).db (ix3 (0 : Fin 1) a p)
    = f.db (ix3 (0 : Fin 1) a p) + ((∑ k ∈ Finset.range 32, (arr m d).dbT (32 * (t.val % 4) + k) a.val (4 * (t.val / 4) + p.val / 64) (p.val % 64) : ℝ) : EReal) := by
  have h := holds H t
  generalize ins m d t = x at h
  rw [step_db]
  exact dbAt_eq t h f.db a p 32 le_rfl

/-- What a group has gathered at its last point. -/
theorem acc_last {ι : Type} (f : Acc Ideal → ι → EReal) (z : ∀ i, f Acc.zero i = 0) (T : ℕ → ℕ → ι → ℝ)
    (st : ∀ (t : Fin cfg0.N) (x : Acc Ideal) i, f (x.step (ins m d t) (grid0.coords t)) i = f x i + ((∑ k ∈ Finset.range 32, T (t.val / 4) (32 * (t.val % 4) + k) i : ℝ) : EReal))
    (t : Fin cfg0.N) (h : t.val % 4 = 3) (i : ι) : f (accAt m d t.val t.isLt) i = ((∑ r ∈ Finset.range 128, T (t.val / 4) r i : ℝ) : EReal) := by
  rw [Pipeline.eq_sum_fin_of_reset_step_apply_of_flush (fun n h => f (accAt m d n h)) 4 (fun _ => 0)
    (fun s i => ((∑ k ∈ Finset.range 32, T (s.val / 4) (32 * (s.val % 4) + k) i : ℝ) : EReal))
    (fun s hs i => by rw [accAt_first m d s hs, st, z])
    (fun s hs i => by rw [accAt_next m d s hs, st]) t h i, zero_add, sum_runs, coe_sum]
  refine Finset.sum_congr rfl fun s _ => ?_
  have e1 : (4 * (t.val / 4) + s.val) / 4 = t.val / 4 := by omega
  have e2 : (4 * (t.val / 4) + s.val) % 4 = s.val := by omega
  simp only [e1, e2]

/-! ## The results -/

theorem zero_k (i : S8192x256.Idx) : (Acc.zero (F := Ideal)).dk i = 0 := by
  unfold Acc.zero; dsimp only; pointwise [k0_pay5]
theorem zero_v (i : S8192x256.Idx) : (Acc.zero (F := Ideal)).dv i = 0 := by
  unfold Acc.zero; dsimp only; pointwise [k0_pay6]
theorem zero_b (i : S1x960x256.Idx) : (Acc.zero (F := Ideal)).db i = 0 := by
  unfold Acc.zero; dsimp only; pointwise [k0_pay7]

theorem dqOut_at (H : Args m d) (t : Fin cfg0.N) (a : Fin 2048) (b : Fin 256) : dqOut m d t (ix2 a b) = (((arr m d).dq (2048 * (t.val % 4) + a.val) (256 * (t.val / 4) + b.val) : ℝ) : EReal) := by
  have h := holds H t
  unfold dqOut
  generalize ins m d t = x at h
  exact dqAt_eq t h x.q a b 32 le_rfl (by omega)

theorem dk_last (H : Args m d) (t : Fin cfg0.N) (h : t.val % 4 = 3) (a : Fin 8192) (b : Fin 256) :
    (accAt m d t.val t.isLt).dk (ix2 a b) = (((arr m d).dkA a.val (256 * (t.val / 4) + b.val) : ℝ) : EReal) :=
  acc_last (fun x (i : Fin 8192 × Fin 256) => x.dk (ix2 i.1 i.2)) (fun i => zero_k _) (fun g r i => (arr m d).dkT r i.1.val (256 * g + i.2.val))
    (fun t x i => step_k H t x i.1 i.2) t h (a, b)

theorem dv_last (H : Args m d) (t : Fin cfg0.N) (h : t.val % 4 = 3) (a : Fin 8192) (b : Fin 256) :
    (accAt m d t.val t.isLt).dv (ix2 a b) = (((arr m d).dvA a.val (256 * (t.val / 4) + b.val) : ℝ) : EReal) :=
  acc_last (fun x (i : Fin 8192 × Fin 256) => x.dv (ix2 i.1 i.2)) (fun i => zero_v _) (fun g r i => (arr m d).dvT r i.1.val (256 * g + i.2.val))
    (fun t x i => step_v H t x i.1 i.2) t h (a, b)

theorem db_last (H : Args m d) (t : Fin cfg0.N) (h : t.val % 4 = 3) (a : Fin 960) (p : Fin 256) :
    (accAt m d t.val t.isLt).db (ix3 (0 : Fin 1) a p) = (((arr m d).dbA a.val (4 * (t.val / 4) + p.val / 64) (p.val % 64) : ℝ) : EReal) :=
  acc_last (fun x (i : Fin 960 × Fin 256) => x.db (ix3 (0 : Fin 1) i.1 i.2)) (fun i => zero_b _) (fun g r i => (arr m d).dbT r i.1.val (4 * g + i.2.val / 64) (i.2.val % 64))
    (fun t x i => step_b H t x i.1 i.2) t h (a, p)

theorem eta {n k : ℕ} (y : (⟨2, ![n, k]⟩ : Shape).Idx) : ∃ (a : Fin n) (b : Fin k), y = ix2 a b := ⟨y 0, y 1, (ix2_eta y).symm⟩

/-- The gradient of the queries. -/
theorem final0 (H : Args m d) : (dats m 0 d).arrAt 5 (cfgs 0).N = resQ (arr m d) := by
  refine (dats m 0 d).arrAt_eq_of_covers 5 _ (by decide +kernel) fun t hf y => ?_
  blk_simp
  rw [after5]
  obtain ⟨a, b, rfl⟩ : ∃ (a : Fin 2048) (b : Fin 256), y = ix2 a b := eta y
  have ey : ((View.whole main_v38_0).slice (win0_5.rect t)).emb (ix2 a b) = ix2 (⟨2048 * (t.val % 4) + a.val, by omega⟩ : Fin 8192) (⟨256 * (t.val / 4) + b.val, by have := point_lt t; omega⟩ : Fin 512) := by
    blk_ext [idx t]
    all_goals omega
  rw [ey]
  exact dqOut_at H t a b

/-- The gradient of the keys. -/
theorem final1 (H : Args m d) : (dats m 0 d).arrAt 6 (cfgs 0).N = resK (arr m d) := by
  refine (dats m 0 d).arrAt_eq_of_covers 6 _ (by decide +kernel) fun t hf y => ?_
  blk_simp
  rw [after6]
  obtain ⟨a, b, rfl⟩ : ∃ (a : Fin 8192) (b : Fin 256), y = ix2 a b := eta y
  have ey : ((View.whole main_v38_1).slice (win0_6.rect t)).emb (ix2 a b) = ix2 a (⟨256 * (t.val / 4) + b.val, by have := point_lt t; omega⟩ : Fin 512) := by
    blk_ext [idx t]
    all_goals omega
  rw [ey]
  exact dk_last H t ((flush0_6 t).mp hf) a b

/-- The gradient of the values. -/
theorem final2 (H : Args m d) : (dats m 0 d).arrAt 7 (cfgs 0).N = resV (arr m d) := by
  refine (dats m 0 d).arrAt_eq_of_covers 7 _ (by decide +kernel) fun t hf y => ?_
  blk_simp
  rw [after7]
  obtain ⟨a, b, rfl⟩ : ∃ (a : Fin 8192) (b : Fin 256), y = ix2 a b := eta y
  have ey : ((View.whole main_v38_2).slice (win0_7.rect t)).emb (ix2 a b) = ix2 a (⟨256 * (t.val / 4) + b.val, by have := point_lt t; omega⟩ : Fin 512) := by
    blk_ext [idx t]
    all_goals omega
  rw [ey]
  exact dv_last H t ((flush0_7 t).mp hf) a b

/-- The gradient of the spread table. -/
theorem final3 (H : Args m d) : (dats m 0 d).arrAt 8 (cfgs 0).N = resT (arr m d) := by
  refine (dats m 0 d).arrAt_eq_of_covers 8 _ (by decide +kernel) fun t hf y => ?_
  blk_simp
  rw [after8]
  obtain ⟨z, a, p, rfl⟩ : ∃ (z : Fin 1) (a : Fin 960) (p : Fin 256), y = ix3 z a p := ⟨y 0, y 1, y 2, by funext k; fin_cases k <;> rfl⟩
  obtain rfl : z = 0 := Subsingleton.elim _ _
  have ey : ((View.whole main_v38_3).slice (win0_8.rect t)).emb (ix3 (0 : Fin 1) a p) = ix3 (⟨t.val / 4, by have := point_lt t; omega⟩ : Fin 2) a p := by
    blk_ext [idx t]
  rw [ey]
  exact db_last H t ((flush0_8 t).mp hf) a p

end Cert.AttnKernelIdeal.Body

end
-- ==== Proof.AttnOps.lean ====
/-
  The attention's reference: its reductions over a row of eight by sixty-four keys, its gathers of rows and its scatters
  that add rows, read at an index.
-/
module

public import proofs.«01_k».proof.Proof.AttnSpec
public import proofs.«01_k».proof.Proof.Gen.AttnReferenceIdeal.Run
public import proofs.«01_k».proof.Proof.Gen.AttnReferenceIdeal.Read
public import Idealize.ShloMosaic.Lib.Pipeline.ValueKit
public import Idealize.ShloMosaic.Lib.Routing.OpsSet

@[expose] public section

set_option maxRecDepth 16384

noncomputable section

namespace Cert.AttnReferenceIdeal.Ref

open Idealize.ShloMosaic Idealize.ShloMosaic.TcCoe Idealize.ShloMosaic.Tactic
open Cert.AttnReferenceIdeal
open AttnSpec

/-- The elements that a reduction over the keys gathers at one query. -/
theorem drop_keys (h' : S1x8x128x64x8x64.ReducesTo [4, 5] S1x8x128x64) (i : S1x8x128x64x8x64.Idx) (h : Fin 8) (r : Fin 128) (c : Fin 64) :
    h'.drop i = ix4 0 h r c ↔ i = ix6 0 h r c (i 4) (i 5) := by
  constructor
  · intro e
    have e1 := congrFun e 1
    have e2 := congrFun e 2
    have e3 := congrFun e 3
    funext a
    match a with
    | ⟨0, _⟩ => exact Subsingleton.elim (α := Fin 1) _ _
    | ⟨1, _⟩ => exact e1
    | ⟨2, _⟩ => exact e2
    | ⟨3, _⟩ => exact e3
    | ⟨4, _⟩ => rfl
    | ⟨5, _⟩ => rfl
  · intro e
    rw [e]
    funext b
    match b with
    | ⟨0, _⟩ => rfl
    | ⟨1, _⟩ => rfl
    | ⟨2, _⟩ => rfl
    | ⟨3, _⟩ => rfl

/-- A sum over the keys. -/
theorem sum_keys2 (h' : S1x8x128x64x8x64.ReducesTo [4, 5] S1x8x128x64) (x : FVec Ideal S1x8x128x64x8x64 .f32) (h : Fin 8) (r : Fin 128) (c : Fin 64) :
    Ideal.hostReduceAdd h' x 0 (ix4 0 h r c) = ∑ i : Fin 8, ∑ k : Fin 64, x (ix6 0 h r c i k) := by
  unfold Ideal.hostReduceAdd
  rw [zero_add, ← Fintype.sum_prod_type' (f := fun (i : Fin 8) (k : Fin 64) => x (ix6 0 h r c i k))]
  refine Finset.sum_nbij' (fun i => ((i 4, i 5) : Fin 8 × Fin 64)) (fun p => ix6 0 h r c p.1 p.2) ?_ ?_ ?_ ?_ ?_
  · exact fun _ _ => Finset.mem_univ _
  · exact fun p _ => Finset.mem_filter.mpr ⟨Finset.mem_univ _, (drop_keys h' _ h r c).mpr rfl⟩
  · exact fun i hi => ((drop_keys h' i h r c).mp (Finset.mem_filter.mp hi).2).symm
  · exact fun p _ => rfl
  · exact fun i hi => congrArg x ((drop_keys h' i h r c).mp (Finset.mem_filter.mp hi).2)

/-- A largest element over the keys is real where no element is plus infinity and one is real. -/
theorem max_keys (h' : S1x8x128x64x8x64.ReducesTo [4, 5] S1x8x128x64) (x : FVec Ideal S1x8x128x64x8x64 .f32) (init : FVec Ideal S_ .f32) (hu : 0 < S_.numel)
    (hi : init (Shape.Idx.first hu) = ⊥) (h : Fin 8) (r : Fin 128) (c : Fin 64) (hx : ∀ i k, x (ix6 0 h r c i k) ≠ ⊤) (i : Fin 8) (k : Fin 64) (hb : x (ix6 0 h r c i k) ≠ ⊥) :
    ∃ M : ℝ, Host.reduce (FloatOps.maximumf : Ideal .f32 → Ideal .f32 → Ideal .f32) x init h' hu (ix4 0 h r c) = ((M : ℝ) : EReal) := by
  obtain ⟨M, hM⟩ := fold_max_real (Finset.univ.filter fun i => h'.drop i = ix4 0 h r c) x
    (fun i hi => by rw [(drop_keys h' i h r c).mp (Finset.mem_filter.mp hi).2]; exact hx _ _) (ix6 0 h r c i k)
    (Finset.mem_filter.mpr ⟨Finset.mem_univ _, (drop_keys h' _ h r c).mpr rfl⟩) hb
  refine ⟨M, ?_⟩
  rw [← hM, ← hi]
  exact Host.reduce_eq_fold (max : EReal → EReal → EReal) x init h' hu (ix4 0 h r c)

/-- A sum over axes of size one. -/
theorem sum_row1 (h' : S1x8x128x64x8x64.ReducesTo [0] S8x128x64x8x64) (x : FVec Ideal S1x8x128x64x8x64 .f32) (h : Fin 8) (r : Fin 128) (c : Fin 64) (i : Fin 8) (k : Fin 64) :
    Ideal.hostReduceAdd h' x 0 (ix5 h r c i k) = x (ix6 0 h r c i k) := by
  unfold Ideal.hostReduceAdd
  rw [zero_add, Finset.sum_eq_single_of_mem (ix6 0 h r c i k)]
  · refine Finset.mem_filter.mpr ⟨Finset.mem_univ _, ?_⟩
    funext b
    match b with
    | ⟨0, _⟩ => rfl
    | ⟨1, _⟩ => rfl
    | ⟨2, _⟩ => rfl
    | ⟨3, _⟩ => rfl
    | ⟨4, _⟩ => rfl
  · intro i hi hne
    exfalso
    apply hne
    have e := (Finset.mem_filter.mp hi).2
    have e0 := congrFun e 0
    have e1 := congrFun e 1
    have e2 := congrFun e 2
    have e3 := congrFun e 3
    have e4 := congrFun e 4
    funext b
    match b with
    | ⟨0, _⟩ => exact Subsingleton.elim (α := Fin 1) _ _
    | ⟨1, _⟩ => exact e0
    | ⟨2, _⟩ => exact e1
    | ⟨3, _⟩ => exact e2
    | ⟨4, _⟩ => exact e3
    | ⟨5, _⟩ => exact e4

theorem sum_row3 (h' : S1x8x128x64x1x1.ReducesTo [0, 4, 5] S8x128x64) (x : FVec Ideal S1x8x128x64x1x1 .f32) (h : Fin 8) (r : Fin 128) (c : Fin 64) :
    Ideal.hostReduceAdd h' x 0 (ix3 h r c) = x (ix6 0 h r c 0 0) := by
  unfold Ideal.hostReduceAdd
  rw [zero_add, Finset.sum_eq_single_of_mem (ix6 0 h r c 0 0)]
  · refine Finset.mem_filter.mpr ⟨Finset.mem_univ _, ?_⟩
    funext b
    match b with
    | ⟨0, _⟩ => rfl
    | ⟨1, _⟩ => rfl
    | ⟨2, _⟩ => rfl
  · intro i hi hne
    exfalso
    apply hne
    have e := (Finset.mem_filter.mp hi).2
    have e0 := congrFun e 0
    have e1 := congrFun e 1
    have e2 := congrFun e 2
    funext b
    match b with
    | ⟨0, _⟩ => exact Subsingleton.elim (α := Fin 1) _ _
    | ⟨1, _⟩ => exact e0
    | ⟨2, _⟩ => exact e1
    | ⟨3, _⟩ => exact e2
    | ⟨4, _⟩ => exact Subsingleton.elim (α := Fin 1) _ _
    | ⟨5, _⟩ => exact Subsingleton.elim (α := Fin 1) _ _

variable [Facts₀]

/-- A gather of rows of keys: the operand's row that the table names. -/
theorem gather_keys (x : FVec Ideal S1x128x64x8x64 .f32) (idx : IVec S128x8x1 32) (r : Fin 128) (i : Fin 8) (k : Fin 64) (h : Fin 8) (d : Fin 64) (R : Fin 128)
    (hp : (idx (ix3 r i 0)).toInt = R.val) :
    Host.gather gather_S1x128x64x8x64_S128x8x1_S1x128x8x64x8x64_0345_1_n_n_1_2_1164864 x idx (ix6 0 r i k h d) = x (ix5 0 R k h d) := by
  unfold Host.gather
  refine congrArg x (funext fun a => Fin.ext ?_)
  match a with
  | ⟨0, _⟩ => rfl
  | ⟨1, _⟩ =>
    show min (idx _).toInt.toNat (128 - 1) + 0 + 0 = R.val
    have e : (idx (ix3 r i 0)).toInt.toNat = R.val := by rw [hp]; rfl
    rw [show (idx _) = idx (ix3 r i 0) from congrArg idx (by funext b; match b with | ⟨0, _⟩ => rfl | ⟨1, _⟩ => rfl | ⟨2, _⟩ => rfl), e]
    omega
  | ⟨2, _⟩ => show 0 + 0 + k.val = k.val; omega
  | ⟨3, _⟩ => show 0 + 0 + h.val = h.val; omega
  | ⟨4, _⟩ => show 0 + 0 + d.val = d.val; omega

/-- A gather of the spread table: the row offset that the table of offsets names. -/
theorem gather_bias (x : FVec Ideal S8x15x64x64 .f32) (idx : IVec S128x8x1 32) (h : Fin 8) (r : Fin 128) (i : Fin 8) (c k : Fin 64) (a : Fin 15)
    (hp : (idx (ix3 r i 0)).toInt = a.val) :
    Host.gather gather_S8x15x64x64_S128x8x1_S8x128x8x64x64_034_1_n_n_1_2_816464 x idx (ix5 h r i c k) = x (ix4 h a c k) := by
  unfold Host.gather
  refine congrArg x (funext fun b => Fin.ext ?_)
  match b with
  | ⟨0, _⟩ => show 0 + 0 + h.val = h.val; omega
  | ⟨1, _⟩ =>
    show min (idx _).toInt.toNat (15 - 1) + 0 + 0 = a.val
    have e : (idx (ix3 r i 0)).toInt.toNat = a.val := by rw [hp]; rfl
    rw [show (idx _) = idx (ix3 r i 0) from congrArg idx (by funext b; match b with | ⟨0, _⟩ => rfl | ⟨1, _⟩ => rfl | ⟨2, _⟩ => rfl), e]
    omega
  | ⟨2, _⟩ => show 0 + 0 + c.val = c.val; omega
  | ⟨3, _⟩ => show 0 + 0 + k.val = k.val; omega

theorem keys_at (idx : IVec S128x8x1 32) (u : S1x128x8x64x8x64.Idx) (R : Fin 128) (k : Fin 64) (h : Fin 8) (d : Fin 64) :
    scatter_S1x128x64x8x64_S128x8x1_S1x128x8x64x8x64_0345_1_1_2.resultIdx? u idx = some (ix5 0 R k h d) ↔
      (idx (ix3 (u 1) (u 2) 0)).toInt = R.val ∧ u = ix6 0 (u 1) (u 2) k h d := by
  rw [Routing.resultIdx?_eq_some]
  have e0 : scatter_S1x128x64x8x64_S128x8x1_S1x128x8x64x8x64_0345_1_1_2.start u idx 1 = (idx (ix3 (u 1) (u 2) 0)).toInt :=
    congrArg (fun i => (idx i).toInt) (by funext b; match b with | ⟨0, _⟩ => rfl | ⟨1, _⟩ => rfl | ⟨2, _⟩ => rfl)
  constructor
  · intro e
    have e1 := e 1
    have e2 : (0 : ℤ) + ((u 3).val : ℤ) = (k.val : ℤ) := e 2
    have e3 : (0 : ℤ) + ((u 4).val : ℤ) = (h.val : ℤ) := e 3
    have e4 : (0 : ℤ) + ((u 5).val : ℤ) = (d.val : ℤ) := e 4
    rw [e0] at e1
    refine ⟨(add_zero _).symm.trans e1, ?_⟩
    funext a
    match a with
    | ⟨0, _⟩ => exact Subsingleton.elim (α := Fin 1) _ _
    | ⟨1, _⟩ => rfl
    | ⟨2, _⟩ => rfl
    | ⟨3, _⟩ => exact Fin.ext (show (u 3).val = k.val by omega)
    | ⟨4, _⟩ => exact Fin.ext (show (u 4).val = h.val by omega)
    | ⟨5, _⟩ => exact Fin.ext (show (u 5).val = d.val by omega)
  · rintro ⟨h1, h2⟩ a
    match a with
    | ⟨0, _⟩ =>
      have : (u 0).val = 0 := by have : (u 0).val < 1 := (u 0).isLt; omega
      show (0 : ℤ) + ((u 0).val : ℤ) = 0
      omega
    | ⟨1, _⟩ => exact (congrArg (· + (0 : ℤ)) e0).trans ((add_zero _).trans h1)
    | ⟨2, _⟩ =>
      have : (u 3).val = k.val := congrArg Fin.val (congrFun h2 3)
      show (0 : ℤ) + ((u 3).val : ℤ) = k.val
      omega
    | ⟨3, _⟩ =>
      have : (u 4).val = h.val := congrArg Fin.val (congrFun h2 4)
      show (0 : ℤ) + ((u 4).val : ℤ) = h.val
      omega
    | ⟨4, _⟩ =>
      have : (u 5).val = d.val := congrArg Fin.val (congrFun h2 5)
      show (0 : ℤ) + ((u 5).val : ℤ) = d.val
      omega

/-- A scatter that adds rows of keys, at one element. -/
theorem scatter_keys (x : FVec Ideal S1x128x64x8x64 .f32) (idx : IVec S128x8x1 32) (upd : FVec Ideal S1x128x8x64x8x64 .f32) (R : Fin 128) (k : Fin 64) (h : Fin 8) (d : Fin 64) :
    Host.scatterAdd scatter_S1x128x64x8x64_S128x8x1_S1x128x8x64x8x64_0345_1_1_2 x idx upd (ix5 0 R k h d) =
      (x (ix5 0 R k h d) + ∑ r : Fin 128, ∑ i : Fin 8, if (idx (ix3 r i 0)).toInt = R.val then upd (ix6 0 r i k h d) else 0 : EReal) := by
  unfold Host.scatterAdd
  rw [Ideal.hostScatterAdd_def]
  unfold Ideal.hostScatterAdd
  refine congrArg (fun e : EReal => (x (ix5 0 R k h d) : EReal) + e) ?_
  rw [← Fintype.sum_prod_type' (f := fun (r : Fin 128) (i : Fin 8) => if (idx (ix3 r i 0)).toInt = R.val then upd (ix6 0 r i k h d) else (0 : EReal)), ← Finset.sum_filter]
  refine Finset.sum_nbij' (fun u => ((u 1, u 2) : Fin 128 × Fin 8)) (fun p => ix6 0 p.1 p.2 k h d) ?_ ?_ ?_ ?_ ?_
  · exact fun u hu => Finset.mem_filter.mpr ⟨Finset.mem_univ _, ((keys_at idx u R k h d).mp (Finset.mem_filter.mp hu).2).1⟩
  · exact fun p hp => Finset.mem_filter.mpr ⟨Finset.mem_univ _, (keys_at idx _ R k h d).mpr ⟨(Finset.mem_filter.mp hp).2, rfl⟩⟩
  · exact fun u hu => ((keys_at idx u R k h d).mp (Finset.mem_filter.mp hu).2).2.symm
  · exact fun p _ => rfl
  · exact fun u hu => congrArg upd ((keys_at idx u R k h d).mp (Finset.mem_filter.mp hu).2).2

theorem bias_at (idx : IVec S128x8x1 32) (u : S8x128x8x64x64.Idx) (h : Fin 8) (a : Fin 15) (c k : Fin 64) :
    scatter_S8x15x64x64_S128x8x1_S8x128x8x64x64_034_1_1_2.resultIdx? u idx = some (ix4 h a c k) ↔
      (idx (ix3 (u 1) (u 2) 0)).toInt = a.val ∧ u = ix5 h (u 1) (u 2) c k := by
  rw [Routing.resultIdx?_eq_some]
  have e0 : scatter_S8x15x64x64_S128x8x1_S8x128x8x64x64_034_1_1_2.start u idx 1 = (idx (ix3 (u 1) (u 2) 0)).toInt :=
    congrArg (fun i => (idx i).toInt) (by funext b; match b with | ⟨0, _⟩ => rfl | ⟨1, _⟩ => rfl | ⟨2, _⟩ => rfl)
  constructor
  · intro e
    have e1 := e 1
    have e2 : (0 : ℤ) + ((u 0).val : ℤ) = (h.val : ℤ) := e 0
    have e3 : (0 : ℤ) + ((u 3).val : ℤ) = (c.val : ℤ) := e 2
    have e4 : (0 : ℤ) + ((u 4).val : ℤ) = (k.val : ℤ) := e 3
    rw [e0] at e1
    refine ⟨(add_zero _).symm.trans e1, ?_⟩
    funext b
    match b with
    | ⟨0, _⟩ => exact Fin.ext (show (u 0).val = h.val by omega)
    | ⟨1, _⟩ => rfl
    | ⟨2, _⟩ => rfl
    | ⟨3, _⟩ => exact Fin.ext (show (u 3).val = c.val by omega)
    | ⟨4, _⟩ => exact Fin.ext (show (u 4).val = k.val by omega)
  · rintro ⟨h1, h2⟩ b
    match b with
    | ⟨0, _⟩ =>
      have : (u 0).val = h.val := congrArg Fin.val (congrFun h2 0)
      show (0 : ℤ) + ((u 0).val : ℤ) = h.val
      omega
    | ⟨1, _⟩ => exact (congrArg (· + (0 : ℤ)) e0).trans ((add_zero _).trans h1)
    | ⟨2, _⟩ =>
      have : (u 3).val = c.val := congrArg Fin.val (congrFun h2 3)
      show (0 : ℤ) + ((u 3).val : ℤ) = c.val
      omega
    | ⟨3, _⟩ =>
      have : (u 4).val = k.val := congrArg Fin.val (congrFun h2 4)
      show (0 : ℤ) + ((u 4).val : ℤ) = k.val
      omega

/-- A scatter that adds rows of the table, at one element. -/
theorem scatter_bias (x : FVec Ideal S8x15x64x64 .f32) (idx : IVec S128x8x1 32) (upd : FVec Ideal S8x128x8x64x64 .f32) (h : Fin 8) (a : Fin 15) (c k : Fin 64) :
    Host.scatterAdd scatter_S8x15x64x64_S128x8x1_S8x128x8x64x64_034_1_1_2 x idx upd (ix4 h a c k) =
      (x (ix4 h a c k) + ∑ r : Fin 128, ∑ i : Fin 8, if (idx (ix3 r i 0)).toInt = a.val then upd (ix5 h r i c k) else 0 : EReal) := by
  unfold Host.scatterAdd
  rw [Ideal.hostScatterAdd_def]
  unfold Ideal.hostScatterAdd
  refine congrArg (fun e : EReal => (x (ix4 h a c k) : EReal) + e) ?_
  rw [← Fintype.sum_prod_type' (f := fun (r : Fin 128) (i : Fin 8) => if (idx (ix3 r i 0)).toInt = a.val then upd (ix5 h r i c k) else (0 : EReal)), ← Finset.sum_filter]
  refine Finset.sum_nbij' (fun u => ((u 1, u 2) : Fin 128 × Fin 8)) (fun p => ix5 h p.1 p.2 c k) ?_ ?_ ?_ ?_ ?_
  · exact fun u hu => Finset.mem_filter.mpr ⟨Finset.mem_univ _, ((bias_at idx u h a c k).mp (Finset.mem_filter.mp hu).2).1⟩
  · exact fun p hp => Finset.mem_filter.mpr ⟨Finset.mem_univ _, (bias_at idx _ h a c k).mpr ⟨(Finset.mem_filter.mp hp).2, rfl⟩⟩
  · exact fun u hu => ((bias_at idx u h a c k).mp (Finset.mem_filter.mp hu).2).2.symm
  · exact fun p _ => rfl
  · exact fun u hu => congrArg upd ((bias_at idx u h a c k).mp (Finset.mem_filter.mp hu).2).2

end Cert.AttnReferenceIdeal.Ref

end
-- ==== Proof.AttnRef.lean ====
/-
  The attention's reference: its forward values at an index, in the reals.
-/
module

public import proofs.«01_k».proof.Proof.AttnOps
public import proofs.«01_k».proof.Proof.AttnData

@[expose] public section

set_option maxRecDepth 16384

noncomputable section

namespace Cert.AttnReferenceIdeal.Ref

open Idealize.ShloMosaic Idealize.ShloMosaic.TcCoe Idealize.ShloMosaic.Tactic
open Cert.AttnReferenceIdeal Cert.AttnReferenceIdeal.Gen Cert.AttnReferenceIdeal.Read
open AttnSpec

variable (q k v : FVec Ideal S8192x512 .f32) (t : FVec Ideal S8x15x31 .f32) (dy : FVec Ideal S8192x1024 .f32)

/-- The arguments as reals. -/
abbrev A : Arr := arrOf q k v (val_main_v15 (F := Ideal) t) dy

structure Args : Prop where
  q : AllReal q
  k : AllReal k
  v : AllReal v
  t : AllReal t
  o : AllReal dy

theorem t_real (H : AllReal t) : AllReal (val_main_v15 (F := Ideal) t) := by
  intro i
  obtain ⟨j, hj⟩ : ∃ j, val_main_v15 (F := Ideal) t i = t j := ⟨_, rfl⟩
  rw [hj]; exact H j

/-- The rows of keys that a row looks at. -/
theorem rows_val (r : Fin 128) (i : Fin 8) : (val_main_v37 (F := Ideal) (ix3 r i 0)).toInt = ((rs r.val + i.val : ℕ) : ℤ) := by
  have key : ∀ (r : Fin 128) (i : Fin 8), (val_main_v37 (F := Ideal) (ix3 r i 0)).toInt = ((rs r.val + i.val : ℕ) : ℤ) := by decide +kernel
  exact key r i

theorem rows_val' : val_main_v44 (F := Ideal) = val_main_v37 (F := Ideal) := rfl

theorem offs_val (r : Fin 128) (i : Fin 8) : (val_main_v73 (F := Ideal) (ix3 r i 0)).toInt = ((rs r.val + 7 - r.val + i.val : ℕ) : ℤ) := by
  have key : ∀ (r : Fin 128) (i : Fin 8), (val_main_v73 (F := Ideal) (ix3 r i 0)).toInt = ((rs r.val + 7 - r.val + i.val : ℕ) : ℤ) := by decide +kernel
  exact key r i

theorem seen_val (c k : Fin 64) : val_main_v62 (F := Ideal) (ix2 c k) = if valid c.val k.val then 1#1 else 0#1 := by
  have key : ∀ (c k : Fin 64), val_main_v62 (F := Ideal) (ix2 c k) = if valid c.val k.val then 1#1 else 0#1 := by decide +kernel
  exact key c k

variable {q k v t dy}

theorem at_head {x : FVec Ideal S8192x512 .f32} (hx : AllReal x) (R c h d : ℕ) (h1 : R * 64 + c < 8192) (h2 : h * 64 + d < 512) :
    x (ix2 ⟨R * 64 + c, h1⟩ ⟨h * 64 + d, h2⟩) = ((at2 x (64 * R + c) (64 * h + d) : ℝ) : EReal) := by
  rw [at2_eq hx, Nat.mul_comm 64 R, Nat.mul_comm 64 h]

theorem v19_at (H : AllReal q) (r : Fin 128) (c : Fin 64) (h : Fin 8) (d : Fin 64) : val_main_v19 (F := Ideal) q (ix5 0 r c h d) = ((at2 q (64 * r.val + c.val) (64 * h.val + d.val) : ℝ) : EReal) := by
  pointwise [val_main_v19, val_main_v16]
  exact at_head H ..

theorem v20_at (H : AllReal k) (r : Fin 128) (c : Fin 64) (h : Fin 8) (d : Fin 64) : val_main_v20 (F := Ideal) k (ix5 0 r c h d) = ((at2 k (64 * r.val + c.val) (64 * h.val + d.val) : ℝ) : EReal) := by
  pointwise [val_main_v20, val_main_v17]
  exact at_head H ..

theorem v21_at (H : AllReal v) (r : Fin 128) (c : Fin 64) (h : Fin 8) (d : Fin 64) : val_main_v21 (F := Ideal) v (ix5 0 r c h d) = ((at2 v (64 * r.val + c.val) (64 * h.val + d.val) : ℝ) : EReal) := by
  pointwise [val_main_v21, val_main_v18]
  exact at_head H ..

theorem row_key (r : ℕ) (i : Fin 8) (c : Fin 64) : 64 * (rs r + i.val) + c.val = 64 * rs r + (64 * i.val + c.val) := by omega

theorem v38_at (H : AllReal k) (r : Fin 128) (i : Fin 8) (c : Fin 64) (h : Fin 8) (d : Fin 64) : val_main_v38 (F := Ideal) k (ix6 0 r i c h d)
    = ((at2 k (64 * rs r.val + (64 * i.val + c.val)) (64 * h.val + d.val) : ℝ) : EReal) := by
  rw [← row_key]
  exact (gather_keys _ _ r i c h d ⟨rs r.val + i.val, by unfold rs; omega⟩ (rows_val r i)).trans (v20_at H ..)

theorem v45_at (H : AllReal v) (r : Fin 128) (i : Fin 8) (c : Fin 64) (h : Fin 8) (d : Fin 64) : val_main_v45 (F := Ideal) v (ix6 0 r i c h d)
    = ((at2 v (64 * rs r.val + (64 * i.val + c.val)) (64 * h.val + d.val) : ℝ) : EReal) := by
  rw [← row_key]
  exact (gather_keys _ _ r i c h d ⟨rs r.val + i.val, by unfold rs; omega⟩ (rows_val r i)).trans (v21_at H ..)

theorem v74_at (H : AllReal t) (h : Fin 8) (r : Fin 128) (i : Fin 8) (c k : Fin 64) : val_main_v74 (F := Ideal) t (ix5 h r i c k)
    = ((at4 (val_main_v15 (F := Ideal) t) h.val (rs r.val + 7 - r.val + i.val) c.val k.val : ℝ) : EReal) :=
  (gather_bias _ _ h r i c k ⟨rs r.val + 7 - r.val + i.val, by unfold rs; omega⟩ (offs_val r i)).trans (at4_eq (t_real t H) ..)

theorem eighth : Ideal.ofBits .f32 0x3E000000#32 = (((1 / 8 : ℝ)) : EReal) := by
  simp [Ideal.ofBits, Ideal.ieee, -EReal.coe_mul]; norm_num

theorem lowest : Ideal.ofBits .f32 0xFF800000#32 = ⊥ := by simp [Ideal.ofBits, Ideal.ieee]

/-- A number for each query, read at a key. -/
theorem spread_row (x : FVec Ideal S1x8x128x64 .f32) (h : Fin 8) (r : Fin 128) (c : Fin 64) (i : Fin 8) (j : Fin 64) :
    broadcastInDim S1x8x128x64x8x64 ![0, 1, 2, 3, 4, 5] bcast_S1x8x128x64x1x1_S1x8x128x64x8x64_0_1_2_3_4_5
      (broadcastInDim S1x8x128x64x1x1 ![0, 1, 2, 3] bcast_S1x8x128x64_S1x8x128x64x1x1_0_1_2_3 x) (ix6 0 h r c i j) = x (ix4 0 h r c) := by
  pointwise

theorem above_low (x : FVec Ideal S1x8x128x64 .f32) (h : Fin 8) (r : Fin 128) (c : Fin 64) : maximumf (val_main_v89 (F := Ideal)) x (ix4 0 h r c) = x (ix4 0 h r c) := by
  have e : val_main_v89 (F := Ideal) (ix4 0 h r c) = ⊥ := by
    pointwise [val_main_v89, val_main_cst_21]
    exact lowest
  show max (val_main_v89 (F := Ideal) (ix4 0 h r c)) (x (ix4 0 h r c)) = _
  rw [e]
  exact max_eq_right bot_le

section
variable (H : Args q k v t dy) (h : Fin 8) (r : Fin 128) (c : Fin 64) (i : Fin 8) (j : Fin 64)
include H

theorem v76_at : val_main_v76 (F := Ideal) q k (ix6 0 h r c i j) = ((∑ d : Fin 64, (A q k v t dy).q (64 * r.val + c.val) (64 * h.val + d.val) * (A q k v t dy).k (64 * rs r.val + (64 * i.val + j.val)) (64 * h.val + d.val) : ℝ) : EReal) := by
  pointwise [val_main_v76]
  rw [coe_sum]
  refine Finset.sum_congr rfl fun d _ => ?_
  rw [v19_at H.q, v38_at H.k, ← EReal.coe_mul]
  rfl

theorem v80_at : val_main_v80 (F := Ideal) q k t (ix6 0 h r c i j) = (((A q k v t dy).sco r.val h.val c.val (64 * i.val + j.val) : ℝ) : EReal) := by
  pointwise [val_main_v80, val_main_v79, val_main_v75, val_main_v78, val_main_v77, val_main_cst]
  rw [v76_at H, v74_at H.t, eighth, ← EReal.coe_mul, ← EReal.coe_add]
  unfold Arr.sco
  rw [show (64 * i.val + j.val) / 64 = i.val by omega, show (64 * i.val + j.val) % 64 = j.val by omega]
  rfl

theorem v82_at : val_main_v82_0 (F := Ideal) q k t (ix6 0 h r c i j) = score (A q k v t dy) r.val h.val c.val (64 * i.val + j.val) := by
  pointwise [val_main_v82_0, val_main_v82_1, val_main_v81, val_main_call3_v2, val_main_call3_v0, val_main_cst_18]
  rw [v80_at H, seen_val]
  change Scalar.select (if valid c.val j.val then 1#1 else 0#1) _ (Ideal.ofBits .f32 0xFF800000#32) = _
  rw [lowest]
  unfold score
  rw [show (64 * i.val + j.val) % 64 = j.val by omega]
  split <;> rfl

omit H in
theorem low_first (hu : 0 < S_.numel) : (val_main_cst_19 (F := Ideal)) (Shape.Idx.first hu) = ⊥ := by
  unfold val_main_cst_19
  pointwise
  exact lowest

/-- A query's largest score is real. -/
theorem max_at : ∃ M : ℝ, val_main_v83 (F := Ideal) q k t (ix4 0 h r c) = ((M : ℝ) : EReal) := by
  have h1 : ∀ i j, val_main_v82_0 (F := Ideal) q k t (ix6 0 h r c i j) ≠ ⊤ := fun i j => by rw [v82_at H]; exact score_ne_top _ _ _ _ _
  have h2 : val_main_v82_0 (F := Ideal) q k t (ix6 0 h r c 0 ⟨min (c.val - 8) 48, by omega⟩) ≠ ⊥ := by
    rw [v82_at H]
    have := score_seen (A q k v t dy) r.val h.val c.val c.isLt
    simpa using this
  unfold val_main_v83
  generalize val_main_v82_0 (F := Ideal) q k t = x at h1 h2
  exact max_keys _ x _ _ (low_first _) h r c h1 0 _ h2

omit H in
theorem v101_at : val_main_v101 (F := Ideal) q k t (ix6 0 h r c i j) = val_main_v83 (F := Ideal) q k t (ix4 0 h r c) := by
  unfold val_main_v101 val_main_v100 val_main_v90
  exact (spread_row _ h r c i j).trans (above_low _ h r c)

theorem exp_at (M : ℝ) (hM : val_main_v83 (F := Ideal) q k t (ix4 0 h r c) = ((M : ℝ) : EReal)) :
    val_main_v103 (F := Ideal) q k t (ix6 0 h r c i j) = (((A q k v t dy).wt r.val h.val c.val (64 * i.val + j.val) * Real.exp (-M) : ℝ) : EReal) := by
  rw [← exp_score, ← v82_at H h r c i j, ← hM, ← v101_at h r c i j]
  unfold val_main_v103 val_main_v102
  generalize val_main_v101 (F := Ideal) q k t = x
  generalize val_main_v82_0 (F := Ideal) q k t = y
  pointwise

theorem exp_sum_at (M : ℝ) (hM : val_main_v83 (F := Ideal) q k t (ix4 0 h r c) = ((M : ℝ) : EReal)) :
    val_main_v104 (F := Ideal) q k t (ix4 0 h r c) = (((A q k v t dy).zt r.val h.val c.val * Real.exp (-M) : ℝ) : EReal) := by
  have h1 := fun i j => exp_at H h r c i j M hM
  unfold val_main_v104
  generalize val_main_v103 (F := Ideal) q k t = x at h1
  pointwise [val_main_cst_27]
  refine (sum_keys2 _ x h r c).trans ?_
  unfold Arr.zt
  rw [sum_keys, Finset.sum_mul, coe_sum]
  refine Finset.sum_congr rfl fun i _ => ?_
  rw [Finset.sum_mul, coe_sum]
  exact Finset.sum_congr rfl fun j _ => h1 i j

/-- The exponentials and their sum, up to one real factor. -/
theorem exps_at : ∃ M : ℝ, (∀ i j, val_main_v103 (F := Ideal) q k t (ix6 0 h r c i j) = (((A q k v t dy).wt r.val h.val c.val (64 * i.val + j.val) * Real.exp (-M) : ℝ) : EReal))
    ∧ val_main_v104 (F := Ideal) q k t (ix4 0 h r c) = (((A q k v t dy).zt r.val h.val c.val * Real.exp (-M) : ℝ) : EReal) := by
  obtain ⟨M, hM⟩ := max_at H h r c
  exact ⟨M, fun i j => exp_at H h r c i j M hM, exp_sum_at H h r c M hM⟩

/-- The weights. -/
theorem v107_at : val_main_v107 (F := Ideal) q k t (ix6 0 h r c i j) = (((A q k v t dy).pr r.val h.val c.val (64 * i.val + j.val) : ℝ) : EReal) := by
  obtain ⟨M, h1, h2⟩ := exps_at H h r c
  have hz := ((A q k v t dy).zt_pos r.val h.val c.val c.isLt).ne'
  have he := (Real.exp_pos (-M)).ne'
  unfold val_main_v107 val_main_v106 val_main_v105
  generalize val_main_v103 (F := Ideal) q k t = x at h1
  generalize val_main_v104 (F := Ideal) q k t = y at h2
  pointwise
  rw [h1, h2, Ideal.div_coe (mul_ne_zero hz he), ← EReal.coe_mul]
  unfold Arr.pr
  congr 1
  field_simp

end

end Cert.AttnReferenceIdeal.Ref

end
-- ==== Proof.AttnBack.lean ====
/-
  The attention's reference: its backward values at an index, in the reals.
-/
module

public import proofs.«01_k».proof.Proof.AttnRef

@[expose] public section

set_option maxRecDepth 16384

noncomputable section

namespace Cert.AttnReferenceIdeal.Ref

open Idealize.ShloMosaic Idealize.ShloMosaic.TcCoe Idealize.ShloMosaic.Tactic
open Cert.AttnReferenceIdeal Cert.AttnReferenceIdeal.Gen Cert.AttnReferenceIdeal.Read
open AttnSpec

variable {q k v : FVec Ideal S8192x512 .f32} {t : FVec Ideal S8x15x31 .f32} {dy : FVec Ideal S8192x1024 .f32}

theorem ds_real (w z e p S : ℝ) (hz : z ≠ 0) (he : e ≠ 0) : (p * (1 / (z * e)) + -((1 / (z * e)) * S)) * (w * e) = w / z * (p - S) := by
  field_simp
  ring

theorem dse_real (w z e p : ℝ) (hz : z ≠ 0) (he : e ≠ 0) : p * (1 / (z * e * (z * e))) * (w * e) = 1 / (z * e) * (w / z * p) := by
  field_simp

section
variable (H : Args q k v t dy) (h : Fin 8) (r : Fin 128) (c : Fin 64) (i : Fin 8) (j : Fin 64) (d : Fin 64)
include H

theorem v118_at : val_main_v118 (F := Ideal) dy (ix5 0 r h d c) = (((A q k v t dy).o (64 * r.val + c.val) (64 * h.val + d.val) : ℝ) : EReal) := by
  pointwise [val_main_v118, val_main_v117, val_main_v116, val_main_v115]
  refine (at2_eq H.o _ _).trans ?_
  show ((at2 dy (r.val * 64 + c.val) (512 + (h.val * 64 + d.val)) : ℝ) : EReal) = ((at2 dy (64 * r.val + c.val) (512 + (64 * h.val + d.val)) : ℝ) : EReal)
  rw [Nat.mul_comm 64 r.val, Nat.mul_comm 64 h.val]

theorem v120_at : val_main_v120 (F := Ideal) v dy (ix6 0 h r c i j) = (((A q k v t dy).dp r.val h.val c.val (64 * i.val + j.val) : ℝ) : EReal) := by
  have h1 := fun d => v118_at H h r c d
  have h2 := fun d => v45_at H.v r i j h d
  unfold val_main_v120 val_main_v119
  generalize val_main_v118 (F := Ideal) dy = x at h1
  generalize val_main_v45 (F := Ideal) v = y at h2
  pointwise
  unfold Arr.dp
  rw [coe_sum]
  refine Finset.sum_congr rfl fun d _ => ?_
  rw [h1, h2, ← EReal.coe_mul]
  rfl

theorem v122_at : val_main_v122 (F := Ideal) q k t dy (ix6 0 r i j h d)
    = ((∑ c : Fin 64, (A q k v t dy).pr r.val h.val c.val (64 * i.val + j.val) * (A q k v t dy).o (64 * r.val + c.val) (64 * h.val + d.val) : ℝ) : EReal) := by
  have h1 := fun c => v118_at H h r c d
  have h2 := fun c => v107_at H h r c i j
  unfold val_main_v122 val_main_v121
  generalize val_main_v118 (F := Ideal) dy = x at h1
  generalize val_main_v107 (F := Ideal) q k t = y at h2
  pointwise
  rw [coe_sum]
  refine Finset.sum_congr rfl fun c _ => ?_
  rw [h1, h2, ← EReal.coe_mul, mul_comm]

/-- The weights' gradients, weighed and added up, up to the sum of the exponentials. -/
theorem v126_at (M : ℝ) (h1 : ∀ i j, val_main_v103 (F := Ideal) q k t (ix6 0 h r c i j) = (((A q k v t dy).wt r.val h.val c.val (64 * i.val + j.val) * Real.exp (-M) : ℝ) : EReal))
    (h2 : val_main_v104 (F := Ideal) q k t (ix4 0 h r c) = (((A q k v t dy).zt r.val h.val c.val * Real.exp (-M) : ℝ) : EReal)) :
    val_main_v126 (F := Ideal) q k v t dy (ix4 0 h r c) = ((1 / ((A q k v t dy).zt r.val h.val c.val * Real.exp (-M))
      * ∑ j : Fin 512, (A q k v t dy).pr r.val h.val c.val j.val * (A q k v t dy).dp r.val h.val c.val j.val : ℝ) : EReal) := by
  have hz := ((A q k v t dy).zt_pos r.val h.val c.val c.isLt).ne'
  have he := (Real.exp_pos (-M)).ne'
  have h3 := fun i j => v120_at H h r c i j
  have h4 : ∀ i j, val_main_v125 (F := Ideal) q k v t dy (ix6 0 h r c i j) = ((1 / ((A q k v t dy).zt r.val h.val c.val * Real.exp (-M))
      * ((A q k v t dy).pr r.val h.val c.val (64 * i.val + j.val) * (A q k v t dy).dp r.val h.val c.val (64 * i.val + j.val)) : ℝ) : EReal) := by
    intro i j
    unfold val_main_v125 val_main_v124 val_main_v123 val_main_v110 val_main_v108 val_main_v105
    generalize val_main_v103 (F := Ideal) q k t = x at h1
    generalize val_main_v104 (F := Ideal) q k t = y at h2
    generalize val_main_v120 (F := Ideal) v dy = z at h3
    pointwise [val_main_v109, val_main_cst_28]
    rw [h1, h2, h3, ← EReal.coe_mul, Ideal.div_coe (mul_ne_zero (mul_ne_zero hz he) (mul_ne_zero hz he)), one_mul, ← EReal.coe_mul, ← EReal.coe_mul, dse_real _ _ _ _ hz he]
    rfl
  unfold val_main_v126
  generalize val_main_v125 (F := Ideal) q k v t dy = x at h4
  pointwise [val_main_cst_29]
  refine (sum_keys2 _ x h r c).trans ?_
  rw [sum_keys (fun j => (A q k v t dy).pr r.val h.val c.val j * (A q k v t dy).dp r.val h.val c.val j), Finset.mul_sum, coe_sum]
  refine Finset.sum_congr rfl fun i _ => ?_
  rw [Finset.mul_sum, coe_sum]
  exact Finset.sum_congr rfl fun j _ => h4 i j

/-- The scores' gradients. -/
theorem v136_at : val_main_v136 (F := Ideal) q k v t dy (ix6 0 h r c i j) = (((A q k v t dy).ds r.val h.val c.val (64 * i.val + j.val) : ℝ) : EReal) := by
  obtain ⟨M, h1, h2⟩ := exps_at H h r c
  have hz := ((A q k v t dy).zt_pos r.val h.val c.val c.isLt).ne'
  have he := (Real.exp_pos (-M)).ne'
  have h3 := fun i j => v120_at H h r c i j
  have h4 := v126_at H h r c M h1 h2
  have h5 : val_main_v133 (F := Ideal) q k v t dy (ix6 0 h r c i j) = ((-(1 / ((A q k v t dy).zt r.val h.val c.val * Real.exp (-M))
      * ∑ j : Fin 512, (A q k v t dy).pr r.val h.val c.val j.val * (A q k v t dy).dp r.val h.val c.val j.val) : ℝ) : EReal) := by
    unfold val_main_v133 val_main_v132 val_main_v131 val_main_v128 val_main_v127
    generalize val_main_v126 (F := Ideal) q k v t dy = x at h4
    pointwise [val_main_cst_30]
    refine (sum_row3 _ _ h r c).trans ?_
    pointwise
    rw [h4, EReal.coe_neg]
  have h6 : val_main_v135 (F := Ideal) q k v t dy (ix6 0 h r c i j) = (((A q k v t dy).ds r.val h.val c.val (64 * i.val + j.val) : ℝ) : EReal) := by
    unfold val_main_v135 val_main_v134 val_main_v130 val_main_v129 val_main_v105
    generalize val_main_v103 (F := Ideal) q k t = x at h1
    generalize val_main_v104 (F := Ideal) q k t = y at h2
    generalize val_main_v120 (F := Ideal) v dy = z at h3
    generalize val_main_v133 (F := Ideal) q k v t dy = u at h5
    pointwise
    rw [h1, h2, h3, h5, Ideal.div_coe (mul_ne_zero hz he), ← EReal.coe_mul, ← EReal.coe_add, ← EReal.coe_mul, ds_real _ _ _ _ _ hz he]
    rfl
  unfold val_main_v136
  generalize val_main_v135 (F := Ideal) q k v t dy = x at h6
  pointwise [val_main_v82_1, val_main_v81, val_main_call4_v0, val_main_call4_cst]
  rw [h6, seen_val]
  by_cases hv : valid c.val j.val
  · rw [if_pos hv]; rfl
  · rw [if_neg hv]
    have e : (A q k v t dy).ds r.val h.val c.val (64 * i.val + j.val) = 0 := by
      unfold Arr.ds Arr.pr Arr.wt
      rw [if_neg (by rwa [show (64 * i.val + j.val) % 64 = j.val by omega]), zero_div, zero_mul]
    rw [e]
    rfl

/-- The gradient of the queries. -/
theorem v143_at : val_main_v143 (F := Ideal) q k v t dy (ix5 0 r c h d) = (((A q k v t dy).dq (64 * r.val + c.val) (64 * h.val + d.val) : ℝ) : EReal) := by
  have h1 := fun i j => v136_at H h r c i j
  have h2 := fun i j => v38_at H.k r i j h d
  unfold val_main_v143 val_main_v142 val_main_v139
  generalize val_main_v136 (F := Ideal) q k v t dy = x at h1
  generalize val_main_v38 (F := Ideal) k = y at h2
  pointwise [val_main_v138, val_main_cst_32]
  unfold Arr.dq
  rw [show (64 * r.val + c.val) / 64 = r.val by omega, show (64 * r.val + c.val) % 64 = c.val by omega, show (64 * h.val + d.val) / 64 = h.val by omega,
    sum_keys (fun j => (A q k v t dy).ds r.val h.val c.val j * (A q k v t dy).k (64 * rs r.val + j) (64 * h.val + d.val)), Finset.sum_mul, coe_sum]
  refine Finset.sum_congr rfl fun i _ => ?_
  rw [Finset.sum_mul, coe_sum]
  refine Finset.sum_congr rfl fun j _ => ?_
  rw [h1, h2, eighth, ← EReal.coe_mul, ← EReal.coe_mul, mul_right_comm]
  rfl

/-- What a row gives to the gradient of its keys. -/
theorem v141_at : val_main_v141 (F := Ideal) q k v t dy (ix6 0 r i j h d)
    = (((∑ c : Fin 64, (A q k v t dy).ds r.val h.val c.val (64 * i.val + j.val) * (A q k v t dy).q (64 * r.val + c.val) (64 * h.val + d.val)) * (1 / 8) : ℝ) : EReal) := by
  have h1 := fun c => v136_at H h r c i j
  have h2 := fun c => v19_at H.q r c h d
  unfold val_main_v141 val_main_v140 val_main_v139
  generalize val_main_v136 (F := Ideal) q k v t dy = x at h1
  generalize val_main_v19 (F := Ideal) q = y at h2
  pointwise [val_main_v138, val_main_cst_32]
  rw [Finset.sum_mul, coe_sum]
  refine Finset.sum_congr rfl fun c _ => ?_
  rw [h1, h2, eighth, ← EReal.coe_mul, ← EReal.coe_mul, mul_right_comm]
  rfl

theorem v144_at : val_main_v144 (F := Ideal) q k v t dy (ix5 h r i c j) = (((A q k v t dy).ds r.val h.val c.val (64 * i.val + j.val) : ℝ) : EReal) := by
  have h1 := v136_at H h r c i j
  unfold val_main_v144 val_main_v137
  generalize val_main_v136 (F := Ideal) q k v t dy = x at h1
  pointwise [val_main_cst_31]
  exact (sum_row1 _ x h r c i j).trans h1

end

/-! ## The scatters -/

theorem pick8 (o R l : ℕ) (hl : l < 64) (f : ℕ → ℝ) : ∑ i : Fin 8, (if o + i.val = R then f (64 * i.val + l) else 0)
    = if 64 * o ≤ 64 * R + l ∧ 64 * R + l < 64 * o + 512 then f (64 * R + l - 64 * o) else 0 := by
  split
  · rename_i hc
    rw [Finset.sum_eq_single_of_mem (⟨R - o, by omega⟩ : Fin 8) (Finset.mem_univ _)]
    · rw [if_pos (show o + (R - o) = R by omega)]
      exact congrArg f (show 64 * (R - o) + l = 64 * R + l - 64 * o by omega)
    · intro i _ hi
      exact if_neg fun e => hi (Fin.ext (show i.val = R - o by omega))
  · rename_i hc
    exact Finset.sum_eq_zero fun i _ => if_neg fun e => hc (by omega)

/-- What 128 rows of eight add at one place. -/
theorem scat_sum (idx : IVec S128x8x1 32) (o : ℕ → ℕ) (hidx : ∀ (r : Fin 128) (i : Fin 8), (idx (ix3 r i 0)).toInt = ((o r.val + i.val : ℕ) : ℤ)) (R l : ℕ) (hl : l < 64)
    (f : ℕ → ℕ → ℝ) (u : Fin 128 → Fin 8 → EReal) (hu : ∀ r i, u r i = ((f r.val (64 * i.val + l) : ℝ) : EReal)) :
    ((0 : EReal) + ∑ r : Fin 128, ∑ i : Fin 8, if (idx (ix3 r i 0)).toInt = (R : ℤ) then u r i else 0)
      = ((∑ r ∈ Finset.range 128, if 64 * o r ≤ 64 * R + l ∧ 64 * R + l < 64 * o r + 512 then f r (64 * R + l - 64 * o r) else 0 : ℝ) : EReal) := by
  rw [zero_add, Finset.sum_range, coe_sum]
  refine Finset.sum_congr rfl fun r _ => ?_
  rw [← pick8 (o r.val) R l hl (f r.val), coe_sum]
  refine Finset.sum_congr rfl fun i _ => ?_
  rw [hidx, hu]
  by_cases e : o r.val + i.val = R
  · rw [if_pos e, if_pos (by exact_mod_cast e)]
  · rw [if_neg e, if_neg (by exact_mod_cast e)]; rfl

section
variable (H : Args q k v t dy) (R : Fin 128) (j : Fin 64) (h : Fin 8) (d : Fin 64)
include H

theorem v150_at : val_main_v150 (F := Ideal) q k v t dy (ix5 0 R j h d) = (((A q k v t dy).dkA (64 * R.val + j.val) (64 * h.val + d.val) : ℝ) : EReal) := by
  have h1 := fun r i => v141_at H h r i j d
  unfold val_main_v150
  generalize val_main_v141 (F := Ideal) q k v t dy = x at h1
  refine (scatter_keys _ _ x R j h d).trans ?_
  have hz : val_main_v149 (F := Ideal) (ix5 0 R j h d) = (0 : EReal) := by pointwise [val_main_v149, val_main_cst_35]
  rw [hz]
  refine (scat_sum _ rs rows_val R.val j.val j.isLt (fun r y => (∑ c : Fin 64, (A q k v t dy).ds r h.val c.val y * (A q k v t dy).q (64 * r + c.val) (64 * h.val + d.val)) * (1 / 8)) _ h1).trans ?_
  unfold Arr.dkA Arr.dkT
  rw [show (64 * h.val + d.val) / 64 = h.val by omega]

theorem v148_at : val_main_v148 (F := Ideal) q k t dy (ix5 0 R j h d) = (((A q k v t dy).dvA (64 * R.val + j.val) (64 * h.val + d.val) : ℝ) : EReal) := by
  have h1 := fun r i => v122_at H h r i j d
  unfold val_main_v148
  generalize val_main_v122 (F := Ideal) q k t dy = x at h1
  refine (scatter_keys _ _ x R j h d).trans ?_
  have hz : val_main_v147 (F := Ideal) (ix5 0 R j h d) = (0 : EReal) := by pointwise [val_main_v147, val_main_cst_34]
  rw [hz]
  refine (scat_sum _ rs rows_val R.val j.val j.isLt (fun r y => ∑ c : Fin 64, (A q k v t dy).pr r h.val c.val y * (A q k v t dy).o (64 * r + c.val) (64 * h.val + d.val)) _ h1).trans ?_
  unfold Arr.dvA Arr.dvT
  rw [show (64 * h.val + d.val) / 64 = h.val by omega]

theorem v146_at (h : Fin 8) (a : Fin 15) (c l : Fin 64) : val_main_v146 (F := Ideal) q k v t dy (ix4 h a c l) = (((A q k v t dy).dbA (64 * a.val + l.val) h.val c.val : ℝ) : EReal) := by
  have h1 := fun r i => v144_at H h r c i l
  unfold val_main_v146
  generalize val_main_v144 (F := Ideal) q k v t dy = x at h1
  refine (scatter_bias _ _ x h a c l).trans ?_
  have hz : val_main_v145 (F := Ideal) (ix4 h a c l) = (0 : EReal) := by pointwise [val_main_v145, val_main_cst_33]
  rw [hz]
  exact scat_sum _ (fun r => rs r + 7 - r) offs_val a.val l.val l.isLt (fun r y => (A q k v t dy).ds r h.val c.val y) _ h1

end

/-! ## The results -/

section
variable (H : Args q k v t dy)
include H

theorem resultQ : val_main_v159 (F := Ideal) q k v t dy = resQ (A q k v t dy) := by
  funext i
  obtain ⟨a, b, rfl⟩ : ∃ (a : Fin 8192) (b : Fin 512), i = ix2 a b := ⟨i 0, i 1, (ix2_eta i).symm⟩
  have h1 := v143_at H
  unfold val_main_v159 val_main_v156 val_main_v153
  generalize val_main_v143 (F := Ideal) q k v t dy = x at h1
  pointwise [val_main_cst_38]
  rw [Fin.sum_univ_one, h1]
  show _ = (((A q k v t dy).dq a.val b.val : ℝ) : EReal)
  rw [Nat.div_add_mod a.val 64, Nat.div_add_mod b.val 64]

theorem resultK : val_main_v160 (F := Ideal) q k v t dy = resK (A q k v t dy) := by
  funext i
  obtain ⟨a, b, rfl⟩ : ∃ (a : Fin 8192) (b : Fin 512), i = ix2 a b := ⟨i 0, i 1, (ix2_eta i).symm⟩
  have h1 := v150_at H
  unfold val_main_v160 val_main_v155 val_main_v152
  generalize val_main_v150 (F := Ideal) q k v t dy = x at h1
  pointwise [val_main_cst_37]
  rw [Fin.sum_univ_one, h1]
  show _ = (((A q k v t dy).dkA a.val b.val : ℝ) : EReal)
  rw [Nat.div_add_mod a.val 64, Nat.div_add_mod b.val 64]

theorem resultV : val_main_v161 (F := Ideal) q k t dy = resV (A q k v t dy) := by
  funext i
  obtain ⟨a, b, rfl⟩ : ∃ (a : Fin 8192) (b : Fin 512), i = ix2 a b := ⟨i 0, i 1, (ix2_eta i).symm⟩
  have h1 := v148_at H
  unfold val_main_v161 val_main_v154 val_main_v151
  generalize val_main_v148 (F := Ideal) q k t dy = x at h1
  pointwise [val_main_cst_36]
  rw [Fin.sum_univ_one, h1]
  show _ = (((A q k v t dy).dvA a.val b.val : ℝ) : EReal)
  rw [Nat.div_add_mod a.val 64, Nat.div_add_mod b.val 64]

theorem resultT : val_main_v162 (F := Ideal) q k v t dy = resT (A q k v t dy) := by
  funext i
  obtain ⟨g, a, p, rfl⟩ : ∃ (g : Fin 2) (a : Fin 960) (p : Fin 256), i = ix3 g a p := ⟨i 0, i 1, i 2, by funext k; fin_cases k <;> rfl⟩
  have h1 := v146_at H
  unfold val_main_v162 val_main_v158 val_main_v157
  generalize val_main_v146 (F := Ideal) q k v t dy = x at h1
  pointwise
  rw [h1]
  show (((A q k v t dy).dbA (64 * (a.val / 64) + a.val % 64) (g.val * 4 + p.val / 64) (p.val % 64) : ℝ) : EReal) = (((A q k v t dy).dbA a.val (4 * g.val + p.val / 64) (p.val % 64) : ℝ) : EReal)
  rw [Nat.div_add_mod a.val 64, Nat.mul_comm 4]

end

end Cert.AttnReferenceIdeal.Ref

end
-- ==== Proof.AttnAlg.lean ====
/-
  The value of the attention's backward call: where the two ideal runs end, and that they end alike.
-/
module

public import proofs.«01_k».proof.Defs
public import proofs.«01_k».proof.Proof.AttnValue
public import proofs.«01_k».proof.Proof.AttnBack
public import proofs.«01_k».proof.Proof.Finite
public import proofs.«01_k».proof.Proof.AttnClaims

@[expose] public section

set_option maxRecDepth 16384

noncomputable section

namespace Cert.Pre_attn_finite

open Idealize.ShloMosaic

theorem facts : Facts where
  bcast_S_S8192x512 := by decide
  reducesTo_S8192x512_S_d0_1 := by decide
  h_S_ := by decide
  bcast_S_S8x15x31 := by decide
  reducesTo_S8x15x31_S_d0_1_2 := by decide
  bcast_S_S8192x1024 := by decide
  reducesTo_S8192x1024_S_d0_1 := by decide

open Cert.Proofs.Finite AttnSpec

/-- A conjunction of two bits that is set has both set. -/
theorem both {s : Shape} {a b : IVec s 1} {i : s.Idx} (h : andi a b i = 1#1) : a i = 1#1 ∧ b i = 1#1 := by
  have h' : a i &&& b i = 1#1 := h
  generalize a i = x at *
  generalize b i = y at *
  revert h'
  revert x y
  decide

/-- The projections, the table and the gradient that comes in have real entries. -/
theorem reals [Facts] (q k v : FVec Ideal S8192x512 .f32) (t : FVec Ideal S8x15x31 .f32) (dy : FVec Ideal S8192x1024 .f32)
    (h : fn (F := Ideal) q k v t dy = fun _ => 1#1) : AllReal q ∧ AllReal k ∧ AllReal v ∧ AllReal t ∧ AllReal dy := by
  have h0 := congrFun h (fun k => k.elim0)
  obtain ⟨h1, hd⟩ := both h0
  obtain ⟨h2, ht⟩ := both h1
  obtain ⟨h3, hv⟩ := both h2
  obtain ⟨hq, hk⟩ := both h3
  exact ⟨fun i => real_of_all _ _ _ _ _ hq i, fun i => real_of_all _ _ _ _ _ hk i, fun i => real_of_all _ _ _ _ _ hv i,
    fun i => real_of_all _ _ _ _ _ ht i, fun i => real_of_all _ _ _ _ _ hd i⟩

end Cert.Pre_attn_finite

namespace Cert.Proof

open Idealize.ShloMosaic Idealize.ShloMosaic.TcCoe Idealize.SL.Sem AttnSpec

section
open Cert.AttnKernelIdeal Cert.AttnKernelIdeal.Gen Cert.AttnKernelIdeal.Body Cert.AttnReferenceIdeal.Read

variable (σ : Valuation τ sig (Elt Ideal))

theorem seg0_off : StableHlo.after (hostOps0 (F := Ideal)) σ (Proc.devRef .tc main_v7) = (Cert.AttnReferenceIdeal.Read.val_main_v5 (F := Ideal) : IVec S64x64 32) := by rfl
theorem seg0_lo : StableHlo.after (hostOps0 (F := Ideal)) σ (Proc.devRef .tc main_c) = (constantI S_ 32 4294967281#32 : IVec S_ 32) := by rfl
theorem seg0_hi : StableHlo.after (hostOps0 (F := Ideal)) σ (Proc.devRef .tc main_c_0) = (constantI S_ 32 15#32 : IVec S_ 32) := by rfl
theorem seg0_table : StableHlo.after (hostOps0 (F := Ideal)) σ (Proc.devRef .tc main_arg3) = σ (Proc.devRef .tc main_arg3) := by rfl
theorem seg1_table : StableHlo.after (hostOps0_1 (F := Ideal)) σ (Proc.devRef .tc main_arg3) = σ (Proc.devRef .tc main_arg3) := by rfl
theorem seg1_clip : StableHlo.after (hostOps0_1 (F := Ideal)) σ (Proc.devRef .tc main_v8)
    = (minsi (broadcastInDim S64x64 ![] bcast_S_S64x64 (σ (Proc.devRef .tc main_c_0) : IVec S_ 32))
        (maxsi (broadcastInDim S64x64 ![] bcast_S_S64x64 (σ (Proc.devRef .tc main_c) : IVec S_ 32)) (σ (Proc.devRef .tc main_v7) : IVec S64x64 32)) : IVec S64x64 32) := by rfl

/-- The words by which the table is read, from the clipped column offset. -/
def words (x : IVec S64x64 32) : IVec S64x64x1 32 :=
  let y : IVec S64x64 32 := addi x (broadcastInDim S64x64 ![] bcast_S_S64x64 (constantI S_ 32 15#32))
  broadcastInDim S64x64x1 ![0, 1] bcast_S64x64_S64x64x1_0_1
    (select (cmpi .slt y (broadcastInDim S64x64 ![] bcast_S_S64x64 (constantI S_ 32 0#32)))
      (addi y (broadcastInDim S64x64 ![] bcast_S_S64x64 (constantI S_ 32 31#32))) y)

theorem seg2_spread : StableHlo.after (hostOps0_2 (F := Ideal)) σ (Proc.devRef .tc main_v17)
    = (Host.gather gather_S8x15x31_S64x64x1_S8x15x64x64_01_2_n_n_2_2_8151 (σ (Proc.devRef .tc main_arg3) : FVec Ideal S8x15x31 .f32)
        (words (σ (Proc.devRef .tc main_v8) : IVec S64x64 32)) : FVec Ideal S8x15x64x64 .f32) := by rfl

/-- The two programs spread the table alike. -/
theorem spread_eq (m : (ℓ : Loc nD τ sig) → Buf (Elt Ideal) ℓ) (d : Dev nD) :
    spread m d = Cert.AttnReferenceIdeal.Read.val_main_v15 (F := Ideal) (at_ m d) := by
  unfold spread st3
  rw [seg2_spread, seg1_table, seg0_table, seg1_clip, seg0_off, seg0_lo, seg0_hi]
  rfl

/-- The two programs read the same reals of the same arguments. -/
theorem arr_eq (m : (ℓ : Loc nD τ sig) → Buf (Elt Ideal) ℓ) (d : Dev nD) :
    arr m d = Cert.AttnReferenceIdeal.Ref.A (aq m d) (ak m d) (av m d) (at_ m d) (ady m d) := by
  show arrOf _ _ _ (spread m d) _ = arrOf _ _ _ _ _
  rw [spread_eq]

/-- Where the kernel's run ends: its four results in closed form, its arguments unchanged. -/
theorem attn_kernel_run (m : (ℓ : Loc nD τ sig) → Buf (Elt Ideal) ℓ) (g : Dev nD → PrngReg) (H : ∀ c, Body.Args m c) :
    θ_run (defs (F := Ideal)) (onTc (τ := τ) (main (F := Ideal))) ⟨m, fun _ => 0, g⟩ (fun r => ∀ c : Dev nD,
      r.2.mem ((c.tc : Thread nD τ).loc main_v38_0) = resQ (arr m c)
      ∧ r.2.mem ((c.tc : Thread nD τ).loc main_v38_1) = resK (arr m c)
      ∧ r.2.mem ((c.tc : Thread nD τ).loc main_v38_2) = resV (arr m c)
      ∧ r.2.mem ((c.tc : Thread nD τ).loc main_v38_3) = resT (arr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hr : θ_run (defs (F := Ideal)) (onTc (τ := τ) (main (F := Ideal))) ⟨m, fun _ => 0, g⟩ (Pipeline.FramePost cfgs (Body.dats m) 0 (V m)) :=
    (θ_run _ _ _).mono (fun _ h => h.1) (Cert.AttnKernelIdeal.Body.run_main m g)
  refine (θ_run _ _ _).mono (fun r h c => ?_) (θ_run_and (Cert.AttnKernelIdeal.Body.frame m g) hr)
  obtain ⟨⟨hf, -⟩, hw⟩ := h
  have e0 : r.2.mem ((c.tc : Thread nD τ).loc main_v38_0) = resQ (arr m c) := by
    rw [← final0 (H c)]
    exact (hw c).1 5
  have e1 : r.2.mem ((c.tc : Thread nD τ).loc main_v38_1) = resK (arr m c) := by
    rw [← final1 (H c)]
    exact (hw c).1 6
  have e2 : r.2.mem ((c.tc : Thread nD τ).loc main_v38_2) = resV (arr m c) := by
    rw [← final2 (H c)]
    exact (hw c).1 7
  have e3 : r.2.mem ((c.tc : Thread nD τ).loc main_v38_3) = resT (arr m c) := by
    rw [← final3 (H c)]
    exact (hw c).1 8
  exact ⟨e0, e1, e2, e3, hf c⟩

end

section
open Cert.AttnReferenceIdeal Cert.AttnReferenceIdeal.Read

/-- Where the reference's run ends: its four results as the read-out terms of its arguments. -/
theorem attn_reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v159) = val_main_v159 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v160) = val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v161) = val_main_v161 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v162) = val_main_v162 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h c).1.trans (val_main_v159_eq (StableHlo.launchContents m c)),
    (h c).2.1.trans (val_main_v160_eq (StableHlo.launchContents m c)), (h c).2.2.1.trans (val_main_v161_eq (StableHlo.launchContents m c)),
    (h c).2.2.2.1.trans (val_main_v162_eq (StableHlo.launchContents m c)), (h c).2.2.2.2⟩) (Cert.AttnReferenceIdeal.Value.run (F := Ideal) m g)

end

section
open Cert.AttnKernelIdeal Cert.AttnKernelIdeal.Gen Cert.AttnKernelIdeal.Body Cert.AttnReferenceIdeal.Read

theorem attn_algebraic : @Cert.algebraic_AttnKernelIdeal_AttnReferenceIdeal_pre_attn_finite Cert.AttnKernelIdeal.Gen.facts Cert.AttnReferenceIdeal.Gen.facts Cert.Pre_attn_finite.facts := by
  intro m g m' g' hpre hagree
  haveI := Cert.Pre_attn_finite.facts
  have hreal := fun c => Cert.Pre_attn_finite.reals _ _ _ _ _ (hpre c)
  refine ⟨fun c => resQ (arr m c), fun c => resK (arr m c), fun c => resV (arr m c), fun c => resT (arr m c), ?_, ?_⟩
  · exact attn_kernel_run m g fun c => ⟨(hreal c).1, (hreal c).2.1, (hreal c).2.2.1, (hreal c).2.2.2.1, (hreal c).2.2.2.2⟩
  · refine (θ_run _ _ _).mono (fun r h c => ?_) (attn_reference_run m' g')
    obtain ⟨e1, e2, e3, e4, e5⟩ := h c
    obtain ⟨a0, a1, a2, a3, a4⟩ := hagree c
    have H : Cert.AttnReferenceIdeal.Ref.Args (aq m c) (ak m c) (av m c) (at_ m c) (ady m c) :=
      ⟨(hreal c).1, (hreal c).2.1, (hreal c).2.2.1, (hreal c).2.2.2.1, (hreal c).2.2.2.2⟩
    rw [a0, a1, a2, a3, a4] at e1 e2 e4
    rw [a0, a1, a3, a4] at e3
    have ea := (arr_eq m c).symm
    exact ⟨e1.trans ((Cert.AttnReferenceIdeal.Ref.resultQ H).trans (congrArg resQ ea)), e2.trans ((Cert.AttnReferenceIdeal.Ref.resultK H).trans (congrArg resK ea)), e3.trans ((Cert.AttnReferenceIdeal.Ref.resultV H).trans (congrArg resV ea)), e4.trans ((Cert.AttnReferenceIdeal.Ref.resultT H).trans (congrArg resT ea)), e5⟩

end

end Cert.Proof

end
-- ==== Proof.RestClaims.lean ====
/-
  The runs of three more backward calls: the table's gradient, the mixers' output and the gated unit.
-/
module

public import proofs.«01_k».proof.Defs
public import proofs.«01_k».proof.Proof.Gen.BiasKernelIdeal.Frame
public import proofs.«01_k».proof.Proof.Gen.BiasKernelIdeal.Value
public import proofs.«01_k».proof.Proof.Gen.BiasKernel.Frame
public import proofs.«01_k».proof.Proof.Gen.BiasReferenceIdeal.Run
public import proofs.«01_k».proof.Proof.Gen.BiasReferenceIdeal.Read
public import proofs.«01_k».proof.Proof.Gen.MixoutKernelIdeal.Frame
public import proofs.«01_k».proof.Proof.Gen.MixoutKernel.Frame
public import proofs.«01_k».proof.Proof.Gen.MixoutReferenceIdeal.Run
public import proofs.«01_k».proof.Proof.Gen.MixoutReferenceIdeal.Read
public import proofs.«01_k».proof.Proof.Gen.FfnKernelIdeal.Frame
public import proofs.«01_k».proof.Proof.Gen.FfnKernel.Frame
public import proofs.«01_k».proof.Proof.Gen.FfnReferenceIdeal.Run
public import proofs.«01_k».proof.Proof.Gen.FfnReferenceIdeal.Read

@[expose] public section

set_option maxRecDepth 16384

noncomputable section

namespace Cert.Proof

open Idealize.ShloMosaic Idealize.ShloMosaic.TcCoe Idealize.SL.Sem

theorem biasg_frame : @Cert.quiescent_BiasKernel Cert.BiasKernel.Gen.facts := fun m ρ _ => Cert.BiasKernel.Gen.frame m ρ
theorem biasg_ideal_frame : @Cert.quiescent_BiasKernelIdeal Cert.BiasKernelIdeal.Gen.facts := fun m ρ _ => Cert.BiasKernelIdeal.Gen.frame m ρ
theorem biasg_reference_frame : @Cert.quiescent_BiasReferenceIdeal Cert.BiasReferenceIdeal.Gen.facts := fun m ρ _ =>
  (θ_run Cert.BiasReferenceIdeal.defs _ _).mono (fun r h => ⟨fun c => (h c).2, sem_eq_zero_of_no_sems (by decide) r.2⟩)
    (Cert.BiasReferenceIdeal.Value.run (F := Ideal) m ρ)
theorem biasg_preserves : Cert.preserves_BiasKernel_BiasKernelIdeal := trivial

theorem mixout_frame : @Cert.quiescent_MixoutKernel Cert.MixoutKernel.Gen.facts := fun m ρ _ => Cert.MixoutKernel.Gen.frame m ρ
theorem mixout_ideal_frame : @Cert.quiescent_MixoutKernelIdeal Cert.MixoutKernelIdeal.Gen.facts := fun m ρ _ => Cert.MixoutKernelIdeal.Gen.frame m ρ
theorem mixout_reference_frame : @Cert.quiescent_MixoutReferenceIdeal Cert.MixoutReferenceIdeal.Gen.facts := fun m ρ _ =>
  (θ_run Cert.MixoutReferenceIdeal.defs _ _).mono (fun r h => ⟨fun c => (h c).2.2.2.2, sem_eq_zero_of_no_sems (by decide) r.2⟩)
    (Cert.MixoutReferenceIdeal.Value.run (F := Ideal) m ρ)
theorem mixout_preserves : Cert.preserves_MixoutKernel_MixoutKernelIdeal := trivial

theorem ffn_frame : @Cert.quiescent_FfnKernel Cert.FfnKernel.Gen.facts := fun m ρ _ => Cert.FfnKernel.Gen.frame m ρ
theorem ffn_ideal_frame : @Cert.quiescent_FfnKernelIdeal Cert.FfnKernelIdeal.Gen.facts := fun m ρ _ => Cert.FfnKernelIdeal.Gen.frame m ρ
theorem ffn_reference_frame : @Cert.quiescent_FfnReferenceIdeal Cert.FfnReferenceIdeal.Gen.facts := fun m ρ _ =>
  (θ_run Cert.FfnReferenceIdeal.defs _ _).mono (fun r h => ⟨fun c => (h c).2.2.2.2.2.2, sem_eq_zero_of_no_sems (by decide) r.2⟩)
    (Cert.FfnReferenceIdeal.Value.run (F := Ideal) m ρ)
theorem ffn_preserves : Cert.preserves_FfnKernel_FfnKernelIdeal := trivial

end Cert.Proof

end
-- ==== Proof.NormSpec.lean ====
/-
  The backward pass of a normalised row of 1024 numbers, in the reals: the compact form (a row's own moments, then one
  combination) and the form that differentiates the mean, the variance and the reciprocal root one after the other.
-/
module

public import Idealize.ShloMosaic.PureOps.Ideal
public import Mathlib.Data.EReal.Operations

@[expose] public section

noncomputable section

namespace NormSpec

open Idealize.ShloMosaic Finset

/-- The small number under the root, and the weight of the residual branch. -/
def eps : ℝ := 10995116 / 1099511627776
def alpha : ℝ := 14107901 / 8388608

theorem eps_pos : 0 < eps := by norm_num [eps]

theorem word_eps : Ideal.ofBits FTy.f32 925353388#32 = ((eps : ℝ) : EReal) := by
  simp [Ideal.ofBits, Ideal.ieee, -EReal.coe_mul, eps]; norm_num
theorem word_alpha : Ideal.ofBits FTy.f32 1071072509#32 = ((alpha : ℝ) : EReal) := by
  simp [Ideal.ofBits, Ideal.ieee, -EReal.coe_mul, alpha]; norm_num
theorem word_1024 : Ideal.ofBits FTy.f32 1149239296#32 = ((1024 : ℝ) : EReal) := by
  simp [Ideal.ofBits, Ideal.ieee, -EReal.coe_mul]; norm_num
theorem word_2 : Ideal.ofBits FTy.f32 1073741824#32 = ((2 : ℝ) : EReal) := by
  simp [Ideal.ofBits, Ideal.ieee, -EReal.coe_mul]; norm_num
theorem word_mhalf : Ideal.ofBits FTy.f32 3204448256#32 = ((-(1 / 2) : ℝ) : EReal) := by
  simp [Ideal.ofBits, Ideal.ieee, -EReal.coe_mul]; norm_num

/-- A sum of reals. -/
theorem sum_coe {ι : Type} [Fintype ι] (f : ι → EReal) (g : ι → ℝ) (h : ∀ i, f i = ((g i : ℝ) : EReal)) : ∑ i, f i = ((∑ i, g i : ℝ) : EReal) := by
  rw [Finset.sum_congr rfl fun i _ => h i]
  exact (map_sum (⟨⟨fun x : ℝ => (x : EReal), EReal.coe_zero⟩, EReal.coe_add⟩ : ℝ →+ EReal) g univ).symm

/-- A quotient by 1024. -/
theorem div_1024 (x : ℝ) : Ideal.div ((x : ℝ) : EReal) ((1024 : ℝ) : EReal) = ((x / 1024 : ℝ) : EReal) := by
  rw [Ideal.div_coe (by norm_num), ← EReal.coe_mul]; congr 1; ring

/-- The mean of a row, the row less its mean, its variance, the reciprocal root, the normalised row. -/
def mean (z : ℕ → ℝ) : ℝ := (∑ k : Fin 1024, z k.val) / 1024
def cen (z : ℕ → ℝ) (k : ℕ) : ℝ := z k - mean z
def var (z : ℕ → ℝ) : ℝ := (∑ k : Fin 1024, cen z k.val * cen z k.val) / 1024
def rs (z : ℕ → ℝ) : ℝ := (Real.sqrt (var z + eps))⁻¹
def hat (z : ℕ → ℝ) (k : ℕ) : ℝ := cen z k * rs z
/-- The gradient of the row from the gradient `a` of the normalised row. -/
def back (z a : ℕ → ℝ) (k : ℕ) : ℝ := rs z * (a k - mean a - hat z k * mean fun j => a j * hat z j)

theorem var_nonneg (z : ℕ → ℝ) : 0 ≤ var z := div_nonneg (sum_nonneg fun k _ => mul_self_nonneg _) (by norm_num)
theorem var_pos (z : ℕ → ℝ) : 0 < var z + eps := add_pos_of_nonneg_of_pos (var_nonneg z) eps_pos

theorem rsqrt_eq (z : ℕ → ℝ) : Ideal.rsqrt ((var z + eps : ℝ) : EReal) = ((rs z : ℝ) : EReal) := by
  rw [Ideal.rsqrt_coe, if_neg (var_pos z).not_gt, if_neg (var_pos z).ne']; rfl

/-- The square of the reciprocal root. -/
theorem rs_sq (z : ℕ → ℝ) : rs z * rs z = 1 / (var z + eps) := by
  unfold rs
  rw [← mul_inv, Real.mul_self_sqrt (var_pos z).le, one_div]

theorem sum_cen (z : ℕ → ℝ) : ∑ k : Fin 1024, cen z k.val = 0 := by
  unfold cen mean
  rw [sum_sub_distrib, sum_const]
  simp
  ring

/-- The same gradient, one derivative after the other: through the normalised row, the reciprocal root, the variance, and
    twice the mean. -/
def backR (z a : ℕ → ℝ) (k : ℕ) : ℝ :=
  let s := (∑ j : Fin 1024, cen z j.val * a j.val) * (-(1 / 2) * (rs z * (1 / (var z + eps)))) / 1024
  (a k * rs z + s * (2 * cen z k)) + ((∑ j : Fin 1024, -(a j.val * rs z)) + ∑ j : Fin 1024, -(s * (2 * cen z j.val))) / 1024

theorem backR_eq (z a : ℕ → ℝ) (k : ℕ) : backR z a k = back z a k := by
  unfold backR back
  have h2 : ∀ s : ℝ, ∑ j : Fin 1024, -(s * (2 * cen z j.val)) = 0 := fun s => by
    rw [sum_neg_distrib, ← mul_sum, ← mul_sum, sum_cen]; ring
  have h1 : ∑ j : Fin 1024, -(a j.val * rs z) = -(1024 * mean a * rs z) := by
    rw [sum_neg_distrib, ← sum_mul]; unfold mean; ring
  have h3 : (mean fun j => a j * hat z j) = (∑ j : Fin 1024, cen z j.val * a j.val) * rs z / 1024 := by
    unfold mean hat
    rw [sum_mul]
    exact congrArg (· / 1024) (sum_congr rfl fun j _ => by ring)
  simp only [h2, h1, h3, ← rs_sq]
  unfold hat
  ring

end NormSpec

end
-- ==== Proof.NormHost.lean ====
/-
  A normalised row's backward pass as the reference writes it, array by array: the derivative through the normalised row,
  the reciprocal root, the variance and the means, read at a row of reals.
-/
module

public import proofs.«01_k».proof.Proof.NormSpec
public import proofs.«01_k».proof.Proof.Gen.MixoutReferenceIdeal.Read
public import Idealize.ShloMosaic.Lib.Pipeline.ValueKit

@[expose] public section

set_option maxRecDepth 16384

noncomputable section

namespace NormHost

open Idealize.ShloMosaic Idealize.ShloMosaic.TcCoe NormSpec
open Cert.MixoutReferenceIdeal Cert.MixoutReferenceIdeal.Gen

abbrev Mat := FVec Ideal S8192x1024 .f32
abbrev Col := FVec Ideal S8192x1 .f32

def zero : FVec Ideal S_ .f32 := constant S_ .f32 0x00000000#32
/-- A row's sum, as a vector; and as a column. -/
def total (x : Mat) : FVec Ideal S8192 .f32 := Host.reduceAdd x zero reducesTo_S8192x1024_S8192_d1 h_S_
def totalB (x : Mat) : Col := broadcastInDim S8192x1 ![0] bcast_S8192_S8192x1_0 (total x)
def totalC (x : Mat) : Col := shapeCast _ (total x) shapeCasts_S8192_S8192x1
def col (w : BitVec 32) : Col := broadcastInDim S8192x1 ![] bcast_S_S8192x1 (constant S_ .f32 w)
def wide (x : Col) : Mat := broadcastInDim S8192x1024 ![0, 1] bcast_S8192x1_S8192x1024_0_1 x
/-- A column, summed along its one entry, and laid out over the row. -/
def wideS (x : Col) : Mat := broadcastInDim S8192x1024 ![0] bcast_S8192_S8192x1024_0 (Host.reduceAdd x zero reducesTo_S8192x1_S8192_d1 h_S_)

/-- The rows less their means. -/
def cenH (z : Mat) : Mat := subf z (wide (Host.divf (totalB z) (col 0x44800000#32)))
/-- The variances with the small number, their reciprocal roots, the normalised rows. -/
def varH (z : Mat) : Col := addf (Host.divf (totalB (mulf (cenH z) (cenH z))) (col 0x44800000#32)) (col 0x3727C5AC#32)
def rsH (z : Mat) : Col := Host.rsqrt (varH z)
def hatH (z : Mat) : Mat := mulf (cenH z) (wide (rsH z))
/-- What goes back through the variance. -/
def slopeH (z a : Mat) : Mat :=
  mulf (wideS (Host.divf (mulf (totalC (mulf (cenH z) a)) (mulf (col 0xBF000000#32) (Host.divf (rsH z) (varH z)))) (col 0x44800000#32)))
    (mulf (broadcastInDim S8192x1024 ![] bcast_S_S8192x1024 (constant S_ .f32 0x40000000#32)) (cenH z))
def backH (z a : Mat) : Mat :=
  addf (addf (mulf a (wide (rsH z))) (slopeH z a))
    (wideS (Host.divf (addf (totalC (Host.negf (mulf a (wide (rsH z))))) (totalC (Host.negf (slopeH z a)))) (col 0x44800000#32)))

/-- Row `t` of an array is the real row `z`. -/
def Row (x : Mat) (t : Fin 8192) (z : ℕ → ℝ) : Prop := ∀ k : Fin 1024, x (ix2 t k) = ((z k.val : ℝ) : EReal)

variable {x y : Mat} {t : Fin 8192} {z a : ℕ → ℝ} {c : Col} {w : ℝ}

theorem Row.mul (hx : Row x t z) (hy : Row y t a) : Row (mulf x y) t (fun k => z k * a k) := fun k => by
  pointwise; rw [hx k, hy k, EReal.coe_mul]
theorem Row.add (hx : Row x t z) (hy : Row y t a) : Row (addf x y) t (fun k => z k + a k) := fun k => by
  pointwise; rw [hx k, hy k, EReal.coe_add]
theorem Row.sub (hx : Row x t z) (hy : Row y t a) : Row (subf x y) t (fun k => z k - a k) := fun k => by
  pointwise; rw [hx k, hy k, EReal.coe_sub]
theorem Row.neg (hx : Row x t z) : Row (Host.negf x) t (fun k => -z k) := fun k => by
  pointwise; rw [hx k, EReal.coe_neg]

theorem total_at (hx : Row x t z) : total x (ix1 t) = ((∑ k : Fin 1024, z k.val : ℝ) : EReal) := by
  unfold total zero; pointwise; exact sum_coe _ (fun k : Fin 1024 => z k.val) hx
theorem totalB_at (hx : Row x t z) : totalB x (ix2 t 0) = ((∑ k : Fin 1024, z k.val : ℝ) : EReal) := by
  have h := total_at hx
  unfold totalB; generalize total x = v at h; pointwise; exact h
theorem totalC_at (hx : Row x t z) : totalC x (ix2 t 0) = ((∑ k : Fin 1024, z k.val : ℝ) : EReal) := by
  have h := total_at hx
  unfold totalC; generalize total x = v at h; pointwise; exact h
theorem wide_row (hc : c (ix2 t 0) = (w : EReal)) : Row (wide c) t (fun _ => w) := fun k => by
  unfold wide; pointwise; exact hc
theorem wideS_row (hc : c (ix2 t 0) = (w : EReal)) : Row (wideS c) t (fun _ => w) := fun k => by
  unfold wideS zero; pointwise; simp [hc]
theorem by1024 (hc : c (ix2 t 0) = (w : EReal)) : Host.divf c (col 0x44800000#32) (ix2 t 0) = ((w / 1024 : ℝ) : EReal) := by
  unfold col; pointwise; rw [hc, word_1024, div_1024]

theorem cenH_row (h : Row x t z) : Row (cenH x) t (cen z) := Row.sub h (wide_row (by1024 (totalB_at h)))

theorem varH_at (h : Row x t z) : varH x (ix2 t 0) = ((var z + eps : ℝ) : EReal) := by
  have h1 := by1024 (totalB_at (Row.mul (cenH_row h) (cenH_row h)))
  unfold varH
  generalize Host.divf (totalB (mulf (cenH x) (cenH x))) (col 0x44800000#32) = v at h1
  unfold col; pointwise; rw [h1, word_eps, ← EReal.coe_add]; rfl

theorem rsH_at (h : Row x t z) : rsH x (ix2 t 0) = ((rs z : ℝ) : EReal) := by
  have h1 := varH_at h
  unfold rsH
  generalize varH x = v at h1
  pointwise; rw [h1, rsqrt_eq]

theorem hatH_row (h : Row x t z) : Row (hatH x) t (hat z) := Row.mul (cenH_row h) (wide_row (rsH_at h))

theorem slopeH_row (h : Row x t z) (ha : Row y t a) : Row (slopeH x y) t fun k =>
    (∑ j : Fin 1024, cen z j.val * a j.val) * (-(1 / 2) * (rs z * (1 / (var z + eps)))) / 1024 * (2 * cen z k) := by
  refine Row.mul (wideS_row (by1024 ?_)) fun k => ?_
  · have h1 := totalC_at (Row.mul (cenH_row h) ha)
    have h2 := varH_at h
    have h3 := rsH_at h
    generalize totalC (mulf (cenH x) y) = p at h1 ⊢
    generalize varH x = v at h2 ⊢
    generalize rsH x = u at h3 ⊢
    unfold col; pointwise
    rw [h1, h2, h3, word_mhalf, Ideal.div_coe (var_pos z).ne', ← EReal.coe_mul, ← EReal.coe_mul, ← EReal.coe_mul]
  · have h1 := cenH_row h k
    generalize cenH x = v at h1 ⊢
    pointwise; rw [h1, word_2, ← EReal.coe_mul]

/-- The reference's backward pass of the rows is the compact one. -/
theorem backH_row (h : Row x t z) (ha : Row y t a) : Row (backH x y) t (back z a) := fun k => by
  have h1 := Row.mul ha (wide_row (rsH_at h))
  have h2 := slopeH_row h ha
  have hadd : ∀ (p q : Col) (u v : ℝ), p (ix2 t 0) = (u : EReal) → q (ix2 t 0) = (v : EReal) → addf p q (ix2 t 0) = ((u + v : ℝ) : EReal) := fun p q u v hp hq => by
    pointwise; rw [hp, hq, EReal.coe_add]
  refine (Row.add (Row.add h1 h2) (wideS_row (by1024 (hadd _ _ _ _ (totalC_at h1.neg) (totalC_at h2.neg)))) k).trans ?_
  rw [← backR_eq]
  rfl

/-- The gradient that comes in, and times the scale. -/
def sameH (y : Mat) : Mat := shapeCast _ y shapeCasts_S8192x1024_S8192x1024
def scaleH (y : Mat) (g : FVec Ideal S1024 .f32) : Mat :=
  mulf (sameH y) (broadcastInDim S8192x1024 ![0, 1] bcast_S1x1024_S8192x1024_0_1 (broadcastInDim S1x1024 ![1] bcast_S1024_S1x1024_1 g))
/-- The sum over the tokens, through a block of one row. -/
def overT (x : Mat) : FVec Ideal S1x1024 .f32 :=
  broadcastInDim S1x1024 ![1] bcast_S1024_S1x1024_1 (Host.reduceAdd (shapeCast S1x1024 (Host.reduceAdd x zero reducesTo_S8192x1024_S1024_d0 h_S_) shapeCasts_S1024_S1x1024) zero reducesTo_S1x1024_S1024_d0 h_S_)
def rest6 : FVec Ideal S6x1024 .f32 := broadcastInDim S6x1024 ![] bcast_S_S6x1024 (constant S_ .f32 0x00000000#32 : FVec Ideal S_ .f32)
/-- The gradients of the scale and of the shift, and six rows of zeros. -/
def lnH (z y : Mat) : FVec Ideal S8x1024 .f32 :=
  concatenate S8x1024 0 [⟨S1x1024, overT (mulf (hatH z) (sameH y))⟩, ⟨S1x1024, overT y⟩, ⟨S6x1024, rest6⟩] concatenates_S1x1024_S1x1024_S6x1024_S8x1024_d0

theorem sameH_row (h : Row x t z) : Row (sameH x) t z := fun k => by
  unfold sameH; rw [shapeCast_self]; exact h k

theorem scaleH_row {g : FVec Ideal S1024 .f32} {b : ℕ → ℝ} (h : Row x t z) (hg : ∀ k : Fin 1024, g (ix1 k) = ((b k.val : ℝ) : EReal)) :
    Row (scaleH x g) t (fun k => z k * b k) :=
  Row.mul (sameH_row h) fun k => by pointwise; exact hg k

theorem overT_at {f : ℕ → ℕ → ℝ} (h : ∀ t : Fin 8192, Row x t (f t.val)) (k : Fin 1024) :
    overT x (ix2 0 k) = ((∑ t : Fin 8192, f t.val k.val : ℝ) : EReal) := by
  have h1 : Host.reduceAdd x zero reducesTo_S8192x1024_S1024_d0 h_S_ (ix1 k) = ((∑ t : Fin 8192, f t.val k.val : ℝ) : EReal) := by
    unfold zero; pointwise; exact sum_coe _ (fun t : Fin 8192 => f t.val k.val) fun t => h t k
  unfold overT
  generalize Host.reduceAdd x zero reducesTo_S8192x1024_S1024_d0 h_S_ = v at h1 ⊢
  unfold zero; pointwise; simp [h1]

theorem lnH_at {Z Y : ℕ → ℕ → ℝ} (h : ∀ t : Fin 8192, Row x t (Z t.val)) (hy : ∀ t : Fin 8192, Row y t (Y t.val)) (r : Fin 8) (k : Fin 1024) :
    lnH x y (ix2 r k) = (((if r.val = 0 then ∑ t : Fin 8192, hat (Z t.val) k.val * Y t.val k.val else if r.val = 1 then ∑ t : Fin 8192, Y t.val k.val else 0 : ℝ)) : EReal) := by
  have h0 := overT_at (f := fun t k => hat (Z t) k * Y t k) (fun t => Row.mul (hatH_row (h t)) (sameH_row (hy t))) k
  have h1 := overT_at hy k
  unfold lnH
  generalize overT (mulf (hatH x) (sameH y)) = p at h0 ⊢
  generalize overT y = q at h1 ⊢
  have h2 : ∀ j : Fin 6, rest6 (ix2 j k) = 0 := fun j => by unfold rest6; pointwise
  generalize rest6 = u at h2 ⊢
  fin_cases r <;> pointwise <;> simp_all

end NormHost

end
-- ==== Proof.MixoutPay.lean ====
/-
  The mixers' output kernel, one row at a time: what the payloads of its body hold on a row of reals.
-/
module

public import proofs.«01_k».proof.Proof.NormSpec
public import proofs.«01_k».proof.Proof.Gen.MixoutKernelIdeal.Frame
public import Idealize.ShloMosaic.Lib.Pipeline.ValueKit

@[expose] public section

set_option maxRecDepth 16384

noncomputable section

open Idealize.ShloMosaic Idealize.ShloMosaic.TcCoe
open NormSpec

namespace Cert.MixoutKernelIdeal.Proofs

open Cert.MixoutKernelIdeal Cert.MixoutKernelIdeal.Gen

/-- Row `r` of a tile is the real row `z`. -/
def Row (x : FVec Ideal S512x1024 .f32) (r : Fin 512) (z : ℕ → ℝ) : Prop := ∀ k : Fin 1024, x (ix2 r k) = ((z k.val : ℝ) : EReal)

variable {x y : FVec Ideal S512x1024 .f32} {r : Fin 512} {z a : ℕ → ℝ} {g : FVec Ideal S1x1024 .f32} {gr : ℕ → ℝ}

theorem pay5_row (h : Row x r z) : Row (k0_pay5 (F := Ideal) x) r (cen z) := fun k => by
  pointwise [k0_pay5]
  rw [sum_coe _ (fun k : Fin 1024 => z k.val) h, word_1024, div_1024, h k, ← EReal.coe_sub]; rfl

theorem pay6_row (h : Row x r z) : (k0_pay6 (F := Ideal) x (ix2 r (0 : Fin 1)) : EReal) = ((rs z : ℝ) : EReal) := by
  have h5 := pay5_row h
  unfold k0_pay6
  generalize k0_pay5 (F := Ideal) x = c at h5 ⊢
  pointwise
  rw [sum_coe _ (fun k : Fin 1024 => cen z k.val * cen z k.val) fun k => by rw [h5 k, EReal.coe_mul], word_1024, div_1024, word_eps, ← EReal.coe_add]
  exact rsqrt_eq z

theorem pay7_row (h : Row x r z) : Row (k0_pay7 (F := Ideal) x) r (hat z) := fun k => by
  have h5 := pay5_row h; have h6 := pay6_row h
  unfold k0_pay7
  generalize k0_pay5 (F := Ideal) x = c at h5 ⊢
  generalize k0_pay6 (F := Ideal) x = q at h6 ⊢
  pointwise
  rw [h5 k, h6, ← EReal.coe_mul]; rfl

theorem pay8_row (h : Row x r z) (hy : Row y r a) (hg : ∀ k : Fin 1024, g (ix2 (0 : Fin 1) k) = ((gr k.val : ℝ) : EReal)) :
    Row (k0_pay8 (F := Ideal) y x g) r (back z fun k => a k * gr k) := fun k => by
  have h7 := pay7_row h; have h6 := pay6_row h
  unfold k0_pay8
  generalize k0_pay7 (F := Ideal) x = c at h7 ⊢
  generalize k0_pay6 (F := Ideal) x = q at h6 ⊢
  pointwise
  rw [sum_coe _ (fun k : Fin 1024 => a k.val * gr k.val) fun k => by rw [hy k, hg k, EReal.coe_mul],
    sum_coe _ (fun k : Fin 1024 => a k.val * gr k.val * hat z k.val) fun k => by rw [hy k, hg k, h7 k, EReal.coe_mul, EReal.coe_mul],
    word_1024, div_1024, div_1024, h6, hy k, hg k, h7 k]
  simp only [← EReal.coe_mul, ← EReal.coe_sub]
  rfl

/-- The next tile's payloads are the first tile's. -/
theorem pay21_eq : k0_pay21 (F := Ideal) = k0_pay7 := rfl

theorem pay4_eq : k0_pay4 (F := Ideal) x = x := by
  funext i
  obtain ⟨r, k, rfl⟩ : ∃ a b, i = ix2 (a : Fin 512) (b : Fin 1024) := ⟨i 0, i 1, by funext i; fin_cases i <;> rfl⟩
  pointwise [k0_pay4]

theorem pay8_eq : k0_pay8 (F := Ideal) y x g = k0_pay4 (F := Ideal) (k0_pay22 (F := Ideal) y x g) := rfl

theorem pay22_row (h : Row x r z) (hy : Row y r a) (hg : ∀ k : Fin 1024, g (ix2 (0 : Fin 1) k) = ((gr k.val : ℝ) : EReal)) :
    Row (k0_pay22 (F := Ideal) y x g) r (back z fun k => a k * gr k) := fun k => by
  rw [← pay8_row h hy hg k, pay8_eq, pay4_eq]

theorem pay12_eq : k0_pay12 (F := Ideal) x = x := rfl

theorem pay13_row (h : Row x r z) : Row (k0_pay13 (F := Ideal) x) r (fun k => alpha * z k) := fun k => by
  pointwise [k0_pay13]
  rw [word_alpha, h k, EReal.coe_mul]

/-- One quarter of the product with the transposed weight. -/
theorem dot_row (w : FVec Ideal S1x256x1024 .bf16) (j : Fin 256) (wr : ℕ → ℝ) (h : Row x r z) (hw : ∀ k : Fin 1024, w (ix3 (0 : Fin 1) j k) = ((wr k.val : ℝ) : EReal)) :
    (k0_pay14 (F := Ideal) x w (ix2 r j) : EReal) = ((∑ k : Fin 1024, z k.val * wr k.val : ℝ) : EReal) := by
  unfold k0_pay14
  rw [pay12_eq]
  pointwise
  exact sum_coe _ _ fun k => by rw [h k, hw k, EReal.coe_mul]

theorem pay15_eq : k0_pay15 (F := Ideal) = k0_pay14 := rfl
theorem pay16_eq : k0_pay16 (F := Ideal) = k0_pay14 := rfl
theorem pay18_eq (w : FVec Ideal S1x256x1024 .bf16) : k0_pay18 (F := Ideal) (k0_pay12 (F := Ideal) x) (k0_pay17 (F := Ideal) w) = k0_pay14 (F := Ideal) x w := rfl

variable {X Y H : ℕ → ℕ → ℝ} {L : FVec Ideal S1x1024 .f32} {l : ℝ} {k : Fin 1024}

/-- The first tile's two sums over its rows. -/
theorem pay10_at (hy : ∀ r : Fin 512, Row y r (Y r.val)) (hx : ∀ r : Fin 512, Row x r (H r.val)) (hl : L (ix2 (0 : Fin 1) k) = ((l : ℝ) : EReal)) :
    (k0_pay10 (F := Ideal) y x L (ix2 (0 : Fin 1) k) : EReal) = ((l + ∑ r : Fin 512, Y r.val k.val * H r.val k.val : ℝ) : EReal) := by
  pointwise [k0_pay10]
  rw [sum_coe _ (fun r : Fin 512 => Y r.val k.val * H r.val k.val) fun r => by rw [hy r k, hx r k, EReal.coe_mul], hl, EReal.coe_add]

theorem pay11_at (hy : ∀ r : Fin 512, Row y r (Y r.val)) (hl : L (ix2 (0 : Fin 1) k) = ((l : ℝ) : EReal)) :
    (k0_pay11 (F := Ideal) y L (ix2 (0 : Fin 1) k) : EReal) = ((l + ∑ r : Fin 512, Y r.val k.val : ℝ) : EReal) := by
  pointwise [k0_pay11]
  rw [sum_coe _ (fun r : Fin 512 => Y r.val k.val) fun r => hy r k, hl, EReal.coe_add]

/-- Whether the next tile is one of its own: `1` before the last point, `0` at it. -/
theorem pay1_eq (t : Fin 16) : k0_pay1 (F := Ideal) (BitVec.ofNat 32 t.val) = (((if t.val < 15 then 1 else 0 : ℝ) : ℝ) : EReal) := by
  have h : ∀ t : Fin 16, (Scalar.extui (Scalar.cmpi .slt (BitVec.ofNat 32 t.val) 15#32) : BitVec 32) = if t.val < 15 then 1#32 else 0#32 := by decide +kernel
  show Scalar.sitofp FTy.f32 (Scalar.extui (Scalar.cmpi .slt (BitVec.ofNat 32 t.val) 15#32) : BitVec 32) = _
  rw [h t]
  split_ifs
  · show (((1#32 : BitVec 32).toInt : ℝ) : EReal) = _; simp
  · show (((0#32 : BitVec 32).toInt : ℝ) : EReal) = _; simp

theorem pay2_at (t : Fin 16) (hy : ∀ r : Fin 512, Row y r (Y r.val)) (hx : ∀ r : Fin 512, Row x r (H r.val)) (hl : L (ix2 (0 : Fin 1) k) = ((l : ℝ) : EReal)) :
    (k0_pay2 (F := Ideal) (BitVec.ofNat 32 t.val) y x L (ix2 (0 : Fin 1) k) : EReal)
      = ((l + (if t.val < 15 then 1 else 0) * ∑ r : Fin 512, Y r.val k.val * H r.val k.val : ℝ) : EReal) := by
  unfold k0_pay2
  rw [pay1_eq]
  pointwise
  rw [sum_coe _ (fun r : Fin 512 => Y r.val k.val * H r.val k.val) fun r => by rw [hy r k, hx r k, EReal.coe_mul], hl, EReal.coe_add, EReal.coe_mul]

theorem pay3_at (t : Fin 16) (hy : ∀ r : Fin 512, Row y r (Y r.val)) (hl : L (ix2 (0 : Fin 1) k) = ((l : ℝ) : EReal)) :
    (k0_pay3 (F := Ideal) (BitVec.ofNat 32 t.val) y L (ix2 (0 : Fin 1) k) : EReal) = ((l + (if t.val < 15 then 1 else 0) * ∑ r : Fin 512, Y r.val k.val : ℝ) : EReal) := by
  unfold k0_pay3
  rw [pay1_eq]
  pointwise
  rw [sum_coe _ (fun r : Fin 512 => Y r.val k.val) fun r => hy r k, hl, EReal.coe_add, EReal.coe_mul]

end Cert.MixoutKernelIdeal.Proofs

end
-- ==== Proof.MixoutValue.lean ====
/-
  The mixers' output kernel: its four result arrays in closed form. Point `t` writes the rows of tile `t` from the gradient
  that the point before left, and computes the gradient of tile `t + 1`.
-/
module

public import proofs.«01_k».proof.Proof.MixoutPay
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)
open NormSpec

namespace Cert.MixoutKernelIdeal.Proofs

open Cert.MixoutKernelIdeal Cert.MixoutKernelIdeal.Gen

variable {m : (ℓ : Loc nD τ sig) → Buf (Elt Ideal) ℓ} {d : Dev nD}

theorem idx : ∀ t : Fin cfg0.N, win0_0.index t = ![0, 0] ∧ win0_1.index t = ![0, 0] ∧ win0_2.index t = ![min (t.val + 1) 15, 0]
    ∧ win0_3.index t = ![min (t.val + 1) 15, 0] ∧ win0_4.index t = ![0, 0, 0] ∧ win0_5.index t = ![0, 0] ∧ win0_6.index t = ![t.val, 0]
    ∧ win0_7.index t = ![t.val, 0] ∧ win0_8.index t = ![t.val, 0] ∧ win0_9.index t = ![0, 0] ∧ t.val < 16 :=
  (by decide +kernel : ∀ t : Fin grid0.N, _)

theorem point_val : ∀ t : Fin cfg0.N, ((grid0.coords t) 0).val = t.val ∧ t.val < 16 := (by decide +kernel : ∀ t : Fin grid0.N, _)

/-- The arrays the kernel is called on, as reals: the rows to normalise, the gradient that comes in, the scale, the weight. -/
structure Args (m : (ℓ : Loc nD τ sig) → Buf (Elt Ideal) ℓ) (d : Dev nD) (Z Y : ℕ → ℕ → ℝ) (G : ℕ → ℝ) (W : ℕ → ℕ → ℝ) : Prop where
  z : ∀ (a : Fin 8192) (k : Fin 1024), (V m d main_v24 : FVec Ideal S8192x1024 .f32) (ix2 a k) = ((Z a.val k.val : ℝ) : EReal)
  y : ∀ (a : Fin 8192) (k : Fin 1024), (V m d main_arg5 : FVec Ideal S8192x1024 .f32) (ix2 a k) = ((Y a.val k.val : ℝ) : EReal)
  g : ∀ k : Fin 1024, (V m d main_v25 : FVec Ideal S1x1024 .f32) (ix2 (0 : Fin 1) k) = ((G k.val : ℝ) : EReal)
  w : ∀ (q : Fin 4) (j : Fin 256) (k : Fin 1024), (V m d main_v1 : FVec Ideal S4x256x1024 .bf16) (ix3 q j k) = ((W (256 * q.val + j.val) k.val : ℝ) : EReal)

variable {Z Y : ℕ → ℕ → ℝ} {G : ℕ → ℝ} {W : ℕ → ℕ → ℝ}

/-- The gradient of row `a`. -/
def dz (Z Y : ℕ → ℕ → ℝ) (G : ℕ → ℝ) (a : ℕ) : ℕ → ℝ := back (Z a) fun k => Y a k * G k

theorem blk0 (A : Args m d Z Y G W) (t : Fin cfg0.N) (r : Fin 512) : Row (iblk m d 0 t) r (Y r.val) := fun k => by
  refine Eq.trans ?_ (A.y ⟨r.val, by omega⟩ k); blk_point [iblk, idx t]
theorem blk1 (A : Args m d Z Y G W) (t : Fin cfg0.N) (r : Fin 512) : Row (iblk m d 1 t) r (Z r.val) := fun k => by
  refine Eq.trans ?_ (A.z ⟨r.val, by omega⟩ k); blk_point [iblk, idx t]
theorem blk2 (A : Args m d Z Y G W) (t : Fin cfg0.N) (r : Fin 512) : Row (iblk m d 2 t) r (Y (512 * min (t.val + 1) 15 + r.val)) := fun k => by
  refine Eq.trans ?_ (A.y ⟨512 * min (t.val + 1) 15 + r.val, by omega⟩ k); blk_point [iblk, idx t]
theorem blk3 (A : Args m d Z Y G W) (t : Fin cfg0.N) (r : Fin 512) : Row (iblk m d 3 t) r (Z (512 * min (t.val + 1) 15 + r.val)) := fun k => by
  refine Eq.trans ?_ (A.z ⟨512 * min (t.val + 1) 15 + r.val, by omega⟩ k); blk_point [iblk, idx t]
theorem blk5 (A : Args m d Z Y G W) (t : Fin cfg0.N) (k : Fin 1024) : (iblk m d 5 t : FVec Ideal S1x1024 .f32) (ix2 (0 : Fin 1) k) = ((G k.val : ℝ) : EReal) := by
  refine Eq.trans ?_ (A.g k); blk_point [iblk, idx t]
theorem blk4 (A : Args m d Z Y G W) (t : Fin cfg0.N) (q : Fin 4) (j : Fin 256) (k : Fin 1024) :
    (iblk m d 4 t : FVec Ideal S4x256x1024 .bf16) (ix3 q j k) = ((W (256 * q.val + j.val) k.val : ℝ) : EReal) := by
  refine Eq.trans ?_ (A.w q j k); blk_point [iblk, idx t]

/-- A load of one of the weight's four blocks. -/
theorem ld_weight (X : FVec Ideal S4x256x1024 .bf16) (q : Fin 4) (j : Fin 256) (k : Fin 1024) (inb) :
    View.ld (Val := Elt Ideal) (e' := .bf16) (S := S4x256x1024) X (Rect.unit ![q.val, 0, 0] ![1, 256, 1024] inb) (ix3 (0 : Fin 1) j k) = X (ix3 q j k) := by
  pointwise

/-- A load of one of the last result's rows. -/
theorem ld_row (X : FVec Ideal S8x1024 .f32) (k : Fin 8) (c : Fin 1024) (q : ℕ) (hq : q = k.val) (inb) :
    View.ld (Val := Elt Ideal) (e' := .f32) (S := S8x1024) X (Rect.unit ![q, 0] ![1, 1024] inb) (ix2 (0 : Fin 1) c) = X (ix2 k c) := by
  subst hq
  pointwise

/-- One stored row of the last result, over what was there. -/
theorem canon_row (k : ℕ) (inb) (P : FVec Ideal S1x1024 .f32) (L) (r : Fin 8) (c : Fin 1024) :
    View.canon (Val := Elt Ideal) (s := S8x1024) (e := .f32) (⟨Rect.unit ![k, 0] ![1, 1024] inb, P⟩ :: L) (ix2 r c)
      = if r.val = k then P (ix2 0 c) else View.canon L (ix2 r c) := by
  split_ifs with h
  · have e : ix2 r c = (Rect.unit (s := S8x1024) ![k, 0] ![1, 1024] inb).emb (ix2 (0 : Fin 1) c) := by
      funext a
      fin_cases a <;> refine Fin.ext ?_ <;> simp [h]
    rw [e]
    exact View.canon_cons_emb _ _ _ _
  · refine View.canon_cons_of_not_mem _ _ fun hx => h ?_
    have := (Rect.mem_set_unit (inb := inb).mp hx) 0
    simp at this
    omega

theorem write_row {κ : Kind} {sp : Space} (v : View sig κ sp S8x1024 .f32) (f : v.ty.Contents (Elt Ideal)) (k : ℕ) (inb) (P : FVec Ideal S1x1024 .f32) (L) (r : Fin 8) (c : Fin 1024) :
    v.read (Elt Ideal) (v.writes (Elt Ideal) f (⟨Rect.unit ![k, 0] ![1, 1024] inb, P⟩ :: L)) (ix2 r c)
      = if r.val = k then P (ix2 0 c) else v.read (Elt Ideal) (v.writes (Elt Ideal) f L) (ix2 r c) := by
  rw [View.read_writes_cons_unit v f inb P L _ rfl]
  split_ifs with h h' h'
  · exact congrArg P (by funext a; fin_cases a <;> refine Fin.ext ?_ <;> simp [h'])
  · exact absurd (h 0) (by simp; omega)
  · exact absurd (fun a => by fin_cases a <;> simp [h']) h
  · rfl

/-- What tile `n` adds to the last result. -/
def term (Z Y : ℕ → ℕ → ℝ) (n k c : ℕ) : ℝ :=
  if k = 0 then ∑ r : Fin 512, Y (512 * n + r.val) c * hat (Z (512 * n + r.val)) c else if k = 1 then ∑ r : Fin 512, Y (512 * n + r.val) c else 0

/-- What holds after point `n`: the scratch is the next tile's gradient, the last result the sum over the tiles so far. -/
structure After (Z Y : ℕ → ℕ → ℝ) (G : ℕ → ℝ) (n : ℕ) (S : FVec Ideal S512x1024 .f32) (L : FVec Ideal S8x1024 .f32) : Prop where
  s : ∀ r : Fin 512, Row S r (dz Z Y G (512 * min (n + 1) 15 + r.val))
  l : ∀ (k : Fin 8) (c : Fin 1024), L (ix2 k c) = ((∑ i ∈ Finset.range (min (n + 2) 16), term Z Y i k.val c.val : ℝ) : EReal)

/-- The sums over the next tile's rows, added to the last result's two rows. -/
theorem next_rows (A : Args m d Z Y G W) (t : Fin cfg0.N) (L1 L0 : FVec Ideal S1x1024 .f32) (Q : EReal) (l : ℝ) (k : Fin 8) (c : Fin 1024)
    (h1 : k.val = 1 → L1 (ix2 (0 : Fin 1) c) = (l : EReal)) (h0 : k.val = 0 → L0 (ix2 (0 : Fin 1) c) = (l : EReal)) (hQ : ¬k.val = 1 → ¬k.val = 0 → Q = (l : EReal)) :
    (if k.val = 1 then k0_pay3 (F := Ideal) (BitVec.ofNat 32 ((grid0.coords t) 0).val) (iblk m d 2 t) L1 (ix2 (0 : Fin 1) c)
      else if k.val = 0 then k0_pay2 (F := Ideal) (BitVec.ofNat 32 ((grid0.coords t) 0).val) (iblk m d 2 t) (k0_pay21 (iblk m d 3 t)) L0 (ix2 (0 : Fin 1) c) else Q)
      = ((l + (if t.val < 15 then 1 else 0) * term Z Y (min (t.val + 1) 15) k.val c.val : ℝ) : EReal) := by
  obtain ⟨e, ht⟩ := point_val t
  rw [e, pay21_eq]
  unfold term
  by_cases k1 : k.val = 1
  · rw [if_pos k1, pay3_at (Y := fun r => Y (512 * min (t.val + 1) 15 + r)) ⟨t.val, ht⟩ (fun r => blk2 A t r) (h1 k1), if_neg (show ¬k.val = 0 by omega), if_pos k1]
  · by_cases k0 : k.val = 0
    · rw [if_neg k1, if_pos k0, pay2_at (Y := fun r => Y (512 * min (t.val + 1) 15 + r)) (H := fun r => hat (Z (512 * min (t.val + 1) 15 + r))) ⟨t.val, ht⟩ (fun r => blk2 A t r) (fun r => pay7_row (blk3 A t r)) (h0 k0), if_pos k0]
    · rw [if_neg k1, if_neg k0, if_neg k0, if_neg k1, hQ k1 k0, mul_zero, add_zero]

theorem sum_next (f : ℕ → ℝ) (n : ℕ) (h : n < 16) :
    (∑ i ∈ Finset.range (min (n + 1) 16), f i) + (if n < 15 then 1 else 0) * f (min (n + 1) 15) = ∑ i ∈ Finset.range (min (n + 2) 16), f i := by
  split_ifs with h'
  · rw [show min (n + 2) 16 = (n + 1) + 1 by omega, Finset.sum_range_succ, show min (n + 1) 16 = n + 1 by omega, show min (n + 1) 15 = n + 1 by omega, one_mul]
  · rw [show min (n + 2) 16 = 16 by omega, show min (n + 1) 16 = 16 by omega]; simp

theorem after (A : Args m d Z Y G W) : ∀ (n : ℕ) (h : n < cfg0.N), After Z Y G n (outsAt0 m d n h).2.2.2.2 (outsAt0 m d n h).2.2.2.1
  | 0, h => by
    rw [outsAt0_A m d ⟨0, h⟩ (by simp)]
    constructor
    · intro r k
      frame_out
      rw [pay4_eq]
      exact pay22_row (blk3 A ⟨0, h⟩ r) (blk2 A ⟨0, h⟩ r) (blk5 A ⟨0, h⟩) k
    · intro k c
      frame_open
      simp (disch := decide) only [↓ View.readCov_skip, ↓ View.readCov_cons_toLoadRect, ↓ View.readCov_fill]
      frame_out
      rw [canon_row, canon_row, canon_row, canon_row]
      have z9 : ∀ i, k0_pay9 (F := Ideal) i = ((0 : ℝ) : EReal) := fun i => by pointwise [k0_pay9]; rfl
      refine (next_rows A ⟨0, h⟩ _ _ _ (term Z Y 0 k.val c.val) k c (fun k1 => ?_) (fun k0 => ?_) (fun k1 k0 => ?_)).trans ?_
      · rw [pay11_at (fun r => blk0 A ⟨0, h⟩ r) ((ld_row _ k c 1 k1.symm _).trans (z9 _))]
        simp [term, k1]
      · rw [pay10_at (H := fun r => hat (Z r)) (fun r => blk0 A ⟨0, h⟩ r) (fun r => pay7_row (blk1 A ⟨0, h⟩ r)) ((ld_row _ k c 0 k0.symm _).trans (z9 _))]
        simp [term, k0]
      · rw [if_neg k1, if_neg k0]
        refine Eq.trans ?_ ((z9 (ix2 k c)).trans ?_)
        · exact congrFun (View.canon_cons_unit_lit (Val := Elt Ideal) (S := S8x1024) (e := .f32) inb_S8x1024_S8x1024_0_0 (k0_pay9 (F := Ideal)) [] (by decide)) _
        · simp [term, k1, k0]
      · rw [← sum_next _ 0 (by omega)]
        simp
  | n + 1, h => by
    have ih := after A n (Nat.lt_of_succ_lt h)
    have hn := (point_val ⟨n + 1, h⟩).2
    rw [outsAt0_B m d ⟨n + 1, h⟩ (by simp at hn ⊢; omega)]
    constructor
    · intro r k
      frame_out
      rw [pay4_eq]
      exact pay22_row (blk3 A ⟨n + 1, h⟩ r) (blk2 A ⟨n + 1, h⟩ r) (blk5 A ⟨n + 1, h⟩) k
    · intro k c
      frame_open
      simp (disch := decide) only [↓ View.readCov_skip, ↓ View.readCov_cons_toLoadRect, ↓ View.readCov_fill]
      frame_out
      rw [write_row, write_row]
      refine (next_rows A ⟨n + 1, h⟩ _ _ _ _ k c (fun k1 => ?_) (fun k0 => ?_) (fun k1 k0 => ?_)).trans (congrArg _ (sum_next (fun i => term Z Y i k.val c.val) (n + 1) hn))
      · exact (ld_row _ k c 1 k1.symm _).trans (ih.l k c)
      · exact (ld_row _ k c 0 k0.symm _).trans (ih.l k c)
      · exact (congrFun (Memref.IsWhole.read_unread _ _) _).trans (ih.l k c)

/-- The tile of gradients that point `t` writes out: the first tile's own, or what the point before left. -/
def cur (Z Y : ℕ → ℕ → ℝ) (G : ℕ → ℝ) (t : ℕ) (x : FVec Ideal S512x1024 .f32) : Prop := ∀ r : Fin 512, Row x r (dz Z Y G (512 * t + r.val))

theorem cur_A (A : Args m d Z Y G W) (t : Fin cfg0.N) (h : t.val % 16 = 0) : cur Z Y G t.val (k0_pay8 (iblk m d 0 t) (iblk m d 1 t) (iblk m d 5 t)) := fun r => by
  have e : t.val = 0 := by have := (point_val t).2; omega
  have := pay8_row (blk1 A t r) (blk0 A t r) (blk5 A t)
  rw [e, Nat.mul_zero, Nat.zero_add]
  exact this

theorem cur_B (A : Args m d Z Y G W) (t : Fin cfg0.N) (h : ¬t.val % 16 = 0) (hb) {x : FVec Ideal S512x1024 .f32}
    (hx : x = (outsAt0 m d (t.val - 1) hb).2.2.2.2) : cur Z Y G t.val x := fun r => by
  rw [hx]
  have := (after A (t.val - 1) hb).s r
  have ht := (point_val t).2
  rwa [show min (t.val - 1 + 1) 15 = t.val by omega] at this

/-- The first three results. -/
def resX (Z Y : ℕ → ℕ → ℝ) (G : ℕ → ℝ) : FVec Ideal S8192x1024 .f32 := fun i => ((alpha * dz Z Y G (i 0).val (i 1).val : ℝ) : EReal)
def resZ (Z Y : ℕ → ℕ → ℝ) (G : ℕ → ℝ) : FVec Ideal S8192x1024 .bf16 := fun i => ((dz Z Y G (i 0).val (i 1).val : ℝ) : EReal)
def resY (Z Y : ℕ → ℕ → ℝ) (G : ℕ → ℝ) (W : ℕ → ℕ → ℝ) : FVec Ideal S8192x1024 .f32 :=
  fun i => ((∑ k : Fin 1024, dz Z Y G (i 0).val k.val * W (i 1).val k.val : ℝ) : EReal)
/-- The last result. -/
def resL (Z Y : ℕ → ℕ → ℝ) : FVec Ideal S8x1024 .f32 := fun i =>
  ((if (i 0).val = 0 then ∑ t : Fin 8192, Y t.val (i 1).val * hat (Z t.val) (i 1).val else if (i 0).val = 1 then ∑ t : Fin 8192, Y t.val (i 1).val else 0 : ℝ) : EReal)

/-- The place of row `a` of point `t` in the first three results. -/
def place (t : Fin cfg0.N) (y : S512x1024.Idx) : S8192x1024.Idx :=
  ix2 (⟨512 * t.val + (y 0).val, by have := (point_val t).2; have := (y 0).isLt; simp at this; omega⟩ : Fin 8192) (⟨(y 1).val, (y 1).isLt⟩ : Fin 1024)

theorem emb6 (t : Fin cfg0.N) (y : S512x1024.Idx) : ((View.whole main_v26_0).slice (win0_6.rect t)).emb y = place t y := by
  unfold place; blk_ext [idx t]
theorem emb7 (t : Fin cfg0.N) (y : S512x1024.Idx) : ((View.whole main_v26_1).slice (win0_7.rect t)).emb y = place t y := by
  unfold place; blk_ext [idx t]
theorem emb8 (t : Fin cfg0.N) (y : S512x1024.Idx) : ((View.whole main_v26_2).slice (win0_8.rect t)).emb y = place t y := by
  unfold place; blk_ext [idx t]

theorem ix_of (y : S512x1024.Idx) : ∃ (a : Fin 512) (b : Fin 1024), y = ix2 a b := ⟨y 0, y 1, by funext i; fin_cases i <;> rfl⟩

theorem out0 {t : Fin cfg0.N} {x : FVec Ideal S512x1024 .f32} (h : cur Z Y G t.val x) (y : S512x1024.Idx) : k0_pay13 x y = resX Z Y G (place t y) := by
  obtain ⟨a, b, rfl⟩ := ix_of y
  exact pay13_row (h a) b

theorem out1 {t : Fin cfg0.N} {x : FVec Ideal S512x1024 .f32} (h : cur Z Y G t.val x) (y : S512x1024.Idx) : k0_pay12 x y = resZ Z Y G (place t y) := by
  obtain ⟨a, b, rfl⟩ := ix_of y
  exact h a b

/-- The four column blocks of the third result. -/
theorem four (P3 P2 P1 P0 : FVec Ideal S512x256 .f32) (R : S512x1024.Idx → EReal)
    (h0 : ∀ a (c : Fin 256), P0 (ix2 a c) = R (ix2 a ⟨c.val, by omega⟩)) (h1 : ∀ a (c : Fin 256), P1 (ix2 a c) = R (ix2 a ⟨256 + c.val, by omega⟩))
    (h2 : ∀ a (c : Fin 256), P2 (ix2 a c) = R (ix2 a ⟨512 + c.val, by omega⟩)) (h3 : ∀ a (c : Fin 256), P3 (ix2 a c) = R (ix2 a ⟨768 + c.val, by omega⟩))
    (y : S512x1024.Idx) :
    View.canon (Val := Elt Ideal) (e := .f32) [⟨Rect.unit ![0, 768] ![512, 256] inb_S512x1024_S512x256_0_768, P3⟩, ⟨Rect.unit ![0, 512] ![512, 256] inb_S512x1024_S512x256_0_512, P2⟩,
      ⟨Rect.unit ![0, 256] ![512, 256] inb_S512x1024_S512x256_0_256, P1⟩, ⟨Rect.unit ![0, 0] ![512, 256] inb_S512x1024_S512x256_0_0, P0⟩] y = R y := by
  canon_tiles x hx
  all_goals obtain ⟨a, b, rfl⟩ : ∃ a b, x = ix2 a b := ⟨x 0, x 1, by funext i; fin_cases i <;> rfl⟩
  · rw [h3]; blk_ext <;> first | exact hx0.symm | exact hx1.symm
  · rw [h2]; blk_ext <;> first | exact hx0.symm | exact hx1.symm
  · rw [h1]; blk_ext <;> first | exact hx0.symm | exact hx1.symm
  · rw [h0]; blk_ext <;> first | exact hx0.symm | exact hx1.symm

/-- One quarter of the third result's tile. -/
theorem quarter (A : Args m d Z Y G W) {t : Fin cfg0.N} {x : FVec Ideal S512x1024 .f32} (h : cur Z Y G t.val x) (q : Fin 4) (inb) (a : Fin 512) (c : Fin 256)
    (n : Fin 1024) (hn : n.val = 256 * q.val + c.val) :
    (k0_pay14 (F := Ideal) x (View.ld (Val := Elt Ideal) (e' := .bf16) (S := S4x256x1024) (iblk m d 4 t) (Rect.unit ![q.val, 0, 0] ![1, 256, 1024] inb)) (ix2 a c) : EReal)
      = resY Z Y G W (place t (ix2 a n)) := by
  rw [dot_row _ c (W (256 * q.val + c.val)) (h a) fun k => (ld_weight _ q c k inb).trans (blk4 A t q c k), ← hn]
  rfl

theorem out2 (A : Args m d Z Y G W) {t : Fin cfg0.N} {x : FVec Ideal S512x1024 .f32} (h : cur Z Y G t.val x) (y : S512x1024.Idx) :
    View.canon (Val := Elt Ideal) (e := .f32)
      [⟨Rect.unit ![0, 768] ![512, 256] inb_S512x1024_S512x256_0_768, k0_pay18 (F := Ideal) (k0_pay12 x)
          (k0_pay17 (View.ld (Val := Elt Ideal) (e' := .bf16) (S := S4x256x1024) (iblk m d 4 t) (Rect.unit ![3, 0, 0] ![1, 256, 1024] inb_S4x256x1024_S1x256x1024_3_0_0)))⟩,
        ⟨Rect.unit ![0, 512] ![512, 256] inb_S512x1024_S512x256_0_512, k0_pay16 (F := Ideal) x
          (View.ld (Val := Elt Ideal) (e' := .bf16) (S := S4x256x1024) (iblk m d 4 t) (Rect.unit ![2, 0, 0] ![1, 256, 1024] inb_S4x256x1024_S1x256x1024_2_0_0))⟩,
        ⟨Rect.unit ![0, 256] ![512, 256] inb_S512x1024_S512x256_0_256, k0_pay15 (F := Ideal) x
          (View.ld (Val := Elt Ideal) (e' := .bf16) (S := S4x256x1024) (iblk m d 4 t) (Rect.unit ![1, 0, 0] ![1, 256, 1024] inb_S4x256x1024_S1x256x1024_1_0_0))⟩,
        ⟨Rect.unit ![0, 0] ![512, 256] inb_S512x1024_S512x256_0_0, k0_pay14 (F := Ideal) x
          (View.ld (Val := Elt Ideal) (e' := .bf16) (S := S4x256x1024) (iblk m d 4 t) (Rect.unit ![0, 0, 0] ![1, 256, 1024] inb_S4x256x1024_S1x256x1024_0_0_0))⟩] y
      = resY Z Y G W (place t y) := by
  rw [pay18_eq, pay15_eq, pay16_eq]
  refine four _ _ _ _ (fun y => resY Z Y G W (place t y)) ?_ ?_ ?_ ?_ y
  · exact fun a c => quarter A h 0 _ a c _ (by simp)
  · exact fun a c => quarter A h 1 _ a c _ (by simp)
  · exact fun a c => quarter A h 2 _ a c _ (by simp)
  · exact fun a c => quarter A h 3 _ a c _ (by simp)

theorem final0 (A : Args m d Z Y G W) : (dats m 0 d).arrAt 6 (cfgs 0).N = resX Z Y G := by
  refine (dats m 0 d).arrAt_eq_of_covers 6 _ (by decide +kernel) fun t hf y => ?_
  blk_simp
  rw [after0_6, emb6]
  by_cases hc : t.val % 16 = 0
  · rw [outsAt0_A m d t hc]; frame_out
    exact out0 (cur_A A t hc) y
  · rw [outsAt0_B m d t hc]; frame_out
    exact out0 (cur_B A t hc _ (Memref.IsWhole.read_unread _ _)) y

theorem final1 (A : Args m d Z Y G W) : (dats m 0 d).arrAt 7 (cfgs 0).N = resZ Z Y G := by
  refine (dats m 0 d).arrAt_eq_of_covers 7 _ (by decide +kernel) fun t hf y => ?_
  blk_simp
  rw [after0_7, emb7]
  by_cases hc : t.val % 16 = 0
  · rw [outsAt0_A m d t hc]; frame_out
    exact out1 (cur_A A t hc) y
  · rw [outsAt0_B m d t hc]; frame_out
    exact out1 (cur_B A t hc _ (Memref.IsWhole.read_unread _ _)) y

theorem final2 (A : Args m d Z Y G W) : (dats m 0 d).arrAt 8 (cfgs 0).N = resY Z Y G W := by
  refine (dats m 0 d).arrAt_eq_of_covers 8 _ (by decide +kernel) fun t hf y => ?_
  blk_simp
  rw [after0_8, emb8]
  by_cases hc : t.val % 16 = 0
  · rw [outsAt0_A m d t hc]; frame_out
    exact out2 A (cur_A A t hc) y
  · rw [outsAt0_B m d t hc]; frame_out
    exact out2 A (cur_B A t hc _ (Memref.IsWhole.read_unread _ _)) y

/-- The sums over the tiles are the sums over the rows. -/
theorem sum_tiles (k c : ℕ) : ∑ i ∈ Finset.range 16, term Z Y i k c
    = if k = 0 then ∑ t : Fin 8192, Y t.val c * hat (Z t.val) c else if k = 1 then ∑ t : Fin 8192, Y t.val c else 0 := by
  have e : ∀ f : ℕ → ℝ, ∑ i : Fin 16, ∑ r : Fin 512, f (512 * i.val + r.val) = ∑ t : Fin 8192, f t.val := fun f =>
    Fin.sum_mul_add_congr fun s r hl => congrArg f (show 512 * s.val + r.val = s.val * 512 + r.val by omega)
  rw [Finset.sum_range]
  unfold term
  split_ifs
  · exact e fun t => Y t c * hat (Z t) c
  · exact e fun t => Y t c
  · exact Finset.sum_const_zero

theorem final3 (A : Args m d Z Y G W) : (dats m 0 d).arrAt 9 (cfgs 0).N = resL Z Y := by
  refine (dats m 0 d).arrAt_eq_of_covers 9 _ (by decide +kernel) fun t hf y => ?_
  blk_simp
  have ey : ((View.whole main_v26_3).slice (win0_9.rect t)).emb y = ix2 (⟨(y 0).val, (y 0).isLt⟩ : Fin 8) (⟨(y 1).val, (y 1).isLt⟩ : Fin 1024) := by
    blk_ext [idx t]
  have h15 := (flush0_9 t).mp hf
  have ht := (point_val t).2
  obtain ⟨k, c, rfl⟩ : ∃ a b, y = ix2 (a : Fin 8) (b : Fin 1024) := ⟨y 0, y 1, by funext i; fin_cases i <;> rfl⟩
  rw [after0_9, ey, (after A t.val t.isLt).l k c, show min (t.val + 2) 16 = 16 by omega, sum_tiles]
  rfl

end Cert.MixoutKernelIdeal.Proofs

end
-- ==== Proof.MixoutRef.lean ====
/-
  What the reference of the mixers' output returns, at arguments with real entries.
-/
module

public import proofs.«01_k».proof.Proof.NormHost
public import proofs.«01_k».proof.Proof.AttnData
public import proofs.«01_k».proof.Proof.MixoutValue

@[expose] public section

set_option maxRecDepth 16384

noncomputable section

namespace Cert.MixoutReferenceIdeal.Ref

open Idealize.ShloMosaic Idealize.ShloMosaic.TcCoe NormSpec AttnSpec NormHost
open Cert.MixoutReferenceIdeal Cert.MixoutReferenceIdeal.Gen Cert.MixoutReferenceIdeal.Read
open Cert.MixoutKernelIdeal.Proofs (dz resX resZ resY resL)

abbrev Weight := FVec Ideal S1024x1024 .f32
abbrev Vec := FVec Ideal S1024 .f32

/-- A vector's entries as reals. -/
def at1 (g : Vec) (k : ℕ) : ℝ := if h : k < 1024 then (g (ix1 ⟨k, h⟩)).toReal else 0
theorem at1_eq {g : Vec} (h : AllReal g) (k : Fin 1024) : g (ix1 k) = ((at1 g k.val : ℝ) : EReal) := by
  unfold at1; rw [dif_pos k.isLt]
  obtain ⟨r, hr⟩ := h (ix1 k)
  show _ = (((g (ix1 k)).toReal : ℝ) : EReal)
  rw [hr]; rfl

structure Args (y x : Mat) (w : Weight) (g : Vec) (d : Mat) : Prop where
  y : AllReal y
  x : AllReal x
  w : AllReal w
  g : AllReal g
  d : AllReal d

/-- The rows that are normalised. -/
def Z (y x : Mat) (w : Weight) (a k : ℕ) : ℝ := alpha * at2 x a k + ∑ j : Fin 1024, at2 y a j.val * at2 w j.val k

variable {y x : Mat} {w : Weight} {g : Vec} {d : Mat}

theorem v0_row (H : Args y x w g d) (t : Fin 8192) : Row (val_main_v0 (F := Ideal) y w) t fun k => ∑ j : Fin 1024, at2 y t.val j.val * at2 w j.val k := fun k => by
  unfold val_main_v0; pointwise
  refine sum_coe _ (fun j : Fin 1024 => at2 y t.val j.val * at2 w j.val k.val) fun j => ?_
  rw [EReal.coe_mul, ← at2_eq H.y t j, ← at2_eq H.w j k]

theorem v3_row (H : Args y x w g d) (t : Fin 8192) : Row (val_main_v3 (F := Ideal) y x w) t (Z y x w t.val) := by
  refine Row.add (fun k => ?_) (v0_row H t)
  unfold val_main_v2 val_main_v1 val_main_cst
  pointwise; rw [word_alpha, at2_eq H.x t k, ← EReal.coe_mul]

/-- The derivative of the normalised rows. -/
theorem v66_row (H : Args y x w g d) (t : Fin 8192) : Row (val_main_v66 (F := Ideal) y x w g d) t (dz (Z y x w) (at2 d) (at1 g) t.val) :=
  backH_row (x := val_main_v3 (F := Ideal) y x w) (y := scaleH d g) (v3_row H t) (scaleH_row (fun k => at2_eq H.d t k) (at1_eq H.g))

theorem resultX (H : Args y x w g d) : val_main_v68 (F := Ideal) y x w g d = resX (Z y x w) (at2 d) (at1 g) := by
  funext i
  obtain ⟨t, k, rfl⟩ : ∃ a b, i = ix2 (a : Fin 8192) (b : Fin 1024) := ⟨i 0, i 1, by funext i; fin_cases i <;> rfl⟩
  have h := v66_row H t k
  unfold val_main_v68 val_main_v67 val_main_cst_18
  generalize val_main_v66 (F := Ideal) y x w g d = v at h ⊢
  pointwise; rw [h, word_alpha, ← EReal.coe_mul]; rfl

theorem resultZ (H : Args y x w g d) : val_main_v74 (F := Ideal) y x w g d = resZ (Z y x w) (at2 d) (at1 g) := by
  funext i
  obtain ⟨t, k, rfl⟩ : ∃ a b, i = ix2 (a : Fin 8192) (b : Fin 1024) := ⟨i 0, i 1, by funext i; fin_cases i <;> rfl⟩
  have h := v66_row H t k
  unfold val_main_v74
  generalize val_main_v66 (F := Ideal) y x w g d = v at h ⊢
  pointwise; rw [h]; rfl

theorem resultY (H : Args y x w g d) : val_main_v69 (F := Ideal) y x w g d = resY (Z y x w) (at2 d) (at1 g) (at2 w) := by
  funext i
  obtain ⟨t, k, rfl⟩ : ∃ a b, i = ix2 (a : Fin 8192) (b : Fin 1024) := ⟨i 0, i 1, by funext i; fin_cases i <;> rfl⟩
  have h := v66_row H t
  unfold val_main_v69
  generalize val_main_v66 (F := Ideal) y x w g d = v at h ⊢
  pointwise
  refine sum_coe _ (fun j : Fin 1024 => dz (Z y x w) (at2 d) (at1 g) t.val j.val * at2 w k.val j.val) fun j => ?_
  rw [EReal.coe_mul, ← h j, ← at2_eq H.w k j]

theorem resultL (H : Args y x w g d) : val_main_v73 (F := Ideal) y x w d = resL (Z y x w) (at2 d) := by
  funext i
  obtain ⟨r, k, rfl⟩ : ∃ a b, i = ix2 (a : Fin 8) (b : Fin 1024) := ⟨i 0, i 1, by funext i; fin_cases i <;> rfl⟩
  refine (lnH_at (x := val_main_v3 (F := Ideal) y x w) (y := d) (v3_row H) (fun t k => at2_eq H.d t k) r k).trans ?_
  unfold resL
  simp only [mul_comm]
  rfl

end Cert.MixoutReferenceIdeal.Ref

end
-- ==== Proof.MixoutAlg.lean ====
/-
  The value of the backward call of the mixers' output: where the two ideal runs end, and that they end alike.
-/
module

public import proofs.«01_k».proof.Defs
public import proofs.«01_k».proof.Proof.MixoutRef
public import proofs.«01_k».proof.Proof.Finite
public import proofs.«01_k».proof.Proof.AttnAlg
public import proofs.«01_k».proof.Proof.RestClaims

@[expose] public section

set_option maxRecDepth 16384

noncomputable section

namespace Cert.Pre_mixout_finite

open Idealize.ShloMosaic

theorem facts : Facts where
  bcast_S_S8192x1024 := by decide
  reducesTo_S8192x1024_S_d0_1 := by decide
  h_S_ := by decide
  bcast_S_S1024x1024 := by decide
  reducesTo_S1024x1024_S_d0_1 := by decide
  bcast_S_S1024 := by decide
  reducesTo_S1024_S_d0 := by decide

open Cert.Proofs.Finite AttnSpec

/-- The mixed channels, the rows, the weight, the scale and the gradient that comes in have real entries. -/
theorem reals [Facts] (y x : FVec Ideal S8192x1024 .f32) (w : FVec Ideal S1024x1024 .f32) (g b : FVec Ideal S1024 .f32) (d : FVec Ideal S8192x1024 .f32)
    (h : fn (F := Ideal) y x w g b d = fun _ => 1#1) : Cert.MixoutReferenceIdeal.Ref.Args y x w g d := by
  have h0 := congrFun h (fun k => k.elim0)
  obtain ⟨h1, hd⟩ := Cert.Pre_attn_finite.both h0
  obtain ⟨h2, hg⟩ := Cert.Pre_attn_finite.both h1
  obtain ⟨h3, hw⟩ := Cert.Pre_attn_finite.both h2
  obtain ⟨hy, hx⟩ := Cert.Pre_attn_finite.both h3
  exact ⟨fun i => real_of_all _ _ _ _ _ hy i, fun i => real_of_all _ _ _ _ _ hx i, fun i => real_of_all _ _ _ _ _ hw i,
    fun i => real_of_all _ _ _ _ _ hg i, fun i => real_of_all _ _ _ _ _ hd i⟩

end Cert.Pre_mixout_finite

namespace Cert.MixoutKernelIdeal.Host

open Idealize.ShloMosaic Idealize.ShloMosaic.TcCoe Idealize.SL.Sem AttnSpec NormSpec
open Cert.MixoutKernelIdeal Cert.MixoutKernelIdeal.Gen

/-- The weight in four blocks, and one block's product. -/
def wo (w : FVec Ideal S1024x1024 .f32) : FVec Ideal S4x256x1024 .bf16 := shapeCast S4x256x1024 (truncf .bf16 w bitsLt_bf16_f32) shapeCasts_S1024x1024_S4x256x1024
def quarter (y : FVec Ideal S8192x256 .bf16) (w : FVec Ideal S1x256x1024 .bf16) : FVec Ideal S8192x1024 .f32 :=
  Host.dotGeneral dot_S8192x256_S256x1024_S8192x1024_1_0_0_1_n_n none y (shapeCast S256x1024 w shapeCasts_S1x256x1024_S256x1024)
def quarter0 (w : FVec Ideal S4x256x1024 .bf16) (y : FVec Ideal S8192x1024 .f32) : FVec Ideal S8192x1024 .f32 :=
  quarter (extractStridedSlice S8192x256 ![0, 0] (truncf .bf16 y bitsLt_bf16_f32) slices_S8192x1024_S8192x256_0_0) (extractStridedSlice S1x256x1024 ![0, 0, 0] w slices_S4x256x1024_S1x256x1024_0_0_0)
def quarter1 (w : FVec Ideal S4x256x1024 .bf16) (y : FVec Ideal S8192x1024 .f32) : FVec Ideal S8192x1024 .f32 :=
  quarter (extractStridedSlice S8192x256 ![0, 256] (truncf .bf16 y bitsLt_bf16_f32) slices_S8192x1024_S8192x256_0_256) (extractStridedSlice S1x256x1024 ![1, 0, 0] w slices_S4x256x1024_S1x256x1024_1_0_0)
def quarter2 (w : FVec Ideal S4x256x1024 .bf16) (y : FVec Ideal S8192x1024 .f32) : FVec Ideal S8192x1024 .f32 :=
  quarter (extractStridedSlice S8192x256 ![0, 512] (truncf .bf16 y bitsLt_bf16_f32) slices_S8192x1024_S8192x256_0_512) (extractStridedSlice S1x256x1024 ![2, 0, 0] w slices_S4x256x1024_S1x256x1024_2_0_0)
def quarter3 (w : FVec Ideal S4x256x1024 .bf16) (y : FVec Ideal S8192x1024 .f32) : FVec Ideal S8192x1024 .f32 :=
  quarter (extractStridedSlice S8192x256 ![0, 768] (truncf .bf16 y bitsLt_bf16_f32) slices_S8192x1024_S8192x256_0_768) (extractStridedSlice S1x256x1024 ![3, 0, 0] w slices_S4x256x1024_S1x256x1024_3_0_0)

section
variable (σ : Valuation τ sig (Elt Ideal))

theorem seg0_w : StableHlo.after (hostOps0 (F := Ideal)) σ (Proc.devRef .tc main_v1) = wo (σ (Proc.devRef .tc main_arg2)) := by rfl
theorem seg0_g : StableHlo.after (hostOps0 (F := Ideal)) σ (Proc.devRef .tc main_v25)
    = (broadcastInDim S1x1024 ![1] bcast_S1024_S1x1024_1 (σ (Proc.devRef .tc main_arg3) : FVec Ideal S1024 .f32) : FVec Ideal S1x1024 .f32) := by rfl
theorem seg0_z : StableHlo.after (hostOps0 (F := Ideal)) σ (Proc.devRef .tc main_v24)
    = (addf (mulf (broadcastInDim S8192x1024 ![] bcast_S_S8192x1024 (constant S_ .f32 0x3FD744FD#32 : FVec Ideal S_ .f32)) (σ (Proc.devRef .tc main_arg1) : FVec Ideal S8192x1024 .f32))
        (addf (addf (addf (quarter0 (wo (σ (Proc.devRef .tc main_arg2))) (σ (Proc.devRef .tc main_arg0))) (quarter1 (wo (σ (Proc.devRef .tc main_arg2))) (σ (Proc.devRef .tc main_arg0))))
          (quarter2 (wo (σ (Proc.devRef .tc main_arg2))) (σ (Proc.devRef .tc main_arg0)))) (quarter3 (wo (σ (Proc.devRef .tc main_arg2))) (σ (Proc.devRef .tc main_arg0)))) : FVec Ideal S8192x1024 .f32) := by rfl
theorem seg0_d : StableHlo.after (hostOps0 (F := Ideal)) σ (Proc.devRef .tc main_arg5) = σ (Proc.devRef .tc main_arg5) := by rfl

end

/-- The part of a row's product that block `q` of the weight gives. -/
def part (y : FVec Ideal S8192x1024 .f32) (w : FVec Ideal S1024x1024 .f32) (a k q : ℕ) : ℝ := ∑ j : Fin 256, at2 y a (q * 256 + j.val) * at2 w (q * 256 + j.val) k

theorem quarter_at (y : FVec Ideal S8192x256 .bf16) (w : FVec Ideal S1x256x1024 .bf16) (t : Fin 8192) (k : Fin 1024) (p q : ℕ → ℝ)
    (hy : ∀ j : Fin 256, y (ix2 t j) = ((p j.val : ℝ) : EReal)) (hw : ∀ j : Fin 256, w (ix3 (0 : Fin 1) j k) = ((q j.val : ℝ) : EReal)) :
    quarter y w (ix2 t k) = ((∑ j : Fin 256, p j.val * q j.val : ℝ) : EReal) := by
  unfold quarter
  pointwise
  refine sum_coe _ (fun j : Fin 256 => p j.val * q j.val) fun j => ?_
  rw [EReal.coe_mul, ← hy j, ← hw j]

variable {y : FVec Ideal S8192x1024 .f32} {w : FVec Ideal S1024x1024 .f32}

theorem wo_at (hw : AllReal w) (q : Fin 4) (j : Fin 256) (k : Fin 1024) : wo w (ix3 q j k) = ((at2 w (q.val * 256 + j.val) k.val : ℝ) : EReal) := by
  have h := at2_eq hw ⟨q.val * 256 + j.val, by omega⟩ k
  rw [← h]
  unfold wo
  pointwise

variable (hy : AllReal y) (hw : AllReal w)
include hy hw
theorem part_eq (q o : ℕ) (ho : o + 256 ≤ 1024) (hq : q < 4) (hs : S8192x1024.Slices ![0, o] S8192x256) (hv : S4x256x1024.Slices ![q, 0, 0] S1x256x1024) (he : o = q * 256)
    (t : Fin 8192) (k : Fin 1024) :
    quarter (extractStridedSlice S8192x256 ![0, o] (truncf .bf16 y bitsLt_bf16_f32) hs) (extractStridedSlice S1x256x1024 ![q, 0, 0] (wo w) hv) (ix2 t k) = ((part y w t.val k.val q : ℝ) : EReal) := by
  subst he
  refine quarter_at _ _ t k (fun j => at2 y t.val (q * 256 + j)) (fun j => at2 w (q * 256 + j) k.val) (fun j => ?_) fun j => ?_
  · refine Eq.trans ?_ (at2_eq hy t ⟨q * 256 + j.val, by omega⟩)
    pointwise
  · refine Eq.trans ?_ (wo_at hw ⟨q, hq⟩ j k)
    generalize wo w = v
    pointwise

theorem parts (a k : ℕ) : part y w a k 0 + part y w a k 1 + part y w a k 2 + part y w a k 3 = ∑ j : Fin 1024, at2 y a j.val * at2 w j.val k := by
  have h := @Fin.sum_mul_add_congr ℝ inferInstance 1024 4 256 (fun s j => at2 y a (s.val * 256 + j.val) * at2 w (s.val * 256 + j.val) k) (fun j => at2 y a j.val * at2 w j.val k) (fun _ _ _ => rfl) rfl
  rw [Fin.sum_univ_four] at h
  exact h

end Cert.MixoutKernelIdeal.Host

namespace Cert.Proof

open Idealize.ShloMosaic Idealize.ShloMosaic.TcCoe Idealize.SL.Sem AttnSpec NormSpec

section
open Cert.MixoutKernelIdeal Cert.MixoutKernelIdeal.Gen Cert.MixoutKernelIdeal.Proofs Cert.MixoutKernelIdeal.Host Cert.MixoutReferenceIdeal.Ref

variable (m : (ℓ : Loc Cert.MixoutKernelIdeal.nD Cert.MixoutKernelIdeal.τ Cert.MixoutKernelIdeal.sig) → Buf (Elt Ideal) ℓ) (c : Dev Cert.MixoutKernelIdeal.nD)

abbrev oarg0 : FVec Ideal Cert.MixoutKernelIdeal.S8192x1024 .f32 := m ((c.tc : Thread Cert.MixoutKernelIdeal.nD Cert.MixoutKernelIdeal.τ).loc Cert.MixoutKernelIdeal.main_arg0)
abbrev oarg1 : FVec Ideal Cert.MixoutKernelIdeal.S8192x1024 .f32 := m ((c.tc : Thread Cert.MixoutKernelIdeal.nD Cert.MixoutKernelIdeal.τ).loc Cert.MixoutKernelIdeal.main_arg1)
abbrev oarg2 : FVec Ideal Cert.MixoutKernelIdeal.S1024x1024 .f32 := m ((c.tc : Thread Cert.MixoutKernelIdeal.nD Cert.MixoutKernelIdeal.τ).loc Cert.MixoutKernelIdeal.main_arg2)
abbrev oarg3 : FVec Ideal Cert.MixoutKernelIdeal.S1024 .f32 := m ((c.tc : Thread Cert.MixoutKernelIdeal.nD Cert.MixoutKernelIdeal.τ).loc Cert.MixoutKernelIdeal.main_arg3)
abbrev oarg5 : FVec Ideal Cert.MixoutKernelIdeal.S8192x1024 .f32 := m ((c.tc : Thread Cert.MixoutKernelIdeal.nD Cert.MixoutKernelIdeal.τ).loc Cert.MixoutKernelIdeal.main_arg5)
abbrev kz := Cert.MixoutReferenceIdeal.Ref.Z (oarg0 m c) (oarg1 m c) (oarg2 m c)
abbrev kd : ℕ → ℕ → ℝ := at2 (oarg5 m c)
abbrev kg : ℕ → ℝ := at1 (oarg3 m c)
abbrev kw : ℕ → ℕ → ℝ := at2 (oarg2 m c)

/-- What the kernel is called on, as reals of the arguments. -/
theorem mixout_args (H : Cert.MixoutReferenceIdeal.Ref.Args (oarg0 m c) (oarg1 m c) (oarg2 m c) (oarg3 m c) (oarg5 m c)) :
    Cert.MixoutKernelIdeal.Proofs.Args m c (kz m c) (kd m c) (kg m c) (kw m c) where
  z a k := by
    unfold V
    rw [seg0_z]
    have h0 := part_eq H.y H.w 0 0 (by decide) (by decide) slices_S8192x1024_S8192x256_0_0 slices_S4x256x1024_S1x256x1024_0_0_0 rfl a k
    have h1 := part_eq H.y H.w 1 256 (by decide) (by decide) slices_S8192x1024_S8192x256_0_256 slices_S4x256x1024_S1x256x1024_1_0_0 rfl a k
    have h2 := part_eq H.y H.w 2 512 (by decide) (by decide) slices_S8192x1024_S8192x256_0_512 slices_S4x256x1024_S1x256x1024_2_0_0 rfl a k
    have h3 := part_eq H.y H.w 3 768 (by decide) (by decide) slices_S8192x1024_S8192x256_0_768 slices_S4x256x1024_S1x256x1024_3_0_0 rfl a k
    have hx := at2_eq H.x a k
    show _ = ((alpha * at2 (oarg1 m c) a.val k.val + ∑ j : Fin 1024, at2 (oarg0 m c) a.val j.val * at2 (oarg2 m c) j.val k.val : ℝ) : EReal)
    rw [← parts H.y H.w]
    pointwise
    refine (congrArg₂ (· + ·) (congrArg₂ (· * ·) word_alpha hx) (congrArg₂ (· + ·) (congrArg₂ (· + ·) (congrArg₂ (· + ·) h0 h1) h2) h3)).trans ?_
    simp only [EReal.coe_add, EReal.coe_mul]
  y a k := by unfold V; rw [seg0_d]; exact at2_eq H.d a k
  g k := by unfold V; rw [seg0_g]; pointwise; exact at1_eq H.g k
  w q j k := by unfold V; rw [seg0_w, mul_comm]; exact wo_at H.w q j k

variable (g : Dev Cert.MixoutKernelIdeal.nD → PrngReg)

/-- Where the kernel's run ends: its four results in closed form, its arguments unchanged. -/
theorem mixout_kernel_run (H : ∀ c, Cert.MixoutReferenceIdeal.Ref.Args (oarg0 m c) (oarg1 m c) (oarg2 m c) (oarg3 m c) (oarg5 m c)) :
    θ_run (Cert.MixoutKernelIdeal.defs (F := Ideal)) (onTc (τ := Cert.MixoutKernelIdeal.τ) (Cert.MixoutKernelIdeal.main (F := Ideal))) ⟨m, fun _ => 0, g⟩ (fun r => ∀ c : Dev Cert.MixoutKernelIdeal.nD,
      r.2.mem ((c.tc : Thread Cert.MixoutKernelIdeal.nD Cert.MixoutKernelIdeal.τ).loc Cert.MixoutKernelIdeal.main_v26_0) = resX (kz m c) (kd m c) (kg m c)
      ∧ r.2.mem ((c.tc : Thread Cert.MixoutKernelIdeal.nD Cert.MixoutKernelIdeal.τ).loc Cert.MixoutKernelIdeal.main_v26_1) = resZ (kz m c) (kd m c) (kg m c)
      ∧ r.2.mem ((c.tc : Thread Cert.MixoutKernelIdeal.nD Cert.MixoutKernelIdeal.τ).loc Cert.MixoutKernelIdeal.main_v26_2) = resY (kz m c) (kd m c) (kg m c) (kw m c)
      ∧ r.2.mem ((c.tc : Thread Cert.MixoutKernelIdeal.nD Cert.MixoutKernelIdeal.τ).loc Cert.MixoutKernelIdeal.main_v26_3) = resL (kz m c) (kd m c)
      ∧ r.2.mem ((c.tc : Thread Cert.MixoutKernelIdeal.nD Cert.MixoutKernelIdeal.τ).loc Cert.MixoutKernelIdeal.main_arg0) = m ((c.tc : Thread Cert.MixoutKernelIdeal.nD Cert.MixoutKernelIdeal.τ).loc Cert.MixoutKernelIdeal.main_arg0)
      ∧ r.2.mem ((c.tc : Thread Cert.MixoutKernelIdeal.nD Cert.MixoutKernelIdeal.τ).loc Cert.MixoutKernelIdeal.main_arg1) = m ((c.tc : Thread Cert.MixoutKernelIdeal.nD Cert.MixoutKernelIdeal.τ).loc Cert.MixoutKernelIdeal.main_arg1)
      ∧ r.2.mem ((c.tc : Thread Cert.MixoutKernelIdeal.nD Cert.MixoutKernelIdeal.τ).loc Cert.MixoutKernelIdeal.main_arg2) = m ((c.tc : Thread Cert.MixoutKernelIdeal.nD Cert.MixoutKernelIdeal.τ).loc Cert.MixoutKernelIdeal.main_arg2)
      ∧ r.2.mem ((c.tc : Thread Cert.MixoutKernelIdeal.nD Cert.MixoutKernelIdeal.τ).loc Cert.MixoutKernelIdeal.main_arg3) = m ((c.tc : Thread Cert.MixoutKernelIdeal.nD Cert.MixoutKernelIdeal.τ).loc Cert.MixoutKernelIdeal.main_arg3)
      ∧ r.2.mem ((c.tc : Thread Cert.MixoutKernelIdeal.nD Cert.MixoutKernelIdeal.τ).loc Cert.MixoutKernelIdeal.main_arg4) = m ((c.tc : Thread Cert.MixoutKernelIdeal.nD Cert.MixoutKernelIdeal.τ).loc Cert.MixoutKernelIdeal.main_arg4)
      ∧ r.2.mem ((c.tc : Thread Cert.MixoutKernelIdeal.nD Cert.MixoutKernelIdeal.τ).loc Cert.MixoutKernelIdeal.main_arg5) = m ((c.tc : Thread Cert.MixoutKernelIdeal.nD Cert.MixoutKernelIdeal.τ).loc Cert.MixoutKernelIdeal.main_arg5)) := by
  refine (θ_run _ _ _).mono (fun r h c => ?_) (θ_run_and (Cert.MixoutKernelIdeal.Gen.frame m g) (Cert.MixoutKernelIdeal.Gen.run_main m g))
  obtain ⟨⟨hf, -⟩, hw⟩ := h
  have e0 : r.2.mem ((c.tc : Thread Cert.MixoutKernelIdeal.nD Cert.MixoutKernelIdeal.τ).loc Cert.MixoutKernelIdeal.main_v26_0) = resX (kz m c) (kd m c) (kg m c) := by
    rw [← final0 (mixout_args m c (H c))]
    exact (hw c).1 6
  have e1 : r.2.mem ((c.tc : Thread Cert.MixoutKernelIdeal.nD Cert.MixoutKernelIdeal.τ).loc Cert.MixoutKernelIdeal.main_v26_1) = resZ (kz m c) (kd m c) (kg m c) := by
    rw [← final1 (mixout_args m c (H c))]
    exact (hw c).1 7
  have e2 : r.2.mem ((c.tc : Thread Cert.MixoutKernelIdeal.nD Cert.MixoutKernelIdeal.τ).loc Cert.MixoutKernelIdeal.main_v26_2) = resY (kz m c) (kd m c) (kg m c) (kw m c) := by
    rw [← final2 (mixout_args m c (H c))]
    exact (hw c).1 8
  have e3 : r.2.mem ((c.tc : Thread Cert.MixoutKernelIdeal.nD Cert.MixoutKernelIdeal.τ).loc Cert.MixoutKernelIdeal.main_v26_3) = resL (kz m c) (kd m c) := by
    rw [← final3 (mixout_args m c (H c))]
    exact (hw c).1 9
  exact ⟨e0, e1, e2, e3, hf c⟩

end

/-- Where the reference's run ends: its four results as the read-out terms of its arguments. -/
theorem mixout_reference_run (m : (ℓ : Loc Cert.MixoutReferenceIdeal.nD Cert.MixoutReferenceIdeal.τ Cert.MixoutReferenceIdeal.sig) → Buf (Elt Ideal) ℓ) (g : Dev Cert.MixoutReferenceIdeal.nD → PrngReg) :
    θ_run (Cert.MixoutReferenceIdeal.defs (F := Ideal)) (onTc (τ := Cert.MixoutReferenceIdeal.τ) (Cert.MixoutReferenceIdeal.main (F := Ideal))) ⟨m, fun _ => 0, g⟩ (fun r => ∀ c : Dev Cert.MixoutReferenceIdeal.nD,
      r.2.mem ((c.tc : Thread Cert.MixoutReferenceIdeal.nD Cert.MixoutReferenceIdeal.τ).loc Cert.MixoutReferenceIdeal.main_v68) = Cert.MixoutReferenceIdeal.Read.val_main_v68 (F := Ideal) (m ((c.tc : Thread Cert.MixoutReferenceIdeal.nD Cert.MixoutReferenceIdeal.τ).loc Cert.MixoutReferenceIdeal.main_arg0)) (m ((c.tc : Thread Cert.MixoutReferenceIdeal.nD Cert.MixoutReferenceIdeal.τ).loc Cert.MixoutReferenceIdeal.main_arg1)) (m ((c.tc : Thread Cert.MixoutReferenceIdeal.nD Cert.MixoutReferenceIdeal.τ).loc Cert.MixoutReferenceIdeal.main_arg2)) (m ((c.tc : Thread Cert.MixoutReferenceIdeal.nD Cert.MixoutReferenceIdeal.τ).loc Cert.MixoutReferenceIdeal.main_arg3)) (m ((c.tc : Thread Cert.MixoutReferenceIdeal.nD Cert.MixoutReferenceIdeal.τ).loc Cert.MixoutReferenceIdeal.main_arg5))
      ∧ r.2.mem ((c.tc : Thread Cert.MixoutReferenceIdeal.nD Cert.MixoutReferenceIdeal.τ).loc Cert.MixoutReferenceIdeal.main_v74) = Cert.MixoutReferenceIdeal.Read.val_main_v74 (F := Ideal) (m ((c.tc : Thread Cert.MixoutReferenceIdeal.nD Cert.MixoutReferenceIdeal.τ).loc Cert.MixoutReferenceIdeal.main_arg0)) (m ((c.tc : Thread Cert.MixoutReferenceIdeal.nD Cert.MixoutReferenceIdeal.τ).loc Cert.MixoutReferenceIdeal.main_arg1)) (m ((c.tc : Thread Cert.MixoutReferenceIdeal.nD Cert.MixoutReferenceIdeal.τ).loc Cert.MixoutReferenceIdeal.main_arg2)) (m ((c.tc : Thread Cert.MixoutReferenceIdeal.nD Cert.MixoutReferenceIdeal.τ).loc Cert.MixoutReferenceIdeal.main_arg3)) (m ((c.tc : Thread Cert.MixoutReferenceIdeal.nD Cert.MixoutReferenceIdeal.τ).loc Cert.MixoutReferenceIdeal.main_arg5))
      ∧ r.2.mem ((c.tc : Thread Cert.MixoutReferenceIdeal.nD Cert.MixoutReferenceIdeal.τ).loc Cert.MixoutReferenceIdeal.main_v69) = Cert.MixoutReferenceIdeal.Read.val_main_v69 (F := Ideal) (m ((c.tc : Thread Cert.MixoutReferenceIdeal.nD Cert.MixoutReferenceIdeal.τ).loc Cert.MixoutReferenceIdeal.main_arg0)) (m ((c.tc : Thread Cert.MixoutReferenceIdeal.nD Cert.MixoutReferenceIdeal.τ).loc Cert.MixoutReferenceIdeal.main_arg1)) (m ((c.tc : Thread Cert.MixoutReferenceIdeal.nD Cert.MixoutReferenceIdeal.τ).loc Cert.MixoutReferenceIdeal.main_arg2)) (m ((c.tc : Thread Cert.MixoutReferenceIdeal.nD Cert.MixoutReferenceIdeal.τ).loc Cert.MixoutReferenceIdeal.main_arg3)) (m ((c.tc : Thread Cert.MixoutReferenceIdeal.nD Cert.MixoutReferenceIdeal.τ).loc Cert.MixoutReferenceIdeal.main_arg5))
      ∧ r.2.mem ((c.tc : Thread Cert.MixoutReferenceIdeal.nD Cert.MixoutReferenceIdeal.τ).loc Cert.MixoutReferenceIdeal.main_v73) = Cert.MixoutReferenceIdeal.Read.val_main_v73 (F := Ideal) (m ((c.tc : Thread Cert.MixoutReferenceIdeal.nD Cert.MixoutReferenceIdeal.τ).loc Cert.MixoutReferenceIdeal.main_arg0)) (m ((c.tc : Thread Cert.MixoutReferenceIdeal.nD Cert.MixoutReferenceIdeal.τ).loc Cert.MixoutReferenceIdeal.main_arg1)) (m ((c.tc : Thread Cert.MixoutReferenceIdeal.nD Cert.MixoutReferenceIdeal.τ).loc Cert.MixoutReferenceIdeal.main_arg2)) (m ((c.tc : Thread Cert.MixoutReferenceIdeal.nD Cert.MixoutReferenceIdeal.τ).loc Cert.MixoutReferenceIdeal.main_arg5))
      ∧ r.2.mem ((c.tc : Thread Cert.MixoutReferenceIdeal.nD Cert.MixoutReferenceIdeal.τ).loc Cert.MixoutReferenceIdeal.main_arg0) = m ((c.tc : Thread Cert.MixoutReferenceIdeal.nD Cert.MixoutReferenceIdeal.τ).loc Cert.MixoutReferenceIdeal.main_arg0)
      ∧ r.2.mem ((c.tc : Thread Cert.MixoutReferenceIdeal.nD Cert.MixoutReferenceIdeal.τ).loc Cert.MixoutReferenceIdeal.main_arg1) = m ((c.tc : Thread Cert.MixoutReferenceIdeal.nD Cert.MixoutReferenceIdeal.τ).loc Cert.MixoutReferenceIdeal.main_arg1)
      ∧ r.2.mem ((c.tc : Thread Cert.MixoutReferenceIdeal.nD Cert.MixoutReferenceIdeal.τ).loc Cert.MixoutReferenceIdeal.main_arg2) = m ((c.tc : Thread Cert.MixoutReferenceIdeal.nD Cert.MixoutReferenceIdeal.τ).loc Cert.MixoutReferenceIdeal.main_arg2)
      ∧ r.2.mem ((c.tc : Thread Cert.MixoutReferenceIdeal.nD Cert.MixoutReferenceIdeal.τ).loc Cert.MixoutReferenceIdeal.main_arg3) = m ((c.tc : Thread Cert.MixoutReferenceIdeal.nD Cert.MixoutReferenceIdeal.τ).loc Cert.MixoutReferenceIdeal.main_arg3)
      ∧ r.2.mem ((c.tc : Thread Cert.MixoutReferenceIdeal.nD Cert.MixoutReferenceIdeal.τ).loc Cert.MixoutReferenceIdeal.main_arg4) = m ((c.tc : Thread Cert.MixoutReferenceIdeal.nD Cert.MixoutReferenceIdeal.τ).loc Cert.MixoutReferenceIdeal.main_arg4)
      ∧ r.2.mem ((c.tc : Thread Cert.MixoutReferenceIdeal.nD Cert.MixoutReferenceIdeal.τ).loc Cert.MixoutReferenceIdeal.main_arg5) = m ((c.tc : Thread Cert.MixoutReferenceIdeal.nD Cert.MixoutReferenceIdeal.τ).loc Cert.MixoutReferenceIdeal.main_arg5)) :=
  (θ_run _ _ _).mono (fun r h c => ⟨(h c).1.trans (Cert.MixoutReferenceIdeal.Read.val_main_v68_eq m c),
    (h c).2.1.trans (Cert.MixoutReferenceIdeal.Read.val_main_v74_eq m c), (h c).2.2.1.trans (Cert.MixoutReferenceIdeal.Read.val_main_v69_eq m c),
    (h c).2.2.2.1.trans (Cert.MixoutReferenceIdeal.Read.val_main_v73_eq m c), (h c).2.2.2.2⟩) (Cert.MixoutReferenceIdeal.Value.run (F := Ideal) m g)

open Cert.MixoutKernelIdeal.Proofs Cert.MixoutReferenceIdeal.Ref in
theorem mixout_algebraic : @Cert.algebraic_MixoutKernelIdeal_MixoutReferenceIdeal_pre_mixout_finite Cert.MixoutKernelIdeal.Gen.facts Cert.MixoutReferenceIdeal.Gen.facts Cert.Pre_mixout_finite.facts := by
  intro m g m' g' hpre hagree
  haveI := Cert.Pre_mixout_finite.facts
  have H := fun c => Cert.Pre_mixout_finite.reals _ _ _ _ _ _ (hpre c)
  refine ⟨fun c => resX (kz m c) (kd m c) (kg m c), fun c => resZ (kz m c) (kd m c) (kg m c), fun c => resY (kz m c) (kd m c) (kg m c) (kw m c), fun c => resL (kz m c) (kd m c), ?_, ?_⟩
  · exact mixout_kernel_run m g H
  · refine (θ_run _ _ _).mono (fun r h c => ?_) (mixout_reference_run m' g')
    obtain ⟨e1, e2, e3, e4, e5⟩ := h c
    obtain ⟨a0, a1, a2, a3, a4, a5⟩ := hagree c
    rw [a0, a1, a2, a3, a5] at e1 e2 e3
    rw [a0, a1, a2, a5] at e4
    exact ⟨e1.trans (resultX (H c)), e2.trans (resultZ (H c)), e3.trans (resultY (H c)), e4.trans (resultL (H c)), e5⟩

end Cert.Proof

end
-- ==== Proof.FwdClaims.lean ====
/-
  The runs of the forward calls: of the mixers' output, the gated unit, the attention and the mixers.
-/
module

public import proofs.«01_k».proof.Defs
public import proofs.«01_k».proof.Proof.Gen.MixoutFwdKernelIdeal.Frame
public import proofs.«01_k».proof.Proof.Gen.MixoutFwdKernelIdeal.Value
public import proofs.«01_k».proof.Proof.Gen.MixoutFwdKernel.Frame
public import proofs.«01_k».proof.Proof.Gen.MixoutFwdReferenceIdeal.Run
public import proofs.«01_k».proof.Proof.Gen.MixoutFwdReferenceIdeal.Read
public import proofs.«01_k».proof.Proof.Gen.FfnFwdKernelIdeal.Frame
public import proofs.«01_k».proof.Proof.Gen.FfnFwdKernelIdeal.Value
public import proofs.«01_k».proof.Proof.Gen.FfnFwdKernel.Frame
public import proofs.«01_k».proof.Proof.Gen.FfnFwdReferenceIdeal.Run
public import proofs.«01_k».proof.Proof.Gen.FfnFwdReferenceIdeal.Read
public import proofs.«01_k».proof.Proof.Gen.AttnFwdKernelIdeal.Frame
public import proofs.«01_k».proof.Proof.Gen.AttnFwdKernelIdeal.Value
public import proofs.«01_k».proof.Proof.Gen.AttnFwdKernel.Frame
public import proofs.«01_k».proof.Proof.Gen.AttnFwdReferenceIdeal.Run
public import proofs.«01_k».proof.Proof.Gen.AttnFwdReferenceIdeal.Read
public import proofs.«01_k».proof.Proof.Gen.MixFwdKernelIdeal.Frame
public import proofs.«01_k».proof.Proof.Gen.MixFwdKernelIdeal.Value
public import proofs.«01_k».proof.Proof.Gen.MixFwdKernel.Frame
public import proofs.«01_k».proof.Proof.Gen.MixFwdReferenceIdeal.Run
public import proofs.«01_k».proof.Proof.Gen.MixFwdReferenceIdeal.Read

@[expose] public section

set_option maxRecDepth 16384

noncomputable section

namespace Cert.Proof

open Idealize.ShloMosaic Idealize.ShloMosaic.TcCoe Idealize.SL.Sem

theorem mixout_fwd_frame : @Cert.quiescent_MixoutFwdKernel Cert.MixoutFwdKernel.Gen.facts := fun m ρ _ => Cert.MixoutFwdKernel.Gen.frame m ρ
theorem mixout_fwd_ideal_frame : @Cert.quiescent_MixoutFwdKernelIdeal Cert.MixoutFwdKernelIdeal.Gen.facts := fun m ρ _ => Cert.MixoutFwdKernelIdeal.Gen.frame m ρ
theorem mixout_fwd_reference_frame : @Cert.quiescent_MixoutFwdReferenceIdeal Cert.MixoutFwdReferenceIdeal.Gen.facts := fun m ρ _ =>
  (θ_run Cert.MixoutFwdReferenceIdeal.defs _ _).mono (fun r h => ⟨fun c => (h c).2.2.2, sem_eq_zero_of_no_sems (by decide) r.2⟩)
    (Cert.MixoutFwdReferenceIdeal.Value.run (F := Ideal) m ρ)
theorem mixout_fwd_preserves : Cert.preserves_MixoutFwdKernel_MixoutFwdKernelIdeal := trivial

theorem ffn_fwd_frame : @Cert.quiescent_FfnFwdKernel Cert.FfnFwdKernel.Gen.facts := fun m ρ _ => Cert.FfnFwdKernel.Gen.frame m ρ
theorem ffn_fwd_ideal_frame : @Cert.quiescent_FfnFwdKernelIdeal Cert.FfnFwdKernelIdeal.Gen.facts := fun m ρ _ => Cert.FfnFwdKernelIdeal.Gen.frame m ρ
theorem ffn_fwd_reference_frame : @Cert.quiescent_FfnFwdReferenceIdeal Cert.FfnFwdReferenceIdeal.Gen.facts := fun m ρ _ =>
  (θ_run Cert.FfnFwdReferenceIdeal.defs _ _).mono (fun r h => ⟨fun c => (h c).2.2.2.2.2, sem_eq_zero_of_no_sems (by decide) r.2⟩)
    (Cert.FfnFwdReferenceIdeal.Value.run (F := Ideal) m ρ)
theorem ffn_fwd_preserves : Cert.preserves_FfnFwdKernel_FfnFwdKernelIdeal := trivial

theorem attn_fwd_frame : @Cert.quiescent_AttnFwdKernel Cert.AttnFwdKernel.Gen.facts := fun m ρ _ => Cert.AttnFwdKernel.Gen.frame m ρ
theorem attn_fwd_ideal_frame : @Cert.quiescent_AttnFwdKernelIdeal Cert.AttnFwdKernelIdeal.Gen.facts := fun m ρ _ => Cert.AttnFwdKernelIdeal.Gen.frame m ρ
theorem attn_fwd_reference_frame : @Cert.quiescent_AttnFwdReferenceIdeal Cert.AttnFwdReferenceIdeal.Gen.facts := fun m ρ _ =>
  (θ_run Cert.AttnFwdReferenceIdeal.defs _ _).mono (fun r h => ⟨fun c => (h c).2, sem_eq_zero_of_no_sems (by decide) r.2⟩)
    (Cert.AttnFwdReferenceIdeal.Value.run (F := Ideal) m ρ)
theorem attn_fwd_preserves : Cert.preserves_AttnFwdKernel_AttnFwdKernelIdeal := trivial

theorem mix_fwd_frame : @Cert.quiescent_MixFwdKernel Cert.MixFwdKernel.Gen.facts := fun m ρ _ => Cert.MixFwdKernel.Gen.frame m ρ
theorem mix_fwd_ideal_frame : @Cert.quiescent_MixFwdKernelIdeal Cert.MixFwdKernelIdeal.Gen.facts := fun m ρ _ => Cert.MixFwdKernelIdeal.Gen.frame m ρ
theorem mix_fwd_reference_frame : @Cert.quiescent_MixFwdReferenceIdeal Cert.MixFwdReferenceIdeal.Gen.facts := fun m ρ _ =>
  (θ_run Cert.MixFwdReferenceIdeal.defs _ _).mono (fun r h => ⟨fun c => (h c).2, sem_eq_zero_of_no_sems (by decide) r.2⟩)
    (Cert.MixFwdReferenceIdeal.Value.run (F := Ideal) m ρ)
theorem mix_fwd_preserves : Cert.preserves_MixFwdKernel_MixFwdKernelIdeal := trivial

end Cert.Proof

end
-- ==== Proof.AttnFwdSpec.lean ====
/-
  The attention's forward call in the extended reals: scores within a window of rows, minus infinity where the key is not
  seen, their exponentials, and the weighted sums of the values. The letters are those of AttnSpec.
-/
module

public import proofs.«01_k».proof.Proof.AttnSpec

@[expose] public section

noncomputable section

open Idealize.ShloMosaic

namespace AttnFwdSpec

open AttnSpec (rs valid)

/-- The arrays, read at natural numbers. -/
structure Arr where
  q : ℕ → ℕ → EReal
  k : ℕ → ℕ → EReal
  v : ℕ → ℕ → EReal
  t : ℕ → ℕ → ℕ → ℕ → EReal

namespace Arr

variable (A : Arr) (r h c j : ℕ)

/-- A score, the bias in it. -/
def sco : EReal := if valid c (j % 64) then
  (∑ d : Fin 64, A.q (64 * r + c) (64 * h + d.val) * A.k (64 * rs r + j) (64 * h + d.val)) * Ideal.ofBits .f32 0x3E000000#32 + A.t h (rs r + 7 - r + j / 64) c (j % 64) else ⊥

/-- A query's largest score. -/
def mx : EReal := (Finset.univ : Finset (Fin 512)).fold max ⊥ fun j => A.sco r h c j.val

/-- The exponential of a score less the largest. -/
def ex : EReal := Ideal.exp (A.sco r h c j - A.mx r h c)

/-- A query's sum of exponentials. -/
def zt : EReal := ∑ j : Fin 512, A.ex r h c j.val

/-- The result, row of tokens `a`, column `b`. -/
def out (a b : ℕ) : EReal := ∑ j : Fin 512, Ideal.div (A.ex (a / 64) (b / 64) (a % 64) j.val) (A.zt (a / 64) (b / 64) (a % 64)) * A.v (64 * rs (a / 64) + j.val) b

end Arr

/-- An array of two axes, and one of four, at natural numbers. -/
def at2 {n k : ℕ} (x : (⟨2, ![n, k]⟩ : Shape).Idx → EReal) (a b : ℕ) : EReal := if h : a < n ∧ b < k then x (ix2 ⟨a, h.1⟩ ⟨b, h.2⟩) else 0
def at4 {n k l o : ℕ} (x : (⟨4, ![n, k, l, o]⟩ : Shape).Idx → EReal) (a b c d : ℕ) : EReal :=
  if h : a < n ∧ b < k ∧ c < l ∧ d < o then x (ix4 ⟨a, h.1⟩ ⟨b, h.2.1⟩ ⟨c, h.2.2.1⟩ ⟨d, h.2.2.2⟩) else 0

theorem at2_eq {n k : ℕ} (x : (⟨2, ![n, k]⟩ : Shape).Idx → EReal) (a : Fin n) (b : Fin k) : x (ix2 a b) = at2 x a.val b.val := by
  unfold at2; rw [dif_pos ⟨a.isLt, b.isLt⟩]
theorem at4_eq {n k l o : ℕ} (x : (⟨4, ![n, k, l, o]⟩ : Shape).Idx → EReal) (a : Fin n) (b : Fin k) (c : Fin l) (d : Fin o) : x (ix4 a b c d) = at4 x a.val b.val c.val d.val := by
  unfold at4; rw [dif_pos ⟨a.isLt, b.isLt, c.isLt, d.isLt⟩]

/-- The arrays of the arguments; the table of biases spread over query and key columns. -/
def arrOf (q k v : (⟨2, ![8192, 512]⟩ : Shape).Idx → EReal) (t : (⟨4, ![8, 15, 64, 64]⟩ : Shape).Idx → EReal) : Arr := ⟨at2 q, at2 k, at2 v, at4 t⟩

/-- The largest over the 512 keys is the largest over eight rows of 64. -/
theorem fold_keys {ι : Type} (s : Finset ι) (x : ι → EReal) (f : ℕ → EReal) (key : ι → Fin 512) (hx : ∀ i ∈ s, x i = f (key i).val) (hs : ∀ j : Fin 512, ∃ i ∈ s, key i = j) :
    s.fold max ⊥ x = (Finset.univ : Finset (Fin 512)).fold max ⊥ fun j => f j.val := by
  change s.sup x = (Finset.univ : Finset (Fin 512)).sup fun j => f j.val
  refine le_antisymm (Finset.sup_le fun i hi => ?_) (Finset.sup_le fun j _ => ?_)
  · rw [hx i hi]; exact Finset.le_sup (f := fun j : Fin 512 => f j.val) (Finset.mem_univ (key i))
  · obtain ⟨i, hi, e⟩ := hs j
    rw [← e, ← hx i hi]; exact Finset.le_sup hi

end AttnFwdSpec
-- ==== Proof.AttnFwdPay.lean ====
/-
  One trip of the attention's forward kernel: from the blocks of one row of queries and of its eight rows of keys and
  values, what the trip stores. Its scores are computed as in the backward kernel.
-/
module

public import proofs.«01_k».proof.Proof.AttnPay
public import proofs.«01_k».proof.Proof.AttnFwdSpec
public import proofs.«01_k».proof.Proof.Gen.AttnFwdKernelIdeal.Value

@[expose] public section

set_option maxRecDepth 16384

noncomputable section

namespace Cert.AttnFwdKernelIdeal.Body

open Idealize.ShloMosaic Idealize.ShloMosaic.TcCoe Idealize.ShloMosaic.Tactic
open Cert.AttnFwdKernelIdeal Cert.AttnFwdKernelIdeal.Gen
open AttnSpec (rs valid sum_head)
open AttnFwdSpec
open Cert.AttnKernelIdeal.Body (pay12_at lowest)

/-- Three of the four masks, as the backward kernel has them. -/
theorem mask2 (c : Fin 64) (d : Fin 256) {α : Type} (a b : α) : Scalar.select (k0_pay2 (ix2 c d)) a b = if d.val / 64 = 1 then a else b := Cert.AttnKernelIdeal.Body.mask2 c d a b
theorem mask3 (c : Fin 64) (d : Fin 256) {α : Type} (a b : α) : Scalar.select (k0_pay3 (ix2 c d)) a b = if d.val / 64 = 2 then a else b := Cert.AttnKernelIdeal.Body.mask3 c d a b
theorem mask4 (c : Fin 64) (d : Fin 256) {α : Type} (a b : α) : Scalar.select (k0_pay4 (ix2 c d)) a b = if d.val / 64 = 3 then a else b := Cert.AttnKernelIdeal.Body.mask4 c d a b

/-- The queries of a trip, the heads on top of each other. -/
abbrev stacked (qv : Vec Ideal S64x256 .bf16) : FVec Ideal S256x256 .bf16 :=
  Cert.AttnKernelIdeal.Gen.k0_pay12 Cert.AttnKernelIdeal.Gen.k0_pay1 Cert.AttnKernelIdeal.Gen.k0_pay2 Cert.AttnKernelIdeal.Gen.k0_pay3 Cert.AttnKernelIdeal.Gen.k0_pay4 qv

theorem stacked_at (qv : Vec Ideal S64x256 .bf16) (p d : Fin 256) : stacked qv (ix2 p d) = (if d.val / 64 = p.val / 64 then qv (ix2 (⟨p.val % 64, by omega⟩ : Fin 64) d) else 0 : EReal) :=
  pay12_at qv p d

/-- The blocks of a trip: row `r` of queries, its eight rows of keys and values, its biases. -/
structure Trip (A : Arr) (r g : ℕ) (qv : Vec Ideal S64x256 .bf16) (kv vv : Vec Ideal S512x256 .bf16) (bv : Vec Ideal S1x512x256 .f32) : Prop where
  q : ∀ (c : Fin 64) (b : Fin 256), (qv (ix2 c b) : EReal) = A.q (64 * r + c.val) (256 * g + b.val)
  k : ∀ (j : Fin 512) (b : Fin 256), (kv (ix2 j b) : EReal) = A.k (64 * rs r + j.val) (256 * g + b.val)
  v : ∀ (j : Fin 512) (b : Fin 256), (vv (ix2 j b) : EReal) = A.v (64 * rs r + j.val) (256 * g + b.val)
  b : ∀ (j : Fin 512) (p : Fin 256), bv (ix3 (0 : Fin 1) j p) = (if valid (p.val % 64) (j.val % 64) then A.t (4 * g + p.val / 64) (rs r + 7 - r + j.val / 64) (p.val % 64) (j.val % 64) else ⊥ : EReal)

section
variable {A : Arr} {r g : ℕ} {qv : Vec Ideal S64x256 .bf16} {kv vv : Vec Ideal S512x256 .bf16} {bv : Vec Ideal S1x512x256 .f32}
variable (H : Trip A r g qv kv vv bv)
include H

/-- The kernel's scores. -/
theorem score_at (j : Fin 512) (p : Fin 256) :
    ((∑ x, (kv (ix2 j x) : EReal) * stacked qv (ix2 p x)) * Ideal.ofBits FTy.f32 1040187392#32 + bv (ix3 (0 : Fin 1) j p) : EReal) = A.sco r (4 * g + p.val / 64) (p.val % 64) j.val := by
  have hp := p.isLt
  have e : (∑ x, (kv (ix2 j x) : EReal) * stacked qv (ix2 p x) : EReal)
      = ∑ d : Fin 64, A.q (64 * r + p.val % 64) (64 * (4 * g + p.val / 64) + d.val) * A.k (64 * rs r + j.val) (64 * (4 * g + p.val / 64) + d.val) := by
    refine sum_head (p.val / 64) (by omega) _ (fun n => A.q (64 * r + p.val % 64) (64 * (4 * g + p.val / 64) + n) * A.k (64 * rs r + j.val) (64 * (4 * g + p.val / 64) + n)) fun d => ?_
    rw [stacked_at]
    split
    · rename_i h
      rw [H.k, H.q, mul_comm]
      dsimp only
      rw [show 64 * (4 * g + p.val / 64) + (d.val - 64 * (p.val / 64)) = 256 * g + d.val by omega]
    · exact mul_zero _
  rw [e, H.b]
  unfold Arr.sco
  split
  · rfl
  · exact EReal.add_bot _

/-- The exponentials. -/
theorem ex_at (j : Fin 512) (p : Fin 256) : k0_pay7 k0_pay1 k0_pay2 k0_pay3 k0_pay4 qv kv bv (ix2 j p) = A.ex r (4 * g + p.val / 64) (p.val % 64) j.val := by
  change Cert.AttnKernelIdeal.Gen.k0_pay15 Cert.AttnKernelIdeal.Gen.k0_pay1 Cert.AttnKernelIdeal.Gen.k0_pay2 Cert.AttnKernelIdeal.Gen.k0_pay3 Cert.AttnKernelIdeal.Gen.k0_pay4 qv kv bv (ix2 j p) = _
  pointwise [Cert.AttnKernelIdeal.Gen.k0_pay15, Cert.AttnKernelIdeal.Gen.k0_pay13]
  rw [score_at H j p, lowest, Finset.fold_congr (g := fun j : Fin 512 => A.sco r (4 * g + p.val / 64) (p.val % 64) j.val) (fun j _ => score_at H j p)]
  rfl

/-- Their sums. -/
theorem zt_at (j : Fin 512) (p : Fin 256) : k0_pay8 k0_pay1 k0_pay2 k0_pay3 k0_pay4 qv kv bv (ix2 j p) = A.zt r (4 * g + p.val / 64) (p.val % 64) := by
  change Cert.AttnKernelIdeal.Gen.k0_pay16 Cert.AttnKernelIdeal.Gen.k0_pay1 Cert.AttnKernelIdeal.Gen.k0_pay2 Cert.AttnKernelIdeal.Gen.k0_pay3 Cert.AttnKernelIdeal.Gen.k0_pay4 qv kv bv (ix2 j p) = _
  pointwise [Cert.AttnKernelIdeal.Gen.k0_pay16]
  exact Finset.sum_congr rfl fun j' _ => ex_at H j' p

/-- What the trip stores. -/
theorem out_at (c : Fin 64) (b : Fin 256) :
    k0_pay5 (k0_pay6 vv) (k0_pay7 k0_pay1 k0_pay2 k0_pay3 k0_pay4 qv kv bv) (k0_pay8 k0_pay1 k0_pay2 k0_pay3 k0_pay4 qv kv bv) (ix2 c b) = A.out (64 * r + c.val) (256 * g + b.val) := by
  have hc := c.isLt; have hb := b.isLt
  have h7 := ex_at H; have h8 := zt_at H; have hv := H.v
  generalize k0_pay7 k0_pay1 k0_pay2 k0_pay3 k0_pay4 qv kv bv = x at h7
  generalize k0_pay8 k0_pay1 k0_pay2 k0_pay3 k0_pay4 qv kv bv = y at h8
  have one : ∀ p : Fin 256, p.val / 64 = b.val / 64 → p.val % 64 = c.val →
      (∑ j : Fin 512, Ideal.div (x (ix2 j p)) (y (ix2 j p)) * vv (ix2 j b) : EReal) = A.out (64 * r + c.val) (256 * g + b.val) := by
    intro p h1 h2
    unfold Arr.out
    rw [show (64 * r + c.val) / 64 = r by omega, show (256 * g + b.val) / 64 = 4 * g + p.val / 64 by omega, show (64 * r + c.val) % 64 = p.val % 64 by omega]
    exact Finset.sum_congr rfl fun j _ => by rw [h7, h8, hv]
  pointwise [k0_pay5, k0_pay6]
  rw [mask4, mask3, mask2]
  split
  · exact one _ (by show (192 + c.val) / 64 = b.val / 64; omega) (by show (192 + c.val) % 64 = c.val; omega)
  · split
    · exact one _ (by show (128 + c.val) / 64 = b.val / 64; omega) (by show (128 + c.val) % 64 = c.val; omega)
    · split
      · exact one _ (by show (64 + c.val) / 64 = b.val / 64; omega) (by show (64 + c.val) % 64 = c.val; omega)
      · exact one _ (by show c.val / 64 = b.val / 64; omega) (by show c.val % 64 = c.val; omega)

end
end Cert.AttnFwdKernelIdeal.Body
-- ==== Proof.AttnFwdLoop.lean ====
/-
  A grid point of the attention's forward kernel: what its thirty-two trips leave in the block of results.
-/
module

public import proofs.«01_k».proof.Proof.AttnFwdPay
public import proofs.«01_k».proof.Proof.AttnSum
public import Idealize.ShloMosaic.Lib.WritesUnit
public import Idealize.ShloMosaic.Lib.Pipeline.ValueKit

@[expose] public section

set_option maxRecDepth 16384

noncomputable section

namespace Cert.AttnFwdKernelIdeal.Body

open Idealize.ShloMosaic Idealize.ShloMosaic.TcCoe Idealize.ShloMosaic.Tactic
open Cert.AttnFwdKernelIdeal Cert.AttnFwdKernelIdeal.Gen
open AttnSpec (rs valid)
open AttnFwdSpec
open Cert.AttnKernelIdeal.Body (over over_rows ld_rows ld_table rs_le rs_off)

/-- What the memrefs of the inputs hold at a point: queries, keys, values, the table of biases. -/
structure Ins where
  q : Vec Ideal S2048x256 .bf16
  k : Vec Ideal S8192x256 .bf16
  v : Vec Ideal S8192x256 .bf16
  b : Vec Ideal S1x960x256 .f32

namespace Ins

variable (x : Ins) (i : grid0.Coords) (k : Fin k0_t1_loop.trips)

/-- The blocks that trip `k` reads, and what it stores. -/
def qv : Vec Ideal S64x256 .bf16 := View.ld x.q (Rect.unit (s := S2048x256) (k0_off1 k) S64x256.size (k0_off1_inb k))
def kv : Vec Ideal S512x256 .bf16 := View.ld x.k (Rect.unit (s := S8192x256) (k0_off2 i k) S512x256.size (k0_off2_inb i k))
def vv : Vec Ideal S512x256 .bf16 := View.ld x.v (Rect.unit (s := S8192x256) (k0_off2 i k) S512x256.size (k0_off2_inb i k))
def bv : Vec Ideal S1x512x256 .f32 := View.ld x.b (Rect.unit (s := S1x960x256) (k0_off3 i k) S1x512x256.size (k0_off3_inb i k))
def outP : FVec Ideal S64x256 .bf16 :=
  k0_pay5 (k0_pay6 (x.vv i k)) (k0_pay7 k0_pay1 k0_pay2 k0_pay3 k0_pay4 (x.qv k) (x.kv i k) (x.bv i k)) (k0_pay8 k0_pay1 k0_pay2 k0_pay3 k0_pay4 (x.qv k) (x.kv i k) (x.bv i k))

end Ins

/-- The block of results after the first `n` trips. -/
def outAt (x : Ins) (i : grid0.Coords) (f : Vec Ideal S2048x256 .bf16) : ℕ → Vec Ideal S2048x256 .bf16
  | 0 => f
  | n + 1 => if h : n < k0_t1_loop.trips then over (s := S2048x256) (k0_off1 ⟨n, h⟩) S64x256.size (x.outP i ⟨n, h⟩) (outAt x i f n) else outAt x i f n

theorem outAt_succ (x : Ins) (i : grid0.Coords) (f : Vec Ideal S2048x256 .bf16) (n : ℕ) (h : n < k0_t1_loop.trips) :
    outAt x i f (n + 1) = over (s := S2048x256) (k0_off1 ⟨n, h⟩) S64x256.size (x.outP i ⟨n, h⟩) (outAt x i f n) := by
  rw [outAt]; exact dif_pos h

section
variable (c : Dev nD) (i : grid0.Coords) (arg2 : Memref sig .tc .vmem S2048x256 .bf16) (harg2 : arg2.IsWhole) (arg3 : Memref sig .tc .vmem S8192x256 .bf16) (harg3 : arg3.IsWhole)
  (arg4 : Memref sig .tc .vmem S8192x256 .bf16) (harg4 : arg4.IsWhole) (arg5 : Memref sig .tc .vmem S1x960x256 .f32) (harg5 : arg5.IsWhole) (arg6 : Memref sig .tc .vmem S2048x256 .bf16) (harg6 : arg6.IsWhole)
  (v0 : BitVec 32) (x : Ins)

/-- One trip's piece, from what the memrefs hold. -/
theorem trip_pieces (k : Fin k0_t1_loop.trips) :
    tripL_k0_t1 (F := Ideal) Variants.none c none i arg2 harg2 arg3 harg3 arg4 harg4 arg5 harg5 arg6 harg6 v0 (harg2.unread x.q) (harg3.unread x.k) (harg4.unread x.v) (harg5.unread x.b) k
      = [⟨Rect.unit (k0_off1 k) S64x256.size (k0_off1_inb k), x.outP i k⟩] := by
  unfold tripL_k0_t1 trip_k0_t1
  sl_unfold_words
  dsimp only [Ins.outP, Ins.qv, Ins.kv, Ins.vv, Ins.bv]
  simp only [View.readAt_eq_ld, harg2.read_unread, harg3.read_unread, harg4.read_unread, harg5.read_unread]
  rfl

/-- The loop's pieces read back. -/
theorem loop_read (v : View sig .tc .vmem S2048x256 .bf16) (G : v.ty.Contents (Elt Ideal)) (n : ℕ) (hn : n ≤ k0_t1_loop.trips) :
    v.read (Elt Ideal) (v.writes (Elt Ideal) G (pb_k0_t1 (F := Ideal) Variants.none c none i arg2 harg2 arg3 harg3 arg4 harg4 arg5 harg5 arg6 harg6 v0
        (harg2.unread x.q) (harg3.unread x.k) (harg4.unread x.v) (harg5.unread x.b) n)) = outAt x i (v.read (Elt Ideal) G) n := by
  induction n with
  | zero => rfl
  | succ n ih =>
    have h := ih (Nat.le_of_succ_le hn)
    have hs := pb_k0_t1_succ (F := Ideal) Variants.none c none i arg2 harg2 arg3 harg3 arg4 harg4 arg5 harg5 arg6 harg6 v0
        (harg2.unread x.q) (harg3.unread x.k) (harg4.unread x.v) (harg5.unread x.b) ⟨n, hn⟩
    rw [trip_pieces] at hs
    rw [show (pb_k0_t1 (F := Ideal) Variants.none c none i arg2 harg2 arg3 harg3 arg4 harg4 arg5 harg5 arg6 harg6 v0
        (harg2.unread x.q) (harg3.unread x.k) (harg4.unread x.v) (harg5.unread x.b) (n + 1)) = _ from hs, outAt_succ x i _ n hn, ← h]
    exact funext fun y => View.read_writes_cons_unit v G _ _ _ y rfl
end

theorem off1_eq : ∀ k : Fin k0_t1_loop.trips, k0_off1 k = ![64 * k.val, 0] := by decide +kernel
theorem off2_eq : ∀ (t : Fin cfg0.N) (k : Fin k0_t1_loop.trips), k0_off2 (grid0.coords t) k = ![64 * rs (32 * (t.val % 4) + k.val), 0] :=
  (by decide +kernel : ∀ (t : Fin grid0.N) (k : Fin k0_t1_loop.trips), k0_off2 (grid0.coords t) k = ![64 * rs (32 * (t.val % 4) + k.val), 0])
theorem off3_eq : ∀ (t : Fin cfg0.N) (k : Fin k0_t1_loop.trips), k0_off3 (grid0.coords t) k = ![0, 64 * (rs (32 * (t.val % 4) + k.val) + 7 - (32 * (t.val % 4) + k.val)), 0] :=
  (by decide +kernel : ∀ (t : Fin grid0.N) (k : Fin k0_t1_loop.trips), k0_off3 (grid0.coords t) k = ![0, 64 * (rs (32 * (t.val % 4) + k.val) + 7 - (32 * (t.val % 4) + k.val)), 0])
theorem trips_eq : k0_t1_loop.trips = 32 := by decide +kernel

/-- What the four windows of a grid point hold: heads `4 g …` and rows of tokens from `32 rb` on. -/
structure Holds (A : Arr) (g rb : ℕ) (x : Ins) : Prop where
  q : ∀ (a : Fin 2048) (b : Fin 256), (x.q (ix2 a b) : EReal) = A.q (2048 * rb + a.val) (256 * g + b.val)
  k : ∀ (a : Fin 8192) (b : Fin 256), (x.k (ix2 a b) : EReal) = A.k a.val (256 * g + b.val)
  v : ∀ (a : Fin 8192) (b : Fin 256), (x.v (ix2 a b) : EReal) = A.v a.val (256 * g + b.val)
  b : ∀ (a : Fin 960) (p : Fin 256), x.b (ix3 (0 : Fin 1) a p) = (if valid (p.val % 64) (a.val % 64) then A.t (4 * g + p.val / 64) (a.val / 64) (p.val % 64) (a.val % 64) else ⊥ : EReal)

/-- The blocks a trip reads. -/
theorem trip_of {A : Arr} {x : Ins} (t : Fin cfg0.N) (H : Holds A (t.val / 4) (t.val % 4) x) (k : Fin k0_t1_loop.trips) :
    Trip A (32 * (t.val % 4) + k.val) (t.val / 4) (x.qv k) (x.kv (grid0.coords t) k) (x.vv (grid0.coords t) k) (x.bv (grid0.coords t) k) := by
  have hk : k.val < 32 := lt_of_lt_of_eq k.isLt trips_eq
  have hr := rs_le (32 * (t.val % 4) + k.val)
  have h7 := @rs_off (32 * (t.val % 4) + k.val)
  have hd : ∀ c : Fin 64, 2048 * (t.val % 4) + (64 * k.val + c.val) = 64 * (32 * (t.val % 4) + k.val) + c.val := fun c => by omega
  refine ⟨fun c b => ?_, fun j b => ?_, fun j b => ?_, fun j p => ?_⟩
  · refine (ld_rows x.q _ _ (off1_eq k) _ c b ⟨64 * k.val + c.val, by omega⟩ rfl).trans ((H.q _ _).trans ?_)
    rw [show 2048 * (t.val % 4) + (⟨64 * k.val + c.val, by omega⟩ : Fin 2048).val = _ from hd c]
  · exact (ld_rows x.k _ _ (off2_eq t k) _ j b ⟨64 * rs (32 * (t.val % 4) + k.val) + j.val, by omega⟩ rfl).trans (H.k _ _)
  · exact (ld_rows x.v _ _ (off2_eq t k) _ j b ⟨64 * rs (32 * (t.val % 4) + k.val) + j.val, by omega⟩ rfl).trans (H.v _ _)
  · refine (ld_table x.b _ _ (off3_eq t k) _ j p ⟨64 * (rs (32 * (t.val % 4) + k.val) + 7 - (32 * (t.val % 4) + k.val)) + j.val, by omega⟩ rfl).trans ((H.b _ _).trans ?_)
    dsimp only
    rw [Nat.mul_add_mod, Nat.mul_add_div (by norm_num)]

/-- The block of results after `n` trips, on the rows they wrote. -/
theorem outAt_eq {A : Arr} {x : Ins} (t : Fin cfg0.N) (H : Holds A (t.val / 4) (t.val % 4) x) (f : Vec Ideal S2048x256 .bf16) (a : Fin 2048) (b : Fin 256) (n : ℕ) (hn : n ≤ 32) (ha : a.val < 64 * n) :
    (outAt x (grid0.coords t) f n (ix2 a b) : EReal) = A.out (2048 * (t.val % 4) + a.val) (256 * (t.val / 4) + b.val) := by
  induction n with
  | zero => omega
  | succ n ih =>
    have h : n < k0_t1_loop.trips := lt_of_lt_of_eq hn trips_eq.symm
    rw [outAt_succ x _ f n h]
    refine (over_rows _ _ (off1_eq ⟨n, h⟩) _ _ a b).trans ?_
    split
    · rename_i hh
      refine (out_at (trip_of t H ⟨n, h⟩) ⟨a.val - 64 * n, by omega⟩ b).trans ?_
      rw [show 64 * (32 * (t.val % 4) + (⟨n, h⟩ : Fin k0_t1_loop.trips).val) + (⟨a.val - 64 * n, by omega⟩ : Fin 64).val = 2048 * (t.val % 4) + a.val by
        show 64 * (32 * (t.val % 4) + n) + (a.val - 64 * n) = _
        have : 64 * n ≤ a.val := hh.1
        omega]
    · rename_i hh
      have : ¬ (64 * n ≤ a.val ∧ a.val < 64 * n + 64) := hh
      exact ih (by omega) (by omega)

/-- What a grid point leaves in the block of results. -/
theorem point_at {A : Arr} (x : Ins) (t : Fin cfg0.N) (H : Holds A (t.val / 4) (t.val % 4) x) (c : Dev nD) (arg2 : Memref sig .tc .vmem S2048x256 .bf16) (harg2 : arg2.IsWhole) (arg3 : Memref sig .tc .vmem S8192x256 .bf16) (harg3 : arg3.IsWhole)
    (arg4 : Memref sig .tc .vmem S8192x256 .bf16) (harg4 : arg4.IsWhole) (arg5 : Memref sig .tc .vmem S1x960x256 .f32) (harg5 : arg5.IsWhole) (arg6 : Memref sig .tc .vmem S2048x256 .bf16) (harg6 : arg6.IsWhole)
    (a : Fin 2048) (b : Fin 256) :
    (out0_A_4 (F := Ideal) c (grid0.coords t) arg2 harg2 arg3 harg3 arg4 harg4 arg5 harg5 arg6 harg6 x.q x.k x.v x.b (ix2 a b) : EReal) = A.out (2048 * (t.val % 4) + a.val) (256 * (t.val / 4) + b.val) := by
  unfold out0_A_4 kernelRun0_A
  dsimp only
  refine (congrFun (loop_read c (grid0.coords t) arg2 harg2 arg3 harg3 arg4 harg4 arg5 harg5 arg6 harg6 _ x VO0_4 VO0_4.junk k0_t1_loop.trips le_rfl) (ix2 a b)).trans ?_
  exact outAt_eq t H _ a b k0_t1_loop.trips (le_of_eq trips_eq) (by rw [trips_eq]; omega)

end Cert.AttnFwdKernelIdeal.Body

end
-- ==== Proof.AttnFwdHost.lean ====
/-
  The table of biases that the attention's forward kernel reads, element by element. The host lines are those of the
  backward kernel.
-/
module

public import proofs.«01_k».proof.Proof.AttnHost
public import proofs.«01_k».proof.Proof.AttnFwdSpec
public import proofs.«01_k».proof.Proof.Gen.AttnFwdKernelIdeal.Value

@[expose] public section

set_option maxRecDepth 16384

noncomputable section

namespace Cert.AttnFwdKernelIdeal.Body

open Idealize.ShloMosaic Idealize.ShloMosaic.TcCoe Idealize.ShloMosaic.Tactic
open Cert.AttnFwdKernelIdeal Cert.AttnFwdKernelIdeal.Gen
open Cert.AttnKernelIdeal.Body (divisor remOf signed rem64 seen seen_apply lowest)
open AttnSpec (valid)

variable (m : (ℓ : Loc nD τ sig) → Buf (Elt Ideal) ℓ) (d : Dev nD)

section
variable (σ : Valuation τ sig (Elt Ideal))

theorem seg10_v37 : StableHlo.after (hostOps0_10 (F := Ideal)) (StableHlo.after (hostOps0_9 (F := Ideal)) σ) (Proc.devRef .tc main_v37) = (addf (shapeCast S2x960x256 (σ (Proc.devRef .tc main_v19) : FVec Ideal S2x15x64x4x64 .f32) shapeCasts_S2x15x64x4x64_S2x960x256 : FVec Ideal S2x960x256 .f32) (broadcastInDim S2x960x256 ![0, 1, 2] bcast_S1x960x256_S2x960x256_0_1_2 (broadcastInDim S1x960x256 ![1, 2] bcast_S960x256_S1x960x256_1_2
    (select (σ (Proc.devRef .tc main_v31) : IVec S960x256 1) (broadcastInDim S960x256 ![] bcast_S_S960x256 (σ (Proc.devRef .tc main_cst) : FVec Ideal S_ .f32)) (broadcastInDim S960x256 ![] bcast_S_S960x256 (σ (Proc.devRef .tc main_cst_10) : FVec Ideal S_ .f32)) : FVec Ideal S960x256 .f32))) : FVec Ideal S2x960x256 .f32) := by
  rfl
theorem seg8_v31 : StableHlo.after (hostOps0_8 (F := Ideal)) σ (Proc.devRef .tc main_v31) = (andi (cmpi .sge (σ (Proc.devRef .tc main_v21) : IVec S960x256 32) (σ (Proc.devRef .tc main_v26) : IVec S960x256 32)) (cmpi .slt (σ (Proc.devRef .tc main_v21) : IVec S960x256 32) (addi (σ (Proc.devRef .tc main_v26) : IVec S960x256 32) (broadcastInDim S960x256 ![] bcast_S_S960x256 (constantI S_ 32 16#32) : IVec S960x256 32))) : IVec S960x256 1) := by
  rfl
theorem seg8_zero : StableHlo.after (hostOps0_8 (F := Ideal)) σ (Proc.devRef .tc main_cst) = (constant S_ .f32 0x00000000#32 : FVec Ideal S_ .f32) := by
  rfl
theorem seg8_low : StableHlo.after (hostOps0_8 (F := Ideal)) σ (Proc.devRef .tc main_cst_10) = (constant S_ .f32 0xFF800000#32 : FVec Ideal S_ .f32) := by
  rfl
theorem seg8_v19 : StableHlo.after (hostOps0_8 (F := Ideal)) (StableHlo.after (hostOps0_7 (F := Ideal)) (StableHlo.after (hostOps0_6 (F := Ideal)) σ)) (Proc.devRef .tc main_v19) = σ (Proc.devRef .tc main_v19) := by
  rfl
theorem seg7_v21 : StableHlo.after (hostOps0_7 (F := Ideal)) (StableHlo.after (hostOps0_6 (F := Ideal)) σ) (Proc.devRef .tc main_v21) = σ (Proc.devRef .tc main_v21) := by
  rfl
theorem seg7_v26 : StableHlo.after (hostOps0_7 (F := Ideal)) σ (Proc.devRef .tc main_v26) = (minsi (broadcastInDim S960x256 ![] bcast_S_S960x256 (σ (Proc.devRef .tc main_c_8) : IVec S_ 32) : IVec S960x256 32) (maxsi (broadcastInDim S960x256 ![] bcast_S_S960x256 (σ (Proc.devRef .tc main_c_7) : IVec S_ 32) : IVec S960x256 32) (σ (Proc.devRef .tc main_v25) : IVec S960x256 32)) : IVec S960x256 32) := by
  rfl
theorem seg6_v25 : StableHlo.after (hostOps0_6 (F := Ideal)) σ (Proc.devRef .tc main_v25) = (subi (σ (Proc.devRef .tc main_v23) : IVec S960x256 32) (broadcastInDim S960x256 ![] bcast_S_S960x256 (constantI S_ 32 8#32) : IVec S960x256 32) : IVec S960x256 32) := by
  rfl
theorem seg6_least : StableHlo.after (hostOps0_6 (F := Ideal)) σ (Proc.devRef .tc main_c_7) = (constantI S_ 32 0#32 : IVec S_ 32) := by
  rfl
theorem seg6_most : StableHlo.after (hostOps0_6 (F := Ideal)) σ (Proc.devRef .tc main_c_8) = (constantI S_ 32 48#32 : IVec S_ 32) := by
  rfl
theorem seg5a_n : StableHlo.after ((hostOps0_5 (F := Ideal)).take 7) σ (Proc.devRef .tc main_call2_v2) = divisor (σ (Proc.devRef .tc main_c_5) : IVec S_ 32) := by
  rfl
theorem seg5a_r : StableHlo.after ((hostOps0_5 (F := Ideal)).take 7) σ (Proc.devRef .tc main_call2_v4) = remOf (σ (Proc.devRef .tc main_c_5) : IVec S_ 32) (σ (Proc.devRef .tc main_v22) : IVec S960x256 32) := by
  rfl
theorem seg5b : StableHlo.after ((hostOps0_5 (F := Ideal)).drop 7) σ (Proc.devRef .tc main_v23) = signed (σ (Proc.devRef .tc main_call2_v2) : IVec S_ 32) (σ (Proc.devRef .tc main_call2_v4) : IVec S960x256 32) := by
  rfl
theorem seg5_v23 : StableHlo.after (hostOps0_5 (F := Ideal)) σ (Proc.devRef .tc main_v23) = rem64 (σ (Proc.devRef .tc main_c_5) : IVec S_ 32) (σ (Proc.devRef .tc main_v22) : IVec S960x256 32) := by
  rw [← List.take_append_drop 7 (hostOps0_5 (F := Ideal)), StableHlo.after_append, seg5b, seg5a_n, seg5a_r]
  rfl
theorem seg5_v19 : StableHlo.after (hostOps0_5 (F := Ideal)) (StableHlo.after (hostOps0_4 (F := Ideal)) σ) (Proc.devRef .tc main_v19) = σ (Proc.devRef .tc main_v19) := by
  rfl
theorem seg5_v21 : StableHlo.after (hostOps0_5 (F := Ideal)) (StableHlo.after (hostOps0_4 (F := Ideal)) σ) (Proc.devRef .tc main_v21) = σ (Proc.devRef .tc main_v21) := by
  rfl
theorem seg4_v22 : StableHlo.after (hostOps0_4 (F := Ideal)) σ (Proc.devRef .tc main_v22) = (iotaInDim S960x256 32 1 : IVec S960x256 32) := by
  rfl
theorem seg4_c_5 : StableHlo.after (hostOps0_4 (F := Ideal)) σ (Proc.devRef .tc main_c_5) = (constantI S_ 32 64#32 : IVec S_ 32) := by
  rfl
theorem seg3a_n : StableHlo.after ((hostOps0_3 (F := Ideal)).take 7) σ (Proc.devRef .tc main_call1_v2) = divisor (σ (Proc.devRef .tc main_c_4) : IVec S_ 32) := by
  rfl
theorem seg3a_r : StableHlo.after ((hostOps0_3 (F := Ideal)).take 7) σ (Proc.devRef .tc main_call1_v4) = remOf (σ (Proc.devRef .tc main_c_4) : IVec S_ 32) (σ (Proc.devRef .tc main_v20) : IVec S960x256 32) := by
  rfl
theorem seg3b : StableHlo.after ((hostOps0_3 (F := Ideal)).drop 7) σ (Proc.devRef .tc main_v21) = signed (σ (Proc.devRef .tc main_call1_v2) : IVec S_ 32) (σ (Proc.devRef .tc main_call1_v4) : IVec S960x256 32) := by
  rfl
theorem seg3_v21 : StableHlo.after (hostOps0_3 (F := Ideal)) σ (Proc.devRef .tc main_v21) = rem64 (σ (Proc.devRef .tc main_c_4) : IVec S_ 32) (σ (Proc.devRef .tc main_v20) : IVec S960x256 32) := by
  rw [← List.take_append_drop 7 (hostOps0_3 (F := Ideal)), StableHlo.after_append, seg3b, seg3a_n, seg3a_r]
  rfl
theorem seg3_v19 : StableHlo.after (hostOps0_3 (F := Ideal)) σ (Proc.devRef .tc main_v19) = σ (Proc.devRef .tc main_v19) := by
  rfl
theorem seg2_v20 : StableHlo.after (hostOps0_2 (F := Ideal)) σ (Proc.devRef .tc main_v20) = (iotaInDim S960x256 32 0 : IVec S960x256 32) := by
  rfl
theorem seg2_c_4 : StableHlo.after (hostOps0_2 (F := Ideal)) σ (Proc.devRef .tc main_c_4) = (constantI S_ 32 64#32 : IVec S_ 32) := by
  rfl
theorem seg2_v19 : StableHlo.after (hostOps0_2 (F := Ideal)) σ (Proc.devRef .tc main_v19) = (transpose S2x15x64x4x64 [0, 2, 4, 1, 3] (shapeCast S2x4x15x64x64 (StableHlo.after hostOps0_2 σ (Proc.devRef .tc main_v17) : FVec Ideal S8x15x64x64 .f32) shapeCasts_S8x15x64x64_S2x4x15x64x64 : FVec Ideal S2x4x15x64x64 .f32) transposes_S2x4x15x64x64_S2x15x64x4x64_0_2_4_1_3 : FVec Ideal S2x15x64x4x64 .f32) := by
  rfl

end

/-- The arrays after the first three stretches of host operations. -/
def st3 : Valuation τ sig (Elt Ideal) := StableHlo.after hostOps0_2 (StableHlo.after hostOps0_1 (StableHlo.after hostOps0 (fun b => m (d, b))))

theorem V_eq (b : Ref sig .tc) : V m d b = StableHlo.after hostOps0_10 (StableHlo.after hostOps0_9 (StableHlo.after hostOps0_8 (StableHlo.after hostOps0_7
    (StableHlo.after hostOps0_6 (StableHlo.after hostOps0_5 (StableHlo.after hostOps0_4 (StableHlo.after hostOps0_3 (st3 m d)))))))) (Proc.devRef .tc b) := by
  unfold V st3
  simp only [List.flatten_cons, List.flatten_nil, List.append_nil, StableHlo.after_append]

/-- The spread table: a head's bias of row offset, query column and key column. -/
def spread : FVec Ideal S8x15x64x64 .f32 := st3 m d (Proc.devRef .tc main_v17)

theorem v37_eq : V m d main_v37 = (addf (shapeCast S2x960x256 (transpose S2x15x64x4x64 [0, 2, 4, 1, 3] (shapeCast S2x4x15x64x64 (spread m d) shapeCasts_S8x15x64x64_S2x4x15x64x64 : FVec Ideal S2x4x15x64x64 .f32) transposes_S2x4x15x64x64_S2x15x64x4x64_0_2_4_1_3 : FVec Ideal S2x15x64x4x64 .f32) shapeCasts_S2x15x64x4x64_S2x960x256 : FVec Ideal S2x960x256 .f32)
    (broadcastInDim S2x960x256 ![0, 1, 2] bcast_S1x960x256_S2x960x256_0_1_2 (broadcastInDim S1x960x256 ![1, 2] bcast_S960x256_S1x960x256_1_2
      (select seen (broadcastInDim S960x256 ![] bcast_S_S960x256 (constant S_ .f32 0x00000000#32)) (broadcastInDim S960x256 ![] bcast_S_S960x256 (constant S_ .f32 0xFF800000#32)) : FVec Ideal S960x256 .f32))) : FVec Ideal S2x960x256 .f32) := by
  have h19 : st3 m d (Proc.devRef .tc main_v19) = _ := seg2_v19 _
  have h20 : st3 m d (Proc.devRef .tc main_v20) = _ := seg2_v20 _
  have h4 : st3 m d (Proc.devRef .tc main_c_4) = _ := seg2_c_4 _
  rw [V_eq, seg10_v37, seg8_v31, seg8_zero, seg8_low, seg8_v19, seg7_v21, seg7_v26, seg6_v25, seg6_least, seg6_most, seg5_v19, seg5_v21, seg5_v23, seg4_v22, seg4_c_5, seg3_v21, seg3_v19, h19, h20, h4]
  rfl

/-- The spread table as the kernel reads it: minus infinity where the query does not see the key. -/
theorem v37_apply (g : Fin 2) (a : Fin 960) (p : Fin 256) : (V m d main_v37 : FVec Ideal S2x960x256 .f32) (ix3 g a p)
    = (if valid (p.val % 64) (a.val % 64) then spread m d (ix4 (⟨4 * g.val + p.val / 64, by omega⟩ : Fin 8) (⟨a.val / 64, by omega⟩ : Fin 15) (⟨p.val % 64, by omega⟩ : Fin 64) (⟨a.val % 64, by omega⟩ : Fin 64)) else ⊥ : EReal) := by
  rw [v37_eq]
  pointwise
  rw [seen_apply, lowest]
  have e : ix4 (⟨g.val * 4 + p.val / 64, by omega⟩ : Fin 8) (⟨a.val / 64, by omega⟩ : Fin 15) (⟨p.val % 64, by omega⟩ : Fin 64) (⟨a.val % 64, by omega⟩ : Fin 64)
      = ix4 (⟨4 * g.val + p.val / 64, by omega⟩ : Fin 8) (⟨a.val / 64, by omega⟩ : Fin 15) (⟨p.val % 64, by omega⟩ : Fin 64) (⟨a.val % 64, by omega⟩ : Fin 64) :=
    congrArg (fun i => ix4 i _ _ _) (Fin.ext (by show g.val * 4 + p.val / 64 = 4 * g.val + p.val / 64; omega))
  rw [e]
  split
  · exact add_zero (M := EReal) _
  · exact EReal.add_bot _

end Cert.AttnFwdKernelIdeal.Body

end
-- ==== Proof.AttnFwdRef.lean ====
/-
  The attention's forward reference at an index. Its tables of rows and offsets, its gathers and its reductions are those of
  the backward call's reference.
-/
module

public import proofs.«01_k».proof.Proof.AttnRef
public import proofs.«01_k».proof.Proof.AttnFwdSpec
public import proofs.«01_k».proof.Proof.Gen.AttnFwdReferenceIdeal.Run
public import proofs.«01_k».proof.Proof.Gen.AttnFwdReferenceIdeal.Read

@[expose] public section

set_option maxRecDepth 16384

noncomputable section

namespace Cert.AttnFwdReferenceIdeal.Ref

open Idealize.ShloMosaic Idealize.ShloMosaic.TcCoe Idealize.ShloMosaic.Tactic
open Cert.AttnFwdReferenceIdeal Cert.AttnFwdReferenceIdeal.Gen Cert.AttnFwdReferenceIdeal.Read
open AttnSpec (rs valid sum_keys)
open AttnFwdSpec
open Cert.AttnReferenceIdeal.Ref (gather_keys gather_bias rows_val offs_val seen_val drop_keys sum_keys2 lowest row_key)

variable (q k v : FVec Ideal S8192x512 .f32) (t : FVec Ideal S8x15x31 .f32)

/-- The arguments. -/
abbrev A : Arr := arrOf q k v (val_main_v18 (F := Ideal) t)

theorem rows_at (r : Fin 128) (i : Fin 8) : (val_main_v37 (F := Ideal) (ix3 r i 0)).toInt = ((rs r.val + i.val : ℕ) : ℤ) := rows_val r i
theorem offs_at (r : Fin 128) (i : Fin 8) : (val_main_v73 (F := Ideal) (ix3 r i 0)).toInt = ((rs r.val + 7 - r.val + i.val : ℕ) : ℤ) := offs_val r i
theorem seen_at (c k : Fin 64) : val_main_v62 (F := Ideal) (ix2 c k) = if valid c.val k.val then 1#1 else 0#1 := seen_val c k

variable {q k v t}

theorem at_head (x : FVec Ideal S8192x512 .f32) (R c h d : ℕ) (h1 : R * 64 + c < 8192) (h2 : h * 64 + d < 512) :
    x (ix2 ⟨R * 64 + c, h1⟩ ⟨h * 64 + d, h2⟩) = at2 x (64 * R + c) (64 * h + d) :=
  (at2_eq x _ _).trans (by rw [Nat.mul_comm 64 R, Nat.mul_comm 64 h])

section
variable (h : Fin 8) (r : Fin 128) (c : Fin 64) (i : Fin 8) (j d : Fin 64)

theorem v19_at : val_main_v19 (F := Ideal) q (ix5 0 r c h d) = at2 q (64 * r.val + c.val) (64 * h.val + d.val) := by
  pointwise [val_main_v19, val_main_v0]
  exact at_head ..
theorem v20_at : val_main_v20 (F := Ideal) k (ix5 0 r c h d) = at2 k (64 * r.val + c.val) (64 * h.val + d.val) := by
  pointwise [val_main_v20, val_main_v1]
  exact at_head ..
theorem v21_at : val_main_v21 (F := Ideal) v (ix5 0 r c h d) = at2 v (64 * r.val + c.val) (64 * h.val + d.val) := by
  pointwise [val_main_v21, val_main_v2]
  exact at_head ..

theorem v38_at : val_main_v38 (F := Ideal) k (ix6 0 r i c h d) = at2 k (64 * rs r.val + (64 * i.val + c.val)) (64 * h.val + d.val) := by
  rw [← row_key]
  exact (gather_keys _ _ r i c h d ⟨rs r.val + i.val, by unfold rs; omega⟩ (rows_at r i)).trans (v20_at ..)
theorem v45_at : val_main_v45 (F := Ideal) v (ix6 0 r i c h d) = at2 v (64 * rs r.val + (64 * i.val + c.val)) (64 * h.val + d.val) := by
  rw [← row_key]
  exact (gather_keys _ _ r i c h d ⟨rs r.val + i.val, by unfold rs; omega⟩ (rows_at r i)).trans (v21_at ..)
theorem v74_at : val_main_v74 (F := Ideal) t (ix5 h r i c j) = at4 (val_main_v18 (F := Ideal) t) h.val (rs r.val + 7 - r.val + i.val) c.val j.val :=
  (gather_bias _ _ h r i c j ⟨rs r.val + 7 - r.val + i.val, by unfold rs; omega⟩ (offs_at r i)).trans (at4_eq ..)

/-- The scores. -/
theorem v82_at : val_main_v82 (F := Ideal) q k t (ix6 0 h r c i j) = (A q k v t).sco r.val h.val c.val (64 * i.val + j.val) := by
  have e : val_main_v76 (F := Ideal) q k (ix6 0 h r c i j) = ∑ d : Fin 64, at2 q (64 * r.val + c.val) (64 * h.val + d.val) * at2 k (64 * rs r.val + (64 * i.val + j.val)) (64 * h.val + d.val) := by
    pointwise [val_main_v76]
    exact Finset.sum_congr rfl fun d _ => by rw [v19_at, v38_at]
  pointwise [val_main_v82, val_main_call3_v1, val_main_v81, val_main_call3_v2, val_main_call3_v0, val_main_cst_18, val_main_v80, val_main_v79, val_main_v75, val_main_v78, val_main_v77, val_main_cst]
  rw [e, v74_at, seen_at]
  change Scalar.select (if valid c.val j.val then 1#1 else 0#1) _ (Ideal.ofBits .f32 0xFF800000#32) = _
  rw [lowest]
  unfold Arr.sco
  rw [show (64 * i.val + j.val) / 64 = i.val by omega, show (64 * i.val + j.val) % 64 = j.val by omega]
  split <;> rfl

/-- A query's largest score. -/
theorem v83_at : val_main_v83 (F := Ideal) q k t (ix4 0 h r c) = (A q k v t).mx r.val h.val c.val := by
  have hi : (val_main_cst_19 (F := Ideal)) (Shape.Idx.first h_S_) = ⊥ := by
    unfold val_main_cst_19
    pointwise
    exact lowest
  have h1 := fun i j => v82_at (q := q) (k := k) (v := v) (t := t) h r c i j
  unfold val_main_v83
  generalize val_main_v82 (F := Ideal) q k t = x at h1
  refine (Host.reduce_eq_fold (max : EReal → EReal → EReal) x _ reducesTo_S1x8x128x64x8x64_S1x8x128x64_d4_5 h_S_ (ix4 0 h r c)).trans ?_
  rw [hi]
  refine fold_keys _ x (fun j => (A q k v t).sco r.val h.val c.val j) (fun i => ⟨64 * (i 4).val + (i 5).val, by have h4 : (i 4).val < 8 := (i 4).isLt; have h5 : (i 5).val < 64 := (i 5).isLt; omega⟩) (fun i hi => ?_) (fun j => ?_)
  · have e := (drop_keys reducesTo_S1x8x128x64x8x64_S1x8x128x64_d4_5 i h r c).mp (Finset.mem_filter.mp hi).2
    exact (congrArg x e).trans (h1 _ _)
  · exact ⟨ix6 0 h r c ⟨j.val / 64, by omega⟩ ⟨j.val % 64, by omega⟩, Finset.mem_filter.mpr ⟨Finset.mem_univ _, (drop_keys _ _ h r c).mpr rfl⟩, Fin.ext (by show 64 * (j.val / 64) + j.val % 64 = j.val; omega)⟩

theorem v84_at (i : S1x8x128x64.Idx) : val_main_v84 (F := Ideal) i = ⊥ := by
  rw [val_main_v84_apply, val_main_cst_20_apply]
  exact lowest
theorem max_low (M : Ideal .f32) : FloatOps.maximumf (⊥ : EReal) M = M := max_eq_right (α := EReal) bot_le
theorem v85_at : val_main_v85 (F := Ideal) q k t (ix4 0 h r c) = (A q k v t).mx r.val h.val c.val := by
  rw [val_main_v85_apply, v84_at, v83_at (v := v)]
  exact max_low _

/-- The exponentials. -/
theorem v89_at : val_main_v89 (F := Ideal) q k t (ix6 0 h r c i j) = (A q k v t).ex r.val h.val c.val (64 * i.val + j.val) := by
  have h1 := v82_at (q := q) (k := k) (v := v) (t := t) h r c i j
  have h2 := v85_at (q := q) (k := k) (v := v) (t := t) h r c
  unfold val_main_v89 val_main_v88 val_main_v87 val_main_v86
  generalize val_main_v82 (F := Ideal) q k t = x at h1
  generalize val_main_v85 (F := Ideal) q k t = y at h2
  pointwise
  rw [h1, h2]
  rfl

/-- Their sum. -/
theorem v90_at : val_main_v90 (F := Ideal) q k t (ix4 0 h r c) = (A q k v t).zt r.val h.val c.val := by
  have h1 := fun i j => v89_at (q := q) (k := k) (v := v) (t := t) h r c i j
  unfold val_main_v90
  generalize val_main_v89 (F := Ideal) q k t = x at h1
  pointwise [val_main_cst_21]
  refine (sum_keys2 _ x h r c).trans ?_
  unfold Arr.zt
  rw [sum_keys]
  exact Finset.sum_congr rfl fun i _ => Finset.sum_congr rfl fun j _ => h1 i j

/-- The weights. -/
theorem v93_at : val_main_v93 (F := Ideal) q k t (ix6 0 h r c i j) = Ideal.div ((A q k v t).ex r.val h.val c.val (64 * i.val + j.val)) ((A q k v t).zt r.val h.val c.val) := by
  have h1 := v89_at (q := q) (k := k) (v := v) (t := t) h r c i j
  have h2 := v90_at (q := q) (k := k) (v := v) (t := t) h r c
  unfold val_main_v93 val_main_v92 val_main_v91
  generalize val_main_v89 (F := Ideal) q k t = x at h1
  generalize val_main_v90 (F := Ideal) q k t = y at h2
  pointwise
  rw [h1, h2]

/-- The weighted sums of the values. -/
theorem v94_at : val_main_v94 (F := Ideal) q k v t (ix5 0 r h d c) = (A q k v t).out (64 * r.val + c.val) (64 * h.val + d.val) := by
  have h1 := fun i j => v93_at (q := q) (k := k) (v := v) (t := t) h r c i j
  have h2 := fun i j => v45_at (v := v) h r i j d
  unfold val_main_v94
  generalize val_main_v93 (F := Ideal) q k t = x at h1
  generalize val_main_v45 (F := Ideal) v = y at h2
  pointwise
  unfold Arr.out
  rw [show (64 * r.val + c.val) / 64 = r.val by omega, show (64 * r.val + c.val) % 64 = c.val by omega, show (64 * h.val + d.val) / 64 = h.val by omega]
  refine Eq.trans ?_ (sum_keys fun n => Ideal.div ((A q k v t).ex r.val h.val c.val n) ((A q k v t).zt r.val h.val c.val) * (A q k v t).v (64 * rs r.val + n) (64 * h.val + d.val)).symm
  refine Finset.sum_congr rfl fun i _ => Finset.sum_congr rfl fun j _ => ?_
  rw [h1, h2, mul_comm]
  rfl
end

theorem result_at (a : Fin 8192) (b : Fin 512) : val_main_v98 (F := Ideal) q k v t (ix2 a b) = (A q k v t).out a.val b.val := by
  have h1 := v94_at (q := q) (k := k) (v := v) (t := t) ⟨b.val / 64, by omega⟩ ⟨a.val / 64, by omega⟩ ⟨a.val % 64, by omega⟩ ⟨b.val % 64, by omega⟩
  unfold val_main_v98 val_main_v97 val_main_v96 val_main_v95
  generalize val_main_v94 (F := Ideal) q k v t = x at h1
  pointwise
  refine h1.trans ?_
  dsimp only
  rw [Nat.div_add_mod, Nat.div_add_mod]

end Cert.AttnFwdReferenceIdeal.Ref

end
-- ==== Proof.AttnFwdAlg.lean ====
/-
  The value of the attention's forward call: where the two ideal runs end, and that they end alike.
-/
module

public import proofs.«01_k».proof.Defs
public import proofs.«01_k».proof.Proof.AttnFwdLoop
public import proofs.«01_k».proof.Proof.AttnFwdHost
public import proofs.«01_k».proof.Proof.AttnFwdRef
public import proofs.«01_k».proof.Proof.AttnAlg
public import proofs.«01_k».proof.Proof.FwdClaims
public import Idealize.ShloMosaic.Lib.Pipeline.ReadBack

@[expose] public section

set_option maxRecDepth 16384

noncomputable section

namespace Cert.AttnFwdKernelIdeal.Body

open Idealize.ShloMosaic Idealize.ShloMosaic.TcCoe Idealize.ShloMosaic.Tactic Idealize.SL.Sem
open Cert.AttnFwdKernelIdeal Cert.AttnFwdKernelIdeal.Gen Cert.AttnFwdKernelIdeal.Value
open AttnSpec (valid)
open AttnFwdSpec

variable (m : (ℓ : Loc nD τ sig) → Buf (Elt Ideal) ℓ) (d : Dev nD)

/-- The arguments. -/
abbrev aq : FVec Ideal S8192x512 .f32 := StableHlo.launchContents m d main_arg0
abbrev ak : FVec Ideal S8192x512 .f32 := StableHlo.launchContents m d main_arg1
abbrev av : FVec Ideal S8192x512 .f32 := StableHlo.launchContents m d main_arg2
abbrev at_ : FVec Ideal S8x15x31 .f32 := StableHlo.launchContents m d main_arg3

/-- The arguments at natural numbers, and the result array. -/
def arr : Arr := arrOf (aq m d) (ak m d) (av m d) (spread m d)
def res (A : Arr) : FVec Ideal S8192x512 .bf16 := fun i => A.out (i 0).val (i 1).val

theorem idx : ∀ t : Fin cfg0.N, win0_0.index t = ![t.val % 4, t.val / 4] ∧ win0_1.index t = ![0, t.val / 4 + 2] ∧ win0_2.index t = ![0, t.val / 4 + 4]
    ∧ win0_3.index t = ![t.val / 4, 0, 0] ∧ win0_4.index t = ![t.val % 4, t.val / 4] := by decide +kernel

theorem point_lt (t : Fin cfg0.N) : t.val < 8 := lt_of_lt_of_eq t.isLt (by decide)

theorem v1_eq : V m d main_v1 = (truncf .bf16 (concatenate S8192x1536 1 [⟨S8192x512, aq m d⟩, ⟨S8192x512, ak m d⟩, ⟨S8192x512, av m d⟩] concatenates_S8192x512_S8192x512_S8192x512_S8192x1536_d1) bitsLt_bf16_f32 : FVec Ideal S8192x1536 .bf16) := by
  rfl

theorem v1_q (a : Fin 8192) (b : Fin 1536) (h : b.val < 512) : (V m d main_v1 : FVec Ideal S8192x1536 .bf16) (ix2 a b) = aq m d (ix2 a ⟨b.val, h⟩) := by
  rw [v1_eq]; pointwise
  exact dif_pos h
theorem v1_k (a : Fin 8192) (b : Fin 1536) (h : 512 ≤ b.val) (h2 : b.val < 1024) : (V m d main_v1 : FVec Ideal S8192x1536 .bf16) (ix2 a b) = ak m d (ix2 a ⟨b.val - 512, by omega⟩) := by
  rw [v1_eq]; pointwise
  refine (dif_neg (by omega)).trans ((dif_pos (by omega)).trans ?_)
  rfl
theorem v1_v (a : Fin 8192) (b : Fin 1536) (h : 1024 ≤ b.val) : (V m d main_v1 : FVec Ideal S8192x1536 .bf16) (ix2 a b) = av m d (ix2 a ⟨b.val - 1024, by omega⟩) := by
  rw [v1_eq]; pointwise
  refine (dif_neg (by omega)).trans ((dif_neg (by omega)).trans ?_)
  exact congrArg _ (congrArg _ (Fin.ext (by show b.val - (512 + 512) = b.val - 1024; omega)))

variable {m d}

theorem blk_q (t : Fin cfg0.N) (a : Fin 2048) (b : Fin 256) : (iblk m d 0 t : FVec Ideal S2048x256 .bf16) (ix2 a b)
    = (V m d main_v1 : FVec Ideal S8192x1536 .bf16) (ix2 ⟨2048 * (t.val % 4) + a.val, by omega⟩ ⟨256 * (t.val / 4) + b.val, by have := point_lt t; omega⟩) := by
  blk_point [iblk, idx t]
  all_goals omega
theorem blk_k (t : Fin cfg0.N) (a : Fin 8192) (b : Fin 256) : (iblk m d 1 t : FVec Ideal S8192x256 .bf16) (ix2 a b)
    = (V m d main_v1 : FVec Ideal S8192x1536 .bf16) (ix2 a ⟨512 + (256 * (t.val / 4) + b.val), by have := point_lt t; omega⟩) := by
  blk_point [iblk, idx t]
  all_goals omega
theorem blk_v (t : Fin cfg0.N) (a : Fin 8192) (b : Fin 256) : (iblk m d 2 t : FVec Ideal S8192x256 .bf16) (ix2 a b)
    = (V m d main_v1 : FVec Ideal S8192x1536 .bf16) (ix2 a ⟨1024 + (256 * (t.val / 4) + b.val), by have := point_lt t; omega⟩) := by
  blk_point [iblk, idx t]
  all_goals omega
theorem blk_b (t : Fin cfg0.N) (a : Fin 960) (p : Fin 256) : (iblk m d 3 t : FVec Ideal S1x960x256 .f32) (ix3 (0 : Fin 1) a p)
    = (V m d main_v37 : FVec Ideal S2x960x256 .f32) (ix3 ⟨t.val / 4, by have := point_lt t; omega⟩ a p) := by
  blk_point [iblk, idx t]

/-- What the body reads at a point. -/
def ins (m : (ℓ : Loc nD τ sig) → Buf (Elt Ideal) ℓ) (d : Dev nD) (t : Fin cfg0.N) : Ins := ⟨iblk m d 0 t, iblk m d 1 t, iblk m d 2 t, iblk m d 3 t⟩

theorem rd_q (t : Fin cfg0.N) (a : Fin 2048) (b : Fin 256) : (iblk m d 0 t : FVec Ideal S2048x256 .bf16) (ix2 a b) = at2 (aq m d) (2048 * (t.val % 4) + a.val) (256 * (t.val / 4) + b.val) := by
  have := point_lt t
  exact (blk_q t a b).trans ((v1_q m d _ _ (by show 256 * (t.val / 4) + b.val < 512; omega)).trans (at2_eq (aq m d) _ _))
theorem rd_k (t : Fin cfg0.N) (a : Fin 8192) (b : Fin 256) : (iblk m d 1 t : FVec Ideal S8192x256 .bf16) (ix2 a b) = at2 (ak m d) a.val (256 * (t.val / 4) + b.val) := by
  have := point_lt t
  refine (blk_k t a b).trans ((v1_k m d _ _ (by show 512 ≤ 512 + (256 * (t.val / 4) + b.val); omega) (by show 512 + (256 * (t.val / 4) + b.val) < 1024; omega)).trans ((at2_eq (ak m d) _ _).trans ?_))
  exact congrArg (fun n : ℕ => at2 (ak m d) a.val n) (Nat.add_sub_cancel_left ..)
theorem rd_v (t : Fin cfg0.N) (a : Fin 8192) (b : Fin 256) : (iblk m d 2 t : FVec Ideal S8192x256 .bf16) (ix2 a b) = at2 (av m d) a.val (256 * (t.val / 4) + b.val) := by
  have := point_lt t
  refine (blk_v t a b).trans ((v1_v m d _ _ (by show 1024 ≤ 1024 + (256 * (t.val / 4) + b.val); omega)).trans ((at2_eq (av m d) _ _).trans ?_))
  exact congrArg (fun n : ℕ => at2 (av m d) a.val n) (Nat.add_sub_cancel_left ..)
theorem rd_b (t : Fin cfg0.N) (a : Fin 960) (p : Fin 256) : (iblk m d 3 t : FVec Ideal S1x960x256 .f32) (ix3 (0 : Fin 1) a p)
    = (if valid (p.val % 64) (a.val % 64) then at4 (spread m d) (4 * (t.val / 4) + p.val / 64) (a.val / 64) (p.val % 64) (a.val % 64) else ⊥ : EReal) := by
  refine (blk_b t a p).trans ((v37_apply m d _ a p).trans ?_)
  exact if_congr Iff.rfl (at4_eq (spread m d) _ _ _ _) rfl

theorem ins_q (t : Fin cfg0.N) (a : Fin 2048) (b : Fin 256) : ((ins m d t).q (ix2 a b) : EReal) = (arr m d).q (2048 * (t.val % 4) + a.val) (256 * (t.val / 4) + b.val) := rd_q t a b
theorem ins_k (t : Fin cfg0.N) (a : Fin 8192) (b : Fin 256) : ((ins m d t).k (ix2 a b) : EReal) = (arr m d).k a.val (256 * (t.val / 4) + b.val) := rd_k t a b
theorem ins_v (t : Fin cfg0.N) (a : Fin 8192) (b : Fin 256) : ((ins m d t).v (ix2 a b) : EReal) = (arr m d).v a.val (256 * (t.val / 4) + b.val) := rd_v t a b
theorem ins_b (t : Fin cfg0.N) (a : Fin 960) (p : Fin 256) : (ins m d t).b (ix3 (0 : Fin 1) a p)
    = (if valid (p.val % 64) (a.val % 64) then (arr m d).t (4 * (t.val / 4) + p.val / 64) (a.val / 64) (p.val % 64) (a.val % 64) else ⊥ : EReal) := rd_b t a p

theorem holds (t : Fin cfg0.N) : Holds (arr m d) (t.val / 4) (t.val % 4) (ins m d t) :=
  Holds.mk (ins_q t) (ins_k t) (ins_v t) (ins_b t)

theorem outs_at (t : Fin cfg0.N) (a : Fin 2048) (b : Fin 256) : (outsAt0 m d t (ix2 a b) : EReal) = (arr m d).out (2048 * (t.val % 4) + a.val) (256 * (t.val / 4) + b.val) := by
  have h := holds (m := m) (d := d) t
  unfold ins at h
  unfold outsAt0
  generalize iblk m d 0 t = x0 at h ⊢
  generalize iblk m d 1 t = x1 at h ⊢
  generalize iblk m d 2 t = x2 at h ⊢
  generalize iblk m d 3 t = x3 at h ⊢
  exact point_at ⟨x0, x1, x2, x3⟩ t h d (ms0_0 t) (hs0_0 t) (ms0_1 t) (hs0_1 t) (ms0_2 t) (hs0_2 t) (ms0_3 t) (hs0_3 t) (ms0_4 t) (hs0_4 t) a b

/-- The result. -/
theorem final : (dats m 0 d).arrAt 4 (cfgs 0).N = res (arr m d) := by
  refine (dats m 0 d).arrAt_eq_of_covers 4 _ (by decide +kernel) fun t hf y => ?_
  blk_simp
  rw [after0_4]
  obtain ⟨a, b, rfl⟩ : ∃ (a : Fin 2048) (b : Fin 256), y = ix2 a b := ⟨y 0, y 1, (ix2_eta y).symm⟩
  have ey : ((View.whole main_v38).slice (win0_4.rect t)).emb (ix2 a b) = ix2 (⟨2048 * (t.val % 4) + a.val, by omega⟩ : Fin 8192) (⟨256 * (t.val / 4) + b.val, by have := point_lt t; omega⟩ : Fin 512) := by
    blk_ext [idx t]
    all_goals omega
  rw [ey]
  exact outs_at t a b

section
variable (σ : Valuation τ sig (Elt Ideal))

theorem seg0_off : StableHlo.after (hostOps0 (F := Ideal)) σ (Proc.devRef .tc main_v7) = (Cert.AttnReferenceIdeal.Read.val_main_v5 (F := Ideal) : IVec S64x64 32) := by rfl
theorem seg0_lo : StableHlo.after (hostOps0 (F := Ideal)) σ (Proc.devRef .tc main_c) = (constantI S_ 32 4294967281#32 : IVec S_ 32) := by rfl
theorem seg0_hi : StableHlo.after (hostOps0 (F := Ideal)) σ (Proc.devRef .tc main_c_0) = (constantI S_ 32 15#32 : IVec S_ 32) := by rfl
theorem seg1_table : StableHlo.after (hostOps0_1 (F := Ideal)) (StableHlo.after (hostOps0 (F := Ideal)) σ) (Proc.devRef .tc main_arg3) = σ (Proc.devRef .tc main_arg3) := by rfl
theorem seg1_clip : StableHlo.after (hostOps0_1 (F := Ideal)) σ (Proc.devRef .tc main_v8)
    = (minsi (broadcastInDim S64x64 ![] bcast_S_S64x64 (σ (Proc.devRef .tc main_c_0) : IVec S_ 32))
        (maxsi (broadcastInDim S64x64 ![] bcast_S_S64x64 (σ (Proc.devRef .tc main_c) : IVec S_ 32)) (σ (Proc.devRef .tc main_v7) : IVec S64x64 32)) : IVec S64x64 32) := by rfl
theorem seg2_spread : StableHlo.after (hostOps0_2 (F := Ideal)) σ (Proc.devRef .tc main_v17)
    = (Host.gather gather_S8x15x31_S64x64x1_S8x15x64x64_01_2_n_n_2_2_8151 (σ (Proc.devRef .tc main_arg3) : FVec Ideal S8x15x31 .f32)
        (Cert.Proof.words (σ (Proc.devRef .tc main_v8) : IVec S64x64 32)) : FVec Ideal S8x15x64x64 .f32) := by rfl
end

/-- The two programs spread the table alike. -/
theorem spread_eq (m : (ℓ : Loc nD τ sig) → Buf (Elt Ideal) ℓ) (d : Dev nD) : spread m d = Cert.AttnFwdReferenceIdeal.Read.val_main_v18 (F := Ideal) (at_ m d) := by
  unfold spread st3
  rw [seg2_spread, seg1_table, seg1_clip, seg0_off, seg0_lo, seg0_hi]
  rfl

theorem arr_eq (m : (ℓ : Loc nD τ sig) → Buf (Elt Ideal) ℓ) (d : Dev nD) : arr m d = Cert.AttnFwdReferenceIdeal.Ref.A (aq m d) (ak m d) (av m d) (at_ m d) := by
  show arrOf _ _ _ (spread m d) = arrOf _ _ _ _
  rw [spread_eq]

end Cert.AttnFwdKernelIdeal.Body

namespace Cert.Proof

open Idealize.ShloMosaic Idealize.ShloMosaic.TcCoe Idealize.SL.Sem

open Cert.AttnFwdKernelIdeal.Body in
theorem attn_fwd_algebraic : @Cert.algebraic_AttnFwdKernelIdeal_AttnFwdReferenceIdeal Cert.AttnFwdKernelIdeal.Gen.facts Cert.AttnFwdReferenceIdeal.Gen.facts := by
  intro m g m' g' _ hagree
  refine ⟨fun c => res (arr m c), ?_, ?_⟩
  · refine (θ_run _ _ _).mono (fun r h c => ?_) (Cert.AttnFwdKernelIdeal.Value.run_blocks m g)
    exact ⟨(h c).1.trans final, (h c).2⟩
  · refine (θ_run _ _ _).mono (fun r h c => ?_) (Cert.AttnFwdReferenceIdeal.Value.run (F := Ideal) m' g')
    obtain ⟨a0, a1, a2, a3⟩ := hagree c
    obtain ⟨e1, e2⟩ := h c
    replace e1 := e1.trans (Cert.AttnFwdReferenceIdeal.Read.val_main_v98_eq (F := Ideal) m' c)
    rw [a0, a1, a2, a3] at e1
    refine ⟨e1.trans ?_, e2⟩
    show _ = res (arr m c)
    rw [Cert.AttnFwdKernelIdeal.Body.arr_eq]
    funext i
    obtain ⟨a, b, rfl⟩ : ∃ (a : Fin 8192) (b : Fin 512), i = ix2 a b := ⟨i 0, i 1, (ix2_eta i).symm⟩
    exact Cert.AttnFwdReferenceIdeal.Ref.result_at a b

end Cert.Proof

end
-- ==== Proof.NormTile.lean ====
/-
  The normalisation's forward and backward passes on a tile of `n` rows, as the kernels spell them, read one row at a time.
-/
module

public import proofs.«01_k».proof.Proof.NormSpec
public import Idealize.ShloMosaic.Lib.Pipeline.ValueKit

@[expose] public section

set_option maxRecDepth 16384

noncomputable section

open Idealize.ShloMosaic Idealize.ShloMosaic.TcCoe
open NormSpec

namespace NormTile

variable {n : ℕ}

/-- A tile of `n` rows, a row of it, and a column. -/
abbrev Tile (n : ℕ) := FVec Ideal ⟨2, ![n, 1024]⟩ .f32
abbrev Line := FVec Ideal ⟨2, ![1, 1024]⟩ .f32
abbrev Col (n : ℕ) := FVec Ideal ⟨2, ![n, 1]⟩ .f32

/-- Row `r` of a tile is the real row `z`. -/
def Row (x : Tile n) (r : Fin n) (z : ℕ → ℝ) : Prop := ∀ k : Fin 1024, x (ix2 r k) = ((z k.val : ℝ) : EReal)

/-- A vector as a column, and a column spread over a tile's columns. -/
def colT (h : (⟨1, ![n]⟩ : Shape).ShapeCasts ⟨2, ![n, 1]⟩) (x : FVec Ideal ⟨1, ![n]⟩ .f32) : Col n := shapeCast ⟨2, ![n, 1]⟩ x h
def overT (h : (⟨2, ![n, 1]⟩ : Shape).Broadcasts ⟨2, ![n, 1024]⟩) (x : Col n) : Tile n := broadcastTo ⟨2, ![n, 1024]⟩ x h

/-- What the shapes of such a tile have to satisfy. -/
structure Facts (n : ℕ) : Prop where
  red : (⟨2, ![n, 1024]⟩ : Shape).Reduces [1] ⟨1, ![n]⟩
  red0 : (⟨2, ![n, 1024]⟩ : Shape).Reduces [0] ⟨1, ![1024]⟩
  col : (⟨1, ![n]⟩ : Shape).ShapeCasts ⟨2, ![n, 1]⟩
  line : (⟨1, ![1024]⟩ : Shape).ShapeCasts ⟨2, ![1, 1024]⟩
  same : (⟨2, ![n, 1024]⟩ : Shape).ShapeCasts ⟨2, ![n, 1024]⟩
  sameLine : (⟨2, ![1, 1024]⟩ : Shape).ShapeCasts ⟨2, ![1, 1024]⟩
  over : (⟨2, ![n, 1]⟩ : Shape).Broadcasts ⟨2, ![n, 1024]⟩
  down : (⟨2, ![1, 1024]⟩ : Shape).Broadcasts ⟨2, ![n, 1024]⟩
  colAt : ∀ (x : FVec Ideal ⟨1, ![n]⟩ .f32) (r : Fin n), colT col x (ix2 r (0 : Fin 1)) = x (ix1 r)
  overAt : ∀ (x : Col n) (r : Fin n) (k : Fin 1024), overT over x (ix2 r k) = x (ix2 r (0 : Fin 1))

variable (F : Facts n) {x y : Tile n} {r : Fin n} {z a : ℕ → ℝ} {g : Line} {gr : ℕ → ℝ}

/-- The mean of each row of a tile. -/
def meanT (x : Tile n) : Col n :=
  divf (colT F.col (multiReduction .add [1] ⟨1, ![n]⟩ x 0x00000000#32 F.red (.inl rfl) rfl)) (broadcast ⟨2, ![n, 1]⟩ (Scalar.ofBits (F := Ideal) .f32 0x44800000#32))

theorem meanT_at (h : Row x r z) : (meanT F x (ix2 r (0 : Fin 1)) : EReal) = ((mean z : ℝ) : EReal) := by
  pointwise [meanT]
  rw [F.colAt]
  pointwise
  rw [sum_coe _ (fun k : Fin 1024 => z k.val) h, word_1024, div_1024]; rfl

/-- Each row less its mean. -/
def cenT (x : Tile n) : Tile n := subf (shapeCast ⟨2, ![n, 1024]⟩ x F.same) (overT F.over (meanT F (shapeCast ⟨2, ![n, 1024]⟩ x F.same)))

theorem same_eq (x : Tile n) : shapeCast ⟨2, ![n, 1024]⟩ x F.same = x := by
  funext i
  obtain ⟨r, k, rfl⟩ : ∃ a b, i = ix2 (a : Fin n) (b : Fin 1024) := ⟨i 0, i 1, by funext i; fin_cases i <;> rfl⟩
  pointwise

theorem cenT_row (h : Row x r z) : Row (cenT F x) r (cen z) := fun k => by
  have hm := meanT_at F h
  unfold cenT
  rw [same_eq F]
  generalize meanT F x = m at hm ⊢
  pointwise
  rw [F.overAt, hm, h k, ← EReal.coe_sub]; rfl

/-- One over the root of each row's variance. -/
def rsT (x : Tile n) : Col n :=
  rsqrt (addf (meanT F (mulf (cenT F x) (cenT F x))) (broadcast ⟨2, ![n, 1]⟩ (Scalar.ofBits (F := Ideal) .f32 0x3727C5AC#32)))

theorem mul_row (hx : Row x r z) (hy : Row y r a) : Row (mulf x y) r (fun k => z k * a k) := fun k => by
  pointwise
  rw [hx k, hy k, EReal.coe_mul]

theorem rsT_at (h : Row x r z) : (rsT F x (ix2 r (0 : Fin 1)) : EReal) = ((rs z : ℝ) : EReal) := by
  have h5 := cenT_row F h
  have hm := meanT_at F (mul_row h5 h5)
  unfold rsT
  generalize meanT F _ = m at hm ⊢
  pointwise
  rw [hm, word_eps, ← EReal.coe_add]
  exact rsqrt_eq z

/-- Each row normalised. -/
def hatT (x : Tile n) : Tile n := mulf (cenT F x) (overT F.over (rsT F x))

theorem hatT_row (h : Row x r z) : Row (hatT F x) r (hat z) := fun k => by
  have h5 := cenT_row F h; have h6 := rsT_at F h
  unfold hatT
  generalize cenT F x = c at h5 ⊢
  generalize rsT F x = q at h6 ⊢
  pointwise
  rw [F.overAt, h5 k, h6, ← EReal.coe_mul]; rfl

/-- Each row times the scale. -/
def scaleT (y : Tile n) (g : Line) : Tile n := mulf y (broadcastTo ⟨2, ![n, 1024]⟩ (shapeCast ⟨2, ![1, 1024]⟩ g F.sameLine) F.down)

theorem scaleT_row (hy : Row y r a) (hg : ∀ k : Fin 1024, g (ix2 (0 : Fin 1) k) = ((gr k.val : ℝ) : EReal)) : Row (scaleT F y g) r (fun k => a k * gr k) := fun k => by
  pointwise [scaleT]
  rw [hy k, hg k, EReal.coe_mul]

/-- The gradient of each row. -/
def backT (x a : Tile n) : Tile n :=
  mulf (overT F.over (rsT F x)) (subf (subf a (overT F.over (meanT F a)))
    (mulf (hatT F x) (overT F.over (meanT F (mulf a (hatT F x))))))

theorem backT_row (h : Row x r z) (hy : Row y r a) : Row (backT F x y) r (back z a) := fun k => by
  have h7 := hatT_row F h; have h6 := rsT_at F h; have m1 := meanT_at F hy; have m2 := meanT_at F (mul_row hy h7)
  unfold backT
  generalize meanT F (mulf y _) = p at m2 ⊢
  generalize meanT F y = o at m1 ⊢
  generalize hatT F x = c at h7 ⊢
  generalize rsT F x = q at h6 ⊢
  pointwise
  rw [F.overAt, F.overAt, F.overAt, m1, m2, h6, hy k, h7 k]
  simp only [← EReal.coe_mul, ← EReal.coe_sub]
  rfl

/-- The sum of a tile's rows. -/
def sumT (x : Tile n) : Line := shapeCast ⟨2, ![1, 1024]⟩ (multiReduction .add [0] ⟨1, ![1024]⟩ x 0x00000000#32 F.red0 (.inl rfl) rfl) F.line

/-- A line with a tile's rows added, and with them added where a flag is one. -/
def addT (x : Tile n) (L : Line) : Line := addf (shapeCast ⟨2, ![1, 1024]⟩ L F.sameLine) (sumT F x)
def addIfT (f : Ideal .f32) (x : Tile n) (L : Line) : Line := addf (shapeCast ⟨2, ![1, 1024]⟩ L F.sameLine) (mulf (broadcast ⟨2, ![1, 1024]⟩ f) (sumT F x))

variable {X H : ℕ → ℕ → ℝ} {L : Line} {l : ℝ} {k : Fin 1024}

theorem addT_at (hx : ∀ r : Fin n, Row x r (X r.val)) (hl : L (ix2 (0 : Fin 1) k) = ((l : ℝ) : EReal)) :
    (addT F x L (ix2 (0 : Fin 1) k) : EReal) = ((l + ∑ r : Fin n, X r.val k.val : ℝ) : EReal) := by
  pointwise [addT, sumT]
  rw [sum_coe _ (fun r : Fin n => X r.val k.val) fun r => hx r k, hl, EReal.coe_add]

theorem addIfT_at (f : ℝ) (hx : ∀ r : Fin n, Row x r (X r.val)) (hl : L (ix2 (0 : Fin 1) k) = ((l : ℝ) : EReal)) :
    (addIfT F (f : EReal) x L (ix2 (0 : Fin 1) k) : EReal) = ((l + f * ∑ r : Fin n, X r.val k.val : ℝ) : EReal) := by
  pointwise [addIfT, sumT]
  rw [sum_coe _ (fun r : Fin n => X r.val k.val) fun r => hx r k, hl, EReal.coe_add, EReal.coe_mul]

/-- Whether the next tile is one of its own, as a kernel computes it: one before the last point, zero at it. -/
theorem flag_eq (t last : BitVec 32) (b : Bool) (h : (Scalar.extui (Scalar.cmpi .slt t last) : BitVec 32) = if b then 1#32 else 0#32) :
    (Scalar.sitofp FTy.f32 (Scalar.extui (Scalar.cmpi .slt t last) : BitVec 32) : Ideal .f32) = (((if b then 1 else 0 : ℝ) : ℝ) : EReal) := by
  rw [h]
  cases b
  · show (((0#32 : BitVec 32).toInt : ℝ) : EReal) = _; simp
  · show (((1#32 : BitVec 32).toInt : ℝ) : EReal) = _; simp

end NormTile

end
-- ==== Proof.NormFwd.lean ====
/-
  A normalised row, as the kernels write it on a tile of rows and as the reference writes it on the whole array: both
  are one function of the row, whatever the row holds.
-/
module

public import proofs.«01_k».proof.Proof.NormTile
public import proofs.«01_k».proof.Proof.NormHost

@[expose] public section

set_option maxRecDepth 16384

noncomputable section

open Idealize.ShloMosaic Idealize.ShloMosaic.TcCoe

namespace NormFwd

/-- The mean of a row, the row less it, the reciprocal root of the variance, the row normalised, scaled and shifted. -/
def mu (z : Fin 1024 → EReal) : EReal := Ideal.div (∑ k, z k) (Ideal.ofBits FTy.f32 0x44800000#32)
def cn (z : Fin 1024 → EReal) (k : Fin 1024) : EReal := z k - mu z
def rt (z : Fin 1024 → EReal) : EReal := Ideal.rsqrt (mu (fun k => cn z k * cn z k) + Ideal.ofBits FTy.f32 0x3727C5AC#32)
def norm (z : Fin 1024 → EReal) (g b : EReal) (k : Fin 1024) : EReal := cn z k * rt z * g + b

section Tile
open NormTile

variable {n : ℕ} (F : Facts n) {x : Tile n} {r : Fin n} {z : Fin 1024 → EReal}

/-- Row `r` of a tile is `z`. -/
def RowE (x : Tile n) (r : Fin n) (z : Fin 1024 → EReal) : Prop := ∀ k : Fin 1024, x (ix2 r k) = z k

theorem meanT_mu (h : RowE x r z) : meanT F x (ix2 r (0 : Fin 1)) = mu z := by
  pointwise [meanT]
  rw [F.colAt]
  pointwise
  unfold mu
  rw [Finset.sum_congr rfl fun k _ => h k]

def cenF (x : Tile n) : Tile n := subf x (overT F.over (meanT F x))

theorem cenF_cn (h : RowE x r z) : RowE (cenF F x) r (cn z) := fun k => by
  have hm := meanT_mu F h
  unfold cenF
  generalize meanT F x = m at hm ⊢
  pointwise
  rw [F.overAt, hm, h k]; rfl

def rootF (x : Tile n) : NormTile.Col n :=
  rsqrt (addf (meanT F (mulf (cenF F x) (cenF F x))) (broadcast ⟨2, ![n, 1]⟩ (Scalar.ofBits (F := Ideal) .f32 0x3727C5AC#32)))

theorem rootF_rt (h : RowE x r z) : rootF F x (ix2 r (0 : Fin 1)) = rt z := by
  have h5 := cenF_cn F h
  have hm := meanT_mu F (x := mulf (cenF F x) (cenF F x)) (r := r) (z := fun k => cn z k * cn z k) fun k => by
    generalize cenF F x = c at h5
    pointwise
    rw [h5 k]
  unfold rootF
  generalize meanT F _ = m at hm ⊢
  pointwise
  rw [hm]; rfl

/-- The rows of a tile, normalised, scaled and shifted. -/
def lnF (x : Tile n) (g b : Line) : Tile n :=
  addf (mulf (mulf (cenF F x) (overT F.over (rootF F x))) (broadcastTo ⟨2, ![n, 1024]⟩ g F.down)) (broadcastTo ⟨2, ![n, 1024]⟩ b F.down)

theorem lnF_at (h : RowE x r z) (g b : Line) (k : Fin 1024) : lnF F x g b (ix2 r k) = norm z (g (ix2 (0 : Fin 1) k)) (b (ix2 (0 : Fin 1) k)) k := by
  have h5 := cenF_cn F h; have h6 := rootF_rt F h
  unfold lnF
  generalize cenF F x = c at h5 ⊢
  generalize rootF F x = q at h6 ⊢
  pointwise
  rw [F.overAt, h5 k, h6]; rfl
end Tile

section Host
open NormHost Cert.MixoutReferenceIdeal Cert.MixoutReferenceIdeal.Gen

variable {x : Mat} {t : Fin 8192} {z : Fin 1024 → EReal}

def RowH (x : Mat) (t : Fin 8192) (z : Fin 1024 → EReal) : Prop := ∀ k : Fin 1024, x (ix2 t k) = z k

theorem meanH_mu (h : RowH x t z) : Host.divf (totalB x) (col 0x44800000#32) (ix2 t 0) = mu z := by
  have h1 : total x (ix1 t) = ∑ k, z k := by
    unfold total zero; pointwise
    exact Finset.sum_congr rfl fun k _ => h k
  unfold totalB col
  generalize total x = v at h1
  pointwise
  rw [h1]; rfl

theorem cenH_cn (h : RowH x t z) : RowH (cenH x) t (cn z) := fun k => by
  have hm := meanH_mu h
  unfold cenH wide
  generalize Host.divf (totalB x) (col 0x44800000#32) = m at hm ⊢
  pointwise
  rw [hm, h k]; rfl

theorem rsH_rt (h : RowH x t z) : rsH x (ix2 t 0) = rt z := by
  have h5 := cenH_cn h
  have hm := meanH_mu (x := mulf (cenH x) (cenH x)) (t := t) (z := fun k => cn z k * cn z k) fun k => by
    generalize cenH x = c at h5
    pointwise
    rw [h5 k]
  unfold rsH varH
  generalize Host.divf (totalB (mulf (cenH x) (cenH x))) (col 0x44800000#32) = m at hm ⊢
  unfold col
  pointwise
  rw [hm]; rfl

/-- The reference's normalised rows, scaled and shifted. -/
def lnF_host (x : Mat) (g b : FVec Ideal S1024 .f32) : Mat :=
  addf (mulf (hatH x) (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

theorem lnF_host_at (h : RowH x t z) (g b : FVec Ideal S1024 .f32) (k : Fin 1024) : lnF_host x g b (ix2 t k) = norm z (g (ix1 k)) (b (ix1 k)) k := by
  have h5 := cenH_cn h; have h6 := rsH_rt h
  unfold lnF_host hatH wide
  generalize cenH x = c at h5 ⊢
  generalize rsH x = q at h6 ⊢
  pointwise
  rw [h5 k, h6]; rfl
end Host

end NormFwd

end
-- ==== Proof.MixoutFwd.lean ====
/-
  The mixers' output block's forward kernel computes the block: the residual sum, and its rows normalised.
-/
module

public import proofs.«01_k».proof.Defs
public import proofs.«01_k».proof.Proof.NormFwd
public import proofs.«01_k».proof.Proof.FwdClaims
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open NormFwd

namespace MixoutFwdSpec

abbrev Mat := FVec Ideal ⟨2, ![8192, 1024]⟩ .f32
abbrev Sq := FVec Ideal ⟨2, ![1024, 1024]⟩ .f32
abbrev Vec1 := FVec Ideal ⟨1, ![1024]⟩ .f32

/-- The residual sum at row `a`, and the three results. -/
def sum (y x : Mat) (w : Sq) (a : Fin 8192) (k : Fin 1024) : EReal :=
  Ideal.ofBits FTy.f32 0x3FD744FD#32 * x (ix2 a k) + ∑ j : Fin 1024, y (ix2 a j) * w (ix2 j k)
def resZ (y x : Mat) (w : Sq) : FVec Ideal ⟨2, ![8192, 1024]⟩ .f32 := fun i => sum y x w (i 0) (i 1)
def resN (y x : Mat) (w : Sq) (g b : Vec1) : FVec Ideal ⟨2, ![8192, 1024]⟩ .f32 := fun i => norm (sum y x w (i 0)) (g (ix1 (i 1))) (b (ix1 (i 1))) (i 1)
def resB (y x : Mat) (w : Sq) (g b : Vec1) : FVec Ideal ⟨2, ![8192, 1024]⟩ .bf16 := fun i => norm (sum y x w (i 0)) (g (ix1 (i 1))) (b (ix1 (i 1))) (i 1)

/-- A sum over four quarters. -/
theorem quarters (n : ℕ) (f : Fin (4 * n) → EReal) :
    ∑ j, f j = ((∑ j : Fin n, f ⟨j.val, by omega⟩ + ∑ j : Fin n, f ⟨n + j.val, by omega⟩) + ∑ j : Fin n, f ⟨2 * n + j.val, by omega⟩) + ∑ j : Fin n, f ⟨3 * n + j.val, by omega⟩ := by
  rw [← @Fin.sum_mul_add_congr EReal inferInstance (4 * n) 4 n (fun s j => f ⟨s.val * n + j.val, by nlinarith [s.isLt, j.isLt, Nat.mul_le_mul_right n (show s.val ≤ 3 by omega)]⟩) f (fun _ _ _ => rfl) rfl]
  rw [Fin.sum_univ_four]
  have e : ∀ (s : Fin 4) (j : Fin n) (p : ℕ) (hp : p < 4 * n) (h), s.val * n + j.val = p → f ⟨s.val * n + j.val, h⟩ = f ⟨p, hp⟩ := fun s j p hp h q => by congr 1; exact Fin.ext q
  refine congrArg₂ _ (congrArg₂ _ (congrArg₂ _ ?_ ?_) ?_) ?_
  all_goals exact Finset.sum_congr rfl fun j _ => e _ j _ _ _ (by simp)

end MixoutFwdSpec

open MixoutFwdSpec

namespace Cert.MixoutFwdKernelIdeal.Proofs

open Cert.MixoutFwdKernelIdeal Cert.MixoutFwdKernelIdeal.Gen

section
variable (σ : Valuation τ sig (Elt Ideal))
theorem seg0_w : StableHlo.after (hostOps0 (F := Ideal)) σ (Proc.devRef .tc main_v1) = (shapeCast S4x256x1024 (truncf .bf16 (σ (Proc.devRef .tc main_arg2) : FVec Ideal S1024x1024 .f32) bitsLt_bf16_f32) shapeCasts_S1024x1024_S4x256x1024 : FVec Ideal S4x256x1024 .bf16) := by rfl
theorem seg0_a : StableHlo.after (hostOps0 (F := Ideal)) σ (Proc.devRef .tc main_v3) = (extractStridedSlice S8192x512 ![0, 0] (truncf .bf16 (σ (Proc.devRef .tc main_arg0) : FVec Ideal S8192x1024 .f32) bitsLt_bf16_f32) slices_S8192x1024_S8192x512_0_0 : FVec Ideal S8192x512 .bf16) := by rfl
theorem seg0_b : StableHlo.after (hostOps0 (F := Ideal)) σ (Proc.devRef .tc main_v4) = (extractStridedSlice S8192x512 ![0, 512] (truncf .bf16 (σ (Proc.devRef .tc main_arg0) : FVec Ideal S8192x1024 .f32) bitsLt_bf16_f32) slices_S8192x1024_S8192x512_0_512 : FVec Ideal S8192x512 .bf16) := by rfl
theorem seg0_x : StableHlo.after (hostOps0 (F := Ideal)) σ (Proc.devRef .tc main_arg1) = σ (Proc.devRef .tc main_arg1) := by rfl
theorem seg0_g : StableHlo.after (hostOps0 (F := Ideal)) σ (Proc.devRef .tc main_v5) = (broadcastInDim S1x1024 ![1] bcast_S1024_S1x1024_1 (σ (Proc.devRef .tc main_arg3) : FVec Ideal S1024 .f32) : FVec Ideal S1x1024 .f32) := by rfl
theorem seg0_s : StableHlo.after (hostOps0 (F := Ideal)) σ (Proc.devRef .tc main_v6) = (broadcastInDim S1x1024 ![1] bcast_S1024_S1x1024_1 (σ (Proc.devRef .tc main_arg4) : FVec Ideal S1024 .f32) : FVec Ideal S1x1024 .f32) := by rfl
end

/-- The tiles of 512 rows. -/
theorem tile : NormTile.Facts 512 where
  red := reduces_S512x1024_S512
  red0 := by decide
  col := shapeCasts_S512_S512x1
  line := by decide
  same := by decide
  sameLine := shapeCasts_S1x1024_S1x1024
  over := broadcasts_S512x1_S512x1024
  down := broadcasts_S1x1024_S512x1024
  colAt := fun x r => by pointwise [NormTile.colT]
  overAt := fun x r k => by pointwise [NormTile.overT]

theorem pay1_eq (x : FVec Ideal S512x1024 .f32) (g b : FVec Ideal S1x1024 .f32) : k0_pay1 (F := Ideal) x g b = lnF tile x g (shapeCast S1x1024 b shapeCasts_S1x1024_S1x1024) := rfl

/-- The residual sum of a row, from its quarters. -/
theorem pay3_at (y0 y1 y2 y3 : FVec Ideal S512x256 .bf16) (w0 w1 w2 w3 : FVec Ideal S1x256x1024 .bf16) (x : FVec Ideal S512x1024 .f32) (r : Fin 512) (k : Fin 1024) :
    k0_pay3 (F := Ideal) y0 w0 y1 w1 y2 w2 y3 w3 x (ix2 r k) = Ideal.ofBits FTy.f32 0x3FD744FD#32 * x (ix2 r k)
      + (((∑ j : Fin 256, y0 (ix2 r j) * w0 (ix3 (0 : Fin 1) j k) + ∑ j : Fin 256, y1 (ix2 r j) * w1 (ix3 (0 : Fin 1) j k)) + ∑ j : Fin 256, y2 (ix2 r j) * w2 (ix3 (0 : Fin 1) j k)) + ∑ j : Fin 256, y3 (ix2 r j) * w3 (ix3 (0 : Fin 1) j k)) := by
  unfold k0_pay3
  pointwise

variable {m : (ℓ : Loc nD τ sig) → Buf (Elt Ideal) ℓ} {d : Dev nD}

abbrev arg0 : FVec Ideal S8192x1024 .f32 := m ((d.tc : Thread nD τ).loc main_arg0)
abbrev arg1 : FVec Ideal S8192x1024 .f32 := m ((d.tc : Thread nD τ).loc main_arg1)
abbrev arg2 : FVec Ideal S1024x1024 .f32 := m ((d.tc : Thread nD τ).loc main_arg2)
abbrev arg3 : FVec Ideal S1024 .f32 := m ((d.tc : Thread nD τ).loc main_arg3)
abbrev arg4 : FVec Ideal S1024 .f32 := m ((d.tc : Thread nD τ).loc main_arg4)

theorem idx : ∀ t : Fin cfg0.N, win0_0.index t = ![t.val, 0] ∧ win0_1.index t = ![t.val, 0] ∧ win0_2.index t = ![t.val, 0] ∧ win0_3.index t = ![0, 0, 0]
    ∧ win0_4.index t = ![0, 0] ∧ win0_5.index t = ![0, 0] ∧ win0_6.index t = ![t.val, 0] ∧ win0_7.index t = ![t.val, 0] ∧ win0_8.index t = ![t.val, 0] := by decide +kernel
theorem point_lt (t : Fin cfg0.N) : t.val < 16 := t.isLt

/-- Row `r` of tile `t`. -/
abbrev row (t : Fin cfg0.N) (r : Fin 512) : Fin 8192 := ⟨512 * t.val + r.val, by have := point_lt t; omega⟩

theorem blk0 (t : Fin cfg0.N) (r j : Fin 512) : (iblk m d 0 t : Vec Ideal S512x512 .bf16) (ix2 r j) = arg0 (m := m) (d := d) (ix2 (row t r) (⟨j.val, by omega⟩ : Fin 1024)) := by
  have e : (V m d main_v3 : FVec Ideal S8192x512 .bf16) (ix2 (row t r) j) = arg0 (m := m) (d := d) (ix2 (row t r) (⟨j.val, by omega⟩ : Fin 1024)) := by
    unfold V; rw [seg0_a]; pointwise
  rw [← e]; blk_point [iblk, idx t]
theorem blk1 (t : Fin cfg0.N) (r j : Fin 512) : (iblk m d 1 t : Vec Ideal S512x512 .bf16) (ix2 r j) = arg0 (m := m) (d := d) (ix2 (row t r) (⟨512 + j.val, by omega⟩ : Fin 1024)) := by
  have e : (V m d main_v4 : FVec Ideal S8192x512 .bf16) (ix2 (row t r) j) = arg0 (m := m) (d := d) (ix2 (row t r) (⟨512 + j.val, by omega⟩ : Fin 1024)) := by
    unfold V; rw [seg0_b]; pointwise
  rw [← e]; blk_point [iblk, idx t]
theorem blk2 (t : Fin cfg0.N) (r : Fin 512) (k : Fin 1024) : (iblk m d 2 t : Vec Ideal S512x1024 .f32) (ix2 r k) = arg1 (m := m) (d := d) (ix2 (row t r) k) := by
  have e : (V m d main_arg1 : FVec Ideal S8192x1024 .f32) = arg1 (m := m) (d := d) := by unfold V; exact seg0_x _
  rw [← e]; blk_point [iblk, idx t]
theorem blk3 (t : Fin cfg0.N) (q : Fin 4) (j : Fin 256) (k : Fin 1024) : (iblk m d 3 t : Vec Ideal S4x256x1024 .bf16) (ix3 q j k) = arg2 (m := m) (d := d) (ix2 (⟨q.val * 256 + j.val, by omega⟩ : Fin 1024) k) := by
  have e : (V m d main_v1 : FVec Ideal S4x256x1024 .bf16) (ix3 q j k) = arg2 (m := m) (d := d) (ix2 (⟨q.val * 256 + j.val, by omega⟩ : Fin 1024) k) := by
    unfold V; rw [seg0_w]; pointwise
  rw [← e]; blk_point [iblk, idx t]
theorem blk4 (t : Fin cfg0.N) (k : Fin 1024) : (iblk m d 4 t : Vec Ideal S1x1024 .f32) (ix2 (0 : Fin 1) k) = arg3 (m := m) (d := d) (ix1 k) := by
  have e : (V m d main_v5 : FVec Ideal S1x1024 .f32) (ix2 (0 : Fin 1) k) = arg3 (m := m) (d := d) (ix1 k) := by
    unfold V; rw [seg0_g]; pointwise
  rw [← e]; blk_point [iblk, idx t]
theorem blk5 (t : Fin cfg0.N) (k : Fin 1024) : (iblk m d 5 t : Vec Ideal S1x1024 .f32) (ix2 (0 : Fin 1) k) = arg4 (m := m) (d := d) (ix1 k) := by
  have e : (V m d main_v6 : FVec Ideal S1x1024 .f32) (ix2 (0 : Fin 1) k) = arg4 (m := m) (d := d) (ix1 k) := by
    unfold V; rw [seg0_s]; pointwise
  rw [← e]; blk_point [iblk, idx t]

/-- The residual sum on a tile. -/
theorem sum_row (t : Fin cfg0.N) (r : Fin 512) :
    RowE (k0_pay5 (F := Ideal) (iblk m d 0 t) (iblk m d 1 t) (iblk m d 2 t) (iblk m d 3 t) (iblk m d 4 t) (iblk m d 5 t)) r (sum (arg0 (m := m) (d := d)) (arg1 (m := m) (d := d)) (arg2 (m := m) (d := d)) (row t r)) := fun k => by
  have h0 := fun j => blk0 (m := m) (d := d) t r j; have h1 := fun j => blk1 (m := m) (d := d) t r j
  have h2 := blk2 (m := m) (d := d) t r k; have h3 := fun q j => blk3 (m := m) (d := d) t q j k
  generalize (iblk m d 0 t : Vec Ideal S512x512 .bf16) = b0 at h0 ⊢
  generalize (iblk m d 1 t : Vec Ideal S512x512 .bf16) = b1 at h1 ⊢
  generalize (iblk m d 2 t : Vec Ideal S512x1024 .f32) = b2 at h2 ⊢
  generalize (iblk m d 3 t : Vec Ideal S4x256x1024 .bf16) = b3 at h3 ⊢
  unfold k0_pay5
  rw [pay3_at]
  unfold sum
  rw [quarters 256 fun j => arg0 (m := m) (d := d) (ix2 (row t r) j) * arg2 (m := m) (d := d) (ix2 j k)]
  pointwise
  rw [h2]
  refine congrArg _ (congrArg₂ _ (congrArg₂ _ (congrArg₂ _ ?_ ?_) ?_) ?_) <;> refine Finset.sum_congr rfl fun j _ => ?_
  · exact congrArg₂ _ ((h0 _).trans (by congr 1)) ((h3 0 j).trans (by congr 2; exact Fin.ext (by simp)))
  · exact congrArg₂ _ ((h0 _).trans (by congr 1)) ((h3 1 j).trans (by congr 2))
  · exact congrArg₂ _ ((h1 _).trans (by congr 1)) ((h3 2 j).trans (by congr 2))
  · exact congrArg₂ _ ((h1 _).trans (by congr 2; exact Fin.ext (by simp; omega))) ((h3 3 j).trans (by congr 2))

/-- The normalised rows of a tile. -/
theorem norm_at (t : Fin cfg0.N) (r : Fin 512) (k : Fin 1024) :
    k0_pay1 (F := Ideal) (k0_pay5 (F := Ideal) (iblk m d 0 t) (iblk m d 1 t) (iblk m d 2 t) (iblk m d 3 t) (iblk m d 4 t) (iblk m d 5 t))
      (k0_pay6 (F := Ideal) (iblk m d 0 t) (iblk m d 1 t) (iblk m d 2 t) (iblk m d 3 t) (iblk m d 4 t) (iblk m d 5 t)) (iblk m d 5 t) (ix2 r k)
      = norm (sum (arg0 (m := m) (d := d)) (arg1 (m := m) (d := d)) (arg2 (m := m) (d := d)) (row t r)) (arg3 (m := m) (d := d) (ix1 k)) (arg4 (m := m) (d := d) (ix1 k)) k := by
  rw [pay1_eq, lnF_at tile (sum_row t r), ← blk4 (m := m) (d := d) t k, ← blk5 (m := m) (d := d) t k]
  generalize (iblk m d 4 t : Vec Ideal S1x1024 .f32) = b4
  generalize (iblk m d 5 t : Vec Ideal S1x1024 .f32) = b5
  unfold k0_pay6 k0_pay4
  pointwise

def place (t : Fin cfg0.N) (y : S512x1024.Idx) : S8192x1024.Idx := ix2 (row t ⟨(y 0).val, (y 0).isLt⟩) (⟨(y 1).val, (y 1).isLt⟩ : Fin 1024)
theorem emb6 (t : Fin cfg0.N) (y : S512x1024.Idx) : ((View.whole main_v7_0).slice (win0_6.rect t)).emb y = place t y := by unfold place; blk_ext [idx t]
theorem emb7 (t : Fin cfg0.N) (y : S512x1024.Idx) : ((View.whole main_v7_1).slice (win0_7.rect t)).emb y = place t y := by unfold place; blk_ext [idx t]
theorem emb8 (t : Fin cfg0.N) (y : S512x1024.Idx) : ((View.whole main_v7_2).slice (win0_8.rect t)).emb y = place t y := by unfold place; blk_ext [idx t]

theorem finalN : (dats m 0 d).arrAt 6 (cfgs 0).N = resN (arg0 (m := m) (d := d)) (arg1 (m := m) (d := d)) (arg2 (m := m) (d := d)) (arg3 (m := m) (d := d)) (arg4 (m := m) (d := d)) := by
  refine (dats m 0 d).arrAt_eq_of_covers 6 _ (by decide +kernel) fun t hf y => ?_
  blk_simp
  rw [after0_6, emb6]
  unfold out0_6
  frame_out
  obtain ⟨r, k, rfl⟩ : ∃ a b, y = ix2 (a : Fin 512) (b : Fin 1024) := ⟨y 0, y 1, by funext i; fin_cases i <;> rfl⟩
  exact norm_at t r k
theorem finalB : (dats m 0 d).arrAt 7 (cfgs 0).N = resB (arg0 (m := m) (d := d)) (arg1 (m := m) (d := d)) (arg2 (m := m) (d := d)) (arg3 (m := m) (d := d)) (arg4 (m := m) (d := d)) := by
  refine (dats m 0 d).arrAt_eq_of_covers 7 _ (by decide +kernel) fun t hf y => ?_
  blk_simp
  rw [after0_7, emb7]
  unfold out0_7
  frame_out
  obtain ⟨r, k, rfl⟩ : ∃ a b, y = ix2 (a : Fin 512) (b : Fin 1024) := ⟨y 0, y 1, by funext i; fin_cases i <;> rfl⟩
  exact norm_at t r k
theorem finalZ : (dats m 0 d).arrAt 8 (cfgs 0).N = resZ (arg0 (m := m) (d := d)) (arg1 (m := m) (d := d)) (arg2 (m := m) (d := d)) := by
  refine (dats m 0 d).arrAt_eq_of_covers 8 _ (by decide +kernel) fun t hf y => ?_
  blk_simp
  rw [after0_8, emb8]
  unfold out0_8
  frame_out
  obtain ⟨r, k, rfl⟩ : ∃ a b, y = ix2 (a : Fin 512) (b : Fin 1024) := ⟨y 0, y 1, by funext i; fin_cases i <;> rfl⟩
  exact sum_row t r k

end Cert.MixoutFwdKernelIdeal.Proofs

namespace Cert.MixoutFwdReferenceIdeal.Ref

open Cert.MixoutFwdReferenceIdeal Cert.MixoutFwdReferenceIdeal.Gen Cert.MixoutFwdReferenceIdeal.Read

variable (y x : Mat) (w : Sq) (g b : Vec1)

theorem sum_row (a : Fin 8192) : RowH (val_main_v3 (F := Ideal) y x w) a (sum y x w a) := fun k => by
  unfold val_main_v3 val_main_v2 val_main_v1 val_main_v0 val_main_cst
  pointwise
  rfl

theorem v27_eq : val_main_v27 (F := Ideal) y x w g b = lnF_host (val_main_v3 (F := Ideal) y x w) g b := rfl
theorem v28_eq (i) : val_main_v28 (F := Ideal) y x w g b i = val_main_v27 (F := Ideal) y x w g b i := rfl

theorem resultZ : val_main_v3 (F := Ideal) y x w = resZ y x w := by
  funext i
  obtain ⟨r, k, rfl⟩ : ∃ a b, i = ix2 (a : Fin 8192) (b : Fin 1024) := ⟨i 0, i 1, by funext i; fin_cases i <;> rfl⟩
  exact sum_row y x w r k
theorem resultN : val_main_v27 (F := Ideal) y x w g b = resN y x w g b := by
  funext i
  obtain ⟨r, k, rfl⟩ : ∃ a b, i = ix2 (a : Fin 8192) (b : Fin 1024) := ⟨i 0, i 1, by funext i; fin_cases i <;> rfl⟩
  rw [v27_eq]
  exact lnF_host_at (sum_row y x w r) g b k
theorem resultB : val_main_v28 (F := Ideal) y x w g b = resB y x w g b := by
  funext i
  rw [v28_eq, resultN]
  rfl

end Cert.MixoutFwdReferenceIdeal.Ref

namespace Cert.Proof

open Cert.MixoutFwdKernelIdeal.Proofs Cert.MixoutFwdReferenceIdeal.Ref in
theorem mixout_fwd_algebraic : @Cert.algebraic_MixoutFwdKernelIdeal_MixoutFwdReferenceIdeal Cert.MixoutFwdKernelIdeal.Gen.facts Cert.MixoutFwdReferenceIdeal.Gen.facts := by
  intro m g m' g' _ hagree
  refine ⟨fun c => resN (arg0 (m := m) (d := c)) (arg1 (m := m) (d := c)) (arg2 (m := m) (d := c)) (arg3 (m := m) (d := c)) (arg4 (m := m) (d := c)),
    fun c => resB (arg0 (m := m) (d := c)) (arg1 (m := m) (d := c)) (arg2 (m := m) (d := c)) (arg3 (m := m) (d := c)) (arg4 (m := m) (d := c)),
    fun c => resZ (arg0 (m := m) (d := c)) (arg1 (m := m) (d := c)) (arg2 (m := m) (d := c)), ?_, ?_⟩
  · refine (θ_run _ _ _).mono (fun r h c => ?_) (Cert.MixoutFwdKernelIdeal.Value.run_blocks m g)
    exact ⟨(h c).1.trans finalN, (h c).2.1.trans finalB, (h c).2.2.1.trans finalZ, (h c).2.2.2⟩
  · refine (θ_run _ _ _).mono (fun r h c => ?_) (Cert.MixoutFwdReferenceIdeal.Value.run (F := Ideal) m' g')
    obtain ⟨a0, a1, a2, a3, a4⟩ := hagree c
    obtain ⟨e1, e2, e3, e4⟩ := h c
    replace e1 := e1.trans (Cert.MixoutFwdReferenceIdeal.Read.val_main_v27_eq (F := Ideal) _ _ _ _ _)
    replace e2 := e2.trans (Cert.MixoutFwdReferenceIdeal.Read.val_main_v28_eq (F := Ideal) _ _ _ _ _)
    replace e3 := e3.trans (Cert.MixoutFwdReferenceIdeal.Read.val_main_v3_eq (F := Ideal) _ _ _)
    rw [a0, a1, a2, a3, a4] at e1 e2
    rw [a0, a1, a2] at e3
    exact ⟨e1.trans (resultN _ _ _ _ _), e2.trans (resultB _ _ _ _ _), e3.trans (resultZ _ _ _), e4⟩

end Cert.Proof

end
-- ==== Proof.FfnFwd.lean ====
/-
  The feed-forward block's forward kernel computes the block: the two products that the backward pass needs, the residual
  sum, and its rows normalised.
-/
module

public import proofs.«01_k».proof.Defs
public import proofs.«01_k».proof.Proof.MixoutFwd

@[expose] public section

set_option maxRecDepth 16384

noncomputable section

open Idealize.ShloMosaic Idealize.ShloMosaic.TcCoe Idealize.SL.Sem
open Idealize.ShloMosaic.Pipeline (Dat)
open NormFwd

namespace FfnFwdSpec

abbrev Mat := FVec Ideal ⟨2, ![8192, 1024]⟩ .f32
abbrev Up := FVec Ideal ⟨2, ![1024, 2816]⟩ .f32
abbrev Down := FVec Ideal ⟨2, ![2816, 1024]⟩ .f32
abbrev Vec1 := FVec Ideal ⟨1, ![1024]⟩ .f32
abbrev Saved := FVec Ideal ⟨3, ![4, 8192, 704]⟩ .bf16

/-- A product's entry, the gated product, the residual sum at row `a`, and the five results. -/
def prodE (x : Mat) (w : Up) (a : Fin 8192) (j : Fin 2816) : EReal := ∑ k : Fin 1024, x (ix2 a k) * w (ix2 k j)
def actE (x : Mat) (wg wu : Up) (a : Fin 8192) (j : Fin 2816) : EReal := prodE x wg a j * Ideal.logistic (prodE x wg a j) * prodE x wu a j
def sum (x : Mat) (wg wu : Up) (wd : Down) (a : Fin 8192) (k : Fin 1024) : EReal :=
  Ideal.ofBits FTy.f32 0x3FD744FD#32 * x (ix2 a k) + Ideal.ofBits FTy.f32 0x3F000000#32 * ∑ j : Fin 2816, actE x wg wu a j * wd (ix2 j k)
def resZ (x : Mat) (wg wu : Up) (wd : Down) : FVec Ideal ⟨2, ![8192, 1024]⟩ .f32 := fun i => sum x wg wu wd (i 0) (i 1)
def resN (x : Mat) (wg wu : Up) (wd : Down) (g b : Vec1) : FVec Ideal ⟨2, ![8192, 1024]⟩ .f32 := fun i => norm (sum x wg wu wd (i 0)) (g (ix1 (i 1))) (b (ix1 (i 1))) (i 1)
def resB (x : Mat) (wg wu : Up) (wd : Down) (g b : Vec1) : FVec Ideal ⟨2, ![8192, 1024]⟩ .bf16 := fun i => norm (sum x wg wu wd (i 0)) (g (ix1 (i 1))) (b (ix1 (i 1))) (i 1)
/-- Column `c` of quarter `q`. -/
abbrev wideCol (q : Fin 4) (c : Fin 704) : Fin 2816 := ⟨q.val * 704 + c.val, by omega⟩
def resQ (x : Mat) (w : Up) : Saved := fun i => prodE x w (i 1) (wideCol (i 0) (i 2))

end FfnFwdSpec

open FfnFwdSpec

namespace Cert.FfnFwdKernelIdeal.Proofs

open Cert.FfnFwdKernelIdeal Cert.FfnFwdKernelIdeal.Gen

section
variable (σ : Valuation τ sig (Elt Ideal))
abbrev upB (w : FVec Ideal S1024x2816 .f32) : FVec Ideal S4x1024x704 .bf16 :=
  transpose S4x1024x704 [1, 0, 2] (shapeCast S1024x4x704 (truncf .bf16 w bitsLt_bf16_f32) shapeCasts_S1024x2816_S1024x4x704 : FVec Ideal S1024x4x704 .bf16) transposes_S1024x4x704_S4x1024x704_1_0_2
theorem seg0_x : StableHlo.after (hostOps0 (F := Ideal)) σ (Proc.devRef .tc main_arg0) = σ (Proc.devRef .tc main_arg0) := by rfl
theorem seg0_wg : StableHlo.after (hostOps0 (F := Ideal)) σ (Proc.devRef .tc main_v2) = upB (σ (Proc.devRef .tc main_arg1) : FVec Ideal S1024x2816 .f32) := by rfl
theorem seg0_wu : StableHlo.after (hostOps0 (F := Ideal)) σ (Proc.devRef .tc main_v5) = upB (σ (Proc.devRef .tc main_arg2) : FVec Ideal S1024x2816 .f32) := by rfl
theorem seg0_wd : StableHlo.after (hostOps0 (F := Ideal)) σ (Proc.devRef .tc main_v7) = (shapeCast S4x704x1024 (truncf .bf16 (σ (Proc.devRef .tc main_arg3) : FVec Ideal S2816x1024 .f32) bitsLt_bf16_f32) shapeCasts_S2816x1024_S4x704x1024 : FVec Ideal S4x704x1024 .bf16) := by rfl
theorem seg0_g : StableHlo.after (hostOps0 (F := Ideal)) σ (Proc.devRef .tc main_v8) = (broadcastInDim S1x1024 ![1] bcast_S1024_S1x1024_1 (σ (Proc.devRef .tc main_arg4) : FVec Ideal S1024 .f32) : FVec Ideal S1x1024 .f32) := by rfl
theorem seg0_s : StableHlo.after (hostOps0 (F := Ideal)) σ (Proc.devRef .tc main_v9) = (broadcastInDim S1x1024 ![1] bcast_S1024_S1x1024_1 (σ (Proc.devRef .tc main_arg5) : FVec Ideal S1024 .f32) : FVec Ideal S1x1024 .f32) := by rfl
end

abbrev tile : NormTile.Facts 512 := Cert.MixoutFwdKernelIdeal.Proofs.tile

/-- One quarter's step: the gated product of the two products, times a quarter of the last weights, added. -/
def step (acc : FVec Ideal S512x1024 .f32) (g u : FVec Ideal S512x704 .f32) (w : FVec Ideal S1x704x1024 .bf16) : FVec Ideal S512x1024 .f32 :=
  addf acc (matmul dot_S512x704_S704x1024_S512x1024_1_0_0_1_n_n none (truncf .bf16 (mulf (mulf g (logistic g)) u) bitsLt_bf16_f32)
    (shapeCast S704x1024 w shapeCasts_S1x704x1024_S704x1024 : FVec Ideal S704x1024 .bf16) (constant S512x1024 .f32 0x00000000#32))
/-- A product with a quarter of the first weights. -/
abbrev up (x : FVec Ideal S512x1024 .f32) (w : FVec Ideal S1x1024x704 .bf16) : FVec Ideal S512x704 .f32 := k0_pay5 (F := Ideal) x w
def zeroT : FVec Ideal S512x1024 .f32 := broadcast S512x1024 (Scalar.ofBits (F := Ideal) .f32 0x00000000#32)

theorem up_at (x : FVec Ideal S512x1024 .f32) (w : FVec Ideal S1x1024x704 .bf16) (r : Fin 512) (c : Fin 704) :
    up x w (ix2 r c) = ∑ k : Fin 1024, x (ix2 r k) * w (ix3 (0 : Fin 1) k c) := by
  unfold up k0_pay5 k0_pay4
  pointwise
theorem step_at (acc : FVec Ideal S512x1024 .f32) (g u : FVec Ideal S512x704 .f32) (w : FVec Ideal S1x704x1024 .bf16) (r : Fin 512) (k : Fin 1024) :
    step acc g u w (ix2 r k) = acc (ix2 r k) + ∑ c : Fin 704, g (ix2 r c) * Ideal.logistic (g (ix2 r c)) * u (ix2 r c) * w (ix3 (0 : Fin 1) c k) := by
  unfold step
  pointwise

/-- The four steps as the body writes them, the first three products' casts apart. -/
theorem steps_eq (x : FVec Ideal S512x1024 .f32) (g0 g1 g2 g3 u0 u1 u2 u3 : FVec Ideal S1x1024x704 .bf16) (w0 w1 w2 w3 : FVec Ideal S1x704x1024 .bf16) :
    k0_pay23 (F := Ideal) (k0_pay4 x) (k0_pay14 (k0_pay4 x) (k0_pay9 x g0 u0 w0) (k0_pay10 x g1) u1 w1) (k0_pay15 (k0_pay4 x) g2) (k0_pay16 (k0_pay4 x) u2) w2 g3 u3 w3
      = step (step (step (step zeroT (up x g0) (up x u0) w0) (up x g1) (up x u1) w1) (up x g2) (up x u2) w2) (up x g3) (up x u3) w3 := rfl

theorem pay2_eq (p q s : FVec Ideal S512x1024 .f32) (g b : FVec Ideal S1x1024 .f32) :
    k0_pay2 (F := Ideal) p q s g b = lnF tile (k0_pay1 (F := Ideal) p q s) (shapeCast S1x1024 g shapeCasts_S1x1024_S1x1024) (shapeCast S1x1024 b shapeCasts_S1x1024_S1x1024) := rfl

variable {m : (ℓ : Loc nD τ sig) → Buf (Elt Ideal) ℓ} {d : Dev nD}

abbrev arg0 : FVec Ideal S8192x1024 .f32 := m ((d.tc : Thread nD τ).loc main_arg0)
abbrev arg1 : FVec Ideal S1024x2816 .f32 := m ((d.tc : Thread nD τ).loc main_arg1)
abbrev arg2 : FVec Ideal S1024x2816 .f32 := m ((d.tc : Thread nD τ).loc main_arg2)
abbrev arg3 : FVec Ideal S2816x1024 .f32 := m ((d.tc : Thread nD τ).loc main_arg3)
abbrev arg4 : FVec Ideal S1024 .f32 := m ((d.tc : Thread nD τ).loc main_arg4)
abbrev arg5 : FVec Ideal S1024 .f32 := m ((d.tc : Thread nD τ).loc main_arg5)

theorem idx : ∀ t : Fin cfg0.N, win0_0.index t = ![t.val, 0] ∧ win0_1.index t = ![0, 0, 0] ∧ win0_2.index t = ![0, 0, 0] ∧ win0_3.index t = ![0, 0, 0]
    ∧ win0_4.index t = ![0, 0] ∧ win0_5.index t = ![0, 0] ∧ win0_6.index t = ![t.val, 0] ∧ win0_7.index t = ![t.val, 0] ∧ win0_8.index t = ![t.val, 0]
    ∧ win0_9.index t = ![0, t.val, 0] ∧ win0_10.index t = ![0, t.val, 0] := by decide +kernel
theorem point_lt (t : Fin cfg0.N) : t.val < 16 := t.isLt

/-- Row `r` of tile `t`. -/
abbrev row (t : Fin cfg0.N) (r : Fin 512) : Fin 8192 := ⟨512 * t.val + r.val, by have := point_lt t; omega⟩

theorem upB_at (w : FVec Ideal S1024x2816 .f32) (q : Fin 4) (k : Fin 1024) (c : Fin 704) : upB w (ix3 q k c) = w (ix2 k (wideCol q c)) := by
  unfold upB
  pointwise

theorem blk0 (t : Fin cfg0.N) (r : Fin 512) (k : Fin 1024) : (iblk m d 0 t : Vec Ideal S512x1024 .f32) (ix2 r k) = arg0 (m := m) (d := d) (ix2 (row t r) k) := by
  have e : (V m d main_arg0 : FVec Ideal S8192x1024 .f32) = arg0 (m := m) (d := d) := by unfold V; exact seg0_x _
  rw [← e]; blk_point [iblk, idx t]
theorem blk1 (t : Fin cfg0.N) (q : Fin 4) (k : Fin 1024) (c : Fin 704) : (iblk m d 1 t : Vec Ideal S4x1024x704 .bf16) (ix3 q k c) = arg1 (m := m) (d := d) (ix2 k (wideCol q c)) := by
  have e : (V m d main_v2 : FVec Ideal S4x1024x704 .bf16) (ix3 q k c) = arg1 (m := m) (d := d) (ix2 k (wideCol q c)) := by unfold V; rw [seg0_wg]; exact upB_at _ q k c
  rw [← e]; blk_point [iblk, idx t]
theorem blk2 (t : Fin cfg0.N) (q : Fin 4) (k : Fin 1024) (c : Fin 704) : (iblk m d 2 t : Vec Ideal S4x1024x704 .bf16) (ix3 q k c) = arg2 (m := m) (d := d) (ix2 k (wideCol q c)) := by
  have e : (V m d main_v5 : FVec Ideal S4x1024x704 .bf16) (ix3 q k c) = arg2 (m := m) (d := d) (ix2 k (wideCol q c)) := by unfold V; rw [seg0_wu]; exact upB_at _ q k c
  rw [← e]; blk_point [iblk, idx t]
theorem blk3 (t : Fin cfg0.N) (q : Fin 4) (c : Fin 704) (k : Fin 1024) : (iblk m d 3 t : Vec Ideal S4x704x1024 .bf16) (ix3 q c k) = arg3 (m := m) (d := d) (ix2 (wideCol q c) k) := by
  have e : (V m d main_v7 : FVec Ideal S4x704x1024 .bf16) (ix3 q c k) = arg3 (m := m) (d := d) (ix2 (wideCol q c) k) := by
    unfold V; rw [seg0_wd]; pointwise
  rw [← e]; blk_point [iblk, idx t]
theorem blk4 (t : Fin cfg0.N) (k : Fin 1024) : (iblk m d 4 t : Vec Ideal S1x1024 .f32) (ix2 (0 : Fin 1) k) = arg4 (m := m) (d := d) (ix1 k) := by
  have e : (V m d main_v8 : FVec Ideal S1x1024 .f32) (ix2 (0 : Fin 1) k) = arg4 (m := m) (d := d) (ix1 k) := by
    unfold V; rw [seg0_g]; pointwise
  rw [← e]; blk_point [iblk, idx t]
theorem blk5 (t : Fin cfg0.N) (k : Fin 1024) : (iblk m d 5 t : Vec Ideal S1x1024 .f32) (ix2 (0 : Fin 1) k) = arg5 (m := m) (d := d) (ix1 k) := by
  have e : (V m d main_v9 : FVec Ideal S1x1024 .f32) (ix2 (0 : Fin 1) k) = arg5 (m := m) (d := d) (ix1 k) := by
    unfold V; rw [seg0_s]; pointwise
  rw [← e]; blk_point [iblk, idx t]

/-- A load of one of four blocks. -/
theorem ld_block {a b : ℕ} (X : FVec Ideal ⟨3, ![4, a, b]⟩ .bf16) (q : Fin 4) (p : ℕ) (hp : p = q.val) (i : Fin a) (j : Fin b) (inb) :
    View.ld (Val := Elt Ideal) (e' := .bf16) (S := ⟨3, ![4, a, b]⟩) X (Rect.unit ![p, 0, 0] ![1, a, b] inb) (ix3 (0 : Fin 1) i j) = X (ix3 q i j) := by
  subst hp
  refine congrArg X (funext fun x => ?_)
  fin_cases x <;> refine Fin.ext ?_ <;> simp

/-- The first two products on a tile. -/
theorem gate_at (t : Fin cfg0.N) (q : Fin 4) (p : ℕ) (hp : p = q.val) (r : Fin 512) (c : Fin 704) (inb) :
    up (iblk m d 0 t) (View.ld (Val := Elt Ideal) (e' := .bf16) (S := S4x1024x704) (iblk m d 1 t) (Rect.unit ![p, 0, 0] ![1, 1024, 704] inb)) (ix2 r c)
      = prodE (arg0 (m := m) (d := d)) (arg1 (m := m) (d := d)) (row t r) (wideCol q c) := by
  rw [up_at]
  exact Finset.sum_congr rfl fun k _ => congrArg₂ _ (blk0 t r k) ((ld_block _ q p hp k c inb).trans (blk1 t q k c))
theorem other_at (t : Fin cfg0.N) (q : Fin 4) (p : ℕ) (hp : p = q.val) (r : Fin 512) (c : Fin 704) (inb) :
    up (iblk m d 0 t) (View.ld (Val := Elt Ideal) (e' := .bf16) (S := S4x1024x704) (iblk m d 2 t) (Rect.unit ![p, 0, 0] ![1, 1024, 704] inb)) (ix2 r c)
      = prodE (arg0 (m := m) (d := d)) (arg2 (m := m) (d := d)) (row t r) (wideCol q c) := by
  rw [up_at]
  exact Finset.sum_congr rfl fun k _ => congrArg₂ _ (blk0 t r k) ((ld_block _ q p hp k c inb).trans (blk2 t q k c))

/-- One step on a tile. -/
theorem quarter_at (t : Fin cfg0.N) (q : Fin 4) (p : ℕ) (hp : p = q.val) (r : Fin 512) (k : Fin 1024) (acc : FVec Ideal S512x1024 .f32) (i1 i2 i3) :
    step acc (up (iblk m d 0 t) (View.ld (Val := Elt Ideal) (e' := .bf16) (S := S4x1024x704) (iblk m d 1 t) (Rect.unit ![p, 0, 0] ![1, 1024, 704] i1)))
      (up (iblk m d 0 t) (View.ld (Val := Elt Ideal) (e' := .bf16) (S := S4x1024x704) (iblk m d 2 t) (Rect.unit ![p, 0, 0] ![1, 1024, 704] i2)))
      (View.ld (Val := Elt Ideal) (e' := .bf16) (S := S4x704x1024) (iblk m d 3 t) (Rect.unit ![p, 0, 0] ![1, 704, 1024] i3)) (ix2 r k)
      = acc (ix2 r k) + ∑ c : Fin 704, actE (arg0 (m := m) (d := d)) (arg1 (m := m) (d := d)) (arg2 (m := m) (d := d)) (row t r) (wideCol q c) * arg3 (m := m) (d := d) (ix2 (wideCol q c) k) := by
  rw [step_at]
  refine congrArg _ (Finset.sum_congr rfl fun c _ => ?_)
  rw [gate_at t q p hp r c i1, other_at t q p hp r c i2]
  exact congrArg _ ((ld_block _ q p hp c k i3).trans (blk3 t q c k))

abbrev acc4 (m : (ℓ : Loc nD τ sig) → Buf (Elt Ideal) ℓ) (d : Dev nD) (t : Fin cfg0.N) : FVec Ideal S512x1024 .f32 :=
  k0_pay28 (F := Ideal) (iblk m d 0 t) (iblk m d 1 t) (iblk m d 2 t) (iblk m d 3 t) (iblk m d 4 t) (iblk m d 5 t)

theorem ld_whole (X : FVec Ideal S512x1024 .f32) : View.ld (Val := Elt Ideal) (e' := .f32) (S := S512x1024) X r0_0 = X := by
  funext i
  obtain ⟨r, k, rfl⟩ : ∃ a b, i = ix2 (a : Fin 512) (b : Fin 1024) := ⟨i 0, i 1, by funext i; fin_cases i <;> rfl⟩
  pointwise

/-- The last product's row. -/
theorem acc_at (t : Fin cfg0.N) (r : Fin 512) (k : Fin 1024) :
    acc4 m d t (ix2 r k) = ∑ j : Fin 2816, actE (arg0 (m := m) (d := d)) (arg1 (m := m) (d := d)) (arg2 (m := m) (d := d)) (row t r) j * arg3 (m := m) (d := d) (ix2 j k) := by
  unfold acc4 k0_pay28 k0_pay26 k0_pay27
  rw [ld_whole, steps_eq]
  refine (quarter_at t 3 3 rfl r k _ _ _ _).trans ?_
  rw [quarter_at t 2 2 rfl r k _ _ _ _, quarter_at t 1 1 rfl r k _ _ _ _, quarter_at t 0 0 rfl r k _ _ _ _]
  have hz : zeroT (ix2 r k) = 0 := by unfold zeroT; pointwise
  rw [hz, zero_add]
  refine Eq.trans ?_ (MixoutFwdSpec.quarters 704 fun j => actE (arg0 (m := m) (d := d)) (arg1 (m := m) (d := d)) (arg2 (m := m) (d := d)) (row t r) j * arg3 (m := m) (d := d) (ix2 j k)).symm
  have e : ∀ (q : Fin 4) (j : Fin 704) (p : Fin 2816), q.val * 704 + j.val = p.val → wideCol q j = p := fun q j p h => Fin.ext h
  refine congrArg₂ _ (congrArg₂ _ (congrArg₂ _ ?_ ?_) ?_) ?_ <;> refine Finset.sum_congr rfl fun j _ => ?_
  · rw [e 0 j ⟨j.val, by omega⟩ (by simp)]
  · rw [e 1 j ⟨704 + j.val, by omega⟩ (by simp)]
  · rw [e 2 j ⟨2 * 704 + j.val, by omega⟩ (by simp)]
  · rw [e 3 j ⟨3 * 704 + j.val, by omega⟩ (by simp)]

/-- The residual sum on a tile. -/
theorem sum_row (t : Fin cfg0.N) (r : Fin 512) :
    RowE (k0_pay1 (F := Ideal) (acc4 m d t) (k0_pay29 (F := Ideal) (iblk m d 0 t) (iblk m d 1 t) (iblk m d 2 t) (iblk m d 3 t) (iblk m d 4 t) (iblk m d 5 t))
        (k0_pay30 (F := Ideal) (iblk m d 0 t) (iblk m d 1 t) (iblk m d 2 t) (iblk m d 3 t) (iblk m d 4 t) (iblk m d 5 t))) r
      (sum (arg0 (m := m) (d := d)) (arg1 (m := m) (d := d)) (arg2 (m := m) (d := d)) (arg3 (m := m) (d := d)) (row t r)) := fun k => by
  have h0 := blk0 (m := m) (d := d) t r k; have h1 := acc_at (m := m) (d := d) t r k
  unfold k0_pay29 k0_pay30
  rw [ld_whole]
  generalize acc4 m d t = a at h1 ⊢
  generalize (iblk m d 0 t : Vec Ideal S512x1024 .f32) = b0 at h0 ⊢
  unfold k0_pay1 k0_pay24 k0_pay25
  pointwise
  rw [h0, h1]
  rfl

/-- The normalised rows of a tile. -/
theorem norm_at (t : Fin cfg0.N) (r : Fin 512) (k : Fin 1024) :
    k0_pay2 (F := Ideal) (acc4 m d t) (k0_pay29 (F := Ideal) (iblk m d 0 t) (iblk m d 1 t) (iblk m d 2 t) (iblk m d 3 t) (iblk m d 4 t) (iblk m d 5 t))
      (k0_pay30 (F := Ideal) (iblk m d 0 t) (iblk m d 1 t) (iblk m d 2 t) (iblk m d 3 t) (iblk m d 4 t) (iblk m d 5 t)) (iblk m d 4 t) (iblk m d 5 t) (ix2 r k)
      = norm (sum (arg0 (m := m) (d := d)) (arg1 (m := m) (d := d)) (arg2 (m := m) (d := d)) (arg3 (m := m) (d := d)) (row t r)) (arg4 (m := m) (d := d) (ix1 k)) (arg5 (m := m) (d := d) (ix1 k)) k := by
  rw [pay2_eq, lnF_at tile (sum_row t r), ← blk4 (m := m) (d := d) t k, ← blk5 (m := m) (d := d) t k]
  generalize (iblk m d 4 t : Vec Ideal S1x1024 .f32) = b4
  generalize (iblk m d 5 t : Vec Ideal S1x1024 .f32) = b5
  pointwise

def place (t : Fin cfg0.N) (y : S512x1024.Idx) : S8192x1024.Idx := ix2 (row t ⟨(y 0).val, (y 0).isLt⟩) (⟨(y 1).val, (y 1).isLt⟩ : Fin 1024)
def placeQ (t : Fin cfg0.N) (y : S4x512x704.Idx) : S4x8192x704.Idx := ix3 (⟨(y 0).val, (y 0).isLt⟩ : Fin 4) (row t ⟨(y 1).val, (y 1).isLt⟩) (⟨(y 2).val, (y 2).isLt⟩ : Fin 704)
theorem emb6 (t : Fin cfg0.N) (y : S512x1024.Idx) : ((View.whole main_v10_0).slice (win0_6.rect t)).emb y = place t y := by unfold place; blk_ext [idx t]
theorem emb7 (t : Fin cfg0.N) (y : S512x1024.Idx) : ((View.whole main_v10_1).slice (win0_7.rect t)).emb y = place t y := by unfold place; blk_ext [idx t]
theorem emb8 (t : Fin cfg0.N) (y : S512x1024.Idx) : ((View.whole main_v10_2).slice (win0_8.rect t)).emb y = place t y := by unfold place; blk_ext [idx t]
theorem emb9 (t : Fin cfg0.N) (y : S4x512x704.Idx) : ((View.whole main_v10_3).slice (win0_9.rect t)).emb y = placeQ t y := by unfold placeQ; blk_ext [idx t]
theorem emb10 (t : Fin cfg0.N) (y : S4x512x704.Idx) : ((View.whole main_v10_4).slice (win0_10.rect t)).emb y = placeQ t y := by unfold placeQ; blk_ext [idx t]

theorem finalN : (dats m 0 d).arrAt 6 (cfgs 0).N
    = resN (arg0 (m := m) (d := d)) (arg1 (m := m) (d := d)) (arg2 (m := m) (d := d)) (arg3 (m := m) (d := d)) (arg4 (m := m) (d := d)) (arg5 (m := m) (d := d)) := by
  refine (dats m 0 d).arrAt_eq_of_covers 6 _ (by decide +kernel) fun t hf y => ?_
  blk_simp
  rw [after0_6, emb6]
  unfold out0_6
  frame_out
  obtain ⟨r, k, rfl⟩ : ∃ a b, y = ix2 (a : Fin 512) (b : Fin 1024) := ⟨y 0, y 1, by funext i; fin_cases i <;> rfl⟩
  exact norm_at t r k
theorem finalB : (dats m 0 d).arrAt 7 (cfgs 0).N
    = resB (arg0 (m := m) (d := d)) (arg1 (m := m) (d := d)) (arg2 (m := m) (d := d)) (arg3 (m := m) (d := d)) (arg4 (m := m) (d := d)) (arg5 (m := m) (d := d)) := by
  refine (dats m 0 d).arrAt_eq_of_covers 7 _ (by decide +kernel) fun t hf y => ?_
  blk_simp
  rw [after0_7, emb7]
  unfold out0_7
  frame_out
  obtain ⟨r, k, rfl⟩ : ∃ a b, y = ix2 (a : Fin 512) (b : Fin 1024) := ⟨y 0, y 1, by funext i; fin_cases i <;> rfl⟩
  exact norm_at t r k
theorem finalZ : (dats m 0 d).arrAt 8 (cfgs 0).N = resZ (arg0 (m := m) (d := d)) (arg1 (m := m) (d := d)) (arg2 (m := m) (d := d)) (arg3 (m := m) (d := d)) := by
  refine (dats m 0 d).arrAt_eq_of_covers 8 _ (by decide +kernel) fun t hf y => ?_
  blk_simp
  rw [after0_8, emb8]
  unfold out0_8
  frame_out
  obtain ⟨r, k, rfl⟩ : ∃ a b, y = ix2 (a : Fin 512) (b : Fin 1024) := ⟨y 0, y 1, by funext i; fin_cases i <;> rfl⟩
  exact sum_row t r k

/-- Four stored blocks. -/
theorem four (P3 P2 P1 P0 : FVec Ideal S1x512x704 .bf16) (f : S4x512x704.Idx → EReal)
    (h0 : ∀ a c, P0 (ix3 (0 : Fin 1) a c) = f (ix3 (0 : Fin 4) a c)) (h1 : ∀ a c, P1 (ix3 (0 : Fin 1) a c) = f (ix3 (1 : Fin 4) a c))
    (h2 : ∀ a c, P2 (ix3 (0 : Fin 1) a c) = f (ix3 (2 : Fin 4) a c)) (h3 : ∀ a c, P3 (ix3 (0 : Fin 1) a c) = f (ix3 (3 : Fin 4) a c)) (y : S4x512x704.Idx) :
    View.canon (Val := Elt Ideal) (e := .bf16) [⟨r0_11, P3⟩, ⟨r0_8, P2⟩, ⟨r0_5, P1⟩, ⟨r0_2, P0⟩] y = f y := by
  canon_tiles x hx
  all_goals obtain ⟨o, a, c, rfl⟩ : ∃ o a c, x = ix3 o a c := ⟨x 0, x 1, x 2, by funext i; fin_cases i <;> rfl⟩
  all_goals obtain rfl : o = 0 := Subsingleton.elim _ _
  · rw [h3]; blk_ext <;> first | exact hx0.symm | exact hx1.symm | exact hx2.symm
  · rw [h2]; blk_ext <;> first | exact hx0.symm | exact hx1.symm | exact hx2.symm
  · rw [h1]; blk_ext <;> first | exact hx0.symm | exact hx1.symm | exact hx2.symm
  · rw [h0]; blk_ext <;> first | exact hx0.symm | exact hx1.symm | exact hx2.symm

/-- A product as it is stored. -/
theorem stored_at (x : FVec Ideal S512x1024 .f32) (w : FVec Ideal S1x1024x704 .bf16) (r : Fin 512) (c : Fin 704) :
    k0_pay7 (F := Ideal) x w (ix3 (0 : Fin 1) r c) = up x w (ix2 r c) := by
  unfold k0_pay7 up
  generalize k0_pay5 (F := Ideal) x w = v
  pointwise

theorem finalG : (dats m 0 d).arrAt 9 (cfgs 0).N = resQ (arg0 (m := m) (d := d)) (arg1 (m := m) (d := d)) := by
  refine (dats m 0 d).arrAt_eq_of_covers 9 _ (by decide +kernel) fun t hf y => ?_
  blk_simp
  rw [after0_9, emb9]
  unfold out0_9 k0_pay26 k0_pay27
  rw [ld_whole]
  exact four (k0_pay7 (F := Ideal) (iblk m d 0 t) (View.ld (Val := Elt Ideal) (e' := .bf16) (S := S4x1024x704) (iblk m d 1 t) r0_10))
    (k0_pay7 (F := Ideal) (iblk m d 0 t) (View.ld (Val := Elt Ideal) (e' := .bf16) (S := S4x1024x704) (iblk m d 1 t) r0_7))
    (k0_pay7 (F := Ideal) (iblk m d 0 t) (View.ld (Val := Elt Ideal) (e' := .bf16) (S := S4x1024x704) (iblk m d 1 t) r0_4))
    (k0_pay7 (F := Ideal) (iblk m d 0 t) (View.ld (Val := Elt Ideal) (e' := .bf16) (S := S4x1024x704) (iblk m d 1 t) r0_1))
    (fun y => resQ (arg0 (m := m) (d := d)) (arg1 (m := m) (d := d)) (placeQ t y))
    (fun a c => (stored_at _ _ a c).trans (gate_at t 0 0 rfl a c _)) (fun a c => (stored_at _ _ a c).trans (gate_at t 1 1 rfl a c _))
    (fun a c => (stored_at _ _ a c).trans (gate_at t 2 2 rfl a c _)) (fun a c => (stored_at _ _ a c).trans (gate_at t 3 3 rfl a c _)) y
theorem finalU : (dats m 0 d).arrAt 10 (cfgs 0).N = resQ (arg0 (m := m) (d := d)) (arg2 (m := m) (d := d)) := by
  refine (dats m 0 d).arrAt_eq_of_covers 10 _ (by decide +kernel) fun t hf y => ?_
  blk_simp
  rw [after0_10, emb10]
  unfold out0_10 k0_pay26
  rw [ld_whole]
  exact four (k0_pay7 (F := Ideal) (iblk m d 0 t) (View.ld (Val := Elt Ideal) (e' := .bf16) (S := S4x1024x704) (iblk m d 2 t) r0_10))
    (k0_pay7 (F := Ideal) (iblk m d 0 t) (View.ld (Val := Elt Ideal) (e' := .bf16) (S := S4x1024x704) (iblk m d 2 t) r0_7))
    (k0_pay7 (F := Ideal) (iblk m d 0 t) (View.ld (Val := Elt Ideal) (e' := .bf16) (S := S4x1024x704) (iblk m d 2 t) r0_4))
    (k0_pay7 (F := Ideal) (iblk m d 0 t) (View.ld (Val := Elt Ideal) (e' := .bf16) (S := S4x1024x704) (iblk m d 2 t) r0_1))
    (fun y => resQ (arg0 (m := m) (d := d)) (arg2 (m := m) (d := d)) (placeQ t y))
    (fun a c => (stored_at _ _ a c).trans (other_at t 0 0 rfl a c _)) (fun a c => (stored_at _ _ a c).trans (other_at t 1 1 rfl a c _))
    (fun a c => (stored_at _ _ a c).trans (other_at t 2 2 rfl a c _)) (fun a c => (stored_at _ _ a c).trans (other_at t 3 3 rfl a c _)) y

end Cert.FfnFwdKernelIdeal.Proofs

namespace Cert.FfnFwdReferenceIdeal.Ref

open Cert.FfnFwdReferenceIdeal Cert.FfnFwdReferenceIdeal.Gen Cert.FfnFwdReferenceIdeal.Read

variable (x : Mat) (wg wu w : Up) (wd : Down) (g b : Vec1)

theorem v0_at (a : Fin 8192) (j : Fin 2816) : val_main_v0 (F := Ideal) x w (ix2 a j) = prodE x w a j := by
  unfold val_main_v0; pointwise; rfl
theorem v1_eq : val_main_v1 (F := Ideal) x w = val_main_v0 (F := Ideal) x w := rfl

/-- The gated product. -/
theorem act_at (a : Fin 8192) (j : Fin 2816) : val_main_v5 (F := Ideal) x wg wu (ix2 a j) = actE x wg wu a j := by
  have hg := v0_at x wg a j; have hu := v0_at x wu a j
  unfold val_main_v5 val_main_v4 val_main_call0_v5 val_main_call0_v4 val_main_call0_v3 val_main_call0_v2 val_main_call0_v1 val_main_call0_v0 val_main_call0_cst val_main_call0_cst_0
  rw [v1_eq]
  unfold actE
  rw [← hg, ← hu]
  generalize val_main_v0 (F := Ideal) x wg = v
  generalize val_main_v0 (F := Ideal) x wu = u
  pointwise
  rfl

theorem sum_row (a : Fin 8192) : RowH (val_main_v9 (F := Ideal) x wg wu wd) a (sum x wg wu wd a) := fun k => by
  have h := fun j => act_at x wg wu a j
  unfold val_main_v9 val_main_v8 val_main_v7 val_main_v6 val_main_v3 val_main_v2 val_main_cst val_main_cst_0
  generalize val_main_v5 (F := Ideal) x wg wu = v at h
  pointwise
  unfold sum
  rw [Finset.sum_congr rfl fun j _ => congrArg (· * wd (ix2 j k)) (h j)]

theorem v33_eq : val_main_v33 (F := Ideal) x wg wu wd g b = lnF_host (val_main_v9 (F := Ideal) x wg wu wd) g b := rfl
theorem v34_eq (i) : val_main_v34 (F := Ideal) x wg wu wd g b i = val_main_v33 (F := Ideal) x wg wu wd g b i := rfl

theorem resultZ : val_main_v9 (F := Ideal) x wg wu wd = resZ x wg wu wd := by
  funext i
  obtain ⟨r, k, rfl⟩ : ∃ a b, i = ix2 (a : Fin 8192) (b : Fin 1024) := ⟨i 0, i 1, by funext i; fin_cases i <;> rfl⟩
  exact sum_row x wg wu wd r k
theorem resultN : val_main_v33 (F := Ideal) x wg wu wd g b = resN x wg wu wd g b := by
  funext i
  obtain ⟨r, k, rfl⟩ : ∃ a b, i = ix2 (a : Fin 8192) (b : Fin 1024) := ⟨i 0, i 1, by funext i; fin_cases i <;> rfl⟩
  rw [v33_eq]
  exact lnF_host_at (sum_row x wg wu wd r) g b k
theorem resultB : val_main_v34 (F := Ideal) x wg wu wd g b = resB x wg wu wd g b := by
  funext i
  rw [v34_eq, resultN]
  rfl
theorem resultG : val_main_v37 (F := Ideal) x w = resQ x w := by
  funext i
  obtain ⟨q, r, c, rfl⟩ : ∃ a b c, i = ix3 (a : Fin 4) (b : Fin 8192) (c : Fin 704) := ⟨i 0, i 1, i 2, by funext i; fin_cases i <;> rfl⟩
  refine Eq.trans ?_ (v0_at x w r (wideCol q c))
  unfold val_main_v37 val_main_v36 val_main_v35
  generalize val_main_v0 (F := Ideal) x w = v
  pointwise
theorem resultU : val_main_v40 (F := Ideal) x w = resQ x w := resultG x w

end Cert.FfnFwdReferenceIdeal.Ref

namespace Cert.Proof

open Cert.FfnFwdKernelIdeal.Proofs Cert.FfnFwdReferenceIdeal.Ref in
theorem ffn_fwd_algebraic : @Cert.algebraic_FfnFwdKernelIdeal_FfnFwdReferenceIdeal Cert.FfnFwdKernelIdeal.Gen.facts Cert.FfnFwdReferenceIdeal.Gen.facts := by
  intro m g m' g' _ hagree
  refine ⟨fun c => resN (arg0 (m := m) (d := c)) (arg1 (m := m) (d := c)) (arg2 (m := m) (d := c)) (arg3 (m := m) (d := c)) (arg4 (m := m) (d := c)) (arg5 (m := m) (d := c)),
    fun c => resB (arg0 (m := m) (d := c)) (arg1 (m := m) (d := c)) (arg2 (m := m) (d := c)) (arg3 (m := m) (d := c)) (arg4 (m := m) (d := c)) (arg5 (m := m) (d := c)),
    fun c => resZ (arg0 (m := m) (d := c)) (arg1 (m := m) (d := c)) (arg2 (m := m) (d := c)) (arg3 (m := m) (d := c)),
    fun c => resQ (arg0 (m := m) (d := c)) (arg1 (m := m) (d := c)), fun c => resQ (arg0 (m := m) (d := c)) (arg2 (m := m) (d := c)), ?_, ?_⟩
  · refine (θ_run _ _ _).mono (fun r h c => ?_) (Cert.FfnFwdKernelIdeal.Value.run_blocks m g)
    exact ⟨(h c).1.trans finalN, (h c).2.1.trans finalB, (h c).2.2.1.trans finalZ, (h c).2.2.2.1.trans finalG, (h c).2.2.2.2.1.trans finalU, (h c).2.2.2.2.2⟩
  · refine (θ_run _ _ _).mono (fun r h c => ?_) (Cert.FfnFwdReferenceIdeal.Value.run (F := Ideal) m' g')
    obtain ⟨a0, a1, a2, a3, a4, a5⟩ := hagree c
    obtain ⟨e1, e2, e3, e4, e5, e6⟩ := h c
    replace e1 := e1.trans (Cert.FfnFwdReferenceIdeal.Read.val_main_v33_eq (F := Ideal) _ _)
    replace e2 := e2.trans (Cert.FfnFwdReferenceIdeal.Read.val_main_v34_eq (F := Ideal) _ _)
    replace e3 := e3.trans (Cert.FfnFwdReferenceIdeal.Read.val_main_v9_eq (F := Ideal) _ _ _ _)
    replace e4 := e4.trans (Cert.FfnFwdReferenceIdeal.Read.val_main_v37_eq (F := Ideal) _ _)
    replace e5 := e5.trans (Cert.FfnFwdReferenceIdeal.Read.val_main_v40_eq (F := Ideal) _ _)
    rw [a0, a1, a2, a3, a4, a5] at e1 e2
    rw [a0, a1, a2, a3] at e3
    rw [a0, a1] at e4
    rw [a0, a2] at e5
    exact ⟨e1.trans (resultN _ _ _ _ _ _), e2.trans (resultB _ _ _ _ _ _), e3.trans (resultZ _ _ _ _), e4.trans (resultG _ _), e5.trans (resultU _ _), e6⟩

end Cert.Proof

end
-- ==== Proof.FfnPay.lean ====
/-
  The feed-forward block's backward kernel, one row at a time: what the payloads of its body hold on a row of reals.
-/
module

public import proofs.«01_k».proof.Proof.NormTile
public import proofs.«01_k».proof.Proof.Gen.FfnKernelIdeal.Frame

@[expose] public section

set_option maxRecDepth 16384

noncomputable section

open Idealize.ShloMosaic Idealize.ShloMosaic.TcCoe
open NormSpec NormTile

namespace FfnSpec

/-- The gate, the activation, and the gradients of the gate's and of the other factor's products from the activation's `e`. -/
def sgm (g : ℝ) : ℝ := 1 / (1 + Real.exp (-g))
def act (g u : ℝ) : ℝ := g * sgm g * u
def dgate (e g u : ℝ) : ℝ := e * u * (sgm g * (1 + g * (1 - sgm g)))
def dother (e g : ℝ) : ℝ := e * (g * sgm g)

end FfnSpec

open FfnSpec

namespace Cert.FfnKernelIdeal.Proofs

open Cert.FfnKernelIdeal Cert.FfnKernelIdeal.Gen

/-- The tiles of 256 rows. -/
theorem tile : NormTile.Facts 256 where
  red := reduces_S256x1024_S256
  red0 := reduces_S256x1024_S1024
  col := shapeCasts_S256_S256x1
  line := shapeCasts_S1024_S1x1024
  same := shapeCasts_S256x1024_S256x1024
  sameLine := shapeCasts_S1x1024_S1x1024
  over := broadcasts_S256x1_S256x1024
  down := broadcasts_S1x1024_S256x1024
  colAt := fun x r => by pointwise [colT]
  overAt := fun x r k => by pointwise [overT]

variable {x y : FVec Ideal S256x1024 .f32} {g : FVec Ideal S1x1024 .f32}

theorem pay7_eq : k0_pay7 (F := Ideal) x = hatT tile x := rfl
theorem pay63_eq : k0_pay63 (F := Ideal) x = hatT tile x := rfl
theorem pay8_eq : k0_pay8 (F := Ideal) y x g = backT tile x (scaleT tile y g) := (same_eq tile _).trans rfl
theorem pay4_eq : k0_pay4 (F := Ideal) (k0_pay62 x) (k0_pay63 x) (k0_pay64 y g) (k0_pay65 y g) (k0_pay66 y x g) = backT tile x (scaleT tile y g) :=
  (same_eq tile _).trans rfl
theorem pay10_eq : k0_pay10 (F := Ideal) y x g = addT tile (mulf y x) g := rfl
theorem pay11_eq : k0_pay11 (F := Ideal) y g = addT tile y g := rfl
theorem pay2_eq (t : BitVec 32) : k0_pay2 (F := Ideal) t y x g = addIfT tile (k0_pay1 t) (mulf y x) g := rfl
theorem pay3_eq (t : BitVec 32) : k0_pay3 (F := Ideal) t y g = addIfT tile (k0_pay1 t) y g := rfl

theorem pay1_eq (t : Fin 32) : k0_pay1 (F := Ideal) (BitVec.ofNat 32 t.val) = (((if t.val < 31 then 1 else 0 : ℝ) : ℝ) : EReal) := by
  have h : ∀ t : Fin 32, (Scalar.extui (Scalar.cmpi .slt (BitVec.ofNat 32 t.val) 31#32) : BitVec 32) = if decide (t.val < 31) then 1#32 else 0#32 := by decide +kernel
  exact (flag_eq _ _ _ (h t)).trans (by simp)

variable {r : Fin 256} {c : Fin 704} {z : ℕ → ℝ}

theorem word_half : Ideal.ofBits FTy.f32 1056964608#32 = ((1 / 2 : ℝ) : EReal) := by
  simp [Ideal.ofBits, Ideal.ieee, -EReal.coe_mul]; norm_num
theorem logistic_eq (p : ℝ) : Ideal.logistic (p : EReal) = ((sgm p : ℝ) : EReal) := by
  have h : Ideal.exp (-(p : EReal)) = ((Real.exp (-p) : ℝ) : EReal) := by rw [← EReal.coe_neg]; rfl
  have hp : (1 + Real.exp (-p)) ≠ 0 := by positivity
  unfold Ideal.logistic
  rw [h, ← EReal.coe_one, ← EReal.coe_add, Ideal.div_coe hp, ← EReal.coe_mul, one_mul]
  rfl

theorem pay12_row (h : Row x r z) (k : Fin 1024) : (k0_pay12 (F := Ideal) x (ix2 r k) : EReal) = ((1 / 2 * z k.val : ℝ) : EReal) := by
  pointwise [k0_pay12]
  rw [word_half, h k, EReal.coe_mul]

theorem pay13_row (h : Row x r z) : Row (k0_pay13 (F := Ideal) x) r (fun k => alpha * z k) := fun k => by
  pointwise [k0_pay13]
  rw [word_alpha, h k, EReal.coe_mul]

/-- One entry of the activation's gradient. -/
theorem pay14_row (w : FVec Ideal S1x704x1024 .bf16) (wr : ℕ → ℝ) (h : Row x r z) (hw : ∀ k : Fin 1024, w (ix3 (0 : Fin 1) c k) = ((wr k.val : ℝ) : EReal)) :
    (k0_pay14 (F := Ideal) x w (ix2 r c) : EReal) = ((∑ k : Fin 1024, 1 / 2 * z k.val * wr k.val : ℝ) : EReal) := by
  have h12 := pay12_row h
  unfold k0_pay14
  generalize k0_pay12 (F := Ideal) x = d at h12 ⊢
  pointwise
  exact sum_coe _ _ fun k => by rw [h12 k, hw k, ← EReal.coe_mul]

variable {P Q : FVec Ideal S1x256x704 .bf16} {p q : ℝ}

theorem pay17_at (hp : P (ix3 (0 : Fin 1) r c) = (p : EReal)) : (k0_pay17 (F := Ideal) P (ix2 r c) : EReal) = ((sgm p : ℝ) : EReal) := by
  pointwise [k0_pay17, k0_pay15]
  rw [hp, logistic_eq]

theorem pay18_at (hp : P (ix3 (0 : Fin 1) r c) = (p : EReal)) : (k0_pay18 (F := Ideal) P (ix2 r c) : EReal) = ((p * sgm p : ℝ) : EReal) := by
  have h := pay17_at hp
  unfold k0_pay18
  generalize k0_pay17 (F := Ideal) P = s at h ⊢
  pointwise [k0_pay15]
  rw [h, hp, EReal.coe_mul]

theorem pay19_at (hp : P (ix3 (0 : Fin 1) r c) = (p : EReal)) (hq : Q (ix3 (0 : Fin 1) r c) = (q : EReal)) :
    (k0_pay19 (F := Ideal) P Q (ix3 (0 : Fin 1) r c) : EReal) = ((act p q : ℝ) : EReal) := by
  have h := pay18_at hp
  unfold k0_pay19
  generalize k0_pay18 (F := Ideal) P = s at h ⊢
  pointwise [k0_pay16]
  rw [h, hq, ← EReal.coe_mul]; rfl

variable {w : FVec Ideal S1x704x1024 .bf16} {e : ℝ}

theorem pay22_at (hp : P (ix3 (0 : Fin 1) r c) = (p : EReal)) (hq : Q (ix3 (0 : Fin 1) r c) = (q : EReal)) (he : (k0_pay14 (F := Ideal) x w (ix2 r c) : EReal) = (e : EReal)) :
    (k0_pay22 (F := Ideal) (k0_pay20 x w Q) (k0_pay21 P) (ix2 r c) : EReal) = ((dgate e p q : ℝ) : EReal) := by
  have h := pay17_at hp
  unfold k0_pay22 k0_pay20 k0_pay21
  generalize k0_pay17 (F := Ideal) P = s at h ⊢
  generalize k0_pay14 (F := Ideal) x w = d at he ⊢
  pointwise [k0_pay16, k0_pay15]
  rw [h, hp, hq, he, ← EReal.coe_one]
  simp only [← EReal.coe_mul, ← EReal.coe_sub, ← EReal.coe_add]
  rfl

theorem pay23_at (hp : P (ix3 (0 : Fin 1) r c) = (p : EReal)) (he : (k0_pay14 (F := Ideal) x w (ix2 r c) : EReal) = (e : EReal)) :
    (k0_pay23 (F := Ideal) (k0_pay14 x w) (k0_pay18 P) (ix2 r c) : EReal) = ((dother e p : ℝ) : EReal) := by
  have h := pay18_at hp
  unfold k0_pay23
  generalize k0_pay18 (F := Ideal) P = s at h ⊢
  generalize k0_pay14 (F := Ideal) x w = d at he ⊢
  pointwise
  rw [h, he, ← EReal.coe_mul]; rfl

theorem pay24_eq (A B : FVec Ideal S256x704 .f32) : k0_pay24 (F := Ideal) A B (ix3 (0 : Fin 1) r c) = k0_pay22 (F := Ideal) A B (ix2 r c) := by
  unfold k0_pay24
  generalize k0_pay22 (F := Ideal) A B = s
  pointwise
theorem pay25_eq (A B : FVec Ideal S256x704 .f32) : k0_pay25 (F := Ideal) A B (ix3 (0 : Fin 1) r c) = k0_pay23 (F := Ideal) A B (ix2 r c) := by
  unfold k0_pay25
  generalize k0_pay23 (F := Ideal) A B = s
  pointwise

/-- One quarter's two products, added to the input's gradient. -/
theorem pay26_at {acc : FVec Ideal S256x1024 .f32} {A B C D : FVec Ideal S256x704 .f32} {U V : FVec Ideal S1x1024x704 .bf16} {k : Fin 1024} {s : ℝ} {a b u v : ℕ → ℝ}
    (hs : acc (ix2 r k) = (s : EReal)) (ha : ∀ c : Fin 704, (k0_pay22 (F := Ideal) C D (ix2 r c) : EReal) = ((a c.val : ℝ) : EReal))
    (hb : ∀ c : Fin 704, (k0_pay23 (F := Ideal) A B (ix2 r c) : EReal) = ((b c.val : ℝ) : EReal))
    (hu : ∀ c : Fin 704, U (ix3 (0 : Fin 1) k c) = ((u c.val : ℝ) : EReal)) (hv : ∀ c : Fin 704, V (ix3 (0 : Fin 1) k c) = ((v c.val : ℝ) : EReal)) :
    (k0_pay26 (F := Ideal) acc A B C D U V (ix2 r k) : EReal) = ((s + (∑ c : Fin 704, a c.val * u c.val) + ∑ c : Fin 704, b c.val * v c.val : ℝ) : EReal) := by
  unfold k0_pay26
  generalize k0_pay22 (F := Ideal) C D = X at ha ⊢
  generalize k0_pay23 (F := Ideal) A B = Y at hb ⊢
  pointwise
  rw [sum_coe _ (fun c : Fin 704 => a c.val * u c.val) fun c => by rw [ha c, hu c, EReal.coe_mul],
    sum_coe _ (fun c : Fin 704 => b c.val * v c.val) fun c => by rw [hb c, hv c, EReal.coe_mul], hs, EReal.coe_add, EReal.coe_add]

/-- What the body does for each quarter of the columns: the activation, its two factors' gradients, the input's gradient. -/
def actQ (P Q : FVec Ideal S1x256x704 .bf16) := k0_pay19 (F := Ideal) P Q
def gateQ (x : FVec Ideal S256x1024 .f32) (w : FVec Ideal S1x704x1024 .bf16) (P Q : FVec Ideal S1x256x704 .bf16) := k0_pay24 (F := Ideal) (k0_pay20 x w Q) (k0_pay21 P)
def otherQ (x : FVec Ideal S256x1024 .f32) (w : FVec Ideal S1x704x1024 .bf16) (P : FVec Ideal S1x256x704 .bf16) := k0_pay25 (F := Ideal) (k0_pay14 x w) (k0_pay18 P)
def stepQ (acc x : FVec Ideal S256x1024 .f32) (w : FVec Ideal S1x704x1024 .bf16) (P Q : FVec Ideal S1x256x704 .bf16) (U V : FVec Ideal S1x1024x704 .bf16) :=
  k0_pay26 (F := Ideal) acc (k0_pay14 x w) (k0_pay18 P) (k0_pay20 x w Q) (k0_pay21 P) U V

variable {acc : FVec Ideal S256x1024 .f32} {U V : FVec Ideal S1x1024x704 .bf16}

/-- Each quarter's text does the same. -/
theorem act1 : k0_pay33 (F := Ideal) (k0_pay32 P Q) = actQ P Q := rfl
theorem act2 : k0_pay44 (F := Ideal) (k0_pay40 P) Q = actQ P Q := rfl
theorem act3 : k0_pay55 (F := Ideal) P Q = actQ P Q := rfl
theorem gate1 : k0_pay36 (F := Ideal) (k0_pay27 (k0_pay12 x) w) (k0_pay28 P) (k0_pay29 Q) (k0_pay30 P) = gateQ x w P Q := rfl
theorem gate2 : k0_pay47 (F := Ideal) (k0_pay39 (k0_pay12 x) w) (k0_pay40 P) Q = gateQ x w P Q := rfl
theorem gate3 : k0_pay58 (F := Ideal) (k0_pay12 x) w P Q = gateQ x w P Q := rfl
theorem other1 : k0_pay37 (F := Ideal) (k0_pay27 (k0_pay12 x) w) (k0_pay31 P) = otherQ x w P := rfl
theorem other2 : k0_pay48 (F := Ideal) (k0_pay39 (k0_pay12 x) w) (k0_pay40 P) = otherQ x w P := rfl
theorem other3 : k0_pay59 (F := Ideal) (k0_pay12 x) w P = otherQ x w P := rfl
theorem step1 : k0_pay38 (F := Ideal) acc (k0_pay27 (k0_pay12 x) w) (k0_pay28 P) (k0_pay29 Q) (k0_pay30 P) (k0_pay31 P) U V = stepQ acc x w P Q U V := rfl
theorem step2 : k0_pay49 (F := Ideal) acc (k0_pay39 (k0_pay12 x) w) (k0_pay40 P) Q U V = stepQ acc x w P Q U V := rfl
theorem step3 : k0_pay60 (F := Ideal) acc (k0_pay56 (k0_pay12 x) w P Q) (k0_pay57 (k0_pay12 x) w P) U V = stepQ acc x w P Q U V := rfl

end Cert.FfnKernelIdeal.Proofs

end
-- ==== Proof.NormLines.lean ====
/-
  The normalisation's two sums over the rows, gathered tile by tile in the first two rows of an array of eight rows.
-/
module

public import proofs.«01_k».proof.Proof.NormTile
public import Idealize.ShloMosaic.Lib.Pipeline.ReadBack
public import Idealize.ShloMosaic.Lib.WritesUnit

@[expose] public section

set_option maxRecDepth 16384

noncomputable section

open Idealize.ShloMosaic Idealize.ShloMosaic.TcCoe
open NormSpec

namespace NormTile

/-- The array that gathers them. -/
abbrev Lines := FVec Ideal ⟨2, ![8, 1024]⟩ .f32

/-- A load of one of its rows. -/
theorem ld_row (X : Lines) (k : Fin 8) (c : Fin 1024) (q : ℕ) (hq : q = k.val) (inb) :
    View.ld (Val := Elt Ideal) (e' := .f32) (S := ⟨2, ![8, 1024]⟩) X (Rect.unit ![q, 0] ![1, 1024] inb) (ix2 (0 : Fin 1) c) = X (ix2 k c) := by
  subst hq
  pointwise

/-- One stored row, over what was there. -/
theorem canon_row (k : ℕ) (inb) (P : Line) (L) (r : Fin 8) (c : Fin 1024) :
    View.canon (Val := Elt Ideal) (s := ⟨2, ![8, 1024]⟩) (e := .f32) (⟨Rect.unit ![k, 0] ![1, 1024] inb, P⟩ :: L) (ix2 r c)
      = if r.val = k then P (ix2 0 c) else View.canon L (ix2 r c) := by
  split_ifs with h
  · have e : ix2 r c = (Rect.unit (s := ⟨2, ![8, 1024]⟩) ![k, 0] ![1, 1024] inb).emb (ix2 (0 : Fin 1) c) := by
      funext a
      fin_cases a <;> refine Fin.ext ?_ <;> simp [h]
    rw [e]
    exact View.canon_cons_emb _ _ _ _
  · refine View.canon_cons_of_not_mem _ _ fun hx => h ?_
    have := (Rect.mem_set_unit (inb := inb).mp hx) 0
    simp at this
    omega

theorem write_row {sig : RefSig} {κ : Kind} {sp : Space} (v : View sig κ sp ⟨2, ![8, 1024]⟩ .f32) (f : v.ty.Contents (Elt Ideal)) (k : ℕ) (inb) (P : Line) (L) (r : Fin 8) (c : Fin 1024) :
    v.read (Elt Ideal) (v.writes (Elt Ideal) f (⟨Rect.unit ![k, 0] ![1, 1024] inb, P⟩ :: L)) (ix2 r c)
      = if r.val = k then P (ix2 0 c) else v.read (Elt Ideal) (v.writes (Elt Ideal) f L) (ix2 r c) := by
  rw [View.read_writes_cons_unit v f inb P L _ rfl]
  split_ifs with h h' h'
  · exact congrArg P (by funext a; fin_cases a <;> refine Fin.ext ?_ <;> simp [h'])
  · exact absurd (h 0) (by simp; omega)
  · exact absurd (fun a => by fin_cases a <;> simp [h']) h
  · rfl

/-- The gradient of row `a`: of the rows `Z`, the gradients `Y` that come in and the scale `G`. -/
def dz (Z Y : ℕ → ℕ → ℝ) (G : ℕ → ℝ) (a : ℕ) : ℕ → ℝ := back (Z a) fun k => Y a k * G k

/-- What tile `i` of `n` rows adds to row `k` of the array. -/
def term (n : ℕ) (Z Y : ℕ → ℕ → ℝ) (i k c : ℕ) : ℝ :=
  if k = 0 then ∑ r : Fin n, Y (n * i + r.val) c * hat (Z (n * i + r.val)) c else if k = 1 then ∑ r : Fin n, Y (n * i + r.val) c else 0

/-- The array after the last tile. -/
def lines (Z Y : ℕ → ℕ → ℝ) (k c : ℕ) : ℝ :=
  if k = 0 then ∑ t : Fin 8192, Y t.val c * hat (Z t.val) c else if k = 1 then ∑ t : Fin 8192, Y t.val c else 0

/-- The sums over the tiles are the sums over the rows. -/
theorem sum_tiles (n N : ℕ) (h : N * n = 8192) (Z Y : ℕ → ℕ → ℝ) (k c : ℕ) : ∑ i ∈ Finset.range N, term n Z Y i k c = lines Z Y k c := by
  have e : ∀ f : ℕ → ℝ, ∑ i : Fin N, ∑ r : Fin n, f (n * i.val + r.val) = ∑ t : Fin 8192, f t.val := fun f => by
    rw [show (8192 : ℕ) = N * n from h.symm]
    exact Fin.sum_mul_add_congr fun s r hl => congrArg f (by rw [Nat.mul_comm])
  rw [Finset.sum_range]
  unfold term lines
  split_ifs
  · exact e fun t => Y t c * hat (Z t) c
  · exact e fun t => Y t c
  · exact Finset.sum_const_zero

/-- One more tile, where there is one. -/
theorem sum_next (f : ℕ → ℝ) (N n : ℕ) (h : n < N) :
    (∑ i ∈ Finset.range (min (n + 1) N), f i) + (if n < N - 1 then 1 else 0) * f (min (n + 1) (N - 1)) = ∑ i ∈ Finset.range (min (n + 2) N), f i := by
  split_ifs with h'
  · rw [show min (n + 2) N = (n + 1) + 1 by omega, Finset.sum_range_succ, show min (n + 1) N = n + 1 by omega, show min (n + 1) (N - 1) = n + 1 by omega, one_mul]
  · rw [show min (n + 2) N = N by omega, show min (n + 1) N = N by omega]; simp

variable {n : ℕ} (F : Facts n) {x y : Tile n} {X Y Z : ℕ → ℕ → ℝ}

/-- The sums over a tile's rows, added to the array's first two rows. -/
theorem add_rows (i : ℕ) (hy : ∀ r : Fin n, Row y r (Y (n * i + r.val))) (hx : ∀ r : Fin n, Row x r (Z (n * i + r.val))) (L1 L0 : Line) (Q : EReal) (l : ℝ) (k : Fin 8) (c : Fin 1024)
    (h1 : k.val = 1 → L1 (ix2 (0 : Fin 1) c) = (l : EReal)) (h0 : k.val = 0 → L0 (ix2 (0 : Fin 1) c) = (l : EReal)) (hQ : ¬k.val = 1 → ¬k.val = 0 → Q = (l : EReal)) :
    (if k.val = 1 then addT F y L1 (ix2 (0 : Fin 1) c) else if k.val = 0 then addT F (mulf y (hatT F x)) L0 (ix2 (0 : Fin 1) c) else Q)
      = ((l + term n Z Y i k.val c.val : ℝ) : EReal) := by
  unfold term
  by_cases k1 : k.val = 1
  · rw [if_pos k1, addT_at F (X := fun r => Y (n * i + r)) hy (h1 k1), if_neg (show ¬k.val = 0 by omega), if_pos k1]
  · by_cases k0 : k.val = 0
    · rw [if_neg k1, if_pos k0, addT_at F (X := fun r k => Y (n * i + r) k * hat (Z (n * i + r)) k) (fun r => mul_row (hy r) (hatT_row F (hx r))) (h0 k0), if_pos k0]
    · rw [if_neg k1, if_neg k0, if_neg k0, if_neg k1, hQ k1 k0, add_zero]

/-- The same where a flag is one. -/
theorem add_rows_if (f : ℝ) (i : ℕ) (hy : ∀ r : Fin n, Row y r (Y (n * i + r.val))) (hx : ∀ r : Fin n, Row x r (Z (n * i + r.val))) (L1 L0 : Line) (Q : EReal) (l : ℝ) (k : Fin 8) (c : Fin 1024)
    (h1 : k.val = 1 → L1 (ix2 (0 : Fin 1) c) = (l : EReal)) (h0 : k.val = 0 → L0 (ix2 (0 : Fin 1) c) = (l : EReal)) (hQ : ¬k.val = 1 → ¬k.val = 0 → Q = (l : EReal)) :
    (if k.val = 1 then addIfT F (f : EReal) y L1 (ix2 (0 : Fin 1) c) else if k.val = 0 then addIfT F (f : EReal) (mulf y (hatT F x)) L0 (ix2 (0 : Fin 1) c) else Q)
      = ((l + f * term n Z Y i k.val c.val : ℝ) : EReal) := by
  unfold term
  by_cases k1 : k.val = 1
  · rw [if_pos k1, addIfT_at F f (X := fun r => Y (n * i + r)) hy (h1 k1), if_neg (show ¬k.val = 0 by omega), if_pos k1]
  · by_cases k0 : k.val = 0
    · rw [if_neg k1, if_pos k0, addIfT_at F f (X := fun r k => Y (n * i + r) k * hat (Z (n * i + r)) k) (fun r => mul_row (hy r) (hatT_row F (hx r))) (h0 k0), if_pos k0]
    · rw [if_neg k1, if_neg k0, if_neg k0, if_neg k1, hQ k1 k0, mul_zero, add_zero]

end NormTile

end
-- ==== Proof.FfnValue.lean ====
/-
  The feed-forward block's backward kernel: its six result arrays in closed form. Point `t` writes the rows of tile `t` from
  the gradient that the point before left, and computes the gradient of tile `t + 1`.
-/
module

public import proofs.«01_k».proof.Proof.FfnPay
public import proofs.«01_k».proof.Proof.NormLines

@[expose] public section

set_option maxRecDepth 16384

noncomputable section

open Idealize.ShloMosaic Idealize.ShloMosaic.TcCoe Idealize.SL.Sem
open Idealize.ShloMosaic.Pipeline (Dat)
open NormSpec NormTile FfnSpec

namespace Cert.FfnKernelIdeal.Proofs

open Cert.FfnKernelIdeal Cert.FfnKernelIdeal.Gen

variable {m : (ℓ : Loc nD τ sig) → Buf (Elt Ideal) ℓ} {d : Dev nD}

theorem idx : ∀ t : Fin cfg0.N, win0_0.index t = ![0, 0] ∧ win0_1.index t = ![0, 0] ∧ win0_2.index t = ![min (t.val + 1) 31, 0]
    ∧ win0_3.index t = ![min (t.val + 1) 31, 0] ∧ win0_4.index t = ![0, t.val, 0] ∧ win0_5.index t = ![0, t.val, 0] ∧ win0_6.index t = ![0, 0, 0]
    ∧ win0_7.index t = ![0, 0, 0] ∧ win0_8.index t = ![0, 0, 0] ∧ win0_9.index t = ![0, 0] ∧ win0_10.index t = ![t.val, 0] ∧ win0_11.index t = ![t.val, 0]
    ∧ win0_12.index t = ![0, t.val, 0] ∧ win0_13.index t = ![0, t.val, 0] ∧ win0_14.index t = ![0, t.val, 0] ∧ win0_15.index t = ![0, 0] ∧ t.val < 32 :=
  (by decide +kernel : ∀ t : Fin grid0.N, _)

theorem point_val : ∀ t : Fin cfg0.N, ((grid0.coords t) 0).val = t.val ∧ t.val < 32 := (by decide +kernel : ∀ t : Fin grid0.N, _)

/-- The real arrays the kernel is called on: the rows to normalise, the gradient that comes in, the scale; the gate's and the other
    factor's products; their two weights and the last weight. -/
structure Reals where
  Z : ℕ → ℕ → ℝ
  Y : ℕ → ℕ → ℝ
  S : ℕ → ℝ
  G : ℕ → ℕ → ℝ
  U : ℕ → ℕ → ℝ
  Wg : ℕ → ℕ → ℝ
  Wu : ℕ → ℕ → ℝ
  Wd : ℕ → ℕ → ℝ

/-- The arrays hold them; the columns of the products in four blocks of 704. -/
structure Args (m : (ℓ : Loc nD τ sig) → Buf (Elt Ideal) ℓ) (d : Dev nD) (R : Reals) : Prop where
  z : ∀ (a : Fin 8192) (k : Fin 1024), (V m d main_v98 : FVec Ideal S8192x1024 .f32) (ix2 a k) = ((R.Z a.val k.val : ℝ) : EReal)
  y : ∀ (a : Fin 8192) (k : Fin 1024), (V m d main_arg6 : FVec Ideal S8192x1024 .f32) (ix2 a k) = ((R.Y a.val k.val : ℝ) : EReal)
  s : ∀ k : Fin 1024, (V m d main_v109 : FVec Ideal S1x1024 .f32) (ix2 (0 : Fin 1) k) = ((R.S k.val : ℝ) : EReal)
  g : ∀ (q : Fin 4) (a : Fin 8192) (c : Fin 704), (V m d main_v103 : FVec Ideal S4x8192x704 .bf16) (ix3 q a c) = ((R.G a.val (q.val * 704 + c.val) : ℝ) : EReal)
  u : ∀ (q : Fin 4) (a : Fin 8192) (c : Fin 704), (V m d main_v108 : FVec Ideal S4x8192x704 .bf16) (ix3 q a c) = ((R.U a.val (q.val * 704 + c.val) : ℝ) : EReal)
  wg : ∀ (q : Fin 4) (k : Fin 1024) (c : Fin 704), (V m d main_v2 : FVec Ideal S4x1024x704 .bf16) (ix3 q k c) = ((R.Wg k.val (q.val * 704 + c.val) : ℝ) : EReal)
  wu : ∀ (q : Fin 4) (k : Fin 1024) (c : Fin 704), (V m d main_v5 : FVec Ideal S4x1024x704 .bf16) (ix3 q k c) = ((R.Wu k.val (q.val * 704 + c.val) : ℝ) : EReal)
  wd : ∀ (q : Fin 4) (c : Fin 704) (k : Fin 1024), (V m d main_v7 : FVec Ideal S4x704x1024 .bf16) (ix3 q c k) = ((R.Wd (q.val * 704 + c.val) k.val : ℝ) : EReal)

variable {R : Reals}

theorem blk0 (A : Args m d R) (t : Fin cfg0.N) (r : Fin 256) : Row (iblk m d 0 t) r (R.Y r.val) := fun k => by
  refine Eq.trans ?_ (A.y ⟨r.val, by omega⟩ k); blk_point [iblk, idx t]
theorem blk1 (A : Args m d R) (t : Fin cfg0.N) (r : Fin 256) : Row (iblk m d 1 t) r (R.Z r.val) := fun k => by
  refine Eq.trans ?_ (A.z ⟨r.val, by omega⟩ k); blk_point [iblk, idx t]
theorem blk2 (A : Args m d R) (t : Fin cfg0.N) (r : Fin 256) : Row (iblk m d 2 t) r (R.Y (256 * min (t.val + 1) 31 + r.val)) := fun k => by
  refine Eq.trans ?_ (A.y ⟨256 * min (t.val + 1) 31 + r.val, by omega⟩ k); blk_point [iblk, idx t]
theorem blk3 (A : Args m d R) (t : Fin cfg0.N) (r : Fin 256) : Row (iblk m d 3 t) r (R.Z (256 * min (t.val + 1) 31 + r.val)) := fun k => by
  refine Eq.trans ?_ (A.z ⟨256 * min (t.val + 1) 31 + r.val, by omega⟩ k); blk_point [iblk, idx t]
theorem blk4 (A : Args m d R) (t : Fin cfg0.N) (q : Fin 4) (r : Fin 256) (c : Fin 704) :
    (iblk m d 4 t : FVec Ideal S4x256x704 .bf16) (ix3 q r c) = ((R.G (256 * t.val + r.val) (q.val * 704 + c.val) : ℝ) : EReal) := by
  have ht := (point_val t).2
  refine Eq.trans ?_ (A.g q ⟨256 * t.val + r.val, by omega⟩ c); blk_point [iblk, idx t]
theorem blk5 (A : Args m d R) (t : Fin cfg0.N) (q : Fin 4) (r : Fin 256) (c : Fin 704) :
    (iblk m d 5 t : FVec Ideal S4x256x704 .bf16) (ix3 q r c) = ((R.U (256 * t.val + r.val) (q.val * 704 + c.val) : ℝ) : EReal) := by
  have ht := (point_val t).2
  refine Eq.trans ?_ (A.u q ⟨256 * t.val + r.val, by omega⟩ c); blk_point [iblk, idx t]
theorem blk6 (A : Args m d R) (t : Fin cfg0.N) (q : Fin 4) (k : Fin 1024) (c : Fin 704) :
    (iblk m d 6 t : FVec Ideal S4x1024x704 .bf16) (ix3 q k c) = ((R.Wg k.val (q.val * 704 + c.val) : ℝ) : EReal) := by
  refine Eq.trans ?_ (A.wg q k c); blk_point [iblk, idx t]
theorem blk7 (A : Args m d R) (t : Fin cfg0.N) (q : Fin 4) (k : Fin 1024) (c : Fin 704) :
    (iblk m d 7 t : FVec Ideal S4x1024x704 .bf16) (ix3 q k c) = ((R.Wu k.val (q.val * 704 + c.val) : ℝ) : EReal) := by
  refine Eq.trans ?_ (A.wu q k c); blk_point [iblk, idx t]
theorem blk8 (A : Args m d R) (t : Fin cfg0.N) (q : Fin 4) (c : Fin 704) (k : Fin 1024) :
    (iblk m d 8 t : FVec Ideal S4x704x1024 .bf16) (ix3 q c k) = ((R.Wd (q.val * 704 + c.val) k.val : ℝ) : EReal) := by
  refine Eq.trans ?_ (A.wd q c k); blk_point [iblk, idx t]
theorem blk9 (A : Args m d R) (t : Fin cfg0.N) (k : Fin 1024) : (iblk m d 9 t : FVec Ideal S1x1024 .f32) (ix2 (0 : Fin 1) k) = ((R.S k.val : ℝ) : EReal) := by
  refine Eq.trans ?_ (A.s k); blk_point [iblk, idx t]

/-- A load of one of four blocks. -/
theorem ld_block {a b : ℕ} (X : FVec Ideal ⟨3, ![4, a, b]⟩ .bf16) (q : Fin 4) (i : Fin a) (j : Fin b) (inb) :
    View.ld (Val := Elt Ideal) (e' := .bf16) (S := ⟨3, ![4, a, b]⟩) X (Rect.unit ![q.val, 0, 0] ![1, a, b] inb) (ix3 (0 : Fin 1) i j) = X (ix3 q i j) := by
  refine congrArg X (funext fun x => ?_)
  fin_cases x <;> refine Fin.ext ?_ <;> simp

/-- What holds after point `n`: the scratch is the next tile's gradient, the last result the sum over the tiles so far. -/
structure After (R : Reals) (n : ℕ) (X : FVec Ideal S256x1024 .f32) (L : FVec Ideal S8x1024 .f32) : Prop where
  x : ∀ r : Fin 256, Row X r (dz R.Z R.Y R.S (256 * min (n + 1) 31 + r.val))
  l : ∀ (k : Fin 8) (c : Fin 1024), L (ix2 k c) = ((∑ i ∈ Finset.range (min (n + 2) 32), term 256 R.Z R.Y i k.val c.val : ℝ) : EReal)

theorem next_row (A : Args m d R) (t : Fin cfg0.N) (r : Fin 256) :
    Row (k0_pay4 (F := Ideal) (k0_pay62 (iblk m d 3 t)) (k0_pay63 (iblk m d 3 t)) (k0_pay64 (iblk m d 2 t) (iblk m d 9 t)) (k0_pay65 (iblk m d 2 t) (iblk m d 9 t)) (k0_pay66 (iblk m d 2 t) (iblk m d 3 t) (iblk m d 9 t)))
      r (dz R.Z R.Y R.S (256 * min (t.val + 1) 31 + r.val)) := by
  rw [pay4_eq]
  exact backT_row tile (blk3 A t r) (scaleT_row tile (blk2 A t r) (blk9 A t))

/-- The sums over the next tile's rows, added to the last result's two rows. -/
theorem next_rows (A : Args m d R) (t : Fin cfg0.N) (L1 L0 : FVec Ideal S1x1024 .f32) (Q : EReal) (l : ℝ) (k : Fin 8) (c : Fin 1024)
    (h1 : k.val = 1 → L1 (ix2 (0 : Fin 1) c) = (l : EReal)) (h0 : k.val = 0 → L0 (ix2 (0 : Fin 1) c) = (l : EReal)) (hQ : ¬k.val = 1 → ¬k.val = 0 → Q = (l : EReal)) :
    (if k.val = 1 then k0_pay3 (F := Ideal) (BitVec.ofNat 32 ((grid0.coords t) 0).val) (iblk m d 2 t) L1 (ix2 (0 : Fin 1) c)
      else if k.val = 0 then k0_pay2 (F := Ideal) (BitVec.ofNat 32 ((grid0.coords t) 0).val) (iblk m d 2 t) (k0_pay63 (iblk m d 3 t)) L0 (ix2 (0 : Fin 1) c) else Q)
      = ((l + (if t.val < 31 then 1 else 0) * term 256 R.Z R.Y (min (t.val + 1) 31) k.val c.val : ℝ) : EReal) := by
  obtain ⟨e, ht⟩ := point_val t
  rw [e, pay63_eq, pay2_eq, pay3_eq, pay1_eq ⟨t.val, ht⟩]
  exact add_rows_if tile _ _ (fun r => blk2 A t r) (fun r => blk3 A t r) L1 L0 Q l k c h1 h0 hQ

theorem after (A : Args m d R) : ∀ (n : ℕ) (h : n < cfg0.N), After R n (outsAt0 m d n h).2.2.2.2.2.2 (outsAt0 m d n h).2.2.2.2.2.1
  | 0, h => by
    rw [outsAt0_A m d ⟨0, h⟩ (by simp)]
    constructor
    · intro r k
      frame_out
      exact next_row A ⟨0, h⟩ r k
    · intro k c
      frame_open
      simp (disch := decide) only [↓ View.readCov_skip, ↓ View.readCov_cons_toLoadRect, ↓ View.readCov_fill]
      frame_out
      rw [canon_row, canon_row, canon_row, canon_row]
      have z9 : ∀ i, k0_pay9 (F := Ideal) i = ((0 : ℝ) : EReal) := fun i => by pointwise [k0_pay9]; rfl
      refine (next_rows A ⟨0, h⟩ _ _ _ (term 256 R.Z R.Y 0 k.val c.val) k c (fun k1 => ?_) (fun k0 => ?_) (fun k1 k0 => ?_)).trans ?_
      · rw [pay11_eq, addT_at tile (X := R.Y) (fun r => blk0 A ⟨0, h⟩ r) ((ld_row _ k c 1 k1.symm _).trans (z9 _))]
        simp [term, k1]
      · rw [pay10_eq, pay7_eq, addT_at tile (X := fun r k => R.Y r k * hat (R.Z r) k) (fun r => mul_row (blk0 A ⟨0, h⟩ r) (hatT_row tile (blk1 A ⟨0, h⟩ r))) ((ld_row _ k c 0 k0.symm _).trans (z9 _))]
        simp [term, k0]
      · rw [if_neg k1, if_neg k0]
        refine Eq.trans ?_ ((z9 (ix2 k c)).trans ?_)
        · exact congrFun (View.canon_cons_unit_lit (Val := Elt Ideal) (S := S8x1024) (e := .f32) inb_S8x1024_S8x1024_0_0 (k0_pay9 (F := Ideal)) [] (by decide)) _
        · simp [term, k1, k0]
      · rw [← sum_next _ 32 0 (by omega)]
        simp
  | n + 1, h => by
    have ih := after A n (Nat.lt_of_succ_lt h)
    have hn := (point_val ⟨n + 1, h⟩).2
    rw [outsAt0_B m d ⟨n + 1, h⟩ (by simp at hn ⊢; omega)]
    constructor
    · intro r k
      frame_out
      exact next_row A ⟨n + 1, h⟩ r k
    · intro k c
      frame_open
      simp (disch := decide) only [↓ View.readCov_skip, ↓ View.readCov_cons_toLoadRect, ↓ View.readCov_fill]
      frame_out
      rw [write_row, write_row]
      refine (next_rows A ⟨n + 1, h⟩ _ _ _ _ k c (fun k1 => ?_) (fun k0 => ?_) (fun k1 k0 => ?_)).trans (congrArg _ (sum_next (fun i => term 256 R.Z R.Y i k.val c.val) 32 (n + 1) hn))
      · exact (ld_row _ k c 1 k1.symm _).trans (ih.l k c)
      · exact (ld_row _ k c 0 k0.symm _).trans (ih.l k c)
      · exact (congrFun (Memref.IsWhole.read_unread _ _) _).trans (ih.l k c)

/-- The tile of gradients that point `t` writes out: the first tile's own, or what the point before left. -/
def cur (R : Reals) (t : ℕ) (x : FVec Ideal S256x1024 .f32) : Prop := ∀ r : Fin 256, Row x r (dz R.Z R.Y R.S (256 * t + r.val))

theorem cur_A (A : Args m d R) (t : Fin cfg0.N) (h : t.val % 32 = 0) : cur R t.val (k0_pay8 (iblk m d 0 t) (iblk m d 1 t) (iblk m d 9 t)) := fun r => by
  have e : t.val = 0 := by have := (point_val t).2; omega
  have := backT_row tile (blk1 A t r) (scaleT_row tile (blk0 A t r) (blk9 A t))
  rw [e, Nat.mul_zero, Nat.zero_add, pay8_eq]
  exact this

theorem cur_B (A : Args m d R) (t : Fin cfg0.N) (h : ¬t.val % 32 = 0) (hb) {x : FVec Ideal S256x1024 .f32}
    (hx : x = (outsAt0 m d (t.val - 1) hb).2.2.2.2.2.2) : cur R t.val x := fun r => by
  rw [hx]
  have := (after A (t.val - 1) hb).x r
  have ht := (point_val t).2
  rwa [show min (t.val - 1 + 1) 31 = t.val by omega] at this

/-- The activation's gradient, its two factors' gradients, and the input's gradient after `n` quarters of the columns. -/
def ea (R : Reals) (a j : ℕ) : ℝ := ∑ k : Fin 1024, 1 / 2 * dz R.Z R.Y R.S a k.val * R.Wd j k.val
def eg (R : Reals) (a j : ℕ) : ℝ := dgate (ea R a j) (R.G a j) (R.U a j)
def eu (R : Reals) (a j : ℕ) : ℝ := dother (ea R a j) (R.G a j)
def ex (R : Reals) (n a k : ℕ) : ℝ := alpha * dz R.Z R.Y R.S a k
  + ∑ q ∈ Finset.range n, ((∑ c : Fin 704, eg R a (q * 704 + c.val) * R.Wg k (q * 704 + c.val)) + ∑ c : Fin 704, eu R a (q * 704 + c.val) * R.Wu k (q * 704 + c.val))

/-- The six results. -/
def resX (R : Reals) : FVec Ideal S8192x1024 .f32 := fun i => ((ex R 4 (i 0).val (i 1).val : ℝ) : EReal)
def resF (R : Reals) : FVec Ideal S8192x1024 .bf16 := fun i => ((1 / 2 * dz R.Z R.Y R.S (i 0).val (i 1).val : ℝ) : EReal)
def resQ (f : ℕ → ℕ → ℝ) : FVec Ideal S4x8192x704 .bf16 := fun i => ((f (i 1).val ((i 0).val * 704 + (i 2).val) : ℝ) : EReal)
def resL (R : Reals) : FVec Ideal S8x1024 .f32 := fun i => ((lines R.Z R.Y (i 0).val (i 1).val : ℝ) : EReal)

/-- The place of row `a` of point `t` in the results. -/
def place (t : Fin cfg0.N) (y : S256x1024.Idx) : S8192x1024.Idx :=
  ix2 (⟨256 * t.val + (y 0).val, by have := (point_val t).2; have := (y 0).isLt; simp at this; omega⟩ : Fin 8192) (⟨(y 1).val, (y 1).isLt⟩ : Fin 1024)
def placeQ (t : Fin cfg0.N) (y : S4x256x704.Idx) : S4x8192x704.Idx :=
  ix3 (⟨(y 0).val, (y 0).isLt⟩ : Fin 4) (⟨256 * t.val + (y 1).val, by have := (point_val t).2; have := (y 1).isLt; simp at this; omega⟩ : Fin 8192) (⟨(y 2).val, (y 2).isLt⟩ : Fin 704)

theorem emb10 (t : Fin cfg0.N) (y : S256x1024.Idx) : ((View.whole main_v110_0).slice (win0_10.rect t)).emb y = place t y := by
  unfold place; blk_ext [idx t]
theorem emb11 (t : Fin cfg0.N) (y : S256x1024.Idx) : ((View.whole main_v110_1).slice (win0_11.rect t)).emb y = place t y := by
  unfold place; blk_ext [idx t]
theorem emb12 (t : Fin cfg0.N) (y : S4x256x704.Idx) : ((View.whole main_v110_2).slice (win0_12.rect t)).emb y = placeQ t y := by
  unfold placeQ; blk_ext [idx t]
theorem emb13 (t : Fin cfg0.N) (y : S4x256x704.Idx) : ((View.whole main_v110_3).slice (win0_13.rect t)).emb y = placeQ t y := by
  unfold placeQ; blk_ext [idx t]
theorem emb14 (t : Fin cfg0.N) (y : S4x256x704.Idx) : ((View.whole main_v110_4).slice (win0_14.rect t)).emb y = placeQ t y := by
  unfold placeQ; blk_ext [idx t]

/-- Four stored blocks. -/
theorem four (P3 P2 P1 P0 : FVec Ideal S1x256x704 .bf16) (f : S4x256x704.Idx → EReal)
    (h0 : ∀ a c, P0 (ix3 (0 : Fin 1) a c) = f (ix3 (0 : Fin 4) a c)) (h1 : ∀ a c, P1 (ix3 (0 : Fin 1) a c) = f (ix3 (1 : Fin 4) a c))
    (h2 : ∀ a c, P2 (ix3 (0 : Fin 1) a c) = f (ix3 (2 : Fin 4) a c)) (h3 : ∀ a c, P3 (ix3 (0 : Fin 1) a c) = f (ix3 (3 : Fin 4) a c)) (y : S4x256x704.Idx) :
    View.canon (Val := Elt Ideal) (e := .bf16) [⟨Rect.unit ![3, 0, 0] ![1, 256, 704] inb_S4x256x704_S1x256x704_3_0_0, P3⟩, ⟨Rect.unit ![2, 0, 0] ![1, 256, 704] inb_S4x256x704_S1x256x704_2_0_0, P2⟩,
      ⟨Rect.unit ![1, 0, 0] ![1, 256, 704] inb_S4x256x704_S1x256x704_1_0_0, P1⟩, ⟨Rect.unit ![0, 0, 0] ![1, 256, 704] inb_S4x256x704_S1x256x704_0_0_0, P0⟩] y = f y := by
  canon_tiles x hx
  all_goals obtain ⟨o, a, c, rfl⟩ : ∃ o a c, x = ix3 o a c := ⟨x 0, x 1, x 2, by funext i; fin_cases i <;> rfl⟩
  all_goals obtain rfl : o = 0 := Subsingleton.elim _ _
  · rw [h3]; blk_ext <;> first | exact hx0.symm | exact hx1.symm | exact hx2.symm
  · rw [h2]; blk_ext <;> first | exact hx0.symm | exact hx1.symm | exact hx2.symm
  · rw [h1]; blk_ext <;> first | exact hx0.symm | exact hx1.symm | exact hx2.symm
  · rw [h0]; blk_ext <;> first | exact hx0.symm | exact hx1.symm | exact hx2.symm

/-- Block `q` of an array of four. -/
abbrev blk {a b : ℕ} (X : FVec Ideal ⟨3, ![4, a, b]⟩ .bf16) (q : Fin 4) (inb : ∀ x : Fin 3, (![q.val, 0, 0] : Fin 3 → ℕ) x + (![1, a, b] : Fin 3 → ℕ) x ≤ (![4, a, b] : Fin 3 → ℕ) x) : FVec Ideal ⟨3, ![1, a, b]⟩ .bf16 :=
  View.ld (Val := Elt Ideal) (e' := .bf16) (S := ⟨3, ![4, a, b]⟩) X (Rect.unit ![q.val, 0, 0] ![1, a, b] inb)

section
variable (A : Args m d R) {t : Fin cfg0.N} {x : FVec Ideal S256x1024 .f32} (h : cur R t.val x) (q : Fin 4) (r : Fin 256) (c : Fin 704)
include A

theorem ea_at (h : cur R t.val x) (inb) : (k0_pay14 (F := Ideal) x (blk (iblk m d 8 t) q inb) (ix2 r c) : EReal) = ((ea R (256 * t.val + r.val) (q.val * 704 + c.val) : ℝ) : EReal) :=
  pay14_row _ (R.Wd (q.val * 704 + c.val)) (h r) fun k => (ld_block _ q c k inb).trans (blk8 A t q c k)

theorem g_at (inb) : blk (iblk m d 4 t) q inb (ix3 (0 : Fin 1) r c) = ((R.G (256 * t.val + r.val) (q.val * 704 + c.val) : ℝ) : EReal) :=
  (ld_block _ q r c inb).trans (blk4 A t q r c)
theorem u_at (inb) : blk (iblk m d 5 t) q inb (ix3 (0 : Fin 1) r c) = ((R.U (256 * t.val + r.val) (q.val * 704 + c.val) : ℝ) : EReal) :=
  (ld_block _ q r c inb).trans (blk5 A t q r c)

theorem act_at (i4 i5) : actQ (blk (iblk m d 4 t) q i4) (blk (iblk m d 5 t) q i5) (ix3 (0 : Fin 1) r c) = resQ (fun a j => act (R.G a j) (R.U a j)) (placeQ t (ix3 q r c)) :=
  pay19_at (g_at A q r c i4) (u_at A q r c i5)

theorem gate_at (h : cur R t.val x) (i8 i4 i5) : gateQ x (blk (iblk m d 8 t) q i8) (blk (iblk m d 4 t) q i4) (blk (iblk m d 5 t) q i5) (ix3 (0 : Fin 1) r c) = resQ (eg R) (placeQ t (ix3 q r c)) :=
  (pay24_eq _ _).trans (pay22_at (g_at A q r c i4) (u_at A q r c i5) (ea_at A q r c h i8))

theorem other_at (h : cur R t.val x) (i8 i4) : otherQ x (blk (iblk m d 8 t) q i8) (blk (iblk m d 4 t) q i4) (ix3 (0 : Fin 1) r c) = resQ (eu R) (placeQ t (ix3 q r c)) :=
  (pay25_eq _ _).trans (pay23_at (g_at A q r c i4) (ea_at A q r c h i8))

theorem step_at (h : cur R t.val x) (acc : FVec Ideal S256x1024 .f32) (k : Fin 1024) (ha : acc (ix2 r k) = ((ex R q.val (256 * t.val + r.val) k.val : ℝ) : EReal)) (i8 i4 i5 i6 i7) :
    stepQ acc x (blk (iblk m d 8 t) q i8) (blk (iblk m d 4 t) q i4) (blk (iblk m d 5 t) q i5) (blk (iblk m d 6 t) q i6) (blk (iblk m d 7 t) q i7) (ix2 r k)
      = ((ex R (q.val + 1) (256 * t.val + r.val) k.val : ℝ) : EReal) := by
  refine (pay26_at (a := fun c => eg R (256 * t.val + r.val) (q.val * 704 + c)) (b := fun c => eu R (256 * t.val + r.val) (q.val * 704 + c))
    (u := fun c => R.Wg k.val (q.val * 704 + c)) (v := fun c => R.Wu k.val (q.val * 704 + c)) ha
    (fun c => pay22_at (g_at A q r c i4) (u_at A q r c i5) (ea_at A q r c h i8)) (fun c => pay23_at (g_at A q r c i4) (ea_at A q r c h i8))
    (fun c => (ld_block _ q k c i6).trans (blk6 A t q k c)) (fun c => (ld_block _ q k c i7).trans (blk7 A t q k c))).trans ?_
  unfold ex
  rw [Finset.sum_range_succ, add_assoc, add_assoc]
end

/-- The input's gradient, as the body gathers it. -/
theorem out0 (A : Args m d R) {t : Fin cfg0.N} {x : FVec Ideal S256x1024 .f32} (h : cur R t.val x) (y : S256x1024.Idx) (w0 w1 w2 w3 g0 g1 g2 g3 u0 u1 u2 u3 a0 a1 a2 a3 b0 b1 b2 b3) :
    stepQ (stepQ (stepQ (stepQ (k0_pay13 x) x (blk (iblk m d 8 t) 0 w0) (blk (iblk m d 4 t) 0 g0) (blk (iblk m d 5 t) 0 u0) (blk (iblk m d 6 t) 0 a0) (blk (iblk m d 7 t) 0 b0))
      x (blk (iblk m d 8 t) 1 w1) (blk (iblk m d 4 t) 1 g1) (blk (iblk m d 5 t) 1 u1) (blk (iblk m d 6 t) 1 a1) (blk (iblk m d 7 t) 1 b1))
      x (blk (iblk m d 8 t) 2 w2) (blk (iblk m d 4 t) 2 g2) (blk (iblk m d 5 t) 2 u2) (blk (iblk m d 6 t) 2 a2) (blk (iblk m d 7 t) 2 b2))
      x (blk (iblk m d 8 t) 3 w3) (blk (iblk m d 4 t) 3 g3) (blk (iblk m d 5 t) 3 u3) (blk (iblk m d 6 t) 3 a3) (blk (iblk m d 7 t) 3 b3) y = resX R (place t y) := by
  obtain ⟨r, k, rfl⟩ : ∃ a b, y = ix2 (a : Fin 256) (b : Fin 1024) := ⟨y 0, y 1, by funext i; fin_cases i <;> rfl⟩
  refine step_at A 3 r h _ k (step_at A 2 r h _ k (step_at A 1 r h _ k (step_at A 0 r h _ k ?_ _ _ _ _ _) _ _ _ _ _) _ _ _ _ _) _ _ _ _ _
  rw [pay13_row (h r) k]
  simp [ex]

theorem out1 {t : Fin cfg0.N} {x : FVec Ideal S256x1024 .f32} (h : cur R t.val x) (y : S256x1024.Idx) : k0_pay12 x y = resF R (place t y) := by
  obtain ⟨r, k, rfl⟩ : ∃ a b, y = ix2 (a : Fin 256) (b : Fin 1024) := ⟨y 0, y 1, by funext i; fin_cases i <;> rfl⟩
  exact pay12_row (h r) k

theorem final0 (A : Args m d R) : (dats m 0 d).arrAt 10 (cfgs 0).N = resX R := by
  refine (dats m 0 d).arrAt_eq_of_covers 10 _ (by decide +kernel) fun t hf y => ?_
  blk_simp
  rw [after0_10, emb10]
  by_cases hc : t.val % 32 = 0
  · rw [outsAt0_A m d t hc]; frame_out
    exact out0 A (cur_A A t hc) y _ _ _ _ _ _ _ _ _ _ _ _ _ _ _ _ _ _ _ _
  · rw [outsAt0_B m d t hc]; frame_out
    exact out0 A (cur_B A t hc _ (Memref.IsWhole.read_unread _ _)) y _ _ _ _ _ _ _ _ _ _ _ _ _ _ _ _ _ _ _ _

theorem final1 (A : Args m d R) : (dats m 0 d).arrAt 11 (cfgs 0).N = resF R := by
  refine (dats m 0 d).arrAt_eq_of_covers 11 _ (by decide +kernel) fun t hf y => ?_
  blk_simp
  rw [after0_11, emb11]
  by_cases hc : t.val % 32 = 0
  · rw [outsAt0_A m d t hc]; frame_out
    exact out1 (cur_A A t hc) y
  · rw [outsAt0_B m d t hc]; frame_out
    exact out1 (cur_B A t hc _ (Memref.IsWhole.read_unread _ _)) y

theorem final2 (A : Args m d R) : (dats m 0 d).arrAt 12 (cfgs 0).N = resQ (eg R) := by
  refine (dats m 0 d).arrAt_eq_of_covers 12 _ (by decide +kernel) fun t hf y => ?_
  blk_simp
  rw [after0_12, emb12]
  have key : ∀ x, cur R t.val x → _ := fun x h => four (gateQ x (blk (iblk m d 8 t) 3 inb_S4x704x1024_S1x704x1024_3_0_0) (blk (iblk m d 4 t) 3 inb_S4x256x704_S1x256x704_3_0_0) (blk (iblk m d 5 t) 3 inb_S4x256x704_S1x256x704_3_0_0))
    (gateQ x (blk (iblk m d 8 t) 2 inb_S4x704x1024_S1x704x1024_2_0_0) (blk (iblk m d 4 t) 2 inb_S4x256x704_S1x256x704_2_0_0) (blk (iblk m d 5 t) 2 inb_S4x256x704_S1x256x704_2_0_0))
    (gateQ x (blk (iblk m d 8 t) 1 inb_S4x704x1024_S1x704x1024_1_0_0) (blk (iblk m d 4 t) 1 inb_S4x256x704_S1x256x704_1_0_0) (blk (iblk m d 5 t) 1 inb_S4x256x704_S1x256x704_1_0_0))
    (gateQ x (blk (iblk m d 8 t) 0 inb_S4x704x1024_S1x704x1024_0_0_0) (blk (iblk m d 4 t) 0 inb_S4x256x704_S1x256x704_0_0_0) (blk (iblk m d 5 t) 0 inb_S4x256x704_S1x256x704_0_0_0))
    (fun y => resQ (eg R) (placeQ t y)) (fun r c => gate_at A 0 r c h _ _ _) (fun r c => gate_at A 1 r c h _ _ _) (fun r c => gate_at A 2 r c h _ _ _) (fun r c => gate_at A 3 r c h _ _ _) y
  by_cases hc : t.val % 32 = 0
  · rw [outsAt0_A m d t hc]; frame_out
    exact key _ (cur_A A t hc)
  · rw [outsAt0_B m d t hc]; frame_out
    exact key _ (cur_B A t hc _ (Memref.IsWhole.read_unread _ _))

theorem final3 (A : Args m d R) : (dats m 0 d).arrAt 13 (cfgs 0).N = resQ (eu R) := by
  refine (dats m 0 d).arrAt_eq_of_covers 13 _ (by decide +kernel) fun t hf y => ?_
  blk_simp
  rw [after0_13, emb13]
  have key : ∀ x, cur R t.val x → _ := fun x h => four (otherQ x (blk (iblk m d 8 t) 3 inb_S4x704x1024_S1x704x1024_3_0_0) (blk (iblk m d 4 t) 3 inb_S4x256x704_S1x256x704_3_0_0))
    (otherQ x (blk (iblk m d 8 t) 2 inb_S4x704x1024_S1x704x1024_2_0_0) (blk (iblk m d 4 t) 2 inb_S4x256x704_S1x256x704_2_0_0))
    (otherQ x (blk (iblk m d 8 t) 1 inb_S4x704x1024_S1x704x1024_1_0_0) (blk (iblk m d 4 t) 1 inb_S4x256x704_S1x256x704_1_0_0))
    (otherQ x (blk (iblk m d 8 t) 0 inb_S4x704x1024_S1x704x1024_0_0_0) (blk (iblk m d 4 t) 0 inb_S4x256x704_S1x256x704_0_0_0))
    (fun y => resQ (eu R) (placeQ t y)) (fun r c => other_at A 0 r c h _ _) (fun r c => other_at A 1 r c h _ _) (fun r c => other_at A 2 r c h _ _) (fun r c => other_at A 3 r c h _ _) y
  by_cases hc : t.val % 32 = 0
  · rw [outsAt0_A m d t hc]; frame_out
    exact key _ (cur_A A t hc)
  · rw [outsAt0_B m d t hc]; frame_out
    exact key _ (cur_B A t hc _ (Memref.IsWhole.read_unread _ _))

theorem final4 (A : Args m d R) : (dats m 0 d).arrAt 14 (cfgs 0).N = resQ (fun a j => act (R.G a j) (R.U a j)) := by
  refine (dats m 0 d).arrAt_eq_of_covers 14 _ (by decide +kernel) fun t hf y => ?_
  blk_simp
  rw [after0_14, emb14]
  have key := four (actQ (blk (iblk m d 4 t) 3 inb_S4x256x704_S1x256x704_3_0_0) (blk (iblk m d 5 t) 3 inb_S4x256x704_S1x256x704_3_0_0))
    (actQ (blk (iblk m d 4 t) 2 inb_S4x256x704_S1x256x704_2_0_0) (blk (iblk m d 5 t) 2 inb_S4x256x704_S1x256x704_2_0_0))
    (actQ (blk (iblk m d 4 t) 1 inb_S4x256x704_S1x256x704_1_0_0) (blk (iblk m d 5 t) 1 inb_S4x256x704_S1x256x704_1_0_0))
    (actQ (blk (iblk m d 4 t) 0 inb_S4x256x704_S1x256x704_0_0_0) (blk (iblk m d 5 t) 0 inb_S4x256x704_S1x256x704_0_0_0))
    (fun y => resQ (fun a j => act (R.G a j) (R.U a j)) (placeQ t y)) (fun r c => act_at A 0 r c _ _) (fun r c => act_at A 1 r c _ _) (fun r c => act_at A 2 r c _ _) (fun r c => act_at A 3 r c _ _) y
  by_cases hc : t.val % 32 = 0
  · rw [outsAt0_A m d t hc]; frame_out
    exact key
  · rw [outsAt0_B m d t hc]; frame_out
    exact key

theorem final5 (A : Args m d R) : (dats m 0 d).arrAt 15 (cfgs 0).N = resL R := by
  refine (dats m 0 d).arrAt_eq_of_covers 15 _ (by decide +kernel) fun t hf y => ?_
  blk_simp
  have ey : ((View.whole main_v110_5).slice (win0_15.rect t)).emb y = ix2 (⟨(y 0).val, (y 0).isLt⟩ : Fin 8) (⟨(y 1).val, (y 1).isLt⟩ : Fin 1024) := by
    blk_ext [idx t]
  have hl := (flush0_15 t).mp hf
  have ht := (point_val t).2
  obtain ⟨k, c, rfl⟩ : ∃ a b, y = ix2 (a : Fin 8) (b : Fin 1024) := ⟨y 0, y 1, by funext i; fin_cases i <;> rfl⟩
  rw [after0_15, ey, (after A t.val t.isLt).l k c, show min (t.val + 2) 32 = 32 by omega, sum_tiles 256 32 rfl]
  rfl

end Cert.FfnKernelIdeal.Proofs

end
-- ==== Proof.FfnRef.lean ====
/-
  What the reference of the feed-forward block's backward call returns, at arguments with real entries.
-/
module

public import proofs.«01_k».proof.Proof.MixoutRef
public import proofs.«01_k».proof.Proof.FfnValue
public import proofs.«01_k».proof.Proof.Gen.FfnReferenceIdeal.Run
public import proofs.«01_k».proof.Proof.Gen.FfnReferenceIdeal.Read

@[expose] public section

set_option maxRecDepth 16384

noncomputable section

namespace Cert.FfnReferenceIdeal.Ref

open Idealize.ShloMosaic Idealize.ShloMosaic.TcCoe NormSpec AttnSpec NormHost FfnSpec
open Cert.FfnReferenceIdeal Cert.FfnReferenceIdeal.Gen Cert.FfnReferenceIdeal.Read
open Cert.MixoutReferenceIdeal.Ref (at1 at1_eq)
open Cert.FfnKernelIdeal.Proofs (Reals resX resF resQ resL ea eg eu)
open NormTile (dz lines)

abbrev Up := FVec Ideal S1024x2816 .f32
abbrev Down := FVec Ideal S2816x1024 .f32
abbrev Wide := FVec Ideal S8192x2816 .f32

structure Args (x : Mat) (wg wu : Up) (wd : Down) (s : FVec Ideal S1024 .f32) (d : Mat) : Prop where
  x : AllReal x
  wg : AllReal wg
  wu : AllReal wu
  wd : AllReal wd
  s : AllReal s
  d : AllReal d

/-- A product with one of the first two weights. -/
def prod (x : Mat) (w : Up) (a j : ℕ) : ℝ := ∑ k : Fin 1024, at2 x a k.val * at2 w k.val j

/-- The arrays that the kernel's closed form is stated of. -/
def reals (x : Mat) (wg wu : Up) (wd : Down) (s : FVec Ideal S1024 .f32) (d : Mat) : Reals where
  Z a k := alpha * at2 x a k + 1 / 2 * ∑ j : Fin 2816, act (prod x wg a j.val) (prod x wu a j.val) * at2 wd j.val k
  Y := at2 d
  S := at1 s
  G := prod x wg
  U := prod x wu
  Wg := at2 wg
  Wu := at2 wu
  Wd := at2 wd

variable {x : Mat} {wg wu : Up} {wd : Down} {s : FVec Ideal S1024 .f32} {d : Mat}

theorem v0_at (H : Args x wg wu wd s d) (t : Fin 8192) (j : Fin 2816) : (val_main_v0 (F := Ideal) x wg (ix2 t j) : EReal) = ((prod x wg t.val j.val : ℝ) : EReal) := by
  unfold val_main_v0; pointwise
  refine sum_coe _ (fun k : Fin 1024 => at2 x t.val k.val * at2 wg k.val j.val) fun k => ?_
  rw [EReal.coe_mul, ← at2_eq H.x t k, ← at2_eq H.wg k j]

theorem v1_at (H : Args x wg wu wd s d) (t : Fin 8192) (j : Fin 2816) : (val_main_v1 (F := Ideal) x wu (ix2 t j) : EReal) = ((prod x wu t.val j.val : ℝ) : EReal) := by
  unfold val_main_v1; pointwise
  refine sum_coe _ (fun k : Fin 1024 => at2 x t.val k.val * at2 wu k.val j.val) fun k => ?_
  rw [EReal.coe_mul, ← at2_eq H.x t k, ← at2_eq H.wu k j]

/-- The gate. -/
theorem gate_at (H : Args x wg wu wd s d) (t : Fin 8192) (j : Fin 2816) : (val_main_v2_2 (F := Ideal) x wg (ix2 t j) : EReal) = ((sgm (prod x wg t.val j.val) : ℝ) : EReal) := by
  have h := v0_at H t j
  rw [← Cert.FfnKernelIdeal.Proofs.logistic_eq, ← h]
  unfold val_main_v2_2 val_main_call0_v3 val_main_call0_v4 val_main_call0_v2 val_main_call0_v1 val_main_call0_v0 val_main_call0_cst val_main_call0_cst_0
  generalize val_main_v0 (F := Ideal) x wg = v
  pointwise
  rfl

theorem silu_at (H : Args x wg wu wd s d) (t : Fin 8192) (j : Fin 2816) :
    (val_main_v2_0 (F := Ideal) x wg (ix2 t j) : EReal) = ((prod x wg t.val j.val * sgm (prod x wg t.val j.val) : ℝ) : EReal) := by
  have h := v0_at H t j; have h' := gate_at H t j
  unfold val_main_v2_0
  generalize val_main_v0 (F := Ideal) x wg = v at h ⊢
  generalize val_main_v2_2 (F := Ideal) x wg = w at h' ⊢
  pointwise
  rw [h, h', EReal.coe_mul]

theorem slope_at (H : Args x wg wu wd s d) (t : Fin 8192) (j : Fin 2816) :
    (val_main_v2_1 (F := Ideal) x wg (ix2 t j) : EReal) = ((sgm (prod x wg t.val j.val) * (1 - sgm (prod x wg t.val j.val)) : ℝ) : EReal) := by
  have h' := gate_at H t j
  unfold val_main_v2_1 val_main_call0_v7 val_main_call0_v6 val_main_call0_cst_1
  generalize val_main_v2_2 (F := Ideal) x wg = w at h' ⊢
  pointwise
  rw [h', ← EReal.coe_one, ← EReal.coe_sub, EReal.coe_mul]

theorem act_at (H : Args x wg wu wd s d) (t : Fin 8192) (j : Fin 2816) :
    (val_main_v3 (F := Ideal) x wg wu (ix2 t j) : EReal) = ((act (prod x wg t.val j.val) (prod x wu t.val j.val) : ℝ) : EReal) := by
  have h := v1_at H t j; have h' := silu_at H t j
  unfold val_main_v3
  generalize val_main_v1 (F := Ideal) x wu = v at h ⊢
  generalize val_main_v2_0 (F := Ideal) x wg = w at h' ⊢
  pointwise
  rw [h, h', ← EReal.coe_mul]; rfl

/-- The rows that are normalised. -/
theorem v9_row (H : Args x wg wu wd s d) (t : Fin 8192) : Row (val_main_v9 (F := Ideal) x wg wu wd) t ((reals x wg wu wd s d).Z t.val) := by
  refine Row.add (z := fun k => alpha * at2 x t.val k) (a := fun k => 1 / 2 * ∑ j : Fin 2816, act (prod x wg t.val j.val) (prod x wu t.val j.val) * at2 wd j.val k) (fun k => ?_) fun k => ?_
  · unfold val_main_v6 val_main_v5 val_main_cst
    pointwise; rw [word_alpha, at2_eq H.x t k, ← EReal.coe_mul]
  · have h := act_at H t
    unfold val_main_v8 val_main_v7 val_main_cst_0 val_main_v4
    generalize val_main_v3 (F := Ideal) x wg wu = v at h ⊢
    pointwise
    rw [Cert.FfnKernelIdeal.Proofs.word_half, sum_coe _ (fun j : Fin 2816 => act (prod x wg t.val j.val) (prod x wu t.val j.val) * at2 wd j.val k.val) fun j => by
      rw [EReal.coe_mul, ← h j, ← at2_eq H.wd j k], ← EReal.coe_mul]

/-- The derivative of the normalised rows. -/
theorem v72_row (H : Args x wg wu wd s d) (t : Fin 8192) :
    Row (val_main_v72 (F := Ideal) x wg wu wd s d) t (dz (reals x wg wu wd s d).Z (at2 d) (at1 s) t.val) :=
  backH_row (x := val_main_v9 (F := Ideal) x wg wu wd) (y := scaleH d s) (v9_row H t) (scaleH_row (fun k => at2_eq H.d t k) (at1_eq H.s))

theorem half_row (H : Args x wg wu wd s d) (t : Fin 8192) :
    Row (val_main_v74 (F := Ideal) x wg wu wd s d) t (fun k => 1 / 2 * dz (reals x wg wu wd s d).Z (at2 d) (at1 s) t.val k) := fun k => by
  have h := v72_row H t k
  unfold val_main_v74 val_main_v73 val_main_cst_19
  generalize val_main_v72 (F := Ideal) x wg wu wd s d = v at h ⊢
  pointwise
  rw [h, Cert.FfnKernelIdeal.Proofs.word_half, ← EReal.coe_mul]

/-- The activation's gradient and its two factors'. -/
theorem ea_at (H : Args x wg wu wd s d) (t : Fin 8192) (j : Fin 2816) : (val_main_v77 (F := Ideal) x wg wu wd s d (ix2 t j) : EReal) = ((ea (reals x wg wu wd s d) t.val j.val : ℝ) : EReal) := by
  have h := half_row H t
  unfold val_main_v77
  generalize val_main_v74 (F := Ideal) x wg wu wd s d = v at h ⊢
  pointwise
  refine sum_coe _ (fun k : Fin 1024 => 1 / 2 * dz (reals x wg wu wd s d).Z (at2 d) (at1 s) t.val k.val * at2 wd j.val k.val) fun k => ?_
  rw [EReal.coe_mul, ← h k, ← at2_eq H.wd j k]

theorem eu_at (H : Args x wg wu wd s d) (t : Fin 8192) (j : Fin 2816) : (val_main_v78 (F := Ideal) x wg wu wd s d (ix2 t j) : EReal) = ((eu (reals x wg wu wd s d) t.val j.val : ℝ) : EReal) := by
  have h := ea_at H t j; have h' := silu_at H t j
  unfold val_main_v78
  generalize val_main_v77 (F := Ideal) x wg wu wd s d = v at h ⊢
  generalize val_main_v2_0 (F := Ideal) x wg = w at h' ⊢
  pointwise
  rw [h, h', ← EReal.coe_mul, mul_comm (G := ℝ)]; rfl

theorem eg_at (H : Args x wg wu wd s d) (t : Fin 8192) (j : Fin 2816) : (val_main_v80 (F := Ideal) x wg wu wd s d (ix2 t j) : EReal) = ((eg (reals x wg wu wd s d) t.val j.val : ℝ) : EReal) := by
  have h := ea_at H t j; have h0 := v0_at H t j; have h1 := v1_at H t j; have h2 := gate_at H t j; have h3 := slope_at H t j
  unfold val_main_v80 val_main_call1_v2 val_main_call1_v1 val_main_call1_v0 val_main_v79
  generalize val_main_v77 (F := Ideal) x wg wu wd s d = v at h ⊢
  generalize val_main_v0 (F := Ideal) x wg = v0 at h0 ⊢
  generalize val_main_v1 (F := Ideal) x wu = v1 at h1 ⊢
  generalize val_main_v2_2 (F := Ideal) x wg = v2 at h2 ⊢
  generalize val_main_v2_1 (F := Ideal) x wg = v3 at h3 ⊢
  pointwise
  rw [h, h0, h1, h2, h3]
  simp only [← EReal.coe_mul, ← EReal.coe_add]
  refine congrArg _ ?_
  show _ = dgate (ea (reals x wg wu wd s d) t.val j.val) (prod x wg t.val j.val) (prod x wu t.val j.val)
  unfold dgate
  ring

theorem quarters (f : ℕ → ℝ) : ∑ q ∈ Finset.range 4, ∑ c : Fin 704, f (q * 704 + c.val) = ∑ j : Fin 2816, f j.val := by
  rw [Finset.sum_range]
  exact @Fin.sum_mul_add_congr ℝ inferInstance 2816 4 704 (fun s c => f (s.val * 704 + c.val)) (fun j => f j.val) (fun _ _ _ => rfl) rfl

theorem resultX (H : Args x wg wu wd s d) : val_main_v84 (F := Ideal) x wg wu wd s d = resX (reals x wg wu wd s d) := by
  funext i
  obtain ⟨t, k, rfl⟩ : ∃ a b, i = ix2 (a : Fin 8192) (b : Fin 1024) := ⟨i 0, i 1, by funext i; fin_cases i <;> rfl⟩
  have h := v72_row H t k; have hg := eg_at H t; have hu := eu_at H t
  unfold val_main_v84 val_main_v83 val_main_v82 val_main_v81 val_main_v76 val_main_v75 val_main_cst_20
  generalize val_main_v72 (F := Ideal) x wg wu wd s d = v at h ⊢
  generalize val_main_v80 (F := Ideal) x wg wu wd s d = v1 at hg ⊢
  generalize val_main_v78 (F := Ideal) x wg wu wd s d = v2 at hu ⊢
  pointwise
  rw [sum_coe _ (fun j : Fin 2816 => eg (reals x wg wu wd s d) t.val j.val * at2 wg k.val j.val) fun j => by rw [EReal.coe_mul, ← hg j, ← at2_eq H.wg k j],
    sum_coe _ (fun j : Fin 2816 => eu (reals x wg wu wd s d) t.val j.val * at2 wu k.val j.val) fun j => by rw [EReal.coe_mul, ← hu j, ← at2_eq H.wu k j],
    h, word_alpha, ← EReal.coe_mul, ← EReal.coe_add, ← EReal.coe_add]
  refine congrArg _ ?_
  show _ = Cert.FfnKernelIdeal.Proofs.ex (reals x wg wu wd s d) 4 t.val k.val
  unfold Cert.FfnKernelIdeal.Proofs.ex
  rw [Finset.sum_add_distrib, quarters (fun j => eg (reals x wg wu wd s d) t.val j * (reals x wg wu wd s d).Wg k.val j),
    quarters (fun j => eu (reals x wg wu wd s d) t.val j * (reals x wg wu wd s d).Wu k.val j), ← add_assoc]
  rfl

theorem resultF (H : Args x wg wu wd s d) : val_main_v89 (F := Ideal) x wg wu wd s d = resF (reals x wg wu wd s d) := by
  funext i
  obtain ⟨t, k, rfl⟩ : ∃ a b, i = ix2 (a : Fin 8192) (b : Fin 1024) := ⟨i 0, i 1, by funext i; fin_cases i <;> rfl⟩
  have h := half_row H t k
  unfold val_main_v89
  generalize val_main_v74 (F := Ideal) x wg wu wd s d = v at h ⊢
  pointwise; rw [h]; rfl

/-- A wide array laid out in four blocks of columns. -/
theorem blocks (v : Wide) (f : ℕ → ℕ → ℝ) (h : ∀ (t : Fin 8192) (j : Fin 2816), v (ix2 t j) = ((f t.val j.val : ℝ) : EReal)) :
    truncf .bf16 (transpose S4x8192x704 [1, 0, 2] (shapeCast S8192x4x704 v shapeCasts_S8192x2816_S8192x4x704) transposes_S8192x4x704_S4x8192x704_1_0_2 : FVec Ideal S4x8192x704 .f32) bitsLt_bf16_f32 = resQ f := by
  funext i
  obtain ⟨q, t, c, rfl⟩ : ∃ q t c, i = ix3 (q : Fin 4) (t : Fin 8192) (c : Fin 704) := ⟨i 0, i 1, i 2, by funext i; fin_cases i <;> rfl⟩
  refine Eq.trans ?_ (h t ⟨q.val * 704 + c.val, by omega⟩)
  pointwise

theorem resultG (H : Args x wg wu wd s d) : val_main_v92 (F := Ideal) x wg wu wd s d = resQ (eg (reals x wg wu wd s d)) := blocks _ _ (eg_at H)
theorem resultU (H : Args x wg wu wd s d) : val_main_v95 (F := Ideal) x wg wu wd s d = resQ (eu (reals x wg wu wd s d)) := blocks _ _ (eu_at H)
theorem resultA (H : Args x wg wu wd s d) : val_main_v98 (F := Ideal) x wg wu = resQ (fun a j => act ((reals x wg wu wd s d).G a j) ((reals x wg wu wd s d).U a j)) := blocks _ _ (act_at H)

theorem resultL (H : Args x wg wu wd s d) : val_main_v88 (F := Ideal) x wg wu wd d = resL (reals x wg wu wd s d) := by
  funext i
  obtain ⟨r, k, rfl⟩ : ∃ a b, i = ix2 (a : Fin 8) (b : Fin 1024) := ⟨i 0, i 1, by funext i; fin_cases i <;> rfl⟩
  refine (lnH_at (x := val_main_v9 (F := Ideal) x wg wu wd) (y := d) (v9_row H) (fun t k => at2_eq H.d t k) r k).trans ?_
  show _ = ((lines (reals x wg wu wd s d).Z (at2 d) r.val k.val : ℝ) : EReal)
  unfold lines
  simp only [mul_comm]

end Cert.FfnReferenceIdeal.Ref

end
-- ==== Proof.FfnHost.lean ====
/-
  The host lines before the feed-forward block's backward kernel: the weights in four blocks, and what the forward call saves.
-/
module

public import proofs.«01_k».proof.Proof.FfnRef

@[expose] public section

set_option maxRecDepth 16384

noncomputable section

namespace Cert.FfnKernelIdeal.Host

open Idealize.ShloMosaic Idealize.ShloMosaic.TcCoe Idealize.SL.Sem AttnSpec NormSpec FfnSpec
open Cert.FfnKernelIdeal Cert.FfnKernelIdeal.Gen
open Cert.FfnReferenceIdeal.Ref (prod)

abbrev Mat := FVec Ideal S8192x1024 .f32
abbrev Up := FVec Ideal S1024x2816 .f32
abbrev Down := FVec Ideal S2816x1024 .f32
abbrev Quarter := FVec Ideal S8192x704 .f32

/-- The weights in four blocks of columns, or of rows. -/
def upB (w : Up) : FVec Ideal S4x1024x704 .bf16 :=
  transpose S4x1024x704 [1, 0, 2] (shapeCast S1024x4x704 (truncf .bf16 w bitsLt_bf16_f32) shapeCasts_S1024x2816_S1024x4x704) transposes_S1024x4x704_S4x1024x704_1_0_2
def downB (w : Down) : FVec Ideal S4x704x1024 .bf16 := shapeCast S4x704x1024 (truncf .bf16 w bitsLt_bf16_f32) shapeCasts_S2816x1024_S4x704x1024

/-- One block's product, activation and contribution. -/
def upQ (q : ℕ) (h : S4x1024x704.Slices ![q, 0, 0] S1x1024x704) (x : Mat) (w : FVec Ideal S4x1024x704 .bf16) : Quarter :=
  Host.dotGeneral dot_S8192x1024_S1024x704_S8192x704_1_0_0_1_n_n none (truncf .bf16 x bitsLt_bf16_f32)
    (shapeCast S1024x704 (extractStridedSlice S1x1024x704 ![q, 0, 0] w h) shapeCasts_S1x1024x704_S1024x704)
def one : Quarter := broadcastInDim S8192x704 ![] bcast_S_S8192x704 (constant S_ .f32 0x3F800000#32 : FVec Ideal S_ .f32)
def actH (g u : Quarter) : Quarter := mulf (mulf g (Host.divf one (addf one (Host.exp (Host.negf g))))) u
def downQ (q : ℕ) (h : S4x704x1024.Slices ![q, 0, 0] S1x704x1024) (a : Quarter) (w : FVec Ideal S4x704x1024 .bf16) : Mat :=
  Host.dotGeneral dot_S8192x704_S704x1024_S8192x1024_1_0_0_1_n_n none (truncf .bf16 a bitsLt_bf16_f32)
    (shapeCast S704x1024 (extractStridedSlice S1x704x1024 ![q, 0, 0] w h) shapeCasts_S1x704x1024_S704x1024)
/-- Four blocks in one array. -/
def layer (a : Quarter) : FVec Ideal S1x8192x704 .bf16 := broadcastInDim S1x8192x704 ![1, 2] bcast_S8192x704_S1x8192x704_1_2 (truncf .bf16 a bitsLt_bf16_f32)
def stackH (a b c e : FVec Ideal S1x8192x704 .bf16) : FVec Ideal S4x8192x704 .bf16 :=
  concatenate S4x8192x704 0 [⟨S1x8192x704, a⟩, ⟨S1x8192x704, b⟩, ⟨S1x8192x704, c⟩, ⟨S1x8192x704, e⟩]
    concatenates_S1x8192x704_S1x8192x704_S1x8192x704_S1x8192x704_S4x8192x704_d0

def up0 := upQ 0 slices_S4x1024x704_S1x1024x704_0_0_0
def up1 := upQ 1 slices_S4x1024x704_S1x1024x704_1_0_0
def up2 := upQ 2 slices_S4x1024x704_S1x1024x704_2_0_0
def up3 := upQ 3 slices_S4x1024x704_S1x1024x704_3_0_0

def wideH (x : Mat) (w : Up) : FVec Ideal S4x8192x704 .bf16 :=
  stackH (layer (up0 x (upB w))) (layer (up1 x (upB w))) (layer (up2 x (upB w))) (layer (up3 x (upB w)))
def const (w : BitVec 32) : Mat := broadcastInDim S8192x1024 ![] bcast_S_S8192x1024 (constant S_ .f32 w : FVec Ideal S_ .f32)
def accH (x : Mat) (wg wu : Up) (wd : Down) : Mat :=
  addf (addf (addf (addf (const 0x00000000#32) (downQ 0 slices_S4x704x1024_S1x704x1024_0_0_0 (actH (up0 x (upB wg)) (up0 x (upB wu))) (downB wd)))
    (downQ 1 slices_S4x704x1024_S1x704x1024_1_0_0 (actH (up1 x (upB wg)) (up1 x (upB wu))) (downB wd)))
    (downQ 2 slices_S4x704x1024_S1x704x1024_2_0_0 (actH (up2 x (upB wg)) (up2 x (upB wu))) (downB wd)))
    (downQ 3 slices_S4x704x1024_S1x704x1024_3_0_0 (actH (up3 x (upB wg)) (up3 x (upB wu))) (downB wd))
def normed (x : Mat) (wg wu : Up) (wd : Down) : Mat := addf (mulf (const 0x3FD744FD#32) x) (mulf (const 0x3F000000#32) (accH x wg wu wd))

section
variable (σ : Valuation τ sig (Elt Ideal))

theorem seg0_wg : StableHlo.after (hostOps0 (F := Ideal)) σ (Proc.devRef .tc main_v2) = upB (σ (Proc.devRef .tc main_arg1)) := by rfl
theorem seg0_wu : StableHlo.after (hostOps0 (F := Ideal)) σ (Proc.devRef .tc main_v5) = upB (σ (Proc.devRef .tc main_arg2)) := by rfl
theorem seg0_wd : StableHlo.after (hostOps0 (F := Ideal)) σ (Proc.devRef .tc main_v7) = downB (σ (Proc.devRef .tc main_arg3)) := by rfl
theorem seg0_g : StableHlo.after (hostOps0 (F := Ideal)) σ (Proc.devRef .tc main_v103) = wideH (σ (Proc.devRef .tc main_arg0)) (σ (Proc.devRef .tc main_arg1)) := by rfl
theorem seg0_u : StableHlo.after (hostOps0 (F := Ideal)) σ (Proc.devRef .tc main_v108) = wideH (σ (Proc.devRef .tc main_arg0)) (σ (Proc.devRef .tc main_arg2)) := by rfl
theorem seg0_z : StableHlo.after (hostOps0 (F := Ideal)) σ (Proc.devRef .tc main_v98)
    = normed (σ (Proc.devRef .tc main_arg0)) (σ (Proc.devRef .tc main_arg1)) (σ (Proc.devRef .tc main_arg2)) (σ (Proc.devRef .tc main_arg3)) := by rfl
theorem seg0_s : StableHlo.after (hostOps0 (F := Ideal)) σ (Proc.devRef .tc main_v109)
    = (broadcastInDim S1x1024 ![1] bcast_S1024_S1x1024_1 (σ (Proc.devRef .tc main_arg4) : FVec Ideal S1024 .f32) : FVec Ideal S1x1024 .f32) := by rfl
theorem seg0_d : StableHlo.after (hostOps0 (F := Ideal)) σ (Proc.devRef .tc main_arg6) = σ (Proc.devRef .tc main_arg6) := by rfl

end

theorem upB_at {w : Up} (hw : AllReal w) (q : Fin 4) (k : Fin 1024) (c : Fin 704) : upB w (ix3 q k c) = ((at2 w k.val (q.val * 704 + c.val) : ℝ) : EReal) := by
  refine Eq.trans ?_ (at2_eq hw k ⟨q.val * 704 + c.val, by omega⟩)
  unfold upB
  pointwise

theorem downB_at {w : Down} (hw : AllReal w) (q : Fin 4) (c : Fin 704) (k : Fin 1024) : downB w (ix3 q c k) = ((at2 w (q.val * 704 + c.val) k.val : ℝ) : EReal) := by
  refine Eq.trans ?_ (at2_eq hw ⟨q.val * 704 + c.val, by omega⟩ k)
  unfold downB
  pointwise

/-- A block's product. -/
theorem upQ_at {x : Mat} {w : Up} (hx : AllReal x) (hw : AllReal w) (q : Fin 4) (h) (t : Fin 8192) (c : Fin 704) :
    upQ q.val h x (upB w) (ix2 t c) = ((prod x w t.val (q.val * 704 + c.val) : ℝ) : EReal) := by
  have hb := fun k => upB_at hw q k c
  unfold upQ
  generalize upB w = v at hb ⊢
  pointwise
  refine sum_coe _ (fun k : Fin 1024 => at2 x t.val k.val * at2 w k.val (q.val * 704 + c.val)) fun k => ?_
  rw [EReal.coe_mul, ← at2_eq hx t k, ← hb k]

theorem actH_at {g u : Quarter} {t : Fin 8192} {c : Fin 704} {p q : ℝ} (hg : g (ix2 t c) = (p : EReal)) (hu : u (ix2 t c) = (q : EReal)) :
    actH g u (ix2 t c) = ((act p q : ℝ) : EReal) := by
  have e : (Ideal.div 1 (1 + Ideal.exp (-(p : EReal)))) = ((sgm p : ℝ) : EReal) := Cert.FfnKernelIdeal.Proofs.logistic_eq p
  unfold actH one
  pointwise
  rw [hg, hu, e, ← EReal.coe_mul, ← EReal.coe_mul]
  rfl

/-- What block `q` adds to a row of the down product. -/
def part (x : Mat) (wg wu : Up) (wd : Down) (a k q : ℕ) : ℝ :=
  ∑ c : Fin 704, act (prod x wg a (q * 704 + c.val)) (prod x wu a (q * 704 + c.val)) * at2 wd (q * 704 + c.val) k

theorem downQ_at {x : Mat} {wg wu : Up} {wd : Down} (hd : AllReal wd) (q : Fin 4) (h) (a : Quarter) (t : Fin 8192) (k : Fin 1024)
    (ha : ∀ c : Fin 704, a (ix2 t c) = ((act (prod x wg t.val (q.val * 704 + c.val)) (prod x wu t.val (q.val * 704 + c.val)) : ℝ) : EReal)) :
    downQ q.val h a (downB wd) (ix2 t k) = ((part x wg wu wd t.val k.val q.val : ℝ) : EReal) := by
  have hb := fun c => downB_at hd q c k
  unfold downQ
  generalize downB wd = v at hb ⊢
  pointwise
  refine sum_coe _ (fun c : Fin 704 => act (prod x wg t.val (q.val * 704 + c.val)) (prod x wu t.val (q.val * 704 + c.val)) * at2 wd (q.val * 704 + c.val) k.val) fun c => ?_
  rw [EReal.coe_mul, ← ha c, ← hb c]

theorem wideH_at {x : Mat} {w : Up} (hx : AllReal x) (hw : AllReal w) (q : Fin 4) (t : Fin 8192) (c : Fin 704) :
    wideH x w (ix3 q t c) = ((prod x w t.val (q.val * 704 + c.val) : ℝ) : EReal) := by
  have h0 := upQ_at hx hw 0 slices_S4x1024x704_S1x1024x704_0_0_0 t c
  have h1 := upQ_at hx hw 1 slices_S4x1024x704_S1x1024x704_1_0_0 t c
  have h2 := upQ_at hx hw 2 slices_S4x1024x704_S1x1024x704_2_0_0 t c
  have h3 := upQ_at hx hw 3 slices_S4x1024x704_S1x1024x704_3_0_0 t c
  change up0 x (upB w) _ = _ at h0; change up1 x (upB w) _ = _ at h1; change up2 x (upB w) _ = _ at h2; change up3 x (upB w) _ = _ at h3
  unfold wideH stackH layer
  generalize up0 x (upB w) = v0 at h0 ⊢
  generalize up1 x (upB w) = v1 at h1 ⊢
  generalize up2 x (upB w) = v2 at h2 ⊢
  generalize up3 x (upB w) = v3 at h3 ⊢
  fin_cases q
  · refine Eq.trans ?_ h0; pointwise
  · refine Eq.trans ?_ h1; pointwise
  · refine Eq.trans ?_ h2; pointwise
  · refine Eq.trans ?_ h3; pointwise

/-- The rows that the kernel normalises. -/
theorem normed_at {x : Mat} {wg wu : Up} {wd : Down} (hx : AllReal x) (hg : AllReal wg) (hu : AllReal wu) (hd : AllReal wd) (t : Fin 8192) (k : Fin 1024) :
    normed x wg wu wd (ix2 t k) = ((alpha * at2 x t.val k.val + 1 / 2 * ∑ j : Fin 2816, act (prod x wg t.val j.val) (prod x wu t.val j.val) * at2 wd j.val k.val : ℝ) : EReal) := by
  have h0 := downQ_at hd 0 slices_S4x704x1024_S1x704x1024_0_0_0 (actH (up0 x (upB wg)) (up0 x (upB wu))) t k fun c => actH_at (upQ_at hx hg 0 _ t c) (upQ_at hx hu 0 _ t c)
  have h1 := downQ_at hd 1 slices_S4x704x1024_S1x704x1024_1_0_0 (actH (up1 x (upB wg)) (up1 x (upB wu))) t k fun c => actH_at (upQ_at hx hg 1 _ t c) (upQ_at hx hu 1 _ t c)
  have h2 := downQ_at hd 2 slices_S4x704x1024_S1x704x1024_2_0_0 (actH (up2 x (upB wg)) (up2 x (upB wu))) t k fun c => actH_at (upQ_at hx hg 2 _ t c) (upQ_at hx hu 2 _ t c)
  have h3 := downQ_at hd 3 slices_S4x704x1024_S1x704x1024_3_0_0 (actH (up3 x (upB wg)) (up3 x (upB wu))) t k fun c => actH_at (upQ_at hx hg 3 _ t c) (upQ_at hx hu 3 _ t c)
  have e := Cert.FfnReferenceIdeal.Ref.quarters fun j => act (prod x wg t.val j) (prod x wu t.val j) * at2 wd j k.val
  change ∑ q ∈ Finset.range 4, part x wg wu wd t.val k.val q = _ at e
  rw [← e, Finset.sum_range, Fin.sum_univ_four]
  have hxx := at2_eq hx t k
  unfold normed accH const
  pointwise
  refine (congrArg₂ (· + ·) (congrArg₂ (· * ·) word_alpha hxx) (congrArg₂ (· * ·) Cert.FfnKernelIdeal.Proofs.word_half (congrArg₂ (· + ·) (congrArg₂ (· + ·) (congrArg₂ (· + ·) h0 h1) h2) h3))).trans ?_
  simp only [EReal.coe_add, EReal.coe_mul]
  rfl

end Cert.FfnKernelIdeal.Host

end
-- ==== Proof.FfnAlg.lean ====
/-
  The feed-forward block's backward kernel computes the gradients of the feed-forward block.
-/
module

public import proofs.«01_k».proof.Defs
public import proofs.«01_k».proof.Proof.Finite
public import proofs.«01_k».proof.Proof.AttnAlg
public import proofs.«01_k».proof.Proof.RestClaims
public import proofs.«01_k».proof.Proof.FfnHost

@[expose] public section

set_option maxRecDepth 16384

noncomputable section

namespace Cert.Pre_ffn_finite

open Idealize.ShloMosaic AttnSpec Cert.Proofs.Finite

theorem facts : Facts where
  bcast_S_S8192x1024 := by decide
  reducesTo_S8192x1024_S_d0_1 := by decide
  h_S_ := by decide
  bcast_S_S1024x2816 := by decide
  reducesTo_S1024x2816_S_d0_1 := by decide
  bcast_S_S2816x1024 := by decide
  reducesTo_S2816x1024_S_d0_1 := by decide
  bcast_S_S1024 := by decide
  reducesTo_S1024_S_d0 := by decide

/-- The precondition says that the arguments that are read are finite. -/
theorem reals [Facts] (x : FVec Ideal S8192x1024 .f32) (wg wu : FVec Ideal S1024x2816 .f32) (wd : FVec Ideal S2816x1024 .f32) (s b : FVec Ideal S1024 .f32) (d : FVec Ideal S8192x1024 .f32)
    (h : fn (F := Ideal) x wg wu wd s b d = fun _ => 1#1) : Cert.FfnReferenceIdeal.Ref.Args x wg wu wd s d := by
  have h0 := congrFun h (fun k => k.elim0)
  obtain ⟨h1, hd⟩ := Cert.Pre_attn_finite.both h0
  obtain ⟨h2, hs⟩ := Cert.Pre_attn_finite.both h1
  obtain ⟨h3, hwd⟩ := Cert.Pre_attn_finite.both h2
  obtain ⟨h4, hwu⟩ := Cert.Pre_attn_finite.both h3
  obtain ⟨hx, hwg⟩ := Cert.Pre_attn_finite.both h4
  exact ⟨fun i => real_of_all _ _ _ _ _ hx i, fun i => real_of_all _ _ _ _ _ hwg i, fun i => real_of_all _ _ _ _ _ hwu i,
    fun i => real_of_all _ _ _ _ _ hwd i, fun i => real_of_all _ _ _ _ _ hs i, fun i => real_of_all _ _ _ _ _ hd i⟩

end Cert.Pre_ffn_finite

namespace Cert.Proof

open Idealize.ShloMosaic Idealize.ShloMosaic.TcCoe Idealize.SL.Sem AttnSpec NormSpec FfnSpec

section
open Cert.FfnKernelIdeal Cert.FfnKernelIdeal.Gen Cert.FfnKernelIdeal.Proofs Cert.FfnKernelIdeal.Host Cert.FfnReferenceIdeal.Ref

variable (m : (ℓ : Loc Cert.FfnKernelIdeal.nD Cert.FfnKernelIdeal.τ Cert.FfnKernelIdeal.sig) → Buf (Elt Ideal) ℓ) (c : Dev Cert.FfnKernelIdeal.nD)

abbrev farg0 : FVec Ideal Cert.FfnKernelIdeal.S8192x1024 .f32 := m ((c.tc : Thread Cert.FfnKernelIdeal.nD Cert.FfnKernelIdeal.τ).loc Cert.FfnKernelIdeal.main_arg0)
abbrev farg1 : FVec Ideal Cert.FfnKernelIdeal.S1024x2816 .f32 := m ((c.tc : Thread Cert.FfnKernelIdeal.nD Cert.FfnKernelIdeal.τ).loc Cert.FfnKernelIdeal.main_arg1)
abbrev farg2 : FVec Ideal Cert.FfnKernelIdeal.S1024x2816 .f32 := m ((c.tc : Thread Cert.FfnKernelIdeal.nD Cert.FfnKernelIdeal.τ).loc Cert.FfnKernelIdeal.main_arg2)
abbrev farg3 : FVec Ideal Cert.FfnKernelIdeal.S2816x1024 .f32 := m ((c.tc : Thread Cert.FfnKernelIdeal.nD Cert.FfnKernelIdeal.τ).loc Cert.FfnKernelIdeal.main_arg3)
abbrev farg4 : FVec Ideal Cert.FfnKernelIdeal.S1024 .f32 := m ((c.tc : Thread Cert.FfnKernelIdeal.nD Cert.FfnKernelIdeal.τ).loc Cert.FfnKernelIdeal.main_arg4)
abbrev farg6 : FVec Ideal Cert.FfnKernelIdeal.S8192x1024 .f32 := m ((c.tc : Thread Cert.FfnKernelIdeal.nD Cert.FfnKernelIdeal.τ).loc Cert.FfnKernelIdeal.main_arg6)
abbrev fr : Reals := reals (farg0 m c) (farg1 m c) (farg2 m c) (farg3 m c) (farg4 m c) (farg6 m c)
abbrev FfnArgs : Prop := Cert.FfnReferenceIdeal.Ref.Args (farg0 m c) (farg1 m c) (farg2 m c) (farg3 m c) (farg4 m c) (farg6 m c)

/-- What the kernel is called on, as reals of the arguments. -/
theorem ffn_args (H : FfnArgs m c) : Cert.FfnKernelIdeal.Proofs.Args m c (fr m c) where
  z a k := by unfold V; rw [seg0_z]; exact normed_at H.x H.wg H.wu H.wd a k
  y a k := by unfold V; rw [seg0_d]; exact at2_eq H.d a k
  s k := by unfold V; rw [seg0_s]; pointwise; exact Cert.MixoutReferenceIdeal.Ref.at1_eq H.s k
  g q a j := by unfold V; rw [seg0_g]; exact wideH_at H.x H.wg q a j
  u q a j := by unfold V; rw [seg0_u]; exact wideH_at H.x H.wu q a j
  wg q k j := by unfold V; rw [seg0_wg]; exact upB_at H.wg q k j
  wu q k j := by unfold V; rw [seg0_wu]; exact upB_at H.wu q k j
  wd q j k := by unfold V; rw [seg0_wd]; exact downB_at H.wd q j k

variable (g : Dev Cert.FfnKernelIdeal.nD → PrngReg)

/-- Where the kernel's run ends: its six results in closed form, its arguments unchanged. -/
theorem ffn_kernel_run (H : ∀ c, FfnArgs m c) :
    θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
      r.2.mem ((c.tc : Thread Cert.FfnKernelIdeal.nD Cert.FfnKernelIdeal.τ).loc Cert.FfnKernelIdeal.main_v110_0) = resX (fr m c)
      ∧ r.2.mem ((c.tc : Thread Cert.FfnKernelIdeal.nD Cert.FfnKernelIdeal.τ).loc Cert.FfnKernelIdeal.main_v110_1) = resF (fr m c)
      ∧ r.2.mem ((c.tc : Thread Cert.FfnKernelIdeal.nD Cert.FfnKernelIdeal.τ).loc Cert.FfnKernelIdeal.main_v110_2) = resQ (eg (fr m c))
      ∧ r.2.mem ((c.tc : Thread Cert.FfnKernelIdeal.nD Cert.FfnKernelIdeal.τ).loc Cert.FfnKernelIdeal.main_v110_3) = resQ (eu (fr m c))
      ∧ r.2.mem ((c.tc : Thread Cert.FfnKernelIdeal.nD Cert.FfnKernelIdeal.τ).loc Cert.FfnKernelIdeal.main_v110_4) = resQ (fun a j => act ((fr m c).G a j) ((fr m c).U a j))
      ∧ r.2.mem ((c.tc : Thread Cert.FfnKernelIdeal.nD Cert.FfnKernelIdeal.τ).loc Cert.FfnKernelIdeal.main_v110_5) = resL (fr m c)
      ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)) := by
  refine (θ_run _ _ _).mono (fun r h c => ?_) (θ_run_and (Cert.FfnKernelIdeal.Gen.frame m g) (Cert.FfnKernelIdeal.Gen.run_main m g))
  obtain ⟨⟨hf, -⟩, hw⟩ := h
  have e0 : r.2.mem ((c.tc : Thread Cert.FfnKernelIdeal.nD Cert.FfnKernelIdeal.τ).loc Cert.FfnKernelIdeal.main_v110_0) = resX (fr m c) := by
    rw [← final0 (ffn_args m c (H c))]
    exact (hw c).1 10
  have e1 : r.2.mem ((c.tc : Thread Cert.FfnKernelIdeal.nD Cert.FfnKernelIdeal.τ).loc Cert.FfnKernelIdeal.main_v110_1) = resF (fr m c) := by
    rw [← final1 (ffn_args m c (H c))]
    exact (hw c).1 11
  have e2 : r.2.mem ((c.tc : Thread Cert.FfnKernelIdeal.nD Cert.FfnKernelIdeal.τ).loc Cert.FfnKernelIdeal.main_v110_2) = resQ (eg (fr m c)) := by
    rw [← final2 (ffn_args m c (H c))]
    exact (hw c).1 12
  have e3 : r.2.mem ((c.tc : Thread Cert.FfnKernelIdeal.nD Cert.FfnKernelIdeal.τ).loc Cert.FfnKernelIdeal.main_v110_3) = resQ (eu (fr m c)) := by
    rw [← final3 (ffn_args m c (H c))]
    exact (hw c).1 13
  have e4 : r.2.mem ((c.tc : Thread Cert.FfnKernelIdeal.nD Cert.FfnKernelIdeal.τ).loc Cert.FfnKernelIdeal.main_v110_4) = resQ (fun a j => act ((fr m c).G a j) ((fr m c).U a j)) := by
    rw [← final4 (ffn_args m c (H c))]
    exact (hw c).1 14
  have e5 : r.2.mem ((c.tc : Thread Cert.FfnKernelIdeal.nD Cert.FfnKernelIdeal.τ).loc Cert.FfnKernelIdeal.main_v110_5) = resL (fr m c) := by
    rw [← final5 (ffn_args m c (H c))]
    exact (hw c).1 15
  exact ⟨e0, e1, e2, e3, e4, e5, hf c⟩

end

/-- Where the reference's run ends: its six results as the read-out terms of its arguments. -/
theorem ffn_reference_run (m : (ℓ : Loc Cert.FfnReferenceIdeal.nD Cert.FfnReferenceIdeal.τ Cert.FfnReferenceIdeal.sig) → Buf (Elt Ideal) ℓ) (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r => ∀ c : Dev Cert.FfnReferenceIdeal.nD,
      r.2.mem ((c.tc : Thread Cert.FfnReferenceIdeal.nD Cert.FfnReferenceIdeal.τ).loc Cert.FfnReferenceIdeal.main_v84) = Cert.FfnReferenceIdeal.Read.val_main_v84 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg6))
      ∧ r.2.mem ((c.tc : Thread Cert.FfnReferenceIdeal.nD Cert.FfnReferenceIdeal.τ).loc Cert.FfnReferenceIdeal.main_v89) = Cert.FfnReferenceIdeal.Read.val_main_v89 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg6))
      ∧ r.2.mem ((c.tc : Thread Cert.FfnReferenceIdeal.nD Cert.FfnReferenceIdeal.τ).loc Cert.FfnReferenceIdeal.main_v92) = Cert.FfnReferenceIdeal.Read.val_main_v92 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg6))
      ∧ r.2.mem ((c.tc : Thread Cert.FfnReferenceIdeal.nD Cert.FfnReferenceIdeal.τ).loc Cert.FfnReferenceIdeal.main_v95) = Cert.FfnReferenceIdeal.Read.val_main_v95 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg6))
      ∧ r.2.mem ((c.tc : Thread Cert.FfnReferenceIdeal.nD Cert.FfnReferenceIdeal.τ).loc Cert.FfnReferenceIdeal.main_v98) = Cert.FfnReferenceIdeal.Read.val_main_v98 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2))
      ∧ r.2.mem ((c.tc : Thread Cert.FfnReferenceIdeal.nD Cert.FfnReferenceIdeal.τ).loc Cert.FfnReferenceIdeal.main_v88) = Cert.FfnReferenceIdeal.Read.val_main_v88 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg6))
      ∧ r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)) :=
  (θ_run _ _ _).mono (fun r h c => ⟨(h c).1.trans (Cert.FfnReferenceIdeal.Read.val_main_v84_eq (StableHlo.launchContents m c)),
    (h c).2.1.trans (Cert.FfnReferenceIdeal.Read.val_main_v89_eq (StableHlo.launchContents m c)),
    (h c).2.2.1.trans (Cert.FfnReferenceIdeal.Read.val_main_v92_eq (StableHlo.launchContents m c)),
    (h c).2.2.2.1.trans (Cert.FfnReferenceIdeal.Read.val_main_v95_eq (StableHlo.launchContents m c)),
    (h c).2.2.2.2.1.trans (Cert.FfnReferenceIdeal.Read.val_main_v98_eq (StableHlo.launchContents m c)),
    (h c).2.2.2.2.2.1.trans (Cert.FfnReferenceIdeal.Read.val_main_v88_eq (StableHlo.launchContents m c)),
    (h c).2.2.2.2.2.2⟩) (Cert.FfnReferenceIdeal.Value.run (F := Ideal) m g)

open Cert.FfnKernelIdeal.Proofs Cert.FfnReferenceIdeal.Ref in
theorem ffn_algebraic : @Cert.algebraic_FfnKernelIdeal_FfnReferenceIdeal_pre_ffn_finite Cert.FfnKernelIdeal.Gen.facts Cert.FfnReferenceIdeal.Gen.facts Cert.Pre_ffn_finite.facts := by
  intro m g m' g' hpre hagree
  haveI := Cert.Pre_ffn_finite.facts
  have H : ∀ c, FfnArgs m c := fun c => Cert.Pre_ffn_finite.reals _ _ _ _ _ _ _ (hpre c)
  refine ⟨fun c => resX (fr m c), fun c => resF (fr m c), fun c => resQ (eg (fr m c)), fun c => resQ (eu (fr m c)), fun c => resQ (fun a j => act ((fr m c).G a j) ((fr m c).U a j)), fun c => resL (fr m c), ?_, ?_⟩
  · exact ffn_kernel_run m g H
  · refine (θ_run _ _ _).mono (fun r h c => ?_) (ffn_reference_run m' g')
    obtain ⟨e1, e2, e3, e4, e5, e6, e7⟩ := h c
    obtain ⟨a0, a1, a2, a3, a4, a5, a6⟩ := hagree c
    rw [a0, a1, a2, a3, a4, a6] at e1 e2 e3 e4
    rw [a0, a1, a2] at e5
    rw [a0, a1, a2, a3, a6] at e6
    exact ⟨e1.trans (resultX (H c)), e2.trans (resultF (H c)), e3.trans (resultG (H c)), e4.trans (resultU (H c)), e5.trans (resultA (H c)), e6.trans (resultL (H c)), e7⟩

end Cert.Proof

end
-- ==== Proof.BiasRef.lean ====
/-
  The gradient of the relative biases: which entries of the table's gradient add up to one of its entries, and the
  reference's scatter read so.
-/
module

public import proofs.«01_k».proof.Proof.MixoutRef
public import proofs.«01_k».proof.Proof.RestClaims

@[expose] public section

set_option maxRecDepth 16384

noncomputable section

open Idealize.ShloMosaic Idealize.ShloMosaic.TcCoe Idealize.SL.Sem

namespace BiasSpec

/-- The relative column of a key column and a query column: their distance, at most 15 either way, from 15 on. -/
def rel (k q : ℕ) : ℕ := min 30 (k + 15 - q)

theorem rel_lt (k q : ℕ) : rel k q < 31 := by unfold rel; omega

/-- The same in words, as both programs compute it. -/
def relW (k q : ℕ) : BitVec 32 := IntOp.minsi 15#32 (IntOp.maxsi 4294967281#32 (BitVec.ofNat 32 k - BitVec.ofNat 32 q)) + 15#32

theorem relW_eq : ∀ k q : Fin 64, relW k.val q.val = BitVec.ofNat 32 (rel k.val q.val) := by decide +kernel

/-- Entry (`R`, `L`) of the gradient: row `R` of the table, and head and relative column in `L`. -/
def grad (x : FVec Ideal ⟨3, ![2, 960, 256]⟩ .f32) (R : Fin 30) (L : Fin 128) : EReal :=
  ∑ k : Fin 64, ∑ q : Fin 64, if L.val % 32 = rel k.val q.val then
    x (ix3 (⟨R.val / 15, by omega⟩ : Fin 2) (⟨R.val % 15 * 64 + k.val, by omega⟩ : Fin 960) (⟨L.val / 32 * 64 + q.val, by omega⟩ : Fin 256)) else 0

end BiasSpec

namespace Cert.BiasReferenceIdeal.Ref

open Cert.BiasReferenceIdeal Cert.BiasReferenceIdeal.Gen Cert.BiasReferenceIdeal.Read BiasSpec

abbrev sc := scatter_S8x15x31_S64x64x1_S8x15x64x64_01_2_2_2

/-- Where an entry of the table's gradient is added. -/
theorem lands (idx : IVec S64x64x1 32) (h' h : Fin 8) (r' r : Fin 15) (q k : Fin 64) (o : Fin 31) (n : ℕ) (hn : (idx (ix3 q k (0 : Fin 1))).toInt = n) (hlt : n < 31) :
    sc.resultIdx? (ix4 h' r' q k) idx = some (ix3 h r o) ↔ h' = h ∧ r' = r ∧ o.val = n := by
  have s0 : sc.start (ix4 h' r' q k) idx 0 = 0 := rfl
  have s1 : sc.start (ix4 h' r' q k) idx 1 = 0 := rfl
  have s2 : sc.start (ix4 h' r' q k) idx 2 = (n : ℤ) := by
    rw [← hn]
    unfold ScatterDims.start
    rw [dif_pos (by decide)]
    refine congrArg (fun i => (idx i).toInt) (funext fun a => ?_)
    fin_cases a <;> rfl
  have w0 : sc.window (ix4 h' r' q k) 0 = h'.val := rfl
  have w1 : sc.window (ix4 h' r' q k) 1 = r'.val := rfl
  have w2 : sc.window (ix4 h' r' q k) 2 = 0 := rfl
  have ok : ∀ a : Fin 3, 0 ≤ sc.start (ix4 h' r' q k) idx a + sc.window (ix4 h' r' q k) a ∧ sc.start (ix4 h' r' q k) idx a + sc.window (ix4 h' r' q k) a < S8x15x31.size a := fun a => by
    match a with
    | 0 => rw [s0, w0]; show _ ∧ _ < ((8 : ℕ) : ℤ); omega
    | 1 => rw [s1, w1]; show _ ∧ _ < ((15 : ℕ) : ℤ); omega
    | 2 => rw [s2, w2]; show _ ∧ _ < ((31 : ℕ) : ℤ); omega
  unfold ScatterDims.resultIdx?
  rw [dif_pos ok, Option.some.injEq, funext_iff]
  constructor
  · intro e
    have e0 := congrArg Fin.val (e 0)
    have e1 := congrArg Fin.val (e 1)
    have e2 := congrArg Fin.val (e 2)
    simp only [s0, s1, s2, w0, w1, w2] at e0 e1 e2
    change _ = h.val at e0; change _ = r.val at e1; change _ = o.val at e2
    refine ⟨Fin.ext ?_, Fin.ext ?_, ?_⟩ <;> omega
  · rintro ⟨rfl, rfl, e⟩ a
    refine Fin.ext ?_
    match a with
    | 0 => simp only [s0, w0]; show _ = h'.val; omega
    | 1 => simp only [s1, w1]; show _ = r'.val; omega
    | 2 => simp only [s2, w2]; show _ = o.val; omega

/-- The words that say where. -/
theorem words_at (q k : Fin 64) : (val_main_v18 (F := Ideal) (ix3 q k (0 : Fin 1)) : BitVec 32).toInt = (rel k.val q.val : ℤ) := by
  have e : (val_main_v12 (F := Ideal) (ix2 q k) : BitVec 32) = relW k.val q.val := by
    unfold val_main_v12 val_main_v10 val_main_call0_v4 val_main_call0_v3 val_main_call0_v2 val_main_call0_v1 val_main_call0_v0 val_main_v9 val_main_v8 val_main_v7 val_main_v6 val_main_v5 val_main_v4 val_main_v11 val_main_c val_main_c_0 val_main_c_1
    pointwise
    rfl
  unfold val_main_v18 val_main_v17 val_main_v14 val_main_v16 val_main_v13 val_main_v15 val_main_c_2 val_main_c_3
  generalize val_main_v12 (F := Ideal) = w at e ⊢
  pointwise
  rw [e, relW_eq]
  have key : ∀ n : Fin 31, BitVec.toInt (Scalar.select (IntOp.cmpi .slt (BitVec.ofNat 32 n.val) 0#32) (IntOp.addi (BitVec.ofNat 32 n.val) 31#32) (BitVec.ofNat 32 n.val)) = (n.val : ℤ) := by decide +kernel
  exact key ⟨_, rel_lt k.val q.val⟩

variable (x : FVec Ideal S2x960x256 .f32)

theorem table_at (h : Fin 8) (r : Fin 15) (q k : Fin 64) :
    val_main_v2 (F := Ideal) x (ix4 h r q k) = x (ix3 (⟨h.val / 4, by omega⟩ : Fin 2) (⟨r.val * 64 + k.val, by omega⟩ : Fin 960) (⟨h.val % 4 * 64 + q.val, by omega⟩ : Fin 256)) := by
  unfold val_main_v2 val_main_v1 val_main_v0
  pointwise

theorem scatter_at (h : Fin 8) (r : Fin 15) (o : Fin 31) :
    val_main_v21 (F := Ideal) x (ix3 h r o) = ∑ k : Fin 64, ∑ q : Fin 64, if o.val = rel k.val q.val then val_main_v2 (F := Ideal) x (ix4 h r q k) else 0 := by
  have hw := words_at
  unfold val_main_v21
  generalize val_main_v18 (F := Ideal) = w at hw ⊢
  generalize val_main_v2 (F := Ideal) x = v
  have e0 : val_main_v20 (F := Ideal) (ix3 h r o) = 0 := by unfold val_main_v20 val_main_cst_4; pointwise
  show val_main_v20 (F := Ideal) (ix3 h r o) + ∑ j ∈ Finset.univ.filter (fun j => sc.resultIdx? j w = some (ix3 h r o)), v j = _
  rw [e0, zero_add, ← Fintype.sum_prod_type' (fun k q : Fin 64 => if o.val = rel k.val q.val then v (ix4 h r q k) else 0), ← Finset.sum_filter]
  symm
  have L := fun h' r' q k => lands w h' h r' r q k o _ (hw q k) (rel_lt _ _)
  refine Finset.sum_bij' (fun p _ => ix4 h r p.2 p.1) (fun j _ => ((j 3 : Fin 64), (j 2 : Fin 64))) ?_ ?_ ?_ ?_ ?_
  · intro p hp
    rw [Finset.mem_filter] at hp ⊢
    exact ⟨Finset.mem_univ _, (L h r p.2 p.1).2 ⟨rfl, rfl, hp.2⟩⟩
  · intro j hj
    rw [Finset.mem_filter] at hj ⊢
    have e : j = ix4 (j 0 : Fin 8) (j 1 : Fin 15) (j 2 : Fin 64) (j 3 : Fin 64) := eq_ix4 j
    rw [e] at hj
    exact ⟨Finset.mem_univ _, ((L _ _ _ _).1 hj.2).2.2⟩
  · intro p hp; rfl
  · intro j hj
    rw [Finset.mem_filter] at hj
    have e : j = ix4 (j 0 : Fin 8) (j 1 : Fin 15) (j 2 : Fin 64) (j 3 : Fin 64) := eq_ix4 j
    rw [e] at hj
    obtain ⟨a, b, -⟩ := (L _ _ _ _).1 hj.2
    show ix4 h r (j 2 : Fin 64) (j 3 : Fin 64) = j
    rw [← a, ← b]
    exact e.symm
  · intro p hp; rfl

/-- The reference's result. -/
theorem result_at (R : Fin 30) (L : Fin 128) : val_main_v26 (F := Ideal) x (ix2 R L) = grad x R L := by
  have hs := scatter_at x
  unfold val_main_v26 val_main_v25 val_main_v23 val_main_v22
  generalize val_main_v21 (F := Ideal) x = v at hs ⊢
  pointwise
  unfold grad
  split
  · rename_i hL
    rw [hs]
    refine Finset.sum_congr rfl fun k _ => Finset.sum_congr rfl fun q _ => ?_
    rw [table_at]
    refine if_congr Iff.rfl (congrArg x ?_) rfl
    congr 1 <;> refine Fin.ext ?_ <;> simp only <;> omega
  · rename_i hL
    have z : ∀ k q : Fin 64, ¬ L.val % 32 = rel k.val q.val := fun k q e => hL (e ▸ rel_lt _ _)
    simp only [z, if_false, Finset.sum_const_zero]
    unfold val_main_v24 val_main_cst_5
    pointwise

end Cert.BiasReferenceIdeal.Ref

end
-- ==== Proof.BiasAlg.lean ====
/-
  The gradient of the relative biases as the kernel computes it: a product with zeros and ones, and that it is the sum
  that the reference's scatter gives.
-/
module

public import proofs.«01_k».proof.Defs
public import proofs.«01_k».proof.Proof.BiasRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open BiasSpec

namespace Cert.BiasKernelIdeal.Proofs

open Cert.BiasKernelIdeal Cert.BiasKernelIdeal.Gen

/-- The array of zeros and ones, before it is put in two axes. -/
def onehotW : IVec S64x4x64x4x32 1 :=
  let k : IVec S64x4x64x4x32 32 := iotaInDim S64x4x64x4x32 32 0
  let q : IVec S64x4x64x4x32 32 := iotaInDim S64x4x64x4x32 32 2
  let c (w : BitVec 32) : IVec S64x4x64x4x32 32 := broadcastInDim S64x4x64x4x32 ![] bcast_S_S64x4x64x4x32 (id (constantI S_ 32 w))
  andi (cmpi .eq (iotaInDim S64x4x64x4x32 32 3) (iotaInDim S64x4x64x4x32 32 1))
    (cmpi .eq (iotaInDim S64x4x64x4x32 32 4) (addi (minsi (c 15#32) (maxsi (c 4294967281#32) (subi k q))) (broadcastInDim S64x4x64x4x32 ![] bcast_S_S64x4x64x4x32 (constantI S_ 32 15#32))))
def onehot : FVec Ideal S16384x128 .bf16 := truncf .bf16 (shapeCast S16384x128 (uitofp .f32 onehotW : FVec Ideal S64x4x64x4x32 .f32) shapeCasts_S64x4x64x4x32_S16384x128) bitsLt_bf16_f32

section
variable (σ : Valuation τ sig (Elt Ideal))
theorem seg0_x : StableHlo.after (List.flatten [hostOps0 (F := Ideal), hostOps0_1, hostOps0_2]) σ (Proc.devRef .tc main_v0) = (shapeCast S30x16384 (σ (Proc.devRef .tc main_arg0) : FVec Ideal S2x960x256 .f32) shapeCasts_S2x960x256_S30x16384 : FVec Ideal S30x16384 .f32) := by rfl
theorem seg0_w : StableHlo.after (List.flatten [hostOps0 (F := Ideal), hostOps0_1, hostOps0_2]) σ (Proc.devRef .tc main_v15) = onehot := by rfl
end

/-- Two small numbers' words are equal where the numbers are. -/
theorem eq_words (a b : ℕ) (ha : a < 1000) (hb : b < 1000) : IntOp.cmpi .eq (BitVec.ofNat 32 a) (BitVec.ofNat 32 b) = if a = b then 1#1 else 0#1 := by
  split
  · rename_i h; subst h; simp [IntOp.cmpi]
  · rename_i h
    have : BitVec.ofNat 32 a ≠ BitVec.ofNat 32 b := fun e => h (by
      have := congrArg BitVec.toNat e
      simp only [BitVec.toNat_ofNat] at this
      omega)
    show BitVec.ofBool (BitVec.ofNat 32 a == BitVec.ofNat 32 b) = 0#1
    rw [beq_eq_false_iff_ne.2 this]
    rfl

theorem onehot_at (k q : Fin 64) (h : Fin 4) (L : Fin 128) :
    onehot (ix2 (⟨k.val * 256 + (h.val * 64 + q.val), by omega⟩ : Fin 16384) L) = if h.val = L.val / 32 ∧ L.val % 32 = rel k.val q.val then (1 : EReal) else 0 := by
  unfold onehot onehotW
  pointwise
  show FloatOps.uitofp FTy.f32 (IntOp.andi (IntOp.cmpi .eq (BitVec.ofNat 32 (L.val / 32)) (BitVec.ofNat 32 h.val))
    (IntOp.cmpi .eq (BitVec.ofNat 32 (L.val % 32)) (relW k.val q.val))) = _
  have hr := rel_lt k.val q.val
  rw [relW_eq, eq_words _ _ (by omega) (by omega), eq_words _ _ (by omega) (by omega)]
  by_cases h1 : L.val / 32 = h.val
  · by_cases h2 : L.val % 32 = rel k.val q.val
    · rw [if_pos h1, if_pos h2, if_pos ⟨h1.symm, h2⟩]
      show (((1 : ℕ) : ℝ) : EReal) = 1
      norm_num
    · rw [if_pos h1, if_neg h2, if_neg fun e => h2 e.2]
      show (((0 : ℕ) : ℝ) : EReal) = 0
      norm_num
  · rw [if_neg h1, if_neg (show ¬(h.val = L.val / 32 ∧ L.val % 32 = rel k.val q.val) from fun e => h1 e.1.symm)]
    by_cases h2 : L.val % 32 = rel k.val q.val
    all_goals
      first | rw [if_pos h2] | rw [if_neg h2]
      show (((0 : ℕ) : ℝ) : EReal) = 0
      norm_num

variable {m : (ℓ : Loc nD τ sig) → Buf (Elt Ideal) ℓ} {d : Dev nD}

abbrev arg : FVec Ideal S2x960x256 .f32 := m ((d.tc : Thread nD τ).loc main_arg0)

theorem idx : ∀ t : Fin cfg0.N, win0_0.index t = ![0, 0] ∧ win0_1.index t = ![0, 0] ∧ win0_2.index t = ![0, 0] := by decide +kernel

theorem pay_at (x : FVec Ideal S2x960x256 .f32) (v : Vec Ideal S30x16384 .f32) (w : Vec Ideal S16384x128 .bf16) (R : Fin 30) (L : Fin 128)
    (hv : ∀ (k q : Fin 64) (h : Fin 4), v (ix2 R (⟨k.val * 256 + (h.val * 64 + q.val), by omega⟩ : Fin 16384))
      = x (ix3 (⟨R.val / 15, by omega⟩ : Fin 2) (⟨R.val % 15 * 64 + k.val, by omega⟩ : Fin 960) (⟨h.val * 64 + q.val, by omega⟩ : Fin 256)))
    (hw : w = onehot) : k0_pay1 (F := Ideal) v w (ix2 R L) = grad x R L := by
  have ho := fun k q h => onehot_at k q h L
  rw [← hw] at ho
  unfold k0_pay1
  pointwise
  rw [← @Fin.sum_mul_add_congr EReal inferInstance 16384 64 256 (fun k r => v (ix2 R (⟨k.val * 256 + r.val, by omega⟩ : Fin 16384)) * w (ix2 (⟨k.val * 256 + r.val, by omega⟩ : Fin 16384) L))
    (fun K => v (ix2 R K) * w (ix2 K L)) (fun _ _ _ => rfl) rfl]
  unfold grad
  refine Finset.sum_congr rfl fun k _ => ?_
  rw [← @Fin.sum_mul_add_congr EReal inferInstance 256 4 64 (fun h q => v (ix2 R (⟨k.val * 256 + (h.val * 64 + q.val), by omega⟩ : Fin 16384)) * w (ix2 (⟨k.val * 256 + (h.val * 64 + q.val), by omega⟩ : Fin 16384) L))
    (fun r => v (ix2 R (⟨k.val * 256 + r.val, by omega⟩ : Fin 16384)) * w (ix2 (⟨k.val * 256 + r.val, by omega⟩ : Fin 16384) L)) (fun _ _ _ => rfl) rfl]
  rw [Finset.sum_eq_single (⟨L.val / 32, by omega⟩ : Fin 4)]
  · refine Finset.sum_congr rfl fun q _ => ?_
    rw [hv, ho]
    by_cases e : L.val % 32 = rel k.val q.val
    · rw [if_pos ⟨rfl, e⟩, if_pos e, mul_one]
    · rw [if_neg fun z => e z.2, if_neg e, mul_zero]
  · intro h _ hne
    refine Finset.sum_eq_zero fun q _ => ?_
    rw [ho, if_neg fun z => hne (Fin.ext z.1), mul_zero]
  · exact fun h => absurd (Finset.mem_univ _) h

theorem blk0 (t : Fin cfg0.N) (k q : Fin 64) (h : Fin 4) (R : Fin 30) : (iblk m d 0 t : Vec Ideal S30x16384 .f32) (ix2 R (⟨k.val * 256 + (h.val * 64 + q.val), by omega⟩ : Fin 16384))
      = arg (m := m) (d := d) (ix3 (⟨R.val / 15, by omega⟩ : Fin 2) (⟨R.val % 15 * 64 + k.val, by omega⟩ : Fin 960) (⟨h.val * 64 + q.val, by omega⟩ : Fin 256)) := by
  have e : (V m d main_v0 : FVec Ideal S30x16384 .f32) (ix2 R (⟨k.val * 256 + (h.val * 64 + q.val), by omega⟩ : Fin 16384))
      = arg (m := m) (d := d) (ix3 (⟨R.val / 15, by omega⟩ : Fin 2) (⟨R.val % 15 * 64 + k.val, by omega⟩ : Fin 960) (⟨h.val * 64 + q.val, by omega⟩ : Fin 256)) := by
    unfold V
    rw [seg0_x]
    pointwise
    refine congrArg (arg (m := m) (d := d)) ?_
    congr 1 <;> refine Fin.ext ?_ <;> simp only <;> omega
  rw [← e]
  blk_point [iblk, idx t]

theorem blk1 (t : Fin cfg0.N) : (iblk m d 1 t : Vec Ideal S16384x128 .bf16) = onehot := by
  have e : (V m d main_v15 : FVec Ideal S16384x128 .bf16) = onehot := by unfold V; exact seg0_w _
  rw [← e]
  funext i
  obtain ⟨a, b, rfl⟩ : ∃ (a : Fin 16384) (b : Fin 128), i = ix2 a b := ⟨i 0, i 1, eq_ix2 i⟩
  blk_point [iblk, idx t]

theorem final : (dats m 0 d).arrAt 2 (cfgs 0).N = fun i => grad (arg (m := m) (d := d)) (i 0) (i 1) := by
  refine (dats m 0 d).arrAt_eq_of_covers 2 _ (by decide +kernel) fun t hf y => ?_
  blk_simp
  rw [after0_2]
  have ey : ((View.whole main_v16).slice (win0_2.rect t)).emb y = y := by blk_ext [idx t]
  show _ = grad (arg (m := m) (d := d)) (((View.whole main_v16).slice (win0_2.rect t)).emb y 0) (((View.whole main_v16).slice (win0_2.rect t)).emb y 1)
  rw [ey]
  have ev : y = ix2 (⟨(y 0).val, (y 0).isLt⟩ : Fin 30) (⟨(y 1).val, (y 1).isLt⟩ : Fin 128) := eq_ix2 y
  rw [ev]
  unfold out0_2
  frame_out
  refine pay_at (arg (m := m) (d := d)) _ _ _ _ (fun k q h => ?_) ?_
  · exact blk0 t k q h _
  · exact blk1 t

end Cert.BiasKernelIdeal.Proofs

namespace Cert.Proof

theorem biasg_algebraic : @Cert.algebraic_BiasKernelIdeal_BiasReferenceIdeal Cert.BiasKernelIdeal.Gen.facts Cert.BiasReferenceIdeal.Gen.facts := by
  intro m g m' g' _ hagree
  refine ⟨fun c => fun i => grad (Cert.BiasKernelIdeal.Proofs.arg (m := m) (d := c)) (i 0) (i 1), ?_, ?_⟩
  · refine (θ_run _ _ _).mono (fun r h c => ?_) (Cert.BiasKernelIdeal.Value.run_blocks m g)
    exact ⟨(h c).1.trans Cert.BiasKernelIdeal.Proofs.final, (h c).2⟩
  · refine (θ_run _ _ _).mono (fun r h c => ?_) (Cert.BiasReferenceIdeal.Value.run (F := Ideal) m' g')
    refine ⟨(h c).1.trans ((Cert.BiasReferenceIdeal.Read.val_main_v26_eq _).trans ?_), (h c).2⟩
    rw [hagree c]
    funext i
    have ei : i = ix2 (⟨(i 0).val, (i 0).isLt⟩ : Fin 30) (⟨(i 1).val, (i 1).isLt⟩ : Fin 128) := eq_ix2 i
    rw [ei]
    exact Cert.BiasReferenceIdeal.Ref.result_at _ _ _

end Cert.Proof

end
-- ==== Proof.LossValue.lean ====
/-
  The loss call: over the extended reals the two result arrays of the loss kernel (the loss in every place of one tile,
  and the gradient of the loss in the activations) are the two terms of the reference's run.
-/
module

public import proofs.«01_k».proof.Proof.Gen.LossKernelIdeal.Value
public import proofs.«01_k».proof.Proof.Gen.LossReferenceIdeal.Read
public import Idealize.ShloMosaic.Lib.Pipeline.ValueKit
public import Idealize.ShloMosaic.Lib.Claim
public import proofs.«01_k».proof.Proof.RealSums

@[expose] public section

set_option maxRecDepth 16384

noncomputable section

open Idealize.ShloMosaic Idealize.ShloMosaic.TcCoe Idealize.SL.Sem
open Idealize.ShloMosaic.Pipeline (Dat)

namespace Cert.LossKernelIdeal.Proofs

open Cert.LossKernelIdeal Cert.LossKernelIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ win0_3.index t = ![t.val, 0] ∧ t.val < 16 :=
  (by decide +kernel : ∀ t : Fin grid0.N, _)

/-- The word of `1/1024`, of `1/2`, of `2` and of `1024`, as reals. -/
theorem word_inv : Ideal.ofBits FTy.f32 981467136#32 = ((1 / 1024 : ℝ) : EReal) := by
  simp [Ideal.ofBits, Ideal.ieee, -EReal.coe_mul]; norm_num
theorem word_half : Ideal.ofBits FTy.f32 1056964608#32 = ((1 / 2 : ℝ) : EReal) := by
  simp [Ideal.ofBits, Ideal.ieee, -EReal.coe_mul]; norm_num
theorem word_two : Ideal.ofBits FTy.f32 1073741824#32 = ((2 : ℝ) : EReal) := by
  simp [Ideal.ofBits, Ideal.ieee, -EReal.coe_mul]; norm_num
theorem word_width : Ideal.ofBits FTy.f32 1149239296#32 = ((1024 : ℝ) : EReal) := by
  simp [Ideal.ofBits, Ideal.ieee, -EReal.coe_mul]; norm_num

/-- The reference's gradient at an index: the error over the width. -/
theorem dy_ref (X T : FVec Ideal S8192x1024 .f32) (j : S8192x1024.Idx) :
    Cert.LossReferenceIdeal.Read.val_main_v14 (F := Ideal) X T j = (X j - T j) * ((1 / 1024 : ℝ) : EReal) := by
  pointwise [Cert.LossReferenceIdeal.Read.val_main_v14, Cert.LossReferenceIdeal.Read.val_main_v13, Cert.LossReferenceIdeal.Read.val_main_v12,
    Cert.LossReferenceIdeal.Read.val_main_v11, Cert.LossReferenceIdeal.Read.val_main_v10, Cert.LossReferenceIdeal.Read.val_main_v9,
    Cert.LossReferenceIdeal.Read.val_main_v3, Cert.LossReferenceIdeal.Read.val_main_v2, Cert.LossReferenceIdeal.Read.val_main_v0,
    Cert.LossReferenceIdeal.Read.val_main_cst, Cert.LossReferenceIdeal.Read.val_main_cst_4, Cert.LossReferenceIdeal.Read.val_main_cst_5,
    Cert.LossReferenceIdeal.Read.val_main_cst_6, word_half, word_two, word_width]
  rw [Ideal.div_coe (by norm_num), mul_comm _ (X j - T j), ← mul_assoc, mul_comm _ (X j - T j), mul_assoc, ← EReal.coe_mul, ← EReal.coe_mul]
  congr 2
  norm_num

/-- The reference's loss: half the sum over the rows of the mean of the squares. -/
theorem loss_ref (X T : FVec Ideal S8192x1024 .f32) (j : S8x128.Idx) :
    Cert.LossReferenceIdeal.Read.val_main_v15 (F := Ideal) X T j = ((1 / 2 : ℝ) : EReal)
      * ∑ r : Fin 8192, (∑ l : Fin 1024, (X (ix2 r l) - T (ix2 r l)) * (X (ix2 r l) - T (ix2 r l))) * ((1 / 1024 : ℝ) : EReal) := by
  pointwise [Cert.LossReferenceIdeal.Read.val_main_v15, Cert.LossReferenceIdeal.Read.val_main_v8, Cert.LossReferenceIdeal.Read.val_main_v7,
    Cert.LossReferenceIdeal.Read.val_main_v6, Cert.LossReferenceIdeal.Read.val_main_v5, Cert.LossReferenceIdeal.Read.val_main_v4,
    Cert.LossReferenceIdeal.Read.val_main_v1, Cert.LossReferenceIdeal.Read.val_main_v0,
    Cert.LossReferenceIdeal.Read.val_main_cst_0, Cert.LossReferenceIdeal.Read.val_main_cst_1, Cert.LossReferenceIdeal.Read.val_main_cst_2,
    Cert.LossReferenceIdeal.Read.val_main_cst_3, word_half, word_two, word_width]
  refine congrArg _ (Finset.sum_congr rfl fun r _ => ?_)
  rw [Ideal.div_coe (by norm_num)]

theorem dy_final (c : Dev nD) : (dats m 0 c).arrAt 3 (cfgs 0).N
    = Cert.LossReferenceIdeal.Read.val_main_v14 (F := Ideal) (m ((c : Thread nD τ).loc main_arg0)) (m ((c : Thread nD τ).loc main_arg1)) := by
  refine (dats m 0 c).arrAt_eq_of_covers 3 _ (by decide +kernel) fun t hf y => ?_
  blk_simp
  have hp : k0_pay3 (F := Ideal) (iblk m c 0 t) (iblk m c 1 t) y
      = Cert.LossReferenceIdeal.Read.val_main_v14 (F := Ideal) (m ((c : Thread nD τ).loc main_arg0)) (m ((c : Thread nD τ).loc main_arg1)) (((cfg0.win 3).blk t).view.emb y) := by
    refine Eq.trans ?_ (dy_ref _ _ _).symm
    pointwise [k0_pay3, k0_pay2, word_inv]
    blk_point [iblk, V, idx t]
  rw [after0_3]
  by_cases h : t.val % 16 = 0
  · rw [outsAt0_A m c t h]; frame_out; exact hp
  · rw [outsAt0_B m c t h]; frame_out; exact hp

theorem loss_final (c : Dev nD) : (dats m 0 c).arrAt 2 (cfgs 0).N
    = Cert.LossReferenceIdeal.Read.val_main_v15 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h).1) 16 (fun _ => 0) _
    (fun t h j => by rw [outsAt0_A m c t h]; frame_out; pointwise [k0_pay4, k0_pay2, k0_pay1, word_inv, word_half]; rfl)
    (fun t h j => by rw [outsAt0_B m c t h]; frame_out; pointwise [k0_pay4, k0_pay2, word_inv, word_half])
    t ((flush0_2 t).mp hf) _, zero_add]
  refine Eq.trans ?_ (loss_ref _ _ _).symm
  rw [RealSums.coe_mul_sum _ (by norm_num)]
  simp only [RealSums.coe_mul_sum _ (by norm_num : (0 : ℝ) ≤ 1 / 2)]
  have h0 : t.val / 16 = 0 := Nat.div_eq_of_lt (idx t).2.2.2.2
  refine Fin.sum_mul_add_congr fun s k hl => ?_
  blk_point [iblk, V, idx ⟨_, Pipeline.run_point_lt_of_flush t ((flush0_2 t).mp hf) s⟩]

end Cert.LossKernelIdeal.Proofs

end
-- ==== Proof.LossClaims.lean ====
/-
  The five claims of the loss call: the runs of its three programs, and the value of its two results.
-/
module

public import proofs.«01_k».proof.Defs
public import proofs.«01_k».proof.Proof.LossValue
public import proofs.«01_k».proof.Proof.Gen.LossKernel.Frame

@[expose] public section

set_option maxRecDepth 16384

noncomputable section

namespace Cert.Proof

open Idealize.ShloMosaic Idealize.ShloMosaic.TcCoe Idealize.SL.Sem

theorem loss_frame : @Cert.quiescent_LossKernel Cert.LossKernel.Gen.facts := fun m ρ _ => Cert.LossKernel.Gen.frame m ρ

theorem loss_ideal_frame : @Cert.quiescent_LossKernelIdeal Cert.LossKernelIdeal.Gen.facts := fun m ρ _ => Cert.LossKernelIdeal.Gen.frame m ρ

theorem loss_reference_frame : @Cert.quiescent_LossReferenceIdeal Cert.LossReferenceIdeal.Gen.facts := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

theorem loss_preserves : Cert.preserves_LossKernel_LossKernelIdeal := trivial

theorem loss_algebraic : @Cert.algebraic_LossKernelIdeal_LossReferenceIdeal Cert.LossKernelIdeal.Gen.facts Cert.LossReferenceIdeal.Gen.facts := by
  pair_intro
  · run_from Cert.LossKernelIdeal.Gen.run_main m g
  · run_from Cert.LossReferenceIdeal.Value.run m' g'
    · exact (Cert.LossKernelIdeal.Proofs.loss_final m c).symm
    · exact (Cert.LossKernelIdeal.Proofs.dy_final m c).symm

end Cert.Proof

end
-- ==== Proof.lean ====
/- The claims of this directory, put together: per call the runs (the frames), `preserves` (no rewrite was applied)
   and the value of the kernel's results against the derivative of the reference's forward lines. -/
module

public import proofs.«01_k».proof.Proof.MixClaims
public import proofs.«01_k».proof.Proof.AttnClaims
public import proofs.«01_k».proof.Proof.AttnAlg
public import proofs.«01_k».proof.Proof.RestClaims
public import proofs.«01_k».proof.Proof.MixoutAlg
public import proofs.«01_k».proof.Proof.FwdClaims
public import proofs.«01_k».proof.Proof.AttnFwdAlg
public import proofs.«01_k».proof.Proof.MixoutFwd
public import proofs.«01_k».proof.Proof.FfnFwd
public import proofs.«01_k».proof.Proof.FfnAlg
public import proofs.«01_k».proof.Proof.BiasAlg
public import proofs.«01_k».proof.Defs
public import proofs.«01_k».proof.Proof.LossClaims

@[expose] public section

noncomputable section

namespace Cert.Proof

open Idealize.ShloMosaic Idealize.SL.Sem

theorem claim : Cert.Claim :=
  ⟨Cert.LossKernel.Gen.facts, Cert.LossKernelIdeal.Gen.facts, Cert.LossReferenceIdeal.Gen.facts,
    Cert.MixKernel.Gen.facts, Cert.MixKernelIdeal.Gen.facts, Cert.MixReferenceIdeal.Gen.facts,
    Cert.AttnKernel.Gen.facts, Cert.AttnKernelIdeal.Gen.facts, Cert.AttnReferenceIdeal.Gen.facts,
    Cert.BiasKernel.Gen.facts, Cert.BiasKernelIdeal.Gen.facts, Cert.BiasReferenceIdeal.Gen.facts,
    Cert.MixoutKernel.Gen.facts, Cert.MixoutKernelIdeal.Gen.facts, Cert.MixoutReferenceIdeal.Gen.facts,
    Cert.FfnKernel.Gen.facts, Cert.FfnKernelIdeal.Gen.facts, Cert.FfnReferenceIdeal.Gen.facts,
    Cert.MixoutFwdKernel.Gen.facts, Cert.MixoutFwdKernelIdeal.Gen.facts, Cert.MixoutFwdReferenceIdeal.Gen.facts,
    Cert.FfnFwdKernel.Gen.facts, Cert.FfnFwdKernelIdeal.Gen.facts, Cert.FfnFwdReferenceIdeal.Gen.facts,
    Cert.AttnFwdKernel.Gen.facts, Cert.AttnFwdKernelIdeal.Gen.facts, Cert.AttnFwdReferenceIdeal.Gen.facts,
    Cert.MixFwdKernel.Gen.facts, Cert.MixFwdKernelIdeal.Gen.facts, Cert.MixFwdReferenceIdeal.Gen.facts,
    Cert.Pre_mix_finite.facts, Cert.Pre_attn_finite.facts, Cert.Pre_mixout_finite.facts, Cert.Pre_ffn_finite.facts, Cert.On_mix_diagonal.facts,
    loss_frame, loss_ideal_frame, loss_reference_frame,
    mix_frame, mix_ideal_frame, fun m g _ => mix_ideal_frame m g trivial, mix_reference_frame, fun m g _ => mix_reference_frame m g trivial,
    attn_frame, attn_ideal_frame, fun m g _ => attn_ideal_frame m g trivial, attn_reference_frame, fun m g _ => attn_reference_frame m g trivial,
    biasg_frame, biasg_ideal_frame, biasg_reference_frame,
    mixout_frame, mixout_ideal_frame, fun m g _ => mixout_ideal_frame m g trivial, mixout_reference_frame, fun m g _ => mixout_reference_frame m g trivial,
    ffn_frame, ffn_ideal_frame, fun m g _ => ffn_ideal_frame m g trivial, ffn_reference_frame, fun m g _ => ffn_reference_frame m g trivial,
    mixout_fwd_frame, mixout_fwd_ideal_frame, mixout_fwd_reference_frame,
    ffn_fwd_frame, ffn_fwd_ideal_frame, ffn_fwd_reference_frame,
    attn_fwd_frame, attn_fwd_ideal_frame, attn_fwd_reference_frame,
    mix_fwd_frame, mix_fwd_ideal_frame, mix_fwd_reference_frame,
    loss_preserves, loss_algebraic, mix_preserves, mix_algebraic, attn_preserves, attn_algebraic, biasg_preserves, biasg_algebraic, mixout_preserves, mixout_algebraic, ffn_preserves, ffn_algebraic,
    mixout_fwd_preserves, mixout_fwd_algebraic, ffn_fwd_preserves, ffn_fwd_algebraic, attn_fwd_preserves, attn_fwd_algebraic, mix_fwd_preserves⟩

end Cert.Proof

end
